-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_DwFfnIn (m : (ℓ : Loc Cert.DwFfnIn.nD Cert.DwFfnIn.τ Cert.DwFfnIn.sig) → Buf (Elt Bits) ℓ) : Prop :=
  True

def Pre_DwFfnInIdeal (m : (ℓ : Loc Cert.DwFfnInIdeal.nD Cert.DwFfnInIdeal.τ Cert.DwFfnInIdeal.sig) → Buf (Elt Ideal) ℓ) : Prop :=
  True

def Pre_DwFfnInReferenceIdeal (m : (ℓ : Loc Cert.DwFfnInReferenceIdeal.nD Cert.DwFfnInReferenceIdeal.τ Cert.DwFfnInReferenceIdeal.sig) → Buf (Elt Ideal) ℓ) : Prop :=
  True

def Pre_DwFfnOut (m : (ℓ : Loc Cert.DwFfnOut.nD Cert.DwFfnOut.τ Cert.DwFfnOut.sig) → Buf (Elt Bits) ℓ) : Prop :=
  True

def Pre_DwFfnOutIdeal (m : (ℓ : Loc Cert.DwFfnOutIdeal.nD Cert.DwFfnOutIdeal.τ Cert.DwFfnOutIdeal.sig) → Buf (Elt Ideal) ℓ) : Prop :=
  True

def Pre_DwFfnOutReferenceIdeal (m : (ℓ : Loc Cert.DwFfnOutReferenceIdeal.nD Cert.DwFfnOutReferenceIdeal.τ Cert.DwFfnOutReferenceIdeal.sig) → Buf (Elt Ideal) ℓ) : Prop :=
  True

def Pre_DU2 (m : (ℓ : Loc Cert.DU2.nD Cert.DU2.τ Cert.DU2.sig) → Buf (Elt Bits) ℓ) : Prop :=
  True

def Pre_DU2Ideal (m : (ℓ : Loc Cert.DU2Ideal.nD Cert.DU2Ideal.τ Cert.DU2Ideal.sig) → Buf (Elt Ideal) ℓ) : Prop :=
  True

def Pre_DU2ReferenceIdeal (m : (ℓ : Loc Cert.DU2ReferenceIdeal.nD Cert.DU2ReferenceIdeal.τ Cert.DU2ReferenceIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutReferenceIdeal (m : (ℓ : Loc Cert.FfnOutReferenceIdeal.nD Cert.FfnOutReferenceIdeal.τ Cert.FfnOutReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchReferenceIdeal (m : (ℓ : Loc Cert.DwBranchReferenceIdeal.nD Cert.DwBranchReferenceIdeal.τ Cert.DwBranchReferenceIdeal.sig) → Buf (Elt Ideal) ℓ) : Prop :=
  True

def Pre_DwQUp (m : (ℓ : Loc Cert.DwQUp.nD Cert.DwQUp.τ Cert.DwQUp.sig) → Buf (Elt Bits) ℓ) : Prop :=
  True

def Pre_DwQUpIdeal (m : (ℓ : Loc Cert.DwQUpIdeal.nD Cert.DwQUpIdeal.τ Cert.DwQUpIdeal.sig) → Buf (Elt Ideal) ℓ) : Prop :=
  True

def Pre_DwQUpReferenceIdeal (m : (ℓ : Loc Cert.DwQUpReferenceIdeal.nD Cert.DwQUpReferenceIdeal.τ Cert.DwQUpReferenceIdeal.sig) → Buf (Elt Ideal) ℓ) : Prop :=
  True

def Pre_DwKvUp (m : (ℓ : Loc Cert.DwKvUp.nD Cert.DwKvUp.τ Cert.DwKvUp.sig) → Buf (Elt Bits) ℓ) : Prop :=
  True

def Pre_DwKvUpIdeal (m : (ℓ : Loc Cert.DwKvUpIdeal.nD Cert.DwKvUpIdeal.τ Cert.DwKvUpIdeal.sig) → Buf (Elt Ideal) ℓ) : Prop :=
  True

def Pre_DwKvUpReferenceIdeal (m : (ℓ : Loc Cert.DwKvUpReferenceIdeal.nD Cert.DwKvUpReferenceIdeal.τ Cert.DwKvUpReferenceIdeal.sig) → Buf (Elt Ideal) ℓ) : Prop :=
  True

def Pre_DwInHgrn (m : (ℓ : Loc Cert.DwInHgrn.nD Cert.DwInHgrn.τ Cert.DwInHgrn.sig) → Buf (Elt Bits) ℓ) : Prop :=
  True

def Pre_DwInHgrnIdeal (m : (ℓ : Loc Cert.DwInHgrnIdeal.nD Cert.DwInHgrnIdeal.τ Cert.DwInHgrnIdeal.sig) → Buf (Elt Ideal) ℓ) : Prop :=
  True

def Pre_DwInHgrnReferenceIdeal (m : (ℓ : Loc Cert.DwInHgrnReferenceIdeal.nD Cert.DwInHgrnReferenceIdeal.τ Cert.DwInHgrnReferenceIdeal.sig) → Buf (Elt Ideal) ℓ) : Prop :=
  True

def Pre_DwInGates (m : (ℓ : Loc Cert.DwInGates.nD Cert.DwInGates.τ Cert.DwInGates.sig) → Buf (Elt Bits) ℓ) : Prop :=
  True

def Pre_DwInGatesIdeal (m : (ℓ : Loc Cert.DwInGatesIdeal.nD Cert.DwInGatesIdeal.τ Cert.DwInGatesIdeal.sig) → Buf (Elt Ideal) ℓ) : Prop :=
  True

def Pre_DwInGatesReferenceIdeal (m : (ℓ : Loc Cert.DwInGatesReferenceIdeal.nD Cert.DwInGatesReferenceIdeal.τ Cert.DwInGatesReferenceIdeal.sig) → Buf (Elt Ideal) ℓ) : Prop :=
  True

def Pre_DwInKrope (m : (ℓ : Loc Cert.DwInKrope.nD Cert.DwInKrope.τ Cert.DwInKrope.sig) → Buf (Elt Bits) ℓ) : Prop :=
  True

def Pre_DwInKropeIdeal (m : (ℓ : Loc Cert.DwInKropeIdeal.nD Cert.DwInKropeIdeal.τ Cert.DwInKropeIdeal.sig) → Buf (Elt Ideal) ℓ) : Prop :=
  True

def Pre_DwInKropeReferenceIdeal (m : (ℓ : Loc Cert.DwInKropeReferenceIdeal.nD Cert.DwInKropeReferenceIdeal.τ Cert.DwInKropeReferenceIdeal.sig) → Buf (Elt Ideal) ℓ) : Prop :=
  True

def Pre_DQn (m : (ℓ : Loc Cert.DQn.nD Cert.DQn.τ Cert.DQn.sig) → Buf (Elt Bits) ℓ) : Prop :=
  True

def Pre_DQnIdeal (m : (ℓ : Loc Cert.DQnIdeal.nD Cert.DQnIdeal.τ Cert.DQnIdeal.sig) → Buf (Elt Ideal) ℓ) : Prop :=
  True

def Pre_DQnReferenceIdeal (m : (ℓ : Loc Cert.DQnReferenceIdeal.nD Cert.DQnReferenceIdeal.τ Cert.DQnReferenceIdeal.sig) → Buf (Elt Ideal) ℓ) : Prop :=
  True

def Pre_DKvn (m : (ℓ : Loc Cert.DKvn.nD Cert.DKvn.τ Cert.DKvn.sig) → Buf (Elt Bits) ℓ) : Prop :=
  True

def Pre_DKvnIdeal (m : (ℓ : Loc Cert.DKvnIdeal.nD Cert.DKvnIdeal.τ Cert.DKvnIdeal.sig) → Buf (Elt Ideal) ℓ) : Prop :=
  True

def Pre_DKvnReferenceIdeal (m : (ℓ : Loc Cert.DKvnReferenceIdeal.nD Cert.DKvnReferenceIdeal.τ Cert.DKvnReferenceIdeal.sig) → Buf (Elt Ideal) ℓ) : Prop :=
  True

def Pre_DU1Lat (m : (ℓ : Loc Cert.DU1Lat.nD Cert.DU1Lat.τ Cert.DU1Lat.sig) → Buf (Elt Bits) ℓ) : Prop :=
  True

def Pre_DU1LatIdeal (m : (ℓ : Loc Cert.DU1LatIdeal.nD Cert.DU1LatIdeal.τ Cert.DU1LatIdeal.sig) → Buf (Elt Ideal) ℓ) : Prop :=
  True

def Pre_DU1LatReferenceIdeal (m : (ℓ : Loc Cert.DU1LatReferenceIdeal.nD Cert.DU1LatReferenceIdeal.τ Cert.DU1LatReferenceIdeal.sig) → Buf (Elt Ideal) ℓ) : Prop :=
  True

def Pre_DU1Hgrn (m : (ℓ : Loc Cert.DU1Hgrn.nD Cert.DU1Hgrn.τ Cert.DU1Hgrn.sig) → Buf (Elt Bits) ℓ) : Prop :=
  True

def Pre_DU1HgrnIdeal (m : (ℓ : Loc Cert.DU1HgrnIdeal.nD Cert.DU1HgrnIdeal.τ Cert.DU1HgrnIdeal.sig) → Buf (Elt Ideal) ℓ) : Prop :=
  True

def Pre_DU1HgrnReferenceIdeal (m : (ℓ : Loc Cert.DU1HgrnReferenceIdeal.nD Cert.DU1HgrnReferenceIdeal.τ Cert.DU1HgrnReferenceIdeal.sig) → Buf (Elt Ideal) ℓ) : Prop :=
  True

def Pre_DU1Gates (m : (ℓ : Loc Cert.DU1Gates.nD Cert.DU1Gates.τ Cert.DU1Gates.sig) → Buf (Elt Bits) ℓ) : Prop :=
  True

def Pre_DU1GatesIdeal (m : (ℓ : Loc Cert.DU1GatesIdeal.nD Cert.DU1GatesIdeal.τ Cert.DU1GatesIdeal.sig) → Buf (Elt Ideal) ℓ) : Prop :=
  True

def Pre_DU1GatesReferenceIdeal (m : (ℓ : Loc Cert.DU1GatesReferenceIdeal.nD Cert.DU1GatesReferenceIdeal.τ Cert.DU1GatesReferenceIdeal.sig) → Buf (Elt Ideal) ℓ) : Prop :=
  True

def Pre_DU1Krope (m : (ℓ : Loc Cert.DU1Krope.nD Cert.DU1Krope.τ Cert.DU1Krope.sig) → Buf (Elt Bits) ℓ) : Prop :=
  True

def Pre_DU1KropeIdeal (m : (ℓ : Loc Cert.DU1KropeIdeal.nD Cert.DU1KropeIdeal.τ Cert.DU1KropeIdeal.sig) → Buf (Elt Ideal) ℓ) : Prop :=
  True

def Pre_DU1KropeReferenceIdeal (m : (ℓ : Loc Cert.DU1KropeReferenceIdeal.nD Cert.DU1KropeReferenceIdeal.τ Cert.DU1KropeReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpReferenceIdeal (m : (ℓ : Loc Cert.QUpReferenceIdeal.nD Cert.QUpReferenceIdeal.τ Cert.QUpReferenceIdeal.sig) → Buf (Elt Ideal) ℓ) : Prop :=
  True

def Pre_NormQ (m : (ℓ : Loc Cert.NormQ.nD Cert.NormQ.τ Cert.NormQ.sig) → Buf (Elt Bits) ℓ) : Prop :=
  True

def Pre_NormQIdeal (m : (ℓ : Loc Cert.NormQIdeal.nD Cert.NormQIdeal.τ Cert.NormQIdeal.sig) → Buf (Elt Ideal) ℓ) : Prop :=
  True

def Pre_NormQReferenceIdeal (m : (ℓ : Loc Cert.NormQReferenceIdeal.nD Cert.NormQReferenceIdeal.τ Cert.NormQReferenceIdeal.sig) → Buf (Elt Ideal) ℓ) : Prop :=
  True

def Pre_Attn [hPre_attn_schedule : Cert.Pre_attn_schedule.Facts] (m : (ℓ : Loc Cert.Attn.nD Cert.Attn.τ Cert.Attn.sig) → Buf (Elt Bits) ℓ) : Prop :=
  ∀ c : Dev Cert.Attn.nD,
    (Cert.Pre_attn_schedule.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4))) = (fun _ => 1#1)

def Pre_AttnIdeal [hPre_attn_schedule : Cert.Pre_attn_schedule.Facts] (m : (ℓ : Loc Cert.AttnIdeal.nD Cert.AttnIdeal.τ Cert.AttnIdeal.sig) → Buf (Elt Ideal) ℓ) : Prop :=
  ∀ c : Dev Cert.AttnIdeal.nD,
    (Cert.Pre_attn_schedule.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))) = (fun _ => 1#1)

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaReferenceIdeal (m : (ℓ : Loc Cert.DeltaReferenceIdeal.nD Cert.DeltaReferenceIdeal.τ Cert.DeltaReferenceIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumReferenceIdeal (m : (ℓ : Loc Cert.PairSumReferenceIdeal.nD Cert.PairSumReferenceIdeal.τ Cert.PairSumReferenceIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumReferenceIdeal (m : (ℓ : Loc Cert.ChipSumReferenceIdeal.nD Cert.ChipSumReferenceIdeal.τ Cert.ChipSumReferenceIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedReferenceIdeal (m : (ℓ : Loc Cert.EmbedReferenceIdeal.nD Cert.EmbedReferenceIdeal.τ Cert.EmbedReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DwFfnIn [hDwFfnIn : Cert.DwFfnIn.Facts] : Prop :=
  ∀ (m : (ℓ : Loc Cert.DwFfnIn.nD Cert.DwFfnIn.τ Cert.DwFfnIn.sig) → Buf (Elt Bits) ℓ) (g : Dev Cert.DwFfnIn.nD → PrngReg), Pre_DwFfnIn m →
    θ_run (Cert.DwFfnIn.defs (F := Bits)) (onTc (τ := Cert.DwFfnIn.τ) (Cert.DwFfnIn.main (F := Bits))) ⟨m, fun _ => 0, g⟩ (fun r => (∀ c : Dev Cert.DwFfnIn.nD,
      r.2.mem ((c.tc : Thread Cert.DwFfnIn.nD Cert.DwFfnIn.τ).loc Cert.DwFfnIn.main_arg0) = m ((c.tc : Thread Cert.DwFfnIn.nD Cert.DwFfnIn.τ).loc Cert.DwFfnIn.main_arg0)
      ∧ r.2.mem ((c.tc : Thread Cert.DwFfnIn.nD Cert.DwFfnIn.τ).loc Cert.DwFfnIn.main_arg1) = m ((c.tc : Thread Cert.DwFfnIn.nD Cert.DwFfnIn.τ).loc Cert.DwFfnIn.main_arg1))
      ∧ r.2.sem = fun _ => 0)

def quiescent_DwFfnInIdeal [hDwFfnInIdeal : Cert.DwFfnInIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg), Pre_DwFfnInIdeal m →
    θ_run (Cert.DwFfnInIdeal.defs (F := Ideal)) (onTc (τ := Cert.DwFfnInIdeal.τ) (Cert.DwFfnInIdeal.main (F := Ideal))) ⟨m, fun _ => 0, g⟩ (fun r => (∀ c : Dev Cert.DwFfnInIdeal.nD,
      r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
      ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ r.2.sem = fun _ => 0)

def quiescent_DwFfnInReferenceIdeal [hDwFfnInReferenceIdeal : Cert.DwFfnInReferenceIdeal.Facts] : Prop :=
  ∀ (m : (ℓ : Loc Cert.DwFfnInReferenceIdeal.nD Cert.DwFfnInReferenceIdeal.τ Cert.DwFfnInReferenceIdeal.sig) → Buf (Elt Ideal) ℓ) (g : Dev Cert.DwFfnInReferenceIdeal.nD → PrngReg), Pre_DwFfnInReferenceIdeal m →
    θ_run (Cert.DwFfnInReferenceIdeal.defs (F := Ideal)) (onTc (τ := Cert.DwFfnInReferenceIdeal.τ) (Cert.DwFfnInReferenceIdeal.main (F := Ideal))) ⟨m, fun _ => 0, g⟩ (fun r => (∀ c : Dev Cert.DwFfnInReferenceIdeal.nD,
      r.2.mem ((c.tc : Thread Cert.DwFfnInReferenceIdeal.nD Cert.DwFfnInReferenceIdeal.τ).loc Cert.DwFfnInReferenceIdeal.main_arg0) = m ((c.tc : Thread Cert.DwFfnInReferenceIdeal.nD Cert.DwFfnInReferenceIdeal.τ).loc Cert.DwFfnInReferenceIdeal.main_arg0)
      ∧ r.2.mem ((c.tc : Thread Cert.DwFfnInReferenceIdeal.nD Cert.DwFfnInReferenceIdeal.τ).loc Cert.DwFfnInReferenceIdeal.main_arg1) = m ((c.tc : Thread Cert.DwFfnInReferenceIdeal.nD Cert.DwFfnInReferenceIdeal.τ).loc Cert.DwFfnInReferenceIdeal.main_arg1))
      ∧ r.2.sem = fun _ => 0)

def quiescent_DwFfnOut [hDwFfnOut : Cert.DwFfnOut.Facts] : Prop :=
  ∀ (m : (ℓ : Loc Cert.DwFfnOut.nD Cert.DwFfnOut.τ Cert.DwFfnOut.sig) → Buf (Elt Bits) ℓ) (g : Dev Cert.DwFfnOut.nD → PrngReg), Pre_DwFfnOut m →
    θ_run (Cert.DwFfnOut.defs (F := Bits)) (onTc (τ := Cert.DwFfnOut.τ) (Cert.DwFfnOut.main (F := Bits))) ⟨m, fun _ => 0, g⟩ (fun r => (∀ c : Dev Cert.DwFfnOut.nD,
      r.2.mem ((c.tc : Thread Cert.DwFfnOut.nD Cert.DwFfnOut.τ).loc Cert.DwFfnOut.main_arg0) = m ((c.tc : Thread Cert.DwFfnOut.nD Cert.DwFfnOut.τ).loc Cert.DwFfnOut.main_arg0)
      ∧ r.2.mem ((c.tc : Thread Cert.DwFfnOut.nD Cert.DwFfnOut.τ).loc Cert.DwFfnOut.main_arg1) = m ((c.tc : Thread Cert.DwFfnOut.nD Cert.DwFfnOut.τ).loc Cert.DwFfnOut.main_arg1))
      ∧ r.2.sem = fun _ => 0)

def quiescent_DwFfnOutIdeal [hDwFfnOutIdeal : Cert.DwFfnOutIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg), Pre_DwFfnOutIdeal m →
    θ_run (Cert.DwFfnOutIdeal.defs (F := Ideal)) (onTc (τ := Cert.DwFfnOutIdeal.τ) (Cert.DwFfnOutIdeal.main (F := Ideal))) ⟨m, fun _ => 0, g⟩ (fun r => (∀ c : Dev Cert.DwFfnOutIdeal.nD,
      r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
      ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ r.2.sem = fun _ => 0)

def quiescent_DwFfnOutReferenceIdeal [hDwFfnOutReferenceIdeal : Cert.DwFfnOutReferenceIdeal.Facts] : Prop :=
  ∀ (m : (ℓ : Loc Cert.DwFfnOutReferenceIdeal.nD Cert.DwFfnOutReferenceIdeal.τ Cert.DwFfnOutReferenceIdeal.sig) → Buf (Elt Ideal) ℓ) (g : Dev Cert.DwFfnOutReferenceIdeal.nD → PrngReg), Pre_DwFfnOutReferenceIdeal m →
    θ_run (Cert.DwFfnOutReferenceIdeal.defs (F := Ideal)) (onTc (τ := Cert.DwFfnOutReferenceIdeal.τ) (Cert.DwFfnOutReferenceIdeal.main (F := Ideal))) ⟨m, fun _ => 0, g⟩ (fun r => (∀ c : Dev Cert.DwFfnOutReferenceIdeal.nD,
      r.2.mem ((c.tc : Thread Cert.DwFfnOutReferenceIdeal.nD Cert.DwFfnOutReferenceIdeal.τ).loc Cert.DwFfnOutReferenceIdeal.main_arg0) = m ((c.tc : Thread Cert.DwFfnOutReferenceIdeal.nD Cert.DwFfnOutReferenceIdeal.τ).loc Cert.DwFfnOutReferenceIdeal.main_arg0)
      ∧ r.2.mem ((c.tc : Thread Cert.DwFfnOutReferenceIdeal.nD Cert.DwFfnOutReferenceIdeal.τ).loc Cert.DwFfnOutReferenceIdeal.main_arg1) = m ((c.tc : Thread Cert.DwFfnOutReferenceIdeal.nD Cert.DwFfnOutReferenceIdeal.τ).loc Cert.DwFfnOutReferenceIdeal.main_arg1))
      ∧ r.2.sem = fun _ => 0)

def quiescent_DU2 [hDU2 : Cert.DU2.Facts] : Prop :=
  ∀ (m : (ℓ : Loc Cert.DU2.nD Cert.DU2.τ Cert.DU2.sig) → Buf (Elt Bits) ℓ) (g : Dev Cert.DU2.nD → PrngReg), Pre_DU2 m →
    θ_run (Cert.DU2.defs (F := Bits)) (onTc (τ := Cert.DU2.τ) (Cert.DU2.main (F := Bits))) ⟨m, fun _ => 0, g⟩ (fun r => (∀ c : Dev Cert.DU2.nD,
      r.2.mem ((c.tc : Thread Cert.DU2.nD Cert.DU2.τ).loc Cert.DU2.main_arg0) = m ((c.tc : Thread Cert.DU2.nD Cert.DU2.τ).loc Cert.DU2.main_arg0)
      ∧ r.2.mem ((c.tc : Thread Cert.DU2.nD Cert.DU2.τ).loc Cert.DU2.main_arg1) = m ((c.tc : Thread Cert.DU2.nD Cert.DU2.τ).loc Cert.DU2.main_arg1))
      ∧ r.2.sem = fun _ => 0)

def quiescent_DU2Ideal [hDU2Ideal : Cert.DU2Ideal.Facts] : Prop :=
  ∀ (m : (ℓ : Loc Cert.DU2Ideal.nD Cert.DU2Ideal.τ Cert.DU2Ideal.sig) → Buf (Elt Ideal) ℓ) (g : Dev Cert.DU2Ideal.nD → PrngReg), Pre_DU2Ideal m →
    θ_run (Cert.DU2Ideal.defs (F := Ideal)) (onTc (τ := Cert.DU2Ideal.τ) (Cert.DU2Ideal.main (F := Ideal))) ⟨m, fun _ => 0, g⟩ (fun r => (∀ c : Dev Cert.DU2Ideal.nD,
      r.2.mem ((c.tc : Thread Cert.DU2Ideal.nD Cert.DU2Ideal.τ).loc Cert.DU2Ideal.main_arg0) = m ((c.tc : Thread Cert.DU2Ideal.nD Cert.DU2Ideal.τ).loc Cert.DU2Ideal.main_arg0)
      ∧ r.2.mem ((c.tc : Thread Cert.DU2Ideal.nD Cert.DU2Ideal.τ).loc Cert.DU2Ideal.main_arg1) = m ((c.tc : Thread Cert.DU2Ideal.nD Cert.DU2Ideal.τ).loc Cert.DU2Ideal.main_arg1))
      ∧ r.2.sem = fun _ => 0)

def quiescent_DU2ReferenceIdeal [hDU2ReferenceIdeal : Cert.DU2ReferenceIdeal.Facts] : Prop :=
  ∀ (m : (ℓ : Loc Cert.DU2ReferenceIdeal.nD Cert.DU2ReferenceIdeal.τ Cert.DU2ReferenceIdeal.sig) → Buf (Elt Ideal) ℓ) (g : Dev Cert.DU2ReferenceIdeal.nD → PrngReg), Pre_DU2ReferenceIdeal m →
    θ_run (Cert.DU2ReferenceIdeal.defs (F := Ideal)) (onTc (τ := Cert.DU2ReferenceIdeal.τ) (Cert.DU2ReferenceIdeal.main (F := Ideal))) ⟨m, fun _ => 0, g⟩ (fun r => (∀ c : Dev Cert.DU2ReferenceIdeal.nD,
      r.2.mem ((c.tc : Thread Cert.DU2ReferenceIdeal.nD Cert.DU2ReferenceIdeal.τ).loc Cert.DU2ReferenceIdeal.main_arg0) = m ((c.tc : Thread Cert.DU2ReferenceIdeal.nD Cert.DU2ReferenceIdeal.τ).loc Cert.DU2ReferenceIdeal.main_arg0)
      ∧ r.2.mem ((c.tc : Thread Cert.DU2ReferenceIdeal.nD Cert.DU2ReferenceIdeal.τ).loc Cert.DU2ReferenceIdeal.main_arg1) = m ((c.tc : Thread Cert.DU2ReferenceIdeal.nD Cert.DU2ReferenceIdeal.τ).loc Cert.DU2ReferenceIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutReferenceIdeal [hFfnOutReferenceIdeal : Cert.FfnOutReferenceIdeal.Facts] : Prop :=
  ∀ (m : (ℓ : Loc Cert.FfnOutReferenceIdeal.nD Cert.FfnOutReferenceIdeal.τ Cert.FfnOutReferenceIdeal.sig) → Buf (Elt Ideal) ℓ) (g : Dev Cert.FfnOutReferenceIdeal.nD → PrngReg), Pre_FfnOutReferenceIdeal m →
    θ_run (Cert.FfnOutReferenceIdeal.defs (F := Ideal)) (onTc (τ := Cert.FfnOutReferenceIdeal.τ) (Cert.FfnOutReferenceIdeal.main (F := Ideal))) ⟨m, fun _ => 0, g⟩ (fun r => (∀ c : Dev Cert.FfnOutReferenceIdeal.nD,
      r.2.mem ((c.tc : Thread Cert.FfnOutReferenceIdeal.nD Cert.FfnOutReferenceIdeal.τ).loc Cert.FfnOutReferenceIdeal.main_arg0) = m ((c.tc : Thread Cert.FfnOutReferenceIdeal.nD Cert.FfnOutReferenceIdeal.τ).loc Cert.FfnOutReferenceIdeal.main_arg0)
      ∧ r.2.mem ((c.tc : Thread Cert.FfnOutReferenceIdeal.nD Cert.FfnOutReferenceIdeal.τ).loc Cert.FfnOutReferenceIdeal.main_arg1) = m ((c.tc : Thread Cert.FfnOutReferenceIdeal.nD Cert.FfnOutReferenceIdeal.τ).loc Cert.FfnOutReferenceIdeal.main_arg1)
      ∧ r.2.mem ((c.tc : Thread Cert.FfnOutReferenceIdeal.nD Cert.FfnOutReferenceIdeal.τ).loc Cert.FfnOutReferenceIdeal.main_arg2) = m ((c.tc : Thread Cert.FfnOutReferenceIdeal.nD Cert.FfnOutReferenceIdeal.τ).loc Cert.FfnOutReferenceIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchReferenceIdeal [hDwBranchReferenceIdeal : Cert.DwBranchReferenceIdeal.Facts] : Prop :=
  ∀ (m : (ℓ : Loc Cert.DwBranchReferenceIdeal.nD Cert.DwBranchReferenceIdeal.τ Cert.DwBranchReferenceIdeal.sig) → Buf (Elt Ideal) ℓ) (g : Dev Cert.DwBranchReferenceIdeal.nD → PrngReg), Pre_DwBranchReferenceIdeal m →
    θ_run (Cert.DwBranchReferenceIdeal.defs (F := Ideal)) (onTc (τ := Cert.DwBranchReferenceIdeal.τ) (Cert.DwBranchReferenceIdeal.main (F := Ideal))) ⟨m, fun _ => 0, g⟩ (fun r => (∀ c : Dev Cert.DwBranchReferenceIdeal.nD,
      r.2.mem ((c.tc : Thread Cert.DwBranchReferenceIdeal.nD Cert.DwBranchReferenceIdeal.τ).loc Cert.DwBranchReferenceIdeal.main_arg0) = m ((c.tc : Thread Cert.DwBranchReferenceIdeal.nD Cert.DwBranchReferenceIdeal.τ).loc Cert.DwBranchReferenceIdeal.main_arg0)
      ∧ r.2.mem ((c.tc : Thread Cert.DwBranchReferenceIdeal.nD Cert.DwBranchReferenceIdeal.τ).loc Cert.DwBranchReferenceIdeal.main_arg1) = m ((c.tc : Thread Cert.DwBranchReferenceIdeal.nD Cert.DwBranchReferenceIdeal.τ).loc Cert.DwBranchReferenceIdeal.main_arg1))
      ∧ r.2.sem = fun _ => 0)

def quiescent_DwQUp [hDwQUp : Cert.DwQUp.Facts] : Prop :=
  ∀ (m : (ℓ : Loc Cert.DwQUp.nD Cert.DwQUp.τ Cert.DwQUp.sig) → Buf (Elt Bits) ℓ) (g : Dev Cert.DwQUp.nD → PrngReg), Pre_DwQUp m →
    θ_run (Cert.DwQUp.defs (F := Bits)) (onTc (τ := Cert.DwQUp.τ) (Cert.DwQUp.main (F := Bits))) ⟨m, fun _ => 0, g⟩ (fun r => (∀ c : Dev Cert.DwQUp.nD,
      r.2.mem ((c.tc : Thread Cert.DwQUp.nD Cert.DwQUp.τ).loc Cert.DwQUp.main_arg0) = m ((c.tc : Thread Cert.DwQUp.nD Cert.DwQUp.τ).loc Cert.DwQUp.main_arg0)
      ∧ r.2.mem ((c.tc : Thread Cert.DwQUp.nD Cert.DwQUp.τ).loc Cert.DwQUp.main_arg1) = m ((c.tc : Thread Cert.DwQUp.nD Cert.DwQUp.τ).loc Cert.DwQUp.main_arg1))
      ∧ r.2.sem = fun _ => 0)

def quiescent_DwQUpIdeal [hDwQUpIdeal : Cert.DwQUpIdeal.Facts] : Prop :=
  ∀ (m : (ℓ : Loc Cert.DwQUpIdeal.nD Cert.DwQUpIdeal.τ Cert.DwQUpIdeal.sig) → Buf (Elt Ideal) ℓ) (g : Dev Cert.DwQUpIdeal.nD → PrngReg), Pre_DwQUpIdeal m →
    θ_run (Cert.DwQUpIdeal.defs (F := Ideal)) (onTc (τ := Cert.DwQUpIdeal.τ) (Cert.DwQUpIdeal.main (F := Ideal))) ⟨m, fun _ => 0, g⟩ (fun r => (∀ c : Dev Cert.DwQUpIdeal.nD,
      r.2.mem ((c.tc : Thread Cert.DwQUpIdeal.nD Cert.DwQUpIdeal.τ).loc Cert.DwQUpIdeal.main_arg0) = m ((c.tc : Thread Cert.DwQUpIdeal.nD Cert.DwQUpIdeal.τ).loc Cert.DwQUpIdeal.main_arg0)
      ∧ r.2.mem ((c.tc : Thread Cert.DwQUpIdeal.nD Cert.DwQUpIdeal.τ).loc Cert.DwQUpIdeal.main_arg1) = m ((c.tc : Thread Cert.DwQUpIdeal.nD Cert.DwQUpIdeal.τ).loc Cert.DwQUpIdeal.main_arg1))
      ∧ r.2.sem = fun _ => 0)

def quiescent_DwQUpReferenceIdeal [hDwQUpReferenceIdeal : Cert.DwQUpReferenceIdeal.Facts] : Prop :=
  ∀ (m : (ℓ : Loc Cert.DwQUpReferenceIdeal.nD Cert.DwQUpReferenceIdeal.τ Cert.DwQUpReferenceIdeal.sig) → Buf (Elt Ideal) ℓ) (g : Dev Cert.DwQUpReferenceIdeal.nD → PrngReg), Pre_DwQUpReferenceIdeal m →
    θ_run (Cert.DwQUpReferenceIdeal.defs (F := Ideal)) (onTc (τ := Cert.DwQUpReferenceIdeal.τ) (Cert.DwQUpReferenceIdeal.main (F := Ideal))) ⟨m, fun _ => 0, g⟩ (fun r => (∀ c : Dev Cert.DwQUpReferenceIdeal.nD,
      r.2.mem ((c.tc : Thread Cert.DwQUpReferenceIdeal.nD Cert.DwQUpReferenceIdeal.τ).loc Cert.DwQUpReferenceIdeal.main_arg0) = m ((c.tc : Thread Cert.DwQUpReferenceIdeal.nD Cert.DwQUpReferenceIdeal.τ).loc Cert.DwQUpReferenceIdeal.main_arg0)
      ∧ r.2.mem ((c.tc : Thread Cert.DwQUpReferenceIdeal.nD Cert.DwQUpReferenceIdeal.τ).loc Cert.DwQUpReferenceIdeal.main_arg1) = m ((c.tc : Thread Cert.DwQUpReferenceIdeal.nD Cert.DwQUpReferenceIdeal.τ).loc Cert.DwQUpReferenceIdeal.main_arg1))
      ∧ r.2.sem = fun _ => 0)

def quiescent_DwKvUp [hDwKvUp : Cert.DwKvUp.Facts] : Prop :=
  ∀ (m : (ℓ : Loc Cert.DwKvUp.nD Cert.DwKvUp.τ Cert.DwKvUp.sig) → Buf (Elt Bits) ℓ) (g : Dev Cert.DwKvUp.nD → PrngReg), Pre_DwKvUp m →
    θ_run (Cert.DwKvUp.defs (F := Bits)) (onTc (τ := Cert.DwKvUp.τ) (Cert.DwKvUp.main (F := Bits))) ⟨m, fun _ => 0, g⟩ (fun r => (∀ c : Dev Cert.DwKvUp.nD,
      r.2.mem ((c.tc : Thread Cert.DwKvUp.nD Cert.DwKvUp.τ).loc Cert.DwKvUp.main_arg0) = m ((c.tc : Thread Cert.DwKvUp.nD Cert.DwKvUp.τ).loc Cert.DwKvUp.main_arg0)
      ∧ r.2.mem ((c.tc : Thread Cert.DwKvUp.nD Cert.DwKvUp.τ).loc Cert.DwKvUp.main_arg1) = m ((c.tc : Thread Cert.DwKvUp.nD Cert.DwKvUp.τ).loc Cert.DwKvUp.main_arg1))
      ∧ r.2.sem = fun _ => 0)

def quiescent_DwKvUpIdeal [hDwKvUpIdeal : Cert.DwKvUpIdeal.Facts] : Prop :=
  ∀ (m : (ℓ : Loc Cert.DwKvUpIdeal.nD Cert.DwKvUpIdeal.τ Cert.DwKvUpIdeal.sig) → Buf (Elt Ideal) ℓ) (g : Dev Cert.DwKvUpIdeal.nD → PrngReg), Pre_DwKvUpIdeal m →
    θ_run (Cert.DwKvUpIdeal.defs (F := Ideal)) (onTc (τ := Cert.DwKvUpIdeal.τ) (Cert.DwKvUpIdeal.main (F := Ideal))) ⟨m, fun _ => 0, g⟩ (fun r => (∀ c : Dev Cert.DwKvUpIdeal.nD,
      r.2.mem ((c.tc : Thread Cert.DwKvUpIdeal.nD Cert.DwKvUpIdeal.τ).loc Cert.DwKvUpIdeal.main_arg0) = m ((c.tc : Thread Cert.DwKvUpIdeal.nD Cert.DwKvUpIdeal.τ).loc Cert.DwKvUpIdeal.main_arg0)
      ∧ r.2.mem ((c.tc : Thread Cert.DwKvUpIdeal.nD Cert.DwKvUpIdeal.τ).loc Cert.DwKvUpIdeal.main_arg1) = m ((c.tc : Thread Cert.DwKvUpIdeal.nD Cert.DwKvUpIdeal.τ).loc Cert.DwKvUpIdeal.main_arg1))
      ∧ r.2.sem = fun _ => 0)

def quiescent_DwKvUpReferenceIdeal [hDwKvUpReferenceIdeal : Cert.DwKvUpReferenceIdeal.Facts] : Prop :=
  ∀ (m : (ℓ : Loc Cert.DwKvUpReferenceIdeal.nD Cert.DwKvUpReferenceIdeal.τ Cert.DwKvUpReferenceIdeal.sig) → Buf (Elt Ideal) ℓ) (g : Dev Cert.DwKvUpReferenceIdeal.nD → PrngReg), Pre_DwKvUpReferenceIdeal m →
    θ_run (Cert.DwKvUpReferenceIdeal.defs (F := Ideal)) (onTc (τ := Cert.DwKvUpReferenceIdeal.τ) (Cert.DwKvUpReferenceIdeal.main (F := Ideal))) ⟨m, fun _ => 0, g⟩ (fun r => (∀ c : Dev Cert.DwKvUpReferenceIdeal.nD,
      r.2.mem ((c.tc : Thread Cert.DwKvUpReferenceIdeal.nD Cert.DwKvUpReferenceIdeal.τ).loc Cert.DwKvUpReferenceIdeal.main_arg0) = m ((c.tc : Thread Cert.DwKvUpReferenceIdeal.nD Cert.DwKvUpReferenceIdeal.τ).loc Cert.DwKvUpReferenceIdeal.main_arg0)
      ∧ r.2.mem ((c.tc : Thread Cert.DwKvUpReferenceIdeal.nD Cert.DwKvUpReferenceIdeal.τ).loc Cert.DwKvUpReferenceIdeal.main_arg1) = m ((c.tc : Thread Cert.DwKvUpReferenceIdeal.nD Cert.DwKvUpReferenceIdeal.τ).loc Cert.DwKvUpReferenceIdeal.main_arg1))
      ∧ r.2.sem = fun _ => 0)

def quiescent_DwInHgrn [hDwInHgrn : Cert.DwInHgrn.Facts] : Prop :=
  ∀ (m : (ℓ : Loc Cert.DwInHgrn.nD Cert.DwInHgrn.τ Cert.DwInHgrn.sig) → Buf (Elt Bits) ℓ) (g : Dev Cert.DwInHgrn.nD → PrngReg), Pre_DwInHgrn m →
    θ_run (Cert.DwInHgrn.defs (F := Bits)) (onTc (τ := Cert.DwInHgrn.τ) (Cert.DwInHgrn.main (F := Bits))) ⟨m, fun _ => 0, g⟩ (fun r => (∀ c : Dev Cert.DwInHgrn.nD,
      r.2.mem ((c.tc : Thread Cert.DwInHgrn.nD Cert.DwInHgrn.τ).loc Cert.DwInHgrn.main_arg0) = m ((c.tc : Thread Cert.DwInHgrn.nD Cert.DwInHgrn.τ).loc Cert.DwInHgrn.main_arg0)
      ∧ r.2.mem ((c.tc : Thread Cert.DwInHgrn.nD Cert.DwInHgrn.τ).loc Cert.DwInHgrn.main_arg1) = m ((c.tc : Thread Cert.DwInHgrn.nD Cert.DwInHgrn.τ).loc Cert.DwInHgrn.main_arg1))
      ∧ r.2.sem = fun _ => 0)

def quiescent_DwInHgrnIdeal [hDwInHgrnIdeal : Cert.DwInHgrnIdeal.Facts] : Prop :=
  ∀ (m : (ℓ : Loc Cert.DwInHgrnIdeal.nD Cert.DwInHgrnIdeal.τ Cert.DwInHgrnIdeal.sig) → Buf (Elt Ideal) ℓ) (g : Dev Cert.DwInHgrnIdeal.nD → PrngReg), Pre_DwInHgrnIdeal m →
    θ_run (Cert.DwInHgrnIdeal.defs (F := Ideal)) (onTc (τ := Cert.DwInHgrnIdeal.τ) (Cert.DwInHgrnIdeal.main (F := Ideal))) ⟨m, fun _ => 0, g⟩ (fun r => (∀ c : Dev Cert.DwInHgrnIdeal.nD,
      r.2.mem ((c.tc : Thread Cert.DwInHgrnIdeal.nD Cert.DwInHgrnIdeal.τ).loc Cert.DwInHgrnIdeal.main_arg0) = m ((c.tc : Thread Cert.DwInHgrnIdeal.nD Cert.DwInHgrnIdeal.τ).loc Cert.DwInHgrnIdeal.main_arg0)
      ∧ r.2.mem ((c.tc : Thread Cert.DwInHgrnIdeal.nD Cert.DwInHgrnIdeal.τ).loc Cert.DwInHgrnIdeal.main_arg1) = m ((c.tc : Thread Cert.DwInHgrnIdeal.nD Cert.DwInHgrnIdeal.τ).loc Cert.DwInHgrnIdeal.main_arg1))
      ∧ r.2.sem = fun _ => 0)

def quiescent_DwInHgrnReferenceIdeal [hDwInHgrnReferenceIdeal : Cert.DwInHgrnReferenceIdeal.Facts] : Prop :=
  ∀ (m : (ℓ : Loc Cert.DwInHgrnReferenceIdeal.nD Cert.DwInHgrnReferenceIdeal.τ Cert.DwInHgrnReferenceIdeal.sig) → Buf (Elt Ideal) ℓ) (g : Dev Cert.DwInHgrnReferenceIdeal.nD → PrngReg), Pre_DwInHgrnReferenceIdeal m →
    θ_run (Cert.DwInHgrnReferenceIdeal.defs (F := Ideal)) (onTc (τ := Cert.DwInHgrnReferenceIdeal.τ) (Cert.DwInHgrnReferenceIdeal.main (F := Ideal))) ⟨m, fun _ => 0, g⟩ (fun r => (∀ c : Dev Cert.DwInHgrnReferenceIdeal.nD,
      r.2.mem ((c.tc : Thread Cert.DwInHgrnReferenceIdeal.nD Cert.DwInHgrnReferenceIdeal.τ).loc Cert.DwInHgrnReferenceIdeal.main_arg0) = m ((c.tc : Thread Cert.DwInHgrnReferenceIdeal.nD Cert.DwInHgrnReferenceIdeal.τ).loc Cert.DwInHgrnReferenceIdeal.main_arg0)
      ∧ r.2.mem ((c.tc : Thread Cert.DwInHgrnReferenceIdeal.nD Cert.DwInHgrnReferenceIdeal.τ).loc Cert.DwInHgrnReferenceIdeal.main_arg1) = m ((c.tc : Thread Cert.DwInHgrnReferenceIdeal.nD Cert.DwInHgrnReferenceIdeal.τ).loc Cert.DwInHgrnReferenceIdeal.main_arg1))
      ∧ r.2.sem = fun _ => 0)

def quiescent_DwInGates [hDwInGates : Cert.DwInGates.Facts] : Prop :=
  ∀ (m : (ℓ : Loc Cert.DwInGates.nD Cert.DwInGates.τ Cert.DwInGates.sig) → Buf (Elt Bits) ℓ) (g : Dev Cert.DwInGates.nD → PrngReg), Pre_DwInGates m →
    θ_run (Cert.DwInGates.defs (F := Bits)) (onTc (τ := Cert.DwInGates.τ) (Cert.DwInGates.main (F := Bits))) ⟨m, fun _ => 0, g⟩ (fun r => (∀ c : Dev Cert.DwInGates.nD,
      r.2.mem ((c.tc : Thread Cert.DwInGates.nD Cert.DwInGates.τ).loc Cert.DwInGates.main_arg0) = m ((c.tc : Thread Cert.DwInGates.nD Cert.DwInGates.τ).loc Cert.DwInGates.main_arg0)
      ∧ r.2.mem ((c.tc : Thread Cert.DwInGates.nD Cert.DwInGates.τ).loc Cert.DwInGates.main_arg1) = m ((c.tc : Thread Cert.DwInGates.nD Cert.DwInGates.τ).loc Cert.DwInGates.main_arg1))
      ∧ r.2.sem = fun _ => 0)

def quiescent_DwInGatesIdeal [hDwInGatesIdeal : Cert.DwInGatesIdeal.Facts] : Prop :=
  ∀ (m : (ℓ : Loc Cert.DwInGatesIdeal.nD Cert.DwInGatesIdeal.τ Cert.DwInGatesIdeal.sig) → Buf (Elt Ideal) ℓ) (g : Dev Cert.DwInGatesIdeal.nD → PrngReg), Pre_DwInGatesIdeal m →
    θ_run (Cert.DwInGatesIdeal.defs (F := Ideal)) (onTc (τ := Cert.DwInGatesIdeal.τ) (Cert.DwInGatesIdeal.main (F := Ideal))) ⟨m, fun _ => 0, g⟩ (fun r => (∀ c : Dev Cert.DwInGatesIdeal.nD,
      r.2.mem ((c.tc : Thread Cert.DwInGatesIdeal.nD Cert.DwInGatesIdeal.τ).loc Cert.DwInGatesIdeal.main_arg0) = m ((c.tc : Thread Cert.DwInGatesIdeal.nD Cert.DwInGatesIdeal.τ).loc Cert.DwInGatesIdeal.main_arg0)
      ∧ r.2.mem ((c.tc : Thread Cert.DwInGatesIdeal.nD Cert.DwInGatesIdeal.τ).loc Cert.DwInGatesIdeal.main_arg1) = m ((c.tc : Thread Cert.DwInGatesIdeal.nD Cert.DwInGatesIdeal.τ).loc Cert.DwInGatesIdeal.main_arg1))
      ∧ r.2.sem = fun _ => 0)

def quiescent_DwInGatesReferenceIdeal [hDwInGatesReferenceIdeal : Cert.DwInGatesReferenceIdeal.Facts] : Prop :=
  ∀ (m : (ℓ : Loc Cert.DwInGatesReferenceIdeal.nD Cert.DwInGatesReferenceIdeal.τ Cert.DwInGatesReferenceIdeal.sig) → Buf (Elt Ideal) ℓ) (g : Dev Cert.DwInGatesReferenceIdeal.nD → PrngReg), Pre_DwInGatesReferenceIdeal m →
    θ_run (Cert.DwInGatesReferenceIdeal.defs (F := Ideal)) (onTc (τ := Cert.DwInGatesReferenceIdeal.τ) (Cert.DwInGatesReferenceIdeal.main (F := Ideal))) ⟨m, fun _ => 0, g⟩ (fun r => (∀ c : Dev Cert.DwInGatesReferenceIdeal.nD,
      r.2.mem ((c.tc : Thread Cert.DwInGatesReferenceIdeal.nD Cert.DwInGatesReferenceIdeal.τ).loc Cert.DwInGatesReferenceIdeal.main_arg0) = m ((c.tc : Thread Cert.DwInGatesReferenceIdeal.nD Cert.DwInGatesReferenceIdeal.τ).loc Cert.DwInGatesReferenceIdeal.main_arg0)
      ∧ r.2.mem ((c.tc : Thread Cert.DwInGatesReferenceIdeal.nD Cert.DwInGatesReferenceIdeal.τ).loc Cert.DwInGatesReferenceIdeal.main_arg1) = m ((c.tc : Thread Cert.DwInGatesReferenceIdeal.nD Cert.DwInGatesReferenceIdeal.τ).loc Cert.DwInGatesReferenceIdeal.main_arg1))
      ∧ r.2.sem = fun _ => 0)

def quiescent_DwInKrope [hDwInKrope : Cert.DwInKrope.Facts] : Prop :=
  ∀ (m : (ℓ : Loc Cert.DwInKrope.nD Cert.DwInKrope.τ Cert.DwInKrope.sig) → Buf (Elt Bits) ℓ) (g : Dev Cert.DwInKrope.nD → PrngReg), Pre_DwInKrope m →
    θ_run (Cert.DwInKrope.defs (F := Bits)) (onTc (τ := Cert.DwInKrope.τ) (Cert.DwInKrope.main (F := Bits))) ⟨m, fun _ => 0, g⟩ (fun r => (∀ c : Dev Cert.DwInKrope.nD,
      r.2.mem ((c.tc : Thread Cert.DwInKrope.nD Cert.DwInKrope.τ).loc Cert.DwInKrope.main_arg0) = m ((c.tc : Thread Cert.DwInKrope.nD Cert.DwInKrope.τ).loc Cert.DwInKrope.main_arg0)
      ∧ r.2.mem ((c.tc : Thread Cert.DwInKrope.nD Cert.DwInKrope.τ).loc Cert.DwInKrope.main_arg1) = m ((c.tc : Thread Cert.DwInKrope.nD Cert.DwInKrope.τ).loc Cert.DwInKrope.main_arg1))
      ∧ r.2.sem = fun _ => 0)

def quiescent_DwInKropeIdeal [hDwInKropeIdeal : Cert.DwInKropeIdeal.Facts] : Prop :=
  ∀ (m : (ℓ : Loc Cert.DwInKropeIdeal.nD Cert.DwInKropeIdeal.τ Cert.DwInKropeIdeal.sig) → Buf (Elt Ideal) ℓ) (g : Dev Cert.DwInKropeIdeal.nD → PrngReg), Pre_DwInKropeIdeal m →
    θ_run (Cert.DwInKropeIdeal.defs (F := Ideal)) (onTc (τ := Cert.DwInKropeIdeal.τ) (Cert.DwInKropeIdeal.main (F := Ideal))) ⟨m, fun _ => 0, g⟩ (fun r => (∀ c : Dev Cert.DwInKropeIdeal.nD,
      r.2.mem ((c.tc : Thread Cert.DwInKropeIdeal.nD Cert.DwInKropeIdeal.τ).loc Cert.DwInKropeIdeal.main_arg0) = m ((c.tc : Thread Cert.DwInKropeIdeal.nD Cert.DwInKropeIdeal.τ).loc Cert.DwInKropeIdeal.main_arg0)
      ∧ r.2.mem ((c.tc : Thread Cert.DwInKropeIdeal.nD Cert.DwInKropeIdeal.τ).loc Cert.DwInKropeIdeal.main_arg1) = m ((c.tc : Thread Cert.DwInKropeIdeal.nD Cert.DwInKropeIdeal.τ).loc Cert.DwInKropeIdeal.main_arg1))
      ∧ r.2.sem = fun _ => 0)

def quiescent_DwInKropeReferenceIdeal [hDwInKropeReferenceIdeal : Cert.DwInKropeReferenceIdeal.Facts] : Prop :=
  ∀ (m : (ℓ : Loc Cert.DwInKropeReferenceIdeal.nD Cert.DwInKropeReferenceIdeal.τ Cert.DwInKropeReferenceIdeal.sig) → Buf (Elt Ideal) ℓ) (g : Dev Cert.DwInKropeReferenceIdeal.nD → PrngReg), Pre_DwInKropeReferenceIdeal m →
    θ_run (Cert.DwInKropeReferenceIdeal.defs (F := Ideal)) (onTc (τ := Cert.DwInKropeReferenceIdeal.τ) (Cert.DwInKropeReferenceIdeal.main (F := Ideal))) ⟨m, fun _ => 0, g⟩ (fun r => (∀ c : Dev Cert.DwInKropeReferenceIdeal.nD,
      r.2.mem ((c.tc : Thread Cert.DwInKropeReferenceIdeal.nD Cert.DwInKropeReferenceIdeal.τ).loc Cert.DwInKropeReferenceIdeal.main_arg0) = m ((c.tc : Thread Cert.DwInKropeReferenceIdeal.nD Cert.DwInKropeReferenceIdeal.τ).loc Cert.DwInKropeReferenceIdeal.main_arg0)
      ∧ r.2.mem ((c.tc : Thread Cert.DwInKropeReferenceIdeal.nD Cert.DwInKropeReferenceIdeal.τ).loc Cert.DwInKropeReferenceIdeal.main_arg1) = m ((c.tc : Thread Cert.DwInKropeReferenceIdeal.nD Cert.DwInKropeReferenceIdeal.τ).loc Cert.DwInKropeReferenceIdeal.main_arg1))
      ∧ r.2.sem = fun _ => 0)

def quiescent_DQn [hDQn : Cert.DQn.Facts] : Prop :=
  ∀ (m : (ℓ : Loc Cert.DQn.nD Cert.DQn.τ Cert.DQn.sig) → Buf (Elt Bits) ℓ) (g : Dev Cert.DQn.nD → PrngReg), Pre_DQn m →
    θ_run (Cert.DQn.defs (F := Bits)) (onTc (τ := Cert.DQn.τ) (Cert.DQn.main (F := Bits))) ⟨m, fun _ => 0, g⟩ (fun r => (∀ c : Dev Cert.DQn.nD,
      r.2.mem ((c.tc : Thread Cert.DQn.nD Cert.DQn.τ).loc Cert.DQn.main_arg0) = m ((c.tc : Thread Cert.DQn.nD Cert.DQn.τ).loc Cert.DQn.main_arg0)
      ∧ r.2.mem ((c.tc : Thread Cert.DQn.nD Cert.DQn.τ).loc Cert.DQn.main_arg1) = m ((c.tc : Thread Cert.DQn.nD Cert.DQn.τ).loc Cert.DQn.main_arg1))
      ∧ r.2.sem = fun _ => 0)

def quiescent_DQnIdeal [hDQnIdeal : Cert.DQnIdeal.Facts] : Prop :=
  ∀ (m : (ℓ : Loc Cert.DQnIdeal.nD Cert.DQnIdeal.τ Cert.DQnIdeal.sig) → Buf (Elt Ideal) ℓ) (g : Dev Cert.DQnIdeal.nD → PrngReg), Pre_DQnIdeal m →
    θ_run (Cert.DQnIdeal.defs (F := Ideal)) (onTc (τ := Cert.DQnIdeal.τ) (Cert.DQnIdeal.main (F := Ideal))) ⟨m, fun _ => 0, g⟩ (fun r => (∀ c : Dev Cert.DQnIdeal.nD,
      r.2.mem ((c.tc : Thread Cert.DQnIdeal.nD Cert.DQnIdeal.τ).loc Cert.DQnIdeal.main_arg0) = m ((c.tc : Thread Cert.DQnIdeal.nD Cert.DQnIdeal.τ).loc Cert.DQnIdeal.main_arg0)
      ∧ r.2.mem ((c.tc : Thread Cert.DQnIdeal.nD Cert.DQnIdeal.τ).loc Cert.DQnIdeal.main_arg1) = m ((c.tc : Thread Cert.DQnIdeal.nD Cert.DQnIdeal.τ).loc Cert.DQnIdeal.main_arg1))
      ∧ r.2.sem = fun _ => 0)

def quiescent_DQnReferenceIdeal [hDQnReferenceIdeal : Cert.DQnReferenceIdeal.Facts] : Prop :=
  ∀ (m : (ℓ : Loc Cert.DQnReferenceIdeal.nD Cert.DQnReferenceIdeal.τ Cert.DQnReferenceIdeal.sig) → Buf (Elt Ideal) ℓ) (g : Dev Cert.DQnReferenceIdeal.nD → PrngReg), Pre_DQnReferenceIdeal m →
    θ_run (Cert.DQnReferenceIdeal.defs (F := Ideal)) (onTc (τ := Cert.DQnReferenceIdeal.τ) (Cert.DQnReferenceIdeal.main (F := Ideal))) ⟨m, fun _ => 0, g⟩ (fun r => (∀ c : Dev Cert.DQnReferenceIdeal.nD,
      r.2.mem ((c.tc : Thread Cert.DQnReferenceIdeal.nD Cert.DQnReferenceIdeal.τ).loc Cert.DQnReferenceIdeal.main_arg0) = m ((c.tc : Thread Cert.DQnReferenceIdeal.nD Cert.DQnReferenceIdeal.τ).loc Cert.DQnReferenceIdeal.main_arg0)
      ∧ r.2.mem ((c.tc : Thread Cert.DQnReferenceIdeal.nD Cert.DQnReferenceIdeal.τ).loc Cert.DQnReferenceIdeal.main_arg1) = m ((c.tc : Thread Cert.DQnReferenceIdeal.nD Cert.DQnReferenceIdeal.τ).loc Cert.DQnReferenceIdeal.main_arg1))
      ∧ r.2.sem = fun _ => 0)

def quiescent_DKvn [hDKvn : Cert.DKvn.Facts] : Prop :=
  ∀ (m : (ℓ : Loc Cert.DKvn.nD Cert.DKvn.τ Cert.DKvn.sig) → Buf (Elt Bits) ℓ) (g : Dev Cert.DKvn.nD → PrngReg), Pre_DKvn m →
    θ_run (Cert.DKvn.defs (F := Bits)) (onTc (τ := Cert.DKvn.τ) (Cert.DKvn.main (F := Bits))) ⟨m, fun _ => 0, g⟩ (fun r => (∀ c : Dev Cert.DKvn.nD,
      r.2.mem ((c.tc : Thread Cert.DKvn.nD Cert.DKvn.τ).loc Cert.DKvn.main_arg0) = m ((c.tc : Thread Cert.DKvn.nD Cert.DKvn.τ).loc Cert.DKvn.main_arg0)
      ∧ r.2.mem ((c.tc : Thread Cert.DKvn.nD Cert.DKvn.τ).loc Cert.DKvn.main_arg1) = m ((c.tc : Thread Cert.DKvn.nD Cert.DKvn.τ).loc Cert.DKvn.main_arg1))
      ∧ r.2.sem = fun _ => 0)

def quiescent_DKvnIdeal [hDKvnIdeal : Cert.DKvnIdeal.Facts] : Prop :=
  ∀ (m : (ℓ : Loc Cert.DKvnIdeal.nD Cert.DKvnIdeal.τ Cert.DKvnIdeal.sig) → Buf (Elt Ideal) ℓ) (g : Dev Cert.DKvnIdeal.nD → PrngReg), Pre_DKvnIdeal m →
    θ_run (Cert.DKvnIdeal.defs (F := Ideal)) (onTc (τ := Cert.DKvnIdeal.τ) (Cert.DKvnIdeal.main (F := Ideal))) ⟨m, fun _ => 0, g⟩ (fun r => (∀ c : Dev Cert.DKvnIdeal.nD,
      r.2.mem ((c.tc : Thread Cert.DKvnIdeal.nD Cert.DKvnIdeal.τ).loc Cert.DKvnIdeal.main_arg0) = m ((c.tc : Thread Cert.DKvnIdeal.nD Cert.DKvnIdeal.τ).loc Cert.DKvnIdeal.main_arg0)
      ∧ r.2.mem ((c.tc : Thread Cert.DKvnIdeal.nD Cert.DKvnIdeal.τ).loc Cert.DKvnIdeal.main_arg1) = m ((c.tc : Thread Cert.DKvnIdeal.nD Cert.DKvnIdeal.τ).loc Cert.DKvnIdeal.main_arg1))
      ∧ r.2.sem = fun _ => 0)

def quiescent_DKvnReferenceIdeal [hDKvnReferenceIdeal : Cert.DKvnReferenceIdeal.Facts] : Prop :=
  ∀ (m : (ℓ : Loc Cert.DKvnReferenceIdeal.nD Cert.DKvnReferenceIdeal.τ Cert.DKvnReferenceIdeal.sig) → Buf (Elt Ideal) ℓ) (g : Dev Cert.DKvnReferenceIdeal.nD → PrngReg), Pre_DKvnReferenceIdeal m →
    θ_run (Cert.DKvnReferenceIdeal.defs (F := Ideal)) (onTc (τ := Cert.DKvnReferenceIdeal.τ) (Cert.DKvnReferenceIdeal.main (F := Ideal))) ⟨m, fun _ => 0, g⟩ (fun r => (∀ c : Dev Cert.DKvnReferenceIdeal.nD,
      r.2.mem ((c.tc : Thread Cert.DKvnReferenceIdeal.nD Cert.DKvnReferenceIdeal.τ).loc Cert.DKvnReferenceIdeal.main_arg0) = m ((c.tc : Thread Cert.DKvnReferenceIdeal.nD Cert.DKvnReferenceIdeal.τ).loc Cert.DKvnReferenceIdeal.main_arg0)
      ∧ r.2.mem ((c.tc : Thread Cert.DKvnReferenceIdeal.nD Cert.DKvnReferenceIdeal.τ).loc Cert.DKvnReferenceIdeal.main_arg1) = m ((c.tc : Thread Cert.DKvnReferenceIdeal.nD Cert.DKvnReferenceIdeal.τ).loc Cert.DKvnReferenceIdeal.main_arg1))
      ∧ r.2.sem = fun _ => 0)

def quiescent_DU1Lat [hDU1Lat : Cert.DU1Lat.Facts] : Prop :=
  ∀ (m : (ℓ : Loc Cert.DU1Lat.nD Cert.DU1Lat.τ Cert.DU1Lat.sig) → Buf (Elt Bits) ℓ) (g : Dev Cert.DU1Lat.nD → PrngReg), Pre_DU1Lat m →
    θ_run (Cert.DU1Lat.defs (F := Bits)) (onTc (τ := Cert.DU1Lat.τ) (Cert.DU1Lat.main (F := Bits))) ⟨m, fun _ => 0, g⟩ (fun r => (∀ c : Dev Cert.DU1Lat.nD,
      r.2.mem ((c.tc : Thread Cert.DU1Lat.nD Cert.DU1Lat.τ).loc Cert.DU1Lat.main_arg0) = m ((c.tc : Thread Cert.DU1Lat.nD Cert.DU1Lat.τ).loc Cert.DU1Lat.main_arg0)
      ∧ r.2.mem ((c.tc : Thread Cert.DU1Lat.nD Cert.DU1Lat.τ).loc Cert.DU1Lat.main_arg1) = m ((c.tc : Thread Cert.DU1Lat.nD Cert.DU1Lat.τ).loc Cert.DU1Lat.main_arg1))
      ∧ r.2.sem = fun _ => 0)

def quiescent_DU1LatIdeal [hDU1LatIdeal : Cert.DU1LatIdeal.Facts] : Prop :=
  ∀ (m : (ℓ : Loc Cert.DU1LatIdeal.nD Cert.DU1LatIdeal.τ Cert.DU1LatIdeal.sig) → Buf (Elt Ideal) ℓ) (g : Dev Cert.DU1LatIdeal.nD → PrngReg), Pre_DU1LatIdeal m →
    θ_run (Cert.DU1LatIdeal.defs (F := Ideal)) (onTc (τ := Cert.DU1LatIdeal.τ) (Cert.DU1LatIdeal.main (F := Ideal))) ⟨m, fun _ => 0, g⟩ (fun r => (∀ c : Dev Cert.DU1LatIdeal.nD,
      r.2.mem ((c.tc : Thread Cert.DU1LatIdeal.nD Cert.DU1LatIdeal.τ).loc Cert.DU1LatIdeal.main_arg0) = m ((c.tc : Thread Cert.DU1LatIdeal.nD Cert.DU1LatIdeal.τ).loc Cert.DU1LatIdeal.main_arg0)
      ∧ r.2.mem ((c.tc : Thread Cert.DU1LatIdeal.nD Cert.DU1LatIdeal.τ).loc Cert.DU1LatIdeal.main_arg1) = m ((c.tc : Thread Cert.DU1LatIdeal.nD Cert.DU1LatIdeal.τ).loc Cert.DU1LatIdeal.main_arg1))
      ∧ r.2.sem = fun _ => 0)

def quiescent_DU1LatReferenceIdeal [hDU1LatReferenceIdeal : Cert.DU1LatReferenceIdeal.Facts] : Prop :=
  ∀ (m : (ℓ : Loc Cert.DU1LatReferenceIdeal.nD Cert.DU1LatReferenceIdeal.τ Cert.DU1LatReferenceIdeal.sig) → Buf (Elt Ideal) ℓ) (g : Dev Cert.DU1LatReferenceIdeal.nD → PrngReg), Pre_DU1LatReferenceIdeal m →
    θ_run (Cert.DU1LatReferenceIdeal.defs (F := Ideal)) (onTc (τ := Cert.DU1LatReferenceIdeal.τ) (Cert.DU1LatReferenceIdeal.main (F := Ideal))) ⟨m, fun _ => 0, g⟩ (fun r => (∀ c : Dev Cert.DU1LatReferenceIdeal.nD,
      r.2.mem ((c.tc : Thread Cert.DU1LatReferenceIdeal.nD Cert.DU1LatReferenceIdeal.τ).loc Cert.DU1LatReferenceIdeal.main_arg0) = m ((c.tc : Thread Cert.DU1LatReferenceIdeal.nD Cert.DU1LatReferenceIdeal.τ).loc Cert.DU1LatReferenceIdeal.main_arg0)
      ∧ r.2.mem ((c.tc : Thread Cert.DU1LatReferenceIdeal.nD Cert.DU1LatReferenceIdeal.τ).loc Cert.DU1LatReferenceIdeal.main_arg1) = m ((c.tc : Thread Cert.DU1LatReferenceIdeal.nD Cert.DU1LatReferenceIdeal.τ).loc Cert.DU1LatReferenceIdeal.main_arg1))
      ∧ r.2.sem = fun _ => 0)

def quiescent_DU1Hgrn [hDU1Hgrn : Cert.DU1Hgrn.Facts] : Prop :=
  ∀ (m : (ℓ : Loc Cert.DU1Hgrn.nD Cert.DU1Hgrn.τ Cert.DU1Hgrn.sig) → Buf (Elt Bits) ℓ) (g : Dev Cert.DU1Hgrn.nD → PrngReg), Pre_DU1Hgrn m →
    θ_run (Cert.DU1Hgrn.defs (F := Bits)) (onTc (τ := Cert.DU1Hgrn.τ) (Cert.DU1Hgrn.main (F := Bits))) ⟨m, fun _ => 0, g⟩ (fun r => (∀ c : Dev Cert.DU1Hgrn.nD,
      r.2.mem ((c.tc : Thread Cert.DU1Hgrn.nD Cert.DU1Hgrn.τ).loc Cert.DU1Hgrn.main_arg0) = m ((c.tc : Thread Cert.DU1Hgrn.nD Cert.DU1Hgrn.τ).loc Cert.DU1Hgrn.main_arg0)
      ∧ r.2.mem ((c.tc : Thread Cert.DU1Hgrn.nD Cert.DU1Hgrn.τ).loc Cert.DU1Hgrn.main_arg1) = m ((c.tc : Thread Cert.DU1Hgrn.nD Cert.DU1Hgrn.τ).loc Cert.DU1Hgrn.main_arg1)
      ∧ r.2.mem ((c.tc : Thread Cert.DU1Hgrn.nD Cert.DU1Hgrn.τ).loc Cert.DU1Hgrn.main_arg2) = m ((c.tc : Thread Cert.DU1Hgrn.nD Cert.DU1Hgrn.τ).loc Cert.DU1Hgrn.main_arg2))
      ∧ r.2.sem = fun _ => 0)

def quiescent_DU1HgrnIdeal [hDU1HgrnIdeal : Cert.DU1HgrnIdeal.Facts] : Prop :=
  ∀ (m : (ℓ : Loc Cert.DU1HgrnIdeal.nD Cert.DU1HgrnIdeal.τ Cert.DU1HgrnIdeal.sig) → Buf (Elt Ideal) ℓ) (g : Dev Cert.DU1HgrnIdeal.nD → PrngReg), Pre_DU1HgrnIdeal m →
    θ_run (Cert.DU1HgrnIdeal.defs (F := Ideal)) (onTc (τ := Cert.DU1HgrnIdeal.τ) (Cert.DU1HgrnIdeal.main (F := Ideal))) ⟨m, fun _ => 0, g⟩ (fun r => (∀ c : Dev Cert.DU1HgrnIdeal.nD,
      r.2.mem ((c.tc : Thread Cert.DU1HgrnIdeal.nD Cert.DU1HgrnIdeal.τ).loc Cert.DU1HgrnIdeal.main_arg0) = m ((c.tc : Thread Cert.DU1HgrnIdeal.nD Cert.DU1HgrnIdeal.τ).loc Cert.DU1HgrnIdeal.main_arg0)
      ∧ r.2.mem ((c.tc : Thread Cert.DU1HgrnIdeal.nD Cert.DU1HgrnIdeal.τ).loc Cert.DU1HgrnIdeal.main_arg1) = m ((c.tc : Thread Cert.DU1HgrnIdeal.nD Cert.DU1HgrnIdeal.τ).loc Cert.DU1HgrnIdeal.main_arg1)
      ∧ r.2.mem ((c.tc : Thread Cert.DU1HgrnIdeal.nD Cert.DU1HgrnIdeal.τ).loc Cert.DU1HgrnIdeal.main_arg2) = m ((c.tc : Thread Cert.DU1HgrnIdeal.nD Cert.DU1HgrnIdeal.τ).loc Cert.DU1HgrnIdeal.main_arg2))
      ∧ r.2.sem = fun _ => 0)

def quiescent_DU1HgrnReferenceIdeal [hDU1HgrnReferenceIdeal : Cert.DU1HgrnReferenceIdeal.Facts] : Prop :=
  ∀ (m : (ℓ : Loc Cert.DU1HgrnReferenceIdeal.nD Cert.DU1HgrnReferenceIdeal.τ Cert.DU1HgrnReferenceIdeal.sig) → Buf (Elt Ideal) ℓ) (g : Dev Cert.DU1HgrnReferenceIdeal.nD → PrngReg), Pre_DU1HgrnReferenceIdeal m →
    θ_run (Cert.DU1HgrnReferenceIdeal.defs (F := Ideal)) (onTc (τ := Cert.DU1HgrnReferenceIdeal.τ) (Cert.DU1HgrnReferenceIdeal.main (F := Ideal))) ⟨m, fun _ => 0, g⟩ (fun r => (∀ c : Dev Cert.DU1HgrnReferenceIdeal.nD,
      r.2.mem ((c.tc : Thread Cert.DU1HgrnReferenceIdeal.nD Cert.DU1HgrnReferenceIdeal.τ).loc Cert.DU1HgrnReferenceIdeal.main_arg0) = m ((c.tc : Thread Cert.DU1HgrnReferenceIdeal.nD Cert.DU1HgrnReferenceIdeal.τ).loc Cert.DU1HgrnReferenceIdeal.main_arg0)
      ∧ r.2.mem ((c.tc : Thread Cert.DU1HgrnReferenceIdeal.nD Cert.DU1HgrnReferenceIdeal.τ).loc Cert.DU1HgrnReferenceIdeal.main_arg1) = m ((c.tc : Thread Cert.DU1HgrnReferenceIdeal.nD Cert.DU1HgrnReferenceIdeal.τ).loc Cert.DU1HgrnReferenceIdeal.main_arg1)
      ∧ r.2.mem ((c.tc : Thread Cert.DU1HgrnReferenceIdeal.nD Cert.DU1HgrnReferenceIdeal.τ).loc Cert.DU1HgrnReferenceIdeal.main_arg2) = m ((c.tc : Thread Cert.DU1HgrnReferenceIdeal.nD Cert.DU1HgrnReferenceIdeal.τ).loc Cert.DU1HgrnReferenceIdeal.main_arg2))
      ∧ r.2.sem = fun _ => 0)

def quiescent_DU1Gates [hDU1Gates : Cert.DU1Gates.Facts] : Prop :=
  ∀ (m : (ℓ : Loc Cert.DU1Gates.nD Cert.DU1Gates.τ Cert.DU1Gates.sig) → Buf (Elt Bits) ℓ) (g : Dev Cert.DU1Gates.nD → PrngReg), Pre_DU1Gates m →
    θ_run (Cert.DU1Gates.defs (F := Bits)) (onTc (τ := Cert.DU1Gates.τ) (Cert.DU1Gates.main (F := Bits))) ⟨m, fun _ => 0, g⟩ (fun r => (∀ c : Dev Cert.DU1Gates.nD,
      r.2.mem ((c.tc : Thread Cert.DU1Gates.nD Cert.DU1Gates.τ).loc Cert.DU1Gates.main_arg0) = m ((c.tc : Thread Cert.DU1Gates.nD Cert.DU1Gates.τ).loc Cert.DU1Gates.main_arg0)
      ∧ r.2.mem ((c.tc : Thread Cert.DU1Gates.nD Cert.DU1Gates.τ).loc Cert.DU1Gates.main_arg1) = m ((c.tc : Thread Cert.DU1Gates.nD Cert.DU1Gates.τ).loc Cert.DU1Gates.main_arg1)
      ∧ r.2.mem ((c.tc : Thread Cert.DU1Gates.nD Cert.DU1Gates.τ).loc Cert.DU1Gates.main_arg2) = m ((c.tc : Thread Cert.DU1Gates.nD Cert.DU1Gates.τ).loc Cert.DU1Gates.main_arg2))
      ∧ r.2.sem = fun _ => 0)

def quiescent_DU1GatesIdeal [hDU1GatesIdeal : Cert.DU1GatesIdeal.Facts] : Prop :=
  ∀ (m : (ℓ : Loc Cert.DU1GatesIdeal.nD Cert.DU1GatesIdeal.τ Cert.DU1GatesIdeal.sig) → Buf (Elt Ideal) ℓ) (g : Dev Cert.DU1GatesIdeal.nD → PrngReg), Pre_DU1GatesIdeal m →
    θ_run (Cert.DU1GatesIdeal.defs (F := Ideal)) (onTc (τ := Cert.DU1GatesIdeal.τ) (Cert.DU1GatesIdeal.main (F := Ideal))) ⟨m, fun _ => 0, g⟩ (fun r => (∀ c : Dev Cert.DU1GatesIdeal.nD,
      r.2.mem ((c.tc : Thread Cert.DU1GatesIdeal.nD Cert.DU1GatesIdeal.τ).loc Cert.DU1GatesIdeal.main_arg0) = m ((c.tc : Thread Cert.DU1GatesIdeal.nD Cert.DU1GatesIdeal.τ).loc Cert.DU1GatesIdeal.main_arg0)
      ∧ r.2.mem ((c.tc : Thread Cert.DU1GatesIdeal.nD Cert.DU1GatesIdeal.τ).loc Cert.DU1GatesIdeal.main_arg1) = m ((c.tc : Thread Cert.DU1GatesIdeal.nD Cert.DU1GatesIdeal.τ).loc Cert.DU1GatesIdeal.main_arg1)
      ∧ r.2.mem ((c.tc : Thread Cert.DU1GatesIdeal.nD Cert.DU1GatesIdeal.τ).loc Cert.DU1GatesIdeal.main_arg2) = m ((c.tc : Thread Cert.DU1GatesIdeal.nD Cert.DU1GatesIdeal.τ).loc Cert.DU1GatesIdeal.main_arg2))
      ∧ r.2.sem = fun _ => 0)

def quiescent_DU1GatesReferenceIdeal [hDU1GatesReferenceIdeal : Cert.DU1GatesReferenceIdeal.Facts] : Prop :=
  ∀ (m : (ℓ : Loc Cert.DU1GatesReferenceIdeal.nD Cert.DU1GatesReferenceIdeal.τ Cert.DU1GatesReferenceIdeal.sig) → Buf (Elt Ideal) ℓ) (g : Dev Cert.DU1GatesReferenceIdeal.nD → PrngReg), Pre_DU1GatesReferenceIdeal m →
    θ_run (Cert.DU1GatesReferenceIdeal.defs (F := Ideal)) (onTc (τ := Cert.DU1GatesReferenceIdeal.τ) (Cert.DU1GatesReferenceIdeal.main (F := Ideal))) ⟨m, fun _ => 0, g⟩ (fun r => (∀ c : Dev Cert.DU1GatesReferenceIdeal.nD,
      r.2.mem ((c.tc : Thread Cert.DU1GatesReferenceIdeal.nD Cert.DU1GatesReferenceIdeal.τ).loc Cert.DU1GatesReferenceIdeal.main_arg0) = m ((c.tc : Thread Cert.DU1GatesReferenceIdeal.nD Cert.DU1GatesReferenceIdeal.τ).loc Cert.DU1GatesReferenceIdeal.main_arg0)
      ∧ r.2.mem ((c.tc : Thread Cert.DU1GatesReferenceIdeal.nD Cert.DU1GatesReferenceIdeal.τ).loc Cert.DU1GatesReferenceIdeal.main_arg1) = m ((c.tc : Thread Cert.DU1GatesReferenceIdeal.nD Cert.DU1GatesReferenceIdeal.τ).loc Cert.DU1GatesReferenceIdeal.main_arg1)
      ∧ r.2.mem ((c.tc : Thread Cert.DU1GatesReferenceIdeal.nD Cert.DU1GatesReferenceIdeal.τ).loc Cert.DU1GatesReferenceIdeal.main_arg2) = m ((c.tc : Thread Cert.DU1GatesReferenceIdeal.nD Cert.DU1GatesReferenceIdeal.τ).loc Cert.DU1GatesReferenceIdeal.main_arg2))
      ∧ r.2.sem = fun _ => 0)

def quiescent_DU1Krope [hDU1Krope : Cert.DU1Krope.Facts] : Prop :=
  ∀ (m : (ℓ : Loc Cert.DU1Krope.nD Cert.DU1Krope.τ Cert.DU1Krope.sig) → Buf (Elt Bits) ℓ) (g : Dev Cert.DU1Krope.nD → PrngReg), Pre_DU1Krope m →
    θ_run (Cert.DU1Krope.defs (F := Bits)) (onTc (τ := Cert.DU1Krope.τ) (Cert.DU1Krope.main (F := Bits))) ⟨m, fun _ => 0, g⟩ (fun r => (∀ c : Dev Cert.DU1Krope.nD,
      r.2.mem ((c.tc : Thread Cert.DU1Krope.nD Cert.DU1Krope.τ).loc Cert.DU1Krope.main_arg0) = m ((c.tc : Thread Cert.DU1Krope.nD Cert.DU1Krope.τ).loc Cert.DU1Krope.main_arg0)
      ∧ r.2.mem ((c.tc : Thread Cert.DU1Krope.nD Cert.DU1Krope.τ).loc Cert.DU1Krope.main_arg1) = m ((c.tc : Thread Cert.DU1Krope.nD Cert.DU1Krope.τ).loc Cert.DU1Krope.main_arg1)
      ∧ r.2.mem ((c.tc : Thread Cert.DU1Krope.nD Cert.DU1Krope.τ).loc Cert.DU1Krope.main_arg2) = m ((c.tc : Thread Cert.DU1Krope.nD Cert.DU1Krope.τ).loc Cert.DU1Krope.main_arg2))
      ∧ r.2.sem = fun _ => 0)

def quiescent_DU1KropeIdeal [hDU1KropeIdeal : Cert.DU1KropeIdeal.Facts] : Prop :=
  ∀ (m : (ℓ : Loc Cert.DU1KropeIdeal.nD Cert.DU1KropeIdeal.τ Cert.DU1KropeIdeal.sig) → Buf (Elt Ideal) ℓ) (g : Dev Cert.DU1KropeIdeal.nD → PrngReg), Pre_DU1KropeIdeal m →
    θ_run (Cert.DU1KropeIdeal.defs (F := Ideal)) (onTc (τ := Cert.DU1KropeIdeal.τ) (Cert.DU1KropeIdeal.main (F := Ideal))) ⟨m, fun _ => 0, g⟩ (fun r => (∀ c : Dev Cert.DU1KropeIdeal.nD,
      r.2.mem ((c.tc : Thread Cert.DU1KropeIdeal.nD Cert.DU1KropeIdeal.τ).loc Cert.DU1KropeIdeal.main_arg0) = m ((c.tc : Thread Cert.DU1KropeIdeal.nD Cert.DU1KropeIdeal.τ).loc Cert.DU1KropeIdeal.main_arg0)
      ∧ r.2.mem ((c.tc : Thread Cert.DU1KropeIdeal.nD Cert.DU1KropeIdeal.τ).loc Cert.DU1KropeIdeal.main_arg1) = m ((c.tc : Thread Cert.DU1KropeIdeal.nD Cert.DU1KropeIdeal.τ).loc Cert.DU1KropeIdeal.main_arg1)
      ∧ r.2.mem ((c.tc : Thread Cert.DU1KropeIdeal.nD Cert.DU1KropeIdeal.τ).loc Cert.DU1KropeIdeal.main_arg2) = m ((c.tc : Thread Cert.DU1KropeIdeal.nD Cert.DU1KropeIdeal.τ).loc Cert.DU1KropeIdeal.main_arg2))
      ∧ r.2.sem = fun _ => 0)

def quiescent_DU1KropeReferenceIdeal [hDU1KropeReferenceIdeal : Cert.DU1KropeReferenceIdeal.Facts] : Prop :=
  ∀ (m : (ℓ : Loc Cert.DU1KropeReferenceIdeal.nD Cert.DU1KropeReferenceIdeal.τ Cert.DU1KropeReferenceIdeal.sig) → Buf (Elt Ideal) ℓ) (g : Dev Cert.DU1KropeReferenceIdeal.nD → PrngReg), Pre_DU1KropeReferenceIdeal m →
    θ_run (Cert.DU1KropeReferenceIdeal.defs (F := Ideal)) (onTc (τ := Cert.DU1KropeReferenceIdeal.τ) (Cert.DU1KropeReferenceIdeal.main (F := Ideal))) ⟨m, fun _ => 0, g⟩ (fun r => (∀ c : Dev Cert.DU1KropeReferenceIdeal.nD,
      r.2.mem ((c.tc : Thread Cert.DU1KropeReferenceIdeal.nD Cert.DU1KropeReferenceIdeal.τ).loc Cert.DU1KropeReferenceIdeal.main_arg0) = m ((c.tc : Thread Cert.DU1KropeReferenceIdeal.nD Cert.DU1KropeReferenceIdeal.τ).loc Cert.DU1KropeReferenceIdeal.main_arg0)
      ∧ r.2.mem ((c.tc : Thread Cert.DU1KropeReferenceIdeal.nD Cert.DU1KropeReferenceIdeal.τ).loc Cert.DU1KropeReferenceIdeal.main_arg1) = m ((c.tc : Thread Cert.DU1KropeReferenceIdeal.nD Cert.DU1KropeReferenceIdeal.τ).loc Cert.DU1KropeReferenceIdeal.main_arg1)
      ∧ r.2.mem ((c.tc : Thread Cert.DU1KropeReferenceIdeal.nD Cert.DU1KropeReferenceIdeal.τ).loc Cert.DU1KropeReferenceIdeal.main_arg2) = m ((c.tc : Thread Cert.DU1KropeReferenceIdeal.nD Cert.DU1KropeReferenceIdeal.τ).loc Cert.DU1KropeReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpReferenceIdeal [hQUpReferenceIdeal : Cert.QUpReferenceIdeal.Facts] : Prop :=
  ∀ (m : (ℓ : Loc Cert.QUpReferenceIdeal.nD Cert.QUpReferenceIdeal.τ Cert.QUpReferenceIdeal.sig) → Buf (Elt Ideal) ℓ) (g : Dev Cert.QUpReferenceIdeal.nD → PrngReg), Pre_QUpReferenceIdeal m →
    θ_run (Cert.QUpReferenceIdeal.defs (F := Ideal)) (onTc (τ := Cert.QUpReferenceIdeal.τ) (Cert.QUpReferenceIdeal.main (F := Ideal))) ⟨m, fun _ => 0, g⟩ (fun r => (∀ c : Dev Cert.QUpReferenceIdeal.nD,
      r.2.mem ((c.tc : Thread Cert.QUpReferenceIdeal.nD Cert.QUpReferenceIdeal.τ).loc Cert.QUpReferenceIdeal.main_arg0) = m ((c.tc : Thread Cert.QUpReferenceIdeal.nD Cert.QUpReferenceIdeal.τ).loc Cert.QUpReferenceIdeal.main_arg0)
      ∧ r.2.mem ((c.tc : Thread Cert.QUpReferenceIdeal.nD Cert.QUpReferenceIdeal.τ).loc Cert.QUpReferenceIdeal.main_arg1) = m ((c.tc : Thread Cert.QUpReferenceIdeal.nD Cert.QUpReferenceIdeal.τ).loc Cert.QUpReferenceIdeal.main_arg1))
      ∧ r.2.sem = fun _ => 0)

def quiescent_NormQ [hNormQ : Cert.NormQ.Facts] : Prop :=
  ∀ (m : (ℓ : Loc Cert.NormQ.nD Cert.NormQ.τ Cert.NormQ.sig) → Buf (Elt Bits) ℓ) (g : Dev Cert.NormQ.nD → PrngReg), Pre_NormQ m →
    θ_run (Cert.NormQ.defs (F := Bits)) (onTc (τ := Cert.NormQ.τ) (Cert.NormQ.main (F := Bits))) ⟨m, fun _ => 0, g⟩ (fun r => (∀ c : Dev Cert.NormQ.nD,
      r.2.mem ((c.tc : Thread Cert.NormQ.nD Cert.NormQ.τ).loc Cert.NormQ.main_arg0) = m ((c.tc : Thread Cert.NormQ.nD Cert.NormQ.τ).loc Cert.NormQ.main_arg0)
      ∧ r.2.mem ((c.tc : Thread Cert.NormQ.nD Cert.NormQ.τ).loc Cert.NormQ.main_arg1) = m ((c.tc : Thread Cert.NormQ.nD Cert.NormQ.τ).loc Cert.NormQ.main_arg1))
      ∧ r.2.sem = fun _ => 0)

def quiescent_NormQIdeal [hNormQIdeal : Cert.NormQIdeal.Facts] : Prop :=
  ∀ (m : (ℓ : Loc Cert.NormQIdeal.nD Cert.NormQIdeal.τ Cert.NormQIdeal.sig) → Buf (Elt Ideal) ℓ) (g : Dev Cert.NormQIdeal.nD → PrngReg), Pre_NormQIdeal m →
    θ_run (Cert.NormQIdeal.defs (F := Ideal)) (onTc (τ := Cert.NormQIdeal.τ) (Cert.NormQIdeal.main (F := Ideal))) ⟨m, fun _ => 0, g⟩ (fun r => (∀ c : Dev Cert.NormQIdeal.nD,
      r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
      ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ r.2.sem = fun _ => 0)

def quiescent_NormQReferenceIdeal [hNormQReferenceIdeal : Cert.NormQReferenceIdeal.Facts] : Prop :=
  ∀ (m : (ℓ : Loc Cert.NormQReferenceIdeal.nD Cert.NormQReferenceIdeal.τ Cert.NormQReferenceIdeal.sig) → Buf (Elt Ideal) ℓ) (g : Dev Cert.NormQReferenceIdeal.nD → PrngReg), Pre_NormQReferenceIdeal m →
    θ_run (Cert.NormQReferenceIdeal.defs (F := Ideal)) (onTc (τ := Cert.NormQReferenceIdeal.τ) (Cert.NormQReferenceIdeal.main (F := Ideal))) ⟨m, fun _ => 0, g⟩ (fun r => (∀ c : Dev Cert.NormQReferenceIdeal.nD,
      r.2.mem ((c.tc : Thread Cert.NormQReferenceIdeal.nD Cert.NormQReferenceIdeal.τ).loc Cert.NormQReferenceIdeal.main_arg0) = m ((c.tc : Thread Cert.NormQReferenceIdeal.nD Cert.NormQReferenceIdeal.τ).loc Cert.NormQReferenceIdeal.main_arg0)
      ∧ r.2.mem ((c.tc : Thread Cert.NormQReferenceIdeal.nD Cert.NormQReferenceIdeal.τ).loc Cert.NormQReferenceIdeal.main_arg1) = m ((c.tc : Thread Cert.NormQReferenceIdeal.nD Cert.NormQReferenceIdeal.τ).loc Cert.NormQReferenceIdeal.main_arg1))
      ∧ r.2.sem = fun _ => 0)

def quiescent_Attn [hAttn : Cert.Attn.Facts] [hPre_attn_schedule : Cert.Pre_attn_schedule.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] [hPre_attn_schedule : Cert.Pre_attn_schedule.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ r.2.sem = fun _ => 0)

def quiescent_DeltaReferenceIdeal [hDeltaReferenceIdeal : Cert.DeltaReferenceIdeal.Facts] : Prop :=
  ∀ (m : (ℓ : Loc Cert.DeltaReferenceIdeal.nD Cert.DeltaReferenceIdeal.τ Cert.DeltaReferenceIdeal.sig) → Buf (Elt Ideal) ℓ) (g : Dev Cert.DeltaReferenceIdeal.nD → PrngReg), Pre_DeltaReferenceIdeal m →
    θ_run (Cert.DeltaReferenceIdeal.defs (F := Ideal)) (onTc (τ := Cert.DeltaReferenceIdeal.τ) (Cert.DeltaReferenceIdeal.main (F := Ideal))) ⟨m, fun _ => 0, g⟩ (fun r => (∀ c : Dev Cert.DeltaReferenceIdeal.nD,
      r.2.mem ((c.tc : Thread Cert.DeltaReferenceIdeal.nD Cert.DeltaReferenceIdeal.τ).loc Cert.DeltaReferenceIdeal.main_arg0) = m ((c.tc : Thread Cert.DeltaReferenceIdeal.nD Cert.DeltaReferenceIdeal.τ).loc Cert.DeltaReferenceIdeal.main_arg0)
      ∧ r.2.mem ((c.tc : Thread Cert.DeltaReferenceIdeal.nD Cert.DeltaReferenceIdeal.τ).loc Cert.DeltaReferenceIdeal.main_arg1) = m ((c.tc : Thread Cert.DeltaReferenceIdeal.nD Cert.DeltaReferenceIdeal.τ).loc Cert.DeltaReferenceIdeal.main_arg1))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumReferenceIdeal [hPairSumReferenceIdeal : Cert.PairSumReferenceIdeal.Facts] : Prop :=
  ∀ (m : (ℓ : Loc Cert.PairSumReferenceIdeal.nD Cert.PairSumReferenceIdeal.τ Cert.PairSumReferenceIdeal.sig) → Buf (Elt Ideal) ℓ) (g : Dev Cert.PairSumReferenceIdeal.nD → PrngReg), Pre_PairSumReferenceIdeal m →
    θ_run (Cert.PairSumReferenceIdeal.defs (F := Ideal)) (onTc (τ := Cert.PairSumReferenceIdeal.τ) (Cert.PairSumReferenceIdeal.main (F := Ideal))) ⟨m, fun _ => 0, g⟩ (fun r => (∀ c : Dev Cert.PairSumReferenceIdeal.nD,
      r.2.mem ((c.tc : Thread Cert.PairSumReferenceIdeal.nD Cert.PairSumReferenceIdeal.τ).loc Cert.PairSumReferenceIdeal.main_arg0) = m ((c.tc : Thread Cert.PairSumReferenceIdeal.nD Cert.PairSumReferenceIdeal.τ).loc Cert.PairSumReferenceIdeal.main_arg0)
      ∧ r.2.mem ((c.tc : Thread Cert.PairSumReferenceIdeal.nD Cert.PairSumReferenceIdeal.τ).loc Cert.PairSumReferenceIdeal.main_arg1) = m ((c.tc : Thread Cert.PairSumReferenceIdeal.nD Cert.PairSumReferenceIdeal.τ).loc Cert.PairSumReferenceIdeal.main_arg1))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ r.2.sem = fun _ => 0)

def quiescent_ChipSumReferenceIdeal [hChipSumReferenceIdeal : Cert.ChipSumReferenceIdeal.Facts] : Prop :=
  ∀ (m : (ℓ : Loc Cert.ChipSumReferenceIdeal.nD Cert.ChipSumReferenceIdeal.τ Cert.ChipSumReferenceIdeal.sig) → Buf (Elt Ideal) ℓ) (g : Dev Cert.ChipSumReferenceIdeal.nD → PrngReg), Pre_ChipSumReferenceIdeal m →
    θ_run (Cert.ChipSumReferenceIdeal.defs (F := Ideal)) (onTc (τ := Cert.ChipSumReferenceIdeal.τ) (Cert.ChipSumReferenceIdeal.main (F := Ideal))) ⟨m, fun _ => 0, g⟩ (fun r => (∀ c : Dev Cert.ChipSumReferenceIdeal.nD,
      r.2.mem ((c.tc : Thread Cert.ChipSumReferenceIdeal.nD Cert.ChipSumReferenceIdeal.τ).loc Cert.ChipSumReferenceIdeal.main_arg0) = m ((c.tc : Thread Cert.ChipSumReferenceIdeal.nD Cert.ChipSumReferenceIdeal.τ).loc Cert.ChipSumReferenceIdeal.main_arg0))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v3_3)) (v3 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v3_3) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DwFfnIn_DwFfnInIdeal : Prop :=
  True

def algebraic_DwFfnInIdeal_DwFfnInReferenceIdeal [hDwFfnInIdeal : Cert.DwFfnInIdeal.Facts] [hDwFfnInReferenceIdeal : Cert.DwFfnInReferenceIdeal.Facts] : Prop :=
  ∀ (m : (ℓ : Loc Cert.DwFfnInIdeal.nD Cert.DwFfnInIdeal.τ Cert.DwFfnInIdeal.sig) → Buf (Elt Ideal) ℓ) (g : Dev Cert.DwFfnInIdeal.nD → PrngReg)
    (m' : (ℓ : Loc Cert.DwFfnInReferenceIdeal.nD Cert.DwFfnInReferenceIdeal.τ Cert.DwFfnInReferenceIdeal.sig) → Buf (Elt Ideal) ℓ) (g' : Dev Cert.DwFfnInReferenceIdeal.nD → PrngReg), Pre_DwFfnInIdeal m →
    (∀ c : Dev Cert.DwFfnInIdeal.nD,
      m' ((c.tc : Thread Cert.DwFfnInReferenceIdeal.nD Cert.DwFfnInReferenceIdeal.τ).loc Cert.DwFfnInReferenceIdeal.main_arg0) = m ((c.tc : Thread Cert.DwFfnInIdeal.nD Cert.DwFfnInIdeal.τ).loc Cert.DwFfnInIdeal.main_arg0)
      ∧ m' ((c.tc : Thread Cert.DwFfnInReferenceIdeal.nD Cert.DwFfnInReferenceIdeal.τ).loc Cert.DwFfnInReferenceIdeal.main_arg1) = m ((c.tc : Thread Cert.DwFfnInIdeal.nD Cert.DwFfnInIdeal.τ).loc Cert.DwFfnInIdeal.main_arg1)) →
    ∃ (v0 : (c : Dev Cert.DwFfnInIdeal.nD) → Buf (Elt Ideal) ((c.tc : Thread Cert.DwFfnInIdeal.nD Cert.DwFfnInIdeal.τ).loc Cert.DwFfnInIdeal.main_v0)),
      θ_run (Cert.DwFfnInIdeal.defs (F := Ideal)) (onTc (τ := Cert.DwFfnInIdeal.τ) (Cert.DwFfnInIdeal.main (F := Ideal))) ⟨m, fun _ => 0, g⟩ (fun r => ∀ c : Dev Cert.DwFfnInIdeal.nD,
          r.2.mem ((c.tc : Thread Cert.DwFfnInIdeal.nD Cert.DwFfnInIdeal.τ).loc Cert.DwFfnInIdeal.main_v0) = v0 c
          ∧ r.2.mem ((c.tc : Thread Cert.DwFfnInIdeal.nD Cert.DwFfnInIdeal.τ).loc Cert.DwFfnInIdeal.main_arg0) = m ((c.tc : Thread Cert.DwFfnInIdeal.nD Cert.DwFfnInIdeal.τ).loc Cert.DwFfnInIdeal.main_arg0)
          ∧ r.2.mem ((c.tc : Thread Cert.DwFfnInIdeal.nD Cert.DwFfnInIdeal.τ).loc Cert.DwFfnInIdeal.main_arg1) = m ((c.tc : Thread Cert.DwFfnInIdeal.nD Cert.DwFfnInIdeal.τ).loc Cert.DwFfnInIdeal.main_arg1))
      ∧ θ_run (Cert.DwFfnInReferenceIdeal.defs (F := Ideal)) (onTc (τ := Cert.DwFfnInReferenceIdeal.τ) (Cert.DwFfnInReferenceIdeal.main (F := Ideal))) ⟨m', fun _ => 0, g'⟩ (fun r => ∀ c : Dev Cert.DwFfnInReferenceIdeal.nD,
          r.2.mem ((c.tc : Thread Cert.DwFfnInReferenceIdeal.nD Cert.DwFfnInReferenceIdeal.τ).loc Cert.DwFfnInReferenceIdeal.main_v14) = v0 c
          ∧ r.2.mem ((c.tc : Thread Cert.DwFfnInReferenceIdeal.nD Cert.DwFfnInReferenceIdeal.τ).loc Cert.DwFfnInReferenceIdeal.main_arg0) = m' ((c.tc : Thread Cert.DwFfnInReferenceIdeal.nD Cert.DwFfnInReferenceIdeal.τ).loc Cert.DwFfnInReferenceIdeal.main_arg0)
          ∧ r.2.mem ((c.tc : Thread Cert.DwFfnInReferenceIdeal.nD Cert.DwFfnInReferenceIdeal.τ).loc Cert.DwFfnInReferenceIdeal.main_arg1) = m' ((c.tc : Thread Cert.DwFfnInReferenceIdeal.nD Cert.DwFfnInReferenceIdeal.τ).loc Cert.DwFfnInReferenceIdeal.main_arg1))

def preserves_DwFfnOut_DwFfnOutIdeal : Prop :=
  True

def algebraic_DwFfnOutIdeal_DwFfnOutReferenceIdeal [hDwFfnOutIdeal : Cert.DwFfnOutIdeal.Facts] [hDwFfnOutReferenceIdeal : Cert.DwFfnOutReferenceIdeal.Facts] : Prop :=
  ∀ (m : (ℓ : Loc Cert.DwFfnOutIdeal.nD Cert.DwFfnOutIdeal.τ Cert.DwFfnOutIdeal.sig) → Buf (Elt Ideal) ℓ) (g : Dev Cert.DwFfnOutIdeal.nD → PrngReg)
    (m' : (ℓ : Loc Cert.DwFfnOutReferenceIdeal.nD Cert.DwFfnOutReferenceIdeal.τ Cert.DwFfnOutReferenceIdeal.sig) → Buf (Elt Ideal) ℓ) (g' : Dev Cert.DwFfnOutReferenceIdeal.nD → PrngReg), Pre_DwFfnOutIdeal m →
    (∀ c : Dev Cert.DwFfnOutIdeal.nD,
      m' ((c.tc : Thread Cert.DwFfnOutReferenceIdeal.nD Cert.DwFfnOutReferenceIdeal.τ).loc Cert.DwFfnOutReferenceIdeal.main_arg0) = m ((c.tc : Thread Cert.DwFfnOutIdeal.nD Cert.DwFfnOutIdeal.τ).loc Cert.DwFfnOutIdeal.main_arg0)
      ∧ m' ((c.tc : Thread Cert.DwFfnOutReferenceIdeal.nD Cert.DwFfnOutReferenceIdeal.τ).loc Cert.DwFfnOutReferenceIdeal.main_arg1) = m ((c.tc : Thread Cert.DwFfnOutIdeal.nD Cert.DwFfnOutIdeal.τ).loc Cert.DwFfnOutIdeal.main_arg1)) →
    ∃ (v0 : (c : Dev Cert.DwFfnOutIdeal.nD) → Buf (Elt Ideal) ((c.tc : Thread Cert.DwFfnOutIdeal.nD Cert.DwFfnOutIdeal.τ).loc Cert.DwFfnOutIdeal.main_v0)),
      θ_run (Cert.DwFfnOutIdeal.defs (F := Ideal)) (onTc (τ := Cert.DwFfnOutIdeal.τ) (Cert.DwFfnOutIdeal.main (F := Ideal))) ⟨m, fun _ => 0, g⟩ (fun r => ∀ c : Dev Cert.DwFfnOutIdeal.nD,
          r.2.mem ((c.tc : Thread Cert.DwFfnOutIdeal.nD Cert.DwFfnOutIdeal.τ).loc Cert.DwFfnOutIdeal.main_v0) = v0 c
          ∧ r.2.mem ((c.tc : Thread Cert.DwFfnOutIdeal.nD Cert.DwFfnOutIdeal.τ).loc Cert.DwFfnOutIdeal.main_arg0) = m ((c.tc : Thread Cert.DwFfnOutIdeal.nD Cert.DwFfnOutIdeal.τ).loc Cert.DwFfnOutIdeal.main_arg0)
          ∧ r.2.mem ((c.tc : Thread Cert.DwFfnOutIdeal.nD Cert.DwFfnOutIdeal.τ).loc Cert.DwFfnOutIdeal.main_arg1) = m ((c.tc : Thread Cert.DwFfnOutIdeal.nD Cert.DwFfnOutIdeal.τ).loc Cert.DwFfnOutIdeal.main_arg1))
      ∧ θ_run (Cert.DwFfnOutReferenceIdeal.defs (F := Ideal)) (onTc (τ := Cert.DwFfnOutReferenceIdeal.τ) (Cert.DwFfnOutReferenceIdeal.main (F := Ideal))) ⟨m', fun _ => 0, g'⟩ (fun r => ∀ c : Dev Cert.DwFfnOutReferenceIdeal.nD,
          r.2.mem ((c.tc : Thread Cert.DwFfnOutReferenceIdeal.nD Cert.DwFfnOutReferenceIdeal.τ).loc Cert.DwFfnOutReferenceIdeal.main_v5) = v0 c
          ∧ r.2.mem ((c.tc : Thread Cert.DwFfnOutReferenceIdeal.nD Cert.DwFfnOutReferenceIdeal.τ).loc Cert.DwFfnOutReferenceIdeal.main_arg0) = m' ((c.tc : Thread Cert.DwFfnOutReferenceIdeal.nD Cert.DwFfnOutReferenceIdeal.τ).loc Cert.DwFfnOutReferenceIdeal.main_arg0)
          ∧ r.2.mem ((c.tc : Thread Cert.DwFfnOutReferenceIdeal.nD Cert.DwFfnOutReferenceIdeal.τ).loc Cert.DwFfnOutReferenceIdeal.main_arg1) = m' ((c.tc : Thread Cert.DwFfnOutReferenceIdeal.nD Cert.DwFfnOutReferenceIdeal.τ).loc Cert.DwFfnOutReferenceIdeal.main_arg1))

def preserves_DU2_DU2Ideal : Prop :=
  True

def algebraic_DU2Ideal_DU2ReferenceIdeal [hDU2Ideal : Cert.DU2Ideal.Facts] [hDU2ReferenceIdeal : Cert.DU2ReferenceIdeal.Facts] : Prop :=
  ∀ (m : (ℓ : Loc Cert.DU2Ideal.nD Cert.DU2Ideal.τ Cert.DU2Ideal.sig) → Buf (Elt Ideal) ℓ) (g : Dev Cert.DU2Ideal.nD → PrngReg)
    (m' : (ℓ : Loc Cert.DU2ReferenceIdeal.nD Cert.DU2ReferenceIdeal.τ Cert.DU2ReferenceIdeal.sig) → Buf (Elt Ideal) ℓ) (g' : Dev Cert.DU2ReferenceIdeal.nD → PrngReg), Pre_DU2Ideal m →
    (∀ c : Dev Cert.DU2Ideal.nD,
      m' ((c.tc : Thread Cert.DU2ReferenceIdeal.nD Cert.DU2ReferenceIdeal.τ).loc Cert.DU2ReferenceIdeal.main_arg0) = m ((c.tc : Thread Cert.DU2Ideal.nD Cert.DU2Ideal.τ).loc Cert.DU2Ideal.main_arg0)
      ∧ m' ((c.tc : Thread Cert.DU2ReferenceIdeal.nD Cert.DU2ReferenceIdeal.τ).loc Cert.DU2ReferenceIdeal.main_arg1) = m ((c.tc : Thread Cert.DU2Ideal.nD Cert.DU2Ideal.τ).loc Cert.DU2Ideal.main_arg1)) →
    ∃ (v0 : (c : Dev Cert.DU2Ideal.nD) → Buf (Elt Ideal) ((c.tc : Thread Cert.DU2Ideal.nD Cert.DU2Ideal.τ).loc Cert.DU2Ideal.main_v0)),
      θ_run (Cert.DU2Ideal.defs (F := Ideal)) (onTc (τ := Cert.DU2Ideal.τ) (Cert.DU2Ideal.main (F := Ideal))) ⟨m, fun _ => 0, g⟩ (fun r => ∀ c : Dev Cert.DU2Ideal.nD,
          r.2.mem ((c.tc : Thread Cert.DU2Ideal.nD Cert.DU2Ideal.τ).loc Cert.DU2Ideal.main_v0) = v0 c
          ∧ r.2.mem ((c.tc : Thread Cert.DU2Ideal.nD Cert.DU2Ideal.τ).loc Cert.DU2Ideal.main_arg0) = m ((c.tc : Thread Cert.DU2Ideal.nD Cert.DU2Ideal.τ).loc Cert.DU2Ideal.main_arg0)
          ∧ r.2.mem ((c.tc : Thread Cert.DU2Ideal.nD Cert.DU2Ideal.τ).loc Cert.DU2Ideal.main_arg1) = m ((c.tc : Thread Cert.DU2Ideal.nD Cert.DU2Ideal.τ).loc Cert.DU2Ideal.main_arg1))
      ∧ θ_run (Cert.DU2ReferenceIdeal.defs (F := Ideal)) (onTc (τ := Cert.DU2ReferenceIdeal.τ) (Cert.DU2ReferenceIdeal.main (F := Ideal))) ⟨m', fun _ => 0, g'⟩ (fun r => ∀ c : Dev Cert.DU2ReferenceIdeal.nD,
          r.2.mem ((c.tc : Thread Cert.DU2ReferenceIdeal.nD Cert.DU2ReferenceIdeal.τ).loc Cert.DU2ReferenceIdeal.main_v4) = v0 c
          ∧ r.2.mem ((c.tc : Thread Cert.DU2ReferenceIdeal.nD Cert.DU2ReferenceIdeal.τ).loc Cert.DU2ReferenceIdeal.main_arg0) = m' ((c.tc : Thread Cert.DU2ReferenceIdeal.nD Cert.DU2ReferenceIdeal.τ).loc Cert.DU2ReferenceIdeal.main_arg0)
          ∧ r.2.mem ((c.tc : Thread Cert.DU2ReferenceIdeal.nD Cert.DU2ReferenceIdeal.τ).loc Cert.DU2ReferenceIdeal.main_arg1) = m' ((c.tc : Thread Cert.DU2ReferenceIdeal.nD Cert.DU2ReferenceIdeal.τ).loc Cert.DU2ReferenceIdeal.main_arg1))

def preserves_FfnOut_FfnOutIdeal : Prop :=
  True

def algebraic_FfnOutIdeal_FfnOutReferenceIdeal [hFfnOutIdeal : Cert.FfnOutIdeal.Facts] [hFfnOutReferenceIdeal : Cert.FfnOutReferenceIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutReferenceIdeal.nD Cert.FfnOutReferenceIdeal.τ Cert.FfnOutReferenceIdeal.sig) → Buf (Elt Ideal) ℓ) (g' : Dev Cert.FfnOutReferenceIdeal.nD → PrngReg), Pre_FfnOutIdeal m →
    (∀ c : Dev Cert.FfnOutIdeal.nD,
      m' ((c.tc : Thread Cert.FfnOutReferenceIdeal.nD Cert.FfnOutReferenceIdeal.τ).loc Cert.FfnOutReferenceIdeal.main_arg0) = m ((c.tc : Thread Cert.FfnOutIdeal.nD Cert.FfnOutIdeal.τ).loc Cert.FfnOutIdeal.main_arg0)
      ∧ m' ((c.tc : Thread Cert.FfnOutReferenceIdeal.nD Cert.FfnOutReferenceIdeal.τ).loc Cert.FfnOutReferenceIdeal.main_arg1) = m ((c.tc : Thread Cert.FfnOutIdeal.nD Cert.FfnOutIdeal.τ).loc Cert.FfnOutIdeal.main_arg1)
      ∧ m' ((c.tc : Thread Cert.FfnOutReferenceIdeal.nD Cert.FfnOutReferenceIdeal.τ).loc Cert.FfnOutReferenceIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutReferenceIdeal.defs (F := Ideal)) (onTc (τ := Cert.FfnOutReferenceIdeal.τ) (Cert.FfnOutReferenceIdeal.main (F := Ideal))) ⟨m', fun _ => 0, g'⟩ (fun r => ∀ c : Dev Cert.FfnOutReferenceIdeal.nD,
          r.2.mem ((c.tc : Thread Cert.FfnOutReferenceIdeal.nD Cert.FfnOutReferenceIdeal.τ).loc Cert.FfnOutReferenceIdeal.main_v3) = v0 c
          ∧ r.2.mem ((c.tc : Thread Cert.FfnOutReferenceIdeal.nD Cert.FfnOutReferenceIdeal.τ).loc Cert.FfnOutReferenceIdeal.main_arg0) = m' ((c.tc : Thread Cert.FfnOutReferenceIdeal.nD Cert.FfnOutReferenceIdeal.τ).loc Cert.FfnOutReferenceIdeal.main_arg0)
          ∧ r.2.mem ((c.tc : Thread Cert.FfnOutReferenceIdeal.nD Cert.FfnOutReferenceIdeal.τ).loc Cert.FfnOutReferenceIdeal.main_arg1) = m' ((c.tc : Thread Cert.FfnOutReferenceIdeal.nD Cert.FfnOutReferenceIdeal.τ).loc Cert.FfnOutReferenceIdeal.main_arg1)
          ∧ r.2.mem ((c.tc : Thread Cert.FfnOutReferenceIdeal.nD Cert.FfnOutReferenceIdeal.τ).loc Cert.FfnOutReferenceIdeal.main_arg2) = m' ((c.tc : Thread Cert.FfnOutReferenceIdeal.nD Cert.FfnOutReferenceIdeal.τ).loc Cert.FfnOutReferenceIdeal.main_arg2))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v4) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwBranch_DwBranchIdeal : Prop :=
  True

def algebraic_DwBranchIdeal_DwBranchReferenceIdeal [hDwBranchIdeal : Cert.DwBranchIdeal.Facts] [hDwBranchReferenceIdeal : Cert.DwBranchReferenceIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchReferenceIdeal.nD Cert.DwBranchReferenceIdeal.τ Cert.DwBranchReferenceIdeal.sig) → Buf (Elt Ideal) ℓ) (g' : Dev Cert.DwBranchReferenceIdeal.nD → PrngReg), Pre_DwBranchIdeal m →
    (∀ c : Dev Cert.DwBranchIdeal.nD,
      m' ((c.tc : Thread Cert.DwBranchReferenceIdeal.nD Cert.DwBranchReferenceIdeal.τ).loc Cert.DwBranchReferenceIdeal.main_arg0) = m ((c.tc : Thread Cert.DwBranchIdeal.nD Cert.DwBranchIdeal.τ).loc Cert.DwBranchIdeal.main_arg0)
      ∧ m' ((c.tc : Thread Cert.DwBranchReferenceIdeal.nD Cert.DwBranchReferenceIdeal.τ).loc Cert.DwBranchReferenceIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v0)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v0) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchReferenceIdeal.defs (F := Ideal)) (onTc (τ := Cert.DwBranchReferenceIdeal.τ) (Cert.DwBranchReferenceIdeal.main (F := Ideal))) ⟨m', fun _ => 0, g'⟩ (fun r => ∀ c : Dev Cert.DwBranchReferenceIdeal.nD,
          r.2.mem ((c.tc : Thread Cert.DwBranchReferenceIdeal.nD Cert.DwBranchReferenceIdeal.τ).loc Cert.DwBranchReferenceIdeal.main_v5) = v0 c
          ∧ r.2.mem ((c.tc : Thread Cert.DwBranchReferenceIdeal.nD Cert.DwBranchReferenceIdeal.τ).loc Cert.DwBranchReferenceIdeal.main_arg0) = m' ((c.tc : Thread Cert.DwBranchReferenceIdeal.nD Cert.DwBranchReferenceIdeal.τ).loc Cert.DwBranchReferenceIdeal.main_arg0)
          ∧ r.2.mem ((c.tc : Thread Cert.DwBranchReferenceIdeal.nD Cert.DwBranchReferenceIdeal.τ).loc Cert.DwBranchReferenceIdeal.main_arg1) = m' ((c.tc : Thread Cert.DwBranchReferenceIdeal.nD Cert.DwBranchReferenceIdeal.τ).loc Cert.DwBranchReferenceIdeal.main_arg1))

def preserves_DwQUp_DwQUpIdeal : Prop :=
  True

def algebraic_DwQUpIdeal_DwQUpReferenceIdeal [hDwQUpIdeal : Cert.DwQUpIdeal.Facts] [hDwQUpReferenceIdeal : Cert.DwQUpReferenceIdeal.Facts] : Prop :=
  ∀ (m : (ℓ : Loc Cert.DwQUpIdeal.nD Cert.DwQUpIdeal.τ Cert.DwQUpIdeal.sig) → Buf (Elt Ideal) ℓ) (g : Dev Cert.DwQUpIdeal.nD → PrngReg)
    (m' : (ℓ : Loc Cert.DwQUpReferenceIdeal.nD Cert.DwQUpReferenceIdeal.τ Cert.DwQUpReferenceIdeal.sig) → Buf (Elt Ideal) ℓ) (g' : Dev Cert.DwQUpReferenceIdeal.nD → PrngReg), Pre_DwQUpIdeal m →
    (∀ c : Dev Cert.DwQUpIdeal.nD,
      m' ((c.tc : Thread Cert.DwQUpReferenceIdeal.nD Cert.DwQUpReferenceIdeal.τ).loc Cert.DwQUpReferenceIdeal.main_arg0) = m ((c.tc : Thread Cert.DwQUpIdeal.nD Cert.DwQUpIdeal.τ).loc Cert.DwQUpIdeal.main_arg0)
      ∧ m' ((c.tc : Thread Cert.DwQUpReferenceIdeal.nD Cert.DwQUpReferenceIdeal.τ).loc Cert.DwQUpReferenceIdeal.main_arg1) = m ((c.tc : Thread Cert.DwQUpIdeal.nD Cert.DwQUpIdeal.τ).loc Cert.DwQUpIdeal.main_arg1)) →
    ∃ (v0 : (c : Dev Cert.DwQUpIdeal.nD) → Buf (Elt Ideal) ((c.tc : Thread Cert.DwQUpIdeal.nD Cert.DwQUpIdeal.τ).loc Cert.DwQUpIdeal.main_v0)),
      θ_run (Cert.DwQUpIdeal.defs (F := Ideal)) (onTc (τ := Cert.DwQUpIdeal.τ) (Cert.DwQUpIdeal.main (F := Ideal))) ⟨m, fun _ => 0, g⟩ (fun r => ∀ c : Dev Cert.DwQUpIdeal.nD,
          r.2.mem ((c.tc : Thread Cert.DwQUpIdeal.nD Cert.DwQUpIdeal.τ).loc Cert.DwQUpIdeal.main_v0) = v0 c
          ∧ r.2.mem ((c.tc : Thread Cert.DwQUpIdeal.nD Cert.DwQUpIdeal.τ).loc Cert.DwQUpIdeal.main_arg0) = m ((c.tc : Thread Cert.DwQUpIdeal.nD Cert.DwQUpIdeal.τ).loc Cert.DwQUpIdeal.main_arg0)
          ∧ r.2.mem ((c.tc : Thread Cert.DwQUpIdeal.nD Cert.DwQUpIdeal.τ).loc Cert.DwQUpIdeal.main_arg1) = m ((c.tc : Thread Cert.DwQUpIdeal.nD Cert.DwQUpIdeal.τ).loc Cert.DwQUpIdeal.main_arg1))
      ∧ θ_run (Cert.DwQUpReferenceIdeal.defs (F := Ideal)) (onTc (τ := Cert.DwQUpReferenceIdeal.τ) (Cert.DwQUpReferenceIdeal.main (F := Ideal))) ⟨m', fun _ => 0, g'⟩ (fun r => ∀ c : Dev Cert.DwQUpReferenceIdeal.nD,
          r.2.mem ((c.tc : Thread Cert.DwQUpReferenceIdeal.nD Cert.DwQUpReferenceIdeal.τ).loc Cert.DwQUpReferenceIdeal.main_v5) = v0 c
          ∧ r.2.mem ((c.tc : Thread Cert.DwQUpReferenceIdeal.nD Cert.DwQUpReferenceIdeal.τ).loc Cert.DwQUpReferenceIdeal.main_arg0) = m' ((c.tc : Thread Cert.DwQUpReferenceIdeal.nD Cert.DwQUpReferenceIdeal.τ).loc Cert.DwQUpReferenceIdeal.main_arg0)
          ∧ r.2.mem ((c.tc : Thread Cert.DwQUpReferenceIdeal.nD Cert.DwQUpReferenceIdeal.τ).loc Cert.DwQUpReferenceIdeal.main_arg1) = m' ((c.tc : Thread Cert.DwQUpReferenceIdeal.nD Cert.DwQUpReferenceIdeal.τ).loc Cert.DwQUpReferenceIdeal.main_arg1))

def preserves_DwKvUp_DwKvUpIdeal : Prop :=
  True

def algebraic_DwKvUpIdeal_DwKvUpReferenceIdeal [hDwKvUpIdeal : Cert.DwKvUpIdeal.Facts] [hDwKvUpReferenceIdeal : Cert.DwKvUpReferenceIdeal.Facts] : Prop :=
  ∀ (m : (ℓ : Loc Cert.DwKvUpIdeal.nD Cert.DwKvUpIdeal.τ Cert.DwKvUpIdeal.sig) → Buf (Elt Ideal) ℓ) (g : Dev Cert.DwKvUpIdeal.nD → PrngReg)
    (m' : (ℓ : Loc Cert.DwKvUpReferenceIdeal.nD Cert.DwKvUpReferenceIdeal.τ Cert.DwKvUpReferenceIdeal.sig) → Buf (Elt Ideal) ℓ) (g' : Dev Cert.DwKvUpReferenceIdeal.nD → PrngReg), Pre_DwKvUpIdeal m →
    (∀ c : Dev Cert.DwKvUpIdeal.nD,
      m' ((c.tc : Thread Cert.DwKvUpReferenceIdeal.nD Cert.DwKvUpReferenceIdeal.τ).loc Cert.DwKvUpReferenceIdeal.main_arg0) = m ((c.tc : Thread Cert.DwKvUpIdeal.nD Cert.DwKvUpIdeal.τ).loc Cert.DwKvUpIdeal.main_arg0)
      ∧ m' ((c.tc : Thread Cert.DwKvUpReferenceIdeal.nD Cert.DwKvUpReferenceIdeal.τ).loc Cert.DwKvUpReferenceIdeal.main_arg1) = m ((c.tc : Thread Cert.DwKvUpIdeal.nD Cert.DwKvUpIdeal.τ).loc Cert.DwKvUpIdeal.main_arg1)) →
    ∃ (v0 : (c : Dev Cert.DwKvUpIdeal.nD) → Buf (Elt Ideal) ((c.tc : Thread Cert.DwKvUpIdeal.nD Cert.DwKvUpIdeal.τ).loc Cert.DwKvUpIdeal.main_v0)),
      θ_run (Cert.DwKvUpIdeal.defs (F := Ideal)) (onTc (τ := Cert.DwKvUpIdeal.τ) (Cert.DwKvUpIdeal.main (F := Ideal))) ⟨m, fun _ => 0, g⟩ (fun r => ∀ c : Dev Cert.DwKvUpIdeal.nD,
          r.2.mem ((c.tc : Thread Cert.DwKvUpIdeal.nD Cert.DwKvUpIdeal.τ).loc Cert.DwKvUpIdeal.main_v0) = v0 c
          ∧ r.2.mem ((c.tc : Thread Cert.DwKvUpIdeal.nD Cert.DwKvUpIdeal.τ).loc Cert.DwKvUpIdeal.main_arg0) = m ((c.tc : Thread Cert.DwKvUpIdeal.nD Cert.DwKvUpIdeal.τ).loc Cert.DwKvUpIdeal.main_arg0)
          ∧ r.2.mem ((c.tc : Thread Cert.DwKvUpIdeal.nD Cert.DwKvUpIdeal.τ).loc Cert.DwKvUpIdeal.main_arg1) = m ((c.tc : Thread Cert.DwKvUpIdeal.nD Cert.DwKvUpIdeal.τ).loc Cert.DwKvUpIdeal.main_arg1))
      ∧ θ_run (Cert.DwKvUpReferenceIdeal.defs (F := Ideal)) (onTc (τ := Cert.DwKvUpReferenceIdeal.τ) (Cert.DwKvUpReferenceIdeal.main (F := Ideal))) ⟨m', fun _ => 0, g'⟩ (fun r => ∀ c : Dev Cert.DwKvUpReferenceIdeal.nD,
          r.2.mem ((c.tc : Thread Cert.DwKvUpReferenceIdeal.nD Cert.DwKvUpReferenceIdeal.τ).loc Cert.DwKvUpReferenceIdeal.main_v5) = v0 c
          ∧ r.2.mem ((c.tc : Thread Cert.DwKvUpReferenceIdeal.nD Cert.DwKvUpReferenceIdeal.τ).loc Cert.DwKvUpReferenceIdeal.main_arg0) = m' ((c.tc : Thread Cert.DwKvUpReferenceIdeal.nD Cert.DwKvUpReferenceIdeal.τ).loc Cert.DwKvUpReferenceIdeal.main_arg0)
          ∧ r.2.mem ((c.tc : Thread Cert.DwKvUpReferenceIdeal.nD Cert.DwKvUpReferenceIdeal.τ).loc Cert.DwKvUpReferenceIdeal.main_arg1) = m' ((c.tc : Thread Cert.DwKvUpReferenceIdeal.nD Cert.DwKvUpReferenceIdeal.τ).loc Cert.DwKvUpReferenceIdeal.main_arg1))

def preserves_DwInHgrn_DwInHgrnIdeal : Prop :=
  True

def algebraic_DwInHgrnIdeal_DwInHgrnReferenceIdeal [hDwInHgrnIdeal : Cert.DwInHgrnIdeal.Facts] [hDwInHgrnReferenceIdeal : Cert.DwInHgrnReferenceIdeal.Facts] : Prop :=
  ∀ (m : (ℓ : Loc Cert.DwInHgrnIdeal.nD Cert.DwInHgrnIdeal.τ Cert.DwInHgrnIdeal.sig) → Buf (Elt Ideal) ℓ) (g : Dev Cert.DwInHgrnIdeal.nD → PrngReg)
    (m' : (ℓ : Loc Cert.DwInHgrnReferenceIdeal.nD Cert.DwInHgrnReferenceIdeal.τ Cert.DwInHgrnReferenceIdeal.sig) → Buf (Elt Ideal) ℓ) (g' : Dev Cert.DwInHgrnReferenceIdeal.nD → PrngReg), Pre_DwInHgrnIdeal m →
    (∀ c : Dev Cert.DwInHgrnIdeal.nD,
      m' ((c.tc : Thread Cert.DwInHgrnReferenceIdeal.nD Cert.DwInHgrnReferenceIdeal.τ).loc Cert.DwInHgrnReferenceIdeal.main_arg0) = m ((c.tc : Thread Cert.DwInHgrnIdeal.nD Cert.DwInHgrnIdeal.τ).loc Cert.DwInHgrnIdeal.main_arg0)
      ∧ m' ((c.tc : Thread Cert.DwInHgrnReferenceIdeal.nD Cert.DwInHgrnReferenceIdeal.τ).loc Cert.DwInHgrnReferenceIdeal.main_arg1) = m ((c.tc : Thread Cert.DwInHgrnIdeal.nD Cert.DwInHgrnIdeal.τ).loc Cert.DwInHgrnIdeal.main_arg1)) →
    ∃ (v0 : (c : Dev Cert.DwInHgrnIdeal.nD) → Buf (Elt Ideal) ((c.tc : Thread Cert.DwInHgrnIdeal.nD Cert.DwInHgrnIdeal.τ).loc Cert.DwInHgrnIdeal.main_v0)),
      θ_run (Cert.DwInHgrnIdeal.defs (F := Ideal)) (onTc (τ := Cert.DwInHgrnIdeal.τ) (Cert.DwInHgrnIdeal.main (F := Ideal))) ⟨m, fun _ => 0, g⟩ (fun r => ∀ c : Dev Cert.DwInHgrnIdeal.nD,
          r.2.mem ((c.tc : Thread Cert.DwInHgrnIdeal.nD Cert.DwInHgrnIdeal.τ).loc Cert.DwInHgrnIdeal.main_v0) = v0 c
          ∧ r.2.mem ((c.tc : Thread Cert.DwInHgrnIdeal.nD Cert.DwInHgrnIdeal.τ).loc Cert.DwInHgrnIdeal.main_arg0) = m ((c.tc : Thread Cert.DwInHgrnIdeal.nD Cert.DwInHgrnIdeal.τ).loc Cert.DwInHgrnIdeal.main_arg0)
          ∧ r.2.mem ((c.tc : Thread Cert.DwInHgrnIdeal.nD Cert.DwInHgrnIdeal.τ).loc Cert.DwInHgrnIdeal.main_arg1) = m ((c.tc : Thread Cert.DwInHgrnIdeal.nD Cert.DwInHgrnIdeal.τ).loc Cert.DwInHgrnIdeal.main_arg1))
      ∧ θ_run (Cert.DwInHgrnReferenceIdeal.defs (F := Ideal)) (onTc (τ := Cert.DwInHgrnReferenceIdeal.τ) (Cert.DwInHgrnReferenceIdeal.main (F := Ideal))) ⟨m', fun _ => 0, g'⟩ (fun r => ∀ c : Dev Cert.DwInHgrnReferenceIdeal.nD,
          r.2.mem ((c.tc : Thread Cert.DwInHgrnReferenceIdeal.nD Cert.DwInHgrnReferenceIdeal.τ).loc Cert.DwInHgrnReferenceIdeal.main_v5) = v0 c
          ∧ r.2.mem ((c.tc : Thread Cert.DwInHgrnReferenceIdeal.nD Cert.DwInHgrnReferenceIdeal.τ).loc Cert.DwInHgrnReferenceIdeal.main_arg0) = m' ((c.tc : Thread Cert.DwInHgrnReferenceIdeal.nD Cert.DwInHgrnReferenceIdeal.τ).loc Cert.DwInHgrnReferenceIdeal.main_arg0)
          ∧ r.2.mem ((c.tc : Thread Cert.DwInHgrnReferenceIdeal.nD Cert.DwInHgrnReferenceIdeal.τ).loc Cert.DwInHgrnReferenceIdeal.main_arg1) = m' ((c.tc : Thread Cert.DwInHgrnReferenceIdeal.nD Cert.DwInHgrnReferenceIdeal.τ).loc Cert.DwInHgrnReferenceIdeal.main_arg1))

def preserves_DwInGates_DwInGatesIdeal : Prop :=
  True

def algebraic_DwInGatesIdeal_DwInGatesReferenceIdeal [hDwInGatesIdeal : Cert.DwInGatesIdeal.Facts] [hDwInGatesReferenceIdeal : Cert.DwInGatesReferenceIdeal.Facts] : Prop :=
  ∀ (m : (ℓ : Loc Cert.DwInGatesIdeal.nD Cert.DwInGatesIdeal.τ Cert.DwInGatesIdeal.sig) → Buf (Elt Ideal) ℓ) (g : Dev Cert.DwInGatesIdeal.nD → PrngReg)
    (m' : (ℓ : Loc Cert.DwInGatesReferenceIdeal.nD Cert.DwInGatesReferenceIdeal.τ Cert.DwInGatesReferenceIdeal.sig) → Buf (Elt Ideal) ℓ) (g' : Dev Cert.DwInGatesReferenceIdeal.nD → PrngReg), Pre_DwInGatesIdeal m →
    (∀ c : Dev Cert.DwInGatesIdeal.nD,
      m' ((c.tc : Thread Cert.DwInGatesReferenceIdeal.nD Cert.DwInGatesReferenceIdeal.τ).loc Cert.DwInGatesReferenceIdeal.main_arg0) = m ((c.tc : Thread Cert.DwInGatesIdeal.nD Cert.DwInGatesIdeal.τ).loc Cert.DwInGatesIdeal.main_arg0)
      ∧ m' ((c.tc : Thread Cert.DwInGatesReferenceIdeal.nD Cert.DwInGatesReferenceIdeal.τ).loc Cert.DwInGatesReferenceIdeal.main_arg1) = m ((c.tc : Thread Cert.DwInGatesIdeal.nD Cert.DwInGatesIdeal.τ).loc Cert.DwInGatesIdeal.main_arg1)) →
    ∃ (v0 : (c : Dev Cert.DwInGatesIdeal.nD) → Buf (Elt Ideal) ((c.tc : Thread Cert.DwInGatesIdeal.nD Cert.DwInGatesIdeal.τ).loc Cert.DwInGatesIdeal.main_v0)),
      θ_run (Cert.DwInGatesIdeal.defs (F := Ideal)) (onTc (τ := Cert.DwInGatesIdeal.τ) (Cert.DwInGatesIdeal.main (F := Ideal))) ⟨m, fun _ => 0, g⟩ (fun r => ∀ c : Dev Cert.DwInGatesIdeal.nD,
          r.2.mem ((c.tc : Thread Cert.DwInGatesIdeal.nD Cert.DwInGatesIdeal.τ).loc Cert.DwInGatesIdeal.main_v0) = v0 c
          ∧ r.2.mem ((c.tc : Thread Cert.DwInGatesIdeal.nD Cert.DwInGatesIdeal.τ).loc Cert.DwInGatesIdeal.main_arg0) = m ((c.tc : Thread Cert.DwInGatesIdeal.nD Cert.DwInGatesIdeal.τ).loc Cert.DwInGatesIdeal.main_arg0)
          ∧ r.2.mem ((c.tc : Thread Cert.DwInGatesIdeal.nD Cert.DwInGatesIdeal.τ).loc Cert.DwInGatesIdeal.main_arg1) = m ((c.tc : Thread Cert.DwInGatesIdeal.nD Cert.DwInGatesIdeal.τ).loc Cert.DwInGatesIdeal.main_arg1))
      ∧ θ_run (Cert.DwInGatesReferenceIdeal.defs (F := Ideal)) (onTc (τ := Cert.DwInGatesReferenceIdeal.τ) (Cert.DwInGatesReferenceIdeal.main (F := Ideal))) ⟨m', fun _ => 0, g'⟩ (fun r => ∀ c : Dev Cert.DwInGatesReferenceIdeal.nD,
          r.2.mem ((c.tc : Thread Cert.DwInGatesReferenceIdeal.nD Cert.DwInGatesReferenceIdeal.τ).loc Cert.DwInGatesReferenceIdeal.main_v5) = v0 c
          ∧ r.2.mem ((c.tc : Thread Cert.DwInGatesReferenceIdeal.nD Cert.DwInGatesReferenceIdeal.τ).loc Cert.DwInGatesReferenceIdeal.main_arg0) = m' ((c.tc : Thread Cert.DwInGatesReferenceIdeal.nD Cert.DwInGatesReferenceIdeal.τ).loc Cert.DwInGatesReferenceIdeal.main_arg0)
          ∧ r.2.mem ((c.tc : Thread Cert.DwInGatesReferenceIdeal.nD Cert.DwInGatesReferenceIdeal.τ).loc Cert.DwInGatesReferenceIdeal.main_arg1) = m' ((c.tc : Thread Cert.DwInGatesReferenceIdeal.nD Cert.DwInGatesReferenceIdeal.τ).loc Cert.DwInGatesReferenceIdeal.main_arg1))

def preserves_DwInKrope_DwInKropeIdeal : Prop :=
  True

def algebraic_DwInKropeIdeal_DwInKropeReferenceIdeal [hDwInKropeIdeal : Cert.DwInKropeIdeal.Facts] [hDwInKropeReferenceIdeal : Cert.DwInKropeReferenceIdeal.Facts] : Prop :=
  ∀ (m : (ℓ : Loc Cert.DwInKropeIdeal.nD Cert.DwInKropeIdeal.τ Cert.DwInKropeIdeal.sig) → Buf (Elt Ideal) ℓ) (g : Dev Cert.DwInKropeIdeal.nD → PrngReg)
    (m' : (ℓ : Loc Cert.DwInKropeReferenceIdeal.nD Cert.DwInKropeReferenceIdeal.τ Cert.DwInKropeReferenceIdeal.sig) → Buf (Elt Ideal) ℓ) (g' : Dev Cert.DwInKropeReferenceIdeal.nD → PrngReg), Pre_DwInKropeIdeal m →
    (∀ c : Dev Cert.DwInKropeIdeal.nD,
      m' ((c.tc : Thread Cert.DwInKropeReferenceIdeal.nD Cert.DwInKropeReferenceIdeal.τ).loc Cert.DwInKropeReferenceIdeal.main_arg0) = m ((c.tc : Thread Cert.DwInKropeIdeal.nD Cert.DwInKropeIdeal.τ).loc Cert.DwInKropeIdeal.main_arg0)
      ∧ m' ((c.tc : Thread Cert.DwInKropeReferenceIdeal.nD Cert.DwInKropeReferenceIdeal.τ).loc Cert.DwInKropeReferenceIdeal.main_arg1) = m ((c.tc : Thread Cert.DwInKropeIdeal.nD Cert.DwInKropeIdeal.τ).loc Cert.DwInKropeIdeal.main_arg1)) →
    ∃ (v0 : (c : Dev Cert.DwInKropeIdeal.nD) → Buf (Elt Ideal) ((c.tc : Thread Cert.DwInKropeIdeal.nD Cert.DwInKropeIdeal.τ).loc Cert.DwInKropeIdeal.main_v0)),
      θ_run (Cert.DwInKropeIdeal.defs (F := Ideal)) (onTc (τ := Cert.DwInKropeIdeal.τ) (Cert.DwInKropeIdeal.main (F := Ideal))) ⟨m, fun _ => 0, g⟩ (fun r => ∀ c : Dev Cert.DwInKropeIdeal.nD,
          r.2.mem ((c.tc : Thread Cert.DwInKropeIdeal.nD Cert.DwInKropeIdeal.τ).loc Cert.DwInKropeIdeal.main_v0) = v0 c
          ∧ r.2.mem ((c.tc : Thread Cert.DwInKropeIdeal.nD Cert.DwInKropeIdeal.τ).loc Cert.DwInKropeIdeal.main_arg0) = m ((c.tc : Thread Cert.DwInKropeIdeal.nD Cert.DwInKropeIdeal.τ).loc Cert.DwInKropeIdeal.main_arg0)
          ∧ r.2.mem ((c.tc : Thread Cert.DwInKropeIdeal.nD Cert.DwInKropeIdeal.τ).loc Cert.DwInKropeIdeal.main_arg1) = m ((c.tc : Thread Cert.DwInKropeIdeal.nD Cert.DwInKropeIdeal.τ).loc Cert.DwInKropeIdeal.main_arg1))
      ∧ θ_run (Cert.DwInKropeReferenceIdeal.defs (F := Ideal)) (onTc (τ := Cert.DwInKropeReferenceIdeal.τ) (Cert.DwInKropeReferenceIdeal.main (F := Ideal))) ⟨m', fun _ => 0, g'⟩ (fun r => ∀ c : Dev Cert.DwInKropeReferenceIdeal.nD,
          r.2.mem ((c.tc : Thread Cert.DwInKropeReferenceIdeal.nD Cert.DwInKropeReferenceIdeal.τ).loc Cert.DwInKropeReferenceIdeal.main_v5) = v0 c
          ∧ r.2.mem ((c.tc : Thread Cert.DwInKropeReferenceIdeal.nD Cert.DwInKropeReferenceIdeal.τ).loc Cert.DwInKropeReferenceIdeal.main_arg0) = m' ((c.tc : Thread Cert.DwInKropeReferenceIdeal.nD Cert.DwInKropeReferenceIdeal.τ).loc Cert.DwInKropeReferenceIdeal.main_arg0)
          ∧ r.2.mem ((c.tc : Thread Cert.DwInKropeReferenceIdeal.nD Cert.DwInKropeReferenceIdeal.τ).loc Cert.DwInKropeReferenceIdeal.main_arg1) = m' ((c.tc : Thread Cert.DwInKropeReferenceIdeal.nD Cert.DwInKropeReferenceIdeal.τ).loc Cert.DwInKropeReferenceIdeal.main_arg1))

def preserves_DQn_DQnIdeal : Prop :=
  True

def algebraic_DQnIdeal_DQnReferenceIdeal [hDQnIdeal : Cert.DQnIdeal.Facts] [hDQnReferenceIdeal : Cert.DQnReferenceIdeal.Facts] : Prop :=
  ∀ (m : (ℓ : Loc Cert.DQnIdeal.nD Cert.DQnIdeal.τ Cert.DQnIdeal.sig) → Buf (Elt Ideal) ℓ) (g : Dev Cert.DQnIdeal.nD → PrngReg)
    (m' : (ℓ : Loc Cert.DQnReferenceIdeal.nD Cert.DQnReferenceIdeal.τ Cert.DQnReferenceIdeal.sig) → Buf (Elt Ideal) ℓ) (g' : Dev Cert.DQnReferenceIdeal.nD → PrngReg), Pre_DQnIdeal m →
    (∀ c : Dev Cert.DQnIdeal.nD,
      m' ((c.tc : Thread Cert.DQnReferenceIdeal.nD Cert.DQnReferenceIdeal.τ).loc Cert.DQnReferenceIdeal.main_arg0) = m ((c.tc : Thread Cert.DQnIdeal.nD Cert.DQnIdeal.τ).loc Cert.DQnIdeal.main_arg0)
      ∧ m' ((c.tc : Thread Cert.DQnReferenceIdeal.nD Cert.DQnReferenceIdeal.τ).loc Cert.DQnReferenceIdeal.main_arg1) = m ((c.tc : Thread Cert.DQnIdeal.nD Cert.DQnIdeal.τ).loc Cert.DQnIdeal.main_arg1)) →
    ∃ (v0 : (c : Dev Cert.DQnIdeal.nD) → Buf (Elt Ideal) ((c.tc : Thread Cert.DQnIdeal.nD Cert.DQnIdeal.τ).loc Cert.DQnIdeal.main_v0)),
      θ_run (Cert.DQnIdeal.defs (F := Ideal)) (onTc (τ := Cert.DQnIdeal.τ) (Cert.DQnIdeal.main (F := Ideal))) ⟨m, fun _ => 0, g⟩ (fun r => ∀ c : Dev Cert.DQnIdeal.nD,
          r.2.mem ((c.tc : Thread Cert.DQnIdeal.nD Cert.DQnIdeal.τ).loc Cert.DQnIdeal.main_v0) = v0 c
          ∧ r.2.mem ((c.tc : Thread Cert.DQnIdeal.nD Cert.DQnIdeal.τ).loc Cert.DQnIdeal.main_arg0) = m ((c.tc : Thread Cert.DQnIdeal.nD Cert.DQnIdeal.τ).loc Cert.DQnIdeal.main_arg0)
          ∧ r.2.mem ((c.tc : Thread Cert.DQnIdeal.nD Cert.DQnIdeal.τ).loc Cert.DQnIdeal.main_arg1) = m ((c.tc : Thread Cert.DQnIdeal.nD Cert.DQnIdeal.τ).loc Cert.DQnIdeal.main_arg1))
      ∧ θ_run (Cert.DQnReferenceIdeal.defs (F := Ideal)) (onTc (τ := Cert.DQnReferenceIdeal.τ) (Cert.DQnReferenceIdeal.main (F := Ideal))) ⟨m', fun _ => 0, g'⟩ (fun r => ∀ c : Dev Cert.DQnReferenceIdeal.nD,
          r.2.mem ((c.tc : Thread Cert.DQnReferenceIdeal.nD Cert.DQnReferenceIdeal.τ).loc Cert.DQnReferenceIdeal.main_v4) = v0 c
          ∧ r.2.mem ((c.tc : Thread Cert.DQnReferenceIdeal.nD Cert.DQnReferenceIdeal.τ).loc Cert.DQnReferenceIdeal.main_arg0) = m' ((c.tc : Thread Cert.DQnReferenceIdeal.nD Cert.DQnReferenceIdeal.τ).loc Cert.DQnReferenceIdeal.main_arg0)
          ∧ r.2.mem ((c.tc : Thread Cert.DQnReferenceIdeal.nD Cert.DQnReferenceIdeal.τ).loc Cert.DQnReferenceIdeal.main_arg1) = m' ((c.tc : Thread Cert.DQnReferenceIdeal.nD Cert.DQnReferenceIdeal.τ).loc Cert.DQnReferenceIdeal.main_arg1))

def preserves_DKvn_DKvnIdeal : Prop :=
  True

def algebraic_DKvnIdeal_DKvnReferenceIdeal [hDKvnIdeal : Cert.DKvnIdeal.Facts] [hDKvnReferenceIdeal : Cert.DKvnReferenceIdeal.Facts] : Prop :=
  ∀ (m : (ℓ : Loc Cert.DKvnIdeal.nD Cert.DKvnIdeal.τ Cert.DKvnIdeal.sig) → Buf (Elt Ideal) ℓ) (g : Dev Cert.DKvnIdeal.nD → PrngReg)
    (m' : (ℓ : Loc Cert.DKvnReferenceIdeal.nD Cert.DKvnReferenceIdeal.τ Cert.DKvnReferenceIdeal.sig) → Buf (Elt Ideal) ℓ) (g' : Dev Cert.DKvnReferenceIdeal.nD → PrngReg), Pre_DKvnIdeal m →
    (∀ c : Dev Cert.DKvnIdeal.nD,
      m' ((c.tc : Thread Cert.DKvnReferenceIdeal.nD Cert.DKvnReferenceIdeal.τ).loc Cert.DKvnReferenceIdeal.main_arg0) = m ((c.tc : Thread Cert.DKvnIdeal.nD Cert.DKvnIdeal.τ).loc Cert.DKvnIdeal.main_arg0)
      ∧ m' ((c.tc : Thread Cert.DKvnReferenceIdeal.nD Cert.DKvnReferenceIdeal.τ).loc Cert.DKvnReferenceIdeal.main_arg1) = m ((c.tc : Thread Cert.DKvnIdeal.nD Cert.DKvnIdeal.τ).loc Cert.DKvnIdeal.main_arg1)) →
    ∃ (v0 : (c : Dev Cert.DKvnIdeal.nD) → Buf (Elt Ideal) ((c.tc : Thread Cert.DKvnIdeal.nD Cert.DKvnIdeal.τ).loc Cert.DKvnIdeal.main_v0)),
      θ_run (Cert.DKvnIdeal.defs (F := Ideal)) (onTc (τ := Cert.DKvnIdeal.τ) (Cert.DKvnIdeal.main (F := Ideal))) ⟨m, fun _ => 0, g⟩ (fun r => ∀ c : Dev Cert.DKvnIdeal.nD,
          r.2.mem ((c.tc : Thread Cert.DKvnIdeal.nD Cert.DKvnIdeal.τ).loc Cert.DKvnIdeal.main_v0) = v0 c
          ∧ r.2.mem ((c.tc : Thread Cert.DKvnIdeal.nD Cert.DKvnIdeal.τ).loc Cert.DKvnIdeal.main_arg0) = m ((c.tc : Thread Cert.DKvnIdeal.nD Cert.DKvnIdeal.τ).loc Cert.DKvnIdeal.main_arg0)
          ∧ r.2.mem ((c.tc : Thread Cert.DKvnIdeal.nD Cert.DKvnIdeal.τ).loc Cert.DKvnIdeal.main_arg1) = m ((c.tc : Thread Cert.DKvnIdeal.nD Cert.DKvnIdeal.τ).loc Cert.DKvnIdeal.main_arg1))
      ∧ θ_run (Cert.DKvnReferenceIdeal.defs (F := Ideal)) (onTc (τ := Cert.DKvnReferenceIdeal.τ) (Cert.DKvnReferenceIdeal.main (F := Ideal))) ⟨m', fun _ => 0, g'⟩ (fun r => ∀ c : Dev Cert.DKvnReferenceIdeal.nD,
          r.2.mem ((c.tc : Thread Cert.DKvnReferenceIdeal.nD Cert.DKvnReferenceIdeal.τ).loc Cert.DKvnReferenceIdeal.main_v4) = v0 c
          ∧ r.2.mem ((c.tc : Thread Cert.DKvnReferenceIdeal.nD Cert.DKvnReferenceIdeal.τ).loc Cert.DKvnReferenceIdeal.main_arg0) = m' ((c.tc : Thread Cert.DKvnReferenceIdeal.nD Cert.DKvnReferenceIdeal.τ).loc Cert.DKvnReferenceIdeal.main_arg0)
          ∧ r.2.mem ((c.tc : Thread Cert.DKvnReferenceIdeal.nD Cert.DKvnReferenceIdeal.τ).loc Cert.DKvnReferenceIdeal.main_arg1) = m' ((c.tc : Thread Cert.DKvnReferenceIdeal.nD Cert.DKvnReferenceIdeal.τ).loc Cert.DKvnReferenceIdeal.main_arg1))

def preserves_DU1Lat_DU1LatIdeal : Prop :=
  True

def algebraic_DU1LatIdeal_DU1LatReferenceIdeal [hDU1LatIdeal : Cert.DU1LatIdeal.Facts] [hDU1LatReferenceIdeal : Cert.DU1LatReferenceIdeal.Facts] : Prop :=
  ∀ (m : (ℓ : Loc Cert.DU1LatIdeal.nD Cert.DU1LatIdeal.τ Cert.DU1LatIdeal.sig) → Buf (Elt Ideal) ℓ) (g : Dev Cert.DU1LatIdeal.nD → PrngReg)
    (m' : (ℓ : Loc Cert.DU1LatReferenceIdeal.nD Cert.DU1LatReferenceIdeal.τ Cert.DU1LatReferenceIdeal.sig) → Buf (Elt Ideal) ℓ) (g' : Dev Cert.DU1LatReferenceIdeal.nD → PrngReg), Pre_DU1LatIdeal m →
    (∀ c : Dev Cert.DU1LatIdeal.nD,
      m' ((c.tc : Thread Cert.DU1LatReferenceIdeal.nD Cert.DU1LatReferenceIdeal.τ).loc Cert.DU1LatReferenceIdeal.main_arg0) = m ((c.tc : Thread Cert.DU1LatIdeal.nD Cert.DU1LatIdeal.τ).loc Cert.DU1LatIdeal.main_arg0)
      ∧ m' ((c.tc : Thread Cert.DU1LatReferenceIdeal.nD Cert.DU1LatReferenceIdeal.τ).loc Cert.DU1LatReferenceIdeal.main_arg1) = m ((c.tc : Thread Cert.DU1LatIdeal.nD Cert.DU1LatIdeal.τ).loc Cert.DU1LatIdeal.main_arg1)) →
    ∃ (v0 : (c : Dev Cert.DU1LatIdeal.nD) → Buf (Elt Ideal) ((c.tc : Thread Cert.DU1LatIdeal.nD Cert.DU1LatIdeal.τ).loc Cert.DU1LatIdeal.main_v0)),
      θ_run (Cert.DU1LatIdeal.defs (F := Ideal)) (onTc (τ := Cert.DU1LatIdeal.τ) (Cert.DU1LatIdeal.main (F := Ideal))) ⟨m, fun _ => 0, g⟩ (fun r => ∀ c : Dev Cert.DU1LatIdeal.nD,
          r.2.mem ((c.tc : Thread Cert.DU1LatIdeal.nD Cert.DU1LatIdeal.τ).loc Cert.DU1LatIdeal.main_v0) = v0 c
          ∧ r.2.mem ((c.tc : Thread Cert.DU1LatIdeal.nD Cert.DU1LatIdeal.τ).loc Cert.DU1LatIdeal.main_arg0) = m ((c.tc : Thread Cert.DU1LatIdeal.nD Cert.DU1LatIdeal.τ).loc Cert.DU1LatIdeal.main_arg0)
          ∧ r.2.mem ((c.tc : Thread Cert.DU1LatIdeal.nD Cert.DU1LatIdeal.τ).loc Cert.DU1LatIdeal.main_arg1) = m ((c.tc : Thread Cert.DU1LatIdeal.nD Cert.DU1LatIdeal.τ).loc Cert.DU1LatIdeal.main_arg1))
      ∧ θ_run (Cert.DU1LatReferenceIdeal.defs (F := Ideal)) (onTc (τ := Cert.DU1LatReferenceIdeal.τ) (Cert.DU1LatReferenceIdeal.main (F := Ideal))) ⟨m', fun _ => 0, g'⟩ (fun r => ∀ c : Dev Cert.DU1LatReferenceIdeal.nD,
          r.2.mem ((c.tc : Thread Cert.DU1LatReferenceIdeal.nD Cert.DU1LatReferenceIdeal.τ).loc Cert.DU1LatReferenceIdeal.main_v4) = v0 c
          ∧ r.2.mem ((c.tc : Thread Cert.DU1LatReferenceIdeal.nD Cert.DU1LatReferenceIdeal.τ).loc Cert.DU1LatReferenceIdeal.main_arg0) = m' ((c.tc : Thread Cert.DU1LatReferenceIdeal.nD Cert.DU1LatReferenceIdeal.τ).loc Cert.DU1LatReferenceIdeal.main_arg0)
          ∧ r.2.mem ((c.tc : Thread Cert.DU1LatReferenceIdeal.nD Cert.DU1LatReferenceIdeal.τ).loc Cert.DU1LatReferenceIdeal.main_arg1) = m' ((c.tc : Thread Cert.DU1LatReferenceIdeal.nD Cert.DU1LatReferenceIdeal.τ).loc Cert.DU1LatReferenceIdeal.main_arg1))

def preserves_DU1Hgrn_DU1HgrnIdeal : Prop :=
  True

def algebraic_DU1HgrnIdeal_DU1HgrnReferenceIdeal [hDU1HgrnIdeal : Cert.DU1HgrnIdeal.Facts] [hDU1HgrnReferenceIdeal : Cert.DU1HgrnReferenceIdeal.Facts] : Prop :=
  ∀ (m : (ℓ : Loc Cert.DU1HgrnIdeal.nD Cert.DU1HgrnIdeal.τ Cert.DU1HgrnIdeal.sig) → Buf (Elt Ideal) ℓ) (g : Dev Cert.DU1HgrnIdeal.nD → PrngReg)
    (m' : (ℓ : Loc Cert.DU1HgrnReferenceIdeal.nD Cert.DU1HgrnReferenceIdeal.τ Cert.DU1HgrnReferenceIdeal.sig) → Buf (Elt Ideal) ℓ) (g' : Dev Cert.DU1HgrnReferenceIdeal.nD → PrngReg), Pre_DU1HgrnIdeal m →
    (∀ c : Dev Cert.DU1HgrnIdeal.nD,
      m' ((c.tc : Thread Cert.DU1HgrnReferenceIdeal.nD Cert.DU1HgrnReferenceIdeal.τ).loc Cert.DU1HgrnReferenceIdeal.main_arg0) = m ((c.tc : Thread Cert.DU1HgrnIdeal.nD Cert.DU1HgrnIdeal.τ).loc Cert.DU1HgrnIdeal.main_arg0)
      ∧ m' ((c.tc : Thread Cert.DU1HgrnReferenceIdeal.nD Cert.DU1HgrnReferenceIdeal.τ).loc Cert.DU1HgrnReferenceIdeal.main_arg1) = m ((c.tc : Thread Cert.DU1HgrnIdeal.nD Cert.DU1HgrnIdeal.τ).loc Cert.DU1HgrnIdeal.main_arg1)
      ∧ m' ((c.tc : Thread Cert.DU1HgrnReferenceIdeal.nD Cert.DU1HgrnReferenceIdeal.τ).loc Cert.DU1HgrnReferenceIdeal.main_arg2) = m ((c.tc : Thread Cert.DU1HgrnIdeal.nD Cert.DU1HgrnIdeal.τ).loc Cert.DU1HgrnIdeal.main_arg2)) →
    ∃ (v0 : (c : Dev Cert.DU1HgrnIdeal.nD) → Buf (Elt Ideal) ((c.tc : Thread Cert.DU1HgrnIdeal.nD Cert.DU1HgrnIdeal.τ).loc Cert.DU1HgrnIdeal.main_v0)),
      θ_run (Cert.DU1HgrnIdeal.defs (F := Ideal)) (onTc (τ := Cert.DU1HgrnIdeal.τ) (Cert.DU1HgrnIdeal.main (F := Ideal))) ⟨m, fun _ => 0, g⟩ (fun r => ∀ c : Dev Cert.DU1HgrnIdeal.nD,
          r.2.mem ((c.tc : Thread Cert.DU1HgrnIdeal.nD Cert.DU1HgrnIdeal.τ).loc Cert.DU1HgrnIdeal.main_v0) = v0 c
          ∧ r.2.mem ((c.tc : Thread Cert.DU1HgrnIdeal.nD Cert.DU1HgrnIdeal.τ).loc Cert.DU1HgrnIdeal.main_arg0) = m ((c.tc : Thread Cert.DU1HgrnIdeal.nD Cert.DU1HgrnIdeal.τ).loc Cert.DU1HgrnIdeal.main_arg0)
          ∧ r.2.mem ((c.tc : Thread Cert.DU1HgrnIdeal.nD Cert.DU1HgrnIdeal.τ).loc Cert.DU1HgrnIdeal.main_arg1) = m ((c.tc : Thread Cert.DU1HgrnIdeal.nD Cert.DU1HgrnIdeal.τ).loc Cert.DU1HgrnIdeal.main_arg1)
          ∧ r.2.mem ((c.tc : Thread Cert.DU1HgrnIdeal.nD Cert.DU1HgrnIdeal.τ).loc Cert.DU1HgrnIdeal.main_arg2) = m ((c.tc : Thread Cert.DU1HgrnIdeal.nD Cert.DU1HgrnIdeal.τ).loc Cert.DU1HgrnIdeal.main_arg2))
      ∧ θ_run (Cert.DU1HgrnReferenceIdeal.defs (F := Ideal)) (onTc (τ := Cert.DU1HgrnReferenceIdeal.τ) (Cert.DU1HgrnReferenceIdeal.main (F := Ideal))) ⟨m', fun _ => 0, g'⟩ (fun r => ∀ c : Dev Cert.DU1HgrnReferenceIdeal.nD,
          r.2.mem ((c.tc : Thread Cert.DU1HgrnReferenceIdeal.nD Cert.DU1HgrnReferenceIdeal.τ).loc Cert.DU1HgrnReferenceIdeal.main_v5) = v0 c
          ∧ r.2.mem ((c.tc : Thread Cert.DU1HgrnReferenceIdeal.nD Cert.DU1HgrnReferenceIdeal.τ).loc Cert.DU1HgrnReferenceIdeal.main_arg0) = m' ((c.tc : Thread Cert.DU1HgrnReferenceIdeal.nD Cert.DU1HgrnReferenceIdeal.τ).loc Cert.DU1HgrnReferenceIdeal.main_arg0)
          ∧ r.2.mem ((c.tc : Thread Cert.DU1HgrnReferenceIdeal.nD Cert.DU1HgrnReferenceIdeal.τ).loc Cert.DU1HgrnReferenceIdeal.main_arg1) = m' ((c.tc : Thread Cert.DU1HgrnReferenceIdeal.nD Cert.DU1HgrnReferenceIdeal.τ).loc Cert.DU1HgrnReferenceIdeal.main_arg1)
          ∧ r.2.mem ((c.tc : Thread Cert.DU1HgrnReferenceIdeal.nD Cert.DU1HgrnReferenceIdeal.τ).loc Cert.DU1HgrnReferenceIdeal.main_arg2) = m' ((c.tc : Thread Cert.DU1HgrnReferenceIdeal.nD Cert.DU1HgrnReferenceIdeal.τ).loc Cert.DU1HgrnReferenceIdeal.main_arg2))

def preserves_DU1Gates_DU1GatesIdeal : Prop :=
  True

def algebraic_DU1GatesIdeal_DU1GatesReferenceIdeal [hDU1GatesIdeal : Cert.DU1GatesIdeal.Facts] [hDU1GatesReferenceIdeal : Cert.DU1GatesReferenceIdeal.Facts] : Prop :=
  ∀ (m : (ℓ : Loc Cert.DU1GatesIdeal.nD Cert.DU1GatesIdeal.τ Cert.DU1GatesIdeal.sig) → Buf (Elt Ideal) ℓ) (g : Dev Cert.DU1GatesIdeal.nD → PrngReg)
    (m' : (ℓ : Loc Cert.DU1GatesReferenceIdeal.nD Cert.DU1GatesReferenceIdeal.τ Cert.DU1GatesReferenceIdeal.sig) → Buf (Elt Ideal) ℓ) (g' : Dev Cert.DU1GatesReferenceIdeal.nD → PrngReg), Pre_DU1GatesIdeal m →
    (∀ c : Dev Cert.DU1GatesIdeal.nD,
      m' ((c.tc : Thread Cert.DU1GatesReferenceIdeal.nD Cert.DU1GatesReferenceIdeal.τ).loc Cert.DU1GatesReferenceIdeal.main_arg0) = m ((c.tc : Thread Cert.DU1GatesIdeal.nD Cert.DU1GatesIdeal.τ).loc Cert.DU1GatesIdeal.main_arg0)
      ∧ m' ((c.tc : Thread Cert.DU1GatesReferenceIdeal.nD Cert.DU1GatesReferenceIdeal.τ).loc Cert.DU1GatesReferenceIdeal.main_arg1) = m ((c.tc : Thread Cert.DU1GatesIdeal.nD Cert.DU1GatesIdeal.τ).loc Cert.DU1GatesIdeal.main_arg1)
      ∧ m' ((c.tc : Thread Cert.DU1GatesReferenceIdeal.nD Cert.DU1GatesReferenceIdeal.τ).loc Cert.DU1GatesReferenceIdeal.main_arg2) = m ((c.tc : Thread Cert.DU1GatesIdeal.nD Cert.DU1GatesIdeal.τ).loc Cert.DU1GatesIdeal.main_arg2)) →
    ∃ (v0 : (c : Dev Cert.DU1GatesIdeal.nD) → Buf (Elt Ideal) ((c.tc : Thread Cert.DU1GatesIdeal.nD Cert.DU1GatesIdeal.τ).loc Cert.DU1GatesIdeal.main_v0)),
      θ_run (Cert.DU1GatesIdeal.defs (F := Ideal)) (onTc (τ := Cert.DU1GatesIdeal.τ) (Cert.DU1GatesIdeal.main (F := Ideal))) ⟨m, fun _ => 0, g⟩ (fun r => ∀ c : Dev Cert.DU1GatesIdeal.nD,
          r.2.mem ((c.tc : Thread Cert.DU1GatesIdeal.nD Cert.DU1GatesIdeal.τ).loc Cert.DU1GatesIdeal.main_v0) = v0 c
          ∧ r.2.mem ((c.tc : Thread Cert.DU1GatesIdeal.nD Cert.DU1GatesIdeal.τ).loc Cert.DU1GatesIdeal.main_arg0) = m ((c.tc : Thread Cert.DU1GatesIdeal.nD Cert.DU1GatesIdeal.τ).loc Cert.DU1GatesIdeal.main_arg0)
          ∧ r.2.mem ((c.tc : Thread Cert.DU1GatesIdeal.nD Cert.DU1GatesIdeal.τ).loc Cert.DU1GatesIdeal.main_arg1) = m ((c.tc : Thread Cert.DU1GatesIdeal.nD Cert.DU1GatesIdeal.τ).loc Cert.DU1GatesIdeal.main_arg1)
          ∧ r.2.mem ((c.tc : Thread Cert.DU1GatesIdeal.nD Cert.DU1GatesIdeal.τ).loc Cert.DU1GatesIdeal.main_arg2) = m ((c.tc : Thread Cert.DU1GatesIdeal.nD Cert.DU1GatesIdeal.τ).loc Cert.DU1GatesIdeal.main_arg2))
      ∧ θ_run (Cert.DU1GatesReferenceIdeal.defs (F := Ideal)) (onTc (τ := Cert.DU1GatesReferenceIdeal.τ) (Cert.DU1GatesReferenceIdeal.main (F := Ideal))) ⟨m', fun _ => 0, g'⟩ (fun r => ∀ c : Dev Cert.DU1GatesReferenceIdeal.nD,
          r.2.mem ((c.tc : Thread Cert.DU1GatesReferenceIdeal.nD Cert.DU1GatesReferenceIdeal.τ).loc Cert.DU1GatesReferenceIdeal.main_v5) = v0 c
          ∧ r.2.mem ((c.tc : Thread Cert.DU1GatesReferenceIdeal.nD Cert.DU1GatesReferenceIdeal.τ).loc Cert.DU1GatesReferenceIdeal.main_arg0) = m' ((c.tc : Thread Cert.DU1GatesReferenceIdeal.nD Cert.DU1GatesReferenceIdeal.τ).loc Cert.DU1GatesReferenceIdeal.main_arg0)
          ∧ r.2.mem ((c.tc : Thread Cert.DU1GatesReferenceIdeal.nD Cert.DU1GatesReferenceIdeal.τ).loc Cert.DU1GatesReferenceIdeal.main_arg1) = m' ((c.tc : Thread Cert.DU1GatesReferenceIdeal.nD Cert.DU1GatesReferenceIdeal.τ).loc Cert.DU1GatesReferenceIdeal.main_arg1)
          ∧ r.2.mem ((c.tc : Thread Cert.DU1GatesReferenceIdeal.nD Cert.DU1GatesReferenceIdeal.τ).loc Cert.DU1GatesReferenceIdeal.main_arg2) = m' ((c.tc : Thread Cert.DU1GatesReferenceIdeal.nD Cert.DU1GatesReferenceIdeal.τ).loc Cert.DU1GatesReferenceIdeal.main_arg2))

def preserves_DU1Krope_DU1KropeIdeal : Prop :=
  True

def algebraic_DU1KropeIdeal_DU1KropeReferenceIdeal [hDU1KropeIdeal : Cert.DU1KropeIdeal.Facts] [hDU1KropeReferenceIdeal : Cert.DU1KropeReferenceIdeal.Facts] : Prop :=
  ∀ (m : (ℓ : Loc Cert.DU1KropeIdeal.nD Cert.DU1KropeIdeal.τ Cert.DU1KropeIdeal.sig) → Buf (Elt Ideal) ℓ) (g : Dev Cert.DU1KropeIdeal.nD → PrngReg)
    (m' : (ℓ : Loc Cert.DU1KropeReferenceIdeal.nD Cert.DU1KropeReferenceIdeal.τ Cert.DU1KropeReferenceIdeal.sig) → Buf (Elt Ideal) ℓ) (g' : Dev Cert.DU1KropeReferenceIdeal.nD → PrngReg), Pre_DU1KropeIdeal m →
    (∀ c : Dev Cert.DU1KropeIdeal.nD,
      m' ((c.tc : Thread Cert.DU1KropeReferenceIdeal.nD Cert.DU1KropeReferenceIdeal.τ).loc Cert.DU1KropeReferenceIdeal.main_arg0) = m ((c.tc : Thread Cert.DU1KropeIdeal.nD Cert.DU1KropeIdeal.τ).loc Cert.DU1KropeIdeal.main_arg0)
      ∧ m' ((c.tc : Thread Cert.DU1KropeReferenceIdeal.nD Cert.DU1KropeReferenceIdeal.τ).loc Cert.DU1KropeReferenceIdeal.main_arg1) = m ((c.tc : Thread Cert.DU1KropeIdeal.nD Cert.DU1KropeIdeal.τ).loc Cert.DU1KropeIdeal.main_arg1)
      ∧ m' ((c.tc : Thread Cert.DU1KropeReferenceIdeal.nD Cert.DU1KropeReferenceIdeal.τ).loc Cert.DU1KropeReferenceIdeal.main_arg2) = m ((c.tc : Thread Cert.DU1KropeIdeal.nD Cert.DU1KropeIdeal.τ).loc Cert.DU1KropeIdeal.main_arg2)) →
    ∃ (v0 : (c : Dev Cert.DU1KropeIdeal.nD) → Buf (Elt Ideal) ((c.tc : Thread Cert.DU1KropeIdeal.nD Cert.DU1KropeIdeal.τ).loc Cert.DU1KropeIdeal.main_v0)),
      θ_run (Cert.DU1KropeIdeal.defs (F := Ideal)) (onTc (τ := Cert.DU1KropeIdeal.τ) (Cert.DU1KropeIdeal.main (F := Ideal))) ⟨m, fun _ => 0, g⟩ (fun r => ∀ c : Dev Cert.DU1KropeIdeal.nD,
          r.2.mem ((c.tc : Thread Cert.DU1KropeIdeal.nD Cert.DU1KropeIdeal.τ).loc Cert.DU1KropeIdeal.main_v0) = v0 c
          ∧ r.2.mem ((c.tc : Thread Cert.DU1KropeIdeal.nD Cert.DU1KropeIdeal.τ).loc Cert.DU1KropeIdeal.main_arg0) = m ((c.tc : Thread Cert.DU1KropeIdeal.nD Cert.DU1KropeIdeal.τ).loc Cert.DU1KropeIdeal.main_arg0)
          ∧ r.2.mem ((c.tc : Thread Cert.DU1KropeIdeal.nD Cert.DU1KropeIdeal.τ).loc Cert.DU1KropeIdeal.main_arg1) = m ((c.tc : Thread Cert.DU1KropeIdeal.nD Cert.DU1KropeIdeal.τ).loc Cert.DU1KropeIdeal.main_arg1)
          ∧ r.2.mem ((c.tc : Thread Cert.DU1KropeIdeal.nD Cert.DU1KropeIdeal.τ).loc Cert.DU1KropeIdeal.main_arg2) = m ((c.tc : Thread Cert.DU1KropeIdeal.nD Cert.DU1KropeIdeal.τ).loc Cert.DU1KropeIdeal.main_arg2))
      ∧ θ_run (Cert.DU1KropeReferenceIdeal.defs (F := Ideal)) (onTc (τ := Cert.DU1KropeReferenceIdeal.τ) (Cert.DU1KropeReferenceIdeal.main (F := Ideal))) ⟨m', fun _ => 0, g'⟩ (fun r => ∀ c : Dev Cert.DU1KropeReferenceIdeal.nD,
          r.2.mem ((c.tc : Thread Cert.DU1KropeReferenceIdeal.nD Cert.DU1KropeReferenceIdeal.τ).loc Cert.DU1KropeReferenceIdeal.main_v5) = v0 c
          ∧ r.2.mem ((c.tc : Thread Cert.DU1KropeReferenceIdeal.nD Cert.DU1KropeReferenceIdeal.τ).loc Cert.DU1KropeReferenceIdeal.main_arg0) = m' ((c.tc : Thread Cert.DU1KropeReferenceIdeal.nD Cert.DU1KropeReferenceIdeal.τ).loc Cert.DU1KropeReferenceIdeal.main_arg0)
          ∧ r.2.mem ((c.tc : Thread Cert.DU1KropeReferenceIdeal.nD Cert.DU1KropeReferenceIdeal.τ).loc Cert.DU1KropeReferenceIdeal.main_arg1) = m' ((c.tc : Thread Cert.DU1KropeReferenceIdeal.nD Cert.DU1KropeReferenceIdeal.τ).loc Cert.DU1KropeReferenceIdeal.main_arg1)
          ∧ r.2.mem ((c.tc : Thread Cert.DU1KropeReferenceIdeal.nD Cert.DU1KropeReferenceIdeal.τ).loc Cert.DU1KropeReferenceIdeal.main_arg2) = m' ((c.tc : Thread Cert.DU1KropeReferenceIdeal.nD Cert.DU1KropeReferenceIdeal.τ).loc Cert.DU1KropeReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3)) (v1 : (c : Dev Cert.MergeIdeal.nD) → Buf (Elt Ideal) ((c.tc : Thread Cert.MergeIdeal.nD Cert.MergeIdeal.τ).loc Cert.MergeIdeal.main_v6)) (v2 : (c : Dev Cert.MergeIdeal.nD) → Buf (Elt Ideal) ((c.tc : Thread Cert.MergeIdeal.nD Cert.MergeIdeal.τ).loc Cert.MergeIdeal.main_v7)) (v3 : (c : Dev Cert.MergeIdeal.nD) → Buf (Elt Ideal) ((c.tc : Thread Cert.MergeIdeal.nD Cert.MergeIdeal.τ).loc Cert.MergeIdeal.main_v5_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_v6) = v1 c
          ∧ r.2.mem ((c.tc : Thread Cert.MergeIdeal.nD Cert.MergeIdeal.τ).loc Cert.MergeIdeal.main_v7) = v2 c
          ∧ r.2.mem ((c.tc : Thread Cert.MergeIdeal.nD Cert.MergeIdeal.τ).loc Cert.MergeIdeal.main_v5_2) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v32) = v0 c
          ∧ r.2.mem ((c.tc : Thread Cert.MergeReferenceIdeal.nD Cert.MergeReferenceIdeal.τ).loc Cert.MergeReferenceIdeal.main_v43) = v1 c
          ∧ r.2.mem ((c.tc : Thread Cert.MergeReferenceIdeal.nD Cert.MergeReferenceIdeal.τ).loc Cert.MergeReferenceIdeal.main_v36) = v2 c
          ∧ r.2.mem ((c.tc : Thread Cert.MergeReferenceIdeal.nD Cert.MergeReferenceIdeal.τ).loc Cert.MergeReferenceIdeal.main_v44) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v0)) (v1 : (c : Dev Cert.ProjectIdeal.nD) → Buf (Elt Ideal) ((c.tc : Thread Cert.ProjectIdeal.nD Cert.ProjectIdeal.τ).loc Cert.ProjectIdeal.main_v1)) (v2 : (c : Dev Cert.ProjectIdeal.nD) → Buf (Elt Ideal) ((c.tc : Thread Cert.ProjectIdeal.nD Cert.ProjectIdeal.τ).loc Cert.ProjectIdeal.main_v2)) (v3 : (c : Dev Cert.ProjectIdeal.nD) → Buf (Elt Ideal) ((c.tc : Thread Cert.ProjectIdeal.nD Cert.ProjectIdeal.τ).loc Cert.ProjectIdeal.main_v3)) (v4 : (c : Dev Cert.ProjectIdeal.nD) → Buf (Elt Ideal) ((c.tc : Thread Cert.ProjectIdeal.nD Cert.ProjectIdeal.τ).loc Cert.ProjectIdeal.main_v5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_v1) = v1 c
          ∧ r.2.mem ((c.tc : Thread Cert.ProjectIdeal.nD Cert.ProjectIdeal.τ).loc Cert.ProjectIdeal.main_v2) = v2 c
          ∧ r.2.mem ((c.tc : Thread Cert.ProjectIdeal.nD Cert.ProjectIdeal.τ).loc Cert.ProjectIdeal.main_v3) = v3 c
          ∧ r.2.mem ((c.tc : Thread Cert.ProjectIdeal.nD Cert.ProjectIdeal.τ).loc Cert.ProjectIdeal.main_v5) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v23) = v0 c
          ∧ r.2.mem ((c.tc : Thread Cert.ProjectReferenceIdeal.nD Cert.ProjectReferenceIdeal.τ).loc Cert.ProjectReferenceIdeal.main_v24) = v1 c
          ∧ r.2.mem ((c.tc : Thread Cert.ProjectReferenceIdeal.nD Cert.ProjectReferenceIdeal.τ).loc Cert.ProjectReferenceIdeal.main_v26) = v2 c
          ∧ r.2.mem ((c.tc : Thread Cert.ProjectReferenceIdeal.nD Cert.ProjectReferenceIdeal.τ).loc Cert.ProjectReferenceIdeal.main_v27) = v3 c
          ∧ r.2.mem ((c.tc : Thread Cert.ProjectReferenceIdeal.nD Cert.ProjectReferenceIdeal.τ).loc Cert.ProjectReferenceIdeal.main_v28) = v4 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6))

def preserves_QUp_QUpIdeal : Prop :=
  True

def algebraic_QUpIdeal_QUpReferenceIdeal [hQUpIdeal : Cert.QUpIdeal.Facts] [hQUpReferenceIdeal : Cert.QUpReferenceIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpReferenceIdeal.nD Cert.QUpReferenceIdeal.τ Cert.QUpReferenceIdeal.sig) → Buf (Elt Ideal) ℓ) (g' : Dev Cert.QUpReferenceIdeal.nD → PrngReg), Pre_QUpIdeal m →
    (∀ c : Dev Cert.QUpIdeal.nD,
      m' ((c.tc : Thread Cert.QUpReferenceIdeal.nD Cert.QUpReferenceIdeal.τ).loc Cert.QUpReferenceIdeal.main_arg0) = m ((c.tc : Thread Cert.QUpIdeal.nD Cert.QUpIdeal.τ).loc Cert.QUpIdeal.main_arg0)
      ∧ m' ((c.tc : Thread Cert.QUpReferenceIdeal.nD Cert.QUpReferenceIdeal.τ).loc Cert.QUpReferenceIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpReferenceIdeal.defs (F := Ideal)) (onTc (τ := Cert.QUpReferenceIdeal.τ) (Cert.QUpReferenceIdeal.main (F := Ideal))) ⟨m', fun _ => 0, g'⟩ (fun r => ∀ c : Dev Cert.QUpReferenceIdeal.nD,
          r.2.mem ((c.tc : Thread Cert.QUpReferenceIdeal.nD Cert.QUpReferenceIdeal.τ).loc Cert.QUpReferenceIdeal.main_v3) = v0 c
          ∧ r.2.mem ((c.tc : Thread Cert.QUpReferenceIdeal.nD Cert.QUpReferenceIdeal.τ).loc Cert.QUpReferenceIdeal.main_arg0) = m' ((c.tc : Thread Cert.QUpReferenceIdeal.nD Cert.QUpReferenceIdeal.τ).loc Cert.QUpReferenceIdeal.main_arg0)
          ∧ r.2.mem ((c.tc : Thread Cert.QUpReferenceIdeal.nD Cert.QUpReferenceIdeal.τ).loc Cert.QUpReferenceIdeal.main_arg1) = m' ((c.tc : Thread Cert.QUpReferenceIdeal.nD Cert.QUpReferenceIdeal.τ).loc Cert.QUpReferenceIdeal.main_arg1))

def preserves_NormQ_NormQIdeal : Prop :=
  True

def algebraic_NormQIdeal_NormQReferenceIdeal [hNormQIdeal : Cert.NormQIdeal.Facts] [hNormQReferenceIdeal : Cert.NormQReferenceIdeal.Facts] : Prop :=
  ∀ (m : (ℓ : Loc Cert.NormQIdeal.nD Cert.NormQIdeal.τ Cert.NormQIdeal.sig) → Buf (Elt Ideal) ℓ) (g : Dev Cert.NormQIdeal.nD → PrngReg)
    (m' : (ℓ : Loc Cert.NormQReferenceIdeal.nD Cert.NormQReferenceIdeal.τ Cert.NormQReferenceIdeal.sig) → Buf (Elt Ideal) ℓ) (g' : Dev Cert.NormQReferenceIdeal.nD → PrngReg), Pre_NormQIdeal m →
    (∀ c : Dev Cert.NormQIdeal.nD,
      m' ((c.tc : Thread Cert.NormQReferenceIdeal.nD Cert.NormQReferenceIdeal.τ).loc Cert.NormQReferenceIdeal.main_arg0) = m ((c.tc : Thread Cert.NormQIdeal.nD Cert.NormQIdeal.τ).loc Cert.NormQIdeal.main_arg0)
      ∧ m' ((c.tc : Thread Cert.NormQReferenceIdeal.nD Cert.NormQReferenceIdeal.τ).loc Cert.NormQReferenceIdeal.main_arg1) = m ((c.tc : Thread Cert.NormQIdeal.nD Cert.NormQIdeal.τ).loc Cert.NormQIdeal.main_arg1)) →
    ∃ (v0 : (c : Dev Cert.NormQIdeal.nD) → Buf (Elt Ideal) ((c.tc : Thread Cert.NormQIdeal.nD Cert.NormQIdeal.τ).loc Cert.NormQIdeal.main_v0)),
      θ_run (Cert.NormQIdeal.defs (F := Ideal)) (onTc (τ := Cert.NormQIdeal.τ) (Cert.NormQIdeal.main (F := Ideal))) ⟨m, fun _ => 0, g⟩ (fun r => ∀ c : Dev Cert.NormQIdeal.nD,
          r.2.mem ((c.tc : Thread Cert.NormQIdeal.nD Cert.NormQIdeal.τ).loc Cert.NormQIdeal.main_v0) = v0 c
          ∧ r.2.mem ((c.tc : Thread Cert.NormQIdeal.nD Cert.NormQIdeal.τ).loc Cert.NormQIdeal.main_arg0) = m ((c.tc : Thread Cert.NormQIdeal.nD Cert.NormQIdeal.τ).loc Cert.NormQIdeal.main_arg0)
          ∧ r.2.mem ((c.tc : Thread Cert.NormQIdeal.nD Cert.NormQIdeal.τ).loc Cert.NormQIdeal.main_arg1) = m ((c.tc : Thread Cert.NormQIdeal.nD Cert.NormQIdeal.τ).loc Cert.NormQIdeal.main_arg1))
      ∧ θ_run (Cert.NormQReferenceIdeal.defs (F := Ideal)) (onTc (τ := Cert.NormQReferenceIdeal.τ) (Cert.NormQReferenceIdeal.main (F := Ideal))) ⟨m', fun _ => 0, g'⟩ (fun r => ∀ c : Dev Cert.NormQReferenceIdeal.nD,
          r.2.mem ((c.tc : Thread Cert.NormQReferenceIdeal.nD Cert.NormQReferenceIdeal.τ).loc Cert.NormQReferenceIdeal.main_v15) = v0 c
          ∧ r.2.mem ((c.tc : Thread Cert.NormQReferenceIdeal.nD Cert.NormQReferenceIdeal.τ).loc Cert.NormQReferenceIdeal.main_arg0) = m' ((c.tc : Thread Cert.NormQReferenceIdeal.nD Cert.NormQReferenceIdeal.τ).loc Cert.NormQReferenceIdeal.main_arg0)
          ∧ r.2.mem ((c.tc : Thread Cert.NormQReferenceIdeal.nD Cert.NormQReferenceIdeal.τ).loc Cert.NormQReferenceIdeal.main_arg1) = m' ((c.tc : Thread Cert.NormQReferenceIdeal.nD Cert.NormQReferenceIdeal.τ).loc Cert.NormQReferenceIdeal.main_arg1))

def preserves_Attn_AttnIdeal : Prop :=
  IdealRules.named_const.Statement Cert.AttnIdeal.κ "mask" .f32 0xF149F2CA#32 ⊥

def algebraic_AttnIdeal_AttnReferenceIdeal_pre_attn_finite [hAttnIdeal : Cert.AttnIdeal.Facts] [hAttnReferenceIdeal : Cert.AttnReferenceIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_attn_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v50) = v0 c
          ∧ r.2.mem ((c.tc : Thread Cert.AttnReferenceIdeal.nD Cert.AttnReferenceIdeal.τ).loc Cert.AttnReferenceIdeal.main_v51) = v1 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_Delta_DeltaIdeal : Prop :=
  True

def algebraic_DeltaIdeal_DeltaReferenceIdeal [hDeltaIdeal : Cert.DeltaIdeal.Facts] [hDeltaReferenceIdeal : Cert.DeltaReferenceIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaReferenceIdeal.nD Cert.DeltaReferenceIdeal.τ Cert.DeltaReferenceIdeal.sig) → Buf (Elt Ideal) ℓ) (g' : Dev Cert.DeltaReferenceIdeal.nD → PrngReg), Pre_DeltaIdeal m →
    (∀ c : Dev Cert.DeltaIdeal.nD,
      m' ((c.tc : Thread Cert.DeltaReferenceIdeal.nD Cert.DeltaReferenceIdeal.τ).loc Cert.DeltaReferenceIdeal.main_arg0) = m ((c.tc : Thread Cert.DeltaIdeal.nD Cert.DeltaIdeal.τ).loc Cert.DeltaIdeal.main_arg0)
      ∧ m' ((c.tc : Thread Cert.DeltaReferenceIdeal.nD Cert.DeltaReferenceIdeal.τ).loc Cert.DeltaReferenceIdeal.main_arg1) = m ((c.tc : Thread Cert.DeltaIdeal.nD Cert.DeltaIdeal.τ).loc Cert.DeltaIdeal.main_arg1)) →
    ∃ (v0 : (c : Dev Cert.DeltaIdeal.nD) → Buf (Elt Ideal) ((c.tc : Thread Cert.DeltaIdeal.nD Cert.DeltaIdeal.τ).loc Cert.DeltaIdeal.main_v0)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v0) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ θ_run (Cert.DeltaReferenceIdeal.defs (F := Ideal)) (onTc (τ := Cert.DeltaReferenceIdeal.τ) (Cert.DeltaReferenceIdeal.main (F := Ideal))) ⟨m', fun _ => 0, g'⟩ (fun r => ∀ c : Dev Cert.DeltaReferenceIdeal.nD,
          r.2.mem ((c.tc : Thread Cert.DeltaReferenceIdeal.nD Cert.DeltaReferenceIdeal.τ).loc Cert.DeltaReferenceIdeal.main_v8) = v0 c
          ∧ r.2.mem ((c.tc : Thread Cert.DeltaReferenceIdeal.nD Cert.DeltaReferenceIdeal.τ).loc Cert.DeltaReferenceIdeal.main_arg0) = m' ((c.tc : Thread Cert.DeltaReferenceIdeal.nD Cert.DeltaReferenceIdeal.τ).loc Cert.DeltaReferenceIdeal.main_arg0)
          ∧ r.2.mem ((c.tc : Thread Cert.DeltaReferenceIdeal.nD Cert.DeltaReferenceIdeal.τ).loc Cert.DeltaReferenceIdeal.main_arg1) = m' ((c.tc : Thread Cert.DeltaReferenceIdeal.nD Cert.DeltaReferenceIdeal.τ).loc Cert.DeltaReferenceIdeal.main_arg1))

def preserves_PairSum_PairSumIdeal : Prop :=
  True

def algebraic_PairSumIdeal_PairSumReferenceIdeal [hPairSumIdeal : Cert.PairSumIdeal.Facts] [hPairSumReferenceIdeal : Cert.PairSumReferenceIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumReferenceIdeal.nD Cert.PairSumReferenceIdeal.τ Cert.PairSumReferenceIdeal.sig) → Buf (Elt Ideal) ℓ) (g' : Dev Cert.PairSumReferenceIdeal.nD → PrngReg), Pre_PairSumIdeal m →
    (∀ c : Dev Cert.PairSumIdeal.nD,
      m' ((c.tc : Thread Cert.PairSumReferenceIdeal.nD Cert.PairSumReferenceIdeal.τ).loc Cert.PairSumReferenceIdeal.main_arg0) = m ((c.tc : Thread Cert.PairSumIdeal.nD Cert.PairSumIdeal.τ).loc Cert.PairSumIdeal.main_arg0)
      ∧ m' ((c.tc : Thread Cert.PairSumReferenceIdeal.nD Cert.PairSumReferenceIdeal.τ).loc Cert.PairSumReferenceIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumReferenceIdeal.defs (F := Ideal)) (onTc (τ := Cert.PairSumReferenceIdeal.τ) (Cert.PairSumReferenceIdeal.main (F := Ideal))) ⟨m', fun _ => 0, g'⟩ (fun r => ∀ c : Dev Cert.PairSumReferenceIdeal.nD,
          r.2.mem ((c.tc : Thread Cert.PairSumReferenceIdeal.nD Cert.PairSumReferenceIdeal.τ).loc Cert.PairSumReferenceIdeal.main_v3) = v0 c
          ∧ r.2.mem ((c.tc : Thread Cert.PairSumReferenceIdeal.nD Cert.PairSumReferenceIdeal.τ).loc Cert.PairSumReferenceIdeal.main_arg0) = m' ((c.tc : Thread Cert.PairSumReferenceIdeal.nD Cert.PairSumReferenceIdeal.τ).loc Cert.PairSumReferenceIdeal.main_arg0)
          ∧ r.2.mem ((c.tc : Thread Cert.PairSumReferenceIdeal.nD Cert.PairSumReferenceIdeal.τ).loc Cert.PairSumReferenceIdeal.main_arg1) = m' ((c.tc : Thread Cert.PairSumReferenceIdeal.nD Cert.PairSumReferenceIdeal.τ).loc Cert.PairSumReferenceIdeal.main_arg1))

def preserves_ChipSum_ChipSumIdeal : Prop :=
  True

def algebraic_ChipSumIdeal_ChipSumReferenceIdeal [hChipSumIdeal : Cert.ChipSumIdeal.Facts] [hChipSumReferenceIdeal : Cert.ChipSumReferenceIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumReferenceIdeal.nD Cert.ChipSumReferenceIdeal.τ Cert.ChipSumReferenceIdeal.sig) → Buf (Elt Ideal) ℓ) (g' : Dev Cert.ChipSumReferenceIdeal.nD → PrngReg), Pre_ChipSumIdeal m →
    (∀ c : Dev Cert.ChipSumIdeal.nD,
      m' ((c.tc : Thread Cert.ChipSumReferenceIdeal.nD Cert.ChipSumReferenceIdeal.τ).loc Cert.ChipSumReferenceIdeal.main_arg0) = m ((c.tc : Thread Cert.ChipSumIdeal.nD Cert.ChipSumIdeal.τ).loc Cert.ChipSumIdeal.main_arg0)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0))
      ∧ θ_run (Cert.ChipSumReferenceIdeal.defs (F := Ideal)) (onTc (τ := Cert.ChipSumReferenceIdeal.τ) (Cert.ChipSumReferenceIdeal.main (F := Ideal))) ⟨m', fun _ => 0, g'⟩ (fun r => ∀ c : Dev Cert.ChipSumReferenceIdeal.nD,
          r.2.mem ((c.tc : Thread Cert.ChipSumReferenceIdeal.nD Cert.ChipSumReferenceIdeal.τ).loc Cert.ChipSumReferenceIdeal.main_v1) = v0 c
          ∧ r.2.mem ((c.tc : Thread Cert.ChipSumReferenceIdeal.nD Cert.ChipSumReferenceIdeal.τ).loc Cert.ChipSumReferenceIdeal.main_arg0) = m' ((c.tc : Thread Cert.ChipSumReferenceIdeal.nD Cert.ChipSumReferenceIdeal.τ).loc Cert.ChipSumReferenceIdeal.main_arg0))

def preserves_Embed_EmbedIdeal : Prop :=
  True

def algebraic_EmbedIdeal_EmbedReferenceIdeal [hEmbedIdeal : Cert.EmbedIdeal.Facts] [hEmbedReferenceIdeal : Cert.EmbedReferenceIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedIdeal m →
    (∀ c : Dev Cert.EmbedIdeal.nD,
      m' ((c.tc : Thread Cert.EmbedReferenceIdeal.nD Cert.EmbedReferenceIdeal.τ).loc Cert.EmbedReferenceIdeal.main_arg0) = m ((c.tc : Thread Cert.EmbedIdeal.nD Cert.EmbedIdeal.τ).loc Cert.EmbedIdeal.main_arg0)
      ∧ m' ((c.tc : Thread Cert.EmbedReferenceIdeal.nD Cert.EmbedReferenceIdeal.τ).loc Cert.EmbedReferenceIdeal.main_arg1) = m ((c.tc : Thread Cert.EmbedIdeal.nD Cert.EmbedIdeal.τ).loc Cert.EmbedIdeal.main_arg1)
      ∧ m' ((c.tc : Thread Cert.EmbedReferenceIdeal.nD Cert.EmbedReferenceIdeal.τ).loc Cert.EmbedReferenceIdeal.main_arg2) = m ((c.tc : Thread Cert.EmbedIdeal.nD Cert.EmbedIdeal.τ).loc Cert.EmbedIdeal.main_arg2)) →
    ∃ (v0 : (c : Dev Cert.EmbedIdeal.nD) → Buf (Elt Ideal) ((c.tc : Thread Cert.EmbedIdeal.nD Cert.EmbedIdeal.τ).loc Cert.EmbedIdeal.main_v0_0)) (v1 : (c : Dev Cert.EmbedIdeal.nD) → Buf (Elt Ideal) ((c.tc : Thread Cert.EmbedIdeal.nD Cert.EmbedIdeal.τ).loc Cert.EmbedIdeal.main_v0_1)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v0_0) = v0 c
          ∧ r.2.mem ((c.tc : Thread Cert.EmbedIdeal.nD Cert.EmbedIdeal.τ).loc Cert.EmbedIdeal.main_v0_1) = v1 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v1) = v0 c
          ∧ r.2.mem ((c.tc : Thread Cert.EmbedReferenceIdeal.nD Cert.EmbedReferenceIdeal.τ).loc Cert.EmbedReferenceIdeal.main_v14) = v1 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1)
          ∧ r.2.mem ((c.tc : Thread Cert.EmbedReferenceIdeal.nD Cert.EmbedReferenceIdeal.τ).loc Cert.EmbedReferenceIdeal.main_arg2) = m' ((c.tc : Thread Cert.EmbedReferenceIdeal.nD Cert.EmbedReferenceIdeal.τ).loc Cert.EmbedReferenceIdeal.main_arg2))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)
      ∧ m' ((c.tc : Thread Cert.RopeReferenceIdeal.nD Cert.RopeReferenceIdeal.τ).loc Cert.RopeReferenceIdeal.main_arg3) = m ((c.tc : Thread Cert.RopeIdeal.nD Cert.RopeIdeal.τ).loc Cert.RopeIdeal.main_arg3)
      ∧ m' ((c.tc : Thread Cert.RopeReferenceIdeal.nD Cert.RopeReferenceIdeal.τ).loc Cert.RopeReferenceIdeal.main_arg4) = m ((c.tc : Thread Cert.RopeIdeal.nD Cert.RopeIdeal.τ).loc Cert.RopeIdeal.main_arg4)) →
    ∃ (v0 : (c : Dev Cert.RopeIdeal.nD) → Buf (Elt Ideal) ((c.tc : Thread Cert.RopeIdeal.nD Cert.RopeIdeal.τ).loc Cert.RopeIdeal.main_v3_0)) (v1 : (c : Dev Cert.RopeIdeal.nD) → Buf (Elt Ideal) ((c.tc : Thread Cert.RopeIdeal.nD Cert.RopeIdeal.τ).loc Cert.RopeIdeal.main_v3_1)) (v2 : (c : Dev Cert.RopeIdeal.nD) → Buf (Elt Ideal) ((c.tc : Thread Cert.RopeIdeal.nD Cert.RopeIdeal.τ).loc Cert.RopeIdeal.main_v3_2)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v3_0) = v0 c
          ∧ r.2.mem ((c.tc : Thread Cert.RopeIdeal.nD Cert.RopeIdeal.τ).loc Cert.RopeIdeal.main_v3_1) = v1 c
          ∧ r.2.mem ((c.tc : Thread Cert.RopeIdeal.nD Cert.RopeIdeal.τ).loc Cert.RopeIdeal.main_v3_2) = v2 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v37) = v0 c
          ∧ r.2.mem ((c.tc : Thread Cert.RopeReferenceIdeal.nD Cert.RopeReferenceIdeal.τ).loc Cert.RopeReferenceIdeal.main_v39) = v1 c
          ∧ r.2.mem ((c.tc : Thread Cert.RopeReferenceIdeal.nD Cert.RopeReferenceIdeal.τ).loc Cert.RopeReferenceIdeal.main_v41) = v2 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4))

def Claim : Prop :=
  ∃ (hKernel : Cert.Kernel.Facts) (hKernelIdeal : Cert.KernelIdeal.Facts) (hReferenceIdeal : Cert.ReferenceIdeal.Facts) (hDwFfnIn : Cert.DwFfnIn.Facts) (hDwFfnInIdeal : Cert.DwFfnInIdeal.Facts) (hDwFfnInReferenceIdeal : Cert.DwFfnInReferenceIdeal.Facts) (hDwFfnOut : Cert.DwFfnOut.Facts) (hDwFfnOutIdeal : Cert.DwFfnOutIdeal.Facts) (hDwFfnOutReferenceIdeal : Cert.DwFfnOutReferenceIdeal.Facts) (hDU2 : Cert.DU2.Facts) (hDU2Ideal : Cert.DU2Ideal.Facts) (hDU2ReferenceIdeal : Cert.DU2ReferenceIdeal.Facts) (hFfnOut : Cert.FfnOut.Facts) (hFfnOutIdeal : Cert.FfnOutIdeal.Facts) (hFfnOutReferenceIdeal : Cert.FfnOutReferenceIdeal.Facts) (hDwOut : Cert.DwOut.Facts) (hDwOutIdeal : Cert.DwOutIdeal.Facts) (hDwOutReferenceIdeal : Cert.DwOutReferenceIdeal.Facts) (hDwBranch : Cert.DwBranch.Facts) (hDwBranchIdeal : Cert.DwBranchIdeal.Facts) (hDwBranchReferenceIdeal : Cert.DwBranchReferenceIdeal.Facts) (hDwQUp : Cert.DwQUp.Facts) (hDwQUpIdeal : Cert.DwQUpIdeal.Facts) (hDwQUpReferenceIdeal : Cert.DwQUpReferenceIdeal.Facts) (hDwKvUp : Cert.DwKvUp.Facts) (hDwKvUpIdeal : Cert.DwKvUpIdeal.Facts) (hDwKvUpReferenceIdeal : Cert.DwKvUpReferenceIdeal.Facts) (hDwInHgrn : Cert.DwInHgrn.Facts) (hDwInHgrnIdeal : Cert.DwInHgrnIdeal.Facts) (hDwInHgrnReferenceIdeal : Cert.DwInHgrnReferenceIdeal.Facts) (hDwInGates : Cert.DwInGates.Facts) (hDwInGatesIdeal : Cert.DwInGatesIdeal.Facts) (hDwInGatesReferenceIdeal : Cert.DwInGatesReferenceIdeal.Facts) (hDwInKrope : Cert.DwInKrope.Facts) (hDwInKropeIdeal : Cert.DwInKropeIdeal.Facts) (hDwInKropeReferenceIdeal : Cert.DwInKropeReferenceIdeal.Facts) (hDQn : Cert.DQn.Facts) (hDQnIdeal : Cert.DQnIdeal.Facts) (hDQnReferenceIdeal : Cert.DQnReferenceIdeal.Facts) (hDKvn : Cert.DKvn.Facts) (hDKvnIdeal : Cert.DKvnIdeal.Facts) (hDKvnReferenceIdeal : Cert.DKvnReferenceIdeal.Facts) (hDU1Lat : Cert.DU1Lat.Facts) (hDU1LatIdeal : Cert.DU1LatIdeal.Facts) (hDU1LatReferenceIdeal : Cert.DU1LatReferenceIdeal.Facts) (hDU1Hgrn : Cert.DU1Hgrn.Facts) (hDU1HgrnIdeal : Cert.DU1HgrnIdeal.Facts) (hDU1HgrnReferenceIdeal : Cert.DU1HgrnReferenceIdeal.Facts) (hDU1Gates : Cert.DU1Gates.Facts) (hDU1GatesIdeal : Cert.DU1GatesIdeal.Facts) (hDU1GatesReferenceIdeal : Cert.DU1GatesReferenceIdeal.Facts) (hDU1Krope : Cert.DU1Krope.Facts) (hDU1KropeIdeal : Cert.DU1KropeIdeal.Facts) (hDU1KropeReferenceIdeal : Cert.DU1KropeReferenceIdeal.Facts) (hMerge : Cert.Merge.Facts) (hMergeIdeal : Cert.MergeIdeal.Facts) (hMergeReferenceIdeal : Cert.MergeReferenceIdeal.Facts) (hProject : Cert.Project.Facts) (hProjectIdeal : Cert.ProjectIdeal.Facts) (hProjectReferenceIdeal : Cert.ProjectReferenceIdeal.Facts) (hQUp : Cert.QUp.Facts) (hQUpIdeal : Cert.QUpIdeal.Facts) (hQUpReferenceIdeal : Cert.QUpReferenceIdeal.Facts) (hNormQ : Cert.NormQ.Facts) (hNormQIdeal : Cert.NormQIdeal.Facts) (hNormQReferenceIdeal : Cert.NormQReferenceIdeal.Facts) (hAttn : Cert.Attn.Facts) (hAttnIdeal : Cert.AttnIdeal.Facts) (hAttnReferenceIdeal : Cert.AttnReferenceIdeal.Facts) (hDelta : Cert.Delta.Facts) (hDeltaIdeal : Cert.DeltaIdeal.Facts) (hDeltaReferenceIdeal : Cert.DeltaReferenceIdeal.Facts) (hPairSum : Cert.PairSum.Facts) (hPairSumIdeal : Cert.PairSumIdeal.Facts) (hPairSumReferenceIdeal : Cert.PairSumReferenceIdeal.Facts) (hChipSum : Cert.ChipSum.Facts) (hChipSumIdeal : Cert.ChipSumIdeal.Facts) (hChipSumReferenceIdeal : Cert.ChipSumReferenceIdeal.Facts) (hEmbed : Cert.Embed.Facts) (hEmbedIdeal : Cert.EmbedIdeal.Facts) (hEmbedReferenceIdeal : Cert.EmbedReferenceIdeal.Facts) (hRope : Cert.Rope.Facts) (hRopeIdeal : Cert.RopeIdeal.Facts) (hRopeReferenceIdeal : Cert.RopeReferenceIdeal.Facts) (hPre_finite : Cert.Pre_finite.Facts) (hPre_attn_schedule : Cert.Pre_attn_schedule.Facts) (hPre_attn_finite : Cert.Pre_attn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwFfnIn (hDwFfnIn := hDwFfnIn)
    ∧ quiescent_DwFfnInIdeal (hDwFfnInIdeal := hDwFfnInIdeal)
    ∧ quiescent_DwFfnInReferenceIdeal (hDwFfnInReferenceIdeal := hDwFfnInReferenceIdeal)
    ∧ quiescent_DwFfnOut (hDwFfnOut := hDwFfnOut)
    ∧ quiescent_DwFfnOutIdeal (hDwFfnOutIdeal := hDwFfnOutIdeal)
    ∧ quiescent_DwFfnOutReferenceIdeal (hDwFfnOutReferenceIdeal := hDwFfnOutReferenceIdeal)
    ∧ quiescent_DU2 (hDU2 := hDU2)
    ∧ quiescent_DU2Ideal (hDU2Ideal := hDU2Ideal)
    ∧ quiescent_DU2ReferenceIdeal (hDU2ReferenceIdeal := hDU2ReferenceIdeal)
    ∧ quiescent_FfnOut (hFfnOut := hFfnOut)
    ∧ quiescent_FfnOutIdeal (hFfnOutIdeal := hFfnOutIdeal)
    ∧ quiescent_FfnOutReferenceIdeal (hFfnOutReferenceIdeal := hFfnOutReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwBranch (hDwBranch := hDwBranch)
    ∧ quiescent_DwBranchIdeal (hDwBranchIdeal := hDwBranchIdeal)
    ∧ quiescent_DwBranchReferenceIdeal (hDwBranchReferenceIdeal := hDwBranchReferenceIdeal)
    ∧ quiescent_DwQUp (hDwQUp := hDwQUp)
    ∧ quiescent_DwQUpIdeal (hDwQUpIdeal := hDwQUpIdeal)
    ∧ quiescent_DwQUpReferenceIdeal (hDwQUpReferenceIdeal := hDwQUpReferenceIdeal)
    ∧ quiescent_DwKvUp (hDwKvUp := hDwKvUp)
    ∧ quiescent_DwKvUpIdeal (hDwKvUpIdeal := hDwKvUpIdeal)
    ∧ quiescent_DwKvUpReferenceIdeal (hDwKvUpReferenceIdeal := hDwKvUpReferenceIdeal)
    ∧ quiescent_DwInHgrn (hDwInHgrn := hDwInHgrn)
    ∧ quiescent_DwInHgrnIdeal (hDwInHgrnIdeal := hDwInHgrnIdeal)
    ∧ quiescent_DwInHgrnReferenceIdeal (hDwInHgrnReferenceIdeal := hDwInHgrnReferenceIdeal)
    ∧ quiescent_DwInGates (hDwInGates := hDwInGates)
    ∧ quiescent_DwInGatesIdeal (hDwInGatesIdeal := hDwInGatesIdeal)
    ∧ quiescent_DwInGatesReferenceIdeal (hDwInGatesReferenceIdeal := hDwInGatesReferenceIdeal)
    ∧ quiescent_DwInKrope (hDwInKrope := hDwInKrope)
    ∧ quiescent_DwInKropeIdeal (hDwInKropeIdeal := hDwInKropeIdeal)
    ∧ quiescent_DwInKropeReferenceIdeal (hDwInKropeReferenceIdeal := hDwInKropeReferenceIdeal)
    ∧ quiescent_DQn (hDQn := hDQn)
    ∧ quiescent_DQnIdeal (hDQnIdeal := hDQnIdeal)
    ∧ quiescent_DQnReferenceIdeal (hDQnReferenceIdeal := hDQnReferenceIdeal)
    ∧ quiescent_DKvn (hDKvn := hDKvn)
    ∧ quiescent_DKvnIdeal (hDKvnIdeal := hDKvnIdeal)
    ∧ quiescent_DKvnReferenceIdeal (hDKvnReferenceIdeal := hDKvnReferenceIdeal)
    ∧ quiescent_DU1Lat (hDU1Lat := hDU1Lat)
    ∧ quiescent_DU1LatIdeal (hDU1LatIdeal := hDU1LatIdeal)
    ∧ quiescent_DU1LatReferenceIdeal (hDU1LatReferenceIdeal := hDU1LatReferenceIdeal)
    ∧ quiescent_DU1Hgrn (hDU1Hgrn := hDU1Hgrn)
    ∧ quiescent_DU1HgrnIdeal (hDU1HgrnIdeal := hDU1HgrnIdeal)
    ∧ quiescent_DU1HgrnReferenceIdeal (hDU1HgrnReferenceIdeal := hDU1HgrnReferenceIdeal)
    ∧ quiescent_DU1Gates (hDU1Gates := hDU1Gates)
    ∧ quiescent_DU1GatesIdeal (hDU1GatesIdeal := hDU1GatesIdeal)
    ∧ quiescent_DU1GatesReferenceIdeal (hDU1GatesReferenceIdeal := hDU1GatesReferenceIdeal)
    ∧ quiescent_DU1Krope (hDU1Krope := hDU1Krope)
    ∧ quiescent_DU1KropeIdeal (hDU1KropeIdeal := hDU1KropeIdeal)
    ∧ quiescent_DU1KropeReferenceIdeal (hDU1KropeReferenceIdeal := hDU1KropeReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_QUp (hQUp := hQUp)
    ∧ quiescent_QUpIdeal (hQUpIdeal := hQUpIdeal)
    ∧ quiescent_QUpReferenceIdeal (hQUpReferenceIdeal := hQUpReferenceIdeal)
    ∧ quiescent_NormQ (hNormQ := hNormQ)
    ∧ quiescent_NormQIdeal (hNormQIdeal := hNormQIdeal)
    ∧ quiescent_NormQReferenceIdeal (hNormQReferenceIdeal := hNormQReferenceIdeal)
    ∧ quiescent_Attn (hAttn := hAttn) (hPre_attn_schedule := hPre_attn_schedule)
    ∧ quiescent_AttnIdeal (hAttnIdeal := hAttnIdeal) (hPre_attn_schedule := hPre_attn_schedule)
    ∧ quiescent_AttnIdeal_pre_attn_finite (hAttnIdeal := hAttnIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_Delta (hDelta := hDelta)
    ∧ quiescent_DeltaIdeal (hDeltaIdeal := hDeltaIdeal)
    ∧ quiescent_DeltaReferenceIdeal (hDeltaReferenceIdeal := hDeltaReferenceIdeal)
    ∧ quiescent_PairSum (hPairSum := hPairSum)
    ∧ quiescent_PairSumIdeal (hPairSumIdeal := hPairSumIdeal)
    ∧ quiescent_PairSumReferenceIdeal (hPairSumReferenceIdeal := hPairSumReferenceIdeal)
    ∧ quiescent_ChipSum (hChipSum := hChipSum)
    ∧ quiescent_ChipSumIdeal (hChipSumIdeal := hChipSumIdeal)
    ∧ quiescent_ChipSumReferenceIdeal (hChipSumReferenceIdeal := hChipSumReferenceIdeal)
    ∧ quiescent_Embed (hEmbed := hEmbed)
    ∧ quiescent_EmbedIdeal (hEmbedIdeal := hEmbedIdeal)
    ∧ quiescent_EmbedReferenceIdeal (hEmbedReferenceIdeal := hEmbedReferenceIdeal)
    ∧ quiescent_Rope (hRope := hRope)
    ∧ quiescent_RopeIdeal (hRopeIdeal := hRopeIdeal)
    ∧ quiescent_RopeReferenceIdeal (hRopeReferenceIdeal := hRopeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwFfnIn_DwFfnInIdeal
    ∧ algebraic_DwFfnInIdeal_DwFfnInReferenceIdeal (hDwFfnInIdeal := hDwFfnInIdeal) (hDwFfnInReferenceIdeal := hDwFfnInReferenceIdeal)
    ∧ preserves_DwFfnOut_DwFfnOutIdeal
    ∧ algebraic_DwFfnOutIdeal_DwFfnOutReferenceIdeal (hDwFfnOutIdeal := hDwFfnOutIdeal) (hDwFfnOutReferenceIdeal := hDwFfnOutReferenceIdeal)
    ∧ preserves_DU2_DU2Ideal
    ∧ algebraic_DU2Ideal_DU2ReferenceIdeal (hDU2Ideal := hDU2Ideal) (hDU2ReferenceIdeal := hDU2ReferenceIdeal)
    ∧ preserves_FfnOut_FfnOutIdeal
    ∧ algebraic_FfnOutIdeal_FfnOutReferenceIdeal (hFfnOutIdeal := hFfnOutIdeal) (hFfnOutReferenceIdeal := hFfnOutReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwBranch_DwBranchIdeal
    ∧ algebraic_DwBranchIdeal_DwBranchReferenceIdeal (hDwBranchIdeal := hDwBranchIdeal) (hDwBranchReferenceIdeal := hDwBranchReferenceIdeal)
    ∧ preserves_DwQUp_DwQUpIdeal
    ∧ algebraic_DwQUpIdeal_DwQUpReferenceIdeal (hDwQUpIdeal := hDwQUpIdeal) (hDwQUpReferenceIdeal := hDwQUpReferenceIdeal)
    ∧ preserves_DwKvUp_DwKvUpIdeal
    ∧ algebraic_DwKvUpIdeal_DwKvUpReferenceIdeal (hDwKvUpIdeal := hDwKvUpIdeal) (hDwKvUpReferenceIdeal := hDwKvUpReferenceIdeal)
    ∧ preserves_DwInHgrn_DwInHgrnIdeal
    ∧ algebraic_DwInHgrnIdeal_DwInHgrnReferenceIdeal (hDwInHgrnIdeal := hDwInHgrnIdeal) (hDwInHgrnReferenceIdeal := hDwInHgrnReferenceIdeal)
    ∧ preserves_DwInGates_DwInGatesIdeal
    ∧ algebraic_DwInGatesIdeal_DwInGatesReferenceIdeal (hDwInGatesIdeal := hDwInGatesIdeal) (hDwInGatesReferenceIdeal := hDwInGatesReferenceIdeal)
    ∧ preserves_DwInKrope_DwInKropeIdeal
    ∧ algebraic_DwInKropeIdeal_DwInKropeReferenceIdeal (hDwInKropeIdeal := hDwInKropeIdeal) (hDwInKropeReferenceIdeal := hDwInKropeReferenceIdeal)
    ∧ preserves_DQn_DQnIdeal
    ∧ algebraic_DQnIdeal_DQnReferenceIdeal (hDQnIdeal := hDQnIdeal) (hDQnReferenceIdeal := hDQnReferenceIdeal)
    ∧ preserves_DKvn_DKvnIdeal
    ∧ algebraic_DKvnIdeal_DKvnReferenceIdeal (hDKvnIdeal := hDKvnIdeal) (hDKvnReferenceIdeal := hDKvnReferenceIdeal)
    ∧ preserves_DU1Lat_DU1LatIdeal
    ∧ algebraic_DU1LatIdeal_DU1LatReferenceIdeal (hDU1LatIdeal := hDU1LatIdeal) (hDU1LatReferenceIdeal := hDU1LatReferenceIdeal)
    ∧ preserves_DU1Hgrn_DU1HgrnIdeal
    ∧ algebraic_DU1HgrnIdeal_DU1HgrnReferenceIdeal (hDU1HgrnIdeal := hDU1HgrnIdeal) (hDU1HgrnReferenceIdeal := hDU1HgrnReferenceIdeal)
    ∧ preserves_DU1Gates_DU1GatesIdeal
    ∧ algebraic_DU1GatesIdeal_DU1GatesReferenceIdeal (hDU1GatesIdeal := hDU1GatesIdeal) (hDU1GatesReferenceIdeal := hDU1GatesReferenceIdeal)
    ∧ preserves_DU1Krope_DU1KropeIdeal
    ∧ algebraic_DU1KropeIdeal_DU1KropeReferenceIdeal (hDU1KropeIdeal := hDU1KropeIdeal) (hDU1KropeReferenceIdeal := hDU1KropeReferenceIdeal)
    ∧ preserves_Merge_MergeIdeal
    ∧ algebraic_MergeIdeal_MergeReferenceIdeal (hMergeIdeal := hMergeIdeal) (hMergeReferenceIdeal := hMergeReferenceIdeal)
    ∧ preserves_Project_ProjectIdeal
    ∧ algebraic_ProjectIdeal_ProjectReferenceIdeal (hProjectIdeal := hProjectIdeal) (hProjectReferenceIdeal := hProjectReferenceIdeal)
    ∧ preserves_QUp_QUpIdeal
    ∧ algebraic_QUpIdeal_QUpReferenceIdeal (hQUpIdeal := hQUpIdeal) (hQUpReferenceIdeal := hQUpReferenceIdeal)
    ∧ preserves_NormQ_NormQIdeal
    ∧ algebraic_NormQIdeal_NormQReferenceIdeal (hNormQIdeal := hNormQIdeal) (hNormQReferenceIdeal := hNormQReferenceIdeal)
    ∧ preserves_Attn_AttnIdeal
    ∧ algebraic_AttnIdeal_AttnReferenceIdeal_pre_attn_finite (hAttnIdeal := hAttnIdeal) (hAttnReferenceIdeal := hAttnReferenceIdeal) (hPre_attn_finite := hPre_attn_finite)
    ∧ preserves_Delta_DeltaIdeal
    ∧ algebraic_DeltaIdeal_DeltaReferenceIdeal (hDeltaIdeal := hDeltaIdeal) (hDeltaReferenceIdeal := hDeltaReferenceIdeal)
    ∧ preserves_PairSum_PairSumIdeal
    ∧ algebraic_PairSumIdeal_PairSumReferenceIdeal (hPairSumIdeal := hPairSumIdeal) (hPairSumReferenceIdeal := hPairSumReferenceIdeal)
    ∧ preserves_ChipSum_ChipSumIdeal
    ∧ algebraic_ChipSumIdeal_ChipSumReferenceIdeal (hChipSumIdeal := hChipSumIdeal) (hChipSumReferenceIdeal := hChipSumReferenceIdeal)
    ∧ preserves_Embed_EmbedIdeal
    ∧ algebraic_EmbedIdeal_EmbedReferenceIdeal (hEmbedIdeal := hEmbedIdeal) (hEmbedReferenceIdeal := hEmbedReferenceIdeal)
    ∧ preserves_Rope_RopeIdeal
    ∧ algebraic_RopeIdeal_RopeReferenceIdeal (hRopeIdeal := hRopeIdeal) (hRopeReferenceIdeal := hRopeReferenceIdeal)
-- ==== Pre_attn_finite.lean ====
abbrev S91 : Shape := ⟨1, ![91]⟩
abbrev S8320x4096 : Shape := ⟨2, ![8320, 4096]⟩
abbrev S8320x2048 : Shape := ⟨2, ![8320, 2048]⟩
abbrev S_ : Shape := ⟨0, ![]⟩

class Facts : Prop where
  reducesTo_S91_S_d0 : S91.ReducesTo [0] S_
  h_S_ : 0 < S_.numel
  bitsLt_bf16_f32 : FTy.bits .bf16 < FTy.bits .f32
  bcast_S_S8320x4096 : S_.BroadcastsInDim S8320x4096 (![] : Fin 0 → Fin S8320x4096.rank)
  reducesTo_S8320x4096_S_d0_1 : S8320x4096.ReducesTo [0, 1] S_

variable [Facts]

noncomputable abbrev lit0 : Fin 91 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32
  | _ => 0#32

noncomputable abbrev lit1 : Fin 91 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32
  | _ => 0#32

def fn_part1 {F : FTy → Type} [FloatOps F] (main_v10 : IVec S_ 1) (main_v15 : IVec S_ 1) : IVec S_ 1 :=
  let main_v16 : IVec S_ 1 := andi main_v10 main_v15
  main_v16

def fn {F : FTy → Type} [FloatOps F] (main_arg0 : IVec S91 32) (main_arg1 : IVec S91 32) (main_arg2 : FVec F S8320x4096 .bf16) (main_arg3 : FVec F S8320x4096 .bf16) (main_arg4 : FVec F S8320x2048 .bf16) : IVec S_ 1 :=
  let main_c : IVec S91 32 := fun i => lit0 (S91.rowMajor i)
  let main_c_0 : IVec S91 32 := fun i => lit1 (S91.rowMajor i)
  let main_v0 : IVec S91 1 := cmpi .eq main_arg0 main_c
  let main_c_1 : IVec S_ 1 := constantI S_ 1 1#1
  let main_v1 : IVec S_ 1 := (fun x v => Host.reduce IntOp.andi x v reducesTo_S91_S_d0 h_S_) main_v0 main_c_1
  let main_v2 : IVec S91 1 := cmpi .eq main_arg1 main_c_0
  let main_c_2 : IVec S_ 1 := constantI S_ 1 1#1
  let main_v3 : IVec S_ 1 := (fun x v => Host.reduce IntOp.andi x v reducesTo_S91_S_d0 h_S_) main_v2 main_c_2
  let main_v4 : IVec S_ 1 := andi main_v1 main_v3
  let main_v5 : FVec F S8320x4096 .f32 := (extf .f32 · bitsLt_bf16_f32) main_arg2
  let main_v6 : FVec F S8320x4096 .f32 := Host.absf main_v5
  let main_cst : FVec F S_ .f32 := constant S_ .f32 0x7F800000#32
  let main_v7 : FVec F S8320x4096 .f32 := broadcastInDim S8320x4096 ![] bcast_S_S8320x4096 main_cst
  let main_v8 : IVec S8320x4096 1 := cmpf .olt main_v6 main_v7
  let main_c_3 : IVec S_ 1 := constantI S_ 1 1#1
  let main_v9 : IVec S_ 1 := (fun x v => Host.reduce IntOp.andi x v reducesTo_S8320x4096_S_d0_1 h_S_) main_v8 main_c_3
  let main_v10 : IVec S_ 1 := andi main_v4 main_v9
  let main_v11 : FVec F S8320x4096 .f32 := (extf .f32 · bitsLt_bf16_f32) main_arg3
  let main_v12 : FVec F S8320x4096 .f32 := Host.absf main_v11
  let main_cst_4 : FVec F S_ .f32 := constant S_ .f32 0x7F800000#32
  let main_v13 : FVec F S8320x4096 .f32 := broadcastInDim S8320x4096 ![] bcast_S_S8320x4096 main_cst_4
  let main_v14 : IVec S8320x4096 1 := cmpf .olt main_v12 main_v13
  let main_c_5 : IVec S_ 1 := constantI S_ 1 1#1
  let main_v15 : IVec S_ 1 := (fun x v => Host.reduce IntOp.andi x v reducesTo_S8320x4096_S_d0_1 h_S_) main_v14 main_c_5
  fn_part1 (F := F) main_v10 main_v15
-- ==== Pre_attn_schedule.lean ====
abbrev S91 : Shape := ⟨1, ![91]⟩
abbrev S8320x4096 : Shape := ⟨2, ![8320, 4096]⟩
abbrev S8320x2048 : Shape := ⟨2, ![8320, 2048]⟩
abbrev S_ : Shape := ⟨0, ![]⟩

class Facts : Prop where
  reducesTo_S91_S_d0 : S91.ReducesTo [0] S_
  h_S_ : 0 < S_.numel

variable [Facts]

noncomputable abbrev lit0 : Fin 91 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32
  | _ => 0#32

noncomputable abbrev lit1 : Fin 91 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32
  | _ => 0#32

def fn {F : FTy → Type} [FloatOps F] (main_arg0 : IVec S91 32) (main_arg1 : IVec S91 32) (main_arg2 : FVec F S8320x4096 .bf16) (main_arg3 : FVec F S8320x4096 .bf16) (main_arg4 : FVec F S8320x2048 .bf16) : IVec S_ 1 :=
  let main_c : IVec S91 32 := fun i => lit0 (S91.rowMajor i)
  let main_c_0 : IVec S91 32 := fun i => lit1 (S91.rowMajor i)
  let main_v0 : IVec S91 1 := cmpi .eq main_arg0 main_c
  let main_c_1 : IVec S_ 1 := constantI S_ 1 1#1
  let main_v1 : IVec S_ 1 := (fun x v => Host.reduce IntOp.andi x v reducesTo_S91_S_d0 h_S_) main_v0 main_c_1
  let main_v2 : IVec S91 1 := cmpi .eq main_arg1 main_c_0
  let main_c_2 : IVec S_ 1 := constantI S_ 1 1#1
  let main_v3 : IVec S_ 1 := (fun x v => Host.reduce IntOp.andi x v reducesTo_S91_S_d0 h_S_) main_v2 main_c_2
  let main_v4 : IVec S_ 1 := andi main_v1 main_v3
  main_v4
-- ==== Pre_finite.lean ====
abbrev S8320x2048 : Shape := ⟨2, ![8320, 2048]⟩
abbrev S2048x11264 : Shape := ⟨2, ![2048, 11264]⟩
abbrev S3x5632 : Shape := ⟨2, ![3, 5632]⟩
abbrev S1x5632 : Shape := ⟨2, ![1, 5632]⟩
abbrev S5632x2048 : Shape := ⟨2, ![5632, 2048]⟩
abbrev S_ : Shape := ⟨0, ![]⟩

class Facts : Prop where
  bitsLt_bf16_f32 : FTy.bits .bf16 < FTy.bits .f32
  bcast_S_S8320x2048 : S_.BroadcastsInDim S8320x2048 (![] : Fin 0 → Fin S8320x2048.rank)
  reducesTo_S8320x2048_S_d0_1 : S8320x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg3 : FVec F S1x5632 .f32) (main_arg4 : FVec F S5632x2048 .bf16) (main_arg5 : FVec F S8320x2048 .bf16) (main_v16 : IVec S_ 1) : IVec S_ 1 :=
  let main_v17 : FVec F S1x5632 .f32 := Host.absf main_arg3
  let main_cst_5 : FVec F S_ .f32 := constant S_ .f32 0x7F800000#32
  let main_v18 : FVec F S1x5632 .f32 := broadcastInDim S1x5632 ![] bcast_S_S1x5632 main_cst_5
  let main_v19 : IVec S1x5632 1 := cmpf .olt main_v17 main_v18
  let main_c_6 : IVec S_ 1 := constantI S_ 1 1#1
  let main_v20 : IVec S_ 1 := (fun x v => Host.reduce IntOp.andi x v reducesTo_S1x5632_S_d0_1 h_S_) main_v19 main_c_6
  let main_v21 : IVec S_ 1 := andi main_v16 main_v20
  let main_v22 : FVec F S5632x2048 .f32 := (extf .f32 · bitsLt_bf16_f32) main_arg4
  let main_v23 : FVec F S5632x2048 .f32 := Host.absf main_v22
  let main_cst_7 : FVec F S_ .f32 := constant S_ .f32 0x7F800000#32
  let main_v24 : FVec F S5632x2048 .f32 := broadcastInDim S5632x2048 ![] bcast_S_S5632x2048 main_cst_7
  let main_v25 : IVec S5632x2048 1 := cmpf .olt main_v23 main_v24
  let main_c_8 : IVec S_ 1 := constantI S_ 1 1#1
  let main_v26 : IVec S_ 1 := (fun x v => Host.reduce IntOp.andi x v reducesTo_S5632x2048_S_d0_1 h_S_) main_v25 main_c_8
  let main_v27 : IVec S_ 1 := andi main_v21 main_v26
  let main_v28 : FVec F S8320x2048 .f32 := (extf .f32 · bitsLt_bf16_f32) main_arg5
  let main_v29 : FVec F S8320x2048 .f32 := Host.absf main_v28
  let main_cst_9 : FVec F S_ .f32 := constant S_ .f32 0x7F800000#32
  let main_v30 : FVec F S8320x2048 .f32 := broadcastInDim S8320x2048 ![] bcast_S_S8320x2048 main_cst_9
  let main_v31 : IVec S8320x2048 1 := cmpf .olt main_v29 main_v30
  let main_c_10 : IVec S_ 1 := constantI S_ 1 1#1
  let main_v32 : IVec S_ 1 := (fun x v => Host.reduce IntOp.andi x v reducesTo_S8320x2048_S_d0_1 h_S_) main_v31 main_c_10
  let main_v33 : IVec S_ 1 := andi main_v27 main_v32
  main_v33

def fn {F : FTy → Type} [FloatOps F] (main_arg0 : FVec F S8320x2048 .bf16) (main_arg1 : FVec F S2048x11264 .bf16) (main_arg2 : FVec F S3x5632 .f32) (main_arg3 : FVec F S1x5632 .f32) (main_arg4 : FVec F S5632x2048 .bf16) (main_arg5 : FVec F S8320x2048 .bf16) : IVec S_ 1 :=
  let main_v0 : FVec F S8320x2048 .f32 := (extf .f32 · bitsLt_bf16_f32) main_arg0
  let main_v1 : FVec F S8320x2048 .f32 := Host.absf main_v0
  let main_cst : FVec F S_ .f32 := constant S_ .f32 0x7F800000#32
  let main_v2 : FVec F S8320x2048 .f32 := broadcastInDim S8320x2048 ![] bcast_S_S8320x2048 main_cst
  let main_v3 : IVec S8320x2048 1 := cmpf .olt main_v1 main_v2
  let main_c : IVec S_ 1 := constantI S_ 1 1#1
  let main_v4 : IVec S_ 1 := (fun x v => Host.reduce IntOp.andi x v reducesTo_S8320x2048_S_d0_1 h_S_) main_v3 main_c
  let main_c_0 : IVec S_ 1 := constantI S_ 1 1#1
  let main_v5 : IVec S_ 1 := andi main_c_0 main_v4
  let main_v6 : FVec F S2048x11264 .f32 := (extf .f32 · bitsLt_bf16_f32) main_arg1
  let main_v7 : FVec F S2048x11264 .f32 := Host.absf main_v6
  let main_cst_1 : FVec F S_ .f32 := constant S_ .f32 0x7F800000#32
  let main_v8 : FVec F S2048x11264 .f32 := broadcastInDim S2048x11264 ![] bcast_S_S2048x11264 main_cst_1
  let main_v9 : IVec S2048x11264 1 := cmpf .olt main_v7 main_v8
  let main_c_2 : IVec S_ 1 := constantI S_ 1 1#1
  let main_v10 : IVec S_ 1 := (fun x v => Host.reduce IntOp.andi x v reducesTo_S2048x11264_S_d0_1 h_S_) main_v9 main_c_2
  let main_v11 : IVec S_ 1 := andi main_v5 main_v10
  let main_v12 : FVec F S3x5632 .f32 := Host.absf main_arg2
  let main_cst_3 : FVec F S_ .f32 := constant S_ .f32 0x7F800000#32
  let main_v13 : FVec F S3x5632 .f32 := broadcastInDim S3x5632 ![] bcast_S_S3x5632 main_cst_3
  let main_v14 : IVec S3x5632 1 := cmpf .olt main_v12 main_v13
  let main_c_4 : IVec S_ 1 := constantI S_ 1 1#1
  let main_v15 : IVec S_ 1 := (fun x v => Host.reduce IntOp.andi x v reducesTo_S3x5632_S_d0_1 h_S_) main_v14 main_c_4
  let main_v16 : IVec S_ 1 := andi main_v11 main_v15
  fn_part1 (F := F) main_arg3 main_arg4 main_arg5 main_v16
-- ==== Kernel.lean ====
abbrev S8320x2048 : Shape := ⟨2, ![8320, 2048]⟩
abbrev S2048x11264 : Shape := ⟨2, ![2048, 11264]⟩
abbrev S3x5632 : Shape := ⟨2, ![3, 5632]⟩
abbrev S1x5632 : Shape := ⟨2, ![1, 5632]⟩
abbrev S5632x2048 : Shape := ⟨2, ![5632, 2048]⟩
abbrev S8320x11264 : Shape := ⟨2, ![8320, 11264]⟩
abbrev S640x2048 : Shape := ⟨2, ![640, 2048]⟩
abbrev S2048x1024 : Shape := ⟨2, ![2048, 1024]⟩
abbrev S640x1024 : Shape := ⟨2, ![640, 1024]⟩
abbrev S8320x5632 : Shape := ⟨2, ![8320, 5632]⟩
abbrev S640x512 : Shape := ⟨2, ![640, 512]⟩
abbrev S16x512 : Shape := ⟨2, ![16, 512]⟩
abbrev S3x512 : Shape := ⟨2, ![3, 512]⟩
abbrev S1x512 : Shape := ⟨2, ![1, 512]⟩
abbrev S640x1 : Shape := ⟨2, ![640, 1]⟩
abbrev S16x1 : Shape := ⟨2, ![16, 1]⟩
abbrev S512 : Shape := ⟨1, ![512]⟩
abbrev S512x2048 : Shape := ⟨2, ![512, 2048]⟩
abbrev S8x5632 : Shape := ⟨2, ![8, 5632]⟩
abbrev S8x512 : Shape := ⟨2, ![8, 512]⟩
abbrev S8x1 : Shape := ⟨2, ![8, 1]⟩

abbrev nBuf : Space → Nat
  | .hbm => 14
  | .vmem => 52
  | .smem => 0
  | _ => 0

abbrev bufTy : (tb : Table) → Fin (tcTables nBuf tb) → BufTy
  | .hbm, ⟨0, _⟩ => ⟨S8320x2048, .bf16⟩
  | .hbm, ⟨1, _⟩ => ⟨S2048x11264, .bf16⟩
  | .hbm, ⟨2, _⟩ => ⟨S3x5632, .f32⟩
  | .hbm, ⟨3, _⟩ => ⟨S1x5632, .f32⟩
  | .hbm, ⟨4, _⟩ => ⟨S5632x2048, .bf16⟩
  | .hbm, ⟨5, _⟩ => ⟨S8320x2048, .bf16⟩
  | .hbm, ⟨6, _⟩ => ⟨S8320x11264, .bf16⟩
  | .hbm, ⟨7, _⟩ => ⟨S8320x5632, .bf16⟩
  | .hbm, ⟨8, _⟩ => ⟨S8320x5632, .f32⟩
  | .hbm, ⟨9, _⟩ => ⟨S8320x5632, .f32⟩
  | .hbm, ⟨10, _⟩ => ⟨S8320x11264, .bf16⟩
  | .hbm, ⟨11, _⟩ => ⟨S1x5632, .f32⟩
  | .hbm, ⟨12, _⟩ => ⟨S8x5632, .f32⟩
  | .hbm, ⟨13, _⟩ => ⟨S8320x11264, .bf16⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | .local _ .vmem, ⟨6, _⟩ => ⟨S640x512, .bf16⟩
  | .local _ .vmem, ⟨7, _⟩ => ⟨S640x512, .bf16⟩
  | .local _ .vmem, ⟨8, _⟩ => ⟨S16x512, .bf16⟩
  | .local _ .vmem, ⟨9, _⟩ => ⟨S16x512, .bf16⟩
  | .local _ .vmem, ⟨10, _⟩ => ⟨S640x512, .bf16⟩
  | .local _ .vmem, ⟨11, _⟩ => ⟨S640x512, .bf16⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S640x512, .bf16⟩
  | .local _ .vmem, ⟨17, _⟩ => ⟨S640x512, .bf16⟩
  | .local _ .vmem, ⟨18, _⟩ => ⟨S640x2048, .bf16⟩
  | .local _ .vmem, ⟨19, _⟩ => ⟨S640x2048, .bf16⟩
  | .local _ .vmem, ⟨20, _⟩ => ⟨S512x2048, .bf16⟩
  | .local _ .vmem, ⟨21, _⟩ => ⟨S512x2048, .bf16⟩
  | .local _ .vmem, ⟨22, _⟩ => ⟨S640x512, .f32⟩
  | .local _ .vmem, ⟨23, _⟩ => ⟨S640x512, .f32⟩
  | .local _ .vmem, ⟨24, _⟩ => ⟨S640x512, .f32⟩
  | .local _ .vmem, ⟨25, _⟩ => ⟨S640x512, .f32⟩
  | .local _ .vmem, ⟨26, _⟩ => ⟨S640x512, .bf16⟩
  | .local _ .vmem, ⟨27, _⟩ => ⟨S640x512, .bf16⟩
  | .local _ .vmem, ⟨28, _⟩ => ⟨S16x512, .bf16⟩
  | .local _ .vmem, ⟨29, _⟩ => ⟨S16x512, .bf16⟩
  | .local _ .vmem, ⟨30, _⟩ => ⟨S640x512, .bf16⟩
  | .local _ .vmem, ⟨31, _⟩ => ⟨S640x512, .bf16⟩
  | .local _ .vmem, ⟨32, _⟩ => ⟨S3x512, .f32⟩
  | .local _ .vmem, ⟨33, _⟩ => ⟨S3x512, .f32⟩
  | .local _ .vmem, ⟨34, _⟩ => ⟨S1x512, .f32⟩
  | .local _ .vmem, ⟨35, _⟩ => ⟨S1x512, .f32⟩
  | .local _ .vmem, ⟨36, _⟩ => ⟨S640x512, .f32⟩
  | .local _ .vmem, ⟨37, _⟩ => ⟨S640x512, .f32⟩
  | .local _ .vmem, ⟨38, _⟩ => ⟨S640x512, .bf16⟩
  | .local _ .vmem, ⟨39, _⟩ => ⟨S640x512, .bf16⟩
  | .local _ .vmem, ⟨40, _⟩ => ⟨S1x512, .f32⟩
  | .local _ .vmem, ⟨41, _⟩ => ⟨S1x512, .f32⟩
  | .local _ .vmem, ⟨42, _⟩ => ⟨S8x512, .f32⟩
  | .local _ .vmem, ⟨43, _⟩ => ⟨S8x512, .f32⟩
  | .local _ .vmem, ⟨44, _⟩ => ⟨S640x512, .f32⟩
  | .local _ .vmem, ⟨45, _⟩ => ⟨S640x512, .f32⟩
  | .local _ .vmem, ⟨46, _⟩ => ⟨S8x512, .f32⟩
  | .local _ .vmem, ⟨47, _⟩ => ⟨S8x512, .f32⟩
  | .local _ .vmem, ⟨48, _⟩ => ⟨S3x512, .f32⟩
  | .local _ .vmem, ⟨49, _⟩ => ⟨S3x512, .f32⟩
  | .local _ .vmem, ⟨50, _⟩ => ⟨S640x512, .bf16⟩
  | .local _ .vmem, ⟨51, _⟩ => ⟨S640x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_stg7_1 : Ref sig .tc := ⟨.vmem, 39, rfl⟩
abbrev cc3_stg8_0 : Ref sig .tc := ⟨.vmem, 40, rfl⟩
abbrev cc3_stg8_1 : Ref sig .tc := ⟨.vmem, 41, rfl⟩
abbrev cc3_stg9_0 : Ref sig .tc := ⟨.vmem, 42, rfl⟩
abbrev cc3_stg9_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37
abbrev cc3_sem7_0 : DmaSem sig := 38
abbrev cc3_sem7_1 : DmaSem sig := 39
abbrev cc3_sem8_0 : DmaSem sig := 40
abbrev cc3_sem8_1 : DmaSem sig := 41
abbrev cc3_sem9_0 : DmaSem sig := 42
abbrev cc3_sem9_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51

abbrev nD : Nat := 1
abbrev τ : Topo := Topo.v7x

variable {F : FTy → Type} [FloatOps F]

abbrev grid0 : Pipeline.Grid := ⟨3, ![13, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![13, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc1_transform_2 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S640x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S16x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S640x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S3x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S640x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨3, ![13, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S640x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S640x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![11, 13], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg1 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc3_transform_3 (i : grid3.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S640x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S640x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S16x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S640x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S3x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S640x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S640x512 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev stage3_9 : Fin 2 → Memref sig .tc .vmem S8x512 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, false]

abbrev grid4 : Pipeline.Grid := ⟨2, ![13, 11], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c80_i32 : BitVec 32 := 80#32
  let v1 : BitVec 32 := Scalar.muli v0 c80_i32
  let c1039_i32 : BitVec 32 := 1039#32
  let v2 : BitVec 32 := Scalar.minsi v1 c1039_i32
  let c0_i32 : BitVec 32 := 0#32
  ![v2.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S640x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S8x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S3x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S640x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]
-- ==== ReferenceIdeal.lean ====
abbrev S8320x2048 : Shape := ⟨2, ![8320, 2048]⟩
abbrev S2048x11264 : Shape := ⟨2, ![2048, 11264]⟩
abbrev S3x5632 : Shape := ⟨2, ![3, 5632]⟩
abbrev S1x5632 : Shape := ⟨2, ![1, 5632]⟩
abbrev S5632x2048 : Shape := ⟨2, ![5632, 2048]⟩
abbrev S8320x11264 : Shape := ⟨2, ![8320, 11264]⟩
abbrev S8320 : Shape := ⟨1, ![8320]⟩
abbrev S_ : Shape := ⟨0, ![]⟩
abbrev S8320x1 : Shape := ⟨2, ![8320, 1]⟩
abbrev S8320x5632 : Shape := ⟨2, ![8320, 5632]⟩
abbrev S2x5632 : Shape := ⟨2, ![2, 5632]⟩
abbrev S8322x5632 : Shape := ⟨2, ![8322, 5632]⟩
abbrev S5632 : Shape := ⟨1, ![5632]⟩
abbrev S8x5632 : Shape := ⟨2, ![8, 5632]⟩

abbrev nBuf : Space → Nat
  | .hbm => 131
  | .vmem => 0
  | .smem => 0
  | _ => 0

abbrev hbmTy0_0 (i : Nat) : BufTy := match i % 128 with
  | 0 => ⟨S8320x2048, .bf16⟩
  | 1 => ⟨S2048x11264, .bf16⟩
  | 2 => ⟨S3x5632, .f32⟩
  | 3 => ⟨S1x5632, .f32⟩
  | 4 => ⟨S5632x2048, .bf16⟩
  | 5 => ⟨S8320x2048, .bf16⟩
  | 6 => ⟨S8320x2048, .f32⟩
  | 7 => ⟨S2048x11264, .f32⟩
  | 8 => ⟨S5632x2048, .f32⟩
  | 9 => ⟨S8320x2048, .f32⟩
  | 10 => ⟨S8320x11264, .f32⟩
  | 11 => ⟨S8320, .i32⟩
  | 12 => ⟨S_, .i32⟩
  | 13 => ⟨S8320, .i32⟩
  | 14 => ⟨S8320, .i1⟩
  | 15 => ⟨S8320x1, .i1⟩
  | 16 => ⟨S8320x5632, .f32⟩
  | 17 => ⟨S8320x5632, .f32⟩
  | 18 => ⟨S_, .f32⟩
  | 19 => ⟨S_, .f32⟩
  | 20 => ⟨S8320x5632, .i1⟩
  | 21 => ⟨S8320x5632, .f32⟩
  | 22 => ⟨S8320x5632, .f32⟩
  | 23 => ⟨S_, .f32⟩
  | 24 => ⟨S8320x5632, .f32⟩
  | 25 => ⟨S_, .f32⟩
  | 26 => ⟨S2x5632, .f32⟩
  | 27 => ⟨S8322x5632, .f32⟩
  | 28 => ⟨S_, .f32⟩
  | 29 => ⟨S2x5632, .f32⟩
  | 30 => ⟨S1x5632, .f32⟩
  | 31 => ⟨S5632, .f32⟩
  | 32 => ⟨S8320x5632, .f32⟩
  | 33 => ⟨S1x5632, .f32⟩
  | 34 => ⟨S8320x5632, .f32⟩
  | 35 => ⟨S8320x5632, .f32⟩
  | 36 => ⟨S1x5632, .f32⟩
  | 37 => ⟨S5632, .f32⟩
  | 38 => ⟨S8320x5632, .f32⟩
  | 39 => ⟨S1x5632, .f32⟩
  | 40 => ⟨S8320x5632, .f32⟩
  | 41 => ⟨S8320x5632, .f32⟩
  | 42 => ⟨S8320x5632, .f32⟩
  | 43 => ⟨S1x5632, .f32⟩
  | 44 => ⟨S5632, .f32⟩
  | 45 => ⟨S8320x5632, .f32⟩
  | 46 => ⟨S1x5632, .f32⟩
  | 47 => ⟨S8320x5632, .f32⟩
  | 48 => ⟨S8320x5632, .f32⟩
  | 49 => ⟨S8320x5632, .f32⟩
  | 50 => ⟨S8320x5632, .f32⟩
  | 51 => ⟨S8320x5632, .f32⟩
  | 52 => ⟨S8320x5632, .f32⟩
  | 53 => ⟨S8320x5632, .f32⟩
  | 54 => ⟨S_, .f32⟩
  | 55 => ⟨S8320x5632, .f32⟩
  | 56 => ⟨S8320x5632, .f32⟩
  | 57 => ⟨S_, .f32⟩
  | 58 => ⟨S8320x5632, .f32⟩
  | 59 => ⟨S8320x5632, .f32⟩
  | 60 => ⟨S_, .f32⟩
  | 61 => ⟨S8320x5632, .f32⟩
  | 62 => ⟨S8320x5632, .f32⟩
  | 63 => ⟨S8320x5632, .f32⟩
  | 64 => ⟨S8320x5632, .f32⟩
  | 65 => ⟨S8320x5632, .f32⟩
  | 66 => ⟨S8320x2048, .f32⟩
  | 67 => ⟨S8320x5632, .f32⟩
  | 68 => ⟨S8320x5632, .f32⟩
  | 69 => ⟨S8320x5632, .f32⟩
  | 70 => ⟨S8320x5632, .f32⟩
  | 71 => ⟨S8320x5632, .f32⟩
  | 72 => ⟨S8320x5632, .f32⟩
  | 73 => ⟨S8320x5632, .f32⟩
  | 74 => ⟨S_, .f32⟩
  | 75 => ⟨S5632, .f32⟩
  | 76 => ⟨S1x5632, .f32⟩
  | 77 => ⟨S8320x5632, .f32⟩
  | 78 => ⟨S8320x5632, .f32⟩
  | 79 => ⟨S8320x5632, .f32⟩
  | 80 => ⟨S_, .f32⟩
  | 81 => ⟨S5632, .f32⟩
  | 82 => ⟨S1x5632, .f32⟩
  | 83 => ⟨S_, .f32⟩
  | 84 => ⟨S5632, .f32⟩
  | 85 => ⟨S_, .f32⟩
  | 86 => ⟨S8322x5632, .f32⟩
  | 87 => ⟨S1x5632, .f32⟩
  | 88 => ⟨S_, .f32⟩
  | 89 => ⟨S3x5632, .f32⟩
  | 90 => ⟨S8320x5632, .f32⟩
  | 91 => ⟨S8320x5632, .f32⟩
  | 92 => ⟨S8320x5632, .f32⟩
  | 93 => ⟨S_, .f32⟩
  | 94 => ⟨S5632, .f32⟩
  | 95 => ⟨S1x5632, .f32⟩
  | 96 => ⟨S_, .f32⟩
  | 97 => ⟨S5632, .f32⟩
  | 98 => ⟨S_, .f32⟩
  | 99 => ⟨S8322x5632, .f32⟩
  | 100 => ⟨S8322x5632, .f32⟩
  | 101 => ⟨S1x5632, .f32⟩
  | 102 => ⟨S_, .f32⟩
  | 103 => ⟨S3x5632, .f32⟩
  | 104 => ⟨S3x5632, .f32⟩
  | 105 => ⟨S8320x5632, .f32⟩
  | 106 => ⟨S8320x5632, .f32⟩
  | 107 => ⟨S8320x5632, .f32⟩
  | 108 => ⟨S_, .f32⟩
  | 109 => ⟨S5632, .f32⟩
  | 110 => ⟨S1x5632, .f32⟩
  | 111 => ⟨S_, .f32⟩
  | 112 => ⟨S5632, .f32⟩
  | 113 => ⟨S_, .f32⟩
  | 114 => ⟨S8322x5632, .f32⟩
  | 115 => ⟨S8322x5632, .f32⟩
  | 116 => ⟨S1x5632, .f32⟩
  | 117 => ⟨S_, .f32⟩
  | 118 => ⟨S3x5632, .f32⟩
  | 119 => ⟨S3x5632, .f32⟩
  | 120 => ⟨S2x5632, .f32⟩
  | 121 => ⟨S8320x5632, .f32⟩
  | 122 => ⟨S_, .f32⟩
  | 123 => ⟨S8320x5632, .f32⟩
  | 124 => ⟨S8320x5632, .f32⟩
  | 125 => ⟨S8320x11264, .f32⟩
  | 126 => ⟨S8320x5632, .bf16⟩
  | 127 => ⟨S8320x11264, .bf16⟩
  | _ => ⟨S8320x2048, .bf16⟩

abbrev hbmTy0_1 (i : Nat) : BufTy := match i % 128 with
  | 0 => ⟨S_, .i32⟩
  | 1 => ⟨S_, .f32⟩
  | 2 => ⟨S8x5632, .f32⟩
  | _ => ⟨S8320x2048, .bf16⟩

abbrev hbmTy (i : Nat) : BufTy := match i / 128 with
  | 0 => hbmTy0_0 i
  | 1 => hbmTy0_1 i
  | _ => ⟨S8320x2048, .bf16⟩

abbrev bufTy : (tb : Table) → Fin (tcTables nBuf tb) → BufTy
  | .hbm, ⟨i, _⟩ => hbmTy i
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_call0_v0 : Ref sig .tc := ⟨.hbm, 19, rfl⟩
abbrev main_v11_1 : Ref sig .tc := ⟨.hbm, 20, rfl⟩
abbrev main_call0_v2 : Ref sig .tc := ⟨.hbm, 21, rfl⟩
abbrev main_v11_0 : Ref sig .tc := ⟨.hbm, 22, rfl⟩
abbrev main_call0_cst : Ref sig .tc := ⟨.hbm, 23, rfl⟩
abbrev main_v11_2 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_v37_2 : Ref sig .tc := ⟨.hbm, 59, rfl⟩
abbrev main_call1_cst_1 : Ref sig .tc := ⟨.hbm, 60, rfl⟩
abbrev main_call1_v6 : Ref sig .tc := ⟨.hbm, 61, rfl⟩
abbrev main_call1_v7 : Ref sig .tc := ⟨.hbm, 62, rfl⟩
abbrev main_v37_1 : Ref sig .tc := ⟨.hbm, 63, rfl⟩
abbrev main_v37_0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v43 : Ref sig .tc := ⟨.hbm, 73, rfl⟩
abbrev main_cst_2 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_3 : Ref sig .tc := ⟨.hbm, 80, rfl⟩
abbrev main_v49 : Ref sig .tc := ⟨.hbm, 81, rfl⟩
abbrev main_v50 : Ref sig .tc := ⟨.hbm, 82, rfl⟩
abbrev main_cst_4 : Ref sig .tc := ⟨.hbm, 83, rfl⟩
abbrev main_v51 : Ref sig .tc := ⟨.hbm, 84, rfl⟩
abbrev main_cst_5 : Ref sig .tc := ⟨.hbm, 85, rfl⟩
abbrev main_v52 : Ref sig .tc := ⟨.hbm, 86, rfl⟩
abbrev main_v53 : Ref sig .tc := ⟨.hbm, 87, rfl⟩
abbrev main_cst_6 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_7 : Ref sig .tc := ⟨.hbm, 93, rfl⟩
abbrev main_v58 : Ref sig .tc := ⟨.hbm, 94, rfl⟩
abbrev main_v59 : Ref sig .tc := ⟨.hbm, 95, rfl⟩
abbrev main_cst_8 : Ref sig .tc := ⟨.hbm, 96, rfl⟩
abbrev main_v60 : Ref sig .tc := ⟨.hbm, 97, rfl⟩
abbrev main_cst_9 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_10 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_11 : Ref sig .tc := ⟨.hbm, 108, rfl⟩
abbrev main_v69 : Ref sig .tc := ⟨.hbm, 109, rfl⟩
abbrev main_v70 : Ref sig .tc := ⟨.hbm, 110, rfl⟩
abbrev main_cst_12 : Ref sig .tc := ⟨.hbm, 111, rfl⟩
abbrev main_v71 : Ref sig .tc := ⟨.hbm, 112, rfl⟩
abbrev main_cst_13 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_call3_cst : Ref sig .tc := ⟨.hbm, 122, rfl⟩
abbrev main_call3_v0 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c_15 : Ref sig .tc := ⟨.hbm, 128, rfl⟩
abbrev main_call4_v0 : Ref sig .tc := ⟨.hbm, 129, rfl⟩
abbrev main_v83 : Ref sig .tc := ⟨.hbm, 130, rfl⟩

abbrev nD : Nat := 1
abbrev τ : Topo := Topo.v7x

variable {F : FTy → Type} [FloatOps F]
-- ==== DwFfnIn.lean ====
abbrev S8320x2048 : Shape := ⟨2, ![8320, 2048]⟩
abbrev S8320x11264 : Shape := ⟨2, ![8320, 11264]⟩
abbrev S4x2048x2816 : Shape := ⟨3, ![4, 2048, 2816]⟩
abbrev S1664x1024 : Shape := ⟨2, ![1664, 1024]⟩
abbrev S1664x1408 : Shape := ⟨2, ![1664, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x11264, .bf16⟩
  | .hbm, ⟨2, _⟩ => ⟨S4x2048x2816, .f32⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnInReferenceIdeal.lean ====
abbrev S8320x2048 : Shape := ⟨2, ![8320, 2048]⟩
abbrev S8320x11264 : Shape := ⟨2, ![8320, 11264]⟩
abbrev S_ : Shape := ⟨0, ![]⟩
abbrev S2048x11264 : Shape := ⟨2, ![2048, 11264]⟩
abbrev S11264x2048 : Shape := ⟨2, ![11264, 2048]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 18
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x11264, .bf16⟩
  | .hbm, ⟨2, _⟩ => ⟨S8320x2048, .f32⟩
  | .hbm, ⟨3, _⟩ => ⟨S8320x11264, .f32⟩
  | .hbm, ⟨4, _⟩ => ⟨S_, .f32⟩
  | .hbm, ⟨5, _⟩ => ⟨S2048x11264, .f32⟩
  | .hbm, ⟨6, _⟩ => ⟨S8320x11264, .f32⟩
  | .hbm, ⟨7, _⟩ => ⟨S11264x2048, .f32⟩
  | .hbm, ⟨8, _⟩ => ⟨S2048x11264, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S1x2048x2816, .f32⟩
  | .hbm, ⟨14, _⟩ => ⟨S1x2048x2816, .f32⟩
  | .hbm, ⟨15, _⟩ => ⟨S1x2048x2816, .f32⟩
  | .hbm, ⟨16, _⟩ => ⟨S1x2048x2816, .f32⟩
  | .hbm, ⟨17, _⟩ => ⟨S4x2048x2816, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== DwFfnOut.lean ====
abbrev S8320x5632 : Shape := ⟨2, ![8320, 5632]⟩
abbrev S8320x2048 : Shape := ⟨2, ![8320, 2048]⟩
abbrev S5632x2048 : Shape := ⟨2, ![5632, 2048]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S8320x2048, .bf16⟩
  | .hbm, ⟨2, _⟩ => ⟨S5632x2048, .f32⟩
  | .local _ .vmem, ⟨0, _⟩ => ⟨S1664x1408, .bf16⟩
  | .local _ .vmem, ⟨1, _⟩ => ⟨S1664x1408, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFfnOutReferenceIdeal.lean ====
abbrev S8320x5632 : Shape := ⟨2, ![8320, 5632]⟩
abbrev S8320x2048 : Shape := ⟨2, ![8320, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S8320x2048, .bf16⟩
  | .hbm, ⟨2, _⟩ => ⟨S8320x5632, .f32⟩
  | .hbm, ⟨3, _⟩ => ⟨S8320x2048, .f32⟩
  | .hbm, ⟨4, _⟩ => ⟨S_, .f32⟩
  | .hbm, ⟨5, _⟩ => ⟨S5632x2048, .f32⟩
  | .hbm, ⟨6, _⟩ => ⟨S8320x2048, .f32⟩
  | .hbm, ⟨7, _⟩ => ⟨S2048x5632, .f32⟩
  | .hbm, ⟨8, _⟩ => ⟨S5632x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DU2.lean ====
abbrev S8320x11264 : Shape := ⟨2, ![8320, 11264]⟩
abbrev S2048x11264 : Shape := ⟨2, ![2048, 11264]⟩
abbrev S8320x2048 : Shape := ⟨2, ![8320, 2048]⟩
abbrev S1664x1408 : Shape := ⟨2, ![1664, 1408]⟩
abbrev S1024x1408 : Shape := ⟨2, ![1024, 1408]⟩
abbrev S1664x1024 : Shape := ⟨2, ![1664, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x11264, .bf16⟩
  | .hbm, ⟨1, _⟩ => ⟨S2048x11264, .bf16⟩
  | .hbm, ⟨2, _⟩ => ⟨S8320x2048, .f32⟩
  | .local _ .vmem, ⟨0, _⟩ => ⟨S1664x1408, .bf16⟩
  | .local _ .vmem, ⟨1, _⟩ => ⟨S1664x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DU2ReferenceIdeal.lean ====
abbrev S8320x11264 : Shape := ⟨2, ![8320, 11264]⟩
abbrev S2048x11264 : Shape := ⟨2, ![2048, 11264]⟩
abbrev S_ : Shape := ⟨0, ![]⟩
abbrev S8320x2048 : Shape := ⟨2, ![8320, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x11264, .bf16⟩
  | .hbm, ⟨1, _⟩ => ⟨S2048x11264, .bf16⟩
  | .hbm, ⟨2, _⟩ => ⟨S8320x11264, .f32⟩
  | .hbm, ⟨3, _⟩ => ⟨S2048x11264, .f32⟩
  | .hbm, ⟨4, _⟩ => ⟨S_, .f32⟩
  | .hbm, ⟨5, _⟩ => ⟨S8320x2048, .f32⟩
  | .hbm, ⟨6, _⟩ => ⟨S8320x11264, .f32⟩
  | .hbm, ⟨7, _⟩ => ⟨S8320x2048, .f32⟩
  | _, _ => ⟨S8320x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnOut.lean ====
abbrev S8320x5632 : Shape := ⟨2, ![8320, 5632]⟩
abbrev S5632x2048 : Shape := ⟨2, ![5632, 2048]⟩
abbrev S8320x2048 : Shape := ⟨2, ![8320, 2048]⟩
abbrev S640x1408 : Shape := ⟨2, ![640, 1408]⟩
abbrev S1408x1024 : Shape := ⟨2, ![1408, 1024]⟩
abbrev S640x1024 : Shape := ⟨2, ![640, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .hbm, ⟨3, _⟩ => ⟨S8320x2048, .f32⟩
  | .local _ .vmem, ⟨0, _⟩ => ⟨S640x1408, .bf16⟩
  | .local _ .vmem, ⟨1, _⟩ => ⟨S640x1408, .bf16⟩
  | .local _ .vmem, ⟨2, _⟩ => ⟨S1408x1024, .bf16⟩
  | .local _ .vmem, ⟨3, _⟩ => ⟨S1408x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnOutReferenceIdeal.lean ====
abbrev S8320x5632 : Shape := ⟨2, ![8320, 5632]⟩
abbrev S5632x2048 : Shape := ⟨2, ![5632, 2048]⟩
abbrev S8320x2048 : Shape := ⟨2, ![8320, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x2048, .bf16⟩
  | .hbm, ⟨2, _⟩ => ⟨S8320x2048, .f32⟩
  | .hbm, ⟨3, _⟩ => ⟨S8320x5632, .f32⟩
  | .hbm, ⟨4, _⟩ => ⟨S5632x2048, .f32⟩
  | .hbm, ⟨5, _⟩ => ⟨S8320x2048, .f32⟩
  | .hbm, ⟨6, _⟩ => ⟨S8320x2048, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOut.lean ====
abbrev S8320x2048 : Shape := ⟨2, ![8320, 2048]⟩
abbrev S2048x2048 : Shape := ⟨2, ![2048, 2048]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .f32⟩
  | .hbm, ⟨2, _⟩ => ⟨S2048x2048, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 5], ![false, false, false]⟩

def k0_cond2 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutReferenceIdeal.lean ====
abbrev S8320x2048 : Shape := ⟨2, ![8320, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .f32⟩
  | .hbm, ⟨2, _⟩ => ⟨S8320x2048, .f32⟩
  | .hbm, ⟨3, _⟩ => ⟨S_, .f32⟩
  | .hbm, ⟨4, _⟩ => ⟨S2048x2048, .f32⟩
  | .hbm, ⟨5, _⟩ => ⟨S8320x2048, .f32⟩
  | .hbm, ⟨6, _⟩ => ⟨S2048x2048, .f32⟩
  | .hbm, ⟨7, _⟩ => ⟨S2048x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwBranch.lean ====
abbrev S8320x2048 : Shape := ⟨2, ![8320, 2048]⟩
abbrev S2048x2048 : Shape := ⟨2, ![2048, 2048]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2048x2048, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBranchReferenceIdeal.lean ====
abbrev S8320x2048 : Shape := ⟨2, ![8320, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .f32⟩
  | .hbm, ⟨3, _⟩ => ⟨S8320x2048, .f32⟩
  | .hbm, ⟨4, _⟩ => ⟨S_, .f32⟩
  | .hbm, ⟨5, _⟩ => ⟨S2048x2048, .f32⟩
  | .hbm, ⟨6, _⟩ => ⟨S8320x2048, .f32⟩
  | .hbm, ⟨7, _⟩ => ⟨S2048x2048, .f32⟩
  | .hbm, ⟨8, _⟩ => ⟨S2048x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwQUp.lean ====
abbrev S8320x1536 : Shape := ⟨2, ![8320, 1536]⟩
abbrev S8320x4096 : Shape := ⟨2, ![8320, 4096]⟩
abbrev S1536x4096 : Shape := ⟨2, ![1536, 4096]⟩
abbrev S1664x1536 : Shape := ⟨2, ![1664, 1536]⟩
abbrev S1664x1024 : Shape := ⟨2, ![1664, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1536, .bf16⟩
  | .hbm, ⟨1, _⟩ => ⟨S8320x4096, .bf16⟩
  | .hbm, ⟨2, _⟩ => ⟨S1536x4096, .f32⟩
  | .local _ .vmem, ⟨0, _⟩ => ⟨S1664x1536, .bf16⟩
  | .local _ .vmem, ⟨1, _⟩ => ⟨S1664x1536, .bf16⟩
  | .local _ .vmem, ⟨2, _⟩ => ⟨S1664x1024, .bf16⟩
  | .local _ .vmem, ⟨3, _⟩ => ⟨S1664x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S8320x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwQUpReferenceIdeal.lean ====
abbrev S8320x1536 : Shape := ⟨2, ![8320, 1536]⟩
abbrev S8320x4096 : Shape := ⟨2, ![8320, 4096]⟩
abbrev S_ : Shape := ⟨0, ![]⟩
abbrev S1536x4096 : Shape := ⟨2, ![1536, 4096]⟩
abbrev S4096x1536 : Shape := ⟨2, ![4096, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8320x1536, .bf16⟩
  | .hbm, ⟨1, _⟩ => ⟨S8320x4096, .bf16⟩
  | .hbm, ⟨2, _⟩ => ⟨S8320x1536, .f32⟩
  | .hbm, ⟨3, _⟩ => ⟨S8320x4096, .f32⟩
  | .hbm, ⟨4, _⟩ => ⟨S_, .f32⟩
  | .hbm, ⟨5, _⟩ => ⟨S1536x4096, .f32⟩
  | .hbm, ⟨6, _⟩ => ⟨S8320x4096, .f32⟩
  | .hbm, ⟨7, _⟩ => ⟨S4096x1536, .f32⟩
  | .hbm, ⟨8, _⟩ => ⟨S1536x4096, .f32⟩
  | _, _ => ⟨S8320x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwKvUp.lean ====
abbrev S8320x512 : Shape := ⟨2, ![8320, 512]⟩
abbrev S8320x4096 : Shape := ⟨2, ![8320, 4096]⟩
abbrev S512x4096 : Shape := ⟨2, ![512, 4096]⟩
abbrev S1664x512 : Shape := ⟨2, ![1664, 512]⟩
abbrev S1664x1024 : Shape := ⟨2, ![1664, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x512, .bf16⟩
  | .hbm, ⟨1, _⟩ => ⟨S8320x4096, .bf16⟩
  | .hbm, ⟨2, _⟩ => ⟨S512x4096, .f32⟩
  | .local _ .vmem, ⟨0, _⟩ => ⟨S1664x512, .bf16⟩
  | .local _ .vmem, ⟨1, _⟩ => ⟨S1664x512, .bf16⟩
  | .local _ .vmem, ⟨2, _⟩ => ⟨S1664x1024, .bf16⟩
  | .local _ .vmem, ⟨3, _⟩ => ⟨S1664x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8320x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwKvUpReferenceIdeal.lean ====
abbrev S8320x512 : Shape := ⟨2, ![8320, 512]⟩
abbrev S8320x4096 : Shape := ⟨2, ![8320, 4096]⟩
abbrev S_ : Shape := ⟨0, ![]⟩
abbrev S512x4096 : Shape := ⟨2, ![512, 4096]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S8320x512, .bf16⟩
  | .hbm, ⟨1, _⟩ => ⟨S8320x4096, .bf16⟩
  | .hbm, ⟨2, _⟩ => ⟨S8320x512, .f32⟩
  | .hbm, ⟨3, _⟩ => ⟨S8320x4096, .f32⟩
  | .hbm, ⟨4, _⟩ => ⟨S_, .f32⟩
  | .hbm, ⟨5, _⟩ => ⟨S512x4096, .f32⟩
  | .hbm, ⟨6, _⟩ => ⟨S8320x4096, .f32⟩
  | .hbm, ⟨7, _⟩ => ⟨S4096x512, .f32⟩
  | .hbm, ⟨8, _⟩ => ⟨S512x4096, .f32⟩
  | _, _ => ⟨S8320x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwInHgrn.lean ====
abbrev S8320x2048 : Shape := ⟨2, ![8320, 2048]⟩
abbrev S8320x8192 : Shape := ⟨2, ![8320, 8192]⟩
abbrev S2048x8192 : Shape := ⟨2, ![2048, 8192]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x8192, .bf16⟩
  | .hbm, ⟨2, _⟩ => ⟨S2048x8192, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInHgrnReferenceIdeal.lean ====
abbrev S8320x2048 : Shape := ⟨2, ![8320, 2048]⟩
abbrev S8320x8192 : Shape := ⟨2, ![8320, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x8192, .bf16⟩
  | .hbm, ⟨2, _⟩ => ⟨S8320x2048, .f32⟩
  | .hbm, ⟨3, _⟩ => ⟨S8320x8192, .f32⟩
  | .hbm, ⟨4, _⟩ => ⟨S_, .f32⟩
  | .hbm, ⟨5, _⟩ => ⟨S2048x8192, .f32⟩
  | .hbm, ⟨6, _⟩ => ⟨S8320x8192, .f32⟩
  | .hbm, ⟨7, _⟩ => ⟨S8192x2048, .f32⟩
  | .hbm, ⟨8, _⟩ => ⟨S2048x8192, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwInGates.lean ====
abbrev S8320x2048 : Shape := ⟨2, ![8320, 2048]⟩
abbrev S8320x4096 : Shape := ⟨2, ![8320, 4096]⟩
abbrev S2048x4096 : Shape := ⟨2, ![2048, 4096]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x4096, .bf16⟩
  | .hbm, ⟨2, _⟩ => ⟨S2048x4096, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInGatesReferenceIdeal.lean ====
abbrev S8320x2048 : Shape := ⟨2, ![8320, 2048]⟩
abbrev S8320x4096 : Shape := ⟨2, ![8320, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x4096, .bf16⟩
  | .hbm, ⟨2, _⟩ => ⟨S8320x2048, .f32⟩
  | .hbm, ⟨3, _⟩ => ⟨S8320x4096, .f32⟩
  | .hbm, ⟨4, _⟩ => ⟨S_, .f32⟩
  | .hbm, ⟨5, _⟩ => ⟨S2048x4096, .f32⟩
  | .hbm, ⟨6, _⟩ => ⟨S8320x4096, .f32⟩
  | .hbm, ⟨7, _⟩ => ⟨S4096x2048, .f32⟩
  | .hbm, ⟨8, _⟩ => ⟨S2048x4096, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwInKrope.lean ====
abbrev S8320x2048 : Shape := ⟨2, ![8320, 2048]⟩
abbrev S8320x128 : Shape := ⟨2, ![8320, 128]⟩
abbrev S2048x128 : Shape := ⟨2, ![2048, 128]⟩
abbrev S1664x1024 : Shape := ⟨2, ![1664, 1024]⟩
abbrev S1664x128 : Shape := ⟨2, ![1664, 128]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S8320x128, .bf16⟩
  | .hbm, ⟨2, _⟩ => ⟨S2048x128, .f32⟩
  | .local _ .vmem, ⟨0, _⟩ => ⟨S1664x1024, .bf16⟩
  | .local _ .vmem, ⟨1, _⟩ => ⟨S1664x1024, .bf16⟩
  | .local _ .vmem, ⟨2, _⟩ => ⟨S1664x128, .bf16⟩
  | .local _ .vmem, ⟨3, _⟩ => ⟨S1664x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInKropeReferenceIdeal.lean ====
abbrev S8320x2048 : Shape := ⟨2, ![8320, 2048]⟩
abbrev S8320x128 : Shape := ⟨2, ![8320, 128]⟩
abbrev S_ : Shape := ⟨0, ![]⟩
abbrev S2048x128 : Shape := ⟨2, ![2048, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x128, .bf16⟩
  | .hbm, ⟨2, _⟩ => ⟨S8320x2048, .f32⟩
  | .hbm, ⟨3, _⟩ => ⟨S8320x128, .f32⟩
  | .hbm, ⟨4, _⟩ => ⟨S_, .f32⟩
  | .hbm, ⟨5, _⟩ => ⟨S2048x128, .f32⟩
  | .hbm, ⟨6, _⟩ => ⟨S8320x128, .f32⟩
  | .hbm, ⟨7, _⟩ => ⟨S128x2048, .f32⟩
  | .hbm, ⟨8, _⟩ => ⟨S2048x128, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DQn.lean ====
abbrev S8320x4096 : Shape := ⟨2, ![8320, 4096]⟩
abbrev S1536x4096 : Shape := ⟨2, ![1536, 4096]⟩
abbrev S8320x1536 : Shape := ⟨2, ![8320, 1536]⟩
abbrev S1664x2048 : Shape := ⟨2, ![1664, 2048]⟩
abbrev S512x2048 : Shape := ⟨2, ![512, 2048]⟩
abbrev S1664x512 : Shape := ⟨2, ![1664, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S1536x4096, .bf16⟩
  | .hbm, ⟨2, _⟩ => ⟨S8320x1536, .f32⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S512x2048, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DQnReferenceIdeal.lean ====
abbrev S8320x4096 : Shape := ⟨2, ![8320, 4096]⟩
abbrev S1536x4096 : Shape := ⟨2, ![1536, 4096]⟩
abbrev S_ : Shape := ⟨0, ![]⟩
abbrev S8320x1536 : Shape := ⟨2, ![8320, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1536x4096, .bf16⟩
  | .hbm, ⟨2, _⟩ => ⟨S8320x4096, .f32⟩
  | .hbm, ⟨3, _⟩ => ⟨S1536x4096, .f32⟩
  | .hbm, ⟨4, _⟩ => ⟨S_, .f32⟩
  | .hbm, ⟨5, _⟩ => ⟨S8320x1536, .f32⟩
  | .hbm, ⟨6, _⟩ => ⟨S8320x4096, .f32⟩
  | .hbm, ⟨7, _⟩ => ⟨S8320x1536, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DKvn.lean ====
abbrev S8320x4096 : Shape := ⟨2, ![8320, 4096]⟩
abbrev S512x4096 : Shape := ⟨2, ![512, 4096]⟩
abbrev S8320x512 : Shape := ⟨2, ![8320, 512]⟩
abbrev S1664x2048 : Shape := ⟨2, ![1664, 2048]⟩
abbrev S512x2048 : Shape := ⟨2, ![512, 2048]⟩
abbrev S1664x512 : Shape := ⟨2, ![1664, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S512x4096, .bf16⟩
  | .hbm, ⟨2, _⟩ => ⟨S8320x512, .f32⟩
  | .local _ .vmem, ⟨0, _⟩ => ⟨S1664x2048, .bf16⟩
  | .local _ .vmem, ⟨1, _⟩ => ⟨S1664x2048, .bf16⟩
  | .local _ .vmem, ⟨2, _⟩ => ⟨S512x2048, .bf16⟩
  | .local _ .vmem, ⟨3, _⟩ => ⟨S512x2048, .bf16⟩
  | .local _ .vmem, ⟨4, _⟩ => ⟨S1664x512, .f32⟩
  | .local _ .vmem, ⟨5, _⟩ => ⟨S1664x512, .f32⟩
  | .local _ .vmem, ⟨6, _⟩ => ⟨S1664x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DKvnReferenceIdeal.lean ====
abbrev S8320x4096 : Shape := ⟨2, ![8320, 4096]⟩
abbrev S512x4096 : Shape := ⟨2, ![512, 4096]⟩
abbrev S_ : Shape := ⟨0, ![]⟩
abbrev S8320x512 : Shape := ⟨2, ![8320, 512]⟩

abbrev nBuf : Space → Nat
  | .hbm => 8
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S512x4096, .bf16⟩
  | .hbm, ⟨2, _⟩ => ⟨S8320x4096, .f32⟩
  | .hbm, ⟨3, _⟩ => ⟨S512x4096, .f32⟩
  | .hbm, ⟨4, _⟩ => ⟨S_, .f32⟩
  | .hbm, ⟨5, _⟩ => ⟨S8320x512, .f32⟩
  | .hbm, ⟨6, _⟩ => ⟨S8320x4096, .f32⟩
  | .hbm, ⟨7, _⟩ => ⟨S8320x512, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DU1Lat.lean ====
abbrev S8320x2048 : Shape := ⟨2, ![8320, 2048]⟩
abbrev S2048x2048 : Shape := ⟨2, ![2048, 2048]⟩
abbrev S640x2048 : Shape := ⟨2, ![640, 2048]⟩
abbrev S1024x2048 : Shape := ⟨2, ![1024, 2048]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S1024x2048, .bf16⟩
  | .local _ .vmem, ⟨3, _⟩ => ⟨S1024x2048, .bf16⟩
  | .local _ .vmem, ⟨4, _⟩ => ⟨S640x1024, .f32⟩
  | .local _ .vmem, ⟨5, _⟩ => ⟨S640x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DU1LatReferenceIdeal.lean ====
abbrev S8320x2048 : Shape := ⟨2, ![8320, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .f32⟩
  | .hbm, ⟨3, _⟩ => ⟨S2048x2048, .f32⟩
  | .hbm, ⟨4, _⟩ => ⟨S_, .f32⟩
  | .hbm, ⟨5, _⟩ => ⟨S8320x2048, .f32⟩
  | .hbm, ⟨6, _⟩ => ⟨S8320x2048, .f32⟩
  | .hbm, ⟨7, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DU1Hgrn.lean ====
abbrev S8320x8192 : Shape := ⟨2, ![8320, 8192]⟩
abbrev S2048x8192 : Shape := ⟨2, ![2048, 8192]⟩
abbrev S8320x2048 : Shape := ⟨2, ![8320, 2048]⟩
abbrev S640x2048 : Shape := ⟨2, ![640, 2048]⟩
abbrev S1024x2048 : Shape := ⟨2, ![1024, 2048]⟩
abbrev S640x1024 : Shape := ⟨2, ![640, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x8192, .bf16⟩
  | .hbm, ⟨1, _⟩ => ⟨S2048x8192, .bf16⟩
  | .hbm, ⟨2, _⟩ => ⟨S8320x2048, .f32⟩
  | .hbm, ⟨3, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S1024x2048, .bf16⟩
  | .local _ .vmem, ⟨3, _⟩ => ⟨S1024x2048, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DU1HgrnReferenceIdeal.lean ====
abbrev S8320x8192 : Shape := ⟨2, ![8320, 8192]⟩
abbrev S2048x8192 : Shape := ⟨2, ![2048, 8192]⟩
abbrev S8320x2048 : Shape := ⟨2, ![8320, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x8192, .bf16⟩
  | .hbm, ⟨1, _⟩ => ⟨S2048x8192, .bf16⟩
  | .hbm, ⟨2, _⟩ => ⟨S8320x2048, .f32⟩
  | .hbm, ⟨3, _⟩ => ⟨S8320x8192, .f32⟩
  | .hbm, ⟨4, _⟩ => ⟨S2048x8192, .f32⟩
  | .hbm, ⟨5, _⟩ => ⟨S_, .f32⟩
  | .hbm, ⟨6, _⟩ => ⟨S8320x2048, .f32⟩
  | .hbm, ⟨7, _⟩ => ⟨S8320x8192, .f32⟩
  | .hbm, ⟨8, _⟩ => ⟨S8320x2048, .f32⟩
  | .hbm, ⟨9, _⟩ => ⟨S8320x2048, .f32⟩
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DU1Gates.lean ====
abbrev S8320x4096 : Shape := ⟨2, ![8320, 4096]⟩
abbrev S2048x4096 : Shape := ⟨2, ![2048, 4096]⟩
abbrev S8320x2048 : Shape := ⟨2, ![8320, 2048]⟩
abbrev S640x2048 : Shape := ⟨2, ![640, 2048]⟩
abbrev S1024x2048 : Shape := ⟨2, ![1024, 2048]⟩
abbrev S640x1024 : Shape := ⟨2, ![640, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8320x4096, .bf16⟩
  | .hbm, ⟨1, _⟩ => ⟨S2048x4096, .bf16⟩
  | .hbm, ⟨2, _⟩ => ⟨S8320x2048, .f32⟩
  | .hbm, ⟨3, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S1024x2048, .bf16⟩
  | .local _ .vmem, ⟨3, _⟩ => ⟨S1024x2048, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DU1GatesReferenceIdeal.lean ====
abbrev S8320x4096 : Shape := ⟨2, ![8320, 4096]⟩
abbrev S2048x4096 : Shape := ⟨2, ![2048, 4096]⟩
abbrev S8320x2048 : Shape := ⟨2, ![8320, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2048x4096, .bf16⟩
  | .hbm, ⟨2, _⟩ => ⟨S8320x2048, .f32⟩
  | .hbm, ⟨3, _⟩ => ⟨S8320x4096, .f32⟩
  | .hbm, ⟨4, _⟩ => ⟨S2048x4096, .f32⟩
  | .hbm, ⟨5, _⟩ => ⟨S_, .f32⟩
  | .hbm, ⟨6, _⟩ => ⟨S8320x2048, .f32⟩
  | .hbm, ⟨7, _⟩ => ⟨S8320x4096, .f32⟩
  | .hbm, ⟨8, _⟩ => ⟨S8320x2048, .f32⟩
  | .hbm, ⟨9, _⟩ => ⟨S8320x2048, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DU1Krope.lean ====
abbrev S8320x128 : Shape := ⟨2, ![8320, 128]⟩
abbrev S2048x128 : Shape := ⟨2, ![2048, 128]⟩
abbrev S8320x2048 : Shape := ⟨2, ![8320, 2048]⟩
abbrev S640x128 : Shape := ⟨2, ![640, 128]⟩
abbrev S1024x128 : Shape := ⟨2, ![1024, 128]⟩
abbrev S640x1024 : Shape := ⟨2, ![640, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8320x128, .bf16⟩
  | .hbm, ⟨1, _⟩ => ⟨S2048x128, .bf16⟩
  | .hbm, ⟨2, _⟩ => ⟨S8320x2048, .f32⟩
  | .hbm, ⟨3, _⟩ => ⟨S8320x2048, .f32⟩
  | .local _ .vmem, ⟨0, _⟩ => ⟨S640x128, .bf16⟩
  | .local _ .vmem, ⟨1, _⟩ => ⟨S640x128, .bf16⟩
  | .local _ .vmem, ⟨2, _⟩ => ⟨S1024x128, .bf16⟩
  | .local _ .vmem, ⟨3, _⟩ => ⟨S1024x128, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | _, _ => ⟨S8320x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DU1KropeReferenceIdeal.lean ====
abbrev S8320x128 : Shape := ⟨2, ![8320, 128]⟩
abbrev S2048x128 : Shape := ⟨2, ![2048, 128]⟩
abbrev S8320x2048 : Shape := ⟨2, ![8320, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x128, .bf16⟩
  | .hbm, ⟨1, _⟩ => ⟨S2048x128, .bf16⟩
  | .hbm, ⟨2, _⟩ => ⟨S8320x2048, .f32⟩
  | .hbm, ⟨3, _⟩ => ⟨S8320x128, .f32⟩
  | .hbm, ⟨4, _⟩ => ⟨S2048x128, .f32⟩
  | .hbm, ⟨5, _⟩ => ⟨S_, .f32⟩
  | .hbm, ⟨6, _⟩ => ⟨S8320x2048, .f32⟩
  | .hbm, ⟨7, _⟩ => ⟨S8320x128, .f32⟩
  | .hbm, ⟨8, _⟩ => ⟨S8320x2048, .f32⟩
  | .hbm, ⟨9, _⟩ => ⟨S8320x2048, .f32⟩
  | _, _ => ⟨S8320x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Merge.lean ====
abbrev S8320x2048 : Shape := ⟨2, ![8320, 2048]⟩
abbrev S2048x2048 : Shape := ⟨2, ![2048, 2048]⟩
abbrev S8320x4096 : Shape := ⟨2, ![8320, 4096]⟩
abbrev S640x2048 : Shape := ⟨2, ![640, 2048]⟩
abbrev S2048x1024 : Shape := ⟨2, ![2048, 1024]⟩
abbrev S640x1024 : Shape := ⟨2, ![640, 1024]⟩
abbrev S128x2048 : Shape := ⟨2, ![128, 2048]⟩
abbrev S128x4096 : Shape := ⟨2, ![128, 4096]⟩
abbrev S1024x2048 : Shape := ⟨2, ![1024, 2048]⟩

abbrev nBuf : Space → Nat
  | .hbm => 18
  | .vmem => 60
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .bf16⟩
  | .hbm, ⟨3, _⟩ => ⟨S2048x2048, .bf16⟩
  | .hbm, ⟨4, _⟩ => ⟨S8320x4096, .bf16⟩
  | .hbm, ⟨5, _⟩ => ⟨S2048x2048, .bf16⟩
  | .hbm, ⟨6, _⟩ => ⟨S8320x2048, .f32⟩
  | .hbm, ⟨7, _⟩ => ⟨S8320x2048, .f32⟩
  | .hbm, ⟨8, _⟩ => ⟨S8320x2048, .bf16⟩
  | .hbm, ⟨9, _⟩ => ⟨S8320x2048, .bf16⟩
  | .hbm, ⟨10, _⟩ => ⟨S8320x2048, .bf16⟩
  | .hbm, ⟨11, _⟩ => ⟨S8320x2048, .f32⟩
  | .hbm, ⟨12, _⟩ => ⟨S8320x2048, .f32⟩
  | .hbm, ⟨13, _⟩ => ⟨S8320x2048, .bf16⟩
  | .hbm, ⟨14, _⟩ => ⟨S8320x2048, .bf16⟩
  | .hbm, ⟨15, _⟩ => ⟨S8320x4096, .bf16⟩
  | .hbm, ⟨16, _⟩ => ⟨S8320x2048, .bf16⟩
  | .hbm, ⟨17, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | .local _ .vmem, ⟨6, _⟩ => ⟨S640x2048, .bf16⟩
  | .local _ .vmem, ⟨7, _⟩ => ⟨S640x2048, .bf16⟩
  | .local _ .vmem, ⟨8, _⟩ => ⟨S2048x1024, .bf16⟩
  | .local _ .vmem, ⟨9, _⟩ => ⟨S2048x1024, .bf16⟩
  | .local _ .vmem, ⟨10, _⟩ => ⟨S640x1024, .bf16⟩
  | .local _ .vmem, ⟨11, _⟩ => ⟨S640x1024, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x4096, .bf16⟩
  | .local _ .vmem, ⟨17, _⟩ => ⟨S128x4096, .bf16⟩
  | .local _ .vmem, ⟨18, _⟩ => ⟨S128x2048, .bf16⟩
  | .local _ .vmem, ⟨19, _⟩ => ⟨S128x2048, .bf16⟩
  | .local _ .vmem, ⟨20, _⟩ => ⟨S640x2048, .bf16⟩
  | .local _ .vmem, ⟨21, _⟩ => ⟨S640x2048, .bf16⟩
  | .local _ .vmem, ⟨22, _⟩ => ⟨S2048x1024, .bf16⟩
  | .local _ .vmem, ⟨23, _⟩ => ⟨S2048x1024, .bf16⟩
  | .local _ .vmem, ⟨24, _⟩ => ⟨S640x1024, .f32⟩
  | .local _ .vmem, ⟨25, _⟩ => ⟨S640x1024, .f32⟩
  | .local _ .vmem, ⟨26, _⟩ => ⟨S640x1024, .f32⟩
  | .local _ .vmem, ⟨27, _⟩ => ⟨S640x1024, .f32⟩
  | .local _ .vmem, ⟨28, _⟩ => ⟨S640x2048, .f32⟩
  | .local _ .vmem, ⟨29, _⟩ => ⟨S640x2048, .f32⟩
  | .local _ .vmem, ⟨30, _⟩ => ⟨S1024x2048, .bf16⟩
  | .local _ .vmem, ⟨31, _⟩ => ⟨S1024x2048, .bf16⟩
  | .local _ .vmem, ⟨32, _⟩ => ⟨S640x1024, .f32⟩
  | .local _ .vmem, ⟨33, _⟩ => ⟨S640x1024, .f32⟩
  | .local _ .vmem, ⟨34, _⟩ => ⟨S128x2048, .f32⟩
  | .local _ .vmem, ⟨35, _⟩ => ⟨S128x2048, .f32⟩
  | .local _ .vmem, ⟨36, _⟩ => ⟨S128x2048, .bf16⟩
  | .local _ .vmem, ⟨37, _⟩ => ⟨S128x2048, .bf16⟩
  | .local _ .vmem, ⟨38, _⟩ => ⟨S128x2048, .bf16⟩
  | .local _ .vmem, ⟨39, _⟩ => ⟨S128x2048, .bf16⟩
  | .local _ .vmem, ⟨40, _⟩ => ⟨S128x4096, .bf16⟩
  | .local _ .vmem, ⟨41, _⟩ => ⟨S128x4096, .bf16⟩
  | .local _ .vmem, ⟨42, _⟩ => ⟨S128x2048, .bf16⟩
  | .local _ .vmem, ⟨43, _⟩ => ⟨S128x2048, .bf16⟩
  | .local _ .vmem, ⟨44, _⟩ => ⟨S128x2048, .bf16⟩
  | .local _ .vmem, ⟨45, _⟩ => ⟨S128x2048, .bf16⟩
  | .local _ .vmem, ⟨46, _⟩ => ⟨S128x4096, .bf16⟩
  | .local _ .vmem, ⟨47, _⟩ => ⟨S128x4096, .bf16⟩
  | .local _ .vmem, ⟨48, _⟩ => ⟨S640x2048, .bf16⟩
  | .local _ .vmem, ⟨49, _⟩ => ⟨S640x2048, .bf16⟩
  | .local _ .vmem, ⟨50, _⟩ => ⟨S1024x2048, .bf16⟩
  | .local _ .vmem, ⟨51, _⟩ => ⟨S1024x2048, .bf16⟩
  | .local _ .vmem, ⟨52, _⟩ => ⟨S640x1024, .bf16⟩
  | .local _ .vmem, ⟨53, _⟩ => ⟨S640x1024, .bf16⟩
  | .local _ .vmem, ⟨54, _⟩ => ⟨S640x2048, .bf16⟩
  | .local _ .vmem, ⟨55, _⟩ => ⟨S640x2048, .bf16⟩
  | .local _ .vmem, ⟨56, _⟩ => ⟨S1024x2048, .bf16⟩
  | .local _ .vmem, ⟨57, _⟩ => ⟨S1024x2048, .bf16⟩
  | .local _ .vmem, ⟨58, _⟩ => ⟨S640x1024, .f32⟩
  | .local _ .vmem, ⟨59, _⟩ => ⟨S640x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc5_stg5_0 : Ref sig .tc := ⟨.vmem, 44, rfl⟩
abbrev cc5_stg5_1 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg2_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc5_sem4_0 : DmaSem sig := 42
abbrev cc5_sem4_1 : DmaSem sig := 43
abbrev cc5_sem5_0 : DmaSem sig := 44
abbrev cc5_sem5_1 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59

abbrev nD : Nat := 1
abbrev τ : Topo := Topo.v7x

variable {F : FTy → Type} [FloatOps F]

abbrev grid0 : Pipeline.Grid := ⟨3, ![13, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![13, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S640x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S640x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![65], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![13, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S640x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S640x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S640x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![13, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S640x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S640x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![65], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S128x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S128x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S128x2048 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S128x4096 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S128x2048 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S128x2048 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S128x4096 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨3, ![13, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S640x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S640x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![13, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S640x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S640x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== MergeReferenceIdeal.lean ====
abbrev S8320x2048 : Shape := ⟨2, ![8320, 2048]⟩
abbrev S2048x2048 : Shape := ⟨2, ![2048, 2048]⟩
abbrev S8320x4096 : Shape := ⟨2, ![8320, 4096]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x2048, .bf16⟩
  | .hbm, ⟨2, _⟩ => ⟨S8320x2048, .bf16⟩
  | .hbm, ⟨3, _⟩ => ⟨S2048x2048, .bf16⟩
  | .hbm, ⟨4, _⟩ => ⟨S8320x4096, .bf16⟩
  | .hbm, ⟨5, _⟩ => ⟨S2048x2048, .bf16⟩
  | .hbm, ⟨6, _⟩ => ⟨S8320x2048, .f32⟩
  | .hbm, ⟨7, _⟩ => ⟨S8320x2048, .f32⟩
  | .hbm, ⟨8, _⟩ => ⟨S8320x2048, .f32⟩
  | .hbm, ⟨9, _⟩ => ⟨S2048x2048, .f32⟩
  | .hbm, ⟨10, _⟩ => ⟨S8320x2048, .f32⟩
  | .hbm, ⟨11, _⟩ => ⟨S2048x2048, .f32⟩
  | .hbm, ⟨12, _⟩ => ⟨S8320x4096, .f32⟩
  | .hbm, ⟨13, _⟩ => ⟨S2048x2048, .f32⟩
  | .hbm, ⟨14, _⟩ => ⟨S8320x2048, .f32⟩
  | .hbm, ⟨15, _⟩ => ⟨S8320x2048, .f32⟩
  | .hbm, ⟨16, _⟩ => ⟨S8320x2048, .f32⟩
  | .hbm, ⟨17, _⟩ => ⟨S8320x2048, .f32⟩
  | .hbm, ⟨18, _⟩ => ⟨S_, .f32⟩
  | .hbm, ⟨19, _⟩ => ⟨S8320x2048, .f32⟩
  | .hbm, ⟨20, _⟩ => ⟨S8320x2048, .f32⟩
  | .hbm, ⟨21, _⟩ => ⟨S_, .f32⟩
  | .hbm, ⟨22, _⟩ => ⟨S8320x2048, .f32⟩
  | .hbm, ⟨23, _⟩ => ⟨S8320x2048, .f32⟩
  | .hbm, ⟨24, _⟩ => ⟨S_, .f32⟩
  | .hbm, ⟨25, _⟩ => ⟨S8320x2048, .f32⟩
  | .hbm, ⟨26, _⟩ => ⟨S8320x2048, .f32⟩
  | .hbm, ⟨27, _⟩ => ⟨S8320x2048, .f32⟩
  | .hbm, ⟨28, _⟩ => ⟨S8320x2048, .f32⟩
  | .hbm, ⟨29, _⟩ => ⟨S8320x2048, .f32⟩
  | .hbm, ⟨30, _⟩ => ⟨S8320x2048, .f32⟩
  | .hbm, ⟨31, _⟩ => ⟨S8320x2048, .f32⟩
  | .hbm, ⟨32, _⟩ => ⟨S_, .f32⟩
  | .hbm, ⟨33, _⟩ => ⟨S8320x2048, .f32⟩
  | .hbm, ⟨34, _⟩ => ⟨S8320x2048, .f32⟩
  | .hbm, ⟨35, _⟩ => ⟨S_, .f32⟩
  | .hbm, ⟨36, _⟩ => ⟨S8320x2048, .f32⟩
  | .hbm, ⟨37, _⟩ => ⟨S8320x2048, .f32⟩
  | .hbm, ⟨38, _⟩ => ⟨S_, .f32⟩
  | .hbm, ⟨39, _⟩ => ⟨S8320x2048, .f32⟩
  | .hbm, ⟨40, _⟩ => ⟨S8320x2048, .f32⟩
  | .hbm, ⟨41, _⟩ => ⟨S8320x2048, .f32⟩
  | .hbm, ⟨42, _⟩ => ⟨S8320x2048, .f32⟩
  | .hbm, ⟨43, _⟩ => ⟨S8320x2048, .f32⟩
  | .hbm, ⟨44, _⟩ => ⟨S8320x2048, .f32⟩
  | .hbm, ⟨45, _⟩ => ⟨S8320x2048, .f32⟩
  | .hbm, ⟨46, _⟩ => ⟨S8320x2048, .f32⟩
  | .hbm, ⟨47, _⟩ => ⟨S8320x2048, .f32⟩
  | .hbm, ⟨48, _⟩ => ⟨S8320x2048, .f32⟩
  | .hbm, ⟨49, _⟩ => ⟨S8320x2048, .f32⟩
  | .hbm, ⟨50, _⟩ => ⟨S8320x2048, .f32⟩
  | .hbm, ⟨51, _⟩ => ⟨S8320x2048, .f32⟩
  | .hbm, ⟨52, _⟩ => ⟨S8320x2048, .f32⟩
  | .hbm, ⟨53, _⟩ => ⟨S8320x2048, .f32⟩
  | .hbm, ⟨54, _⟩ => ⟨S8320x2048, .f32⟩
  | .hbm, ⟨55, _⟩ => ⟨S8320x2048, .f32⟩
  | .hbm, ⟨56, _⟩ => ⟨S8320x4096, .f32⟩
  | .hbm, ⟨57, _⟩ => ⟨S8320x2048, .bf16⟩
  | .hbm, ⟨58, _⟩ => ⟨S8320x4096, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Project.lean ====
abbrev S8320x2048 : Shape := ⟨2, ![8320, 2048]⟩
abbrev S2048x8192 : Shape := ⟨2, ![2048, 8192]⟩
abbrev S2048x2048 : Shape := ⟨2, ![2048, 2048]⟩
abbrev S2048x4096 : Shape := ⟨2, ![2048, 4096]⟩
abbrev S2048x128 : Shape := ⟨2, ![2048, 128]⟩
abbrev S1x512 : Shape := ⟨2, ![1, 512]⟩
abbrev S512x4096 : Shape := ⟨2, ![512, 4096]⟩
abbrev S8320x8192 : Shape := ⟨2, ![8320, 8192]⟩
abbrev S640x2048 : Shape := ⟨2, ![640, 2048]⟩
abbrev S2048x1024 : Shape := ⟨2, ![2048, 1024]⟩
abbrev S640x1024 : Shape := ⟨2, ![640, 1024]⟩
abbrev S8320x4096 : Shape := ⟨2, ![8320, 4096]⟩
abbrev S8320x128 : Shape := ⟨2, ![8320, 128]⟩
abbrev S640x128 : Shape := ⟨2, ![640, 128]⟩
abbrev S8320x512 : Shape := ⟨2, ![8320, 512]⟩
abbrev S128x512 : Shape := ⟨2, ![128, 512]⟩
abbrev S128 : Shape := ⟨1, ![128]⟩
abbrev S128x1 : Shape := ⟨2, ![128, 1]⟩
abbrev S640x512 : Shape := ⟨2, ![640, 512]⟩
abbrev S512x1024 : Shape := ⟨2, ![512, 1024]⟩

abbrev nBuf : Space → Nat
  | .hbm => 13
  | .vmem => 34
  | .smem => 0
  | _ => 0

abbrev bufTy : (tb : Table) → Fin (tcTables nBuf tb) → BufTy
  | .hbm, ⟨0, _⟩ => ⟨S8320x2048, .bf16⟩
  | .hbm, ⟨1, _⟩ => ⟨S2048x8192, .bf16⟩
  | .hbm, ⟨2, _⟩ => ⟨S2048x2048, .bf16⟩
  | .hbm, ⟨3, _⟩ => ⟨S2048x4096, .bf16⟩
  | .hbm, ⟨4, _⟩ => ⟨S2048x128, .bf16⟩
  | .hbm, ⟨5, _⟩ => ⟨S1x512, .f32⟩
  | .hbm, ⟨6, _⟩ => ⟨S512x4096, .bf16⟩
  | .hbm, ⟨7, _⟩ => ⟨S8320x8192, .bf16⟩
  | .hbm, ⟨8, _⟩ => ⟨S8320x2048, .bf16⟩
  | .hbm, ⟨9, _⟩ => ⟨S8320x4096, .bf16⟩
  | .hbm, ⟨10, _⟩ => ⟨S8320x128, .f32⟩
  | .hbm, ⟨11, _⟩ => ⟨S8320x512, .bf16⟩
  | .hbm, ⟨12, _⟩ => ⟨S8320x4096, .bf16⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | .local _ .vmem, ⟨6, _⟩ => ⟨S640x2048, .bf16⟩
  | .local _ .vmem, ⟨7, _⟩ => ⟨S640x2048, .bf16⟩
  | .local _ .vmem, ⟨8, _⟩ => ⟨S2048x1024, .bf16⟩
  | .local _ .vmem, ⟨9, _⟩ => ⟨S2048x1024, .bf16⟩
  | .local _ .vmem, ⟨10, _⟩ => ⟨S640x1024, .bf16⟩
  | .local _ .vmem, ⟨11, _⟩ => ⟨S640x1024, .bf16⟩
  | .local _ .vmem, ⟨12, _⟩ => ⟨S640x2048, .bf16⟩
  | .local _ .vmem, ⟨13, _⟩ => ⟨S640x2048, .bf16⟩
  | .local _ .vmem, ⟨14, _⟩ => ⟨S2048x1024, .bf16⟩
  | .local _ .vmem, ⟨15, _⟩ => ⟨S2048x1024, .bf16⟩
  | .local _ .vmem, ⟨16, _⟩ => ⟨S640x1024, .bf16⟩
  | .local _ .vmem, ⟨17, _⟩ => ⟨S640x1024, .bf16⟩
  | .local _ .vmem, ⟨18, _⟩ => ⟨S640x2048, .bf16⟩
  | .local _ .vmem, ⟨19, _⟩ => ⟨S640x2048, .bf16⟩
  | .local _ .vmem, ⟨20, _⟩ => ⟨S2048x128, .bf16⟩
  | .local _ .vmem, ⟨21, _⟩ => ⟨S640x128, .f32⟩
  | .local _ .vmem, ⟨22, _⟩ => ⟨S640x128, .f32⟩
  | .local _ .vmem, ⟨23, _⟩ => ⟨S128x512, .bf16⟩
  | .local _ .vmem, ⟨24, _⟩ => ⟨S128x512, .bf16⟩
  | .local _ .vmem, ⟨25, _⟩ => ⟨S1x512, .f32⟩
  | .local _ .vmem, ⟨26, _⟩ => ⟨S128x512, .bf16⟩
  | .local _ .vmem, ⟨27, _⟩ => ⟨S128x512, .bf16⟩
  | .local _ .vmem, ⟨28, _⟩ => ⟨S640x512, .bf16⟩
  | .local _ .vmem, ⟨29, _⟩ => ⟨S640x512, .bf16⟩
  | .local _ .vmem, ⟨30, _⟩ => ⟨S512x1024, .bf16⟩
  | .local _ .vmem, ⟨31, _⟩ => ⟨S512x1024, .bf16⟩
  | .local _ .vmem, ⟨32, _⟩ => ⟨S640x1024, .bf16⟩
  | .local _ .vmem, ⟨33, _⟩ => ⟨S640x1024, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨3, ![13, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![13, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S640x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S640x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![13, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S640x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S640x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![13, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S640x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S640x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![65], ![false]⟩

def cc4_transform_0 (i : grid4.Coords) : Fin 2 → Nat :=
  let arg0 : BitVec 32 := BitVec.ofNat 32 (i 0).val
  let c3_i32 : BitVec 32 := 3#32
  let c0_i32 : BitVec 32 := 0#32
  ![arg0.toNat, c3_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S128x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨3, ![13, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S640x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S640x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== ProjectReferenceIdeal.lean ====
abbrev S8320x2048 : Shape := ⟨2, ![8320, 2048]⟩
abbrev S2048x8192 : Shape := ⟨2, ![2048, 8192]⟩
abbrev S2048x2048 : Shape := ⟨2, ![2048, 2048]⟩
abbrev S2048x4096 : Shape := ⟨2, ![2048, 4096]⟩
abbrev S2048x128 : Shape := ⟨2, ![2048, 128]⟩
abbrev S1x512 : Shape := ⟨2, ![1, 512]⟩
abbrev S512x4096 : Shape := ⟨2, ![512, 4096]⟩
abbrev S8320x1536 : Shape := ⟨2, ![8320, 1536]⟩
abbrev S8320x512 : Shape := ⟨2, ![8320, 512]⟩
abbrev S_ : Shape := ⟨0, ![]⟩
abbrev S8320 : Shape := ⟨1, ![8320]⟩
abbrev S8320x1 : Shape := ⟨2, ![8320, 1]⟩
abbrev S8320x4096 : Shape := ⟨2, ![8320, 4096]⟩
abbrev S8320x8192 : Shape := ⟨2, ![8320, 8192]⟩
abbrev S8320x128 : Shape := ⟨2, ![8320, 128]⟩

abbrev nBuf : Space → Nat
  | .hbm => 39
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x8192, .bf16⟩
  | .hbm, ⟨2, _⟩ => ⟨S2048x2048, .bf16⟩
  | .hbm, ⟨3, _⟩ => ⟨S2048x4096, .bf16⟩
  | .hbm, ⟨4, _⟩ => ⟨S2048x128, .bf16⟩
  | .hbm, ⟨5, _⟩ => ⟨S1x512, .f32⟩
  | .hbm, ⟨6, _⟩ => ⟨S512x4096, .bf16⟩
  | .hbm, ⟨7, _⟩ => ⟨S8320x2048, .f32⟩
  | .hbm, ⟨8, _⟩ => ⟨S2048x8192, .f32⟩
  | .hbm, ⟨9, _⟩ => ⟨S2048x2048, .f32⟩
  | .hbm, ⟨10, _⟩ => ⟨S2048x4096, .f32⟩
  | .hbm, ⟨11, _⟩ => ⟨S2048x128, .f32⟩
  | .hbm, ⟨12, _⟩ => ⟨S512x4096, .f32⟩
  | .hbm, ⟨13, _⟩ => ⟨S8320x2048, .f32⟩
  | .hbm, ⟨14, _⟩ => ⟨S8320x1536, .f32⟩
  | .hbm, ⟨15, _⟩ => ⟨S8320x512, .f32⟩
  | .hbm, ⟨16, _⟩ => ⟨S8320x512, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S_, .f32⟩
  | .hbm, ⟨24, _⟩ => ⟨S8320x1, .f32⟩
  | .hbm, ⟨25, _⟩ => ⟨S8320x1, .f32⟩
  | .hbm, ⟨26, _⟩ => ⟨S8320x1, .f32⟩
  | .hbm, ⟨27, _⟩ => ⟨S8320x512, .f32⟩
  | .hbm, ⟨28, _⟩ => ⟨S8320x512, .f32⟩
  | .hbm, ⟨29, _⟩ => ⟨S8320x512, .f32⟩
  | .hbm, ⟨30, _⟩ => ⟨S8320x512, .f32⟩
  | .hbm, ⟨31, _⟩ => ⟨S8320x4096, .f32⟩
  | .hbm, ⟨32, _⟩ => ⟨S8320x8192, .f32⟩
  | .hbm, ⟨33, _⟩ => ⟨S8320x8192, .bf16⟩
  | .hbm, ⟨34, _⟩ => ⟨S8320x2048, .bf16⟩
  | .hbm, ⟨35, _⟩ => ⟨S8320x4096, .f32⟩
  | .hbm, ⟨36, _⟩ => ⟨S8320x4096, .bf16⟩
  | .hbm, ⟨37, _⟩ => ⟨S8320x128, .f32⟩
  | .hbm, ⟨38, _⟩ => ⟨S8320x4096, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== QUp.lean ====
abbrev S8320x1536 : Shape := ⟨2, ![8320, 1536]⟩
abbrev S1536x4096 : Shape := ⟨2, ![1536, 4096]⟩
abbrev S8320x4096 : Shape := ⟨2, ![8320, 4096]⟩
abbrev S640x1536 : Shape := ⟨2, ![640, 1536]⟩
abbrev S1536x1024 : Shape := ⟨2, ![1536, 1024]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1536, .bf16⟩
  | .hbm, ⟨1, _⟩ => ⟨S1536x4096, .bf16⟩
  | .hbm, ⟨2, _⟩ => ⟨S8320x4096, .bf16⟩
  | .local _ .vmem, ⟨0, _⟩ => ⟨S640x1536, .bf16⟩
  | .local _ .vmem, ⟨1, _⟩ => ⟨S640x1536, .bf16⟩
  | .local _ .vmem, ⟨2, _⟩ => ⟨S1536x1024, .bf16⟩
  | .local _ .vmem, ⟨3, _⟩ => ⟨S1536x1024, .bf16⟩
  | .local _ .vmem, ⟨4, _⟩ => ⟨S640x1024, .bf16⟩
  | .local _ .vmem, ⟨5, _⟩ => ⟨S640x1024, .bf16⟩
  | _, _ => ⟨S8320x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QUpReferenceIdeal.lean ====
abbrev S8320x1536 : Shape := ⟨2, ![8320, 1536]⟩
abbrev S1536x4096 : Shape := ⟨2, ![1536, 4096]⟩
abbrev S8320x4096 : Shape := ⟨2, ![8320, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8320x1536, .bf16⟩
  | .hbm, ⟨1, _⟩ => ⟨S1536x4096, .bf16⟩
  | .hbm, ⟨2, _⟩ => ⟨S8320x1536, .f32⟩
  | .hbm, ⟨3, _⟩ => ⟨S1536x4096, .f32⟩
  | .hbm, ⟨4, _⟩ => ⟨S8320x4096, .f32⟩
  | .hbm, ⟨5, _⟩ => ⟨S8320x4096, .bf16⟩
  | _, _ => ⟨S8320x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormQ.lean ====
abbrev S8320x2048 : Shape := ⟨2, ![8320, 2048]⟩
abbrev S1x1536 : Shape := ⟨2, ![1, 1536]⟩
abbrev S8320x1536 : Shape := ⟨2, ![8320, 1536]⟩
abbrev S128x1536 : Shape := ⟨2, ![128, 1536]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S1x1536, .f32⟩
  | .hbm, ⟨2, _⟩ => ⟨S8320x1536, .bf16⟩
  | .local _ .vmem, ⟨0, _⟩ => ⟨S128x1536, .bf16⟩
  | .local _ .vmem, ⟨1, _⟩ => ⟨S128x1536, .bf16⟩
  | .local _ .vmem, ⟨2, _⟩ => ⟨S1x1536, .f32⟩
  | .local _ .vmem, ⟨3, _⟩ => ⟨S128x1536, .bf16⟩
  | .local _ .vmem, ⟨4, _⟩ => ⟨S128x1536, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormQReferenceIdeal.lean ====
abbrev S8320x2048 : Shape := ⟨2, ![8320, 2048]⟩
abbrev S1x1536 : Shape := ⟨2, ![1, 1536]⟩
abbrev S8320x1536 : Shape := ⟨2, ![8320, 1536]⟩
abbrev S8320x512 : Shape := ⟨2, ![8320, 512]⟩
abbrev S_ : Shape := ⟨0, ![]⟩
abbrev S8320 : Shape := ⟨1, ![8320]⟩
abbrev S8320x1 : Shape := ⟨2, ![8320, 1]⟩

abbrev nBuf : Space → Nat
  | .hbm => 21
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x1536, .f32⟩
  | .hbm, ⟨2, _⟩ => ⟨S8320x2048, .f32⟩
  | .hbm, ⟨3, _⟩ => ⟨S8320x1536, .f32⟩
  | .hbm, ⟨4, _⟩ => ⟨S8320x512, .f32⟩
  | .hbm, ⟨5, _⟩ => ⟨S8320x1536, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1536, .f32⟩
  | .hbm, ⟨17, _⟩ => ⟨S8320x1536, .f32⟩
  | .hbm, ⟨18, _⟩ => ⟨S8320x1536, .f32⟩
  | .hbm, ⟨19, _⟩ => ⟨S8320x1536, .f32⟩
  | .hbm, ⟨20, _⟩ => ⟨S8320x1536, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Attn.lean ====
abbrev S91 : Shape := ⟨1, ![91]⟩
abbrev S8320x4096 : Shape := ⟨2, ![8320, 4096]⟩
abbrev S8320x2048 : Shape := ⟨2, ![8320, 2048]⟩
abbrev S640x1024 : Shape := ⟨2, ![640, 1024]⟩
abbrev S1 : Shape := ⟨1, ![1]⟩
abbrev S640x512 : Shape := ⟨2, ![640, 512]⟩
abbrev S4x640x128 : Shape := ⟨3, ![4, 640, 128]⟩
abbrev S640x256 : Shape := ⟨2, ![640, 256]⟩
abbrev S640x640 : Shape := ⟨2, ![640, 640]⟩
abbrev S1x640x128 : Shape := ⟨3, ![1, 640, 128]⟩
abbrev S640x128 : Shape := ⟨2, ![640, 128]⟩
abbrev S640 : Shape := ⟨1, ![640]⟩
abbrev S640x1 : Shape := ⟨2, ![640, 1]⟩

abbrev nBuf : Space → Nat
  | .hbm => 5
  | .vmem => 13
  | .smem => 2
  | _ => 0

abbrev bufTy : (tb : Table) → Fin (tcTables nBuf tb) → BufTy
  | .hbm, ⟨0, _⟩ => ⟨S8320x4096, .bf16⟩
  | .hbm, ⟨1, _⟩ => ⟨S8320x4096, .bf16⟩
  | .hbm, ⟨2, _⟩ => ⟨S8320x2048, .bf16⟩
  | .hbm, ⟨3, _⟩ => ⟨S8320x2048, .bf16⟩
  | .hbm, ⟨4, _⟩ => ⟨S8320x2048, .f32⟩
  | .local _ .vmem, ⟨0, _⟩ => ⟨S640x1024, .bf16⟩
  | .local _ .vmem, ⟨1, _⟩ => ⟨S640x1024, .bf16⟩
  | .local _ .vmem, ⟨2, _⟩ => ⟨S640x1024, .bf16⟩
  | .local _ .vmem, ⟨3, _⟩ => ⟨S640x1024, .bf16⟩
  | .local _ .vmem, ⟨4, _⟩ => ⟨S640x512, .bf16⟩
  | .local _ .vmem, ⟨5, _⟩ => ⟨S640x512, .bf16⟩
  | .local _ .vmem, ⟨6, _⟩ => ⟨S640x512, .bf16⟩
  | .local _ .vmem, ⟨7, _⟩ => ⟨S640x512, .bf16⟩
  | .local _ .vmem, ⟨8, _⟩ => ⟨S640x512, .f32⟩
  | .local _ .vmem, ⟨9, _⟩ => ⟨S640x512, .f32⟩
  | .local _ .vmem, ⟨10, _⟩ => ⟨S4x640x128, .f32⟩
  | .local _ .vmem, ⟨11, _⟩ => ⟨S4x640x128, .f32⟩
  | .local _ .vmem, ⟨12, _⟩ => ⟨S4x640x128, .f32⟩
  | .local _ .smem, ⟨0, _⟩ => ⟨S91, .i32⟩
  | .local _ .smem, ⟨1, _⟩ => ⟨S91, .i32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0_0 : Ref sig .tc := ⟨.hbm, 3, rfl⟩
abbrev main_v0_1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 91], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let v19 : BitVec 1 := Scalar.cmpi .eq v3 v1
  let v20 : BitVec 32 := Scalar.extui v19
  let c0_i32_6 : BitVec 32 := 0#32
  let v21 : BitVec 1 := Scalar.cmpi .ne v20 c0_i32_6
  v21

def cc0_transform_0 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S91) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S91.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S91) ![v0.toNat] S1.size (k0_off1_inb i)) numel1_S1
  let c0_i32 : BitVec 32 := 0#32
  ![v1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "mask" => some ⊥
  | _ => none
-- ==== AttnReferenceIdeal.lean ====
abbrev S91 : Shape := ⟨1, ![91]⟩
abbrev S8320x4096 : Shape := ⟨2, ![8320, 4096]⟩
abbrev S8320x2048 : Shape := ⟨2, ![8320, 2048]⟩
abbrev S8320x16x256 : Shape := ⟨3, ![8320, 16, 256]⟩
abbrev S8320x16x128 : Shape := ⟨3, ![8320, 16, 128]⟩
abbrev S8320 : Shape := ⟨1, ![8320]⟩
abbrev S_ : Shape := ⟨0, ![]⟩
abbrev S1x8320 : Shape := ⟨2, ![1, 8320]⟩
abbrev S8320x1 : Shape := ⟨2, ![8320, 1]⟩
abbrev S8320x8320 : Shape := ⟨2, ![8320, 8320]⟩
abbrev S16x8320x8320 : Shape := ⟨3, ![16, 8320, 8320]⟩
abbrev S16x8320 : Shape := ⟨2, ![16, 8320]⟩
abbrev S16x8320x1 : Shape := ⟨3, ![16, 8320, 1]⟩
abbrev S16x128x8320 : Shape := ⟨3, ![16, 128, 8320]⟩
abbrev S8320x16 : Shape := ⟨2, ![8320, 16]⟩
abbrev S8320x16x1 : Shape := ⟨3, ![8320, 16, 1]⟩

abbrev nBuf : Space → Nat
  | .hbm => 67
  | .vmem => 0
  | .smem => 0
  | _ => 0

abbrev bufTy : (tb : Table) → Fin (tcTables nBuf tb) → BufTy
  | .hbm, ⟨0, _⟩ => ⟨S91, .i32⟩
  | .hbm, ⟨1, _⟩ => ⟨S91, .i32⟩
  | .hbm, ⟨2, _⟩ => ⟨S8320x4096, .bf16⟩
  | .hbm, ⟨3, _⟩ => ⟨S8320x4096, .bf16⟩
  | .hbm, ⟨4, _⟩ => ⟨S8320x2048, .bf16⟩
  | .hbm, ⟨5, _⟩ => ⟨S8320x4096, .f32⟩
  | .hbm, ⟨6, _⟩ => ⟨S8320x16x256, .f32⟩
  | .hbm, ⟨7, _⟩ => ⟨S8320x4096, .f32⟩
  | .hbm, ⟨8, _⟩ => ⟨S8320x16x256, .f32⟩
  | .hbm, ⟨9, _⟩ => ⟨S8320x2048, .f32⟩
  | .hbm, ⟨10, _⟩ => ⟨S8320x16x128, .f32⟩
  | .hbm, ⟨11, _⟩ => ⟨S8320, .i32⟩
  | .hbm, ⟨12, _⟩ => ⟨S_, .i32⟩
  | .hbm, ⟨13, _⟩ => ⟨S8320, .i32⟩
  | .hbm, ⟨14, _⟩ => ⟨S8320, .i1⟩
  | .hbm, ⟨15, _⟩ => ⟨S1x8320, .i32⟩
  | .hbm, ⟨16, _⟩ => ⟨S8320x1, .i32⟩
  | .hbm, ⟨17, _⟩ => ⟨S8320x8320, .i32⟩
  | .hbm, ⟨18, _⟩ => ⟨S8320x8320, .i32⟩
  | .hbm, ⟨19, _⟩ => ⟨S8320x8320, .i1⟩
  | .hbm, ⟨20, _⟩ => ⟨S1x8320, .i1⟩
  | .hbm, ⟨21, _⟩ => ⟨S1x8320, .i32⟩
  | .hbm, ⟨22, _⟩ => ⟨S8320x1, .i32⟩
  | .hbm, ⟨23, _⟩ => ⟨S8320x8320, .i32⟩
  | .hbm, ⟨24, _⟩ => ⟨S8320x8320, .i32⟩
  | .hbm, ⟨25, _⟩ => ⟨S8320x8320, .i1⟩
  | .hbm, ⟨26, _⟩ => ⟨S8320x8320, .i1⟩
  | .hbm, ⟨27, _⟩ => ⟨S8320x8320, .i1⟩
  | .hbm, ⟨28, _⟩ => ⟨S16x8320x8320, .f32⟩
  | .hbm, ⟨29, _⟩ => ⟨S8320x8320, .i1⟩
  | .hbm, ⟨30, _⟩ => ⟨S_, .f32⟩
  | .hbm, ⟨31, _⟩ => ⟨S_, .f32⟩
  | .hbm, ⟨32, _⟩ => ⟨S16x8320x8320, .i1⟩
  | .hbm, ⟨33, _⟩ => ⟨S16x8320x8320, .f32⟩
  | .hbm, ⟨34, _⟩ => ⟨S16x8320x8320, .f32⟩
  | .hbm, ⟨35, _⟩ => ⟨S_, .f32⟩
  | .hbm, ⟨36, _⟩ => ⟨S16x8320, .f32⟩
  | .hbm, ⟨37, _⟩ => ⟨S_, .f32⟩
  | .hbm, ⟨38, _⟩ => ⟨S16x8320, .f32⟩
  | .hbm, ⟨39, _⟩ => ⟨S16x8320, .f32⟩
  | .hbm, ⟨40, _⟩ => ⟨S16x8320x1, .f32⟩
  | .hbm, ⟨41, _⟩ => ⟨S16x8320x8320, .f32⟩
  | .hbm, ⟨42, _⟩ => ⟨S16x8320x8320, .f32⟩
  | .hbm, ⟨43, _⟩ => ⟨S16x8320x8320, .f32⟩
  | .hbm, ⟨44, _⟩ => ⟨S_, .f32⟩
  | .hbm, ⟨45, _⟩ => ⟨S16x8320, .f32⟩
  | .hbm, ⟨46, _⟩ => ⟨S16x8320x1, .f32⟩
  | .hbm, ⟨47, _⟩ => ⟨S16x8320x8320, .f32⟩
  | .hbm, ⟨48, _⟩ => ⟨S16x8320x8320, .f32⟩
  | .hbm, ⟨49, _⟩ => ⟨S16x128x8320, .f32⟩
  | .hbm, ⟨50, _⟩ => ⟨S8320x16x128, .f32⟩
  | .hbm, ⟨51, _⟩ => ⟨S_, .f32⟩
  | .hbm, ⟨52, _⟩ => ⟨S16x8320, .f32⟩
  | .hbm, ⟨53, _⟩ => ⟨S16x8320x1, .f32⟩
  | .hbm, ⟨54, _⟩ => ⟨S16x8320x8320, .f32⟩
  | .hbm, ⟨55, _⟩ => ⟨S16x8320x8320, .f32⟩
  | .hbm, ⟨56, _⟩ => ⟨S16x8320x8320, .f32⟩
  | .hbm, ⟨57, _⟩ => ⟨S_, .f32⟩
  | .hbm, ⟨58, _⟩ => ⟨S16x8320, .f32⟩
  | .hbm, ⟨59, _⟩ => ⟨S16x8320, .f32⟩
  | .hbm, ⟨60, _⟩ => ⟨S16x8320, .f32⟩
  | .hbm, ⟨61, _⟩ => ⟨S8320x16, .f32⟩
  | .hbm, ⟨62, _⟩ => ⟨S8320x16x1, .f32⟩
  | .hbm, ⟨63, _⟩ => ⟨S8320x16x128, .f32⟩
  | .hbm, ⟨64, _⟩ => ⟨S8320x2048, .f32⟩
  | .hbm, ⟨65, _⟩ => ⟨S8320x2048, .bf16⟩
  | .hbm, ⟨66, _⟩ => ⟨S8320x2048, .f32⟩
  | _, _ => ⟨S91, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Delta.lean ====
abbrev S8320x2048 : Shape := ⟨2, ![8320, 2048]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .f32⟩
  | .local _ .vmem, ⟨5, _⟩ => ⟨S128x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DeltaReferenceIdeal.lean ====
abbrev S8320x2048 : Shape := ⟨2, ![8320, 2048]⟩
abbrev S8320x16x128 : Shape := ⟨3, ![8320, 16, 128]⟩
abbrev S_ : Shape := ⟨0, ![]⟩
abbrev S8320x16 : Shape := ⟨2, ![8320, 16]⟩
abbrev S8320x16x1 : Shape := ⟨3, ![8320, 16, 1]⟩

abbrev nBuf : Space → Nat
  | .hbm => 12
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S8320x2048, .f32⟩
  | .hbm, ⟨3, _⟩ => ⟨S8320x16x128, .f32⟩
  | .hbm, ⟨4, _⟩ => ⟨S8320x2048, .f32⟩
  | .hbm, ⟨5, _⟩ => ⟨S8320x16x128, .f32⟩
  | .hbm, ⟨6, _⟩ => ⟨S8320x16x128, .f32⟩
  | .hbm, ⟨7, _⟩ => ⟨S_, .f32⟩
  | .hbm, ⟨8, _⟩ => ⟨S8320x16, .f32⟩
  | .hbm, ⟨9, _⟩ => ⟨S8320x16x1, .f32⟩
  | .hbm, ⟨10, _⟩ => ⟨S8320x16x128, .f32⟩
  | .hbm, ⟨11, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== PairSum.lean ====
abbrev S4x704x2048 : Shape := ⟨3, ![4, 704, 2048]⟩
abbrev S4x64x2048 : Shape := ⟨3, ![4, 64, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S4x704x2048, .bf16⟩
  | .local _ .vmem, ⟨0, _⟩ => ⟨S4x64x2048, .bf16⟩
  | .local _ .vmem, ⟨1, _⟩ => ⟨S4x64x2048, .bf16⟩
  | .local _ .vmem, ⟨2, _⟩ => ⟨S4x64x2048, .bf16⟩
  | .local _ .vmem, ⟨3, _⟩ => ⟨S4x64x2048, .bf16⟩
  | .local _ .vmem, ⟨4, _⟩ => ⟨S4x64x2048, .bf16⟩
  | .local _ .vmem, ⟨5, _⟩ => ⟨S4x64x2048, .bf16⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumReferenceIdeal.lean ====
abbrev S4x704x2048 : Shape := ⟨3, ![4, 704, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .bf16⟩
  | .hbm, ⟨2, _⟩ => ⟨S4x704x2048, .f32⟩
  | .hbm, ⟨3, _⟩ => ⟨S4x704x2048, .f32⟩
  | .hbm, ⟨4, _⟩ => ⟨S4x704x2048, .f32⟩
  | .hbm, ⟨5, _⟩ => ⟨S4x704x2048, .bf16⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ChipSum.lean ====
abbrev S4x704x2048 : Shape := ⟨3, ![4, 704, 2048]⟩
abbrev S704x2048 : Shape := ⟨2, ![704, 2048]⟩
abbrev S4x64x2048 : Shape := ⟨3, ![4, 64, 2048]⟩
abbrev S64x2048 : Shape := ⟨2, ![64, 2048]⟩
abbrev S1x64x2048 : Shape := ⟨3, ![1, 64, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x704x2048, .bf16⟩
  | .hbm, ⟨1, _⟩ => ⟨S704x2048, .f32⟩
  | .local _ .vmem, ⟨0, _⟩ => ⟨S4x64x2048, .bf16⟩
  | .local _ .vmem, ⟨1, _⟩ => ⟨S4x64x2048, .bf16⟩
  | .local _ .vmem, ⟨2, _⟩ => ⟨S64x2048, .f32⟩
  | .local _ .vmem, ⟨3, _⟩ => ⟨S64x2048, .f32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumReferenceIdeal.lean ====
abbrev S4x704x2048 : Shape := ⟨3, ![4, 704, 2048]⟩
abbrev S_ : Shape := ⟨0, ![]⟩
abbrev S704x2048 : Shape := ⟨2, ![704, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S4x704x2048, .f32⟩
  | .hbm, ⟨2, _⟩ => ⟨S_, .f32⟩
  | .hbm, ⟨3, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Embed.lean ====
abbrev S8192x2048 : Shape := ⟨2, ![8192, 2048]⟩
abbrev S16x2048 : Shape := ⟨2, ![16, 2048]⟩
abbrev S1x2048 : Shape := ⟨2, ![1, 2048]⟩
abbrev S8320x2048 : Shape := ⟨2, ![8320, 2048]⟩
abbrev S128x2048 : Shape := ⟨2, ![128, 2048]⟩
abbrev S128 : Shape := ⟨1, ![128]⟩
abbrev S128x1 : Shape := ⟨2, ![128, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S1x2048, .f32⟩
  | .hbm, ⟨3, _⟩ => ⟨S8320x2048, .f32⟩
  | .hbm, ⟨4, _⟩ => ⟨S8320x2048, .bf16⟩
  | .local _ .vmem, ⟨0, _⟩ => ⟨S128x2048, .f32⟩
  | .local _ .vmem, ⟨1, _⟩ => ⟨S128x2048, .f32⟩
  | .local _ .vmem, ⟨2, _⟩ => ⟨S16x2048, .f32⟩
  | .local _ .vmem, ⟨3, _⟩ => ⟨S1x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .bf16⟩
  | .local _ .vmem, ⟨7, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EmbedReferenceIdeal.lean ====
abbrev S8192x2048 : Shape := ⟨2, ![8192, 2048]⟩
abbrev S16x2048 : Shape := ⟨2, ![16, 2048]⟩
abbrev S1x2048 : Shape := ⟨2, ![1, 2048]⟩
abbrev S_ : Shape := ⟨0, ![]⟩
abbrev S112x2048 : Shape := ⟨2, ![112, 2048]⟩
abbrev S8320x2048 : Shape := ⟨2, ![8320, 2048]⟩
abbrev S8320 : Shape := ⟨1, ![8320]⟩
abbrev S8320x1 : Shape := ⟨2, ![8320, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S1x2048, .f32⟩
  | .hbm, ⟨3, _⟩ => ⟨S_, .f32⟩
  | .hbm, ⟨4, _⟩ => ⟨S112x2048, .f32⟩
  | .hbm, ⟨5, _⟩ => ⟨S8320x2048, .f32⟩
  | .hbm, ⟨6, _⟩ => ⟨S8320x2048, .f32⟩
  | .hbm, ⟨7, _⟩ => ⟨S_, .f32⟩
  | .hbm, ⟨8, _⟩ => ⟨S8320, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S_, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S8320x2048, .f32⟩
  | .hbm, ⟨18, _⟩ => ⟨S8320x2048, .f32⟩
  | .hbm, ⟨19, _⟩ => ⟨S8320x2048, .f32⟩
  | .hbm, ⟨20, _⟩ => ⟨S8320x2048, .f32⟩
  | .hbm, ⟨21, _⟩ => ⟨S8320x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Rope.lean ====
abbrev S8320x4096 : Shape := ⟨2, ![8320, 4096]⟩
abbrev S8320x128 : Shape := ⟨2, ![8320, 128]⟩
abbrev S8320x32 : Shape := ⟨2, ![8320, 32]⟩
abbrev S_ : Shape := ⟨0, ![]⟩
abbrev S8320x64 : Shape := ⟨2, ![8320, 64]⟩
abbrev S8320x2048 : Shape := ⟨2, ![8320, 2048]⟩
abbrev S128x4096 : Shape := ⟨2, ![128, 4096]⟩
abbrev S128x128 : Shape := ⟨2, ![128, 128]⟩
abbrev S128x2048 : Shape := ⟨2, ![128, 2048]⟩

abbrev nBuf : Space → Nat
  | .hbm => 12
  | .vmem => 16
  | .smem => 0
  | _ => 0

abbrev bufTy : (tb : Table) → Fin (tcTables nBuf tb) → BufTy
  | .hbm, ⟨0, _⟩ => ⟨S8320x4096, .bf16⟩
  | .hbm, ⟨1, _⟩ => ⟨S8320x4096, .bf16⟩
  | .hbm, ⟨2, _⟩ => ⟨S8320x128, .f32⟩
  | .hbm, ⟨3, _⟩ => ⟨S8320x32, .f32⟩
  | .hbm, ⟨4, _⟩ => ⟨S8320x32, .f32⟩
  | .hbm, ⟨5, _⟩ => ⟨S_, .f32⟩
  | .hbm, ⟨6, _⟩ => ⟨S8320x64, .f32⟩
  | .hbm, ⟨7, _⟩ => ⟨S8320x128, .f32⟩
  | .hbm, ⟨8, _⟩ => ⟨S8320x128, .f32⟩
  | .hbm, ⟨9, _⟩ => ⟨S8320x4096, .bf16⟩
  | .hbm, ⟨10, _⟩ => ⟨S8320x4096, .bf16⟩
  | .hbm, ⟨11, _⟩ => ⟨S8320x2048, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x4096, .bf16⟩
  | .local _ .vmem, ⟨11, _⟩ => ⟨S128x4096, .bf16⟩
  | .local _ .vmem, ⟨12, _⟩ => ⟨S128x4096, .bf16⟩
  | .local _ .vmem, ⟨13, _⟩ => ⟨S128x4096, .bf16⟩
  | .local _ .vmem, ⟨14, _⟩ => ⟨S128x2048, .bf16⟩
  | .local _ .vmem, ⟨15, _⟩ => ⟨S128x2048, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RopeReferenceIdeal.lean ====
abbrev S8320x4096 : Shape := ⟨2, ![8320, 4096]⟩
abbrev S8320x128 : Shape := ⟨2, ![8320, 128]⟩
abbrev S8320x32 : Shape := ⟨2, ![8320, 32]⟩
abbrev S8320x64 : Shape := ⟨2, ![8320, 64]⟩
abbrev S8320x16x256 : Shape := ⟨3, ![8320, 16, 256]⟩
abbrev S8320x16x64 : Shape := ⟨3, ![8320, 16, 64]⟩
abbrev S8320x1x64 : Shape := ⟨3, ![8320, 1, 64]⟩
abbrev S8320x16x32 : Shape := ⟨3, ![8320, 16, 32]⟩
abbrev S_ : Shape := ⟨0, ![]⟩
abbrev S8320x16x128 : Shape := ⟨3, ![8320, 16, 128]⟩
abbrev S8320x2048 : Shape := ⟨2, ![8320, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S8320x4096, .bf16⟩
  | .hbm, ⟨2, _⟩ => ⟨S8320x128, .f32⟩
  | .hbm, ⟨3, _⟩ => ⟨S8320x32, .f32⟩
  | .hbm, ⟨4, _⟩ => ⟨S8320x32, .f32⟩
  | .hbm, ⟨5, _⟩ => ⟨S8320x64, .f32⟩
  | .hbm, ⟨6, _⟩ => ⟨S8320x64, .f32⟩
  | .hbm, ⟨7, _⟩ => ⟨S8320x4096, .f32⟩
  | .hbm, ⟨8, _⟩ => ⟨S8320x16x256, .f32⟩
  | .hbm, ⟨9, _⟩ => ⟨S8320x4096, .f32⟩
  | .hbm, ⟨10, _⟩ => ⟨S8320x16x256, .f32⟩
  | .hbm, ⟨11, _⟩ => ⟨S8320x16x64, .f32⟩
  | .hbm, ⟨12, _⟩ => ⟨S8320x1x64, .f32⟩
  | .hbm, ⟨13, _⟩ => ⟨S8320x1x64, .f32⟩
  | .hbm, ⟨14, _⟩ => ⟨S8320x16x32, .f32⟩
  | .hbm, ⟨15, _⟩ => ⟨S8320x16x32, .f32⟩
  | .hbm, ⟨16, _⟩ => ⟨S8320x16x32, .f32⟩
  | .hbm, ⟨17, _⟩ => ⟨S8320x16x64, .f32⟩
  | .hbm, ⟨18, _⟩ => ⟨S8320x16x64, .f32⟩
  | .hbm, ⟨19, _⟩ => ⟨S8320x16x64, .f32⟩
  | .hbm, ⟨20, _⟩ => ⟨S8320x16x64, .f32⟩
  | .hbm, ⟨21, _⟩ => ⟨S8320x16x64, .f32⟩
  | .hbm, ⟨22, _⟩ => ⟨S8320x16x64, .f32⟩
  | .hbm, ⟨23, _⟩ => ⟨S8320x64, .f32⟩
  | .hbm, ⟨24, _⟩ => ⟨S8320x32, .f32⟩
  | .hbm, ⟨25, _⟩ => ⟨S8320x32, .f32⟩
  | .hbm, ⟨26, _⟩ => ⟨S8320x32, .f32⟩
  | .hbm, ⟨27, _⟩ => ⟨S8320x64, .f32⟩
  | .hbm, ⟨28, _⟩ => ⟨S8320x64, .f32⟩
  | .hbm, ⟨29, _⟩ => ⟨S8320x64, .f32⟩
  | .hbm, ⟨30, _⟩ => ⟨S8320x64, .f32⟩
  | .hbm, ⟨31, _⟩ => ⟨S_, .f32⟩
  | .hbm, ⟨32, _⟩ => ⟨S8320x16x64, .f32⟩
  | .hbm, ⟨33, _⟩ => ⟨S8320x16x128, .f32⟩
  | .hbm, ⟨34, _⟩ => ⟨S8320x16x256, .f32⟩
  | .hbm, ⟨35, _⟩ => ⟨S_, .f32⟩
  | .hbm, ⟨36, _⟩ => ⟨S8320x16x256, .f32⟩
  | .hbm, ⟨37, _⟩ => ⟨S8320x16x256, .f32⟩
  | .hbm, ⟨38, _⟩ => ⟨S8320x16x128, .f32⟩
  | .hbm, ⟨39, _⟩ => ⟨S8320x1x64, .f32⟩
  | .hbm, ⟨40, _⟩ => ⟨S8320x16x64, .f32⟩
  | .hbm, ⟨41, _⟩ => ⟨S8320x16x256, .f32⟩
  | .hbm, ⟨42, _⟩ => ⟨S8320x16x128, .f32⟩
  | .hbm, ⟨43, _⟩ => ⟨S8320x4096, .f32⟩
  | .hbm, ⟨44, _⟩ => ⟨S8320x4096, .bf16⟩
  | .hbm, ⟨45, _⟩ => ⟨S8320x4096, .f32⟩
  | .hbm, ⟨46, _⟩ => ⟨S8320x4096, .bf16⟩
  | .hbm, ⟨47, _⟩ => ⟨S8320x2048, .f32⟩
  | .hbm, ⟨48, _⟩ => ⟨S8320x2048, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Proof.Attn.Online.lean ====
module

public import Idealize.ShloMosaic.Lib.Pipeline.ValueKit
public import Idealize.ShloMosaic.Lib.Pointwise
public import Idealize.ShloMosaic.Lib.MatmulPlain
public import Idealize.ShloMosaic.Lib.ValueLayoutCasts
public import Idealize.ShloMosaic.Lib.Pipeline.ReadBack
public import Idealize.ShloMosaic.PureOps.Ideal.Laws
public import Mathlib.Data.EReal.Operations
public import Mathlib.Data.EReal.Inv

/-! # The softmax by blocks: the running maximum, sum and weighted sum on the extended reals -/

@[expose] public section
noncomputable section

open Idealize.ShloMosaic

namespace Attn

/-- The maximum of the first `n` scores. -/
def mx (S : ℕ → EReal) (n : ℕ) : EReal := (Finset.range n).sup S

/-- The sum of the exponentials of the first `n` scores, taken relative to their maximum. -/
def den (S : ℕ → EReal) (n : ℕ) : EReal := ∑ k ∈ Finset.range n, Ideal.exp (S k - mx S n)

/-- The same sum, weighted by `V`. -/
def num (S V : ℕ → EReal) (n : ℕ) : EReal := ∑ k ∈ Finset.range n, Ideal.exp (S k - mx S n) * V k

theorem exp_nonneg (x : EReal) : 0 ≤ Ideal.exp x := by
  induction x using EReal.rec with
  | bot => exact le_refl _
  | top => exact le_top
  | coe r => rw [Ideal.exp_coe]; exact EReal.coe_nonneg.2 (Real.exp_pos r).le

theorem sub_ne_top {M M' : EReal} (h : M ≤ M') : Ideal.exp (M - M') ≠ ⊤ := by
  induction M using EReal.rec with
  | bot => rw [EReal.bot_sub, Ideal.exp_bot]; exact EReal.zero_ne_top
  | top =>
    obtain rfl := top_le_iff.1 h
    rw [EReal.sub_top, Ideal.exp_bot]; exact EReal.zero_ne_top
  | coe a =>
    induction M' using EReal.rec with
    | bot => exact absurd (le_bot_iff.1 h) (EReal.coe_ne_bot a)
    | top => rw [EReal.sub_top, Ideal.exp_bot]; exact EReal.zero_ne_top
    | coe b => rw [← EReal.coe_sub, Ideal.exp_coe]; exact EReal.coe_ne_top _

/-- Moving the reference point of an exponential from `M` up to `M'`. -/
theorem exp_shift {s M M' : EReal} (h : s ≤ M) (h' : M ≤ M') :
    Ideal.exp (M - M') * Ideal.exp (s - M) = Ideal.exp (s - M') := by
  induction M using EReal.rec with
  | bot =>
    obtain rfl := le_bot_iff.1 h
    simp only [EReal.bot_sub, Ideal.exp_bot, mul_zero]
  | top =>
    obtain rfl := top_le_iff.1 h'
    simp only [EReal.sub_top, Ideal.exp_bot, mul_zero]
  | coe a =>
    induction M' using EReal.rec with
    | bot => exact absurd (le_bot_iff.1 h') (EReal.coe_ne_bot a)
    | top => simp only [EReal.sub_top, Ideal.exp_bot, zero_mul]
    | coe b =>
      induction s using EReal.rec with
      | bot => simp only [EReal.bot_sub, Ideal.exp_bot, mul_zero]
      | top => exact absurd (top_le_iff.1 h) (EReal.coe_ne_top a)
      | coe c =>
        simp only [← EReal.coe_sub, Ideal.exp_coe]
        rw [← EReal.coe_mul, ← Real.exp_add]
        congr 2; ring

theorem mul_sum_of_nonneg {ι : Type} (t : Finset ι) (f : ι → EReal) {a : EReal} (h0 : 0 ≤ a) (h1 : a ≠ ⊤) :
    a * ∑ k ∈ t, f k = ∑ k ∈ t, a * f k := by
  classical
  induction t using Finset.induction_on with
  | empty => simp only [Finset.sum_empty, mul_zero]
  | insert i t hi ih => rw [Finset.sum_insert hi, Finset.sum_insert hi, EReal.left_distrib_of_nonneg_of_ne_top h0 h1, ih]

theorem mx_add (S : ℕ → EReal) (n b : ℕ) :
    mx S (n + b) = max (mx S n) ((Finset.univ : Finset (Fin b)).sup fun k => S (n + k.val)) := by
  apply le_antisymm
  · refine Finset.sup_le fun k hk => ?_
    by_cases h : k < n
    · exact le_max_of_le_left (Finset.le_sup (f := S) (Finset.mem_range.2 h))
    · have hb : k - n < b := by have := Finset.mem_range.1 hk; omega
      refine le_max_of_le_right ?_
      have := Finset.le_sup (f := fun k : Fin b => S (n + k.val)) (Finset.mem_univ (⟨k - n, hb⟩ : Fin b))
      rwa [show n + (⟨k - n, hb⟩ : Fin b).val = k from by show n + (k - n) = k; omega] at this
  · refine max_le (Finset.sup_mono fun k hk => ?_) (Finset.sup_le fun k _ => Finset.le_sup (f := S) ?_)
    · exact Finset.mem_range.2 (lt_of_lt_of_le (Finset.mem_range.1 hk) (Nat.le_add_right n b))
    · exact Finset.mem_range.2 (Nat.add_lt_add_left k.isLt n)

theorem mx_mono (S : ℕ → EReal) (n b : ℕ) : mx S n ≤ mx S (n + b) := by rw [mx_add]; exact le_max_left _ _

theorem den_add (S : ℕ → EReal) (n b : ℕ) :
    den S (n + b) = Ideal.exp (mx S n - mx S (n + b)) * den S n + ∑ k : Fin b, Ideal.exp (S (n + k.val) - mx S (n + b)) := by
  unfold den
  rw [Finset.sum_range_add, Finset.sum_range (n := b), mul_sum_of_nonneg _ _ (exp_nonneg _) (sub_ne_top (mx_mono S n b))]
  refine congrArg (· + _) (Finset.sum_congr rfl fun k hk => ?_)
  exact (exp_shift (Finset.le_sup (f := S) hk) (mx_mono S n b)).symm

theorem num_add (S V : ℕ → EReal) (n b : ℕ) :
    num S V (n + b) = Ideal.exp (mx S n - mx S (n + b)) * num S V n
      + ∑ k : Fin b, Ideal.exp (S (n + k.val) - mx S (n + b)) * V (n + k.val) := by
  unfold num
  rw [Finset.sum_range_add, Finset.sum_range (n := b), mul_sum_of_nonneg _ _ (exp_nonneg _) (sub_ne_top (mx_mono S n b))]
  refine congrArg (· + _) (Finset.sum_congr rfl fun k hk => ?_)
  rw [← mul_assoc, exp_shift (M := mx S n) (Finset.le_sup (f := S) hk) (mx_mono S n b)]

theorem mx_zero (S : ℕ → EReal) : mx S 0 = ⊥ := rfl
theorem den_zero (S : ℕ → EReal) : den S 0 = 0 := rfl
theorem num_zero (S V : ℕ → EReal) : num S V 0 = 0 := rfl

/-! ## Keys that are left out change nothing -/

section Tail
variable {S : ℕ → EReal} {n : ℕ} (h : ∀ k, n ≤ k → S k = ⊥) (b : ℕ)
include h

theorem mx_tail : mx S (n + b) = mx S n := by
  rw [mx_add]
  refine max_eq_left (Finset.sup_le fun k _ => ?_)
  rw [h _ (Nat.le_add_right _ _)]; exact bot_le

theorem den_tail : den S (n + b) = den S n := by
  unfold den
  rw [mx_tail h, Finset.sum_range_add, Finset.sum_eq_zero (s := Finset.range b), add_zero]
  intro k _
  rw [h _ (Nat.le_add_right _ _), EReal.bot_sub, Ideal.exp_bot]

theorem num_tail (V : ℕ → EReal) : num S V (n + b) = num S V n := by
  unfold num
  rw [mx_tail h, Finset.sum_range_add, Finset.sum_eq_zero (s := Finset.range b), add_zero]
  intro k _
  rw [h _ (Nat.le_add_right _ _), EReal.bot_sub, Ideal.exp_bot, zero_mul]

end Tail

/-! ## Finite scores: the sum is a positive number, and dividing by it distributes -/

section Finite
variable {S : ℕ → EReal} {n : ℕ} (h : ∀ k, S k ≠ ⊤) {i : ℕ} (hi : i < n) (hS : S i ≠ ⊥)
include h hi hS

theorem mx_real : ∃ r : ℝ, mx S n = (r : EReal) := by
  have h1 : mx S n ≠ ⊤ := by
    refine ne_of_lt ((Finset.sup_lt_iff bot_lt_top).2 fun k _ => lt_top_iff_ne_top.2 (h k))
  have h2 : mx S n ≠ ⊥ := fun e => hS (le_bot_iff.1 (e ▸ Finset.le_sup (f := S) (Finset.mem_range.2 hi)))
  exact ⟨(mx S n).toReal, (EReal.coe_toReal h1 h2).symm⟩

theorem den_pos : 0 < den S n := by
  obtain ⟨r, hr⟩ := mx_real h hi hS
  obtain ⟨s, hs⟩ : ∃ s : ℝ, S i = (s : EReal) := ⟨(S i).toReal, (EReal.coe_toReal (h i) hS).symm⟩
  have hpos : 0 < Ideal.exp (S i - mx S n) := by
    rw [hr, hs, ← EReal.coe_sub, Ideal.exp_coe]; exact EReal.coe_pos.2 (Real.exp_pos _)
  unfold den
  exact lt_of_lt_of_le hpos (Finset.single_le_sum (f := fun k => Ideal.exp (S k - mx S n)) (fun k _ => exp_nonneg _) (Finset.mem_range.2 hi))

theorem num_div (V : ℕ → EReal) : Ideal.div (num S V n) (den S n)
    = ∑ k ∈ Finset.range n, V k * Ideal.div (Ideal.exp (S k - mx S n)) (den S n) := by
  have hp := den_pos h hi hS
  unfold Ideal.div
  simp only [if_neg hp.ne']
  have h0 : 0 ≤ (den S n)⁻¹ := EReal.inv_nonneg_of_nonneg hp.le
  have h1 : (den S n)⁻¹ ≠ ⊤ := by
    intro e
    have hd := hp.ne'
    revert e hd
    induction den S n using EReal.rec with
    | bot => intro e; simp at e
    | top => intro e; simp at e
    | coe x =>
      intro e hd
      rw [← EReal.coe_inv] at e; exact absurd e (EReal.coe_ne_top _)
  rw [mul_comm, num, mul_sum_of_nonneg _ _ h0 h1]
  refine Finset.sum_congr rfl fun k _ => ?_
  rw [← mul_assoc, mul_comm (den S n)⁻¹, mul_comm]

end Finite

end Attn

end
-- ==== Proof.Attn.Spec.lean ====
module

public import proofs.«01_k».proof.Proof.Attn.Online

/-! # Causal attention over the whole sequence, as sums over keys

`q` and `k` hold sixteen heads of 256 columns side by side, `v` sixteen heads of 128. -/

@[expose] public section
noncomputable section

open Idealize.ShloMosaic

namespace Attn

/-- A query sees the keys that are not after it; the first 112 rows are seen only by themselves. -/
def Keep (R n : ℕ) : Prop := n ≤ R ∧ (112 ≤ n ∨ n = R)
instance (R n : ℕ) : Decidable (Keep R n) := by unfold Keep; infer_instance

theorem col_lt (w H : ℕ) (hH : H < 16) (d : Fin w) : w * H + d.val < 16 * w := by
  have h := d.isLt
  have h' : w * H + w ≤ w * 16 := by rw [← Nat.mul_succ]; exact Nat.mul_le_mul_left _ hH
  omega

/-- The column `d` of head `H`. -/
def col (w H : ℕ) (hH : H < 16) (d : Fin w) : Fin (16 * w) := ⟨w * H + d.val, col_lt w H hH d⟩

variable (q k : Fin 8320 → Fin 4096 → EReal) (v : Fin 8320 → Fin 2048 → EReal)

/-- The score of key `n` for the query `R`. -/
def dot (R : Fin 8320) (H : Fin 16) (n : Fin 8320) : EReal := ∑ d : Fin 256, q R (col 256 H.val H.isLt d) * k n (col 256 H.val H.isLt d)

/-- The masked scores of a query, by key. -/
def score (R : Fin 8320) (H : Fin 16) (n : ℕ) : EReal := if h : n < 8320 then (if Keep R.val n then dot q k R H ⟨n, h⟩ else ⊥) else ⊥

/-- One column of the values, by key. -/
def value (H : Fin 16) (d : Fin 128) (n : ℕ) : EReal := if h : n < 8320 then v ⟨n, h⟩ (col 128 H.val H.isLt d) else 0

theorem score_of_lt {R : Fin 8320} {H : Fin 16} {n : ℕ} (h : n < 8320) : score q k R H n = if Keep R.val n then dot q k R H ⟨n, h⟩ else ⊥ := dif_pos h
theorem value_of_lt {H : Fin 16} {d : Fin 128} {n : ℕ} (h : n < 8320) : value v H d n = v ⟨n, h⟩ (col 128 H.val H.isLt d) := dif_pos h

/-- No key after the query is seen. -/
theorem score_after {R : Fin 8320} {H : Fin 16} {n : ℕ} (h : R.val < n) : score q k R H n = ⊥ := by
  unfold score
  split
  · exact if_neg fun hk => absurd hk.1 (by omega)
  · rfl

/-- The attention's output and its log of the sum of exponentials. -/
def out (R : Fin 8320) (H : Fin 16) (d : Fin 128) : EReal := Ideal.div (num (score q k R H) (value v H d) 8320) (den (score q k R H) 8320)
def lse (R : Fin 8320) (H : Fin 16) : EReal := mx (score q k R H) 8320 + Ideal.log (den (score q k R H) 8320)

end Attn
end
end
-- ==== Proof.Attn.Pre.lean ====
module

public import proofs.«01_k».proof.Defs
public import proofs.«01_k».proof.Proof.Attn.Spec
public import proofs.«01_k».proof.Proof.Gen.Attn.Flash
public import proofs.«01_k».proof.Proof.Gen.AttnIdeal.Flash
public import proofs.«01_k».proof.Proof.Gen.Pre_attn_schedule
public import proofs.«01_k».proof.Proof.Gen.Pre_attn_finite
public import Idealize.ShloMosaic.Lib.ReduceAll
public import Idealize.ShloMosaic.Lib.StableHlo.Predicate

set_option maxRecDepth 16384

/-! # The attention's preconditions, read element by element

`attn_schedule` says that the two tables hold the schedule; `attn_finite` says besides that the magnitude of every element of
the queries and the keys is below infinity: over the extended reals, that no element is one of the two infinities. -/

@[expose] public section
noncomputable section

open Idealize.ShloMosaic

namespace Cert.AttnPre

abbrev S91 : Shape := ⟨1, ![91]⟩
abbrev S_ : Shape := ⟨0, ![]⟩

/-- Every entry of a table is the word it is compared with. -/
theorem table_of_all (x y : IVec S91 32) (hr : S91.ReducesTo [0] S_) (hu : 0 < S_.numel) (j : S_.Idx)
    (e : Host.reduce IntOp.andi (cmpi .eq x y) (constantI S_ 1 1#1) hr hu j = 1#1) : x = y := by
  haveI : Subsingleton S_.Idx := ⟨fun a b => funext fun k => k.elim0⟩
  funext i
  exact StableHlo.Predicate.cmpi_eq_iff.1 (Host.reduce_andi_all _ _ hr hu j e i)

theorem inf_eq : FloatOps.ofBits (F := Ideal) .f32 0x7F800000#32 = (⊤ : EReal) := by
  show Ideal.ofBits .f32 0x7F800000#32 = ⊤
  simp [Ideal.ofBits, Ideal.ieee]

/-- No element is an infinity. -/
theorem real_of_all {s : Shape} (x : FVec Ideal s .f32) (hb : S_.BroadcastsInDim s (![] : Fin 0 → Fin s.rank))
    {axes : List (Fin s.rank)} (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : x i ≠ ⊤ ∧ x i ≠ ⊥ := by
  haveI : Subsingleton S_.Idx := ⟨fun a b => funext fun k => k.elim0⟩
  have h := Host.reduce_andi_all _ _ hr hu j e i
  have h2 : Ideal.cmp .olt (max (x i) (-(x i))) (FloatOps.ofBits (F := Ideal) .f32 0x7F800000#32) = 1#1 := h
  rw [inf_eq] at h2
  have h3 : max (x i) (-(x i)) < ⊤ := by
    by_contra hn
    have : Ideal.cmp .olt (max (x i) (-(x i))) ⊤ = BitVec.ofBool (decide (max (x i) (-(x i)) < (⊤ : EReal))) := rfl
    rw [this, decide_eq_false hn] at h2
    exact absurd h2 (by decide)
  rw [max_lt_iff] at h3
  refine ⟨h3.1.ne, fun hb => ?_⟩
  rw [hb] at h3
  exact absurd h3.2 (by simp)

theorem both {x y : IVec S_ 1} {j : S_.Idx} (h : andi x y j = 1#1) : x j = 1#1 ∧ y j = 1#1 := IntOp.andi_eq_one.1 h

/-- The one member of the schedule's family. -/
abbrev z : Fin 1 := ⟨0, Nat.one_pos⟩

/-! The tables of the precondition are the tables the program is run at. -/
/-- The index of an entry. -/
def mk (k : Fin 91) : S91.Idx := fun a => match a with | ⟨0, _⟩ => k
theorem row_val (i : S91.Idx) : (S91.rowMajor i).val = (i 0).val := Shape.rowMajor_val_one i
theorem lit0_at : ∀ k : Fin 91, Cert.Pre_attn_schedule.lit0 k = Cert.AttnIdeal.Gen.pinT_0 z (mk k) := by decide +kernel
theorem lit1_at : ∀ k : Fin 91, Cert.Pre_attn_schedule.lit1 k = Cert.AttnIdeal.Gen.pinT_1 z (mk k) := by decide +kernel

theorem idx_eq (i : S91.Idx) : mk (S91.rowMajor i) = i := by
  funext a
  match a with
  | ⟨0, _⟩ => exact Fin.ext (row_val i)

theorem tab0 : (fun i => Cert.Pre_attn_schedule.lit0 (S91.rowMajor i)) = Cert.AttnIdeal.Gen.pinT_0 z :=
  funext fun i => (lit0_at (S91.rowMajor i)).trans (congrArg _ (idx_eq i))
theorem tab1 : (fun i => Cert.Pre_attn_schedule.lit1 (S91.rowMajor i)) = Cert.AttnIdeal.Gen.pinT_1 z :=
  funext fun i => (lit1_at (S91.rowMajor i)).trans (congrArg _ (idx_eq i))

theorem schedule {F : FTy → Type} [FloatOps F] (x0 x1 : IVec S91 32) (x2 x3 : FVec F ⟨2, ![8320, 4096]⟩ .bf16) (x4 : FVec F ⟨2, ![8320, 2048]⟩ .bf16)
    (h : Cert.Pre_attn_schedule.fn (F := F) x0 x1 x2 x3 x4 = fun _ => 1#1) :
    x0 = Cert.AttnIdeal.Gen.pinT_0 z ∧ x1 = Cert.AttnIdeal.Gen.pinT_1 z := by
  have h' := congrFun h (fun k => k.elim0)
  unfold Cert.Pre_attn_schedule.fn at h'
  obtain ⟨h0, h1⟩ := both h'
  exact ⟨(table_of_all _ _ _ _ _ h0).trans tab0, (table_of_all _ _ _ _ _ h1).trans tab1⟩

theorem finite (x0 x1 : IVec S91 32) (x2 x3 : FVec Ideal ⟨2, ![8320, 4096]⟩ .bf16) (x4 : FVec Ideal ⟨2, ![8320, 2048]⟩ .bf16)
    (h : Cert.Pre_attn_finite.fn (F := Ideal) x0 x1 x2 x3 x4 = fun _ => 1#1) :
    (x0 = Cert.AttnIdeal.Gen.pinT_0 z ∧ x1 = Cert.AttnIdeal.Gen.pinT_1 z)
      ∧ (∀ i, (x2 i : EReal) ≠ ⊤ ∧ (x2 i : EReal) ≠ ⊥) ∧ ∀ i, (x3 i : EReal) ≠ ⊤ ∧ (x3 i : EReal) ≠ ⊥ := by
  have h' := congrFun h (fun k => k.elim0)
  unfold Cert.Pre_attn_finite.fn Cert.Pre_attn_finite.fn_part1 at h'
  obtain ⟨h', h3⟩ := both h'
  obtain ⟨h', h2⟩ := both h'
  obtain ⟨h0, h1⟩ := both h'
  exact ⟨⟨(table_of_all _ _ _ _ _ h0).trans tab0, (table_of_all _ _ _ _ _ h1).trans tab1⟩,
    real_of_all _ _ _ _ _ h2, real_of_all _ _ _ _ _ h3⟩

theorem pinned (m : (ℓ : Loc Cert.Attn.nD Cert.Attn.τ Cert.Attn.sig) → Buf (Elt Bits) ℓ) (h : Cert.Pre_Attn m) : Cert.Attn.Gen.Pinned z m :=
  ⟨fun c => (schedule _ _ _ _ _ (h c)).1, fun c => (schedule _ _ _ _ _ (h c)).2⟩

theorem pinnedI (m : (ℓ : Loc Cert.AttnIdeal.nD Cert.AttnIdeal.τ Cert.AttnIdeal.sig) → Buf (Elt Ideal) ℓ) (h : Cert.Pre_AttnIdeal m) :
    Cert.AttnIdeal.Gen.Pinned z m :=
  ⟨fun c => (schedule _ _ _ _ _ (h c)).1, fun c => (schedule _ _ _ _ _ (h c)).2⟩

theorem pinnedF (m : (ℓ : Loc Cert.AttnIdeal.nD Cert.AttnIdeal.τ Cert.AttnIdeal.sig) → Buf (Elt Ideal) ℓ) (h : Cert.Pre_AttnIdeal_attn_finite m) :
    Cert.AttnIdeal.Gen.Pinned z m :=
  ⟨fun c => (finite _ _ _ _ _ (h c)).1.1, fun c => (finite _ _ _ _ _ (h c)).1.2⟩

/-! ## Finite queries and keys have finite scores -/

/-- The value is a real number. -/
def IsR (x : EReal) : Prop := ∃ r : ℝ, x = r
theorem IsR.of {x : EReal} (h : x ≠ ⊤ ∧ x ≠ ⊥) : IsR x := ⟨x.toReal, (EReal.coe_toReal h.1 h.2).symm⟩
theorem IsR.add {x y : EReal} : IsR x → IsR y → IsR (x + y) := fun ⟨a, ha⟩ ⟨b, hb⟩ => ⟨a + b, by rw [ha, hb, EReal.coe_add]⟩
theorem IsR.mul {x y : EReal} : IsR x → IsR y → IsR (x * y) := fun ⟨a, ha⟩ ⟨b, hb⟩ => ⟨a * b, by rw [ha, hb, EReal.coe_mul]⟩
theorem IsR.sum {n : ℕ} (f : Fin n → EReal) (h : ∀ k, IsR (f k)) : IsR (∑ k, f k) :=
  Finset.sum_induction f IsR (fun _ _ => IsR.add) ⟨0, rfl⟩ fun k _ => h k

variable (q k : Fin 8320 → Fin 4096 → EReal) (hq : ∀ i j, q i j ≠ ⊤ ∧ q i j ≠ ⊥) (hk : ∀ i j, k i j ≠ ⊤ ∧ k i j ≠ ⊥)

include hq hk in
theorem dot_real (R : Fin 8320) (H : Fin 16) (n : Fin 8320) : IsR (_root_.Attn.dot q k R H n) :=
  IsR.sum _ fun _ => (IsR.of (hq _ _)).mul (IsR.of (hk _ _))

include hq hk in
theorem score_ne_top (R : Fin 8320) (H : Fin 16) (n : ℕ) : _root_.Attn.score q k R H n ≠ ⊤ := by
  unfold _root_.Attn.score
  split
  · split
    · obtain ⟨r, e⟩ := dot_real q k hq hk R H ⟨n, by assumption⟩
      rw [e]; exact EReal.coe_ne_top r
    · exact bot_ne_top
  · exact bot_ne_top

include hq hk in
theorem score_ne_bot (R : Fin 8320) (H : Fin 16) : _root_.Attn.score q k R H R.val ≠ ⊥ := by
  rw [_root_.Attn.score_of_lt q k R.isLt, if_pos ⟨le_refl _, Or.inr rfl⟩]
  obtain ⟨r, e⟩ := dot_real q k hq hk R H R
  exact fun hb => EReal.coe_ne_bot r (e.symm.trans hb)

end Cert.AttnPre
end
-- ==== Proof.Attn.Core.lean ====
module

public import proofs.«01_k».proof.Proof.Gen.AttnIdeal.Flash
public import proofs.«01_k».proof.Proof.Attn.Online
public import Idealize.ShloMosaic.Lib.Pipeline.ValueKit
public import Idealize.ShloMosaic.Lib.Pointwise
public import Idealize.ShloMosaic.Lib.MatmulPlain
public import Idealize.ShloMosaic.Lib.ValueLayoutCasts
public import Idealize.ShloMosaic.Lib.Pipeline.ReadBack
public import Idealize.ShloMosaic.PureOps.Ideal.Laws

set_option maxRecDepth 16384

/-! # One head's update of the running maximum, sum and weighted sum, entry by entry -/

@[expose] public section
noncomputable section

open Idealize.ShloMosaic hiding ix1 ix2 ix3 ix4
open Idealize.ShloMosaic.TcCoe Idealize.ShloMosaic.ValueIdx

namespace Cert.AttnIdeal.Attn
open Cert.AttnIdeal Cert.AttnIdeal.Gen

variable (s : FVec Ideal S640x640 .f32) (m l a : Vec Ideal S1x640x128 .f32) (v : Vec Ideal S640x128 .bf16)

theorem ninf_f32 : (FloatOps.ofBits .f32 0xFF800000#32 : Ideal .f32) = (⊥ : EReal) := by show Ideal.ofBits .f32 0xFF800000#32 = ⊥; simp [Ideal.ofBits, Ideal.ieee]

/-- The maximum of a row of scores. -/
def rowMax (r : Fin 640) : EReal := (Finset.univ : Finset (Fin 640)).sup fun k => (s (ix2 r k) : EReal)

theorem rowMax_eq (r : Fin 640) :
    multiReduction .maximumf [1] S640 s 0xFF800000#32 reduces_S640x640_S640 (.inl rfl) rfl (ix1 r) = rowMax s r := by
  refine (Ideal.multiReduction_maximumf_single (a := (1 : Fin S640x640.rank)) s _ _ _ _ _).trans ?_
  rw [ninf_f32]
  unfold rowMax Finset.sup
  refine congrArg (Finset.fold _ _ · _) ?_
  funext k
  refine congrArg s ?_
  funext a
  match a with
  | ⟨0, _⟩ => rfl
  | ⟨1, _⟩ => rfl

theorem rowSum_eq (r : Fin 640) :
    multiReduction .add [1] S640 s 0x00000000#32 reduces_S640x640_S640 (.inl rfl) rfl (ix1 r) = ∑ k : Fin 640, (s (ix2 r k) : EReal) := by
  refine (Ideal.multiReduction_add_single (a := (1 : Fin S640x640.rank)) s _ _ _ _ _).trans ?_
  refine Finset.sum_congr rfl fun k _ => congrArg s ?_
  funext a
  match a with
  | ⟨0, _⟩ => rfl
  | ⟨1, _⟩ => rfl

theorem lanes_at (x : S640.Idx → EReal) (r : Fin 640) (j : Fin 128) :
    broadcastTo S640x128 (shapeCast S640x1 x shapeCasts_S640_S640x1) broadcasts_S640x1_S640x128 (ix2 r j) = x (ix1 r) := by
  refine (broadcastTo_apply _ _ (ix2 r j) (ix2 r (0 : Fin 1)) fun ax => ?_).trans (ValueIdx.shapeCast_a_a1_apply x _ r 0)
  match ax with
  | ⟨0, _⟩ => rfl
  | ⟨1, _⟩ => rfl

theorem drop_at (x : S1x640x128.Idx → EReal) (r : Fin 640) (j : Fin 128) :
    shapeCast S640x128 x shapeCasts_S1x640x128_S640x128 (ix2 r j) = x (ix3 (0 : Fin 1) r j) := ValueIdx.shapeCast_1ab_ab_apply x _ r j

theorem add_at (x : S640x128.Idx → EReal) (u : Fin 1) (r : Fin 640) (j : Fin 128) :
    shapeCast S1x640x128 x shapeCasts_S640x128_S1x640x128 (ix3 u r j) = x (ix2 r j) := ValueIdx.shapeCast_ab_1ab_apply x _ u r j

/-- The new running maximum. -/
theorem newM_at (r : Fin 640) (j : Fin 128) :
    k0_pay20 (F := Ideal) s m (ix2 r j) = max (m (ix3 (0 : Fin 1) r j) : EReal) (rowMax s r) := by
  unfold k0_pay20 k0_pay19
  show max (shapeCast S640x128 m shapeCasts_S1x640x128_S640x128 (ix2 r j) : EReal) (broadcastTo S640x128 (shapeCast S640x1 _ shapeCasts_S640_S640x1) broadcasts_S640x1_S640x128 (ix2 r j)) = _
  rw [drop_at, lanes_at, rowMax_eq]

/-- The exponential of a score, relative to the new maximum. -/
theorem newP_at (r : Fin 640) (k : Fin 640) :
    k0_pay21 (F := Ideal) s m (ix2 r k) = Ideal.exp (s (ix2 r k) - k0_pay20 (F := Ideal) s m (ix2 r ⟨k.val % 128, Nat.mod_lt _ (by decide)⟩)) := by
  unfold k0_pay21
  exact congrArg (fun z : EReal => Ideal.exp ((s (ix2 r k) : EReal) - z))
    (concatenate_replicate_apply (t := S640x640) (s₁ := S640x128) (1 : Fin 2) 5 (k0_pay20 (F := Ideal) s m) concatenates_S640x128_S640x128_S640x128_S640x128_S640x128_S640x640_d1 rfl
      (ix2 r k) (ix2 r (⟨k.val % 128, Nat.mod_lt _ (by decide)⟩ : Fin 128)) rfl (by
    intro b hb
    match b with
    | ⟨0, _⟩ => rfl
    | ⟨1, _⟩ => exact absurd rfl hb))

/-- The factor that moves the earlier sums to the new maximum. -/
theorem newE_at (r : Fin 640) (j : Fin 128) :
    k0_pay22 (F := Ideal) s m (ix2 r j) = Ideal.exp ((m (ix3 (0 : Fin 1) r j) : EReal) - k0_pay20 (F := Ideal) s m (ix2 r j)) := by
  unfold k0_pay22 k0_pay19
  show Ideal.exp ((shapeCast S640x128 m shapeCasts_S1x640x128_S640x128 (ix2 r j) : EReal) - _) = _
  rw [drop_at]

/-- The new running sum. -/
theorem newL_at (u : Fin 1) (r : Fin 640) (j : Fin 128) :
    k0_pay23 (F := Ideal) s m l (ix3 u r j)
      = (k0_pay22 (F := Ideal) s m (ix2 r j) : EReal) * l (ix3 (0 : Fin 1) r j) + ∑ k : Fin 640, (k0_pay21 (F := Ideal) s m (ix2 r k) : EReal) := by
  unfold k0_pay23
  refine (add_at _ u r j).trans ?_
  show (k0_pay22 (F := Ideal) s m (ix2 r j) : EReal) * shapeCast S640x128 l shapeCasts_S1x640x128_S640x128 (ix2 r j)
    + broadcastTo S640x128 (shapeCast S640x1 _ shapeCasts_S640_S640x1) broadcasts_S640x1_S640x128 (ix2 r j) = _
  rw [drop_at, lanes_at, rowSum_eq]

/-- The new weighted sum. -/
theorem newA_at (u : Fin 1) (r : Fin 640) (j : Fin 128) :
    k0_pay24 (F := Ideal) s m a v (ix3 u r j)
      = (k0_pay22 (F := Ideal) s m (ix2 r j) : EReal) * a (ix3 (0 : Fin 1) r j)
        + ∑ k : Fin 640, (k0_pay21 (F := Ideal) s m (ix2 r k) : EReal) * v (ix2 k j) := by
  unfold k0_pay24
  refine (add_at _ u r j).trans ?_
  show (k0_pay22 (F := Ideal) s m (ix2 r j) : EReal) * shapeCast S640x128 a shapeCasts_S1x640x128_S640x128 (ix2 r j)
    + FloatOps.matmul (F := Ideal) (φ₁ := .bf16) (φ₂ := .bf16) (DotDims.plain 640 640 128) none (k0_pay21 (F := Ideal) s m) v (constant (F := Ideal) S640x128 .f32 0x00000000#32) (ix2 r j) = _
  rw [drop_at, Ideal.matmul_plain_apply]
  refine congrArg (HAdd.hAdd (α := EReal) _) ?_
  exact (congrArg (fun z : EReal => z + _) (show (constant (F := Ideal) S640x128 .f32 0x00000000#32 (ix2 r j) : EReal) = 0 by pointwise)).trans (zero_add _)

/-- A head's scores. -/
theorem score_at (q k : Vec Ideal S640x256 .bf16) (r c : Fin 640) :
    k0_pay12 (F := Ideal) q k (ix2 r c) = ∑ d : Fin 256, (q (ix2 r d) : EReal) * k (ix2 c d) := by
  unfold k0_pay12
  show FloatOps.matmul (F := Ideal) (φ₁ := .bf16) (φ₂ := .bf16) (DotDims.transposedRhs 640 256 640) none q k (constant (F := Ideal) S640x640 .f32 0x00000000#32) (ix2 r c) = _
  rw [Ideal.matmul_transposedRhs_apply]
  exact (congrArg (fun z : EReal => z + _) (show (constant (F := Ideal) S640x640 .f32 0x00000000#32 (ix2 r c) : EReal) = 0 by pointwise)).trans (zero_add _)

/-! ## The update in terms of the sums over keys -/

section Update
variable (S V : ℕ → EReal) (n : ℕ) (r : Fin 640) (j : Fin 128)
  (hs : ∀ k : Fin 640, (s (ix2 r k) : EReal) = S (n + k.val))
  (hm : ∀ j, (m (ix3 (0 : Fin 1) r j) : EReal) = _root_.Attn.mx S n)
include hs hm

theorem newM_mx : (k0_pay20 (F := Ideal) s m (ix2 r j) : EReal) = _root_.Attn.mx S (n + 640) := by
  rw [newM_at, hm, _root_.Attn.mx_add]
  unfold rowMax
  simp only [hs]

theorem newL_den (hl : (l (ix3 (0 : Fin 1) r j) : EReal) = _root_.Attn.den S n) (u : Fin 1) :
    (k0_pay23 (F := Ideal) s m l (ix3 u r j) : EReal) = _root_.Attn.den S (n + 640) := by
  rw [newL_at, newE_at, hm, newM_mx s m S n r j hs hm, hl, _root_.Attn.den_add]
  refine congrArg (HAdd.hAdd (α := EReal) _) (Finset.sum_congr rfl fun k _ => ?_)
  rw [newP_at, newM_mx s m S n r _ hs hm, hs]

theorem newA_num (ha : (a (ix3 (0 : Fin 1) r j) : EReal) = _root_.Attn.num S V n)
    (hv : ∀ k : Fin 640, (v (ix2 k j) : EReal) = V (n + k.val)) (u : Fin 1) :
    (k0_pay24 (F := Ideal) s m a v (ix3 u r j) : EReal) = _root_.Attn.num S V (n + 640) := by
  rw [newA_at, newE_at, hm, newM_mx s m S n r j hs hm, ha, _root_.Attn.num_add]
  refine congrArg (HAdd.hAdd (α := EReal) _) (Finset.sum_congr rfl fun k _ => ?_)
  rw [newP_at, newM_mx s m S n r _ hs hm, hs, hv]

end Update

end Cert.AttnIdeal.Attn

end
-- ==== Proof.Attn.Point.lean ====
module

public import proofs.«01_k».proof.Proof.Attn.Core

set_option maxRecDepth 16384

@[expose] public section
noncomputable section

open Idealize.ShloMosaic hiding ix1 ix2 ix3 ix4
open Idealize.ShloMosaic.TcCoe Idealize.ShloMosaic.ValueIdx

namespace Cert.AttnIdeal.Attn
open Cert.AttnIdeal Cert.AttnIdeal.Gen

variable (ch : Fin 1) (m : (ℓ : Loc nD τ sig) → Buf (Elt Ideal) ℓ) (ρ : Dev nD → PrngReg) (c : Dev nD) (t : Fin (cfgA ch).N)
  (prev : (S640x512.Idx → Elt Ideal .bf16) × (S640x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2))

theorem inb_head (hh : Fin 4) : ∀ a, (![hh.val, 0, 0] : Fin 3 → ℕ) a + S1x640x128.size a ≤ S4x640x128.size a := by
  intro a; fin_cases hh <;> revert a <;> decide
theorem inb_q (hh : Fin 4) : ∀ a, (![0, 256 * hh.val] : Fin 2 → ℕ) a + S640x256.size a ≤ S640x1024.size a := by
  intro a; fin_cases hh <;> revert a <;> decide
theorem inb_v (hh : Fin 4) : ∀ a, (![0, 128 * hh.val] : Fin 2 → ℕ) a + S640x128.size a ≤ S640x512.size a := by
  intro a; fin_cases hh <;> revert a <;> decide

/-- One head's rows of a scratch buffer. -/
abbrev rc (hh : Fin 4) : Rect S4x640x128 := Rect.unit (s := S4x640x128) ![hh.val, 0, 0] S1x640x128.size (inb_head hh)
def rdM (hh : Fin 4) (x : Buf (Elt Ideal) ((c : Thread nD τ).loc cc0_scratch0)) : Vec Ideal S1x640x128 .f32 := View.readAt (Elt Ideal) scM0_0.view (rc hh).toLoadRect x
def rdL (hh : Fin 4) (x : Buf (Elt Ideal) ((c : Thread nD τ).loc cc0_scratch1)) : Vec Ideal S1x640x128 .f32 := View.readAt (Elt Ideal) scM0_1.view (rc hh).toLoadRect x
def rdA (hh : Fin 4) (x : Buf (Elt Ideal) ((c : Thread nD τ).loc cc0_scratch2)) : Vec Ideal S1x640x128 .f32 := View.readAt (Elt Ideal) scM0_2.view (rc hh).toLoadRect x

/-- One head's columns of the blocks of the point. -/
def qs (hh : Fin 4) : Vec Ideal S640x256 .bf16 :=
  View.readAt (Elt Ideal) (ms0_0 ch t).view (Rect.unit (s := S640x1024) ![0, 256 * hh.val] S640x256.size (inb_q hh)).toLoadRect ((ms0_0 ch t).view.rep (iblk ch m ρ c (0 : Fin 5) t))
def ks (hh : Fin 4) : Vec Ideal S640x256 .bf16 :=
  View.readAt (Elt Ideal) (ms0_1 ch t).view (Rect.unit (s := S640x1024) ![0, 256 * hh.val] S640x256.size (inb_q hh)).toLoadRect ((ms0_1 ch t).view.rep (iblk ch m ρ c (1 : Fin 5) t))
def vs (hh : Fin 4) : Vec Ideal S640x128 .bf16 :=
  View.readAt (Elt Ideal) (ms0_2 ch t).view (Rect.unit (s := S640x512) ![0, 128 * hh.val] S640x128.size (inb_v hh)).toLoadRect ((ms0_2 ch t).view.rep (iblk ch m ρ c (2 : Fin 5) t))

/-- The scores of one head, unmasked. -/
def sc (hh : Fin 4) : FVec Ideal S640x640 .f32 := k0_pay12 (F := Ideal) (qs ch m ρ c t hh) (ks ch m ρ c t hh)

/-- The query block and the key block of the point, as the tables give them. -/
def wq : BitVec 32 := View.readAt (Elt Ideal) tbM0_0.view (Rect.unit (s := S91) (k0_off1 (crd ch t)) S1.size (k0_off1_inb (crd ch t))).toLoadRect (pinT_0 ch) (Shape.Idx.first (numel1_S1.symm ▸ Nat.one_pos))
def wk : BitVec 32 := View.readAt (Elt Ideal) tbM0_1.view (Rect.unit (s := S91) (k0_off1 (crd ch t)) S1.size (k0_off1_inb (crd ch t))).toLoadRect (pinT_1 ch) (Shape.Idx.first (numel1_S1.symm ▸ Nat.one_pos))

/-- The scores of one head, masked. -/
def msc (hh : Fin 4) : FVec Ideal S640x640 .f32 := select (k0_pay13 (F := Ideal) (wq ch t) (wk ch t)) (sc ch m ρ c t hh) (k0_pay17 (F := Ideal))

/-- What a scratch buffer's head holds after the fill at a first point of a row of blocks. -/
def iM (hh : Fin 4) : Vec Ideal S1x640x128 .f32 := View.ld (k0_pay1 (F := Ideal)) (rc hh)
def iL (hh : Fin 4) : Vec Ideal S1x640x128 .f32 := View.ld (k0_pay2 (F := Ideal)) (rc hh)
def iA (hh : Fin 4) : Vec Ideal S1x640x128 .f32 := View.ld (k0_pay3 (F := Ideal)) (rc hh)

/-- One head's columns of an output block. -/
abbrev rv (hh : Fin 4) : Rect S640x512 := Rect.unit (s := S640x512) ![0, 128 * hh.val] S640x128.size (inb_v hh)

end Cert.AttnIdeal.Attn
end
end
-- ==== Proof.Attn.Steps.lean ====
module

public import proofs.«01_k».proof.Proof.Attn.Point

set_option maxRecDepth 16384

@[expose] public section
noncomputable section

open Idealize.ShloMosaic hiding ix1 ix2 ix3 ix4
open Idealize.ShloMosaic.TcCoe Idealize.ShloMosaic.ValueIdx

namespace Cert.AttnIdeal.Attn
open Cert.AttnIdeal Cert.AttnIdeal.Gen

variable (ch : Fin 1) (m : (ℓ : Loc nD τ sig) → Buf (Elt Ideal) ℓ) (ρ : Dev nD → PrngReg) (c : Dev nD) (t : Fin (cfgA ch).N)
  (prev : (S640x512.Idx → Elt Ideal .bf16) × (S640x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2))

theorem stepD_M0 (q0 : ¬P0_0 ch t) (q1 : ¬P0_2 ch t) :
    rdM c 0 (step0 ch m ρ c t prev).2.2.1 = k0_pay25 (F := Ideal) (sc ch m ρ c t 0) (rdM c 0 prev.2.2.1) := by
  rw [step0_D ch m ρ c t prev q0 q1]
  unfold kernelRun0_D
  dsimp only
  unfold rdM
  unfold kernelRun0_D.sl.HS0_4
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem stepD_L0 (q0 : ¬P0_0 ch t) (q1 : ¬P0_2 ch t) :
    rdL c 0 (step0 ch m ρ c t prev).2.2.2.1 = k0_pay23 (F := Ideal) (sc ch m ρ c t 0) (rdM c 0 prev.2.2.1) (rdL c 0 prev.2.2.2.1) := by
  rw [step0_D ch m ρ c t prev q0 q1]
  unfold kernelRun0_D
  dsimp only
  unfold rdL
  unfold kernelRun0_D.sl.HS1_4
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem stepD_A0 (q0 : ¬P0_0 ch t) (q1 : ¬P0_2 ch t) :
    rdA c 0 (step0 ch m ρ c t prev).2.2.2.2 = k0_pay24 (F := Ideal) (sc ch m ρ c t 0) (rdM c 0 prev.2.2.1) (rdA c 0 prev.2.2.2.2) (vs ch m ρ c t 0) := by
  rw [step0_D ch m ρ c t prev q0 q1]
  unfold kernelRun0_D
  dsimp only
  unfold rdA
  unfold kernelRun0_D.sl.HS2_4
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem stepD_M1 (q0 : ¬P0_0 ch t) (q1 : ¬P0_2 ch t) :
    rdM c 1 (step0 ch m ρ c t prev).2.2.1 = k0_pay25 (F := Ideal) (sc ch m ρ c t 1) (rdM c 1 prev.2.2.1) := by
  rw [step0_D ch m ρ c t prev q0 q1]
  unfold kernelRun0_D
  dsimp only
  unfold rdM
  unfold kernelRun0_D.sl.HS0_4
  refine (View.readCov_skip _ _ _ _ _ (by decide)).trans ?_
  refine (View.readCov_skip _ _ _ _ _ (by decide)).trans ?_
  refine (View.readCov_cons_toLoadRect _ _ _ _).trans ?_
  rfl

theorem stepD_L1 (q0 : ¬P0_0 ch t) (q1 : ¬P0_2 ch t) :
    rdL c 1 (step0 ch m ρ c t prev).2.2.2.1 = k0_pay23 (F := Ideal) (sc ch m ρ c t 1) (rdM c 1 prev.2.2.1) (rdL c 1 prev.2.2.2.1) := by
  rw [step0_D ch m ρ c t prev q0 q1]
  unfold kernelRun0_D
  dsimp only
  unfold rdL
  unfold kernelRun0_D.sl.HS1_4
  refine (View.readCov_skip _ _ _ _ _ (by decide)).trans ?_
  refine (View.readCov_skip _ _ _ _ _ (by decide)).trans ?_
  refine (View.readCov_cons_toLoadRect _ _ _ _).trans ?_
  rfl

theorem stepD_A1 (q0 : ¬P0_0 ch t) (q1 : ¬P0_2 ch t) :
    rdA c 1 (step0 ch m ρ c t prev).2.2.2.2 = k0_pay24 (F := Ideal) (sc ch m ρ c t 1) (rdM c 1 prev.2.2.1) (rdA c 1 prev.2.2.2.2) (vs ch m ρ c t 1) := by
  rw [step0_D ch m ρ c t prev q0 q1]
  unfold kernelRun0_D
  dsimp only
  unfold rdA
  unfold kernelRun0_D.sl.HS2_4
  refine (View.readCov_skip _ _ _ _ _ (by decide)).trans ?_
  refine (View.readCov_skip _ _ _ _ _ (by decide)).trans ?_
  refine (View.readCov_cons_toLoadRect _ _ _ _).trans ?_
  rfl

theorem stepD_M2 (q0 : ¬P0_0 ch t) (q1 : ¬P0_2 ch t) :
    rdM c 2 (step0 ch m ρ c t prev).2.2.1 = k0_pay25 (F := Ideal) (sc ch m ρ c t 2) (rdM c 2 prev.2.2.1) := by
  rw [step0_D ch m ρ c t prev q0 q1]
  unfold kernelRun0_D
  dsimp only
  unfold rdM
  unfold kernelRun0_D.sl.HS0_4
  refine (View.readCov_skip _ _ _ _ _ (by decide)).trans ?_
  refine (View.readCov_cons_toLoadRect _ _ _ _).trans ?_
  rfl

theorem stepD_L2 (q0 : ¬P0_0 ch t) (q1 : ¬P0_2 ch t) :
    rdL c 2 (step0 ch m ρ c t prev).2.2.2.1 = k0_pay23 (F := Ideal) (sc ch m ρ c t 2) (rdM c 2 prev.2.2.1) (rdL c 2 prev.2.2.2.1) := by
  rw [step0_D ch m ρ c t prev q0 q1]
  unfold kernelRun0_D
  dsimp only
  unfold rdL
  unfold kernelRun0_D.sl.HS1_4
  refine (View.readCov_skip _ _ _ _ _ (by decide)).trans ?_
  refine (View.readCov_cons_toLoadRect _ _ _ _).trans ?_
  rfl

theorem stepD_A2 (q0 : ¬P0_0 ch t) (q1 : ¬P0_2 ch t) :
    rdA c 2 (step0 ch m ρ c t prev).2.2.2.2 = k0_pay24 (F := Ideal) (sc ch m ρ c t 2) (rdM c 2 prev.2.2.1) (rdA c 2 prev.2.2.2.2) (vs ch m ρ c t 2) := by
  rw [step0_D ch m ρ c t prev q0 q1]
  unfold kernelRun0_D
  dsimp only
  unfold rdA
  unfold kernelRun0_D.sl.HS2_4
  refine (View.readCov_skip _ _ _ _ _ (by decide)).trans ?_
  refine (View.readCov_cons_toLoadRect _ _ _ _).trans ?_
  rfl

theorem stepD_M3 (q0 : ¬P0_0 ch t) (q1 : ¬P0_2 ch t) :
    rdM c 3 (step0 ch m ρ c t prev).2.2.1 = k0_pay25 (F := Ideal) (sc ch m ρ c t 3) (rdM c 3 prev.2.2.1) := by
  rw [step0_D ch m ρ c t prev q0 q1]
  unfold kernelRun0_D
  dsimp only
  unfold rdM
  unfold kernelRun0_D.sl.HS0_4
  refine (View.readCov_cons_toLoadRect _ _ _ _).trans ?_
  rfl

theorem stepD_L3 (q0 : ¬P0_0 ch t) (q1 : ¬P0_2 ch t) :
    rdL c 3 (step0 ch m ρ c t prev).2.2.2.1 = k0_pay23 (F := Ideal) (sc ch m ρ c t 3) (rdM c 3 prev.2.2.1) (rdL c 3 prev.2.2.2.1) := by
  rw [step0_D ch m ρ c t prev q0 q1]
  unfold kernelRun0_D
  dsimp only
  unfold rdL
  unfold kernelRun0_D.sl.HS1_4
  refine (View.readCov_cons_toLoadRect _ _ _ _).trans ?_
  rfl

theorem stepD_A3 (q0 : ¬P0_0 ch t) (q1 : ¬P0_2 ch t) :
    rdA c 3 (step0 ch m ρ c t prev).2.2.2.2 = k0_pay24 (F := Ideal) (sc ch m ρ c t 3) (rdM c 3 prev.2.2.1) (rdA c 3 prev.2.2.2.2) (vs ch m ρ c t 3) := by
  rw [step0_D ch m ρ c t prev q0 q1]
  unfold kernelRun0_D
  dsimp only
  unfold rdA
  unfold kernelRun0_D.sl.HS2_4
  refine (View.readCov_cons_toLoadRect _ _ _ _).trans ?_
  rfl

theorem stepC_M0 (q0 : ¬P0_0 ch t) (q1 : P0_2 ch t) :
    rdM c 0 (step0 ch m ρ c t prev).2.2.1 = k0_pay25 (F := Ideal) (msc ch m ρ c t 0) (rdM c 0 prev.2.2.1) := by
  rw [step0_C ch m ρ c t prev q0 q1]
  unfold kernelRun0_C
  dsimp only
  unfold rdM
  unfold kernelRun0_C.sl.HS0_4
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem stepC_L0 (q0 : ¬P0_0 ch t) (q1 : P0_2 ch t) :
    rdL c 0 (step0 ch m ρ c t prev).2.2.2.1 = k0_pay23 (F := Ideal) (msc ch m ρ c t 0) (rdM c 0 prev.2.2.1) (rdL c 0 prev.2.2.2.1) := by
  rw [step0_C ch m ρ c t prev q0 q1]
  unfold kernelRun0_C
  dsimp only
  unfold rdL
  unfold kernelRun0_C.sl.HS1_4
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem stepC_A0 (q0 : ¬P0_0 ch t) (q1 : P0_2 ch t) :
    rdA c 0 (step0 ch m ρ c t prev).2.2.2.2 = k0_pay24 (F := Ideal) (msc ch m ρ c t 0) (rdM c 0 prev.2.2.1) (rdA c 0 prev.2.2.2.2) (vs ch m ρ c t 0) := by
  rw [step0_C ch m ρ c t prev q0 q1]
  unfold kernelRun0_C
  dsimp only
  unfold rdA
  unfold kernelRun0_C.sl.HS2_4
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem stepC_o30 (q0 : ¬P0_0 ch t) (q1 : P0_2 ch t) :
    (fun y => (step0 ch m ρ c t prev).1 ((rv 0).toLoadRect.idx y)) = k0_pay10 (F := Ideal) (rdL c 0 (step0 ch m ρ c t prev).2.2.2.1) (rdA c 0 (step0 ch m ρ c t prev).2.2.2.2) := by
  rw [step0_C ch m ρ c t prev q0 q1]
  unfold out0_C_3 kernelRun0_C
  dsimp only
  change View.readCov VO0_3 (kernelRun0_C.sl.HO3_4 c (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t) prev.2.2.1 prev.2.2.2.1 prev.2.2.2.2) (rv 0).toLoadRect = _
  unfold kernelRun0_C.sl.HO3_4
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem stepC_o40 (q0 : ¬P0_0 ch t) (q1 : P0_2 ch t) :
    (fun y => (step0 ch m ρ c t prev).2.1 ((rv 0).toLoadRect.idx y)) = k0_pay11 (F := Ideal) (rdL c 0 (step0 ch m ρ c t prev).2.2.2.1) (rdM c 0 (step0 ch m ρ c t prev).2.2.1) := by
  rw [step0_C ch m ρ c t prev q0 q1]
  unfold out0_C_4 kernelRun0_C
  dsimp only
  change View.readCov VO0_4 (kernelRun0_C.sl.HO4_4 c (crd ch t) (ms0_0 ch t) (ms0_1 ch t) (pinT_0 ch) (pinT_1 ch) (iblk ch m ρ c (0 : Fin 5) t) (iblk ch m ρ c (1 : Fin 5) t) prev.2.2.1 prev.2.2.2.1) (rv 0).toLoadRect = _
  unfold kernelRun0_C.sl.HO4_4
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem stepC_M1 (q0 : ¬P0_0 ch t) (q1 : P0_2 ch t) :
    rdM c 1 (step0 ch m ρ c t prev).2.2.1 = k0_pay25 (F := Ideal) (msc ch m ρ c t 1) (rdM c 1 prev.2.2.1) := by
  rw [step0_C ch m ρ c t prev q0 q1]
  unfold kernelRun0_C
  dsimp only
  unfold rdM
  unfold kernelRun0_C.sl.HS0_4
  refine (View.readCov_skip _ _ _ _ _ (by decide)).trans ?_
  refine (View.readCov_skip _ _ _ _ _ (by decide)).trans ?_
  refine (View.readCov_cons_toLoadRect _ _ _ _).trans ?_
  rfl

theorem stepC_L1 (q0 : ¬P0_0 ch t) (q1 : P0_2 ch t) :
    rdL c 1 (step0 ch m ρ c t prev).2.2.2.1 = k0_pay23 (F := Ideal) (msc ch m ρ c t 1) (rdM c 1 prev.2.2.1) (rdL c 1 prev.2.2.2.1) := by
  rw [step0_C ch m ρ c t prev q0 q1]
  unfold kernelRun0_C
  dsimp only
  unfold rdL
  unfold kernelRun0_C.sl.HS1_4
  refine (View.readCov_skip _ _ _ _ _ (by decide)).trans ?_
  refine (View.readCov_skip _ _ _ _ _ (by decide)).trans ?_
  refine (View.readCov_cons_toLoadRect _ _ _ _).trans ?_
  rfl

theorem stepC_A1 (q0 : ¬P0_0 ch t) (q1 : P0_2 ch t) :
    rdA c 1 (step0 ch m ρ c t prev).2.2.2.2 = k0_pay24 (F := Ideal) (msc ch m ρ c t 1) (rdM c 1 prev.2.2.1) (rdA c 1 prev.2.2.2.2) (vs ch m ρ c t 1) := by
  rw [step0_C ch m ρ c t prev q0 q1]
  unfold kernelRun0_C
  dsimp only
  unfold rdA
  unfold kernelRun0_C.sl.HS2_4
  refine (View.readCov_skip _ _ _ _ _ (by decide)).trans ?_
  refine (View.readCov_skip _ _ _ _ _ (by decide)).trans ?_
  refine (View.readCov_cons_toLoadRect _ _ _ _).trans ?_
  rfl

theorem stepC_o31 (q0 : ¬P0_0 ch t) (q1 : P0_2 ch t) :
    (fun y => (step0 ch m ρ c t prev).1 ((rv 1).toLoadRect.idx y)) = k0_pay10 (F := Ideal) (rdL c 1 (step0 ch m ρ c t prev).2.2.2.1) (rdA c 1 (step0 ch m ρ c t prev).2.2.2.2) := by
  rw [step0_C ch m ρ c t prev q0 q1]
  unfold out0_C_3 kernelRun0_C
  dsimp only
  change View.readCov VO0_3 (kernelRun0_C.sl.HO3_4 c (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t) prev.2.2.1 prev.2.2.2.1 prev.2.2.2.2) (rv 1).toLoadRect = _
  unfold kernelRun0_C.sl.HO3_4
  refine (View.readCov_skip _ _ _ _ _ (by decide)).trans ?_
  refine (View.readCov_skip _ _ _ _ _ (by decide)).trans ?_
  refine (View.readCov_cons_toLoadRect _ _ _ _).trans ?_
  rfl

theorem stepC_o41 (q0 : ¬P0_0 ch t) (q1 : P0_2 ch t) :
    (fun y => (step0 ch m ρ c t prev).2.1 ((rv 1).toLoadRect.idx y)) = k0_pay11 (F := Ideal) (rdL c 1 (step0 ch m ρ c t prev).2.2.2.1) (rdM c 1 (step0 ch m ρ c t prev).2.2.1) := by
  rw [step0_C ch m ρ c t prev q0 q1]
  unfold out0_C_4 kernelRun0_C
  dsimp only
  change View.readCov VO0_4 (kernelRun0_C.sl.HO4_4 c (crd ch t) (ms0_0 ch t) (ms0_1 ch t) (pinT_0 ch) (pinT_1 ch) (iblk ch m ρ c (0 : Fin 5) t) (iblk ch m ρ c (1 : Fin 5) t) prev.2.2.1 prev.2.2.2.1) (rv 1).toLoadRect = _
  unfold kernelRun0_C.sl.HO4_4
  refine (View.readCov_skip _ _ _ _ _ (by decide)).trans ?_
  refine (View.readCov_skip _ _ _ _ _ (by decide)).trans ?_
  refine (View.readCov_cons_toLoadRect _ _ _ _).trans ?_
  rfl

theorem stepC_M2 (q0 : ¬P0_0 ch t) (q1 : P0_2 ch t) :
    rdM c 2 (step0 ch m ρ c t prev).2.2.1 = k0_pay25 (F := Ideal) (msc ch m ρ c t 2) (rdM c 2 prev.2.2.1) := by
  rw [step0_C ch m ρ c t prev q0 q1]
  unfold kernelRun0_C
  dsimp only
  unfold rdM
  unfold kernelRun0_C.sl.HS0_4
  refine (View.readCov_skip _ _ _ _ _ (by decide)).trans ?_
  refine (View.readCov_cons_toLoadRect _ _ _ _).trans ?_
  rfl

theorem stepC_L2 (q0 : ¬P0_0 ch t) (q1 : P0_2 ch t) :
    rdL c 2 (step0 ch m ρ c t prev).2.2.2.1 = k0_pay23 (F := Ideal) (msc ch m ρ c t 2) (rdM c 2 prev.2.2.1) (rdL c 2 prev.2.2.2.1) := by
  rw [step0_C ch m ρ c t prev q0 q1]
  unfold kernelRun0_C
  dsimp only
  unfold rdL
  unfold kernelRun0_C.sl.HS1_4
  refine (View.readCov_skip _ _ _ _ _ (by decide)).trans ?_
  refine (View.readCov_cons_toLoadRect _ _ _ _).trans ?_
  rfl

theorem stepC_A2 (q0 : ¬P0_0 ch t) (q1 : P0_2 ch t) :
    rdA c 2 (step0 ch m ρ c t prev).2.2.2.2 = k0_pay24 (F := Ideal) (msc ch m ρ c t 2) (rdM c 2 prev.2.2.1) (rdA c 2 prev.2.2.2.2) (vs ch m ρ c t 2) := by
  rw [step0_C ch m ρ c t prev q0 q1]
  unfold kernelRun0_C
  dsimp only
  unfold rdA
  unfold kernelRun0_C.sl.HS2_4
  refine (View.readCov_skip _ _ _ _ _ (by decide)).trans ?_
  refine (View.readCov_cons_toLoadRect _ _ _ _).trans ?_
  rfl

theorem stepC_o32 (q0 : ¬P0_0 ch t) (q1 : P0_2 ch t) :
    (fun y => (step0 ch m ρ c t prev).1 ((rv 2).toLoadRect.idx y)) = k0_pay10 (F := Ideal) (rdL c 2 (step0 ch m ρ c t prev).2.2.2.1) (rdA c 2 (step0 ch m ρ c t prev).2.2.2.2) := by
  rw [step0_C ch m ρ c t prev q0 q1]
  unfold out0_C_3 kernelRun0_C
  dsimp only
  change View.readCov VO0_3 (kernelRun0_C.sl.HO3_4 c (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t) prev.2.2.1 prev.2.2.2.1 prev.2.2.2.2) (rv 2).toLoadRect = _
  unfold kernelRun0_C.sl.HO3_4
  refine (View.readCov_skip _ _ _ _ _ (by decide)).trans ?_
  refine (View.readCov_cons_toLoadRect _ _ _ _).trans ?_
  rfl

theorem stepC_o42 (q0 : ¬P0_0 ch t) (q1 : P0_2 ch t) :
    (fun y => (step0 ch m ρ c t prev).2.1 ((rv 2).toLoadRect.idx y)) = k0_pay11 (F := Ideal) (rdL c 2 (step0 ch m ρ c t prev).2.2.2.1) (rdM c 2 (step0 ch m ρ c t prev).2.2.1) := by
  rw [step0_C ch m ρ c t prev q0 q1]
  unfold out0_C_4 kernelRun0_C
  dsimp only
  change View.readCov VO0_4 (kernelRun0_C.sl.HO4_4 c (crd ch t) (ms0_0 ch t) (ms0_1 ch t) (pinT_0 ch) (pinT_1 ch) (iblk ch m ρ c (0 : Fin 5) t) (iblk ch m ρ c (1 : Fin 5) t) prev.2.2.1 prev.2.2.2.1) (rv 2).toLoadRect = _
  unfold kernelRun0_C.sl.HO4_4
  refine (View.readCov_skip _ _ _ _ _ (by decide)).trans ?_
  refine (View.readCov_cons_toLoadRect _ _ _ _).trans ?_
  rfl

theorem stepC_M3 (q0 : ¬P0_0 ch t) (q1 : P0_2 ch t) :
    rdM c 3 (step0 ch m ρ c t prev).2.2.1 = k0_pay25 (F := Ideal) (msc ch m ρ c t 3) (rdM c 3 prev.2.2.1) := by
  rw [step0_C ch m ρ c t prev q0 q1]
  unfold kernelRun0_C
  dsimp only
  unfold rdM
  unfold kernelRun0_C.sl.HS0_4
  refine (View.readCov_cons_toLoadRect _ _ _ _).trans ?_
  rfl

theorem stepC_L3 (q0 : ¬P0_0 ch t) (q1 : P0_2 ch t) :
    rdL c 3 (step0 ch m ρ c t prev).2.2.2.1 = k0_pay23 (F := Ideal) (msc ch m ρ c t 3) (rdM c 3 prev.2.2.1) (rdL c 3 prev.2.2.2.1) := by
  rw [step0_C ch m ρ c t prev q0 q1]
  unfold kernelRun0_C
  dsimp only
  unfold rdL
  unfold kernelRun0_C.sl.HS1_4
  refine (View.readCov_cons_toLoadRect _ _ _ _).trans ?_
  rfl

theorem stepC_A3 (q0 : ¬P0_0 ch t) (q1 : P0_2 ch t) :
    rdA c 3 (step0 ch m ρ c t prev).2.2.2.2 = k0_pay24 (F := Ideal) (msc ch m ρ c t 3) (rdM c 3 prev.2.2.1) (rdA c 3 prev.2.2.2.2) (vs ch m ρ c t 3) := by
  rw [step0_C ch m ρ c t prev q0 q1]
  unfold kernelRun0_C
  dsimp only
  unfold rdA
  unfold kernelRun0_C.sl.HS2_4
  refine (View.readCov_cons_toLoadRect _ _ _ _).trans ?_
  rfl

theorem stepC_o33 (q0 : ¬P0_0 ch t) (q1 : P0_2 ch t) :
    (fun y => (step0 ch m ρ c t prev).1 ((rv 3).toLoadRect.idx y)) = k0_pay10 (F := Ideal) (rdL c 3 (step0 ch m ρ c t prev).2.2.2.1) (rdA c 3 (step0 ch m ρ c t prev).2.2.2.2) := by
  rw [step0_C ch m ρ c t prev q0 q1]
  unfold out0_C_3 kernelRun0_C
  dsimp only
  change View.readCov VO0_3 (kernelRun0_C.sl.HO3_4 c (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t) prev.2.2.1 prev.2.2.2.1 prev.2.2.2.2) (rv 3).toLoadRect = _
  unfold kernelRun0_C.sl.HO3_4
  refine (View.readCov_cons_toLoadRect _ _ _ _).trans ?_
  rfl

theorem stepC_o43 (q0 : ¬P0_0 ch t) (q1 : P0_2 ch t) :
    (fun y => (step0 ch m ρ c t prev).2.1 ((rv 3).toLoadRect.idx y)) = k0_pay11 (F := Ideal) (rdL c 3 (step0 ch m ρ c t prev).2.2.2.1) (rdM c 3 (step0 ch m ρ c t prev).2.2.1) := by
  rw [step0_C ch m ρ c t prev q0 q1]
  unfold out0_C_4 kernelRun0_C
  dsimp only
  change View.readCov VO0_4 (kernelRun0_C.sl.HO4_4 c (crd ch t) (ms0_0 ch t) (ms0_1 ch t) (pinT_0 ch) (pinT_1 ch) (iblk ch m ρ c (0 : Fin 5) t) (iblk ch m ρ c (1 : Fin 5) t) prev.2.2.1 prev.2.2.2.1) (rv 3).toLoadRect = _
  unfold kernelRun0_C.sl.HO4_4
  refine (View.readCov_cons_toLoadRect _ _ _ _).trans ?_
  rfl

theorem stepB_M0 (q0 : P0_0 ch t) (q1 : ¬P0_1 ch t) :
    rdM c 0 (step0 ch m ρ c t prev).2.2.1 = k0_pay25 (F := Ideal) (msc ch m ρ c t 0) (iM 0) := by
  rw [step0_B ch m ρ c t prev q0 q1]
  unfold kernelRun0_B
  dsimp only
  have hM : kernelRun0_B.sl.v56  = iM 0 := by
    unfold kernelRun0_B.sl.v56
    unfold kernelRun0_B.sl.HS0_1
    exact View.readCov_fill _ _ _ _ _ (by intro a; match a with | ⟨0, _⟩ => rfl | ⟨1, _⟩ => rfl | ⟨2, _⟩ => rfl)
  rw [← hM]
  unfold rdM
  unfold kernelRun0_B.sl.HS0_5
  refine (View.readCov_skip _ _ _ _ _ (by decide)).trans ?_
  unfold kernelRun0_B.sl.HS0_4
  refine (View.readCov_skip _ _ _ _ _ (by decide)).trans ?_
  unfold kernelRun0_B.sl.HS0_3
  refine (View.readCov_skip _ _ _ _ _ (by decide)).trans ?_
  unfold kernelRun0_B.sl.HS0_2
  refine (View.readCov_cons_toLoadRect _ _ _ _).trans ?_
  rfl

theorem stepB_L0 (q0 : P0_0 ch t) (q1 : ¬P0_1 ch t) :
    rdL c 0 (step0 ch m ρ c t prev).2.2.2.1 = k0_pay23 (F := Ideal) (msc ch m ρ c t 0) (iM 0) (iL 0) := by
  rw [step0_B ch m ρ c t prev q0 q1]
  unfold kernelRun0_B
  dsimp only
  have hM : kernelRun0_B.sl.v56  = iM 0 := by
    unfold kernelRun0_B.sl.v56
    unfold kernelRun0_B.sl.HS0_1
    exact View.readCov_fill _ _ _ _ _ (by intro a; match a with | ⟨0, _⟩ => rfl | ⟨1, _⟩ => rfl | ⟨2, _⟩ => rfl)
  have hL : kernelRun0_B.sl.v67  = iL 0 := by
    unfold kernelRun0_B.sl.v67
    unfold kernelRun0_B.sl.HS1_1
    exact View.readCov_fill _ _ _ _ _ (by intro a; match a with | ⟨0, _⟩ => rfl | ⟨1, _⟩ => rfl | ⟨2, _⟩ => rfl)
  rw [← hM, ← hL]
  unfold rdL
  unfold kernelRun0_B.sl.HS1_5
  refine (View.readCov_skip _ _ _ _ _ (by decide)).trans ?_
  unfold kernelRun0_B.sl.HS1_4
  refine (View.readCov_skip _ _ _ _ _ (by decide)).trans ?_
  unfold kernelRun0_B.sl.HS1_3
  refine (View.readCov_skip _ _ _ _ _ (by decide)).trans ?_
  unfold kernelRun0_B.sl.HS1_2
  refine (View.readCov_cons_toLoadRect _ _ _ _).trans ?_
  rfl

theorem stepB_A0 (q0 : P0_0 ch t) (q1 : ¬P0_1 ch t) :
    rdA c 0 (step0 ch m ρ c t prev).2.2.2.2 = k0_pay24 (F := Ideal) (msc ch m ρ c t 0) (iM 0) (iA 0) (vs ch m ρ c t 0) := by
  rw [step0_B ch m ρ c t prev q0 q1]
  unfold kernelRun0_B
  dsimp only
  have hM : kernelRun0_B.sl.v56  = iM 0 := by
    unfold kernelRun0_B.sl.v56
    unfold kernelRun0_B.sl.HS0_1
    exact View.readCov_fill _ _ _ _ _ (by intro a; match a with | ⟨0, _⟩ => rfl | ⟨1, _⟩ => rfl | ⟨2, _⟩ => rfl)
  have hA : kernelRun0_B.sl.v77  = iA 0 := by
    unfold kernelRun0_B.sl.v77
    unfold kernelRun0_B.sl.HS2_1
    exact View.readCov_fill _ _ _ _ _ (by intro a; match a with | ⟨0, _⟩ => rfl | ⟨1, _⟩ => rfl | ⟨2, _⟩ => rfl)
  rw [← hM, ← hA]
  unfold rdA
  unfold kernelRun0_B.sl.HS2_5
  refine (View.readCov_skip _ _ _ _ _ (by decide)).trans ?_
  unfold kernelRun0_B.sl.HS2_4
  refine (View.readCov_skip _ _ _ _ _ (by decide)).trans ?_
  unfold kernelRun0_B.sl.HS2_3
  refine (View.readCov_skip _ _ _ _ _ (by decide)).trans ?_
  unfold kernelRun0_B.sl.HS2_2
  refine (View.readCov_cons_toLoadRect _ _ _ _).trans ?_
  rfl

theorem stepB_M1 (q0 : P0_0 ch t) (q1 : ¬P0_1 ch t) :
    rdM c 1 (step0 ch m ρ c t prev).2.2.1 = k0_pay25 (F := Ideal) (msc ch m ρ c t 1) (iM 1) := by
  rw [step0_B ch m ρ c t prev q0 q1]
  unfold kernelRun0_B
  dsimp only
  have hM : kernelRun0_B.sl.v90 (crd ch t) (ms0_0 ch t) (ms0_1 ch t) (pinT_0 ch) (pinT_1 ch) (iblk ch m ρ c (0 : Fin 5) t) (iblk ch m ρ c (1 : Fin 5) t) = iM 1 := by
    unfold kernelRun0_B.sl.v90
    unfold kernelRun0_B.sl.HS0_2
    refine (View.readCov_skip _ _ _ _ _ (by decide)).trans ?_
    unfold kernelRun0_B.sl.HS0_1
    exact View.readCov_fill _ _ _ _ _ (by intro a; match a with | ⟨0, _⟩ => rfl | ⟨1, _⟩ => rfl | ⟨2, _⟩ => rfl)
  rw [← hM]
  unfold rdM
  unfold kernelRun0_B.sl.HS0_5
  refine (View.readCov_skip _ _ _ _ _ (by decide)).trans ?_
  unfold kernelRun0_B.sl.HS0_4
  refine (View.readCov_skip _ _ _ _ _ (by decide)).trans ?_
  unfold kernelRun0_B.sl.HS0_3
  refine (View.readCov_cons_toLoadRect _ _ _ _).trans ?_
  rfl

theorem stepB_L1 (q0 : P0_0 ch t) (q1 : ¬P0_1 ch t) :
    rdL c 1 (step0 ch m ρ c t prev).2.2.2.1 = k0_pay23 (F := Ideal) (msc ch m ρ c t 1) (iM 1) (iL 1) := by
  rw [step0_B ch m ρ c t prev q0 q1]
  unfold kernelRun0_B
  dsimp only
  have hM : kernelRun0_B.sl.v90 (crd ch t) (ms0_0 ch t) (ms0_1 ch t) (pinT_0 ch) (pinT_1 ch) (iblk ch m ρ c (0 : Fin 5) t) (iblk ch m ρ c (1 : Fin 5) t) = iM 1 := by
    unfold kernelRun0_B.sl.v90
    unfold kernelRun0_B.sl.HS0_2
    refine (View.readCov_skip _ _ _ _ _ (by decide)).trans ?_
    unfold kernelRun0_B.sl.HS0_1
    exact View.readCov_fill _ _ _ _ _ (by intro a; match a with | ⟨0, _⟩ => rfl | ⟨1, _⟩ => rfl | ⟨2, _⟩ => rfl)
  have hL : kernelRun0_B.sl.v101 (crd ch t) (ms0_0 ch t) (ms0_1 ch t) (pinT_0 ch) (pinT_1 ch) (iblk ch m ρ c (0 : Fin 5) t) (iblk ch m ρ c (1 : Fin 5) t) = iL 1 := by
    unfold kernelRun0_B.sl.v101
    unfold kernelRun0_B.sl.HS1_2
    refine (View.readCov_skip _ _ _ _ _ (by decide)).trans ?_
    unfold kernelRun0_B.sl.HS1_1
    exact View.readCov_fill _ _ _ _ _ (by intro a; match a with | ⟨0, _⟩ => rfl | ⟨1, _⟩ => rfl | ⟨2, _⟩ => rfl)
  rw [← hM, ← hL]
  unfold rdL
  unfold kernelRun0_B.sl.HS1_5
  refine (View.readCov_skip _ _ _ _ _ (by decide)).trans ?_
  unfold kernelRun0_B.sl.HS1_4
  refine (View.readCov_skip _ _ _ _ _ (by decide)).trans ?_
  unfold kernelRun0_B.sl.HS1_3
  refine (View.readCov_cons_toLoadRect _ _ _ _).trans ?_
  rfl

theorem stepB_A1 (q0 : P0_0 ch t) (q1 : ¬P0_1 ch t) :
    rdA c 1 (step0 ch m ρ c t prev).2.2.2.2 = k0_pay24 (F := Ideal) (msc ch m ρ c t 1) (iM 1) (iA 1) (vs ch m ρ c t 1) := by
  rw [step0_B ch m ρ c t prev q0 q1]
  unfold kernelRun0_B
  dsimp only
  have hM : kernelRun0_B.sl.v90 (crd ch t) (ms0_0 ch t) (ms0_1 ch t) (pinT_0 ch) (pinT_1 ch) (iblk ch m ρ c (0 : Fin 5) t) (iblk ch m ρ c (1 : Fin 5) t) = iM 1 := by
    unfold kernelRun0_B.sl.v90
    unfold kernelRun0_B.sl.HS0_2
    refine (View.readCov_skip _ _ _ _ _ (by decide)).trans ?_
    unfold kernelRun0_B.sl.HS0_1
    exact View.readCov_fill _ _ _ _ _ (by intro a; match a with | ⟨0, _⟩ => rfl | ⟨1, _⟩ => rfl | ⟨2, _⟩ => rfl)
  have hA : kernelRun0_B.sl.v111 (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t) = iA 1 := by
    unfold kernelRun0_B.sl.v111
    unfold kernelRun0_B.sl.HS2_2
    refine (View.readCov_skip _ _ _ _ _ (by decide)).trans ?_
    unfold kernelRun0_B.sl.HS2_1
    exact View.readCov_fill _ _ _ _ _ (by intro a; match a with | ⟨0, _⟩ => rfl | ⟨1, _⟩ => rfl | ⟨2, _⟩ => rfl)
  rw [← hM, ← hA]
  unfold rdA
  unfold kernelRun0_B.sl.HS2_5
  refine (View.readCov_skip _ _ _ _ _ (by decide)).trans ?_
  unfold kernelRun0_B.sl.HS2_4
  refine (View.readCov_skip _ _ _ _ _ (by decide)).trans ?_
  unfold kernelRun0_B.sl.HS2_3
  refine (View.readCov_cons_toLoadRect _ _ _ _).trans ?_
  rfl

theorem stepB_M2 (q0 : P0_0 ch t) (q1 : ¬P0_1 ch t) :
    rdM c 2 (step0 ch m ρ c t prev).2.2.1 = k0_pay25 (F := Ideal) (msc ch m ρ c t 2) (iM 2) := by
  rw [step0_B ch m ρ c t prev q0 q1]
  unfold kernelRun0_B
  dsimp only
  have hM : kernelRun0_B.sl.v124 (crd ch t) (ms0_0 ch t) (ms0_1 ch t) (pinT_0 ch) (pinT_1 ch) (iblk ch m ρ c (0 : Fin 5) t) (iblk ch m ρ c (1 : Fin 5) t) = iM 2 := by
    unfold kernelRun0_B.sl.v124
    unfold kernelRun0_B.sl.HS0_3
    refine (View.readCov_skip _ _ _ _ _ (by decide)).trans ?_
    unfold kernelRun0_B.sl.HS0_2
    refine (View.readCov_skip _ _ _ _ _ (by decide)).trans ?_
    unfold kernelRun0_B.sl.HS0_1
    exact View.readCov_fill _ _ _ _ _ (by intro a; match a with | ⟨0, _⟩ => rfl | ⟨1, _⟩ => rfl | ⟨2, _⟩ => rfl)
  rw [← hM]
  unfold rdM
  unfold kernelRun0_B.sl.HS0_5
  refine (View.readCov_skip _ _ _ _ _ (by decide)).trans ?_
  unfold kernelRun0_B.sl.HS0_4
  refine (View.readCov_cons_toLoadRect _ _ _ _).trans ?_
  rfl

theorem stepB_L2 (q0 : P0_0 ch t) (q1 : ¬P0_1 ch t) :
    rdL c 2 (step0 ch m ρ c t prev).2.2.2.1 = k0_pay23 (F := Ideal) (msc ch m ρ c t 2) (iM 2) (iL 2) := by
  rw [step0_B ch m ρ c t prev q0 q1]
  unfold kernelRun0_B
  dsimp only
  have hM : kernelRun0_B.sl.v124 (crd ch t) (ms0_0 ch t) (ms0_1 ch t) (pinT_0 ch) (pinT_1 ch) (iblk ch m ρ c (0 : Fin 5) t) (iblk ch m ρ c (1 : Fin 5) t) = iM 2 := by
    unfold kernelRun0_B.sl.v124
    unfold kernelRun0_B.sl.HS0_3
    refine (View.readCov_skip _ _ _ _ _ (by decide)).trans ?_
    unfold kernelRun0_B.sl.HS0_2
    refine (View.readCov_skip _ _ _ _ _ (by decide)).trans ?_
    unfold kernelRun0_B.sl.HS0_1
    exact View.readCov_fill _ _ _ _ _ (by intro a; match a with | ⟨0, _⟩ => rfl | ⟨1, _⟩ => rfl | ⟨2, _⟩ => rfl)
  have hL : kernelRun0_B.sl.v135 (crd ch t) (ms0_0 ch t) (ms0_1 ch t) (pinT_0 ch) (pinT_1 ch) (iblk ch m ρ c (0 : Fin 5) t) (iblk ch m ρ c (1 : Fin 5) t) = iL 2 := by
    unfold kernelRun0_B.sl.v135
    unfold kernelRun0_B.sl.HS1_3
    refine (View.readCov_skip _ _ _ _ _ (by decide)).trans ?_
    unfold kernelRun0_B.sl.HS1_2
    refine (View.readCov_skip _ _ _ _ _ (by decide)).trans ?_
    unfold kernelRun0_B.sl.HS1_1
    exact View.readCov_fill _ _ _ _ _ (by intro a; match a with | ⟨0, _⟩ => rfl | ⟨1, _⟩ => rfl | ⟨2, _⟩ => rfl)
  rw [← hM, ← hL]
  unfold rdL
  unfold kernelRun0_B.sl.HS1_5
  refine (View.readCov_skip _ _ _ _ _ (by decide)).trans ?_
  unfold kernelRun0_B.sl.HS1_4
  refine (View.readCov_cons_toLoadRect _ _ _ _).trans ?_
  rfl

theorem stepB_A2 (q0 : P0_0 ch t) (q1 : ¬P0_1 ch t) :
    rdA c 2 (step0 ch m ρ c t prev).2.2.2.2 = k0_pay24 (F := Ideal) (msc ch m ρ c t 2) (iM 2) (iA 2) (vs ch m ρ c t 2) := by
  rw [step0_B ch m ρ c t prev q0 q1]
  unfold kernelRun0_B
  dsimp only
  have hM : kernelRun0_B.sl.v124 (crd ch t) (ms0_0 ch t) (ms0_1 ch t) (pinT_0 ch) (pinT_1 ch) (iblk ch m ρ c (0 : Fin 5) t) (iblk ch m ρ c (1 : Fin 5) t) = iM 2 := by
    unfold kernelRun0_B.sl.v124
    unfold kernelRun0_B.sl.HS0_3
    refine (View.readCov_skip _ _ _ _ _ (by decide)).trans ?_
    unfold kernelRun0_B.sl.HS0_2
    refine (View.readCov_skip _ _ _ _ _ (by decide)).trans ?_
    unfold kernelRun0_B.sl.HS0_1
    exact View.readCov_fill _ _ _ _ _ (by intro a; match a with | ⟨0, _⟩ => rfl | ⟨1, _⟩ => rfl | ⟨2, _⟩ => rfl)
  have hA : kernelRun0_B.sl.v145 (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t) = iA 2 := by
    unfold kernelRun0_B.sl.v145
    unfold kernelRun0_B.sl.HS2_3
    refine (View.readCov_skip _ _ _ _ _ (by decide)).trans ?_
    unfold kernelRun0_B.sl.HS2_2
    refine (View.readCov_skip _ _ _ _ _ (by decide)).trans ?_
    unfold kernelRun0_B.sl.HS2_1
    exact View.readCov_fill _ _ _ _ _ (by intro a; match a with | ⟨0, _⟩ => rfl | ⟨1, _⟩ => rfl | ⟨2, _⟩ => rfl)
  rw [← hM, ← hA]
  unfold rdA
  unfold kernelRun0_B.sl.HS2_5
  refine (View.readCov_skip _ _ _ _ _ (by decide)).trans ?_
  unfold kernelRun0_B.sl.HS2_4
  refine (View.readCov_cons_toLoadRect _ _ _ _).trans ?_
  rfl

theorem stepB_M3 (q0 : P0_0 ch t) (q1 : ¬P0_1 ch t) :
    rdM c 3 (step0 ch m ρ c t prev).2.2.1 = k0_pay25 (F := Ideal) (msc ch m ρ c t 3) (iM 3) := by
  rw [step0_B ch m ρ c t prev q0 q1]
  unfold kernelRun0_B
  dsimp only
  have hM : kernelRun0_B.sl.v158 (crd ch t) (ms0_0 ch t) (ms0_1 ch t) (pinT_0 ch) (pinT_1 ch) (iblk ch m ρ c (0 : Fin 5) t) (iblk ch m ρ c (1 : Fin 5) t) = iM 3 := by
    unfold kernelRun0_B.sl.v158
    unfold kernelRun0_B.sl.HS0_4
    refine (View.readCov_skip _ _ _ _ _ (by decide)).trans ?_
    unfold kernelRun0_B.sl.HS0_3
    refine (View.readCov_skip _ _ _ _ _ (by decide)).trans ?_
    unfold kernelRun0_B.sl.HS0_2
    refine (View.readCov_skip _ _ _ _ _ (by decide)).trans ?_
    unfold kernelRun0_B.sl.HS0_1
    exact View.readCov_fill _ _ _ _ _ (by intro a; match a with | ⟨0, _⟩ => rfl | ⟨1, _⟩ => rfl | ⟨2, _⟩ => rfl)
  rw [← hM]
  unfold rdM
  unfold kernelRun0_B.sl.HS0_5
  refine (View.readCov_cons_toLoadRect _ _ _ _).trans ?_
  rfl

theorem stepB_L3 (q0 : P0_0 ch t) (q1 : ¬P0_1 ch t) :
    rdL c 3 (step0 ch m ρ c t prev).2.2.2.1 = k0_pay23 (F := Ideal) (msc ch m ρ c t 3) (iM 3) (iL 3) := by
  rw [step0_B ch m ρ c t prev q0 q1]
  unfold kernelRun0_B
  dsimp only
  have hM : kernelRun0_B.sl.v158 (crd ch t) (ms0_0 ch t) (ms0_1 ch t) (pinT_0 ch) (pinT_1 ch) (iblk ch m ρ c (0 : Fin 5) t) (iblk ch m ρ c (1 : Fin 5) t) = iM 3 := by
    unfold kernelRun0_B.sl.v158
    unfold kernelRun0_B.sl.HS0_4
    refine (View.readCov_skip _ _ _ _ _ (by decide)).trans ?_
    unfold kernelRun0_B.sl.HS0_3
    refine (View.readCov_skip _ _ _ _ _ (by decide)).trans ?_
    unfold kernelRun0_B.sl.HS0_2
    refine (View.readCov_skip _ _ _ _ _ (by decide)).trans ?_
    unfold kernelRun0_B.sl.HS0_1
    exact View.readCov_fill _ _ _ _ _ (by intro a; match a with | ⟨0, _⟩ => rfl | ⟨1, _⟩ => rfl | ⟨2, _⟩ => rfl)
  have hL : kernelRun0_B.sl.v169 (crd ch t) (ms0_0 ch t) (ms0_1 ch t) (pinT_0 ch) (pinT_1 ch) (iblk ch m ρ c (0 : Fin 5) t) (iblk ch m ρ c (1 : Fin 5) t) = iL 3 := by
    unfold kernelRun0_B.sl.v169
    unfold kernelRun0_B.sl.HS1_4
    refine (View.readCov_skip _ _ _ _ _ (by decide)).trans ?_
    unfold kernelRun0_B.sl.HS1_3
    refine (View.readCov_skip _ _ _ _ _ (by decide)).trans ?_
    unfold kernelRun0_B.sl.HS1_2
    refine (View.readCov_skip _ _ _ _ _ (by decide)).trans ?_
    unfold kernelRun0_B.sl.HS1_1
    exact View.readCov_fill _ _ _ _ _ (by intro a; match a with | ⟨0, _⟩ => rfl | ⟨1, _⟩ => rfl | ⟨2, _⟩ => rfl)
  rw [← hM, ← hL]
  unfold rdL
  unfold kernelRun0_B.sl.HS1_5
  refine (View.readCov_cons_toLoadRect _ _ _ _).trans ?_
  rfl

theorem stepB_A3 (q0 : P0_0 ch t) (q1 : ¬P0_1 ch t) :
    rdA c 3 (step0 ch m ρ c t prev).2.2.2.2 = k0_pay24 (F := Ideal) (msc ch m ρ c t 3) (iM 3) (iA 3) (vs ch m ρ c t 3) := by
  rw [step0_B ch m ρ c t prev q0 q1]
  unfold kernelRun0_B
  dsimp only
  have hM : kernelRun0_B.sl.v158 (crd ch t) (ms0_0 ch t) (ms0_1 ch t) (pinT_0 ch) (pinT_1 ch) (iblk ch m ρ c (0 : Fin 5) t) (iblk ch m ρ c (1 : Fin 5) t) = iM 3 := by
    unfold kernelRun0_B.sl.v158
    unfold kernelRun0_B.sl.HS0_4
    refine (View.readCov_skip _ _ _ _ _ (by decide)).trans ?_
    unfold kernelRun0_B.sl.HS0_3
    refine (View.readCov_skip _ _ _ _ _ (by decide)).trans ?_
    unfold kernelRun0_B.sl.HS0_2
    refine (View.readCov_skip _ _ _ _ _ (by decide)).trans ?_
    unfold kernelRun0_B.sl.HS0_1
    exact View.readCov_fill _ _ _ _ _ (by intro a; match a with | ⟨0, _⟩ => rfl | ⟨1, _⟩ => rfl | ⟨2, _⟩ => rfl)
  have hA : kernelRun0_B.sl.v179 (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t) = iA 3 := by
    unfold kernelRun0_B.sl.v179
    unfold kernelRun0_B.sl.HS2_4
    refine (View.readCov_skip _ _ _ _ _ (by decide)).trans ?_
    unfold kernelRun0_B.sl.HS2_3
    refine (View.readCov_skip _ _ _ _ _ (by decide)).trans ?_
    unfold kernelRun0_B.sl.HS2_2
    refine (View.readCov_skip _ _ _ _ _ (by decide)).trans ?_
    unfold kernelRun0_B.sl.HS2_1
    exact View.readCov_fill _ _ _ _ _ (by intro a; match a with | ⟨0, _⟩ => rfl | ⟨1, _⟩ => rfl | ⟨2, _⟩ => rfl)
  rw [← hM, ← hA]
  unfold rdA
  unfold kernelRun0_B.sl.HS2_5
  refine (View.readCov_cons_toLoadRect _ _ _ _).trans ?_
  rfl

theorem stepA_M0 (q0 : P0_0 ch t) (q1 : P0_1 ch t) :
    rdM c 0 (step0 ch m ρ c t prev).2.2.1 = k0_pay25 (F := Ideal) (msc ch m ρ c t 0) (iM 0) := by
  rw [step0_A ch m ρ c t prev q0 q1]
  unfold kernelRun0_A
  dsimp only
  have hM : kernelRun0_A.sl.v56  = iM 0 := by
    unfold kernelRun0_A.sl.v56
    unfold kernelRun0_A.sl.HS0_1
    exact View.readCov_fill _ _ _ _ _ (by intro a; match a with | ⟨0, _⟩ => rfl | ⟨1, _⟩ => rfl | ⟨2, _⟩ => rfl)
  rw [← hM]
  unfold rdM
  unfold kernelRun0_A.sl.HS0_5
  refine (View.readCov_skip _ _ _ _ _ (by decide)).trans ?_
  unfold kernelRun0_A.sl.HS0_4
  refine (View.readCov_skip _ _ _ _ _ (by decide)).trans ?_
  unfold kernelRun0_A.sl.HS0_3
  refine (View.readCov_skip _ _ _ _ _ (by decide)).trans ?_
  unfold kernelRun0_A.sl.HS0_2
  refine (View.readCov_cons_toLoadRect _ _ _ _).trans ?_
  rfl

theorem stepA_L0 (q0 : P0_0 ch t) (q1 : P0_1 ch t) :
    rdL c 0 (step0 ch m ρ c t prev).2.2.2.1 = k0_pay23 (F := Ideal) (msc ch m ρ c t 0) (iM 0) (iL 0) := by
  rw [step0_A ch m ρ c t prev q0 q1]
  unfold kernelRun0_A
  dsimp only
  have hM : kernelRun0_A.sl.v56  = iM 0 := by
    unfold kernelRun0_A.sl.v56
    unfold kernelRun0_A.sl.HS0_1
    exact View.readCov_fill _ _ _ _ _ (by intro a; match a with | ⟨0, _⟩ => rfl | ⟨1, _⟩ => rfl | ⟨2, _⟩ => rfl)
  have hL : kernelRun0_A.sl.v67  = iL 0 := by
    unfold kernelRun0_A.sl.v67
    unfold kernelRun0_A.sl.HS1_1
    exact View.readCov_fill _ _ _ _ _ (by intro a; match a with | ⟨0, _⟩ => rfl | ⟨1, _⟩ => rfl | ⟨2, _⟩ => rfl)
  rw [← hM, ← hL]
  unfold rdL
  unfold kernelRun0_A.sl.HS1_5
  refine (View.readCov_skip _ _ _ _ _ (by decide)).trans ?_
  unfold kernelRun0_A.sl.HS1_4
  refine (View.readCov_skip _ _ _ _ _ (by decide)).trans ?_
  unfold kernelRun0_A.sl.HS1_3
  refine (View.readCov_skip _ _ _ _ _ (by decide)).trans ?_
  unfold kernelRun0_A.sl.HS1_2
  refine (View.readCov_cons_toLoadRect _ _ _ _).trans ?_
  rfl

theorem stepA_A0 (q0 : P0_0 ch t) (q1 : P0_1 ch t) :
    rdA c 0 (step0 ch m ρ c t prev).2.2.2.2 = k0_pay24 (F := Ideal) (msc ch m ρ c t 0) (iM 0) (iA 0) (vs ch m ρ c t 0) := by
  rw [step0_A ch m ρ c t prev q0 q1]
  unfold kernelRun0_A
  dsimp only
  have hM : kernelRun0_A.sl.v56  = iM 0 := by
    unfold kernelRun0_A.sl.v56
    unfold kernelRun0_A.sl.HS0_1
    exact View.readCov_fill _ _ _ _ _ (by intro a; match a with | ⟨0, _⟩ => rfl | ⟨1, _⟩ => rfl | ⟨2, _⟩ => rfl)
  have hA : kernelRun0_A.sl.v77  = iA 0 := by
    unfold kernelRun0_A.sl.v77
    unfold kernelRun0_A.sl.HS2_1
    exact View.readCov_fill _ _ _ _ _ (by intro a; match a with | ⟨0, _⟩ => rfl | ⟨1, _⟩ => rfl | ⟨2, _⟩ => rfl)
  rw [← hM, ← hA]
  unfold rdA
  unfold kernelRun0_A.sl.HS2_5
  refine (View.readCov_skip _ _ _ _ _ (by decide)).trans ?_
  unfold kernelRun0_A.sl.HS2_4
  refine (View.readCov_skip _ _ _ _ _ (by decide)).trans ?_
  unfold kernelRun0_A.sl.HS2_3
  refine (View.readCov_skip _ _ _ _ _ (by decide)).trans ?_
  unfold kernelRun0_A.sl.HS2_2
  refine (View.readCov_cons_toLoadRect _ _ _ _).trans ?_
  rfl

theorem stepA_o30 (q0 : P0_0 ch t) (q1 : P0_1 ch t) :
    (fun y => (step0 ch m ρ c t prev).1 ((rv 0).toLoadRect.idx y)) = k0_pay10 (F := Ideal) (rdL c 0 (step0 ch m ρ c t prev).2.2.2.1) (rdA c 0 (step0 ch m ρ c t prev).2.2.2.2) := by
  rw [step0_A ch m ρ c t prev q0 q1]
  unfold out0_A_3 kernelRun0_A
  dsimp only
  change View.readCov VO0_3 (kernelRun0_A.sl.HO3_4 (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t)) (rv 0).toLoadRect = _
  unfold kernelRun0_A.sl.HO3_4
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem stepA_o40 (q0 : P0_0 ch t) (q1 : P0_1 ch t) :
    (fun y => (step0 ch m ρ c t prev).2.1 ((rv 0).toLoadRect.idx y)) = k0_pay11 (F := Ideal) (rdL c 0 (step0 ch m ρ c t prev).2.2.2.1) (rdM c 0 (step0 ch m ρ c t prev).2.2.1) := by
  rw [step0_A ch m ρ c t prev q0 q1]
  unfold out0_A_4 kernelRun0_A
  dsimp only
  change View.readCov VO0_4 (kernelRun0_A.sl.HO4_4 (crd ch t) (ms0_0 ch t) (ms0_1 ch t) (pinT_0 ch) (pinT_1 ch) (iblk ch m ρ c (0 : Fin 5) t) (iblk ch m ρ c (1 : Fin 5) t)) (rv 0).toLoadRect = _
  unfold kernelRun0_A.sl.HO4_4
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem stepA_M1 (q0 : P0_0 ch t) (q1 : P0_1 ch t) :
    rdM c 1 (step0 ch m ρ c t prev).2.2.1 = k0_pay25 (F := Ideal) (msc ch m ρ c t 1) (iM 1) := by
  rw [step0_A ch m ρ c t prev q0 q1]
  unfold kernelRun0_A
  dsimp only
  have hM : kernelRun0_A.sl.v90 (crd ch t) (ms0_0 ch t) (ms0_1 ch t) (pinT_0 ch) (pinT_1 ch) (iblk ch m ρ c (0 : Fin 5) t) (iblk ch m ρ c (1 : Fin 5) t) = iM 1 := by
    unfold kernelRun0_A.sl.v90
    unfold kernelRun0_A.sl.HS0_2
    refine (View.readCov_skip _ _ _ _ _ (by decide)).trans ?_
    unfold kernelRun0_A.sl.HS0_1
    exact View.readCov_fill _ _ _ _ _ (by intro a; match a with | ⟨0, _⟩ => rfl | ⟨1, _⟩ => rfl | ⟨2, _⟩ => rfl)
  rw [← hM]
  unfold rdM
  unfold kernelRun0_A.sl.HS0_5
  refine (View.readCov_skip _ _ _ _ _ (by decide)).trans ?_
  unfold kernelRun0_A.sl.HS0_4
  refine (View.readCov_skip _ _ _ _ _ (by decide)).trans ?_
  unfold kernelRun0_A.sl.HS0_3
  refine (View.readCov_cons_toLoadRect _ _ _ _).trans ?_
  rfl

theorem stepA_L1 (q0 : P0_0 ch t) (q1 : P0_1 ch t) :
    rdL c 1 (step0 ch m ρ c t prev).2.2.2.1 = k0_pay23 (F := Ideal) (msc ch m ρ c t 1) (iM 1) (iL 1) := by
  rw [step0_A ch m ρ c t prev q0 q1]
  unfold kernelRun0_A
  dsimp only
  have hM : kernelRun0_A.sl.v90 (crd ch t) (ms0_0 ch t) (ms0_1 ch t) (pinT_0 ch) (pinT_1 ch) (iblk ch m ρ c (0 : Fin 5) t) (iblk ch m ρ c (1 : Fin 5) t) = iM 1 := by
    unfold kernelRun0_A.sl.v90
    unfold kernelRun0_A.sl.HS0_2
    refine (View.readCov_skip _ _ _ _ _ (by decide)).trans ?_
    unfold kernelRun0_A.sl.HS0_1
    exact View.readCov_fill _ _ _ _ _ (by intro a; match a with | ⟨0, _⟩ => rfl | ⟨1, _⟩ => rfl | ⟨2, _⟩ => rfl)
  have hL : kernelRun0_A.sl.v101 (crd ch t) (ms0_0 ch t) (ms0_1 ch t) (pinT_0 ch) (pinT_1 ch) (iblk ch m ρ c (0 : Fin 5) t) (iblk ch m ρ c (1 : Fin 5) t) = iL 1 := by
    unfold kernelRun0_A.sl.v101
    unfold kernelRun0_A.sl.HS1_2
    refine (View.readCov_skip _ _ _ _ _ (by decide)).trans ?_
    unfold kernelRun0_A.sl.HS1_1
    exact View.readCov_fill _ _ _ _ _ (by intro a; match a with | ⟨0, _⟩ => rfl | ⟨1, _⟩ => rfl | ⟨2, _⟩ => rfl)
  rw [← hM, ← hL]
  unfold rdL
  unfold kernelRun0_A.sl.HS1_5
  refine (View.readCov_skip _ _ _ _ _ (by decide)).trans ?_
  unfold kernelRun0_A.sl.HS1_4
  refine (View.readCov_skip _ _ _ _ _ (by decide)).trans ?_
  unfold kernelRun0_A.sl.HS1_3
  refine (View.readCov_cons_toLoadRect _ _ _ _).trans ?_
  rfl

theorem stepA_A1 (q0 : P0_0 ch t) (q1 : P0_1 ch t) :
    rdA c 1 (step0 ch m ρ c t prev).2.2.2.2 = k0_pay24 (F := Ideal) (msc ch m ρ c t 1) (iM 1) (iA 1) (vs ch m ρ c t 1) := by
  rw [step0_A ch m ρ c t prev q0 q1]
  unfold kernelRun0_A
  dsimp only
  have hM : kernelRun0_A.sl.v90 (crd ch t) (ms0_0 ch t) (ms0_1 ch t) (pinT_0 ch) (pinT_1 ch) (iblk ch m ρ c (0 : Fin 5) t) (iblk ch m ρ c (1 : Fin 5) t) = iM 1 := by
    unfold kernelRun0_A.sl.v90
    unfold kernelRun0_A.sl.HS0_2
    refine (View.readCov_skip _ _ _ _ _ (by decide)).trans ?_
    unfold kernelRun0_A.sl.HS0_1
    exact View.readCov_fill _ _ _ _ _ (by intro a; match a with | ⟨0, _⟩ => rfl | ⟨1, _⟩ => rfl | ⟨2, _⟩ => rfl)
  have hA : kernelRun0_A.sl.v111 (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t) = iA 1 := by
    unfold kernelRun0_A.sl.v111
    unfold kernelRun0_A.sl.HS2_2
    refine (View.readCov_skip _ _ _ _ _ (by decide)).trans ?_
    unfold kernelRun0_A.sl.HS2_1
    exact View.readCov_fill _ _ _ _ _ (by intro a; match a with | ⟨0, _⟩ => rfl | ⟨1, _⟩ => rfl | ⟨2, _⟩ => rfl)
  rw [← hM, ← hA]
  unfold rdA
  unfold kernelRun0_A.sl.HS2_5
  refine (View.readCov_skip _ _ _ _ _ (by decide)).trans ?_
  unfold kernelRun0_A.sl.HS2_4
  refine (View.readCov_skip _ _ _ _ _ (by decide)).trans ?_
  unfold kernelRun0_A.sl.HS2_3
  refine (View.readCov_cons_toLoadRect _ _ _ _).trans ?_
  rfl

theorem stepA_o31 (q0 : P0_0 ch t) (q1 : P0_1 ch t) :
    (fun y => (step0 ch m ρ c t prev).1 ((rv 1).toLoadRect.idx y)) = k0_pay10 (F := Ideal) (rdL c 1 (step0 ch m ρ c t prev).2.2.2.1) (rdA c 1 (step0 ch m ρ c t prev).2.2.2.2) := by
  rw [step0_A ch m ρ c t prev q0 q1]
  unfold out0_A_3 kernelRun0_A
  dsimp only
  change View.readCov VO0_3 (kernelRun0_A.sl.HO3_4 (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t)) (rv 1).toLoadRect = _
  unfold kernelRun0_A.sl.HO3_4
  refine (View.readCov_skip _ _ _ _ _ (by decide)).trans ?_
  refine (View.readCov_skip _ _ _ _ _ (by decide)).trans ?_
  refine (View.readCov_cons_toLoadRect _ _ _ _).trans ?_
  rfl

theorem stepA_o41 (q0 : P0_0 ch t) (q1 : P0_1 ch t) :
    (fun y => (step0 ch m ρ c t prev).2.1 ((rv 1).toLoadRect.idx y)) = k0_pay11 (F := Ideal) (rdL c 1 (step0 ch m ρ c t prev).2.2.2.1) (rdM c 1 (step0 ch m ρ c t prev).2.2.1) := by
  rw [step0_A ch m ρ c t prev q0 q1]
  unfold out0_A_4 kernelRun0_A
  dsimp only
  change View.readCov VO0_4 (kernelRun0_A.sl.HO4_4 (crd ch t) (ms0_0 ch t) (ms0_1 ch t) (pinT_0 ch) (pinT_1 ch) (iblk ch m ρ c (0 : Fin 5) t) (iblk ch m ρ c (1 : Fin 5) t)) (rv 1).toLoadRect = _
  unfold kernelRun0_A.sl.HO4_4
  refine (View.readCov_skip _ _ _ _ _ (by decide)).trans ?_
  refine (View.readCov_skip _ _ _ _ _ (by decide)).trans ?_
  refine (View.readCov_cons_toLoadRect _ _ _ _).trans ?_
  rfl

theorem stepA_M2 (q0 : P0_0 ch t) (q1 : P0_1 ch t) :
    rdM c 2 (step0 ch m ρ c t prev).2.2.1 = k0_pay25 (F := Ideal) (msc ch m ρ c t 2) (iM 2) := by
  rw [step0_A ch m ρ c t prev q0 q1]
  unfold kernelRun0_A
  dsimp only
  have hM : kernelRun0_A.sl.v124 (crd ch t) (ms0_0 ch t) (ms0_1 ch t) (pinT_0 ch) (pinT_1 ch) (iblk ch m ρ c (0 : Fin 5) t) (iblk ch m ρ c (1 : Fin 5) t) = iM 2 := by
    unfold kernelRun0_A.sl.v124
    unfold kernelRun0_A.sl.HS0_3
    refine (View.readCov_skip _ _ _ _ _ (by decide)).trans ?_
    unfold kernelRun0_A.sl.HS0_2
    refine (View.readCov_skip _ _ _ _ _ (by decide)).trans ?_
    unfold kernelRun0_A.sl.HS0_1
    exact View.readCov_fill _ _ _ _ _ (by intro a; match a with | ⟨0, _⟩ => rfl | ⟨1, _⟩ => rfl | ⟨2, _⟩ => rfl)
  rw [← hM]
  unfold rdM
  unfold kernelRun0_A.sl.HS0_5
  refine (View.readCov_skip _ _ _ _ _ (by decide)).trans ?_
  unfold kernelRun0_A.sl.HS0_4
  refine (View.readCov_cons_toLoadRect _ _ _ _).trans ?_
  rfl

theorem stepA_L2 (q0 : P0_0 ch t) (q1 : P0_1 ch t) :
    rdL c 2 (step0 ch m ρ c t prev).2.2.2.1 = k0_pay23 (F := Ideal) (msc ch m ρ c t 2) (iM 2) (iL 2) := by
  rw [step0_A ch m ρ c t prev q0 q1]
  unfold kernelRun0_A
  dsimp only
  have hM : kernelRun0_A.sl.v124 (crd ch t) (ms0_0 ch t) (ms0_1 ch t) (pinT_0 ch) (pinT_1 ch) (iblk ch m ρ c (0 : Fin 5) t) (iblk ch m ρ c (1 : Fin 5) t) = iM 2 := by
    unfold kernelRun0_A.sl.v124
    unfold kernelRun0_A.sl.HS0_3
    refine (View.readCov_skip _ _ _ _ _ (by decide)).trans ?_
    unfold kernelRun0_A.sl.HS0_2
    refine (View.readCov_skip _ _ _ _ _ (by decide)).trans ?_
    unfold kernelRun0_A.sl.HS0_1
    exact View.readCov_fill _ _ _ _ _ (by intro a; match a with | ⟨0, _⟩ => rfl | ⟨1, _⟩ => rfl | ⟨2, _⟩ => rfl)
  have hL : kernelRun0_A.sl.v135 (crd ch t) (ms0_0 ch t) (ms0_1 ch t) (pinT_0 ch) (pinT_1 ch) (iblk ch m ρ c (0 : Fin 5) t) (iblk ch m ρ c (1 : Fin 5) t) = iL 2 := by
    unfold kernelRun0_A.sl.v135
    unfold kernelRun0_A.sl.HS1_3
    refine (View.readCov_skip _ _ _ _ _ (by decide)).trans ?_
    unfold kernelRun0_A.sl.HS1_2
    refine (View.readCov_skip _ _ _ _ _ (by decide)).trans ?_
    unfold kernelRun0_A.sl.HS1_1
    exact View.readCov_fill _ _ _ _ _ (by intro a; match a with | ⟨0, _⟩ => rfl | ⟨1, _⟩ => rfl | ⟨2, _⟩ => rfl)
  rw [← hM, ← hL]
  unfold rdL
  unfold kernelRun0_A.sl.HS1_5
  refine (View.readCov_skip _ _ _ _ _ (by decide)).trans ?_
  unfold kernelRun0_A.sl.HS1_4
  refine (View.readCov_cons_toLoadRect _ _ _ _).trans ?_
  rfl

theorem stepA_A2 (q0 : P0_0 ch t) (q1 : P0_1 ch t) :
    rdA c 2 (step0 ch m ρ c t prev).2.2.2.2 = k0_pay24 (F := Ideal) (msc ch m ρ c t 2) (iM 2) (iA 2) (vs ch m ρ c t 2) := by
  rw [step0_A ch m ρ c t prev q0 q1]
  unfold kernelRun0_A
  dsimp only
  have hM : kernelRun0_A.sl.v124 (crd ch t) (ms0_0 ch t) (ms0_1 ch t) (pinT_0 ch) (pinT_1 ch) (iblk ch m ρ c (0 : Fin 5) t) (iblk ch m ρ c (1 : Fin 5) t) = iM 2 := by
    unfold kernelRun0_A.sl.v124
    unfold kernelRun0_A.sl.HS0_3
    refine (View.readCov_skip _ _ _ _ _ (by decide)).trans ?_
    unfold kernelRun0_A.sl.HS0_2
    refine (View.readCov_skip _ _ _ _ _ (by decide)).trans ?_
    unfold kernelRun0_A.sl.HS0_1
    exact View.readCov_fill _ _ _ _ _ (by intro a; match a with | ⟨0, _⟩ => rfl | ⟨1, _⟩ => rfl | ⟨2, _⟩ => rfl)
  have hA : kernelRun0_A.sl.v145 (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t) = iA 2 := by
    unfold kernelRun0_A.sl.v145
    unfold kernelRun0_A.sl.HS2_3
    refine (View.readCov_skip _ _ _ _ _ (by decide)).trans ?_
    unfold kernelRun0_A.sl.HS2_2
    refine (View.readCov_skip _ _ _ _ _ (by decide)).trans ?_
    unfold kernelRun0_A.sl.HS2_1
    exact View.readCov_fill _ _ _ _ _ (by intro a; match a with | ⟨0, _⟩ => rfl | ⟨1, _⟩ => rfl | ⟨2, _⟩ => rfl)
  rw [← hM, ← hA]
  unfold rdA
  unfold kernelRun0_A.sl.HS2_5
  refine (View.readCov_skip _ _ _ _ _ (by decide)).trans ?_
  unfold kernelRun0_A.sl.HS2_4
  refine (View.readCov_cons_toLoadRect _ _ _ _).trans ?_
  rfl

theorem stepA_o32 (q0 : P0_0 ch t) (q1 : P0_1 ch t) :
    (fun y => (step0 ch m ρ c t prev).1 ((rv 2).toLoadRect.idx y)) = k0_pay10 (F := Ideal) (rdL c 2 (step0 ch m ρ c t prev).2.2.2.1) (rdA c 2 (step0 ch m ρ c t prev).2.2.2.2) := by
  rw [step0_A ch m ρ c t prev q0 q1]
  unfold out0_A_3 kernelRun0_A
  dsimp only
  change View.readCov VO0_3 (kernelRun0_A.sl.HO3_4 (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t)) (rv 2).toLoadRect = _
  unfold kernelRun0_A.sl.HO3_4
  refine (View.readCov_skip _ _ _ _ _ (by decide)).trans ?_
  refine (View.readCov_cons_toLoadRect _ _ _ _).trans ?_
  rfl

theorem stepA_o42 (q0 : P0_0 ch t) (q1 : P0_1 ch t) :
    (fun y => (step0 ch m ρ c t prev).2.1 ((rv 2).toLoadRect.idx y)) = k0_pay11 (F := Ideal) (rdL c 2 (step0 ch m ρ c t prev).2.2.2.1) (rdM c 2 (step0 ch m ρ c t prev).2.2.1) := by
  rw [step0_A ch m ρ c t prev q0 q1]
  unfold out0_A_4 kernelRun0_A
  dsimp only
  change View.readCov VO0_4 (kernelRun0_A.sl.HO4_4 (crd ch t) (ms0_0 ch t) (ms0_1 ch t) (pinT_0 ch) (pinT_1 ch) (iblk ch m ρ c (0 : Fin 5) t) (iblk ch m ρ c (1 : Fin 5) t)) (rv 2).toLoadRect = _
  unfold kernelRun0_A.sl.HO4_4
  refine (View.readCov_skip _ _ _ _ _ (by decide)).trans ?_
  refine (View.readCov_cons_toLoadRect _ _ _ _).trans ?_
  rfl

theorem stepA_M3 (q0 : P0_0 ch t) (q1 : P0_1 ch t) :
    rdM c 3 (step0 ch m ρ c t prev).2.2.1 = k0_pay25 (F := Ideal) (msc ch m ρ c t 3) (iM 3) := by
  rw [step0_A ch m ρ c t prev q0 q1]
  unfold kernelRun0_A
  dsimp only
  have hM : kernelRun0_A.sl.v158 (crd ch t) (ms0_0 ch t) (ms0_1 ch t) (pinT_0 ch) (pinT_1 ch) (iblk ch m ρ c (0 : Fin 5) t) (iblk ch m ρ c (1 : Fin 5) t) = iM 3 := by
    unfold kernelRun0_A.sl.v158
    unfold kernelRun0_A.sl.HS0_4
    refine (View.readCov_skip _ _ _ _ _ (by decide)).trans ?_
    unfold kernelRun0_A.sl.HS0_3
    refine (View.readCov_skip _ _ _ _ _ (by decide)).trans ?_
    unfold kernelRun0_A.sl.HS0_2
    refine (View.readCov_skip _ _ _ _ _ (by decide)).trans ?_
    unfold kernelRun0_A.sl.HS0_1
    exact View.readCov_fill _ _ _ _ _ (by intro a; match a with | ⟨0, _⟩ => rfl | ⟨1, _⟩ => rfl | ⟨2, _⟩ => rfl)
  rw [← hM]
  unfold rdM
  unfold kernelRun0_A.sl.HS0_5
  refine (View.readCov_cons_toLoadRect _ _ _ _).trans ?_
  rfl

theorem stepA_L3 (q0 : P0_0 ch t) (q1 : P0_1 ch t) :
    rdL c 3 (step0 ch m ρ c t prev).2.2.2.1 = k0_pay23 (F := Ideal) (msc ch m ρ c t 3) (iM 3) (iL 3) := by
  rw [step0_A ch m ρ c t prev q0 q1]
  unfold kernelRun0_A
  dsimp only
  have hM : kernelRun0_A.sl.v158 (crd ch t) (ms0_0 ch t) (ms0_1 ch t) (pinT_0 ch) (pinT_1 ch) (iblk ch m ρ c (0 : Fin 5) t) (iblk ch m ρ c (1 : Fin 5) t) = iM 3 := by
    unfold kernelRun0_A.sl.v158
    unfold kernelRun0_A.sl.HS0_4
    refine (View.readCov_skip _ _ _ _ _ (by decide)).trans ?_
    unfold kernelRun0_A.sl.HS0_3
    refine (View.readCov_skip _ _ _ _ _ (by decide)).trans ?_
    unfold kernelRun0_A.sl.HS0_2
    refine (View.readCov_skip _ _ _ _ _ (by decide)).trans ?_
    unfold kernelRun0_A.sl.HS0_1
    exact View.readCov_fill _ _ _ _ _ (by intro a; match a with | ⟨0, _⟩ => rfl | ⟨1, _⟩ => rfl | ⟨2, _⟩ => rfl)
  have hL : kernelRun0_A.sl.v169 (crd ch t) (ms0_0 ch t) (ms0_1 ch t) (pinT_0 ch) (pinT_1 ch) (iblk ch m ρ c (0 : Fin 5) t) (iblk ch m ρ c (1 : Fin 5) t) = iL 3 := by
    unfold kernelRun0_A.sl.v169
    unfold kernelRun0_A.sl.HS1_4
    refine (View.readCov_skip _ _ _ _ _ (by decide)).trans ?_
    unfold kernelRun0_A.sl.HS1_3
    refine (View.readCov_skip _ _ _ _ _ (by decide)).trans ?_
    unfold kernelRun0_A.sl.HS1_2
    refine (View.readCov_skip _ _ _ _ _ (by decide)).trans ?_
    unfold kernelRun0_A.sl.HS1_1
    exact View.readCov_fill _ _ _ _ _ (by intro a; match a with | ⟨0, _⟩ => rfl | ⟨1, _⟩ => rfl | ⟨2, _⟩ => rfl)
  rw [← hM, ← hL]
  unfold rdL
  unfold kernelRun0_A.sl.HS1_5
  refine (View.readCov_cons_toLoadRect _ _ _ _).trans ?_
  rfl

theorem stepA_A3 (q0 : P0_0 ch t) (q1 : P0_1 ch t) :
    rdA c 3 (step0 ch m ρ c t prev).2.2.2.2 = k0_pay24 (F := Ideal) (msc ch m ρ c t 3) (iM 3) (iA 3) (vs ch m ρ c t 3) := by
  rw [step0_A ch m ρ c t prev q0 q1]
  unfold kernelRun0_A
  dsimp only
  have hM : kernelRun0_A.sl.v158 (crd ch t) (ms0_0 ch t) (ms0_1 ch t) (pinT_0 ch) (pinT_1 ch) (iblk ch m ρ c (0 : Fin 5) t) (iblk ch m ρ c (1 : Fin 5) t) = iM 3 := by
    unfold kernelRun0_A.sl.v158
    unfold kernelRun0_A.sl.HS0_4
    refine (View.readCov_skip _ _ _ _ _ (by decide)).trans ?_
    unfold kernelRun0_A.sl.HS0_3
    refine (View.readCov_skip _ _ _ _ _ (by decide)).trans ?_
    unfold kernelRun0_A.sl.HS0_2
    refine (View.readCov_skip _ _ _ _ _ (by decide)).trans ?_
    unfold kernelRun0_A.sl.HS0_1
    exact View.readCov_fill _ _ _ _ _ (by intro a; match a with | ⟨0, _⟩ => rfl | ⟨1, _⟩ => rfl | ⟨2, _⟩ => rfl)
  have hA : kernelRun0_A.sl.v179 (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t) = iA 3 := by
    unfold kernelRun0_A.sl.v179
    unfold kernelRun0_A.sl.HS2_4
    refine (View.readCov_skip _ _ _ _ _ (by decide)).trans ?_
    unfold kernelRun0_A.sl.HS2_3
    refine (View.readCov_skip _ _ _ _ _ (by decide)).trans ?_
    unfold kernelRun0_A.sl.HS2_2
    refine (View.readCov_skip _ _ _ _ _ (by decide)).trans ?_
    unfold kernelRun0_A.sl.HS2_1
    exact View.readCov_fill _ _ _ _ _ (by intro a; match a with | ⟨0, _⟩ => rfl | ⟨1, _⟩ => rfl | ⟨2, _⟩ => rfl)
  rw [← hM, ← hA]
  unfold rdA
  unfold kernelRun0_A.sl.HS2_5
  refine (View.readCov_cons_toLoadRect _ _ _ _).trans ?_
  rfl

theorem stepA_o33 (q0 : P0_0 ch t) (q1 : P0_1 ch t) :
    (fun y => (step0 ch m ρ c t prev).1 ((rv 3).toLoadRect.idx y)) = k0_pay10 (F := Ideal) (rdL c 3 (step0 ch m ρ c t prev).2.2.2.1) (rdA c 3 (step0 ch m ρ c t prev).2.2.2.2) := by
  rw [step0_A ch m ρ c t prev q0 q1]
  unfold out0_A_3 kernelRun0_A
  dsimp only
  change View.readCov VO0_3 (kernelRun0_A.sl.HO3_4 (crd ch t) (ms0_0 ch t) (ms0_1 ch t) (ms0_2 ch t) (pinT_0 ch) (pinT_1 ch) (iblk ch m ρ c (0 : Fin 5) t) (iblk ch m ρ c (1 : Fin 5) t) (iblk ch m ρ c (2 : Fin 5) t)) (rv 3).toLoadRect = _
  unfold kernelRun0_A.sl.HO3_4
  refine (View.readCov_cons_toLoadRect _ _ _ _).trans ?_
  rfl

theorem stepA_o43 (q0 : P0_0 ch t) (q1 : P0_1 ch t) :
    (fun y => (step0 ch m ρ c t prev).2.1 ((rv 3).toLoadRect.idx y)) = k0_pay11 (F := Ideal) (rdL c 3 (step0 ch m ρ c t prev).2.2.2.1) (rdM c 3 (step0 ch m ρ c t prev).2.2.1) := by
  rw [step0_A ch m ρ c t prev q0 q1]
  unfold out0_A_4 kernelRun0_A
  dsimp only
  change View.readCov VO0_4 (kernelRun0_A.sl.HO4_4 (crd ch t) (ms0_0 ch t) (ms0_1 ch t) (pinT_0 ch) (pinT_1 ch) (iblk ch m ρ c (0 : Fin 5) t) (iblk ch m ρ c (1 : Fin 5) t)) (rv 3).toLoadRect = _
  unfold kernelRun0_A.sl.HO4_4
  refine (View.readCov_cons_toLoadRect _ _ _ _).trans ?_
  rfl

end Cert.AttnIdeal.Attn
end
end
-- ==== Proof.Attn.Ctrl.lean ====
module

public import proofs.«01_k».proof.Proof.Attn.Point

set_option maxRecDepth 16384
set_option Elab.async false

/-! # The points of the grid: which blocks a point reads, and which of the kernel's branches it takes -/

@[expose] public section
noncomputable section

open Idealize.ShloMosaic hiding ix1 ix2 ix3 ix4
open Idealize.ShloMosaic.TcCoe Idealize.ShloMosaic.ValueIdx

namespace Cert.AttnIdeal.Attn
open Cert.AttnIdeal Cert.AttnIdeal.Gen

/-- The one schedule. -/
abbrev z : Fin 1 := ⟨0, by omega⟩

/-- The number of the point's query block, and of its key block. -/
def qn (t : Fin (cfgA z).N) : ℕ := (wq z t).toNat
def kn (t : Fin (cfgA z).N) : ℕ := (wk z t).toNat

/-- The blocks of a point's five windows, and its branches. -/
abbrev CtrlAt (t : Fin (cfgA z).N) : Prop :=
  ((cfgA z).win (0 : Fin 5)).index t = ![qn t, t.val / 91] ∧ ((cfgA z).win (1 : Fin 5)).index t = ![kn t, t.val / 91]
  ∧ ((cfgA z).win (2 : Fin 5)).index t = ![kn t, t.val / 91] ∧ ((cfgA z).win (3 : Fin 5)).index t = ![qn t, t.val / 91]
  ∧ ((cfgA z).win (4 : Fin 5)).index t = ![qn t, t.val / 91]
  ∧ kn t ≤ qn t ∧ qn t < 13
  ∧ (P0_0 z t ↔ kn t = 0) ∧ (kn t = 0 → (P0_1 z t ↔ kn t = qn t)) ∧ (kn t ≠ 0 → (P0_2 z t ↔ kn t = qn t))

set_option maxHeartbeats 4000000 in
theorem ctrl : ∀ t : Fin (cfgA z).N, CtrlAt t := by decide +kernel

/-- A point whose key block is not the first follows the point with the same queries and the key block before. -/
abbrev PrevAt (t : Fin (cfgA z).N) : Prop :=
  kn t ≠ 0 → ∃ h : 0 < t.val, qn ⟨t.val - 1, by omega⟩ = qn t ∧ kn ⟨t.val - 1, by omega⟩ + 1 = kn t ∧ (t.val - 1) / 91 = t.val / 91

set_option maxHeartbeats 4000000 in
theorem prev_ctrl : ∀ t : Fin (cfgA z).N, PrevAt t := by decide +kernel

end Cert.AttnIdeal.Attn
end
end
-- ==== Proof.Attn.Scores.lean ====
module

public import proofs.«01_k».proof.Proof.Attn.Ctrl
public import proofs.«01_k».proof.Proof.Attn.Spec
public import Idealize.ShloMosaic.Lib.WordCmp

set_option maxRecDepth 16384

/-! # The scores of a point, in terms of the whole arrays -/

@[expose] public section
noncomputable section

open Idealize.ShloMosaic hiding ix1 ix2 ix3 ix4
open Idealize.ShloMosaic.TcCoe Idealize.ShloMosaic.ValueIdx

namespace Cert.AttnIdeal.Attn
open Cert.AttnIdeal Cert.AttnIdeal.Gen

theorem mask_word (a b d : Prop) [Decidable a] [Decidable b] [Decidable d] [Decidable (a ∧ (b ∨ d))] :
    IntOp.andi (BitVec.ofBool (decide a)) (IntOp.ori (BitVec.ofBool (decide b)) (BitVec.ofBool (decide d))) = if a ∧ (b ∨ d) then 1#1 else 0#1 := by
  by_cases ha : a <;> by_cases hb : b <;> by_cases hd : d <;> simp [ha, hb, hd, IntOp.andi, IntOp.ori]

/-- The mask of a point. -/
theorem mask_at (w1 w3 : BitVec 32) (h1 : w1.toNat < 13) (h3 : w3.toNat < 13) (r j : Fin 640) :
    k0_pay13 (F := Ideal) w1 w3 (ix2 r j) = if _root_.Attn.Keep (640 * w1.toNat + r.val) (640 * w3.toNat + j.val) then 1#1 else 0#1 := by
  have e1 : ∀ (w : BitVec 32) (a : Fin 640), w.toNat < 13 → IntOp.addi (IntOp.muli w 640#32) (BitVec.ofNat 32 a.val) = BitVec.ofNat 32 (640 * w.toNat + a.val) := by
    intro w a h
    have := a.isLt
    refine BitVec.eq_of_toNat_eq ?_
    show ((w * 640#32) + BitVec.ofNat 32 a.val).toNat = _
    simp only [BitVec.toNat_add, BitVec.toNat_mul, BitVec.toNat_ofNat]
    omega
  have hr := r.isLt
  have hj := j.isLt
  have e : k0_pay13 (F := Ideal) w1 w3 (ix2 r j) = IntOp.andi (IntOp.cmpi .sle (IntOp.addi (IntOp.muli w3 640#32) (BitVec.ofNat 32 j.val)) (IntOp.addi (IntOp.muli w1 640#32) (BitVec.ofNat 32 r.val)))
      (IntOp.ori (IntOp.cmpi .sge (IntOp.addi (IntOp.muli w3 640#32) (BitVec.ofNat 32 j.val)) 112#32) (IntOp.cmpi .eq (IntOp.addi (IntOp.muli w3 640#32) (BitVec.ofNat 32 j.val)) (IntOp.addi (IntOp.muli w1 640#32) (BitVec.ofNat 32 r.val)))) := by
    pointwise [k0_pay13]
    rfl
  rw [e, e1 w1 r h1, e1 w3 j h3]
  generalize hR : 640 * w1.toNat + r.val = R
  generalize hN : 640 * w3.toNat + j.val = N
  have bR : R < 8320 := by omega
  have bN : N < 8320 := by omega
  have c1 : IntOp.cmpi .sle (BitVec.ofNat 32 N) (BitVec.ofNat 32 R) = BitVec.ofBool (decide (N ≤ R)) := WordCmp.cmpi_sle_ofNat (by omega) (by omega)
  have c2 : IntOp.cmpi .sge (BitVec.ofNat 32 N) 112#32 = BitVec.ofBool (decide (112 ≤ N)) := WordCmp.cmpi_sge_ofNat (by omega) (by omega)
  have c3 : IntOp.cmpi .eq (BitVec.ofNat 32 N) (BitVec.ofNat 32 R) = BitVec.ofBool (decide (N = R)) := WordCmp.cmpi_eq_ofNat (by omega) (by omega)
  rw [c1, c2, c3]
  exact mask_word (N ≤ R) (112 ≤ N) (N = R)

theorem named_mask (x : BitVec 32) : (Named.named κ "mask" x : Ideal .f32) = (⊥ : EReal) := rfl

variable (m : (ℓ : Loc nD τ sig) → Buf (Elt Ideal) ℓ) (ρ : Dev nD → PrngReg) (c : Dev nD) (t : Fin (cfgA z).N)

/-- The arrays the program is given. -/
def qa (i : Fin 8320) (j : Fin 4096) : EReal := (m ((c : Thread nD τ).loc main_arg2) : S8320x4096.Idx → EReal) (ix2 i j)
def ka (i : Fin 8320) (j : Fin 4096) : EReal := (m ((c : Thread nD τ).loc main_arg3) : S8320x4096.Idx → EReal) (ix2 i j)
def va (i : Fin 8320) (j : Fin 2048) : EReal := (m ((c : Thread nD τ).loc main_arg4) : S8320x2048.Idx → EReal) (ix2 i j)

theorem t_lt : t.val / 91 < 4 := by have : t.val < 364 := t.isLt; omega
theorem qn_lt : qn t < 13 := (ctrl t).2.2.2.2.2.2.1
theorem kn_le : kn t ≤ qn t := (ctrl t).2.2.2.2.2.1
theorem row_lt (r : Fin 640) : 640 * qn t + r.val < 8320 := by have := qn_lt t; have := r.isLt; omega
theorem key_lt (r : Fin 640) : 640 * kn t + r.val < 8320 := by have := qn_lt t; have := kn_le t; have := r.isLt; omega

/-- A row of the point's queries, as a row of the array; a head of the point, as a head of the array. -/
def grow (r : Fin 640) : Fin 8320 := ⟨640 * qn t + r.val, row_lt t r⟩
def ghead (hh : Fin 4) : Fin 16 := ⟨4 * (t.val / 91) + hh.val, by have := t_lt t; have := hh.isLt; omega⟩

theorem q_at (hh : Fin 4) (r : Fin 640) (d : Fin 256) :
    (qs z m ρ c t hh (ix2 r d) : EReal) = qa m c (grow t r) (_root_.Attn.col 256 (ghead t hh).val (ghead t hh).isLt d) := by
  unfold qs
  rw [View.readAt_rep]
  unfold iblk
  refine congrArg (m ((c : Thread nD τ).loc main_arg2) : S8320x4096.Idx → EReal) ?_
  funext a
  match a with
  | ⟨0, _⟩ =>
    refine Fin.ext ?_
    have e0 : ((cfgA z).win (0 : Fin 5)).index t (0 : Fin 2) = qn t := congrFun (ctrl t).1 0
    show ((cfgA z).win (0 : Fin 5)).index t (0 : Fin 2) * 640 + 1 * (0 + 1 * r.val) = 640 * qn t + r.val
    rw [e0]; omega
  | ⟨1, _⟩ =>
    refine Fin.ext ?_
    have e0 : ((cfgA z).win (0 : Fin 5)).index t (1 : Fin 2) = t.val / 91 := congrFun (ctrl t).1 1
    show ((cfgA z).win (0 : Fin 5)).index t (1 : Fin 2) * 1024 + 1 * (256 * hh.val + 1 * d.val) = 256 * (4 * (t.val / 91) + hh.val) + d.val
    rw [e0]; omega

theorem k_at (hh : Fin 4) (r : Fin 640) (d : Fin 256) :
    (ks z m ρ c t hh (ix2 r d) : EReal) = ka m c ⟨640 * kn t + r.val, key_lt t r⟩ (_root_.Attn.col 256 (ghead t hh).val (ghead t hh).isLt d) := by
  unfold ks
  rw [View.readAt_rep]
  unfold iblk
  refine congrArg (m ((c : Thread nD τ).loc main_arg3) : S8320x4096.Idx → EReal) ?_
  funext a
  match a with
  | ⟨0, _⟩ =>
    refine Fin.ext ?_
    have e0 : ((cfgA z).win (1 : Fin 5)).index t (0 : Fin 2) = kn t := congrFun (ctrl t).2.1 0
    show ((cfgA z).win (1 : Fin 5)).index t (0 : Fin 2) * 640 + 1 * (0 + 1 * r.val) = 640 * kn t + r.val
    rw [e0]; omega
  | ⟨1, _⟩ =>
    refine Fin.ext ?_
    have e0 : ((cfgA z).win (1 : Fin 5)).index t (1 : Fin 2) = t.val / 91 := congrFun (ctrl t).2.1 1
    show ((cfgA z).win (1 : Fin 5)).index t (1 : Fin 2) * 1024 + 1 * (256 * hh.val + 1 * d.val) = 256 * (4 * (t.val / 91) + hh.val) + d.val
    rw [e0]; omega

theorem v_at (hh : Fin 4) (r : Fin 640) (d : Fin 128) :
    (vs z m ρ c t hh (ix2 r d) : EReal) = va m c ⟨640 * kn t + r.val, key_lt t r⟩ (_root_.Attn.col 128 (ghead t hh).val (ghead t hh).isLt d) := by
  unfold vs
  rw [View.readAt_rep]
  unfold iblk
  refine congrArg (m ((c : Thread nD τ).loc main_arg4) : S8320x2048.Idx → EReal) ?_
  funext a
  match a with
  | ⟨0, _⟩ =>
    refine Fin.ext ?_
    have e0 : ((cfgA z).win (2 : Fin 5)).index t (0 : Fin 2) = kn t := congrFun (ctrl t).2.2.1 0
    show ((cfgA z).win (2 : Fin 5)).index t (0 : Fin 2) * 640 + 1 * (0 + 1 * r.val) = 640 * kn t + r.val
    rw [e0]; omega
  | ⟨1, _⟩ =>
    refine Fin.ext ?_
    have e0 : ((cfgA z).win (2 : Fin 5)).index t (1 : Fin 2) = t.val / 91 := congrFun (ctrl t).2.2.1 1
    show ((cfgA z).win (2 : Fin 5)).index t (1 : Fin 2) * 512 + 1 * (128 * hh.val + 1 * d.val) = 128 * (4 * (t.val / 91) + hh.val) + d.val
    rw [e0]; omega

theorem sc_dot (hh : Fin 4) (r j : Fin 640) :
    (sc z m ρ c t hh (ix2 r j) : EReal) = _root_.Attn.dot (qa m c) (ka m c) (grow t r) (ghead t hh) ⟨640 * kn t + j.val, key_lt t j⟩ := by
  unfold sc
  rw [score_at]
  exact Finset.sum_congr rfl fun d _ => congrArg₂ (HMul.hMul (α := EReal)) (q_at m ρ c t hh r d) (k_at m ρ c t hh j d)

/-- The scores of one head of the point, by key. -/
abbrev S (hh : Fin 4) (r : Fin 640) : ℕ → EReal := _root_.Attn.score (qa m c) (ka m c) (grow t r) (ghead t hh)
abbrev V (hh : Fin 4) (d : Fin 128) : ℕ → EReal := _root_.Attn.value (va m c) (ghead t hh) d

theorem msc_S (hh : Fin 4) (r j : Fin 640) : (msc z m ρ c t hh (ix2 r j) : EReal) = S m c t hh r (640 * kn t + j.val) := by
  have e : (msc z m ρ c t hh (ix2 r j) : EReal) = Scalar.select (k0_pay13 (F := Ideal) (wq z t) (wk z t) (ix2 r j)) (sc z m ρ c t hh (ix2 r j)) (⊥ : EReal) := rfl
  have hk : (wk z t).toNat < 13 := lt_of_le_of_lt (kn_le t) (qn_lt t)
  rw [e, mask_at _ _ (qn_lt t) hk, sc_dot, S, _root_.Attn.score_of_lt _ _ (key_lt t j)]
  by_cases h : _root_.Attn.Keep (640 * (wq z t).toNat + r.val) (640 * (wk z t).toNat + j.val)
  · rw [if_pos h, if_pos (show _root_.Attn.Keep (grow t r).val (640 * kn t + j.val) from h)]; rfl
  · rw [if_neg h, if_neg (show ¬ _root_.Attn.Keep (grow t r).val (640 * kn t + j.val) from h)]; rfl

/-- Between the first key block and the last, every key is seen. -/
theorem sc_S (h0 : kn t ≠ 0) (h1 : kn t ≠ qn t) (hh : Fin 4) (r j : Fin 640) : (sc z m ρ c t hh (ix2 r j) : EReal) = S m c t hh r (640 * kn t + j.val) := by
  rw [sc_dot, S, _root_.Attn.score_of_lt _ _ (key_lt t j), if_pos]
  have := kn_le t
  have := j.isLt
  refine ⟨?_, Or.inl (by omega)⟩
  show 640 * kn t + j.val ≤ 640 * qn t + r.val
  omega

theorem vs_V (hh : Fin 4) (r : Fin 640) (d : Fin 128) : (vs z m ρ c t hh (ix2 r d) : EReal) = V m c t hh d (640 * kn t + r.val) := by
  rw [v_at, V, _root_.Attn.value_of_lt _ (key_lt t r)]

end Cert.AttnIdeal.Attn
end
end
-- ==== Proof.Attn.Traj.lean ====
module

public import proofs.«01_k».proof.Proof.Attn.Steps
public import proofs.«01_k».proof.Proof.Attn.Scores

set_option maxRecDepth 16384

/-! # What the scratch buffers hold after every point, and the blocks written at the last key block of a row -/

@[expose] public section
noncomputable section

open Idealize.ShloMosaic hiding ix1 ix2 ix3 ix4
open Idealize.ShloMosaic.TcCoe Idealize.ShloMosaic.ValueIdx

namespace Cert.AttnIdeal.Attn
open Cert.AttnIdeal Cert.AttnIdeal.Gen

theorem iM_at (hh : Fin 4) (u : Fin 1) (r : Fin 640) (j : Fin 128) : (iM hh (ix3 u r j) : EReal) = ⊥ := rfl
theorem zero_f32 : (FloatOps.ofBits .f32 0x00000000#32 : Ideal .f32) = (0 : EReal) := by show Ideal.ofBits .f32 0x00000000#32 = 0; simp [Ideal.ofBits, Ideal.ieee]
theorem iL_at (hh : Fin 4) (u : Fin 1) (r : Fin 640) (j : Fin 128) : (iL hh (ix3 u r j) : EReal) = 0 := zero_f32
theorem iA_at (hh : Fin 4) (u : Fin 1) (r : Fin 640) (j : Fin 128) : (iA hh (ix3 u r j) : EReal) = 0 := zero_f32

theorem out_at (l a : Vec Ideal S1x640x128 .f32) (r : Fin 640) (j : Fin 128) :
    (k0_pay10 (F := Ideal) l a (ix2 r j) : EReal) = Ideal.div (a (ix3 (0 : Fin 1) r j)) (l (ix3 (0 : Fin 1) r j)) :=
  congrArg₂ Ideal.div (drop_at a r j) (drop_at l r j)

theorem lse_at (l x : Vec Ideal S1x640x128 .f32) (r : Fin 640) (j : Fin 128) :
    (k0_pay11 (F := Ideal) l x (ix2 r j) : EReal) = (x (ix3 (0 : Fin 1) r j) : EReal) + Ideal.log (l (ix3 (0 : Fin 1) r j)) :=
  congrArg₂ (fun a b : EReal => a + Ideal.log b) (drop_at x r j) (drop_at l r j)

variable (m : (ℓ : Loc nD τ sig) → Buf (Elt Ideal) ℓ) (ρ : Dev nD → PrngReg) (c : Dev nD) (t : Fin (cfgA z).N)

/-- The buffers hold the maximum, the sum and the weighted sum over the first `n` keys. -/
def Holds (n : ℕ) (hh : Fin 4) (xm xl xa : Vec Ideal S1x640x128 .f32) : Prop :=
  ∀ (u : Fin 1) (r : Fin 640) (j : Fin 128), (xm (ix3 u r j) : EReal) = _root_.Attn.mx (S m c t hh r) n
    ∧ (xl (ix3 u r j) : EReal) = _root_.Attn.den (S m c t hh r) n ∧ (xa (ix3 u r j) : EReal) = _root_.Attn.num (S m c t hh r) (V m c t hh j) n

theorem holds_init (hh : Fin 4) : Holds m c t 0 hh (iM hh) (iL hh) (iA hh) := fun u r j => ⟨iM_at hh u r j, iL_at hh u r j, iA_at hh u r j⟩

/-- A block of scores, added. -/
theorem holds_next (hh : Fin 4) (s : FVec Ideal S640x640 .f32) (hs : ∀ r k : Fin 640, (s (ix2 r k) : EReal) = S m c t hh r (640 * kn t + k.val))
    (xm xl xa : Vec Ideal S1x640x128 .f32) (hx : Holds m c t (640 * kn t) hh xm xl xa) :
    Holds m c t (640 * kn t + 640) hh (k0_pay25 (F := Ideal) s xm) (k0_pay23 (F := Ideal) s xm xl) (k0_pay24 (F := Ideal) s xm xa (vs z m ρ c t hh)) := by
  intro u r j
  have hm : ∀ j, (xm (ix3 (0 : Fin 1) r j) : EReal) = _root_.Attn.mx (S m c t hh r) (640 * kn t) := fun j => (hx 0 r j).1
  refine ⟨?_, ?_, ?_⟩
  · exact (add_at _ u r j).trans (newM_mx s xm _ _ r j (hs r) hm)
  · exact newL_den s xm xl _ _ r j (hs r) hm (hx 0 r j).2.1 u
  · exact newA_num s xm xa (vs z m ρ c t hh) _ _ _ r j (hs r) hm (hx 0 r j).2.2 (fun k => vs_V m ρ c t hh k j) u

variable (prev : (S640x512.Idx → Elt Ideal .bf16) × (S640x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2))

/-- The three buffers' heads, of a state. -/
abbrev At (n : ℕ) (hh : Fin 4) (st : (S640x512.Idx → Elt Ideal .bf16) × (S640x512.Idx → Elt Ideal .f32) × Buf (Elt Ideal) ((c : Thread nD τ).loc cc0_scratch0) × Buf (Elt Ideal) ((c : Thread nD τ).loc cc0_scratch1) × Buf (Elt Ideal) ((c : Thread nD τ).loc cc0_scratch2)) : Prop :=
  Holds m c t n hh (rdM c hh st.2.2.1) (rdL c hh st.2.2.2.1) (rdA c hh st.2.2.2.2)

theorem at_A (q0 : P0_0 z t) (q1 : P0_1 z t) (hk : kn t = 0) : ∀ hh : Fin 4, At m c t (640 * kn t + 640) hh (step0 z m ρ c t prev) := by
  have key := fun hh : Fin 4 => holds_next m ρ c t hh (msc z m ρ c t hh) (fun r k => msc_S m ρ c t hh r k) (iM hh) (iL hh) (iA hh) (by rw [hk]; exact holds_init m c t hh)
  intro hh
  match hh with
  | 0 => unfold At; rw [stepA_M0 z m ρ c t prev q0 q1, stepA_L0 z m ρ c t prev q0 q1, stepA_A0 z m ρ c t prev q0 q1]; exact key 0
  | 1 => unfold At; rw [stepA_M1 z m ρ c t prev q0 q1, stepA_L1 z m ρ c t prev q0 q1, stepA_A1 z m ρ c t prev q0 q1]; exact key 1
  | 2 => unfold At; rw [stepA_M2 z m ρ c t prev q0 q1, stepA_L2 z m ρ c t prev q0 q1, stepA_A2 z m ρ c t prev q0 q1]; exact key 2
  | 3 => unfold At; rw [stepA_M3 z m ρ c t prev q0 q1, stepA_L3 z m ρ c t prev q0 q1, stepA_A3 z m ρ c t prev q0 q1]; exact key 3

theorem at_B (q0 : P0_0 z t) (q1 : ¬P0_1 z t) (hk : kn t = 0) : ∀ hh : Fin 4, At m c t (640 * kn t + 640) hh (step0 z m ρ c t prev) := by
  have key := fun hh : Fin 4 => holds_next m ρ c t hh (msc z m ρ c t hh) (fun r k => msc_S m ρ c t hh r k) (iM hh) (iL hh) (iA hh) (by rw [hk]; exact holds_init m c t hh)
  intro hh
  match hh with
  | 0 => unfold At; rw [stepB_M0 z m ρ c t prev q0 q1, stepB_L0 z m ρ c t prev q0 q1, stepB_A0 z m ρ c t prev q0 q1]; exact key 0
  | 1 => unfold At; rw [stepB_M1 z m ρ c t prev q0 q1, stepB_L1 z m ρ c t prev q0 q1, stepB_A1 z m ρ c t prev q0 q1]; exact key 1
  | 2 => unfold At; rw [stepB_M2 z m ρ c t prev q0 q1, stepB_L2 z m ρ c t prev q0 q1, stepB_A2 z m ρ c t prev q0 q1]; exact key 2
  | 3 => unfold At; rw [stepB_M3 z m ρ c t prev q0 q1, stepB_L3 z m ρ c t prev q0 q1, stepB_A3 z m ρ c t prev q0 q1]; exact key 3

theorem at_C (q0 : ¬P0_0 z t) (q1 : P0_2 z t) (hp : ∀ hh : Fin 4, At m c t (640 * kn t) hh prev) : ∀ hh : Fin 4, At m c t (640 * kn t + 640) hh (step0 z m ρ c t prev) := by
  have key := fun hh : Fin 4 => holds_next m ρ c t hh (msc z m ρ c t hh) (fun r k => msc_S m ρ c t hh r k) _ _ _ (hp hh)
  intro hh
  match hh with
  | 0 => unfold At; rw [stepC_M0 z m ρ c t prev q0 q1, stepC_L0 z m ρ c t prev q0 q1, stepC_A0 z m ρ c t prev q0 q1]; exact key 0
  | 1 => unfold At; rw [stepC_M1 z m ρ c t prev q0 q1, stepC_L1 z m ρ c t prev q0 q1, stepC_A1 z m ρ c t prev q0 q1]; exact key 1
  | 2 => unfold At; rw [stepC_M2 z m ρ c t prev q0 q1, stepC_L2 z m ρ c t prev q0 q1, stepC_A2 z m ρ c t prev q0 q1]; exact key 2
  | 3 => unfold At; rw [stepC_M3 z m ρ c t prev q0 q1, stepC_L3 z m ρ c t prev q0 q1, stepC_A3 z m ρ c t prev q0 q1]; exact key 3

theorem at_D (q0 : ¬P0_0 z t) (q1 : ¬P0_2 z t) (h0 : kn t ≠ 0) (h1 : kn t ≠ qn t) (hp : ∀ hh : Fin 4, At m c t (640 * kn t) hh prev) : ∀ hh : Fin 4, At m c t (640 * kn t + 640) hh (step0 z m ρ c t prev) := by
  have key := fun hh : Fin 4 => holds_next m ρ c t hh (sc z m ρ c t hh) (fun r k => sc_S m ρ c t h0 h1 hh r k) _ _ _ (hp hh)
  intro hh
  match hh with
  | 0 => unfold At; rw [stepD_M0 z m ρ c t prev q0 q1, stepD_L0 z m ρ c t prev q0 q1, stepD_A0 z m ρ c t prev q0 q1]; exact key 0
  | 1 => unfold At; rw [stepD_M1 z m ρ c t prev q0 q1, stepD_L1 z m ρ c t prev q0 q1, stepD_A1 z m ρ c t prev q0 q1]; exact key 1
  | 2 => unfold At; rw [stepD_M2 z m ρ c t prev q0 q1, stepD_L2 z m ρ c t prev q0 q1, stepD_A2 z m ρ c t prev q0 q1]; exact key 2
  | 3 => unfold At; rw [stepD_M3 z m ρ c t prev q0 q1, stepD_L3 z m ρ c t prev q0 q1, stepD_A3 z m ρ c t prev q0 q1]; exact key 3

/-- A step at any point: the first key block starts afresh, another continues. -/
theorem at_step (hp : kn t ≠ 0 → ∀ hh : Fin 4, At m c t (640 * kn t) hh prev) : ∀ hh : Fin 4, At m c t (640 * kn t + 640) hh (step0 z m ρ c t prev) := by
  obtain ⟨-, -, -, -, -, -, -, h0, h1, h2⟩ := ctrl t
  by_cases q0 : P0_0 z t
  · by_cases q1 : P0_1 z t
    · exact at_A m ρ c t prev q0 q1 (h0.mp q0)
    · exact at_B m ρ c t prev q0 q1 (h0.mp q0)
  · have k0 : kn t ≠ 0 := fun e => q0 (h0.mpr e)
    by_cases q2 : P0_2 z t
    · exact at_C m ρ c t prev q0 q2 (hp k0)
    · exact at_D m ρ c t prev q0 q2 k0 (fun e => q2 ((h2 k0).mpr e)) (hp k0)

theorem S_congr (t t' : Fin (cfgA z).N) (hq : qn t = qn t') (hg : t.val / 91 = t'.val / 91) (hh : Fin 4) (r : Fin 640) : S m c t hh r = S m c t' hh r := by
  have e1 : grow t r = grow t' r := Fin.ext (by show 640 * qn t + r.val = 640 * qn t' + r.val; rw [hq])
  have e2 : ghead t hh = ghead t' hh := Fin.ext (by show 4 * (t.val / 91) + hh.val = 4 * (t'.val / 91) + hh.val; rw [hg])
  unfold S; rw [e1, e2]

theorem V_congr (t t' : Fin (cfgA z).N) (hg : t.val / 91 = t'.val / 91) (hh : Fin 4) (j : Fin 128) : V m c t hh j = V m c t' hh j := by
  have e2 : ghead t hh = ghead t' hh := Fin.ext (by show 4 * (t.val / 91) + hh.val = 4 * (t'.val / 91) + hh.val; rw [hg])
  unfold V; rw [e2]

theorem holds_congr (t t' : Fin (cfgA z).N) (hq : qn t = qn t') (hg : t.val / 91 = t'.val / 91) (n : ℕ) (hh : Fin 4) (xm xl xa : Vec Ideal S1x640x128 .f32)
    (h : Holds m c t n hh xm xl xa) : Holds m c t' n hh xm xl xa := by
  intro u r j
  rw [← S_congr m c t t' hq hg, ← V_congr m c t t' hg]
  exact h u r j

/-- After every point. -/
theorem at_all : ∀ (n : ℕ) (h : n < (cfgA z).N) (hh : Fin 4), At m c ⟨n, h⟩ (640 * kn ⟨n, h⟩ + 640) hh (traj0 z m ρ c n h) := by
  intro n
  induction n with
  | zero =>
    intro h
    rw [traj0_eq z m ρ c ⟨0, h⟩]
    refine at_step m ρ c ⟨0, h⟩ _ fun k0 => ?_
    obtain ⟨hp, -⟩ := prev_ctrl ⟨0, h⟩ k0
    exact absurd hp (Nat.lt_irrefl 0)
  | succ n ih =>
    intro h
    rw [traj0_eq z m ρ c ⟨n + 1, h⟩]
    refine at_step m ρ c ⟨n + 1, h⟩ _ fun k0 hh => ?_
    obtain ⟨hp, e1, e2, e3⟩ := prev_ctrl ⟨n + 1, h⟩ k0
    have hn : n < (cfgA z).N := Nat.lt_of_succ_lt h
    have ep : prev0 z m ρ c ⟨n + 1, h⟩ = traj0 z m ρ c n hn := dif_neg (Nat.succ_ne_zero n)
    have := ih hn hh
    rw [ep]
    have e : 640 * kn ⟨n + 1, h⟩ = 640 * kn ⟨n, hn⟩ + 640 := by
      have e2' : kn ⟨n, hn⟩ + 1 = kn ⟨n + 1, h⟩ := e2
      omega
    rw [e]
    exact holds_congr m c ⟨n, hn⟩ ⟨n + 1, h⟩ e1 e3 _ hh _ _ _ this

/-- Past the query no key counts. -/
theorem seen_all (hk : kn t = qn t) (hh : Fin 4) (r : Fin 640) : ∀ n, 640 * kn t + 640 ≤ n → S m c t hh r n = ⊥ := by
  intro n hn
  refine _root_.Attn.score_after _ _ ?_
  have := r.isLt
  show 640 * qn t + r.val < n
  omega

theorem end_le : ∃ b, 640 * kn t + 640 + b = 8320 := ⟨8320 - (640 * kn t + 640), by have := kn_le t; have := qn_lt t; omega⟩

theorem o3_pay (hk : kn t = qn t) (hh : Fin 4) :
    (fun y => (traj0 z m ρ c t.val t.isLt).1 ((rv hh).toLoadRect.idx y)) = k0_pay10 (F := Ideal) (rdL c hh (traj0 z m ρ c t.val t.isLt).2.2.2.1) (rdA c hh (traj0 z m ρ c t.val t.isLt).2.2.2.2) := by
  obtain ⟨-, -, -, -, -, -, -, h0, h1, h2⟩ := ctrl t
  rw [traj0_eq z m ρ c t]
  by_cases q0 : P0_0 z t
  · have q1 : P0_1 z t := (h1 (h0.mp q0)).mpr hk
    match hh with
    | 0 => exact stepA_o30 z m ρ c t _ q0 q1
    | 1 => exact stepA_o31 z m ρ c t _ q0 q1
    | 2 => exact stepA_o32 z m ρ c t _ q0 q1
    | 3 => exact stepA_o33 z m ρ c t _ q0 q1
  · have q2 : P0_2 z t := (h2 fun e => q0 (h0.mpr e)).mpr hk
    match hh with
    | 0 => exact stepC_o30 z m ρ c t _ q0 q2
    | 1 => exact stepC_o31 z m ρ c t _ q0 q2
    | 2 => exact stepC_o32 z m ρ c t _ q0 q2
    | 3 => exact stepC_o33 z m ρ c t _ q0 q2

/-- The block written at the last key block of a row of blocks. -/
theorem o3_val (hk : kn t = qn t) (hh : Fin 4) (r : Fin 640) (j : Fin 128) :
    ((traj0 z m ρ c t.val t.isLt).1 ((rv hh).toLoadRect.idx (ix2 r j)) : EReal) = _root_.Attn.out (qa m c) (ka m c) (va m c) (grow t r) (ghead t hh) j := by
  refine (congrFun (o3_pay m ρ c t hk hh) (ix2 r j)).trans ?_
  obtain ⟨e1, e2, e3⟩ := at_all m ρ c t.val t.isLt hh 0 r j
  obtain ⟨b, hb⟩ := end_le t
  have hs := seen_all m c t hk hh r
  rw [out_at]
  unfold _root_.Attn.out
  rw [← hb, _root_.Attn.den_tail hs b, _root_.Attn.num_tail hs b]
  exact congrArg₂ Ideal.div e3 e2

theorem o4_pay (hk : kn t = qn t) (hh : Fin 4) :
    (fun y => (traj0 z m ρ c t.val t.isLt).2.1 ((rv hh).toLoadRect.idx y)) = k0_pay11 (F := Ideal) (rdL c hh (traj0 z m ρ c t.val t.isLt).2.2.2.1) (rdM c hh (traj0 z m ρ c t.val t.isLt).2.2.1) := by
  obtain ⟨-, -, -, -, -, -, -, h0, h1, h2⟩ := ctrl t
  rw [traj0_eq z m ρ c t]
  by_cases q0 : P0_0 z t
  · have q1 : P0_1 z t := (h1 (h0.mp q0)).mpr hk
    match hh with
    | 0 => exact stepA_o40 z m ρ c t _ q0 q1
    | 1 => exact stepA_o41 z m ρ c t _ q0 q1
    | 2 => exact stepA_o42 z m ρ c t _ q0 q1
    | 3 => exact stepA_o43 z m ρ c t _ q0 q1
  · have q2 : P0_2 z t := (h2 fun e => q0 (h0.mpr e)).mpr hk
    match hh with
    | 0 => exact stepC_o40 z m ρ c t _ q0 q2
    | 1 => exact stepC_o41 z m ρ c t _ q0 q2
    | 2 => exact stepC_o42 z m ρ c t _ q0 q2
    | 3 => exact stepC_o43 z m ρ c t _ q0 q2

/-- The block written at the last key block of a row of blocks. -/
theorem o4_val (hk : kn t = qn t) (hh : Fin 4) (r : Fin 640) (j : Fin 128) :
    ((traj0 z m ρ c t.val t.isLt).2.1 ((rv hh).toLoadRect.idx (ix2 r j)) : EReal) = _root_.Attn.lse (qa m c) (ka m c) (grow t r) (ghead t hh) := by
  refine (congrFun (o4_pay m ρ c t hk hh) (ix2 r j)).trans ?_
  obtain ⟨e1, e2, e3⟩ := at_all m ρ c t.val t.isLt hh 0 r j
  obtain ⟨b, hb⟩ := end_le t
  have hs := seen_all m c t hk hh r
  rw [lse_at]
  unfold _root_.Attn.lse
  rw [← hb, _root_.Attn.den_tail hs b, _root_.Attn.mx_tail hs b]
  exact congrArg₂ (fun a b : EReal => a + Ideal.log b) e1 e2

end Cert.AttnIdeal.Attn
end
end
-- ==== Proof.Attn.Arrays.lean ====
module

public import proofs.«01_k».proof.Proof.Attn.Traj

set_option maxRecDepth 16384
set_option Elab.async false

/-! # The two arrays the attention leaves -/

@[expose] public section
noncomputable section

open Idealize.ShloMosaic hiding ix1 ix2 ix3 ix4
open Idealize.ShloMosaic.TcCoe Idealize.ShloMosaic.ValueIdx

namespace Cert.AttnIdeal.Attn
open Cert.AttnIdeal Cert.AttnIdeal.Gen

theorem covers3 : ((cfgA z).win (3 : Fin 5)).Covers := by decide +kernel
theorem covers4 : ((cfgA z).win (4 : Fin 5)).Covers := by decide +kernel

variable (m : (ℓ : Loc nD τ sig) → Buf (Elt Ideal) ℓ) (ρ : Dev nD → PrngReg) (c : Dev nD) (t : Fin (cfgA z).N)

/-- A block is written back at the last key block of its row only. -/
theorem last_of_flush3 (hf : ((cfgA z).win (3 : Fin 5)).flush t = true) : kn t = qn t := by
  obtain ⟨-, -, -, -, -, -, -, h0, h1, h2⟩ := ctrl t
  by_cases q0 : P0_0 z t
  · by_cases q1 : P0_1 z t
    · exact (h1 (h0.mp q0)).mp q1
    · exact absurd (hf.symm.trans (sched0_B z t q0 q1).2.1) (by decide)
  · by_cases q2 : P0_2 z t
    · exact (h2 fun e => q0 (h0.mpr e)).mp q2
    · exact absurd (hf.symm.trans (sched0_D z t q0 q2).2.1) (by decide)

theorem last_of_flush4 (hf : ((cfgA z).win (4 : Fin 5)).flush t = true) : kn t = qn t := by
  obtain ⟨-, -, -, -, -, -, -, h0, h1, h2⟩ := ctrl t
  by_cases q0 : P0_0 z t
  · by_cases q1 : P0_1 z t
    · exact (h1 (h0.mp q0)).mp q1
    · exact absurd (hf.symm.trans (sched0_B z t q0 q1).2.2.2.2.1) (by decide)
  · by_cases q2 : P0_2 z t
    · exact (h2 fun e => q0 (h0.mpr e)).mp q2
    · exact absurd (hf.symm.trans (sched0_D z t q0 q2).2.2.2.2.1) (by decide)

/-- A column of the results is a column of one head. -/
def hd (e : Fin 2048) : Fin 16 := ⟨e.val / 128, by have := e.isLt; omega⟩
def cl (e : Fin 2048) : Fin 128 := ⟨e.val % 128, Nat.mod_lt _ (by decide)⟩

def outArr : S8320x2048.Idx → EReal := fun i => _root_.Attn.out (qa m c) (ka m c) (va m c) (i 0) (hd (i 1)) (cl (i 1))
def lseArr : S8320x2048.Idx → EReal := fun i => _root_.Attn.lse (qa m c) (ka m c) (i 0) (hd (i 1))

theorem col_in (y : S640x512.Idx) : 512 * (t.val / 91) + (y 1).val < 2048 := by
  have := t_lt t
  have h : (y 1).val < 512 := (y 1).isLt
  omega

/-- The head and the lane of a column of a block. -/
def hcol (y : S640x512.Idx) : Fin 4 := ⟨(y 1).val / 128, by have h : (y 1).val < 512 := (y 1).isLt; omega⟩
def jcol (y : S640x512.Idx) : Fin 128 := ⟨(y 1).val % 128, Nat.mod_lt _ (by decide)⟩

theorem split_col (y : S640x512.Idx) : y = (rv (hcol y)).toLoadRect.idx (ix2 (y 0) (jcol y)) := by
  funext a
  match a with
  | ⟨0, _⟩ => exact Fin.ext (by show (y 0).val = 0 + 1 * (y 0).val; omega)
  | ⟨1, _⟩ => exact Fin.ext (by show (y 1).val = 128 * ((y 1).val / 128) + 1 * ((y 1).val % 128); omega)

theorem head_col (y : S640x512.Idx) : ghead t (hcol y) = hd ⟨512 * (t.val / 91) + (y 1).val, col_in t y⟩ :=
  Fin.ext (by show 4 * (t.val / 91) + (y 1).val / 128 = (512 * (t.val / 91) + (y 1).val) / 128; omega)
theorem lane_col (y : S640x512.Idx) : jcol y = cl ⟨512 * (t.val / 91) + (y 1).val, col_in t y⟩ :=
  Fin.ext (by show (y 1).val % 128 = (512 * (t.val / 91) + (y 1).val) % 128; omega)

theorem emb3 (y : S640x512.Idx) : ((((cfgA z).win (3 : Fin 5)).blk t).view.emb y : S8320x2048.Idx) = ix2 (grow t (y 0)) ⟨512 * (t.val / 91) + (y 1).val, col_in t y⟩ := by
  funext a
  match a with
  | ⟨0, _⟩ =>
    refine Fin.ext ?_
    have e0 : ((cfgA z).win (3 : Fin 5)).index t (0 : Fin 2) = qn t := congrFun (ctrl t).2.2.2.1 0
    show ((cfgA z).win (3 : Fin 5)).index t (0 : Fin 2) * 640 + 1 * (y 0).val = 640 * qn t + (y 0).val
    rw [e0]; omega
  | ⟨1, _⟩ =>
    refine Fin.ext ?_
    have e0 : ((cfgA z).win (3 : Fin 5)).index t (1 : Fin 2) = t.val / 91 := congrFun (ctrl t).2.2.2.1 1
    show ((cfgA z).win (3 : Fin 5)).index t (1 : Fin 2) * 512 + 1 * (y 1).val = 512 * (t.val / 91) + (y 1).val
    rw [e0]; omega

theorem final3 : (dats z m ρ 0 c).arrAt (3 : Fin 5) (cfgA z).N = outArr m c := by
  refine (dats z m ρ 0 c).arrAt_eq_of_covers (3 : Fin 5) _ covers3 fun t hf y => ?_
  rw [after0_3]
  have hk := last_of_flush3 t hf
  blk_simp
  refine (congrArg (traj0 z m ρ c t.val t.isLt).1 (split_col y)).trans ?_
  refine (o3_val m ρ c t hk (hcol y) (y 0) (jcol y)).trans ?_
  refine Eq.trans ?_ (congrArg (outArr m c) (emb3 t y)).symm
  unfold outArr
  rw [head_col t y]
  rw [lane_col t y]

theorem emb4 (y : S640x512.Idx) : ((((cfgA z).win (4 : Fin 5)).blk t).view.emb y : S8320x2048.Idx) = ix2 (grow t (y 0)) ⟨512 * (t.val / 91) + (y 1).val, col_in t y⟩ := by
  funext a
  match a with
  | ⟨0, _⟩ =>
    refine Fin.ext ?_
    have e0 : ((cfgA z).win (4 : Fin 5)).index t (0 : Fin 2) = qn t := congrFun (ctrl t).2.2.2.2.1 0
    show ((cfgA z).win (4 : Fin 5)).index t (0 : Fin 2) * 640 + 1 * (y 0).val = 640 * qn t + (y 0).val
    rw [e0]; omega
  | ⟨1, _⟩ =>
    refine Fin.ext ?_
    have e0 : ((cfgA z).win (4 : Fin 5)).index t (1 : Fin 2) = t.val / 91 := congrFun (ctrl t).2.2.2.2.1 1
    show ((cfgA z).win (4 : Fin 5)).index t (1 : Fin 2) * 512 + 1 * (y 1).val = 512 * (t.val / 91) + (y 1).val
    rw [e0]; omega

theorem final4 : (dats z m ρ 0 c).arrAt (4 : Fin 5) (cfgA z).N = lseArr m c := by
  refine (dats z m ρ 0 c).arrAt_eq_of_covers (4 : Fin 5) _ covers4 fun t hf y => ?_
  rw [after0_4]
  have hk := last_of_flush4 t hf
  blk_simp
  refine (congrArg (traj0 z m ρ c t.val t.isLt).2.1 (split_col y)).trans ?_
  refine (o4_val m ρ c t hk (hcol y) (y 0) (jcol y)).trans ?_
  refine Eq.trans ?_ (congrArg (lseArr m c) (emb4 t y)).symm
  unfold lseArr
  rw [head_col t y]

end Cert.AttnIdeal.Attn
end
end
-- ==== Proof.Attn.Ref.lean ====
module

public import proofs.«01_k».proof.Proof.Attn.Spec
public import proofs.«01_k».proof.Proof.Gen.AttnReferenceIdeal.Read
public import Idealize.ShloMosaic.Lib.WordCmp
public import Idealize.ShloMosaic.Lib.KernelVsHost

set_option maxRecDepth 16384

/-! # The reference program's two results are the attention's output and its log of the sum of exponentials -/

@[expose] public section
noncomputable section

open Idealize.ShloMosaic hiding ix1 ix2 ix3 ix4
open Idealize.ShloMosaic.TcCoe Idealize.ShloMosaic.ValueIdx

namespace Cert.AttnReferenceIdeal.Attn
open Cert.AttnReferenceIdeal Cert.AttnReferenceIdeal.Gen Cert.AttnReferenceIdeal.Read

theorem bot_eq : Ideal.ofBits .f32 0xFF800000#32 = (⊥ : EReal) := by simp [Ideal.ofBits, Ideal.ieee]
theorem zero_eq : Ideal.ofBits .f32 0x00000000#32 = (0 : EReal) := by simp [Ideal.ofBits, Ideal.ieee]

/-! The indices the reference reads at. -/
theorem i28 (H : Fin 16) (R n : Fin 8320) : idx_main_v28 (idx_main_v29 (ix3 H R n)) = ix2 H R := by
  funext a
  match a with
  | ⟨0, _⟩ => rfl
  | ⟨1, _⟩ => rfl
theorem i39 (H : Fin 16) (R n : Fin 8320) : idx_main_v39 (idx_main_v40 (ix3 H R n)) = ix2 H R := i28 H R n
theorem i33 (H : Fin 16) (R n : Fin 8320) : idx_main_v33 (idx_main_v34 (ix3 H R n)) = ix2 H R := i28 H R n
theorem i32 (H : Fin 16) (R n : Fin 8320) : idx_main_v32 (ix2 H R) n = ix3 H R n := by
  funext a
  match a with
  | ⟨0, _⟩ => rfl
  | ⟨1, _⟩ => rfl
  | ⟨2, _⟩ => rfl
theorem i43 (H : Fin 16) (R n : Fin 8320) : idx_main_v43 (ix2 H R) n = ix3 H R n := i32 H R n
theorem l22 (H : Fin 16) (R n : Fin 8320) (d : Fin 256) : lidx_main_v22 (ix3 H R n) d = ix3 R H d := by
  funext a
  match a with
  | ⟨0, _⟩ => rfl
  | ⟨1, _⟩ => rfl
  | ⟨2, _⟩ => rfl
theorem r22 (H : Fin 16) (R n : Fin 8320) (d : Fin 256) : ridx_main_v22 (ix3 H R n) d = ix3 n H d := by
  funext a
  match a with
  | ⟨0, _⟩ => rfl
  | ⟨1, _⟩ => rfl
  | ⟨2, _⟩ => rfl
theorem l36 (H : Fin 16) (R n : Fin 8320) (d : Fin 128) : lidx_main_v36 (ix3 H d R) n = ix3 n H d := by
  funext a
  match a with
  | ⟨0, _⟩ => rfl
  | ⟨1, _⟩ => rfl
  | ⟨2, _⟩ => rfl
theorem r36 (H : Fin 16) (R n : Fin 8320) (d : Fin 128) : ridx_main_v36 (ix3 H d R) n = ix3 H R n := by
  funext a
  match a with
  | ⟨0, _⟩ => rfl
  | ⟨1, _⟩ => rfl
  | ⟨2, _⟩ => rfl

/-- The mask of a query and a key. -/
theorem keep_word (a b d : Prop) [Decidable a] [Decidable b] [Decidable d] :
    IntOp.andi (BitVec.ofBool (decide a)) (IntOp.ori (BitVec.ofBool (decide b)) (BitVec.ofBool (decide d)))
      = if a ∧ (b ∨ d) then 1#1 else 0#1 := by
  by_cases ha : a <;> by_cases hb : b <;> by_cases hd : d <;> simp [ha, hb, hd, IntOp.andi, IntOp.ori]

theorem v6_at (n : Fin 8320) : val_main_v6 (F := Ideal) (ix1 n) = BitVec.ofNat 32 n.val := rfl

theorem v23_at (R n : Fin 8320) : val_main_v23 (F := Ideal) (ix2 R n) = if _root_.Attn.Keep R.val n.val then 1#1 else 0#1 := by
  have hr : R.val < 2 ^ 31 := lt_of_lt_of_le R.isLt (by decide)
  have hn : n.val < 2 ^ 31 := lt_of_lt_of_le n.isLt (by decide)
  have e1 : val_main_v13 (F := Ideal) (ix2 R n) = BitVec.ofBool (decide (n.val ≤ R.val)) := by
    rw [val_main_v13_apply, val_main_v11_apply, val_main_v9_apply, val_main_v12_apply, val_main_v10_apply]
    exact WordCmp.cmpi_sle_ofNat (a := n.val) (b := R.val) hn hr
  have e2 : val_main_v20 (F := Ideal) (ix2 R n) = BitVec.ofBool (decide (112 ≤ n.val)) := by
    rw [val_main_v20_apply, val_main_v14_apply, val_main_v8_apply]
    exact WordCmp.cmpi_sge_ofNat (a := n.val) (b := 112) hn (by decide)
  have e3 : val_main_v19 (F := Ideal) (ix2 R n) = BitVec.ofBool (decide (n.val = R.val)) := by
    rw [val_main_v19_apply, val_main_v17_apply, val_main_v15_apply, val_main_v18_apply, val_main_v16_apply]
    exact WordCmp.cmpi_eq_ofNat (a := n.val) (b := R.val) (lt_of_lt_of_le n.isLt (by decide)) (lt_of_lt_of_le R.isLt (by decide))
  rw [val_main_v23_apply, val_main_v21_apply, e1, e2, e3, keep_word]
  rfl

/-- The arguments, by row and column. -/
def row {n w : ℕ} (x : (⟨2, ![n, w]⟩ : Shape).Idx → EReal) (r : Fin n) (e : Fin w) : EReal := x (ix2 r e)

variable (x2 x3 : (⟨S8320x4096, .bf16⟩ : BufTy).Contents (Elt Ideal)) (x4 : (⟨S8320x2048, .bf16⟩ : BufTy).Contents (Elt Ideal))

theorem v1_at (R : Fin 8320) (H : Fin 16) (d : Fin 256) :
    val_main_v1 (F := Ideal) x2 (ix3 R H d) = row x2 R (_root_.Attn.col 256 H.val H.isLt d) := by
  rw [val_main_v1_apply]
  show x2 _ = x2 _
  congr 1
  have hR := R.isLt; have hH := H.isLt; have hd := d.isLt
  funext a
  match a with
  | ⟨0, _⟩ => exact Fin.ext (by show ((R.val * 16 + H.val) * 256 + d.val) / 4096 = R.val; omega)
  | ⟨1, _⟩ => exact Fin.ext (by show ((R.val * 16 + H.val) * 256 + d.val) % 4096 = 256 * H.val + d.val; omega)

theorem v3_at (R : Fin 8320) (H : Fin 16) (d : Fin 256) :
    val_main_v3 (F := Ideal) x3 (ix3 R H d) = row x3 R (_root_.Attn.col 256 H.val H.isLt d) := v1_at x3 R H d

theorem v5_at (R : Fin 8320) (H : Fin 16) (d : Fin 128) :
    val_main_v5 (F := Ideal) x4 (ix3 R H d) = row x4 R (_root_.Attn.col 128 H.val H.isLt d) := by
  rw [val_main_v5_apply]
  show x4 _ = x4 _
  congr 1
  have hR := R.isLt; have hH := H.isLt; have hd := d.isLt
  funext a
  match a with
  | ⟨0, _⟩ => exact Fin.ext (by show ((R.val * 16 + H.val) * 128 + d.val) / 2048 = R.val; omega)
  | ⟨1, _⟩ => exact Fin.ext (by show ((R.val * 16 + H.val) * 128 + d.val) % 2048 = 128 * H.val + d.val; omega)

/-- The scores of one query, by key. -/
abbrev sc (R : Fin 8320) (H : Fin 16) : ℕ → EReal := _root_.Attn.score (row x2) (row x3) R H

theorem v22_at (H : Fin 16) (R n : Fin 8320) :
    val_main_v22 (F := Ideal) x2 x3 (ix3 H R n) = _root_.Attn.dot (row x2) (row x3) R H n := by
  rw [val_main_v22_apply]
  unfold _root_.Attn.dot
  exact Finset.sum_congr rfl fun d _ => congrArg₂ (HMul.hMul (α := EReal)) ((congrArg (val_main_v1 (F := Ideal) x2) (l22 H R n d)).trans (v1_at x2 R H d)) ((congrArg (val_main_v3 (F := Ideal) x3) (r22 H R n d)).trans (v3_at x3 n H d))

theorem v24_at (H : Fin 16) (R n : Fin 8320) : val_main_v24 (F := Ideal) x2 x3 (ix3 H R n) = sc x2 x3 R H n.val := by
  rw [val_main_v24_apply, val_main_call0_v1_apply, v22_at, val_main_call0_v2_apply, val_main_call0_v0_apply, val_main_cst_apply]
  unfold sc
  rw [_root_.Attn.score_of_lt (q := row x2) (k := row x3) n.isLt]
  have e : val_main_v23 (F := Ideal) (idx_main_call0_v1 (ix3 H R n)) = if _root_.Attn.Keep R.val n.val then 1#1 else 0#1 := v23_at R n
  rw [e]
  by_cases hk : _root_.Attn.Keep R.val n.val
  · rw [if_pos hk, if_pos hk]; rfl
  · rw [if_neg hk, if_neg hk]; exact bot_eq

theorem red_eq (j : S16x8320.Idx) (k : Fin 8320) (h : S16x8320x8320.Reduces [2] S16x8320) :
    h.lift j k = ix3 (j 0) (j 1) k := by
  funext a
  match a with
  | ⟨0, _⟩ => exact Fin.ext rfl
  | ⟨1, _⟩ => exact Fin.ext rfl
  | ⟨2, _⟩ => exact Fin.ext rfl

/-- The largest score of a query. -/
theorem max_at (H : Fin 16) (R : Fin 8320) :
    val_main_v25 (F := Ideal) x2 x3 (ix2 H R) = _root_.Attn.mx (sc x2 x3 R H) 8320 := by
  unfold val_main_v25
  have h : S16x8320x8320.Reduces [2] S16x8320 := by decide
  refine (Host.reduce_eq_fold_single (α := EReal) max _ _ _ h _ _).trans ?_
  have e : (val_main_v24 (F := Ideal) x2 x3 ∘ h.lift (ix2 H R)) = fun n : Fin 8320 => sc x2 x3 R H n.val :=
    funext fun n => (congrArg (val_main_v24 (F := Ideal) x2 x3) (red_eq (ix2 H R) n h)).trans (v24_at x2 x3 H R n)
  rw [e, val_main_cst_0_apply]
  show Finset.fold max (Ideal.ofBits .f32 0xFF800000#32) _ (Finset.univ : Finset (Fin 8320)) = _
  rw [bot_eq]
  unfold _root_.Attn.mx
  apply le_antisymm
  · rw [Finset.fold_max_le]
    exact ⟨bot_le, fun n _ => Finset.le_sup (f := sc x2 x3 R H) (Finset.mem_range.2 n.isLt)⟩
  · refine Finset.sup_le fun n hn => ?_
    rw [Finset.le_fold_max]
    exact Or.inr ⟨⟨n, Finset.mem_range.1 hn⟩, Finset.mem_univ _, le_refl _⟩

theorem max_at' (H : Fin 16) (R : Fin 8320) :
    val_main_v38 (F := Ideal) x2 x3 (ix2 H R) = _root_.Attn.mx (sc x2 x3 R H) 8320 := max_at x2 x3 H R

theorem v27_at (H : Fin 16) (R : Fin 8320) :
    val_main_v27 (F := Ideal) x2 x3 (ix2 H R) = _root_.Attn.mx (sc x2 x3 R H) 8320 := by
  rw [val_main_v27_apply, max_at, val_main_v26_apply, val_main_cst_1_apply]
  show max (Ideal.ofBits .f32 0xFF800000#32) _ = _
  rw [bot_eq]
  exact bot_sup_eq _

theorem v31_at (H : Fin 16) (R n : Fin 8320) :
    val_main_v31 (F := Ideal) x2 x3 (ix3 H R n) = Ideal.exp (sc x2 x3 R H n.val - _root_.Attn.mx (sc x2 x3 R H) 8320) := by
  rw [val_main_v31_apply, val_main_v30_apply, v24_at, val_main_v29_apply, val_main_v28_apply]
  rw [i28, v27_at]
  rfl

theorem v42_at (H : Fin 16) (R n : Fin 8320) :
    val_main_v42 (F := Ideal) x2 x3 (ix3 H R n) = Ideal.exp (sc x2 x3 R H n.val - _root_.Attn.mx (sc x2 x3 R H) 8320) := by
  rw [val_main_v42_apply, val_main_v41_apply, v24_at, val_main_v40_apply, val_main_v39_apply]
  rw [i39, max_at']
  rfl

theorem v32_at (H : Fin 16) (R : Fin 8320) : val_main_v32 (F := Ideal) x2 x3 (ix2 H R) = _root_.Attn.den (sc x2 x3 R H) 8320 := by
  rw [val_main_v32_apply, val_main_cst_2_apply]
  unfold _root_.Attn.den
  rw [Finset.sum_range]
  refine (congrArg₂ (HAdd.hAdd (α := EReal)) zero_eq (Finset.sum_congr rfl fun n _ => (congrArg (val_main_v31 (F := Ideal) x2 x3) (i32 H R n)).trans (v31_at x2 x3 H R n))).trans (zero_add _)

theorem v43_at (H : Fin 16) (R : Fin 8320) : val_main_v43 (F := Ideal) x2 x3 (ix2 H R) = _root_.Attn.den (sc x2 x3 R H) 8320 := by
  rw [val_main_v43_apply, val_main_cst_4_apply]
  unfold _root_.Attn.den
  rw [Finset.sum_range]
  refine (congrArg₂ (HAdd.hAdd (α := EReal)) zero_eq (Finset.sum_congr rfl fun n _ => (congrArg (val_main_v42 (F := Ideal) x2 x3) (i43 H R n)).trans (v42_at x2 x3 H R n))).trans (zero_add _)

theorem v35_at (H : Fin 16) (R n : Fin 8320) :
    val_main_v35 (F := Ideal) x2 x3 (ix3 H R n)
      = Ideal.div (Ideal.exp (sc x2 x3 R H n.val - _root_.Attn.mx (sc x2 x3 R H) 8320)) (_root_.Attn.den (sc x2 x3 R H) 8320) := by
  rw [val_main_v35_apply, v31_at, val_main_v34_apply, val_main_v33_apply]
  rw [i33, v32_at]
  rfl

variable {x2 x3}

/-- The output: the weights first divided, then applied to the values, against the weighted sum divided at the end. -/
theorem v36_at (hf : ∀ R H n, sc x2 x3 R H n ≠ ⊤) (hb : ∀ R H, sc x2 x3 R H R.val ≠ ⊥) (H : Fin 16) (R : Fin 8320) (d : Fin 128) :
    val_main_v36 (F := Ideal) x2 x3 x4 (ix3 H d R) = _root_.Attn.out (row x2) (row x3) (row x4) R H d := by
  unfold _root_.Attn.out
  rw [_root_.Attn.num_div (hf R H) R.isLt (hb R H), Finset.sum_range, val_main_v36_apply]
  refine Finset.sum_congr rfl fun n _ => congrArg₂ (HMul.hMul (α := EReal)) ?_ ((congrArg (val_main_v35 (F := Ideal) x2 x3) (r36 H R n d)).trans (v35_at x2 x3 H R n))
  rw [_root_.Attn.value_of_lt (v := row x4) n.isLt]
  exact (congrArg (val_main_v5 (F := Ideal) x4) (l36 H R n d)).trans (v5_at x4 n H d)

/-- The head and the column within it. -/
def hd (e : Fin 2048) : Fin 16 := ⟨e.val / 128, by have := e.isLt; omega⟩
def cl (e : Fin 2048) : Fin 128 := ⟨e.val % 128, Nat.mod_lt _ (by decide)⟩

theorem v50_at (hf : ∀ R H n, sc x2 x3 R H n ≠ ⊤) (hb : ∀ R H, sc x2 x3 R H R.val ≠ ⊥) (i : S8320x2048.Idx) :
    val_main_v50 (F := Ideal) x2 x3 x4 i = _root_.Attn.out (row x2) (row x3) (row x4) (i 0) (hd (i 1)) (cl (i 1)) := by
  refine Eq.trans ?_ (v36_at x4 hf hb (hd (i 1)) (i 0) (cl (i 1)))
  rw [val_main_v50_apply, val_main_v49_apply, val_main_v37_apply]
  show val_main_v36 (F := Ideal) x2 x3 x4 _ = _
  congr 1
  have h0 : (i 0).val < 8320 := (i 0).isLt
  have h1 : (i 1).val < 2048 := (i 1).isLt
  funext a
  match a with
  | ⟨0, _⟩ => exact Fin.ext (by show ((i 0).val * 2048 + (i 1).val) / 128 % 16 = (i 1).val / 128; omega)
  | ⟨1, _⟩ => exact Fin.ext (by show ((i 0).val * 2048 + (i 1).val) % 128 = (i 1).val % 128; omega)
  | ⟨2, _⟩ => exact Fin.ext (by show ((i 0).val * 2048 + (i 1).val) / 2048 = (i 0).val; omega)

theorem v51_at (i : S8320x2048.Idx) :
    val_main_v51 (F := Ideal) x2 x3 i = _root_.Attn.lse (row x2) (row x3) (i 0) (hd (i 1)) := by
  have h0 : (i 0).val < 8320 := (i 0).isLt
  have h1 : (i 1).val < 2048 := (i 1).isLt
  rw [val_main_v51_apply, val_main_v48_apply, val_main_v47_apply, val_main_v46_apply]
  have e : idx_main_v46 (idx_main_v47 (idx_main_v48 (idx_main_v51 i))) = ix2 (hd (i 1)) (i 0) := by
    funext a
    match a with
    | ⟨0, _⟩ => exact Fin.ext (by show ((i 0).val * 2048 + (i 1).val) / 128 % 16 = (i 1).val / 128; omega)
    | ⟨1, _⟩ => exact Fin.ext (by show ((i 0).val * 2048 + (i 1).val) / 2048 = (i 0).val; omega)
  rw [e]
  refine (val_main_v45_apply x2 x3 _).trans ?_
  exact congrArg₂ (HAdd.hAdd (α := EReal)) (max_at' x2 x3 _ _)
    ((val_main_v44_apply x2 x3 _).trans (congrArg Ideal.log (v43_at x2 x3 _ _)))

end Cert.AttnReferenceIdeal.Attn
end
-- ==== Proof.Attn.Agree.lean ====
module

public import proofs.«01_k».proof.Proof.Attn.Pre
public import proofs.«01_k».proof.Proof.Attn.Arrays
public import proofs.«01_k».proof.Proof.Attn.Ref

set_option maxRecDepth 16384

/-! # The attention kernel and its reference agree -/

@[expose] public section
noncomputable section

open Idealize.ShloMosaic Idealize.ShloMosaic.TcCoe Idealize.SL.Sem

namespace Cert.Proof

theorem frame_attn : Cert.quiescent_Attn (hAttn := Cert.Attn.Gen.facts) (hPre_attn_schedule := Cert.Pre_attn_schedule.Gen.facts) :=
  fun m ρ h => Cert.Attn.Gen.frame AttnPre.z m ρ (AttnPre.pinned m h)

theorem frame_attn_ideal : Cert.quiescent_AttnIdeal (hAttnIdeal := Cert.AttnIdeal.Gen.facts) (hPre_attn_schedule := Cert.Pre_attn_schedule.Gen.facts) :=
  fun m ρ h => Cert.AttnIdeal.Gen.frame AttnPre.z m ρ (AttnPre.pinnedI m h)

theorem frame_attn_finite : Cert.quiescent_AttnIdeal_pre_attn_finite (hAttnIdeal := Cert.AttnIdeal.Gen.facts) (hPre_attn_finite := Cert.Pre_attn_finite.Gen.facts) :=
  fun m ρ h => Cert.AttnIdeal.Gen.frame AttnPre.z m ρ (AttnPre.pinnedF m h)

/-- The mask's constant is minus infinity. -/
theorem preserves_attn : Cert.preserves_Attn_AttnIdeal :=
  IdealRules.named_const.statement Cert.AttnIdeal.κ "mask" .f32 0xF149F2CA#32 ⊥ rfl

theorem algebraic_attn : Cert.algebraic_AttnIdeal_AttnReferenceIdeal_pre_attn_finite (hAttnIdeal := Cert.AttnIdeal.Gen.facts)
    (hAttnReferenceIdeal := Cert.AttnReferenceIdeal.Gen.facts) (hPre_attn_finite := Cert.Pre_attn_finite.Gen.facts) := by
  intro m ρ m' ρ' hpre hargs
  have hp := AttnPre.pinnedF m hpre
  refine ⟨fun c => AttnIdeal.Attn.outArr m c, fun c => AttnIdeal.Attn.lseArr m c, ?_, ?_⟩
  · refine (θ_run Cert.AttnIdeal.defs _ _).mono (fun r h c => ⟨?_, ?_, h.2 c⟩)
      (θ_run_and (AttnIdeal.Gen.run_main AttnPre.z m ρ hp) (AttnIdeal.Gen.unchanged AttnPre.z m ρ hp))
    · exact ((h.1 c).1 (3 : Fin 5)).trans (AttnIdeal.Attn.final3 m ρ c)
    · exact ((h.1 c).1 (4 : Fin 5)).trans (AttnIdeal.Attn.final4 m ρ c)
  · refine (θ_run Cert.AttnReferenceIdeal.defs _ _).mono (fun r h c => ?_) (AttnReferenceIdeal.Value.run (F := Ideal) m' ρ')
    obtain ⟨-, -, a2, a3, a4⟩ := hargs c
    obtain ⟨-, hq, hk⟩ := AttnPre.finite _ _ _ _ _ (hpre c)
    refine ⟨(h c).1.trans ?_, (h c).2.1.trans ?_, (h c).2.2⟩
    · rw [AttnReferenceIdeal.Read.val_main_v50_eq, a2, a3, a4]
      funext i
      exact AttnReferenceIdeal.Attn.v50_at _
        (fun R H n => AttnPre.score_ne_top _ _ (fun _ _ => hq _) (fun _ _ => hk _) R H n)
        (fun R H => AttnPre.score_ne_bot _ _ (fun _ _ => hq _) (fun _ _ => hk _) R H) i
    · rw [AttnReferenceIdeal.Read.val_main_v51_eq, a2, a3]
      funext i
      exact AttnReferenceIdeal.Attn.v51_at i

end Cert.Proof
end
-- ==== Proof.Conv.Spec.lean ====
module

public import Idealize.ShloMosaic.Lib.Pipeline.ValueKit

set_option maxRecDepth 16384

/-! # What the channel mixer computes, entry by entry

The rows are numbered by natural numbers, so that a tap that falls before the first valid row or behind the last row
reads a zero. `G` is the array of the two halves (gate, then up) side by side. -/

@[expose] public section
noncomputable section

open Idealize.ShloMosaic

namespace Conv

/-- An array of extended reals with two axes. -/
abbrev Arr (a b : Nat) : Type := (⟨2, ![a, b]⟩ : Shape).Idx → EReal

/-- Product of a row of `X` with a column of `Y`. -/
def mulNN {a b c : Nat} (X : Arr a b) (Y : Arr b c) : Arr a c := fun j => ∑ k : Fin b, X (ix2 (j 0) k) * Y (ix2 k (j 1))

/-- Product of a row of `X` with a row of `Y`. -/
def mulNT {a b c : Nat} (X : Arr a b) (Y : Arr c b) : Arr a c := fun j => ∑ k : Fin b, X (ix2 (j 0) k) * Y (ix2 (j 1) k)

/-- Column `c` of the up half, as a column of the whole array. -/
def upCol (c : Fin 5632) : Fin 11264 := ⟨c.val + 5632, by omega⟩

/-- Column `c` of the gate half. -/
def gateCol (c : Fin 5632) : Fin 11264 := ⟨c.val, by omega⟩

/-- The gate with two rows of zeros in front and its first 112 rows masked. -/
def gpad (G : Arr 8320 11264) (p : ℕ) (c : Fin 5632) : EReal :=
  if h : 114 ≤ p ∧ p < 8322 then G (ix2 ⟨p - 2, by omega⟩ (gateCol c)) else 0

/-- The causal convolution of width three. -/
def conv (G : Arr 8320 11264) (cw : Arr 3 5632) (cb : Arr 1 5632) (n : ℕ) (c : Fin 5632) : EReal :=
  cw (ix2 0 c) * gpad G n c + cw (ix2 1 c) * gpad G (n + 1) c + cw (ix2 2 c) * gpad G (n + 2) c + cb (ix2 0 c)

/-- The logistic function. -/
def sig (x : EReal) : EReal := Ideal.div 1 (1 + Ideal.exp (0 - x))

/-- The activation `silu (conv) * up`. -/
def act (G : Arr 8320 11264) (cw : Arr 3 5632) (cb : Arr 1 5632) : Arr 8320 5632 := fun j =>
  conv G cw cb (j 0).val (j 1) * sig (conv G cw cb (j 0).val (j 1)) * G (ix2 (j 0) (upCol (j 1)))

/-- The gradient of the convolution's result, in the order of the kernel's operations. -/
def dconv (A : Arr 8320 5632) (G : Arr 8320 11264) (cw : Arr 3 5632) (cb : Arr 1 5632) : Arr 8320 5632 := fun j =>
  A j * G (ix2 (j 0) (upCol (j 1))) *
    (sig (conv G cw cb (j 0).val (j 1)) * (1 + conv G cw cb (j 0).val (j 1) * (1 - sig (conv G cw cb (j 0).val (j 1)))))

/-- The gradient of the up half. -/
def dup (A : Arr 8320 5632) (G : Arr 8320 11264) (cw : Arr 3 5632) (cb : Arr 1 5632) : Arr 8320 5632 := fun j =>
  A j * (conv G cw cb (j 0).val (j 1) * sig (conv G cw cb (j 0).val (j 1)))

/-- Rows of `E` behind the last one read as zero. -/
def dpad (E : Arr 8320 5632) (n : ℕ) (c : Fin 5632) : EReal := if h : n < 8320 then E (ix2 ⟨n, h⟩ c) else 0

/-- The gradient of the gate half: the three taps against the flow of time, masked. -/
def dgate (E : Arr 8320 5632) (cw : Arr 3 5632) : Arr 8320 5632 := fun j =>
  if 112 ≤ (j 0).val then
    cw (ix2 2 (j 1)) * dpad E (j 0).val (j 1) + cw (ix2 1 (j 1)) * dpad E ((j 0).val + 1) (j 1)
      + cw (ix2 0 (j 1)) * dpad E ((j 0).val + 2) (j 1)
  else 0

/-- The gradient of the bias: the sum over the rows. -/
def dbias (E : Arr 8320 5632) : Arr 1 5632 := fun j => ∑ n : Fin 8320, E (ix2 n (j 1))

/-- The gradient of the taps: row `k < 3` is the sum over the rows of `E` times the gate `k` rows on, five zero rows follow. -/
def dtaps (E : Arr 8320 5632) (G : Arr 8320 11264) : Arr 8 5632 := fun j =>
  if (j 0).val < 3 then ∑ n : Fin 8320, E (ix2 n (j 1)) * gpad G (n.val + (j 0).val) (j 1) else 0

/-- Two halves side by side. -/
def beside (E U : Arr 8320 5632) : Arr 8320 11264 := fun j =>
  if h : (j 1).val < 5632 then E (ix2 (j 0) ⟨(j 1).val, h⟩) else U (ix2 (j 0) ⟨(j 1).val - 5632, by have hj : (j 1).val < 11264 := (j 1).isLt; omega⟩)

end Conv
-- ==== Proof.Products.Spec.lean ====
module

public import Idealize.ShloMosaic.Lib.Pipeline.ValueKit
public import proofs.«01_k».proof.Proof.Conv.Spec

set_option maxRecDepth 16384

/-! # Products of whole arrays, and the index vocabulary the product calls share -/

@[expose] public section
noncomputable section

open Idealize.ShloMosaic

namespace Products
open Conv

/-- Product of a column of `X` with a column of `Y`: the gradient of a weight. -/
def mulTN {a b c : Nat} (X : Arr b a) (Y : Arr b c) : Arr a c := fun j => ∑ k : Fin b, X (ix2 k (j 0)) * Y (ix2 k (j 1))

/-- Entrywise sum. -/
def plus {a b : Nat} (X Y : Arr a b) : Arr a b := fun j => X j + Y j

theorem ext2 {a b : ℕ} {i j : (⟨2, ![a, b]⟩ : Shape).Idx} (h0 : (i 0).val = (j 0).val) (h1 : (i 1).val = (j 1).val) : i = j :=
  funext fun k => match k with
    | ⟨0, _⟩ => Fin.ext h0
    | ⟨1, _⟩ => Fin.ext h1

end Products

end
-- ==== Proof.Merge.Spec.lean ====
module

public import Idealize.ShloMosaic.Lib.Pipeline.ValueKit
public import proofs.«01_k».proof.Proof.Products.Spec

set_option maxRecDepth 16384

/-! # The gated merge of the two branches and its gradients, entry by entry

The gates are stored side by side: the gate of the first branch in the left half, that of the second in the right half. -/

@[expose] public section
noncomputable section

open Idealize.ShloMosaic

namespace Merge
open Conv

/-- Column `c` of the first gate, as a column of the whole array. -/
def colA (c : Fin 2048) : Fin 4096 := ⟨c.val, by omega⟩
/-- Column `c` of the second gate. -/
def colB (c : Fin 2048) : Fin 4096 := ⟨c.val + 2048, by omega⟩

/-- The first gate, opened. -/
def sA (G : Arr 8320 4096) (j : (⟨2, ![8320, 2048]⟩ : Shape).Idx) : EReal := sig (G (ix2 (j 0) (colA (j 1))))
/-- The second gate, opened. -/
def sB (G : Arr 8320 4096) (j : (⟨2, ![8320, 2048]⟩ : Shape).Idx) : EReal := sig (G (ix2 (j 0) (colB (j 1))))

/-- The merged branches. -/
def merged (a b : Arr 8320 2048) (G : Arr 8320 4096) : Arr 8320 2048 := fun j => sA G j * a j + sB G j * b j
/-- The gradient of the first branch. -/
def dA (d : Arr 8320 2048) (G : Arr 8320 4096) : Arr 8320 2048 := fun j => d j * sA G j
/-- The gradient of the second branch. -/
def dB (d : Arr 8320 2048) (G : Arr 8320 4096) : Arr 8320 2048 := fun j => d j * sB G j
/-- The gradient of a gate before it is opened: `s` is the open gate, `x` the branch behind it. -/
def dGate (d x s : EReal) : EReal := d * x * s * (1 - s)
/-- The gradients of the two gates, side by side. -/
def dGates (d a b : Arr 8320 2048) (G : Arr 8320 4096) : Arr 8320 4096 := fun j =>
  if h : (j 1).val < 2048 then dGate (d (ix2 (j 0) ⟨(j 1).val, h⟩)) (a (ix2 (j 0) ⟨(j 1).val, h⟩)) (sA G (ix2 (j 0) ⟨(j 1).val, h⟩))
  else
    have h' : (j 1).val - 2048 < 2048 := by have : (j 1).val < 4096 := (j 1).isLt; omega
    dGate (d (ix2 (j 0) ⟨(j 1).val - 2048, h'⟩)) (b (ix2 (j 0) ⟨(j 1).val - 2048, h'⟩)) (sB G (ix2 (j 0) ⟨(j 1).val - 2048, h'⟩))

end Merge

end
-- ==== Proof.Merge.Regions.lean ====
module

public import proofs.«01_k».proof.Proof.Gen.MergeIdeal.Frame
public import proofs.«01_k».proof.Proof.Merge.Spec

set_option maxRecDepth 16384

/-! # What each of the eight calls of the merge leaves in its result arrays -/

@[expose] public section
noncomputable section

open Idealize.ShloMosaic Idealize.ShloMosaic.TcCoe Idealize.SL.Sem
open Idealize.ShloMosaic.Pipeline (Dat)

namespace Cert.MergeIdeal.Merge
open Cert.MergeIdeal Cert.MergeIdeal.Gen _root_.Conv _root_.Products _root_.Merge

variable (V : (c : Dev nD) → (b : Ref sig .tc) → Buf (Elt Ideal) ((c : Thread nD τ).loc b)) (c : Dev nD)

theorem idx0 : ∀ t : Fin cfg0.N, win0_0.index t = ![t.val / 2, 0] ∧ win0_1.index t = ![0, t.val % 2]
    ∧ win0_2.index t = ![t.val / 2, t.val % 2] :=
  (by decide +kernel : ∀ t : Fin grid0.N, _)

theorem final0 : (dat0 V c).arrAt 2 cfg0.N = mulNN (a := 8320) (b := 2048) (c := 2048) (V c main_arg0) (V c main_arg1) := by
  refine (dat0 V c).arrAt_eq_of_covers 2 _ (by decide +kernel) fun t _ y => ?_
  blk_simp
  rw [after0_2]; frame_out
  pointwise [k0_pay1, mulNN]
  blk_point [iblk0, idx0 t]

theorem idx1 : ∀ t : Fin cfg1.N, win1_0.index t = ![t.val / 2, 0] ∧ win1_1.index t = ![0, t.val % 2]
    ∧ win1_2.index t = ![t.val / 2, t.val % 2] :=
  (by decide +kernel : ∀ t : Fin grid1.N, _)

theorem final1 : (dat1 V c).arrAt 2 cfg1.N = mulNN (a := 8320) (b := 2048) (c := 2048) (V c main_arg2) (V c main_arg3) := by
  refine (dat1 V c).arrAt_eq_of_covers 2 _ (by decide +kernel) fun t _ y => ?_
  blk_simp
  rw [after1_2]; frame_out
  pointwise [k1_pay1, mulNN]
  blk_point [iblk1, idx1 t]

theorem idx3 : ∀ t : Fin cfg3.N, win3_0.index t = ![t.val / 2, 0] ∧ win3_1.index t = ![0, t.val % 2]
    ∧ win3_2.index t = ![t.val / 2, t.val % 2] ∧ win3_3.index t = ![t.val / 2, t.val % 2] :=
  (by decide +kernel : ∀ t : Fin grid3.N, _)

theorem final3 : (dat3 V c).arrAt 3 cfg3.N = plus (a := 8320) (b := 2048) (V c main_arg6) (mulNN (a := 8320) (b := 2048) (c := 2048) (V c main_v2) (V c main_arg5)) := by
  refine (dat3 V c).arrAt_eq_of_covers 3 _ (by decide +kernel) fun t _ y => ?_
  blk_simp
  rw [after3_3]; frame_out
  pointwise [k3_pay1, mulNN, plus]
  refine (add_comm (_ : EReal) _).trans (congrArg₂ (fun u v : EReal => u + v) ?_ (Finset.sum_congr rfl fun k _ => ?_))
  · blk_point [iblk3, idx3 t]
  · blk_point [iblk3, idx3 t]

theorem idx4 : ∀ t : Fin cfg4.N, win4_0.index t = ![t.val / 2, 0] ∧ win4_1.index t = ![t.val % 2, 0]
    ∧ win4_2.index t = ![t.val / 2, t.val % 2] :=
  (by decide +kernel : ∀ t : Fin grid4.N, _)

theorem final4 : (dat4 V c).arrAt 2 cfg4.N = mulNT (a := 8320) (b := 2048) (c := 2048) (V c main_arg7) (V c main_arg5) := by
  refine (dat4 V c).arrAt_eq_of_covers 2 _ (by decide +kernel) fun t _ y => ?_
  blk_simp
  rw [after4_2]; frame_out
  pointwise [k4_pay1, mulNT]
  blk_point [iblk4, idx4 t]

theorem idx6 : ∀ t : Fin cfg6.N, win6_0.index t = ![t.val / 2, 0] ∧ win6_1.index t = ![t.val % 2, 0]
    ∧ win6_2.index t = ![t.val / 2, t.val % 2] :=
  (by decide +kernel : ∀ t : Fin grid6.N, _)

theorem final6 : (dat6 V c).arrAt 2 cfg6.N = mulNT (a := 8320) (b := 2048) (c := 2048) (V c main_v5_0) (V c main_arg1) := by
  refine (dat6 V c).arrAt_eq_of_covers 2 _ (by decide +kernel) fun t _ y => ?_
  blk_simp
  rw [after6_2]; frame_out
  pointwise [k6_pay1, mulNT]
  blk_point [iblk6, idx6 t]

theorem idx7 : ∀ t : Fin cfg7.N, win7_0.index t = ![t.val / 2, 0] ∧ win7_1.index t = ![t.val % 2, 0]
    ∧ win7_2.index t = ![t.val / 2, t.val % 2] :=
  (by decide +kernel : ∀ t : Fin grid7.N, _)

theorem final7 : (dat7 V c).arrAt 2 cfg7.N = mulNT (a := 8320) (b := 2048) (c := 2048) (V c main_v5_1) (V c main_arg3) := by
  refine (dat7 V c).arrAt_eq_of_covers 2 _ (by decide +kernel) fun t _ y => ?_
  blk_simp
  rw [after7_2]; frame_out
  pointwise [k7_pay1, mulNT]
  blk_point [iblk7, idx7 t]

theorem idx2 : ∀ t : Fin cfg2.N, win2_0.index t = ![t.val, 0] ∧ win2_1.index t = ![t.val, 0]
    ∧ win2_2.index t = ![t.val, 0] ∧ win2_3.index t = ![t.val, 0] :=
  (by decide +kernel : ∀ t : Fin grid2.N, _)

theorem final2 : (dat2 V c).arrAt 3 cfg2.N = merged (V c main_v0) (V c main_v1) (V c main_arg4) := by
  refine (dat2 V c).arrAt_eq_of_covers 3 _ (by decide +kernel) fun t _ y => ?_
  blk_simp
  rw [after2_3]; frame_out
  pointwise [k2_pay1, merged, sA, sB, _root_.Conv.sig, colA, colB]
  blk_point [iblk2, idx2 t]

theorem idx5 : ∀ t : Fin cfg5.N, win5_0.index t = ![t.val, 0] ∧ win5_1.index t = ![t.val, 0]
    ∧ win5_2.index t = ![t.val, 0] ∧ win5_3.index t = ![t.val, 0] ∧ win5_4.index t = ![t.val, 0] ∧ win5_5.index t = ![t.val, 0]
    ∧ win5_6.index t = ![t.val, 0] :=
  (by decide +kernel : ∀ t : Fin grid5.N, _)

theorem final5a : (dat5 V c).arrAt 4 cfg5.N = dA (V c main_v4) (V c main_arg4) := by
  refine (dat5 V c).arrAt_eq_of_covers 4 _ (by decide +kernel) fun t _ y => ?_
  blk_simp
  rw [after5_4]; frame_out
  pointwise [k5_pay5, k5_pay2, k5_pay3, dA, sA, _root_.Conv.sig, colA]
  blk_point [iblk5, idx5 t]

theorem final5b : (dat5 V c).arrAt 5 cfg5.N = dB (V c main_v4) (V c main_arg4) := by
  refine (dat5 V c).arrAt_eq_of_covers 5 _ (by decide +kernel) fun t _ y => ?_
  blk_simp
  rw [after5_5]; frame_out
  pointwise [k5_pay6, k5_pay2, k5_pay4, dB, sB, _root_.Conv.sig, colB]
  blk_point [iblk5, idx5 t]

theorem final5g : (dat5 V c).arrAt 6 cfg5.N = dGates (V c main_v4) (V c main_v0) (V c main_v1) (V c main_arg4) := by
  refine (dat5 V c).arrAt_eq_of_covers 6 _ (by decide +kernel) fun t _ y => ?_
  blk_simp
  rw [after5_6]; frame_out
  canon_tiles x h
  case piece0 =>
    have e : ¬ ((((View.whole main_v5_2).slice (win5_6.rect t)).emb y) 1).val < 2048 := by
      blk_simp [idx5 t]; omega
    unfold dGates; rw [dif_neg e]
    pointwise [k5_pay1, k5_pay2, k5_pay4, dGate, sB, _root_.Conv.sig, colB]
    blk_point [iblk5, idx5 t]
  case piece1 =>
    have e : ((((View.whole main_v5_2).slice (win5_6.rect t)).emb y) 1).val < 2048 := by
      blk_simp [idx5 t]; omega
    unfold dGates; rw [dif_pos e]
    pointwise [k5_pay7, k5_pay2, k5_pay3, dGate, sA, _root_.Conv.sig, colA]
    blk_point [iblk5, idx5 t]

end Cert.MergeIdeal.Merge
-- ==== Proof.Merge.Run.lean ====
module

public import proofs.«01_k».proof.Proof.Merge.Regions

set_option maxRecDepth 16384

/-! # What the eight calls of the merge leave, from the arguments -/

@[expose] public section
noncomputable section

namespace Cert.MergeIdeal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeIdeal Cert.MergeIdeal.Gen _root_.Conv _root_.Products _root_.Merge

local notation "𝕄" => MT nD τ sig Unit (Elt Ideal) ℕ (UR sig nD τ) ℕ

variable (m : (ℓ : Loc nD τ sig) → Buf (Elt Ideal) ℓ) (ρ : Dev nD → PrngReg) (c : Dev nD)

/-- The first branch. -/
def brA : Arr 8320 2048 := mulNN (b := 2048) (m ((c : Thread nD τ).loc main_arg0)) (m ((c : Thread nD τ).loc main_arg1))
/-- The second branch. -/
def brB : Arr 8320 2048 := mulNN (b := 2048) (m ((c : Thread nD τ).loc main_arg2)) (m ((c : Thread nD τ).loc main_arg3))
/-- The merged branches. -/
def mg : Arr 8320 2048 := merged (brA m c) (brB m c) (m ((c : Thread nD τ).loc main_arg4))
/-- The residual stream behind the merge. -/
def h1 : Arr 8320 2048 := plus (m ((c : Thread nD τ).loc main_arg6)) (mulNN (b := 2048) (mg m c) (m ((c : Thread nD τ).loc main_arg5)))
/-- The gradient of the merged branches. -/
def dm : Arr 8320 2048 := mulNT (b := 2048) (m ((c : Thread nD τ).loc main_arg7)) (m ((c : Thread nD τ).loc main_arg5))
/-- The gradient of the first branch. -/
def da : Arr 8320 2048 := dA (dm m c) (m ((c : Thread nD τ).loc main_arg4))
/-- The gradient of the second branch. -/
def db : Arr 8320 2048 := dB (dm m c) (m ((c : Thread nD τ).loc main_arg4))
/-- The gradients of the gates. -/
def dg : Arr 8320 4096 := dGates (dm m c) (brA m c) (brB m c) (m ((c : Thread nD τ).loc main_arg4))
/-- The gradient of the first branch's input. -/
def doA : Arr 8320 2048 := mulNT (b := 2048) (da m c) (m ((c : Thread nD τ).loc main_arg1))
/-- The gradient of the second branch's input. -/
def doB : Arr 8320 2048 := mulNT (b := 2048) (db m c) (m ((c : Thread nD τ).loc main_arg3))

theorem v0_at1 : V1 m ρ c main_v0 = brA m c := by
  refine (W1_arr m ρ c 2).trans ((final0 (V0 m ρ) c).trans ?_)
  rw [show V0 m ρ c main_arg0 = m ((c : Thread nD τ).loc main_arg0) from W0_args m ρ c _ (by decide), show V0 m ρ c main_arg1 = m ((c : Thread nD τ).loc main_arg1) from W0_args m ρ c _ (by decide)]
  rfl

theorem v0_at2 : V2 m ρ c main_v0 = brA m c := (W2_of m ρ c main_v0 (by decide)).trans (v0_at1 m ρ c)

theorem v0_at3 : V3 m ρ c main_v0 = brA m c := (W3_of m ρ c main_v0 (by decide)).trans (v0_at2 m ρ c)

theorem v0_at4 : V4 m ρ c main_v0 = brA m c := (W4_of m ρ c main_v0 (by decide)).trans (v0_at3 m ρ c)

theorem v0_at5 : V5 m ρ c main_v0 = brA m c := (W5_of m ρ c main_v0 (by decide)).trans (v0_at4 m ρ c)

theorem v1_at2 : V2 m ρ c main_v1 = brB m c := by
  refine (W2_arr m ρ c 2).trans ((final1 (V1 m ρ) c).trans ?_)
  rw [show V1 m ρ c main_arg2 = m ((c : Thread nD τ).loc main_arg2) from W1_args m ρ c _ (by decide), show V1 m ρ c main_arg3 = m ((c : Thread nD τ).loc main_arg3) from W1_args m ρ c _ (by decide)]
  rfl

theorem v1_at3 : V3 m ρ c main_v1 = brB m c := (W3_of m ρ c main_v1 (by decide)).trans (v1_at2 m ρ c)

theorem v1_at4 : V4 m ρ c main_v1 = brB m c := (W4_of m ρ c main_v1 (by decide)).trans (v1_at3 m ρ c)

theorem v1_at5 : V5 m ρ c main_v1 = brB m c := (W5_of m ρ c main_v1 (by decide)).trans (v1_at4 m ρ c)

theorem v2_at3 : V3 m ρ c main_v2 = mg m c := by
  refine (W3_arr m ρ c 3).trans ((final2 (V2 m ρ) c).trans ?_)
  rw [v0_at2 m ρ c, v1_at2 m ρ c, show V2 m ρ c main_arg4 = m ((c : Thread nD τ).loc main_arg4) from W2_args m ρ c _ (by decide)]
  rfl

theorem v3_at4 : V4 m ρ c main_v3 = h1 m c := by
  refine (W4_arr m ρ c 3).trans ((final3 (V3 m ρ) c).trans ?_)
  rw [show V3 m ρ c main_arg6 = m ((c : Thread nD τ).loc main_arg6) from W3_args m ρ c _ (by decide), v2_at3 m ρ c, show V3 m ρ c main_arg5 = m ((c : Thread nD τ).loc main_arg5) from W3_args m ρ c _ (by decide)]
  rfl

theorem v3_at5 : V5 m ρ c main_v3 = h1 m c := (W5_of m ρ c main_v3 (by decide)).trans (v3_at4 m ρ c)

theorem v3_at6 : V6 m ρ c main_v3 = h1 m c := (W6_of m ρ c main_v3 (by decide)).trans (v3_at5 m ρ c)

theorem v3_at7 : V7 m ρ c main_v3 = h1 m c := (W7_of m ρ c main_v3 (by decide)).trans (v3_at6 m ρ c)

theorem v3_at8 : V8 m ρ c main_v3 = h1 m c := (W8_of m ρ c main_v3 (by decide)).trans (v3_at7 m ρ c)

theorem v4_at5 : V5 m ρ c main_v4 = dm m c := by
  refine (W5_arr m ρ c 2).trans ((final4 (V4 m ρ) c).trans ?_)
  rw [show V4 m ρ c main_arg7 = m ((c : Thread nD τ).loc main_arg7) from W4_args m ρ c _ (by decide), show V4 m ρ c main_arg5 = m ((c : Thread nD τ).loc main_arg5) from W4_args m ρ c _ (by decide)]
  rfl

theorem v5_0_at6 : V6 m ρ c main_v5_0 = da m c := by
  refine (W6_arr m ρ c 4).trans ((final5a (V5 m ρ) c).trans ?_)
  rw [v4_at5 m ρ c, show V5 m ρ c main_arg4 = m ((c : Thread nD τ).loc main_arg4) from W5_args m ρ c _ (by decide)]
  rfl

theorem v5_1_at6 : V6 m ρ c main_v5_1 = db m c := by
  refine (W6_arr m ρ c 5).trans ((final5b (V5 m ρ) c).trans ?_)
  rw [v4_at5 m ρ c, show V5 m ρ c main_arg4 = m ((c : Thread nD τ).loc main_arg4) from W5_args m ρ c _ (by decide)]
  rfl

theorem v5_1_at7 : V7 m ρ c main_v5_1 = db m c := (W7_of m ρ c main_v5_1 (by decide)).trans (v5_1_at6 m ρ c)

theorem v5_2_at6 : V6 m ρ c main_v5_2 = dg m c := by
  refine (W6_arr m ρ c 6).trans ((final5g (V5 m ρ) c).trans ?_)
  rw [v4_at5 m ρ c, v0_at5 m ρ c, v1_at5 m ρ c, show V5 m ρ c main_arg4 = m ((c : Thread nD τ).loc main_arg4) from W5_args m ρ c _ (by decide)]
  rfl

theorem v5_2_at7 : V7 m ρ c main_v5_2 = dg m c := (W7_of m ρ c main_v5_2 (by decide)).trans (v5_2_at6 m ρ c)

theorem v5_2_at8 : V8 m ρ c main_v5_2 = dg m c := (W8_of m ρ c main_v5_2 (by decide)).trans (v5_2_at7 m ρ c)

theorem v6_at7 : V7 m ρ c main_v6 = doA m c := by
  refine (W7_arr m ρ c 2).trans ((final6 (V6 m ρ) c).trans ?_)
  rw [v5_0_at6 m ρ c, show V6 m ρ c main_arg1 = m ((c : Thread nD τ).loc main_arg1) from W6_args m ρ c _ (by decide)]
  rfl

theorem v6_at8 : V8 m ρ c main_v6 = doA m c := (W8_of m ρ c main_v6 (by decide)).trans (v6_at7 m ρ c)

theorem v7_at8 : V8 m ρ c main_v7 = doB m c := by
  refine (W8_arr m ρ c 2).trans ((final7 (V7 m ρ) c).trans ?_)
  rw [v5_1_at7 m ρ c, show V7 m ρ c main_arg3 = m ((c : Thread nD τ).loc main_arg3) from W7_args m ρ c _ (by decide)]
  rfl

set_option backward.isDefEq.respectTransparency.types false in
/-- The calls run, leave the results at their closed forms and the arguments as they were. -/
theorem run : θ_run defs (onTc (τ := τ) (main (F := Ideal))) ⟨m, fun _ => 0, ρ⟩ (fun r => ∀ c : Dev nD,
      r.2.mem ((c.tc : Thread nD τ).loc main_v3) = h1 m c
      ∧ r.2.mem ((c.tc : Thread nD τ).loc main_v6) = doA m c
      ∧ r.2.mem ((c.tc : Thread nD τ).loc main_v7) = doB m c
      ∧ r.2.mem ((c.tc : Thread nD τ).loc main_v5_2) = dg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨(h c _ (mem_uc main_v3 (by decide))).trans (v3_at8 m ρ c),
       (h c _ (mem_uc main_v6 (by decide))).trans (v6_at8 m ρ c),
       (h c _ (mem_uc main_v7 (by decide))).trans (v7_at8 m ρ c),
       (h c _ (mem_uc main_v5_2 (by decide))).trans (v5_2_at8 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.MergeIdeal.Merge

end
-- ==== Proof.Merge.Ref.lean ====
module

public import proofs.«01_k».proof.Proof.Gen.MergeReferenceIdeal.Read
public import proofs.«01_k».proof.Proof.Merge.Spec

set_option maxRecDepth 16384

/-! # What the reference of the merge computes, entry by entry -/

@[expose] public section
noncomputable section

open Idealize.ShloMosaic Idealize.ShloMosaic.TcCoe Idealize.SL.Sem

namespace Cert.MergeReferenceIdeal.Merge
open Cert.MergeReferenceIdeal Cert.MergeReferenceIdeal.Gen Cert.MergeReferenceIdeal.Read _root_.Conv _root_.Products _root_.Merge

/-- The number one. -/
theorem one_f32 : (FloatOps.ofBits .f32 0x3F800000#32 : Ideal .f32) = (1 : EReal) := by pointwise

variable (x0 x2 : Arr 8320 2048) (x1 x3 x5 : Arr 2048 2048) (x4 : Arr 8320 4096) (x6 x7 : Arr 8320 2048)

theorem v13_at (j : S8320x2048.Idx) : val_main_v13 (F := Ideal) x4 j = sA x4 j := by
  rw [val_main_v13_apply, val_main_v12_apply, val_main_v11_apply, val_main_v10_apply, val_main_v9_apply, val_main_v8_apply,
    val_main_v6_apply, val_main_v4_apply, val_main_cst_apply, val_main_cst_0_apply, one_f32]
  unfold sA _root_.Conv.sig
  rw [zero_sub, show (ix2 (j 0) (colA (j 1)) : S8320x4096.Idx) = idx_main_v6 j from ext2 rfl rfl]
  rfl

theorem v24_at (j : S8320x2048.Idx) : val_main_v24 (F := Ideal) x4 j = sB x4 j := by
  rw [val_main_v24_apply, val_main_v23_apply, val_main_v22_apply, val_main_v21_apply, val_main_v20_apply, val_main_v19_apply,
    val_main_v7_apply, val_main_v4_apply, val_main_cst_2_apply, val_main_cst_3_apply, one_f32]
  unfold sB _root_.Conv.sig
  rw [zero_sub, show (ix2 (j 0) (colB (j 1)) : S8320x4096.Idx) = idx_main_v7 j from ext2 rfl (Nat.add_comm _ _)]
  rfl

theorem v17_eq : val_main_v17 (F := Ideal) x0 x1 = mulNN x0 x1 := by
  funext i
  rw [val_main_v17_apply]
  refine Finset.sum_congr rfl fun k _ => ?_
  exact congrArg₂ (fun u v : EReal => u * v) (congrArg x0 (ext2 rfl rfl)) (congrArg x1 (ext2 rfl rfl))

theorem v28_eq : val_main_v28 (F := Ideal) x2 x3 = mulNN x2 x3 := by
  funext i
  rw [val_main_v28_apply]
  refine Finset.sum_congr rfl fun k _ => ?_
  exact congrArg₂ (fun u v : EReal => u * v) (congrArg x2 (ext2 rfl rfl)) (congrArg x3 (ext2 rfl rfl))

theorem v30_eq : val_main_v30 (F := Ideal) x0 x1 x2 x3 x4 = merged (mulNN x0 x1) (mulNN x2 x3) x4 := by
  funext i
  rw [val_main_v30_apply, val_main_v18_apply, val_main_v29_apply, v13_at, v24_at, v17_eq, v28_eq]
  rfl

theorem v32_eq : val_main_v32 (F := Ideal) x0 x1 x2 x3 x4 x5 x6 = plus x6 (mulNN (merged (mulNN x0 x1) (mulNN x2 x3) x4) x5) := by
  funext i
  rw [val_main_v32_apply, val_main_v31_apply]
  refine congrArg (fun u : EReal => x6 i + u) (Finset.sum_congr rfl fun k _ => ?_)
  rw [v30_eq]
  exact congrArg₂ (fun u v : EReal => u * v) (congrArg _ (ext2 rfl rfl)) (congrArg x5 (ext2 rfl rfl))

theorem v33_eq : val_main_v33 (F := Ideal) x5 x7 = mulNT x7 x5 := by
  funext i
  rw [val_main_v33_apply]
  refine Finset.sum_congr rfl fun k _ => ?_
  exact congrArg₂ (fun u v : EReal => u * v) (congrArg x7 (ext2 rfl rfl)) (congrArg x5 (ext2 rfl rfl))

theorem v36_eq : val_main_v36 (F := Ideal) x3 x4 x5 x7 = mulNT (dB (mulNT x7 x5) x4) x3 := by
  funext i
  rw [val_main_v36_apply]
  refine Finset.sum_congr rfl fun k _ => ?_
  refine congrArg₂ (fun u v : EReal => u * v) ?_ (congrArg x3 (ext2 rfl rfl))
  rw [val_main_v34_apply, v24_at, v33_eq]
  exact (mul_comm (_ : EReal) _).trans (congrArg (dB (mulNT x7 x5) x4) (ext2 rfl rfl))

theorem v43_eq : val_main_v43 (F := Ideal) x1 x4 x5 x7 = mulNT (dA (mulNT x7 x5) x4) x1 := by
  funext i
  rw [val_main_v43_apply]
  show val_main_v40 (F := Ideal) x1 x4 x5 x7 i = _
  rw [val_main_v40_apply]
  refine Finset.sum_congr rfl fun k _ => ?_
  refine congrArg₂ (fun u v : EReal => u * v) ?_ (congrArg x1 (ext2 rfl rfl))
  rw [val_main_v38_apply, v13_at, v33_eq]
  exact (mul_comm (_ : EReal) _).trans (congrArg (dA (mulNT x7 x5) x4) (ext2 rfl rfl))

theorem v41_at (j : S8320x2048.Idx) : val_main_v41 (F := Ideal) x0 x1 x4 x5 x7 j = dGate (mulNT x7 x5 j) (mulNN x0 x1 j) (sA x4 j) := by
  rw [val_main_v41_apply, val_main_v39_apply, val_main_v16_apply, val_main_v15_apply, val_main_v14_apply, val_main_cst_1_apply, one_f32,
    v13_at, v33_eq, v17_eq]
  exact (mul_assoc (_ : EReal) _ _).symm

theorem v37_at (j : S8320x2048.Idx) : val_main_v37 (F := Ideal) x2 x3 x4 x5 x7 j = dGate (mulNT x7 x5 j) (mulNN x2 x3 j) (sB x4 j) := by
  rw [val_main_v37_apply, val_main_v35_apply, val_main_v27_apply, val_main_v26_apply, val_main_v25_apply, val_main_cst_4_apply, one_f32,
    v24_at, v33_eq, v28_eq]
  exact (mul_assoc (_ : EReal) _ _).symm

theorem v44_eq : val_main_v44 (F := Ideal) x0 x1 x2 x3 x4 x5 x7 = dGates (mulNT x7 x5) (mulNN x0 x1) (mulNN x2 x3) x4 := by
  funext i
  obtain ⟨n, q, rfl⟩ : ∃ (n : Fin 8320) (q : Fin 4096), i = ix2 n q := ⟨i 0, i 1, ext2 rfl rfl⟩
  have hq := q.isLt
  rw [val_main_v44_apply]
  unfold val_main_v42
  by_cases h : q.val < 2048
  · refine ((concatenate_pair_apply_left (s₁ := S8320x2048) (s₂ := S8320x2048) 1 _ _ _ (ix2 n q) rfl (ix2 n (⟨q.val, h⟩ : Fin 2048)) (fun b => match b with
      | ⟨0, _⟩ => rfl
      | ⟨1, _⟩ => rfl)).trans ?_).trans (dif_pos h).symm
    exact v41_at x0 x1 x5 x4 x7 _
  · refine ((concatenate_pair_apply_right (s₁ := S8320x2048) (s₂ := S8320x2048) 1 _ _ _ (ix2 n q) rfl rfl (ix2 n (⟨q.val - 2048, by omega⟩ : Fin 2048)) (fun b hb => match b with
      | ⟨0, _⟩ => rfl
      | ⟨1, _⟩ => absurd rfl hb) (by show q.val - 2048 + 2048 = q.val; omega)).trans ?_).trans (dif_neg h).symm
    exact v37_at x2 x3 x5 x4 x7 _

end Cert.MergeReferenceIdeal.Merge

end
-- ==== Proof.Merge.Agree.lean ====
module

public import proofs.«01_k».proof.Proof.Merge.Run
public import proofs.«01_k».proof.Proof.Merge.Ref
public import proofs.«01_k».proof.Defs
public import Idealize.ShloMosaic.Adequacy

set_option maxRecDepth 16384

/-! # The eight calls of the merge and the reference leave equal results -/

@[expose] public section
noncomputable section

open Idealize.ShloMosaic Idealize.ShloMosaic.TcCoe Idealize.SL.Sem

namespace Cert.Proof

theorem algebraic_merge : Cert.algebraic_MergeIdeal_MergeReferenceIdeal := by
  intro m ρ m' ρ' _ hargs
  refine ⟨fun c => MergeIdeal.Merge.h1 m c, fun c => MergeIdeal.Merge.doA m c, fun c => MergeIdeal.Merge.doB m c,
    fun c => MergeIdeal.Merge.dg m c, MergeIdeal.Merge.run m ρ, ?_⟩
  refine (θ_run Cert.MergeReferenceIdeal.defs _ _).mono (fun r h c => ?_) (MergeReferenceIdeal.Value.run (F := Ideal) m' ρ')
  obtain ⟨a0, a1, a2, a3, a4, a5, a6, a7⟩ := hargs c
  obtain ⟨r0, r1, r2, r3, hr⟩ := h c
  refine ⟨r0.trans ?_, r1.trans ?_, r2.trans ?_, r3.trans ?_, hr⟩
  · rw [MergeReferenceIdeal.Read.val_main_v32_eq, a0, a1, a2, a3, a4, a5, a6]
    exact MergeReferenceIdeal.Merge.v32_eq _ _ _ _ _ _ _
  · rw [MergeReferenceIdeal.Read.val_main_v43_eq, a1, a4, a5, a7]
    exact MergeReferenceIdeal.Merge.v43_eq _ _ _ _
  · rw [MergeReferenceIdeal.Read.val_main_v36_eq, a3, a4, a5, a7]
    exact MergeReferenceIdeal.Merge.v36_eq _ _ _ _
  · rw [MergeReferenceIdeal.Read.val_main_v44_eq, a0, a1, a2, a3, a4, a5, a7]
    exact MergeReferenceIdeal.Merge.v44_eq _ _ _ _ _ _ _

end Cert.Proof

end
-- ==== Proof.Project.Spec.lean ====
module

public import Idealize.ShloMosaic.Lib.Pipeline.ValueKit
public import proofs.«01_k».proof.Proof.Products.Spec

set_option maxRecDepth 16384

/-! # The root-mean-square norm of a stretch of columns, entry by entry -/

@[expose] public section
noncomputable section

open Idealize.ShloMosaic

namespace Project
open Conv

/-- Entry `k` of a row `x` of `w` values, divided by the root of its mean square and scaled by `g`: `n` is the number of
    values in a row, the word behind it the small number that keeps the root away from zero. -/
def rms (n : EReal) {w : Nat} (x : Fin w → EReal) (g : EReal) (k : Fin w) : EReal :=
  x k * Ideal.rsqrt (Ideal.div (∑ l, x l * x l) n + Ideal.ofBits FTy.f32 897988541#32) * g

/-- Column `k` of the key-value latent, which lies behind the query latent. -/
def kvCol (k : Fin 512) : Fin 2048 := ⟨k.val + 1536, by omega⟩
/-- Column `k` of the query latent. -/
def qCol (k : Fin 1536) : Fin 2048 := ⟨k.val, by omega⟩

/-- The norm of the key-value latent. -/
def normKv (X : Arr 8320 2048) (g : Arr 1 512) : Arr 8320 512 := fun j =>
  rms (Ideal.ofBits FTy.f32 1140850688#32) (fun k => X (ix2 (j 0) (kvCol k))) (g (ix2 0 (j 1))) (j 1)
/-- The norm of the query latent. -/
def normQ (X : Arr 8320 2048) (g : Arr 1 1536) : Arr 8320 1536 := fun j =>
  rms (Ideal.ofBits FTy.f32 1153433600#32) (fun k => X (ix2 (j 0) (qCol k))) (g (ix2 0 (j 1))) (j 1)

end Project

end
-- ==== Proof.NormQ.NormQ.lean ====
module

public import proofs.«01_k».proof.Proof.Gen.NormQIdeal.Value
public import proofs.«01_k».proof.Proof.Gen.NormQReferenceIdeal.Run
public import proofs.«01_k».proof.Proof.Gen.NormQReferenceIdeal.Read
public import proofs.«01_k».proof.Proof.Project.Spec
public import proofs.«01_k».proof.Defs
public import Idealize.ShloMosaic.Adequacy

set_option maxRecDepth 16384

/-! # The norm of the query latent -/

@[expose] public section
noncomputable section

open Idealize.ShloMosaic Idealize.ShloMosaic.TcCoe Idealize.SL.Sem

namespace Cert.NormQIdeal.Project
open Cert.NormQIdeal Cert.NormQIdeal.Gen _root_.Conv _root_.Products _root_.Project

theorem idx : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ) (c : Dev nD)

/-- The staged block is read off the array whole. -/
theorem block_at (t : Fin cfg0.N) (r : Fin 128) (k : Fin 1536) (n : Fin 8320) (hn : n.val = 128 * t.val + r.val) :
    X0_0 m c t (ix2 r k) = m ((c : Thread nD τ).loc main_arg0) (ix2 n (qCol k)) := by
  unfold X0_0 Pipeline.Window.fill
  rw [dif_pos (moved0_0 t _)]
  unfold qCol
  blk_point [iblk, V, idx t]

theorem final : (dats m 0 c).arrAt 2 cfg0.N = normQ (m ((c : Thread nD τ).loc main_arg0)) (m ((c : Thread nD τ).loc main_arg1)) := by
  refine (dats m 0 c).arrAt_eq_of_covers 2 _ (by decide +kernel) fun t _ y => ?_
  idx_vars y
  blk_simp
  rw [after0_2]; unfold outsAt0; frame_out
  pointwise [k0_pay1]
  have hr : ((((View.whole main_v0).slice (win0_2.rect t)).emb (ix2 y0 y1)) 0).val = 128 * t.val + y0.val := by
    blk_simp [idx t]; omega
  have hk : (((View.whole main_v0).slice (win0_2.rect t)).emb (ix2 y0 y1)) 1 = (y1 : Fin 1536) := by
    apply Fin.ext; blk_simp [idx t]
  unfold normQ rms
  rw [hk, block_at m c t y0 y1 _ hr]
  simp only [block_at m c t y0 _ _ hr]
  rw [show iblk m c 1 t (ix2 0 y1) = m ((c : Thread nD τ).loc main_arg1) (ix2 0 y1) by blk_point [iblk, V, idx t]]

end Cert.NormQIdeal.Project

namespace Cert.NormQReferenceIdeal.Project
open Cert.NormQReferenceIdeal Cert.NormQReferenceIdeal.Gen Cert.NormQReferenceIdeal.Read _root_.Conv _root_.Products _root_.Project

/-- The number zero. -/
theorem zero_f32 : (FloatOps.ofBits .f32 0x00000000#32 : Ideal .f32) = (0 : EReal) := by pointwise

variable (x : Arr 8320 2048) (g : Arr 1 1536)

theorem v1_at (n : Fin 8320) (k : Fin 1536) : val_main_v1 (F := Ideal) x (ix2 n k) = x (ix2 n (qCol k)) := by
  rw [val_main_v1_apply, val_main_v0_apply]
  exact congrArg x (ext2 rfl rfl)

theorem value : val_main_v15 (F := Ideal) x g = normQ x g := by
  funext j
  obtain ⟨n, k, rfl⟩ : ∃ (n : Fin 8320) (k : Fin 1536), j = ix2 n k := ⟨j 0, j 1, ext2 rfl rfl⟩
  rw [val_main_v15_apply, val_main_v14_apply, val_main_v12_apply, val_main_v13_apply, val_main_v11_apply, val_main_v10_apply, val_main_v9_apply,
    val_main_v8_apply, val_main_v7_apply, val_main_v6_apply, val_main_v5_apply, val_main_v4_apply, val_main_cst_apply, val_main_cst_0_apply,
    val_main_cst_1_apply, zero_f32, zero_add, v1_at]
  unfold normQ rms
  refine congrArg₂ (fun u v : EReal => u * v) (congrArg (fun u : EReal => x (ix2 n (qCol k)) * u) (congrArg Ideal.rsqrt
    (congrArg (fun u : EReal => Ideal.div u _ + _) (Finset.sum_congr rfl fun l _ => ?_)))) (congrArg g (ext2 rfl rfl))
  rw [val_main_v3_apply]
  rw [show idx_main_v4 (idx_main_v5 (idx_main_v11 (ix2 n k))) l = ix2 n l from ext2 rfl rfl, v1_at]
  rfl

end Cert.NormQReferenceIdeal.Project

namespace Cert.Proof

theorem algebraic_norm_q : Cert.algebraic_NormQIdeal_NormQReferenceIdeal := by
  intro m ρ m' ρ' _ hargs
  refine ⟨fun c => _root_.Project.normQ (m ((c.tc : Thread NormQIdeal.nD NormQIdeal.τ).loc NormQIdeal.main_arg0)) (m ((c.tc : Thread NormQIdeal.nD NormQIdeal.τ).loc NormQIdeal.main_arg1)), ?_, ?_⟩
  · refine (θ_run Cert.NormQIdeal.defs _ _).mono (fun r h c => ?_) (NormQIdeal.Value.run_blocks (F := Ideal) m ρ)
    exact ⟨(h c).1.trans (NormQIdeal.Project.final m c), (h c).2⟩
  · refine (θ_run Cert.NormQReferenceIdeal.defs _ _).mono (fun r h c => ?_) (NormQReferenceIdeal.Value.run (F := Ideal) m' ρ')
    obtain ⟨a0, a1⟩ := hargs c
    refine ⟨(h c).1.trans ?_, (h c).2⟩
    rw [NormQReferenceIdeal.Read.val_main_v15_eq, a0, a1]
    exact NormQReferenceIdeal.Project.value _ _

end Cert.Proof

end
-- ==== Proof.Products.DKvn.lean ====
module

public import proofs.«01_k».proof.Proof.Gen.DKvnIdeal.Value
public import proofs.«01_k».proof.Proof.Gen.DKvnReferenceIdeal.Run
public import proofs.«01_k».proof.Proof.Gen.DKvnReferenceIdeal.Read
public import proofs.«01_k».proof.Proof.Products.Spec
public import proofs.«01_k».proof.Defs
public import Idealize.ShloMosaic.Adequacy

set_option maxRecDepth 16384

/-! # The product `d_kvn`: a block is summed over two stretches of the contracted axis -/

@[expose] public section
noncomputable section

open Idealize.ShloMosaic Idealize.ShloMosaic.TcCoe Idealize.SL.Sem

namespace Cert.DKvnIdeal.Products
open Cert.DKvnIdeal Cert.DKvnIdeal.Gen _root_.Conv _root_.Products

theorem zero_at (j : S1664x512.Idx) : k0_pay1 (F := Ideal) j = 0 := by pointwise [k0_pay1]

theorem step_at (acc : FVec Ideal S1664x512 .f32) (x : FVec Ideal S1664x2048 .bf16) (y : FVec Ideal S512x2048 .bf16) (j : S1664x512.Idx) :
    k0_pay2 (F := Ideal) acc x y j = acc j + ∑ k : Fin 2048, x (ix2 (j 0) k) * y (ix2 (j 1) k) := by
  pointwise [k0_pay2]

theorem idx : ∀ t : Fin cfg0.N, win0_0.index t = ![t.val / 2, t.val % 2] ∧ win0_1.index t = ![0, t.val % 2]
    ∧ win0_2.index t = ![t.val / 2, 0] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 2 = 1) (j : S1664x512.Idx) : (outsAt0 m c t.val t.isLt).1 j = (outsAt0 m c t.val t.isLt).2 j := by
  have h0 : ¬ t.val % 2 = 0 := by omega
  rw [outsAt0_B m c t h0 h1]
  frame_out

theorem final : (dats m 0 c).arrAt 2 cfg0.N = mulNT (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 2 (fun _ => 0)
    (fun p j => ∑ k : Fin 2048, (show FVec Ideal S1664x2048 .bf16 from iblk m c 0 p) (ix2 (j 0) k) * (show FVec Ideal S512x2048 .bf16 from iblk m c 1 p) (ix2 (j 1) k))
    (fun t h j => by rw [outsAt0_A m c t h (by omega)]; frame_out; rw [step_at, zero_at])
    (fun t h j => by rw [outsAt0_B m c t h (by omega)]; frame_out; rw [step_at, (Memref.isWhole_whole cc0_scratch0).read_unread])
    t ((flush0_2 t).mp hf) _, zero_add]
  unfold mulNT
  refine Fin.sum_mul_add_congr fun s k hl => ?_
  blk_point [iblk, V, idx t, idx ⟨_, Pipeline.run_point_lt_of_flush t ((flush0_2 t).mp hf) s⟩]

end Cert.DKvnIdeal.Products

namespace Cert.DKvnReferenceIdeal.Products
open Cert.DKvnReferenceIdeal Cert.DKvnReferenceIdeal.Gen Cert.DKvnReferenceIdeal.Read _root_.Conv _root_.Products

theorem value (x : Arr 8320 4096) (y : Arr 512 4096) : val_main_v4 (F := Ideal) x y = mulNT x y := by
  funext i
  rw [val_main_v4_apply]
  refine Finset.sum_congr rfl fun k _ => ?_
  exact congrArg₂ (fun u v : EReal => u * v) (congrArg x (ext2 rfl rfl)) (congrArg y (ext2 rfl rfl))

end Cert.DKvnReferenceIdeal.Products

namespace Cert.Proof

theorem algebraic_d_kvn : Cert.algebraic_DKvnIdeal_DKvnReferenceIdeal := by
  intro m ρ m' ρ' _ hargs
  refine ⟨fun c => _root_.Conv.mulNT (m ((c.tc : Thread DKvnIdeal.nD DKvnIdeal.τ).loc DKvnIdeal.main_arg0)) (m ((c.tc : Thread DKvnIdeal.nD DKvnIdeal.τ).loc DKvnIdeal.main_arg1)), ?_, ?_⟩
  · refine (θ_run Cert.DKvnIdeal.defs _ _).mono (fun r h c => ?_) (DKvnIdeal.Value.run_blocks (F := Ideal) m ρ)
    exact ⟨(h c).1.trans (DKvnIdeal.Products.final m c), (h c).2⟩
  · refine (θ_run Cert.DKvnReferenceIdeal.defs _ _).mono (fun r h c => ?_) (DKvnReferenceIdeal.Value.run (F := Ideal) m' ρ')
    obtain ⟨a0, a1⟩ := hargs c
    refine ⟨(h c).1.trans ?_, (h c).2⟩
    rw [DKvnReferenceIdeal.Read.val_main_v4_eq, a0, a1]
    exact DKvnReferenceIdeal.Products.value _ _

end Cert.Proof

end
-- ==== Proof.Products.DQn.lean ====
module

public import proofs.«01_k».proof.Proof.Gen.DQnIdeal.Value
public import proofs.«01_k».proof.Proof.Gen.DQnReferenceIdeal.Run
public import proofs.«01_k».proof.Proof.Gen.DQnReferenceIdeal.Read
public import proofs.«01_k».proof.Proof.Products.Spec
public import proofs.«01_k».proof.Defs
public import Idealize.ShloMosaic.Adequacy

set_option maxRecDepth 16384

/-! # The product `d_qn`: a block is summed over two stretches of the contracted axis -/

@[expose] public section
noncomputable section

open Idealize.ShloMosaic Idealize.ShloMosaic.TcCoe Idealize.SL.Sem

namespace Cert.DQnIdeal.Products
open Cert.DQnIdeal Cert.DQnIdeal.Gen _root_.Conv _root_.Products

theorem zero_at (j : S1664x512.Idx) : k0_pay1 (F := Ideal) j = 0 := by pointwise [k0_pay1]

theorem step_at (acc : FVec Ideal S1664x512 .f32) (x : FVec Ideal S1664x2048 .bf16) (y : FVec Ideal S512x2048 .bf16) (j : S1664x512.Idx) :
    k0_pay2 (F := Ideal) acc x y j = acc j + ∑ k : Fin 2048, x (ix2 (j 0) k) * y (ix2 (j 1) k) := by
  pointwise [k0_pay2]

theorem idx : ∀ t : Fin cfg0.N, win0_0.index t = ![t.val / 6, t.val % 2] ∧ win0_1.index t = ![t.val / 2 % 3, t.val % 2]
    ∧ win0_2.index t = ![t.val / 6, t.val / 2 % 3] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 2 = 1) (j : S1664x512.Idx) : (outsAt0 m c t.val t.isLt).1 j = (outsAt0 m c t.val t.isLt).2 j := by
  have h0 : ¬ t.val % 2 = 0 := by omega
  rw [outsAt0_B m c t h0 h1]
  frame_out

theorem final : (dats m 0 c).arrAt 2 cfg0.N = mulNT (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 2 (fun _ => 0)
    (fun p j => ∑ k : Fin 2048, (show FVec Ideal S1664x2048 .bf16 from iblk m c 0 p) (ix2 (j 0) k) * (show FVec Ideal S512x2048 .bf16 from iblk m c 1 p) (ix2 (j 1) k))
    (fun t h j => by rw [outsAt0_A m c t h (by omega)]; frame_out; rw [step_at, zero_at])
    (fun t h j => by rw [outsAt0_B m c t h (by omega)]; frame_out; rw [step_at, (Memref.isWhole_whole cc0_scratch0).read_unread])
    t ((flush0_2 t).mp hf) _, zero_add]
  unfold mulNT
  refine Fin.sum_mul_add_congr fun s k hl => ?_
  blk_point [iblk, V, idx t, idx ⟨_, Pipeline.run_point_lt_of_flush t ((flush0_2 t).mp hf) s⟩]

end Cert.DQnIdeal.Products

namespace Cert.DQnReferenceIdeal.Products
open Cert.DQnReferenceIdeal Cert.DQnReferenceIdeal.Gen Cert.DQnReferenceIdeal.Read _root_.Conv _root_.Products

theorem value (x : Arr 8320 4096) (y : Arr 1536 4096) : val_main_v4 (F := Ideal) x y = mulNT x y := by
  funext i
  rw [val_main_v4_apply]
  refine Finset.sum_congr rfl fun k _ => ?_
  exact congrArg₂ (fun u v : EReal => u * v) (congrArg x (ext2 rfl rfl)) (congrArg y (ext2 rfl rfl))

end Cert.DQnReferenceIdeal.Products

namespace Cert.Proof

theorem algebraic_d_qn : Cert.algebraic_DQnIdeal_DQnReferenceIdeal := by
  intro m ρ m' ρ' _ hargs
  refine ⟨fun c => _root_.Conv.mulNT (m ((c.tc : Thread DQnIdeal.nD DQnIdeal.τ).loc DQnIdeal.main_arg0)) (m ((c.tc : Thread DQnIdeal.nD DQnIdeal.τ).loc DQnIdeal.main_arg1)), ?_, ?_⟩
  · refine (θ_run Cert.DQnIdeal.defs _ _).mono (fun r h c => ?_) (DQnIdeal.Value.run_blocks (F := Ideal) m ρ)
    exact ⟨(h c).1.trans (DQnIdeal.Products.final m c), (h c).2⟩
  · refine (θ_run Cert.DQnReferenceIdeal.defs _ _).mono (fun r h c => ?_) (DQnReferenceIdeal.Value.run (F := Ideal) m' ρ')
    obtain ⟨a0, a1⟩ := hargs c
    refine ⟨(h c).1.trans ?_, (h c).2⟩
    rw [DQnReferenceIdeal.Read.val_main_v4_eq, a0, a1]
    exact DQnReferenceIdeal.Products.value _ _

end Cert.Proof

end
-- ==== Proof.Products.DU1Gates.lean ====
module

public import proofs.«01_k».proof.Proof.Gen.DU1GatesIdeal.Value
public import proofs.«01_k».proof.Proof.Gen.DU1GatesReferenceIdeal.Run
public import proofs.«01_k».proof.Proof.Gen.DU1GatesReferenceIdeal.Read
public import proofs.«01_k».proof.Proof.Products.Spec
public import proofs.«01_k».proof.Defs
public import Idealize.ShloMosaic.Adequacy

set_option maxRecDepth 16384

/-! # The product `d_u1_gates`: a block is summed over two stretches of the contracted axis -/

@[expose] public section
noncomputable section

open Idealize.ShloMosaic Idealize.ShloMosaic.TcCoe Idealize.SL.Sem

namespace Cert.DU1GatesIdeal.Products
open Cert.DU1GatesIdeal Cert.DU1GatesIdeal.Gen _root_.Conv _root_.Products

theorem zero_at (j : S640x1024.Idx) : k0_pay1 (F := Ideal) j = 0 := by pointwise [k0_pay1]

theorem step_at (acc : FVec Ideal S640x1024 .f32) (x : FVec Ideal S640x2048 .bf16) (y : FVec Ideal S1024x2048 .bf16) (j : S640x1024.Idx) :
    k0_pay2 (F := Ideal) acc x y j = acc j + ∑ k : Fin 2048, x (ix2 (j 0) k) * y (ix2 (j 1) k) := by
  pointwise [k0_pay2]

theorem idx : ∀ t : Fin cfg0.N, win0_0.index t = ![t.val / 4, t.val % 2] ∧ win0_1.index t = ![t.val / 2 % 2, t.val % 2]
    ∧ win0_2.index t = ![t.val / 4, t.val / 2 % 2] ∧ win0_3.index t = ![t.val / 4, t.val / 2 % 2] :=
  (by decide +kernel : ∀ t : Fin grid0.N, _)

variable (m : (ℓ : Loc nD τ sig) → Buf (Elt Ideal) ℓ) (c : Dev nD)

/-- At the last point of a run the block is written from the accumulator and the addend. -/
theorem out_eq (t : Fin cfg0.N) (h1 : t.val % 2 = 1) (j : S640x1024.Idx) :
    (outsAt0 m c t.val t.isLt).1 j = (outsAt0 m c t.val t.isLt).2 j + (show FVec Ideal S640x1024 .f32 from iblk m c 2 t) j := by
  have h0 : ¬ t.val % 2 = 0 := by omega
  rw [outsAt0_B m c t h0 h1]
  frame_out
  pointwise [k0_pay3]

theorem final : (dats m 0 c).arrAt 3 cfg0.N = plus (m ((c : Thread nD τ).loc main_arg2)) (mulNT (m ((c : Thread nD τ).loc main_arg0)) (m ((c : Thread nD τ).loc main_arg1))) := by
  refine (dats m 0 c).arrAt_eq_of_covers 3 _ (by decide +kernel) fun t hf y => ?_
  blk_simp
  rw [after0_3, out_eq m c t ((flush0_3 t).mp hf), Pipeline.eq_sum_fin_of_reset_step_apply_of_flush (fun n h => (outsAt0 m c n h).2) 2 (fun _ => 0)
    (fun p j => ∑ k : Fin 2048, (show FVec Ideal S640x2048 .bf16 from iblk m c 0 p) (ix2 (j 0) k) * (show FVec Ideal S1024x2048 .bf16 from iblk m c 1 p) (ix2 (j 1) k))
    (fun t h j => by rw [outsAt0_A m c t h (by omega)]; frame_out; rw [step_at, zero_at])
    (fun t h j => by rw [outsAt0_B m c t h (by omega)]; frame_out; rw [step_at, (Memref.isWhole_whole cc0_scratch0).read_unread])
    t ((flush0_3 t).mp hf) _, zero_add]
  refine (add_comm (_ : EReal) _).trans ?_
  refine congrArg₂ (fun u v : EReal => u + v) ?_ ?_
  · blk_point [iblk, V, idx t]
  · unfold mulNT
    refine Fin.sum_mul_add_congr fun s k hl => ?_
    blk_point [iblk, V, idx t, idx ⟨_, Pipeline.run_point_lt_of_flush t ((flush0_3 t).mp hf) s⟩]

end Cert.DU1GatesIdeal.Products

namespace Cert.DU1GatesReferenceIdeal.Products
open Cert.DU1GatesReferenceIdeal Cert.DU1GatesReferenceIdeal.Gen Cert.DU1GatesReferenceIdeal.Read _root_.Conv _root_.Products

theorem value (x : Arr 8320 4096) (y : Arr 2048 4096) (r : Arr 8320 2048) : val_main_v5 (F := Ideal) x y r = plus r (mulNT x y) := by
  funext i
  rw [val_main_v5_apply]
  rw [val_main_v4_apply]
  refine congrArg (fun v : EReal => r i + v) ?_
  refine Finset.sum_congr rfl fun k _ => ?_
  exact congrArg₂ (fun u v : EReal => u * v) (congrArg x (ext2 rfl rfl)) (congrArg y (ext2 rfl rfl))

end Cert.DU1GatesReferenceIdeal.Products

namespace Cert.Proof

theorem algebraic_d_u1_gates : Cert.algebraic_DU1GatesIdeal_DU1GatesReferenceIdeal := by
  intro m ρ m' ρ' _ hargs
  refine ⟨fun c => _root_.Products.plus (m ((c.tc : Thread DU1GatesIdeal.nD DU1GatesIdeal.τ).loc DU1GatesIdeal.main_arg2)) (_root_.Conv.mulNT (m ((c.tc : Thread DU1GatesIdeal.nD DU1GatesIdeal.τ).loc DU1GatesIdeal.main_arg0)) (m ((c.tc : Thread DU1GatesIdeal.nD DU1GatesIdeal.τ).loc DU1GatesIdeal.main_arg1))), ?_, ?_⟩
  · refine (θ_run Cert.DU1GatesIdeal.defs _ _).mono (fun r h c => ?_) (DU1GatesIdeal.Value.run_blocks (F := Ideal) m ρ)
    exact ⟨(h c).1.trans (DU1GatesIdeal.Products.final m c), (h c).2⟩
  · refine (θ_run Cert.DU1GatesReferenceIdeal.defs _ _).mono (fun r h c => ?_) (DU1GatesReferenceIdeal.Value.run (F := Ideal) m' ρ')
    obtain ⟨a0, a1, a2⟩ := hargs c
    refine ⟨(h c).1.trans ?_, (h c).2⟩
    rw [DU1GatesReferenceIdeal.Read.val_main_v5_eq, a0, a1, a2]
    exact DU1GatesReferenceIdeal.Products.value _ _ _

end Cert.Proof

end
-- ==== Proof.Products.DU1Hgrn.lean ====
module

public import proofs.«01_k».proof.Proof.Gen.DU1HgrnIdeal.Value
public import proofs.«01_k».proof.Proof.Gen.DU1HgrnReferenceIdeal.Run
public import proofs.«01_k».proof.Proof.Gen.DU1HgrnReferenceIdeal.Read
public import proofs.«01_k».proof.Proof.Products.Spec
public import proofs.«01_k».proof.Defs
public import Idealize.ShloMosaic.Adequacy

set_option maxRecDepth 16384

/-! # The product `d_u1_hgrn`: a block is summed over four stretches of the contracted axis -/

@[expose] public section
noncomputable section

open Idealize.ShloMosaic Idealize.ShloMosaic.TcCoe Idealize.SL.Sem

namespace Cert.DU1HgrnIdeal.Products
open Cert.DU1HgrnIdeal Cert.DU1HgrnIdeal.Gen _root_.Conv _root_.Products

theorem zero_at (j : S640x1024.Idx) : k0_pay1 (F := Ideal) j = 0 := by pointwise [k0_pay1]

theorem step_at (acc : FVec Ideal S640x1024 .f32) (x : FVec Ideal S640x2048 .bf16) (y : FVec Ideal S1024x2048 .bf16) (j : S640x1024.Idx) :
    k0_pay2 (F := Ideal) acc x y j = acc j + ∑ k : Fin 2048, x (ix2 (j 0) k) * y (ix2 (j 1) k) := by
  pointwise [k0_pay2]

theorem idx : ∀ t : Fin cfg0.N, win0_0.index t = ![t.val / 8, t.val % 4] ∧ win0_1.index t = ![t.val / 4 % 2, t.val % 4]
    ∧ win0_2.index t = ![t.val / 8, t.val / 4 % 2] ∧ win0_3.index t = ![t.val / 8, t.val / 4 % 2] :=
  (by decide +kernel : ∀ t : Fin grid0.N, _)

variable (m : (ℓ : Loc nD τ sig) → Buf (Elt Ideal) ℓ) (c : Dev nD)

/-- At the last point of a run the block is written from the accumulator and the addend. -/
theorem out_eq (t : Fin cfg0.N) (h1 : t.val % 4 = 3) (j : S640x1024.Idx) :
    (outsAt0 m c t.val t.isLt).1 j = (outsAt0 m c t.val t.isLt).2 j + (show FVec Ideal S640x1024 .f32 from iblk m c 2 t) j := by
  have h0 : ¬ t.val % 4 = 0 := by omega
  rw [outsAt0_C m c t h0 h1]
  frame_out
  pointwise [k0_pay3]

theorem final : (dats m 0 c).arrAt 3 cfg0.N = plus (m ((c : Thread nD τ).loc main_arg2)) (mulNT (m ((c : Thread nD τ).loc main_arg0)) (m ((c : Thread nD τ).loc main_arg1))) := by
  refine (dats m 0 c).arrAt_eq_of_covers 3 _ (by decide +kernel) fun t hf y => ?_
  blk_simp
  rw [after0_3, out_eq m c t ((flush0_3 t).mp hf), Pipeline.eq_sum_fin_of_reset_step_apply_of_flush (fun n h => (outsAt0 m c n h).2) 4 (fun _ => 0)
    (fun p j => ∑ k : Fin 2048, (show FVec Ideal S640x2048 .bf16 from iblk m c 0 p) (ix2 (j 0) k) * (show FVec Ideal S1024x2048 .bf16 from iblk m c 1 p) (ix2 (j 1) k))
    (fun t h j => by rw [outsAt0_A m c t h (by omega)]; frame_out; rw [step_at, zero_at])
    (fun t h j => by
      by_cases h1 : t.val % 4 = 3
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_3 t).mp hf) _, zero_add]
  refine (add_comm (_ : EReal) _).trans ?_
  refine congrArg₂ (fun u v : EReal => u + v) ?_ ?_
  · blk_point [iblk, V, idx t]
  · unfold mulNT
    refine Fin.sum_mul_add_congr fun s k hl => ?_
    blk_point [iblk, V, idx t, idx ⟨_, Pipeline.run_point_lt_of_flush t ((flush0_3 t).mp hf) s⟩]

end Cert.DU1HgrnIdeal.Products

namespace Cert.DU1HgrnReferenceIdeal.Products
open Cert.DU1HgrnReferenceIdeal Cert.DU1HgrnReferenceIdeal.Gen Cert.DU1HgrnReferenceIdeal.Read _root_.Conv _root_.Products

theorem value (x : Arr 8320 8192) (y : Arr 2048 8192) (r : Arr 8320 2048) : val_main_v5 (F := Ideal) x y r = plus r (mulNT x y) := by
  funext i
  rw [val_main_v5_apply]
  rw [val_main_v4_apply]
  refine congrArg (fun v : EReal => r i + v) ?_
  refine Finset.sum_congr rfl fun k _ => ?_
  exact congrArg₂ (fun u v : EReal => u * v) (congrArg x (ext2 rfl rfl)) (congrArg y (ext2 rfl rfl))

end Cert.DU1HgrnReferenceIdeal.Products

namespace Cert.Proof

theorem algebraic_d_u1_hgrn : Cert.algebraic_DU1HgrnIdeal_DU1HgrnReferenceIdeal := by
  intro m ρ m' ρ' _ hargs
  refine ⟨fun c => _root_.Products.plus (m ((c.tc : Thread DU1HgrnIdeal.nD DU1HgrnIdeal.τ).loc DU1HgrnIdeal.main_arg2)) (_root_.Conv.mulNT (m ((c.tc : Thread DU1HgrnIdeal.nD DU1HgrnIdeal.τ).loc DU1HgrnIdeal.main_arg0)) (m ((c.tc : Thread DU1HgrnIdeal.nD DU1HgrnIdeal.τ).loc DU1HgrnIdeal.main_arg1))), ?_, ?_⟩
  · refine (θ_run Cert.DU1HgrnIdeal.defs _ _).mono (fun r h c => ?_) (DU1HgrnIdeal.Value.run_blocks (F := Ideal) m ρ)
    exact ⟨(h c).1.trans (DU1HgrnIdeal.Products.final m c), (h c).2⟩
  · refine (θ_run Cert.DU1HgrnReferenceIdeal.defs _ _).mono (fun r h c => ?_) (DU1HgrnReferenceIdeal.Value.run (F := Ideal) m' ρ')
    obtain ⟨a0, a1, a2⟩ := hargs c
    refine ⟨(h c).1.trans ?_, (h c).2⟩
    rw [DU1HgrnReferenceIdeal.Read.val_main_v5_eq, a0, a1, a2]
    exact DU1HgrnReferenceIdeal.Products.value _ _ _

end Cert.Proof

end
-- ==== Proof.Products.DU1Krope.lean ====
module

public import proofs.«01_k».proof.Proof.Gen.DU1KropeIdeal.Value
public import proofs.«01_k».proof.Proof.Gen.DU1KropeReferenceIdeal.Run
public import proofs.«01_k».proof.Proof.Gen.DU1KropeReferenceIdeal.Read
public import proofs.«01_k».proof.Proof.Products.Spec
public import proofs.«01_k».proof.Defs
public import Idealize.ShloMosaic.Adequacy

set_option maxRecDepth 16384

/-! # The product `d_u1_krope`: every block in one step -/

@[expose] public section
noncomputable section

open Idealize.ShloMosaic Idealize.ShloMosaic.TcCoe Idealize.SL.Sem

namespace Cert.DU1KropeIdeal.Products
open Cert.DU1KropeIdeal Cert.DU1KropeIdeal.Gen _root_.Conv _root_.Products

theorem idx : ∀ t : Fin cfg0.N, win0_0.index t = ![t.val / 2, 0] ∧ win0_1.index t = ![t.val % 2, 0]
    ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ) (c : Dev nD)

theorem final : (dats m 0 c).arrAt 3 cfg0.N = plus (m ((c : Thread nD τ).loc main_arg2)) (mulNT (m ((c : Thread nD τ).loc main_arg0)) (m ((c : Thread nD τ).loc main_arg1))) := by
  refine (dats m 0 c).arrAt_eq_of_covers 3 _ (by decide +kernel) fun t _ y => ?_
  blk_simp
  rw [after0_3]; frame_out
  pointwise [k0_pay1, plus, mulNT]
  refine (add_comm (_ : EReal) _).trans ?_
  blk_point [iblk, V, idx t]

end Cert.DU1KropeIdeal.Products

namespace Cert.DU1KropeReferenceIdeal.Products
open Cert.DU1KropeReferenceIdeal Cert.DU1KropeReferenceIdeal.Gen Cert.DU1KropeReferenceIdeal.Read _root_.Conv _root_.Products

theorem value (x : Arr 8320 128) (y : Arr 2048 128) (r : Arr 8320 2048) : val_main_v5 (F := Ideal) x y r = plus r (mulNT x y) := by
  funext i
  rw [val_main_v5_apply]
  rw [val_main_v4_apply]
  refine congrArg (fun v : EReal => r i + v) ?_
  refine Finset.sum_congr rfl fun k _ => ?_
  exact congrArg₂ (fun u v : EReal => u * v) (congrArg x (ext2 rfl rfl)) (congrArg y (ext2 rfl rfl))

end Cert.DU1KropeReferenceIdeal.Products

namespace Cert.Proof

theorem algebraic_d_u1_krope : Cert.algebraic_DU1KropeIdeal_DU1KropeReferenceIdeal := by
  intro m ρ m' ρ' _ hargs
  refine ⟨fun c => _root_.Products.plus (m ((c.tc : Thread DU1KropeIdeal.nD DU1KropeIdeal.τ).loc DU1KropeIdeal.main_arg2)) (_root_.Conv.mulNT (m ((c.tc : Thread DU1KropeIdeal.nD DU1KropeIdeal.τ).loc DU1KropeIdeal.main_arg0)) (m ((c.tc : Thread DU1KropeIdeal.nD DU1KropeIdeal.τ).loc DU1KropeIdeal.main_arg1))), ?_, ?_⟩
  · refine (θ_run Cert.DU1KropeIdeal.defs _ _).mono (fun r h c => ?_) (DU1KropeIdeal.Value.run_blocks (F := Ideal) m ρ)
    exact ⟨(h c).1.trans (DU1KropeIdeal.Products.final m c), (h c).2⟩
  · refine (θ_run Cert.DU1KropeReferenceIdeal.defs _ _).mono (fun r h c => ?_) (DU1KropeReferenceIdeal.Value.run (F := Ideal) m' ρ')
    obtain ⟨a0, a1, a2⟩ := hargs c
    refine ⟨(h c).1.trans ?_, (h c).2⟩
    rw [DU1KropeReferenceIdeal.Read.val_main_v5_eq, a0, a1, a2]
    exact DU1KropeReferenceIdeal.Products.value _ _ _

end Cert.Proof

end
-- ==== Proof.Products.DU1Lat.lean ====
module

public import proofs.«01_k».proof.Proof.Gen.DU1LatIdeal.Value
public import proofs.«01_k».proof.Proof.Gen.DU1LatReferenceIdeal.Run
public import proofs.«01_k».proof.Proof.Gen.DU1LatReferenceIdeal.Read
public import proofs.«01_k».proof.Proof.Products.Spec
public import proofs.«01_k».proof.Defs
public import Idealize.ShloMosaic.Adequacy

set_option maxRecDepth 16384

/-! # The product `d_u1_lat`: every block in one step -/

@[expose] public section
noncomputable section

open Idealize.ShloMosaic Idealize.ShloMosaic.TcCoe Idealize.SL.Sem

namespace Cert.DU1LatIdeal.Products
open Cert.DU1LatIdeal Cert.DU1LatIdeal.Gen _root_.Conv _root_.Products

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

variable (m : (ℓ : Loc nD τ sig) → Buf (Elt Ideal) ℓ) (c : Dev nD)

theorem final : (dats m 0 c).arrAt 2 cfg0.N = mulNT (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, mulNT]
  blk_point [iblk, V, idx t]

end Cert.DU1LatIdeal.Products

namespace Cert.DU1LatReferenceIdeal.Products
open Cert.DU1LatReferenceIdeal Cert.DU1LatReferenceIdeal.Gen Cert.DU1LatReferenceIdeal.Read _root_.Conv _root_.Products

theorem value (x : Arr 8320 2048) (y : Arr 2048 2048) : val_main_v4 (F := Ideal) x y = mulNT x y := by
  funext i
  rw [val_main_v4_apply]
  refine Finset.sum_congr rfl fun k _ => ?_
  exact congrArg₂ (fun u v : EReal => u * v) (congrArg x (ext2 rfl rfl)) (congrArg y (ext2 rfl rfl))

end Cert.DU1LatReferenceIdeal.Products

namespace Cert.Proof

theorem algebraic_d_u1_lat : Cert.algebraic_DU1LatIdeal_DU1LatReferenceIdeal := by
  intro m ρ m' ρ' _ hargs
  refine ⟨fun c => _root_.Conv.mulNT (m ((c.tc : Thread DU1LatIdeal.nD DU1LatIdeal.τ).loc DU1LatIdeal.main_arg0)) (m ((c.tc : Thread DU1LatIdeal.nD DU1LatIdeal.τ).loc DU1LatIdeal.main_arg1)), ?_, ?_⟩
  · refine (θ_run Cert.DU1LatIdeal.defs _ _).mono (fun r h c => ?_) (DU1LatIdeal.Value.run_blocks (F := Ideal) m ρ)
    exact ⟨(h c).1.trans (DU1LatIdeal.Products.final m c), (h c).2⟩
  · refine (θ_run Cert.DU1LatReferenceIdeal.defs _ _).mono (fun r h c => ?_) (DU1LatReferenceIdeal.Value.run (F := Ideal) m' ρ')
    obtain ⟨a0, a1⟩ := hargs c
    refine ⟨(h c).1.trans ?_, (h c).2⟩
    rw [DU1LatReferenceIdeal.Read.val_main_v4_eq, a0, a1]
    exact DU1LatReferenceIdeal.Products.value _ _

end Cert.Proof

end
-- ==== Proof.Products.DU2.lean ====
module

public import proofs.«01_k».proof.Proof.Gen.DU2Ideal.Value
public import proofs.«01_k».proof.Proof.Gen.DU2ReferenceIdeal.Run
public import proofs.«01_k».proof.Proof.Gen.DU2ReferenceIdeal.Read
public import proofs.«01_k».proof.Proof.Products.Spec
public import proofs.«01_k».proof.Defs
public import Idealize.ShloMosaic.Adequacy

set_option maxRecDepth 16384

/-! # The product `d_u2`: a block is summed over eight stretches of the contracted axis -/

@[expose] public section
noncomputable section

open Idealize.ShloMosaic Idealize.ShloMosaic.TcCoe Idealize.SL.Sem

namespace Cert.DU2Ideal.Products
open Cert.DU2Ideal Cert.DU2Ideal.Gen _root_.Conv _root_.Products

theorem zero_at (j : S1664x1024.Idx) : k0_pay1 (F := Ideal) j = 0 := by pointwise [k0_pay1]

theorem step_at (acc : FVec Ideal S1664x1024 .f32) (x : FVec Ideal S1664x1408 .bf16) (y : FVec Ideal S1024x1408 .bf16) (j : S1664x1024.Idx) :
    k0_pay2 (F := Ideal) acc x y j = acc j + ∑ k : Fin 1408, x (ix2 (j 0) k) * y (ix2 (j 1) k) := by
  pointwise [k0_pay2]

theorem idx : ∀ t : Fin cfg0.N, win0_0.index t = ![t.val / 16, t.val % 8] ∧ win0_1.index t = ![t.val / 8 % 2, t.val % 8]
    ∧ win0_2.index t = ![t.val / 16, t.val / 8 % 2] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 8 = 7) (j : S1664x1024.Idx) : (outsAt0 m c t.val t.isLt).1 j = (outsAt0 m c t.val t.isLt).2 j := by
  have h0 : ¬ t.val % 8 = 0 := by omega
  rw [outsAt0_C m c t h0 h1]
  frame_out

theorem final : (dats m 0 c).arrAt 2 cfg0.N = mulNT (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 8 (fun _ => 0)
    (fun p j => ∑ k : Fin 1408, (show FVec Ideal S1664x1408 .bf16 from iblk m c 0 p) (ix2 (j 0) k) * (show FVec Ideal S1024x1408 .bf16 from iblk m c 1 p) (ix2 (j 1) k))
    (fun t h j => by rw [outsAt0_A m c t h (by omega)]; frame_out; rw [step_at, zero_at])
    (fun t h j => by
      by_cases h1 : t.val % 8 = 7
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_2 t).mp hf) _, zero_add]
  unfold mulNT
  refine Fin.sum_mul_add_congr fun s k hl => ?_
  blk_point [iblk, V, idx t, idx ⟨_, Pipeline.run_point_lt_of_flush t ((flush0_2 t).mp hf) s⟩]

end Cert.DU2Ideal.Products

namespace Cert.DU2ReferenceIdeal.Products
open Cert.DU2ReferenceIdeal Cert.DU2ReferenceIdeal.Gen Cert.DU2ReferenceIdeal.Read _root_.Conv _root_.Products

theorem value (x : Arr 8320 11264) (y : Arr 2048 11264) : val_main_v4 (F := Ideal) x y = mulNT x y := by
  funext i
  rw [val_main_v4_apply]
  refine Finset.sum_congr rfl fun k _ => ?_
  exact congrArg₂ (fun u v : EReal => u * v) (congrArg x (ext2 rfl rfl)) (congrArg y (ext2 rfl rfl))

end Cert.DU2ReferenceIdeal.Products

namespace Cert.Proof

theorem algebraic_d_u2 : Cert.algebraic_DU2Ideal_DU2ReferenceIdeal := by
  intro m ρ m' ρ' _ hargs
  refine ⟨fun c => _root_.Conv.mulNT (m ((c.tc : Thread DU2Ideal.nD DU2Ideal.τ).loc DU2Ideal.main_arg0)) (m ((c.tc : Thread DU2Ideal.nD DU2Ideal.τ).loc DU2Ideal.main_arg1)), ?_, ?_⟩
  · refine (θ_run Cert.DU2Ideal.defs _ _).mono (fun r h c => ?_) (DU2Ideal.Value.run_blocks (F := Ideal) m ρ)
    exact ⟨(h c).1.trans (DU2Ideal.Products.final m c), (h c).2⟩
  · refine (θ_run Cert.DU2ReferenceIdeal.defs _ _).mono (fun r h c => ?_) (DU2ReferenceIdeal.Value.run (F := Ideal) m' ρ')
    obtain ⟨a0, a1⟩ := hargs c
    refine ⟨(h c).1.trans ?_, (h c).2⟩
    rw [DU2ReferenceIdeal.Read.val_main_v4_eq, a0, a1]
    exact DU2ReferenceIdeal.Products.value _ _

end Cert.Proof

end
-- ==== Proof.Products.DwBranch.lean ====
module

public import proofs.«01_k».proof.Proof.Gen.DwBranchIdeal.Value
public import proofs.«01_k».proof.Proof.Gen.DwBranchReferenceIdeal.Run
public import proofs.«01_k».proof.Proof.Gen.DwBranchReferenceIdeal.Read
public import proofs.«01_k».proof.Proof.Products.Spec
public import proofs.«01_k».proof.Defs
public import Idealize.ShloMosaic.Adequacy

set_option maxRecDepth 16384

/-! # The product `dw_branch_mla`: a block is summed over five stretches of the contracted axis -/

@[expose] public section
noncomputable section

open Idealize.ShloMosaic Idealize.ShloMosaic.TcCoe Idealize.SL.Sem

namespace Cert.DwBranchIdeal.Products
open Cert.DwBranchIdeal Cert.DwBranchIdeal.Gen _root_.Conv _root_.Products

theorem zero_at (j : S1024x1024.Idx) : k0_pay1 (F := Ideal) j = 0 := by pointwise [k0_pay1]

theorem step_at (acc : FVec Ideal S1024x1024 .f32) (x : FVec Ideal S1664x1024 .bf16) (y : FVec Ideal S1664x1024 .bf16) (j : S1024x1024.Idx) :
    k0_pay2 (F := Ideal) acc x y j = acc j + ∑ k : Fin 1664, x (ix2 k (j 0)) * y (ix2 k (j 1)) := by
  pointwise [k0_pay2]

theorem idx : ∀ t : Fin cfg0.N, win0_0.index t = ![t.val % 5, t.val / 10] ∧ win0_1.index t = ![t.val % 5, t.val / 5 % 2]
    ∧ win0_2.index t = ![t.val / 10, t.val / 5 % 2] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 5 = 4) (j : S1024x1024.Idx) : (outsAt0 m c t.val t.isLt).1 j = (outsAt0 m c t.val t.isLt).2 j := by
  have h0 : ¬ t.val % 5 = 0 := by omega
  rw [outsAt0_C m c t h0 h1]
  frame_out

theorem final : (dats m 0 c).arrAt 2 cfg0.N = mulTN (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 5 (fun _ => 0)
    (fun p j => ∑ k : Fin 1664, (show FVec Ideal S1664x1024 .bf16 from iblk m c 0 p) (ix2 k (j 0)) * (show FVec Ideal S1664x1024 .bf16 from iblk m c 1 p) (ix2 k (j 1)))
    (fun t h j => by rw [outsAt0_A m c t h (by omega)]; frame_out; rw [step_at, zero_at])
    (fun t h j => by
      by_cases h1 : t.val % 5 = 4
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_2 t).mp hf) _, zero_add]
  unfold mulTN
  refine Fin.sum_mul_add_congr fun s k hl => ?_
  blk_point [iblk, V, idx t, idx ⟨_, Pipeline.run_point_lt_of_flush t ((flush0_2 t).mp hf) s⟩]

end Cert.DwBranchIdeal.Products

namespace Cert.DwBranchReferenceIdeal.Products
open Cert.DwBranchReferenceIdeal Cert.DwBranchReferenceIdeal.Gen Cert.DwBranchReferenceIdeal.Read _root_.Conv _root_.Products

theorem value (x : Arr 8320 2048) (y : Arr 8320 2048) : val_main_v5 (F := Ideal) x y = mulTN x y := by
  funext i
  rw [val_main_v5_apply, val_main_v4_apply]
  refine Finset.sum_congr rfl fun k _ => ?_
  rw [mul_comm]
  exact congrArg₂ (fun u v : EReal => u * v) (congrArg x (ext2 rfl rfl)) (congrArg y (ext2 rfl rfl))

end Cert.DwBranchReferenceIdeal.Products

namespace Cert.Proof

theorem algebraic_dw_branch_mla : Cert.algebraic_DwBranchIdeal_DwBranchReferenceIdeal := by
  intro m ρ m' ρ' _ hargs
  refine ⟨fun c => _root_.Products.mulTN (m ((c.tc : Thread DwBranchIdeal.nD DwBranchIdeal.τ).loc DwBranchIdeal.main_arg0)) (m ((c.tc : Thread DwBranchIdeal.nD DwBranchIdeal.τ).loc DwBranchIdeal.main_arg1)), ?_, ?_⟩
  · refine (θ_run Cert.DwBranchIdeal.defs _ _).mono (fun r h c => ?_) (DwBranchIdeal.Value.run_blocks (F := Ideal) m ρ)
    exact ⟨(h c).1.trans (DwBranchIdeal.Products.final m c), (h c).2⟩
  · refine (θ_run Cert.DwBranchReferenceIdeal.defs _ _).mono (fun r h c => ?_) (DwBranchReferenceIdeal.Value.run (F := Ideal) m' ρ')
    obtain ⟨a0, a1⟩ := hargs c
    refine ⟨(h c).1.trans ?_, (h c).2⟩
    rw [DwBranchReferenceIdeal.Read.val_main_v5_eq, a0, a1]
    exact DwBranchReferenceIdeal.Products.value _ _

end Cert.Proof

end
-- ==== Proof.Products.DwFfnIn.lean ====
module

public import proofs.«01_k».proof.Proof.Gen.DwFfnInIdeal.Value
public import proofs.«01_k».proof.Proof.Gen.DwFfnInReferenceIdeal.Run
public import proofs.«01_k».proof.Proof.Gen.DwFfnInReferenceIdeal.Read
public import proofs.«01_k».proof.Proof.Products.Spec
public import proofs.«01_k».proof.Defs
public import Idealize.ShloMosaic.Adequacy

set_option maxRecDepth 16384

/-! # The product `dw_ffn_in`: a block is summed over five stretches of the contracted axis -/

@[expose] public section
noncomputable section

open Idealize.ShloMosaic Idealize.ShloMosaic.TcCoe Idealize.SL.Sem

namespace Products
open Conv

/-- Column `b` of shard `n`, as a column of the whole array. -/
def shardCol (n : Fin 4) (b : Fin 2816) : Fin 11264 := ⟨2816 * n.val + b.val, by omega⟩

/-- The gradient of a weight whose columns are kept in four shards. -/
def shardsTN (X : Arr 8320 2048) (Y : Arr 8320 11264) : (⟨3, ![4, 2048, 2816]⟩ : Shape).Idx → EReal := fun j =>
  ∑ k : Fin 8320, X (ix2 k (j 1)) * Y (ix2 k (shardCol (j 0) (j 2)))

end Products

namespace Cert.DwFfnInIdeal.Products
open Cert.DwFfnInIdeal Cert.DwFfnInIdeal.Gen _root_.Conv _root_.Products

theorem zero_at (j : S1024x1408.Idx) : k0_pay1 (F := Ideal) j = 0 := by pointwise [k0_pay1]

theorem step_at (acc : FVec Ideal S1024x1408 .f32) (x : FVec Ideal S1664x1024 .bf16) (y : FVec Ideal S1664x1408 .bf16) (j : S1024x1408.Idx) :
    k0_pay2 (F := Ideal) acc x y j = acc j + ∑ k : Fin 1664, x (ix2 k (j 0)) * y (ix2 k (j 1)) := by
  pointwise [k0_pay2]

theorem idx : ∀ t : Fin cfg0.N, win0_0.index t = ![t.val % 5, t.val / 40] ∧ win0_1.index t = ![t.val % 5, t.val / 5 % 8]
    ∧ win0_2.index t = ![t.val / 5 % 8 / 2, t.val / 40, t.val / 5 % 8 % 2] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 5 = 4) (j : S1x1024x1408.Idx) :
    (outsAt0 m c t.val t.isLt).1 j = (outsAt0 m c t.val t.isLt).2 (ix2 (j 1) (j 2)) := by
  have h0 : ¬ t.val % 5 = 0 := by omega
  rw [outsAt0_C m c t h0 h1]
  frame_out
  pointwise [k0_pay3]

theorem final : (dats m 0 c).arrAt 2 cfg0.N = shardsTN (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 5 (fun _ => 0)
    (fun p j => ∑ k : Fin 1664, (show FVec Ideal S1664x1024 .bf16 from iblk m c 0 p) (ix2 k (j 0)) * (show FVec Ideal S1664x1408 .bf16 from iblk m c 1 p) (ix2 k (j 1)))
    (fun t h j => by rw [outsAt0_A m c t h (by omega)]; frame_out; rw [step_at, zero_at])
    (fun t h j => by
      by_cases h1 : t.val % 5 = 4
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_2 t).mp hf) _, zero_add]
  unfold shardsTN shardCol
  refine Fin.sum_mul_add_congr fun s k hl => ?_
  blk_point [iblk, V, idx t, idx ⟨_, Pipeline.run_point_lt_of_flush t ((flush0_2 t).mp hf) s⟩]

end Cert.DwFfnInIdeal.Products

namespace Cert.DwFfnInReferenceIdeal.Products
open Cert.DwFfnInReferenceIdeal Cert.DwFfnInReferenceIdeal.Gen Cert.DwFfnInReferenceIdeal.Read _root_.Conv _root_.Products

/-- The weight's whole gradient. -/
theorem v5_at (x : Arr 8320 2048) (y : Arr 8320 11264) (i : S2048x11264.Idx) : val_main_v5 (F := Ideal) x y i = mulTN x y i := by
  rw [val_main_v5_apply, val_main_v4_apply]
  refine Finset.sum_congr rfl fun k _ => ?_
  rw [mul_comm]
  exact congrArg₂ (fun u v : EReal => u * v) (congrArg x (ext2 rfl rfl)) (congrArg y (ext2 rfl rfl))

/-- The four column ranges, one per shard. -/
def parts (x : Arr 8320 2048) (y : Arr 8320 11264) (n : Fin 4) : S1x2048x2816.Idx → EReal :=
  match n with
  | ⟨0, _⟩ => val_main_v10 (F := Ideal) x y
  | ⟨1, _⟩ => val_main_v11 (F := Ideal) x y
  | ⟨2, _⟩ => val_main_v12 (F := Ideal) x y
  | ⟨3, _⟩ => val_main_v13 (F := Ideal) x y

theorem parts_at (x : Arr 8320 2048) (y : Arr 8320 11264) (n : Fin 4) (a : Fin 2048) (b : Fin 2816) :
    parts x y n (ix3 (0 : Fin 1) a b) = ∑ k : Fin 8320, x (ix2 k a) * y (ix2 k (shardCol n b)) := by
  match n with
  | ⟨0, _⟩ =>
    show val_main_v10 (F := Ideal) x y _ = _
    rw [val_main_v10_apply, val_main_v6_apply, v5_at]
    exact Finset.sum_congr rfl fun k _ => congrArg₂ (fun u v : EReal => u * v) rfl (congrArg y (ext2 rfl (by show b.val = 2816 * 0 + b.val; omega)))
  | ⟨1, _⟩ =>
    show val_main_v11 (F := Ideal) x y _ = _
    rw [val_main_v11_apply, val_main_v7_apply, v5_at]
    exact Finset.sum_congr rfl fun k _ => congrArg₂ (fun u v : EReal => u * v) rfl (congrArg y (ext2 rfl rfl))
  | ⟨2, _⟩ =>
    show val_main_v12 (F := Ideal) x y _ = _
    rw [val_main_v12_apply, val_main_v8_apply, v5_at]
    exact Finset.sum_congr rfl fun k _ => congrArg₂ (fun u v : EReal => u * v) rfl (congrArg y (ext2 rfl rfl))
  | ⟨3, _⟩ =>
    show val_main_v13 (F := Ideal) x y _ = _
    rw [val_main_v13_apply, val_main_v9_apply, v5_at]
    exact Finset.sum_congr rfl fun k _ => congrArg₂ (fun u v : EReal => u * v) rfl (congrArg y (ext2 rfl rfl))

theorem value (x : Arr 8320 2048) (y : Arr 8320 11264) : val_main_v14 (F := Ideal) x y = shardsTN x y := by
  funext i
  refine Eq.trans ?_ ((concatenate_ofFn_unit_apply (t := S4x2048x2816) (s₁ := S1x2048x2816) 0 (parts x y)
    concatenates_S1x2048x2816_S1x2048x2816_S1x2048x2816_S1x2048x2816_S4x2048x2816_d0 rfl rfl i (i 0) rfl (ix3 (0 : Fin 1) (i 1) (i 2))
    (fun b hb => match b with
      | ⟨0, _⟩ => absurd rfl hb
      | ⟨1, _⟩ => rfl
      | ⟨2, _⟩ => rfl)).trans (parts_at x y (i 0) (i 1) (i 2)))
  rfl

end Cert.DwFfnInReferenceIdeal.Products

namespace Cert.Proof

theorem algebraic_dw_ffn_in : Cert.algebraic_DwFfnInIdeal_DwFfnInReferenceIdeal := by
  intro m ρ m' ρ' _ hargs
  refine ⟨fun c => _root_.Products.shardsTN (m ((c.tc : Thread DwFfnInIdeal.nD DwFfnInIdeal.τ).loc DwFfnInIdeal.main_arg0)) (m ((c.tc : Thread DwFfnInIdeal.nD DwFfnInIdeal.τ).loc DwFfnInIdeal.main_arg1)), ?_, ?_⟩
  · refine (θ_run Cert.DwFfnInIdeal.defs _ _).mono (fun r h c => ?_) (DwFfnInIdeal.Value.run_blocks (F := Ideal) m ρ)
    exact ⟨(h c).1.trans (DwFfnInIdeal.Products.final m c), (h c).2⟩
  · refine (θ_run Cert.DwFfnInReferenceIdeal.defs _ _).mono (fun r h c => ?_) (DwFfnInReferenceIdeal.Value.run (F := Ideal) m' ρ')
    obtain ⟨a0, a1⟩ := hargs c
    refine ⟨(h c).1.trans ?_, (h c).2⟩
    rw [DwFfnInReferenceIdeal.Read.val_main_v14_eq, a0, a1]
    exact DwFfnInReferenceIdeal.Products.value _ _

end Cert.Proof

end
-- ==== Proof.Products.DwFfnOut.lean ====
module

public import proofs.«01_k».proof.Proof.Gen.DwFfnOutIdeal.Value
public import proofs.«01_k».proof.Proof.Gen.DwFfnOutReferenceIdeal.Run
public import proofs.«01_k».proof.Proof.Gen.DwFfnOutReferenceIdeal.Read
public import proofs.«01_k».proof.Proof.Products.Spec
public import proofs.«01_k».proof.Defs
public import Idealize.ShloMosaic.Adequacy

set_option maxRecDepth 16384

/-! # The product `dw_ffn_out`: a block is summed over five stretches of the contracted axis -/

@[expose] public section
noncomputable section

open Idealize.ShloMosaic Idealize.ShloMosaic.TcCoe Idealize.SL.Sem

namespace Cert.DwFfnOutIdeal.Products
open Cert.DwFfnOutIdeal Cert.DwFfnOutIdeal.Gen _root_.Conv _root_.Products

theorem zero_at (j : S1408x1024.Idx) : k0_pay1 (F := Ideal) j = 0 := by pointwise [k0_pay1]

theorem step_at (acc : FVec Ideal S1408x1024 .f32) (x : FVec Ideal S1664x1408 .bf16) (y : FVec Ideal S1664x1024 .bf16) (j : S1408x1024.Idx) :
    k0_pay2 (F := Ideal) acc x y j = acc j + ∑ k : Fin 1664, x (ix2 k (j 0)) * y (ix2 k (j 1)) := by
  pointwise [k0_pay2]

theorem idx : ∀ t : Fin cfg0.N, win0_0.index t = ![t.val % 5, t.val / 10] ∧ win0_1.index t = ![t.val % 5, t.val / 5 % 2]
    ∧ win0_2.index t = ![t.val / 10, t.val / 5 % 2] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 5 = 4) (j : S1408x1024.Idx) : (outsAt0 m c t.val t.isLt).1 j = (outsAt0 m c t.val t.isLt).2 j := by
  have h0 : ¬ t.val % 5 = 0 := by omega
  rw [outsAt0_C m c t h0 h1]
  frame_out

theorem final : (dats m 0 c).arrAt 2 cfg0.N = mulTN (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 5 (fun _ => 0)
    (fun p j => ∑ k : Fin 1664, (show FVec Ideal S1664x1408 .bf16 from iblk m c 0 p) (ix2 k (j 0)) * (show FVec Ideal S1664x1024 .bf16 from iblk m c 1 p) (ix2 k (j 1)))
    (fun t h j => by rw [outsAt0_A m c t h (by omega)]; frame_out; rw [step_at, zero_at])
    (fun t h j => by
      by_cases h1 : t.val % 5 = 4
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_2 t).mp hf) _, zero_add]
  unfold mulTN
  refine Fin.sum_mul_add_congr fun s k hl => ?_
  blk_point [iblk, V, idx t, idx ⟨_, Pipeline.run_point_lt_of_flush t ((flush0_2 t).mp hf) s⟩]

end Cert.DwFfnOutIdeal.Products

namespace Cert.DwFfnOutReferenceIdeal.Products
open Cert.DwFfnOutReferenceIdeal Cert.DwFfnOutReferenceIdeal.Gen Cert.DwFfnOutReferenceIdeal.Read _root_.Conv _root_.Products

theorem value (x : Arr 8320 5632) (y : Arr 8320 2048) : val_main_v5 (F := Ideal) x y = mulTN x y := by
  funext i
  rw [val_main_v5_apply, val_main_v4_apply]
  refine Finset.sum_congr rfl fun k _ => ?_
  rw [mul_comm]
  exact congrArg₂ (fun u v : EReal => u * v) (congrArg x (ext2 rfl rfl)) (congrArg y (ext2 rfl rfl))

end Cert.DwFfnOutReferenceIdeal.Products

namespace Cert.Proof

theorem algebraic_dw_ffn_out : Cert.algebraic_DwFfnOutIdeal_DwFfnOutReferenceIdeal := by
  intro m ρ m' ρ' _ hargs
  refine ⟨fun c => _root_.Products.mulTN (m ((c.tc : Thread DwFfnOutIdeal.nD DwFfnOutIdeal.τ).loc DwFfnOutIdeal.main_arg0)) (m ((c.tc : Thread DwFfnOutIdeal.nD DwFfnOutIdeal.τ).loc DwFfnOutIdeal.main_arg1)), ?_, ?_⟩
  · refine (θ_run Cert.DwFfnOutIdeal.defs _ _).mono (fun r h c => ?_) (DwFfnOutIdeal.Value.run_blocks (F := Ideal) m ρ)
    exact ⟨(h c).1.trans (DwFfnOutIdeal.Products.final m c), (h c).2⟩
  · refine (θ_run Cert.DwFfnOutReferenceIdeal.defs _ _).mono (fun r h c => ?_) (DwFfnOutReferenceIdeal.Value.run (F := Ideal) m' ρ')
    obtain ⟨a0, a1⟩ := hargs c
    refine ⟨(h c).1.trans ?_, (h c).2⟩
    rw [DwFfnOutReferenceIdeal.Read.val_main_v5_eq, a0, a1]
    exact DwFfnOutReferenceIdeal.Products.value _ _

end Cert.Proof

end
-- ==== Proof.Products.DwInGates.lean ====
module

public import proofs.«01_k».proof.Proof.Gen.DwInGatesIdeal.Value
public import proofs.«01_k».proof.Proof.Gen.DwInGatesReferenceIdeal.Run
public import proofs.«01_k».proof.Proof.Gen.DwInGatesReferenceIdeal.Read
public import proofs.«01_k».proof.Proof.Products.Spec
public import proofs.«01_k».proof.Defs
public import Idealize.ShloMosaic.Adequacy

set_option maxRecDepth 16384

/-! # The product `dw_in_gates`: a block is summed over five stretches of the contracted axis -/

@[expose] public section
noncomputable section

open Idealize.ShloMosaic Idealize.ShloMosaic.TcCoe Idealize.SL.Sem

namespace Cert.DwInGatesIdeal.Products
open Cert.DwInGatesIdeal Cert.DwInGatesIdeal.Gen _root_.Conv _root_.Products

theorem zero_at (j : S1024x1024.Idx) : k0_pay1 (F := Ideal) j = 0 := by pointwise [k0_pay1]

theorem step_at (acc : FVec Ideal S1024x1024 .f32) (x : FVec Ideal S1664x1024 .bf16) (y : FVec Ideal S1664x1024 .bf16) (j : S1024x1024.Idx) :
    k0_pay2 (F := Ideal) acc x y j = acc j + ∑ k : Fin 1664, x (ix2 k (j 0)) * y (ix2 k (j 1)) := by
  pointwise [k0_pay2]

theorem idx : ∀ t : Fin cfg0.N, win0_0.index t = ![t.val % 5, t.val / 20] ∧ win0_1.index t = ![t.val % 5, t.val / 5 % 4]
    ∧ win0_2.index t = ![t.val / 20, t.val / 5 % 4] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 5 = 4) (j : S1024x1024.Idx) : (outsAt0 m c t.val t.isLt).1 j = (outsAt0 m c t.val t.isLt).2 j := by
  have h0 : ¬ t.val % 5 = 0 := by omega
  rw [outsAt0_C m c t h0 h1]
  frame_out

theorem final : (dats m 0 c).arrAt 2 cfg0.N = mulTN (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 5 (fun _ => 0)
    (fun p j => ∑ k : Fin 1664, (show FVec Ideal S1664x1024 .bf16 from iblk m c 0 p) (ix2 k (j 0)) * (show FVec Ideal S1664x1024 .bf16 from iblk m c 1 p) (ix2 k (j 1)))
    (fun t h j => by rw [outsAt0_A m c t h (by omega)]; frame_out; rw [step_at, zero_at])
    (fun t h j => by
      by_cases h1 : t.val % 5 = 4
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_2 t).mp hf) _, zero_add]
  unfold mulTN
  refine Fin.sum_mul_add_congr fun s k hl => ?_
  blk_point [iblk, V, idx t, idx ⟨_, Pipeline.run_point_lt_of_flush t ((flush0_2 t).mp hf) s⟩]

end Cert.DwInGatesIdeal.Products

namespace Cert.DwInGatesReferenceIdeal.Products
open Cert.DwInGatesReferenceIdeal Cert.DwInGatesReferenceIdeal.Gen Cert.DwInGatesReferenceIdeal.Read _root_.Conv _root_.Products

theorem value (x : Arr 8320 2048) (y : Arr 8320 4096) : val_main_v5 (F := Ideal) x y = mulTN x y := by
  funext i
  rw [val_main_v5_apply, val_main_v4_apply]
  refine Finset.sum_congr rfl fun k _ => ?_
  rw [mul_comm]
  exact congrArg₂ (fun u v : EReal => u * v) (congrArg x (ext2 rfl rfl)) (congrArg y (ext2 rfl rfl))

end Cert.DwInGatesReferenceIdeal.Products

namespace Cert.Proof

theorem algebraic_dw_in_gates : Cert.algebraic_DwInGatesIdeal_DwInGatesReferenceIdeal := by
  intro m ρ m' ρ' _ hargs
  refine ⟨fun c => _root_.Products.mulTN (m ((c.tc : Thread DwInGatesIdeal.nD DwInGatesIdeal.τ).loc DwInGatesIdeal.main_arg0)) (m ((c.tc : Thread DwInGatesIdeal.nD DwInGatesIdeal.τ).loc DwInGatesIdeal.main_arg1)), ?_, ?_⟩
  · refine (θ_run Cert.DwInGatesIdeal.defs _ _).mono (fun r h c => ?_) (DwInGatesIdeal.Value.run_blocks (F := Ideal) m ρ)
    exact ⟨(h c).1.trans (DwInGatesIdeal.Products.final m c), (h c).2⟩
  · refine (θ_run Cert.DwInGatesReferenceIdeal.defs _ _).mono (fun r h c => ?_) (DwInGatesReferenceIdeal.Value.run (F := Ideal) m' ρ')
    obtain ⟨a0, a1⟩ := hargs c
    refine ⟨(h c).1.trans ?_, (h c).2⟩
    rw [DwInGatesReferenceIdeal.Read.val_main_v5_eq, a0, a1]
    exact DwInGatesReferenceIdeal.Products.value _ _

end Cert.Proof

end
-- ==== Proof.Products.DwInHgrn.lean ====
module

public import proofs.«01_k».proof.Proof.Gen.DwInHgrnIdeal.Value
public import proofs.«01_k».proof.Proof.Gen.DwInHgrnReferenceIdeal.Run
public import proofs.«01_k».proof.Proof.Gen.DwInHgrnReferenceIdeal.Read
public import proofs.«01_k».proof.Proof.Products.Spec
public import proofs.«01_k».proof.Defs
public import Idealize.ShloMosaic.Adequacy

set_option maxRecDepth 16384

/-! # The product `dw_in_hgrn`: a block is summed over five stretches of the contracted axis -/

@[expose] public section
noncomputable section

open Idealize.ShloMosaic Idealize.ShloMosaic.TcCoe Idealize.SL.Sem

namespace Cert.DwInHgrnIdeal.Products
open Cert.DwInHgrnIdeal Cert.DwInHgrnIdeal.Gen _root_.Conv _root_.Products

theorem zero_at (j : S1024x1024.Idx) : k0_pay1 (F := Ideal) j = 0 := by pointwise [k0_pay1]

theorem step_at (acc : FVec Ideal S1024x1024 .f32) (x : FVec Ideal S1664x1024 .bf16) (y : FVec Ideal S1664x1024 .bf16) (j : S1024x1024.Idx) :
    k0_pay2 (F := Ideal) acc x y j = acc j + ∑ k : Fin 1664, x (ix2 k (j 0)) * y (ix2 k (j 1)) := by
  pointwise [k0_pay2]

theorem idx : ∀ t : Fin cfg0.N, win0_0.index t = ![t.val % 5, t.val / 40] ∧ win0_1.index t = ![t.val % 5, t.val / 5 % 8]
    ∧ win0_2.index t = ![t.val / 40, t.val / 5 % 8] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 5 = 4) (j : S1024x1024.Idx) : (outsAt0 m c t.val t.isLt).1 j = (outsAt0 m c t.val t.isLt).2 j := by
  have h0 : ¬ t.val % 5 = 0 := by omega
  rw [outsAt0_C m c t h0 h1]
  frame_out

theorem final : (dats m 0 c).arrAt 2 cfg0.N = mulTN (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 5 (fun _ => 0)
    (fun p j => ∑ k : Fin 1664, (show FVec Ideal S1664x1024 .bf16 from iblk m c 0 p) (ix2 k (j 0)) * (show FVec Ideal S1664x1024 .bf16 from iblk m c 1 p) (ix2 k (j 1)))
    (fun t h j => by rw [outsAt0_A m c t h (by omega)]; frame_out; rw [step_at, zero_at])
    (fun t h j => by
      by_cases h1 : t.val % 5 = 4
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_2 t).mp hf) _, zero_add]
  unfold mulTN
  refine Fin.sum_mul_add_congr fun s k hl => ?_
  blk_point [iblk, V, idx t, idx ⟨_, Pipeline.run_point_lt_of_flush t ((flush0_2 t).mp hf) s⟩]

end Cert.DwInHgrnIdeal.Products

namespace Cert.DwInHgrnReferenceIdeal.Products
open Cert.DwInHgrnReferenceIdeal Cert.DwInHgrnReferenceIdeal.Gen Cert.DwInHgrnReferenceIdeal.Read _root_.Conv _root_.Products

theorem value (x : Arr 8320 2048) (y : Arr 8320 8192) : val_main_v5 (F := Ideal) x y = mulTN x y := by
  funext i
  rw [val_main_v5_apply, val_main_v4_apply]
  refine Finset.sum_congr rfl fun k _ => ?_
  rw [mul_comm]
  exact congrArg₂ (fun u v : EReal => u * v) (congrArg x (ext2 rfl rfl)) (congrArg y (ext2 rfl rfl))

end Cert.DwInHgrnReferenceIdeal.Products

namespace Cert.Proof

theorem algebraic_dw_in_hgrn : Cert.algebraic_DwInHgrnIdeal_DwInHgrnReferenceIdeal := by
  intro m ρ m' ρ' _ hargs
  refine ⟨fun c => _root_.Products.mulTN (m ((c.tc : Thread DwInHgrnIdeal.nD DwInHgrnIdeal.τ).loc DwInHgrnIdeal.main_arg0)) (m ((c.tc : Thread DwInHgrnIdeal.nD DwInHgrnIdeal.τ).loc DwInHgrnIdeal.main_arg1)), ?_, ?_⟩
  · refine (θ_run Cert.DwInHgrnIdeal.defs _ _).mono (fun r h c => ?_) (DwInHgrnIdeal.Value.run_blocks (F := Ideal) m ρ)
    exact ⟨(h c).1.trans (DwInHgrnIdeal.Products.final m c), (h c).2⟩
  · refine (θ_run Cert.DwInHgrnReferenceIdeal.defs _ _).mono (fun r h c => ?_) (DwInHgrnReferenceIdeal.Value.run (F := Ideal) m' ρ')
    obtain ⟨a0, a1⟩ := hargs c
    refine ⟨(h c).1.trans ?_, (h c).2⟩
    rw [DwInHgrnReferenceIdeal.Read.val_main_v5_eq, a0, a1]
    exact DwInHgrnReferenceIdeal.Products.value _ _

end Cert.Proof

end
-- ==== Proof.Products.DwInKrope.lean ====
module

public import proofs.«01_k».proof.Proof.Gen.DwInKropeIdeal.Value
public import proofs.«01_k».proof.Proof.Gen.DwInKropeReferenceIdeal.Run
public import proofs.«01_k».proof.Proof.Gen.DwInKropeReferenceIdeal.Read
public import proofs.«01_k».proof.Proof.Products.Spec
public import proofs.«01_k».proof.Defs
public import Idealize.ShloMosaic.Adequacy

set_option maxRecDepth 16384

/-! # The product `dw_in_krope`: a block is summed over five stretches of the contracted axis -/

@[expose] public section
noncomputable section

open Idealize.ShloMosaic Idealize.ShloMosaic.TcCoe Idealize.SL.Sem

namespace Cert.DwInKropeIdeal.Products
open Cert.DwInKropeIdeal Cert.DwInKropeIdeal.Gen _root_.Conv _root_.Products

theorem zero_at (j : S1024x128.Idx) : k0_pay1 (F := Ideal) j = 0 := by pointwise [k0_pay1]

theorem step_at (acc : FVec Ideal S1024x128 .f32) (x : FVec Ideal S1664x1024 .bf16) (y : FVec Ideal S1664x128 .bf16) (j : S1024x128.Idx) :
    k0_pay2 (F := Ideal) acc x y j = acc j + ∑ k : Fin 1664, x (ix2 k (j 0)) * y (ix2 k (j 1)) := by
  pointwise [k0_pay2]

theorem idx : ∀ t : Fin cfg0.N, win0_0.index t = ![t.val % 5, t.val / 5] ∧ win0_1.index t = ![t.val % 5, 0]
    ∧ win0_2.index t = ![t.val / 5, 0] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 5 = 4) (j : S1024x128.Idx) : (outsAt0 m c t.val t.isLt).1 j = (outsAt0 m c t.val t.isLt).2 j := by
  have h0 : ¬ t.val % 5 = 0 := by omega
  rw [outsAt0_C m c t h0 h1]
  frame_out

theorem final : (dats m 0 c).arrAt 2 cfg0.N = mulTN (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 5 (fun _ => 0)
    (fun p j => ∑ k : Fin 1664, (show FVec Ideal S1664x1024 .bf16 from iblk m c 0 p) (ix2 k (j 0)) * (show FVec Ideal S1664x128 .bf16 from iblk m c 1 p) (ix2 k (j 1)))
    (fun t h j => by rw [outsAt0_A m c t h (by omega)]; frame_out; rw [step_at, zero_at])
    (fun t h j => by
      by_cases h1 : t.val % 5 = 4
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_2 t).mp hf) _, zero_add]
  unfold mulTN
  refine Fin.sum_mul_add_congr fun s k hl => ?_
  blk_point [iblk, V, idx t, idx ⟨_, Pipeline.run_point_lt_of_flush t ((flush0_2 t).mp hf) s⟩]

end Cert.DwInKropeIdeal.Products

namespace Cert.DwInKropeReferenceIdeal.Products
open Cert.DwInKropeReferenceIdeal Cert.DwInKropeReferenceIdeal.Gen Cert.DwInKropeReferenceIdeal.Read _root_.Conv _root_.Products

theorem value (x : Arr 8320 2048) (y : Arr 8320 128) : val_main_v5 (F := Ideal) x y = mulTN x y := by
  funext i
  rw [val_main_v5_apply, val_main_v4_apply]
  refine Finset.sum_congr rfl fun k _ => ?_
  rw [mul_comm]
  exact congrArg₂ (fun u v : EReal => u * v) (congrArg x (ext2 rfl rfl)) (congrArg y (ext2 rfl rfl))

end Cert.DwInKropeReferenceIdeal.Products

namespace Cert.Proof

theorem algebraic_dw_in_krope : Cert.algebraic_DwInKropeIdeal_DwInKropeReferenceIdeal := by
  intro m ρ m' ρ' _ hargs
  refine ⟨fun c => _root_.Products.mulTN (m ((c.tc : Thread DwInKropeIdeal.nD DwInKropeIdeal.τ).loc DwInKropeIdeal.main_arg0)) (m ((c.tc : Thread DwInKropeIdeal.nD DwInKropeIdeal.τ).loc DwInKropeIdeal.main_arg1)), ?_, ?_⟩
  · refine (θ_run Cert.DwInKropeIdeal.defs _ _).mono (fun r h c => ?_) (DwInKropeIdeal.Value.run_blocks (F := Ideal) m ρ)
    exact ⟨(h c).1.trans (DwInKropeIdeal.Products.final m c), (h c).2⟩
  · refine (θ_run Cert.DwInKropeReferenceIdeal.defs _ _).mono (fun r h c => ?_) (DwInKropeReferenceIdeal.Value.run (F := Ideal) m' ρ')
    obtain ⟨a0, a1⟩ := hargs c
    refine ⟨(h c).1.trans ?_, (h c).2⟩
    rw [DwInKropeReferenceIdeal.Read.val_main_v5_eq, a0, a1]
    exact DwInKropeReferenceIdeal.Products.value _ _

end Cert.Proof

end
-- ==== Proof.Products.DwKvUp.lean ====
module

public import proofs.«01_k».proof.Proof.Gen.DwKvUpIdeal.Value
public import proofs.«01_k».proof.Proof.Gen.DwKvUpReferenceIdeal.Run
public import proofs.«01_k».proof.Proof.Gen.DwKvUpReferenceIdeal.Read
public import proofs.«01_k».proof.Proof.Products.Spec
public import proofs.«01_k».proof.Defs
public import Idealize.ShloMosaic.Adequacy

set_option maxRecDepth 16384

/-! # The product `dw_kv_up`: a block is summed over five stretches of the contracted axis -/

@[expose] public section
noncomputable section

open Idealize.ShloMosaic Idealize.ShloMosaic.TcCoe Idealize.SL.Sem

namespace Cert.DwKvUpIdeal.Products
open Cert.DwKvUpIdeal Cert.DwKvUpIdeal.Gen _root_.Conv _root_.Products

theorem zero_at (j : S512x1024.Idx) : k0_pay1 (F := Ideal) j = 0 := by pointwise [k0_pay1]

theorem step_at (acc : FVec Ideal S512x1024 .f32) (x : FVec Ideal S1664x512 .bf16) (y : FVec Ideal S1664x1024 .bf16) (j : S512x1024.Idx) :
    k0_pay2 (F := Ideal) acc x y j = acc j + ∑ k : Fin 1664, x (ix2 k (j 0)) * y (ix2 k (j 1)) := by
  pointwise [k0_pay2]

theorem idx : ∀ t : Fin cfg0.N, win0_0.index t = ![t.val % 5, t.val / 20] ∧ win0_1.index t = ![t.val % 5, t.val / 5 % 4]
    ∧ win0_2.index t = ![t.val / 20, t.val / 5 % 4] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 5 = 4) (j : S512x1024.Idx) : (outsAt0 m c t.val t.isLt).1 j = (outsAt0 m c t.val t.isLt).2 j := by
  have h0 : ¬ t.val % 5 = 0 := by omega
  rw [outsAt0_C m c t h0 h1]
  frame_out

theorem final : (dats m 0 c).arrAt 2 cfg0.N = mulTN (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 5 (fun _ => 0)
    (fun p j => ∑ k : Fin 1664, (show FVec Ideal S1664x512 .bf16 from iblk m c 0 p) (ix2 k (j 0)) * (show FVec Ideal S1664x1024 .bf16 from iblk m c 1 p) (ix2 k (j 1)))
    (fun t h j => by rw [outsAt0_A m c t h (by omega)]; frame_out; rw [step_at, zero_at])
    (fun t h j => by
      by_cases h1 : t.val % 5 = 4
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_2 t).mp hf) _, zero_add]
  unfold mulTN
  refine Fin.sum_mul_add_congr fun s k hl => ?_
  blk_point [iblk, V, idx t, idx ⟨_, Pipeline.run_point_lt_of_flush t ((flush0_2 t).mp hf) s⟩]

end Cert.DwKvUpIdeal.Products

namespace Cert.DwKvUpReferenceIdeal.Products
open Cert.DwKvUpReferenceIdeal Cert.DwKvUpReferenceIdeal.Gen Cert.DwKvUpReferenceIdeal.Read _root_.Conv _root_.Products

theorem value (x : Arr 8320 512) (y : Arr 8320 4096) : val_main_v5 (F := Ideal) x y = mulTN x y := by
  funext i
  rw [val_main_v5_apply, val_main_v4_apply]
  refine Finset.sum_congr rfl fun k _ => ?_
  rw [mul_comm]
  exact congrArg₂ (fun u v : EReal => u * v) (congrArg x (ext2 rfl rfl)) (congrArg y (ext2 rfl rfl))

end Cert.DwKvUpReferenceIdeal.Products

namespace Cert.Proof

theorem algebraic_dw_kv_up : Cert.algebraic_DwKvUpIdeal_DwKvUpReferenceIdeal := by
  intro m ρ m' ρ' _ hargs
  refine ⟨fun c => _root_.Products.mulTN (m ((c.tc : Thread DwKvUpIdeal.nD DwKvUpIdeal.τ).loc DwKvUpIdeal.main_arg0)) (m ((c.tc : Thread DwKvUpIdeal.nD DwKvUpIdeal.τ).loc DwKvUpIdeal.main_arg1)), ?_, ?_⟩
  · refine (θ_run Cert.DwKvUpIdeal.defs _ _).mono (fun r h c => ?_) (DwKvUpIdeal.Value.run_blocks (F := Ideal) m ρ)
    exact ⟨(h c).1.trans (DwKvUpIdeal.Products.final m c), (h c).2⟩
  · refine (θ_run Cert.DwKvUpReferenceIdeal.defs _ _).mono (fun r h c => ?_) (DwKvUpReferenceIdeal.Value.run (F := Ideal) m' ρ')
    obtain ⟨a0, a1⟩ := hargs c
    refine ⟨(h c).1.trans ?_, (h c).2⟩
    rw [DwKvUpReferenceIdeal.Read.val_main_v5_eq, a0, a1]
    exact DwKvUpReferenceIdeal.Products.value _ _

end Cert.Proof

end
-- ==== Proof.Products.DwOut.lean ====
module

public import proofs.«01_k».proof.Proof.Gen.DwOutIdeal.Value
public import proofs.«01_k».proof.Proof.Gen.DwOutReferenceIdeal.Run
public import proofs.«01_k».proof.Proof.Gen.DwOutReferenceIdeal.Read
public import proofs.«01_k».proof.Proof.Products.Spec
public import proofs.«01_k».proof.Defs
public import Idealize.ShloMosaic.Adequacy

set_option maxRecDepth 16384

/-! # The product `dw_out`: a block is summed over five stretches of the contracted axis -/

@[expose] public section
noncomputable section

open Idealize.ShloMosaic Idealize.ShloMosaic.TcCoe Idealize.SL.Sem

namespace Cert.DwOutIdeal.Products
open Cert.DwOutIdeal Cert.DwOutIdeal.Gen _root_.Conv _root_.Products

theorem zero_at (j : S1024x1024.Idx) : k0_pay1 (F := Ideal) j = 0 := by pointwise [k0_pay1]

theorem step_at (acc : FVec Ideal S1024x1024 .f32) (x : FVec Ideal S1664x1024 .bf16) (y : FVec Ideal S1664x1024 .f32) (j : S1024x1024.Idx) :
    k0_pay2 (F := Ideal) acc x y j = acc j + ∑ k : Fin 1664, x (ix2 k (j 0)) * y (ix2 k (j 1)) := by
  pointwise [k0_pay2]

theorem idx : ∀ t : Fin cfg0.N, win0_0.index t = ![t.val % 5, t.val / 10] ∧ win0_1.index t = ![t.val % 5, t.val / 5 % 2]
    ∧ win0_2.index t = ![t.val / 10, t.val / 5 % 2] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 5 = 4) (j : S1024x1024.Idx) : (outsAt0 m c t.val t.isLt).1 j = (outsAt0 m c t.val t.isLt).2 j := by
  have h0 : ¬ t.val % 5 = 0 := by omega
  rw [outsAt0_C m c t h0 h1]
  frame_out

theorem final : (dats m 0 c).arrAt 2 cfg0.N = mulTN (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 5 (fun _ => 0)
    (fun p j => ∑ k : Fin 1664, (show FVec Ideal S1664x1024 .bf16 from iblk m c 0 p) (ix2 k (j 0)) * (show FVec Ideal S1664x1024 .f32 from iblk m c 1 p) (ix2 k (j 1)))
    (fun t h j => by rw [outsAt0_A m c t h (by omega)]; frame_out; rw [step_at, zero_at])
    (fun t h j => by
      by_cases h1 : t.val % 5 = 4
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_2 t).mp hf) _, zero_add]
  unfold mulTN
  refine Fin.sum_mul_add_congr fun s k hl => ?_
  blk_point [iblk, V, idx t, idx ⟨_, Pipeline.run_point_lt_of_flush t ((flush0_2 t).mp hf) s⟩]

end Cert.DwOutIdeal.Products

namespace Cert.DwOutReferenceIdeal.Products
open Cert.DwOutReferenceIdeal Cert.DwOutReferenceIdeal.Gen Cert.DwOutReferenceIdeal.Read _root_.Conv _root_.Products

theorem value (x : Arr 8320 2048) (y : Arr 8320 2048) : val_main_v4 (F := Ideal) x y = mulTN x y := by
  funext i
  rw [val_main_v4_apply, val_main_v3_apply]
  refine Finset.sum_congr rfl fun k _ => ?_
  rw [mul_comm]
  exact congrArg₂ (fun u v : EReal => u * v) (congrArg x (ext2 rfl rfl)) (congrArg y (ext2 rfl rfl))

end Cert.DwOutReferenceIdeal.Products

namespace Cert.Proof

theorem algebraic_dw_out : Cert.algebraic_DwOutIdeal_DwOutReferenceIdeal := by
  intro m ρ m' ρ' _ hargs
  refine ⟨fun c => _root_.Products.mulTN (m ((c.tc : Thread DwOutIdeal.nD DwOutIdeal.τ).loc DwOutIdeal.main_arg0)) (m ((c.tc : Thread DwOutIdeal.nD DwOutIdeal.τ).loc DwOutIdeal.main_arg1)), ?_, ?_⟩
  · refine (θ_run Cert.DwOutIdeal.defs _ _).mono (fun r h c => ?_) (DwOutIdeal.Value.run_blocks (F := Ideal) m ρ)
    exact ⟨(h c).1.trans (DwOutIdeal.Products.final m c), (h c).2⟩
  · refine (θ_run Cert.DwOutReferenceIdeal.defs _ _).mono (fun r h c => ?_) (DwOutReferenceIdeal.Value.run (F := Ideal) m' ρ')
    obtain ⟨a0, a1⟩ := hargs c
    refine ⟨(h c).1.trans ?_, (h c).2⟩
    rw [DwOutReferenceIdeal.Read.val_main_v4_eq, a0, a1]
    exact DwOutReferenceIdeal.Products.value _ _

end Cert.Proof

end
-- ==== Proof.Products.DwQUp.lean ====
module

public import proofs.«01_k».proof.Proof.Gen.DwQUpIdeal.Value
public import proofs.«01_k».proof.Proof.Gen.DwQUpReferenceIdeal.Run
public import proofs.«01_k».proof.Proof.Gen.DwQUpReferenceIdeal.Read
public import proofs.«01_k».proof.Proof.Products.Spec
public import proofs.«01_k».proof.Defs
public import Idealize.ShloMosaic.Adequacy

set_option maxRecDepth 16384

/-! # The product `dw_q_up`: a block is summed over five stretches of the contracted axis -/

@[expose] public section
noncomputable section

open Idealize.ShloMosaic Idealize.ShloMosaic.TcCoe Idealize.SL.Sem

namespace Cert.DwQUpIdeal.Products
open Cert.DwQUpIdeal Cert.DwQUpIdeal.Gen _root_.Conv _root_.Products

theorem zero_at (j : S1536x1024.Idx) : k0_pay1 (F := Ideal) j = 0 := by pointwise [k0_pay1]

theorem step_at (acc : FVec Ideal S1536x1024 .f32) (x : FVec Ideal S1664x1536 .bf16) (y : FVec Ideal S1664x1024 .bf16) (j : S1536x1024.Idx) :
    k0_pay2 (F := Ideal) acc x y j = acc j + ∑ k : Fin 1664, x (ix2 k (j 0)) * y (ix2 k (j 1)) := by
  pointwise [k0_pay2]

theorem idx : ∀ t : Fin cfg0.N, win0_0.index t = ![t.val % 5, t.val / 20] ∧ win0_1.index t = ![t.val % 5, t.val / 5 % 4]
    ∧ win0_2.index t = ![t.val / 20, t.val / 5 % 4] :=
  (by decide +kernel : ∀ t : Fin grid0.N, _)

variable (m : (ℓ : Loc nD τ sig) → Buf (Elt Ideal) ℓ) (c : Dev nD)

/-- At the last point of a run the block is written from the accumulator. -/
theorem out_eq (t : Fin cfg0.N) (h1 : t.val % 5 = 4) (j : S1536x1024.Idx) : (outsAt0 m c t.val t.isLt).1 j = (outsAt0 m c t.val t.isLt).2 j := by
  have h0 : ¬ t.val % 5 = 0 := by omega
  rw [outsAt0_C m c t h0 h1]
  frame_out

theorem final : (dats m 0 c).arrAt 2 cfg0.N = mulTN (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 5 (fun _ => 0)
    (fun p j => ∑ k : Fin 1664, (show FVec Ideal S1664x1536 .bf16 from iblk m c 0 p) (ix2 k (j 0)) * (show FVec Ideal S1664x1024 .bf16 from iblk m c 1 p) (ix2 k (j 1)))
    (fun t h j => by rw [outsAt0_A m c t h (by omega)]; frame_out; rw [step_at, zero_at])
    (fun t h j => by
      by_cases h1 : t.val % 5 = 4
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_2 t).mp hf) _, zero_add]
  unfold mulTN
  refine Fin.sum_mul_add_congr fun s k hl => ?_
  blk_point [iblk, V, idx t, idx ⟨_, Pipeline.run_point_lt_of_flush t ((flush0_2 t).mp hf) s⟩]

end Cert.DwQUpIdeal.Products

namespace Cert.DwQUpReferenceIdeal.Products
open Cert.DwQUpReferenceIdeal Cert.DwQUpReferenceIdeal.Gen Cert.DwQUpReferenceIdeal.Read _root_.Conv _root_.Products

theorem value (x : Arr 8320 1536) (y : Arr 8320 4096) : val_main_v5 (F := Ideal) x y = mulTN x y := by
  funext i
  rw [val_main_v5_apply, val_main_v4_apply]
  refine Finset.sum_congr rfl fun k _ => ?_
  rw [mul_comm]
  exact congrArg₂ (fun u v : EReal => u * v) (congrArg x (ext2 rfl rfl)) (congrArg y (ext2 rfl rfl))

end Cert.DwQUpReferenceIdeal.Products

namespace Cert.Proof

theorem algebraic_dw_q_up : Cert.algebraic_DwQUpIdeal_DwQUpReferenceIdeal := by
  intro m ρ m' ρ' _ hargs
  refine ⟨fun c => _root_.Products.mulTN (m ((c.tc : Thread DwQUpIdeal.nD DwQUpIdeal.τ).loc DwQUpIdeal.main_arg0)) (m ((c.tc : Thread DwQUpIdeal.nD DwQUpIdeal.τ).loc DwQUpIdeal.main_arg1)), ?_, ?_⟩
  · refine (θ_run Cert.DwQUpIdeal.defs _ _).mono (fun r h c => ?_) (DwQUpIdeal.Value.run_blocks (F := Ideal) m ρ)
    exact ⟨(h c).1.trans (DwQUpIdeal.Products.final m c), (h c).2⟩
  · refine (θ_run Cert.DwQUpReferenceIdeal.defs _ _).mono (fun r h c => ?_) (DwQUpReferenceIdeal.Value.run (F := Ideal) m' ρ')
    obtain ⟨a0, a1⟩ := hargs c
    refine ⟨(h c).1.trans ?_, (h c).2⟩
    rw [DwQUpReferenceIdeal.Read.val_main_v5_eq, a0, a1]
    exact DwQUpReferenceIdeal.Products.value _ _

end Cert.Proof

end
-- ==== Proof.Products.FfnOut.lean ====
module

public import proofs.«01_k».proof.Proof.Gen.FfnOutIdeal.Value
public import proofs.«01_k».proof.Proof.Gen.FfnOutReferenceIdeal.Run
public import proofs.«01_k».proof.Proof.Gen.FfnOutReferenceIdeal.Read
public import proofs.«01_k».proof.Proof.Products.Spec
public import proofs.«01_k».proof.Defs
public import Idealize.ShloMosaic.Adequacy

set_option maxRecDepth 16384

/-! # The product `ffn_out`: a block is summed over four stretches of the contracted axis -/

@[expose] public section
noncomputable section

open Idealize.ShloMosaic Idealize.ShloMosaic.TcCoe Idealize.SL.Sem

namespace Cert.FfnOutIdeal.Products
open Cert.FfnOutIdeal Cert.FfnOutIdeal.Gen _root_.Conv _root_.Products

theorem zero_at (j : S640x1024.Idx) : k0_pay1 (F := Ideal) j = 0 := by pointwise [k0_pay1]

theorem step_at (acc : FVec Ideal S640x1024 .f32) (x : FVec Ideal S640x1408 .bf16) (y : FVec Ideal S1408x1024 .bf16) (j : S640x1024.Idx) :
    k0_pay2 (F := Ideal) acc x y j = acc j + ∑ k : Fin 1408, x (ix2 (j 0) k) * y (ix2 k (j 1)) := by
  pointwise [k0_pay2]

theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, _)

variable (m : (ℓ : Loc nD τ sig) → Buf (Elt Ideal) ℓ) (c : Dev nD)

/-- At the last point of a run the block is written from the accumulator and the addend. -/
theorem out_eq (t : Fin cfg0.N) (h1 : t.val % 4 = 3) (j : S640x1024.Idx) :
    (outsAt0 m c t.val t.isLt).1 j = (outsAt0 m c t.val t.isLt).2 j + (show FVec Ideal S640x1024 .f32 from iblk m c 2 t) j := by
  have h0 : ¬ t.val % 4 = 0 := by omega
  rw [outsAt0_C m c t h0 h1]
  frame_out
  pointwise [k0_pay3]

theorem final : (dats m 0 c).arrAt 3 cfg0.N = plus (m ((c : Thread nD τ).loc main_arg2)) (mulNN (m ((c : Thread nD τ).loc main_arg0)) (m ((c : Thread nD τ).loc main_arg1))) := by
  refine (dats m 0 c).arrAt_eq_of_covers 3 _ (by decide +kernel) fun t hf y => ?_
  blk_simp
  rw [after0_3, out_eq m c t ((flush0_3 t).mp hf), Pipeline.eq_sum_fin_of_reset_step_apply_of_flush (fun n h => (outsAt0 m c n h).2) 4 (fun _ => 0)
    (fun p j => ∑ k : Fin 1408, (show FVec Ideal S640x1408 .bf16 from iblk m c 0 p) (ix2 (j 0) k) * (show FVec Ideal S1408x1024 .bf16 from iblk m c 1 p) (ix2 k (j 1)))
    (fun t h j => by rw [outsAt0_A m c t h (by omega)]; frame_out; rw [step_at, zero_at])
    (fun t h j => by
      by_cases h1 : t.val % 4 = 3
      · rw [outsAt0_C m c t h h1]; frame_out; rw [step_at, (Memref.isWhole_whole cc0_scratch0).read_unread]
      · rw [outsAt0_B m c t h h1]; frame_out; rw [step_at, (Memref.isWhole_whole cc0_scratch0).read_unread])
    t ((flush0_3 t).mp hf) _, zero_add]
  refine (add_comm (_ : EReal) _).trans ?_
  refine congrArg₂ (fun u v : EReal => u + v) ?_ ?_
  · blk_point [iblk, V, idx t]
  · unfold mulNN
    refine Fin.sum_mul_add_congr fun s k hl => ?_
    blk_point [iblk, V, idx t, idx ⟨_, Pipeline.run_point_lt_of_flush t ((flush0_3 t).mp hf) s⟩]

end Cert.FfnOutIdeal.Products

namespace Cert.FfnOutReferenceIdeal.Products
open Cert.FfnOutReferenceIdeal Cert.FfnOutReferenceIdeal.Gen Cert.FfnOutReferenceIdeal.Read _root_.Conv _root_.Products

theorem value (x : Arr 8320 5632) (y : Arr 5632 2048) (r : Arr 8320 2048) : val_main_v3 (F := Ideal) x y r = plus r (mulNN x y) := by
  funext i
  rw [val_main_v3_apply]
  rw [val_main_v2_apply]
  refine congrArg (fun v : EReal => r i + v) ?_
  refine Finset.sum_congr rfl fun k _ => ?_
  exact congrArg₂ (fun u v : EReal => u * v) (congrArg x (ext2 rfl rfl)) (congrArg y (ext2 rfl rfl))

end Cert.FfnOutReferenceIdeal.Products

namespace Cert.Proof

theorem algebraic_ffn_out : Cert.algebraic_FfnOutIdeal_FfnOutReferenceIdeal := by
  intro m ρ m' ρ' _ hargs
  refine ⟨fun c => _root_.Products.plus (m ((c.tc : Thread FfnOutIdeal.nD FfnOutIdeal.τ).loc FfnOutIdeal.main_arg2)) (_root_.Conv.mulNN (m ((c.tc : Thread FfnOutIdeal.nD FfnOutIdeal.τ).loc FfnOutIdeal.main_arg0)) (m ((c.tc : Thread FfnOutIdeal.nD FfnOutIdeal.τ).loc FfnOutIdeal.main_arg1))), ?_, ?_⟩
  · refine (θ_run Cert.FfnOutIdeal.defs _ _).mono (fun r h c => ?_) (FfnOutIdeal.Value.run_blocks (F := Ideal) m ρ)
    exact ⟨(h c).1.trans (FfnOutIdeal.Products.final m c), (h c).2⟩
  · refine (θ_run Cert.FfnOutReferenceIdeal.defs _ _).mono (fun r h c => ?_) (FfnOutReferenceIdeal.Value.run (F := Ideal) m' ρ')
    obtain ⟨a0, a1, a2⟩ := hargs c
    refine ⟨(h c).1.trans ?_, (h c).2⟩
    rw [FfnOutReferenceIdeal.Read.val_main_v3_eq, a0, a1, a2]
    exact FfnOutReferenceIdeal.Products.value _ _ _

end Cert.Proof

end
-- ==== Proof.Products.QUp.lean ====
module

public import proofs.«01_k».proof.Proof.Gen.QUpIdeal.Value
public import proofs.«01_k».proof.Proof.Gen.QUpReferenceIdeal.Run
public import proofs.«01_k».proof.Proof.Gen.QUpReferenceIdeal.Read
public import proofs.«01_k».proof.Proof.Products.Spec
public import proofs.«01_k».proof.Defs
public import Idealize.ShloMosaic.Adequacy

set_option maxRecDepth 16384

/-! # The product `q_up`: every block in one step -/

@[expose] public section
noncomputable section

open Idealize.ShloMosaic Idealize.ShloMosaic.TcCoe Idealize.SL.Sem

namespace Cert.QUpIdeal.Products
open Cert.QUpIdeal Cert.QUpIdeal.Gen _root_.Conv _root_.Products

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

variable (m : (ℓ : Loc nD τ sig) → Buf (Elt Ideal) ℓ) (c : Dev nD)

theorem final : (dats m 0 c).arrAt 2 cfg0.N = mulNN (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, mulNN]
  blk_point [iblk, V, idx t]

end Cert.QUpIdeal.Products

namespace Cert.QUpReferenceIdeal.Products
open Cert.QUpReferenceIdeal Cert.QUpReferenceIdeal.Gen Cert.QUpReferenceIdeal.Read _root_.Conv _root_.Products

theorem value (x : Arr 8320 1536) (y : Arr 1536 4096) : val_main_v3 (F := Ideal) x y = mulNN x y := by
  funext i
  rw [val_main_v3_apply]
  show val_main_v2 (F := Ideal) x y i = _
  rw [val_main_v2_apply]
  refine Finset.sum_congr rfl fun k _ => ?_
  exact congrArg₂ (fun u v : EReal => u * v) (congrArg x (ext2 rfl rfl)) (congrArg y (ext2 rfl rfl))

end Cert.QUpReferenceIdeal.Products

namespace Cert.Proof

theorem algebraic_q_up : Cert.algebraic_QUpIdeal_QUpReferenceIdeal := by
  intro m ρ m' ρ' _ hargs
  refine ⟨fun c => _root_.Conv.mulNN (m ((c.tc : Thread QUpIdeal.nD QUpIdeal.τ).loc QUpIdeal.main_arg0)) (m ((c.tc : Thread QUpIdeal.nD QUpIdeal.τ).loc QUpIdeal.main_arg1)), ?_, ?_⟩
  · refine (θ_run Cert.QUpIdeal.defs _ _).mono (fun r h c => ?_) (QUpIdeal.Value.run_blocks (F := Ideal) m ρ)
    exact ⟨(h c).1.trans (QUpIdeal.Products.final m c), (h c).2⟩
  · refine (θ_run Cert.QUpReferenceIdeal.defs _ _).mono (fun r h c => ?_) (QUpReferenceIdeal.Value.run (F := Ideal) m' ρ')
    obtain ⟨a0, a1⟩ := hargs c
    refine ⟨(h c).1.trans ?_, (h c).2⟩
    rw [QUpReferenceIdeal.Read.val_main_v3_eq, a0, a1]
    exact QUpReferenceIdeal.Products.value _ _

end Cert.Proof

end
-- ==== Proof.Project.Regions.lean ====
module

public import proofs.«01_k».proof.Proof.Gen.ProjectIdeal.Frame
public import proofs.«01_k».proof.Proof.Project.Spec

set_option maxRecDepth 16384

/-! # What each of the six projection calls leaves in its result array -/

@[expose] public section
noncomputable section

open Idealize.ShloMosaic Idealize.ShloMosaic.TcCoe Idealize.SL.Sem
open Idealize.ShloMosaic.Pipeline (Dat)

namespace Cert.ProjectIdeal.Project
open Cert.ProjectIdeal Cert.ProjectIdeal.Gen _root_.Conv _root_.Products _root_.Project

variable (V : (c : Dev nD) → (b : Ref sig .tc) → Buf (Elt Ideal) ((c : Thread nD τ).loc b)) (c : Dev nD)

theorem idx0 : ∀ t : Fin cfg0.N, win0_0.index t = ![t.val / 8, 0] ∧ win0_1.index t = ![0, t.val % 8]
    ∧ win0_2.index t = ![t.val / 8, t.val % 8] :=
  (by decide +kernel : ∀ t : Fin grid0.N, _)

theorem final0 : (dat0 V c).arrAt 2 cfg0.N = mulNN (a := 8320) (b := 2048) (c := 8192) (V c main_arg0) (V c main_arg1) := by
  refine (dat0 V c).arrAt_eq_of_covers 2 _ (by decide +kernel) fun t _ y => ?_
  blk_simp
  rw [after0_2]; frame_out
  pointwise [k0_pay1, mulNN]
  blk_point [iblk0, idx0 t]

theorem idx1 : ∀ t : Fin cfg1.N, win1_0.index t = ![t.val / 2, 0] ∧ win1_1.index t = ![0, t.val % 2]
    ∧ win1_2.index t = ![t.val / 2, t.val % 2] :=
  (by decide +kernel : ∀ t : Fin grid1.N, _)

theorem final1 : (dat1 V c).arrAt 2 cfg1.N = mulNN (a := 8320) (b := 2048) (c := 2048) (V c main_arg0) (V c main_arg2) := by
  refine (dat1 V c).arrAt_eq_of_covers 2 _ (by decide +kernel) fun t _ y => ?_
  blk_simp
  rw [after1_2]; frame_out
  pointwise [k1_pay1, mulNN]
  blk_point [iblk1, idx1 t]

theorem idx2 : ∀ t : Fin cfg2.N, win2_0.index t = ![t.val / 4, 0] ∧ win2_1.index t = ![0, t.val % 4]
    ∧ win2_2.index t = ![t.val / 4, t.val % 4] :=
  (by decide +kernel : ∀ t : Fin grid2.N, _)

theorem final2 : (dat2 V c).arrAt 2 cfg2.N = mulNN (a := 8320) (b := 2048) (c := 4096) (V c main_arg0) (V c main_arg3) := by
  refine (dat2 V c).arrAt_eq_of_covers 2 _ (by decide +kernel) fun t _ y => ?_
  blk_simp
  rw [after2_2]; frame_out
  pointwise [k2_pay1, mulNN]
  blk_point [iblk2, idx2 t]

theorem idx3 : ∀ t : Fin cfg3.N, win3_0.index t = ![t.val, 0] ∧ win3_1.index t = ![0, 0]
    ∧ win3_2.index t = ![t.val, 0] :=
  (by decide +kernel : ∀ t : Fin grid3.N, _)

theorem final3 : (dat3 V c).arrAt 2 cfg3.N = mulNN (a := 8320) (b := 2048) (c := 128) (V c main_arg0) (V c main_arg4) := by
  refine (dat3 V c).arrAt_eq_of_covers 2 _ (by decide +kernel) fun t _ y => ?_
  blk_simp
  rw [after3_2]; frame_out
  pointwise [k3_pay1, mulNN]
  blk_point [iblk3, idx3 t]

theorem idx5 : ∀ t : Fin cfg5.N, win5_0.index t = ![t.val / 4, 0] ∧ win5_1.index t = ![0, t.val % 4]
    ∧ win5_2.index t = ![t.val / 4, t.val % 4] :=
  (by decide +kernel : ∀ t : Fin grid5.N, _)

theorem final5 : (dat5 V c).arrAt 2 cfg5.N = mulNN (a := 8320) (b := 512) (c := 4096) (V c main_v4) (V c main_arg6) := by
  refine (dat5 V c).arrAt_eq_of_covers 2 _ (by decide +kernel) fun t _ y => ?_
  blk_simp
  rw [after5_2]; frame_out
  pointwise [k5_pay1, mulNN]
  blk_point [iblk5, idx5 t]

theorem idx4 : ∀ t : Fin cfg4.N, win4_0.index t = ![t.val, 3] ∧ win4_1.index t = ![0, 0]
    ∧ win4_2.index t = ![t.val, 0] :=
  (by decide +kernel : ∀ t : Fin grid4.N, _)

theorem block4_at (t : Fin cfg4.N) (r : Fin 128) (k : Fin 512) (n : Fin 8320) (hn : n.val = 128 * t.val + r.val) :
    iblk4 V c 0 t (ix2 r k) = V c main_v1 (ix2 n (kvCol k)) := by
  unfold kvCol
  blk_point [iblk4, idx4 t]

theorem final4 : (dat4 V c).arrAt 2 cfg4.N = normKv (V c main_v1) (V c main_arg5) := by
  refine (dat4 V c).arrAt_eq_of_covers 2 _ (by decide +kernel) fun t _ y => ?_
  idx_vars y
  blk_simp
  rw [after4_2]; frame_out
  pointwise [k4_pay1]
  have hr : ((((View.whole main_v4).slice (win4_2.rect t)).emb (ix2 y0 y1)) 0).val = 128 * t.val + y0.val := by
    blk_simp [idx4 t]; omega
  have hk : (((View.whole main_v4).slice (win4_2.rect t)).emb (ix2 y0 y1)) 1 = (y1 : Fin 512) := by
    apply Fin.ext; blk_simp [idx4 t]
  unfold normKv rms
  rw [hk, block4_at V c t y0 y1 _ hr]
  simp only [block4_at V c t y0 _ _ hr]
  rw [show iblk4 V c 1 t (ix2 0 y1) = V c main_arg5 (ix2 0 y1) by blk_point [iblk4, idx4 t]]

end Cert.ProjectIdeal.Project
-- ==== Proof.Project.Run.lean ====
module

public import proofs.«01_k».proof.Proof.Project.Regions

set_option maxRecDepth 16384

/-! # What the six projection calls leave, from the arguments -/

@[expose] public section
noncomputable section

namespace Cert.ProjectIdeal.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjectIdeal Cert.ProjectIdeal.Gen _root_.Conv _root_.Products _root_.Project

local notation "𝕄" => MT nD τ sig Unit (Elt Ideal) ℕ (UR sig nD τ) ℕ

variable (m : (ℓ : Loc nD τ sig) → Buf (Elt Ideal) ℓ) (ρ : Dev nD → PrngReg) (c : Dev nD)

/-- The projection of the second branch. -/
def hp : Arr 8320 8192 := mulNN (b := 2048) (m ((c : Thread nD τ).loc main_arg0)) (m ((c : Thread nD τ).loc main_arg1))
/-- The two latents, side by side. -/
def lat : Arr 8320 2048 := mulNN (b := 2048) (m ((c : Thread nD τ).loc main_arg0)) (m ((c : Thread nD τ).loc main_arg2))
/-- The gates. -/
def gates : Arr 8320 4096 := mulNN (b := 2048) (m ((c : Thread nD τ).loc main_arg0)) (m ((c : Thread nD τ).loc main_arg3))
/-- The rotary key. -/
def kr : Arr 8320 128 := mulNN (b := 2048) (m ((c : Thread nD τ).loc main_arg0)) (m ((c : Thread nD τ).loc main_arg4))
/-- The norm of the key-value latent. -/
def kvn : Arr 8320 512 := normKv (lat m c) (m ((c : Thread nD τ).loc main_arg5))
/-- The keys and values. -/
def kv : Arr 8320 4096 := mulNN (kvn m c) (m ((c : Thread nD τ).loc main_arg6))

theorem v0_at1 : V1 m ρ c main_v0 = hp m c := by
  refine (W1_arr m ρ c 2).trans ((final0 (V0 m ρ) c).trans ?_)
  rw [show V0 m ρ c main_arg0 = m ((c : Thread nD τ).loc main_arg0) from W0_args m ρ c _ (by decide), show V0 m ρ c main_arg1 = m ((c : Thread nD τ).loc main_arg1) from W0_args m ρ c _ (by decide)]
  rfl

theorem v0_at2 : V2 m ρ c main_v0 = hp m c := (W2_of m ρ c main_v0 (by decide)).trans (v0_at1 m ρ c)

theorem v0_at3 : V3 m ρ c main_v0 = hp m c := (W3_of m ρ c main_v0 (by decide)).trans (v0_at2 m ρ c)

theorem v0_at4 : V4 m ρ c main_v0 = hp m c := (W4_of m ρ c main_v0 (by decide)).trans (v0_at3 m ρ c)

theorem v0_at5 : V5 m ρ c main_v0 = hp m c := (W5_of m ρ c main_v0 (by decide)).trans (v0_at4 m ρ c)

theorem v0_at6 : V6 m ρ c main_v0 = hp m c := (W6_of m ρ c main_v0 (by decide)).trans (v0_at5 m ρ c)

theorem v1_at2 : V2 m ρ c main_v1 = lat m c := by
  refine (W2_arr m ρ c 2).trans ((final1 (V1 m ρ) c).trans ?_)
  rw [show V1 m ρ c main_arg0 = m ((c : Thread nD τ).loc main_arg0) from W1_args m ρ c _ (by decide), show V1 m ρ c main_arg2 = m ((c : Thread nD τ).loc main_arg2) from W1_args m ρ c _ (by decide)]
  rfl

theorem v1_at3 : V3 m ρ c main_v1 = lat m c := (W3_of m ρ c main_v1 (by decide)).trans (v1_at2 m ρ c)

theorem v1_at4 : V4 m ρ c main_v1 = lat m c := (W4_of m ρ c main_v1 (by decide)).trans (v1_at3 m ρ c)

theorem v1_at5 : V5 m ρ c main_v1 = lat m c := (W5_of m ρ c main_v1 (by decide)).trans (v1_at4 m ρ c)

theorem v1_at6 : V6 m ρ c main_v1 = lat m c := (W6_of m ρ c main_v1 (by decide)).trans (v1_at5 m ρ c)

theorem v2_at3 : V3 m ρ c main_v2 = gates m c := by
  refine (W3_arr m ρ c 2).trans ((final2 (V2 m ρ) c).trans ?_)
  rw [show V2 m ρ c main_arg0 = m ((c : Thread nD τ).loc main_arg0) from W2_args m ρ c _ (by decide), show V2 m ρ c main_arg3 = m ((c : Thread nD τ).loc main_arg3) from W2_args m ρ c _ (by decide)]
  rfl

theorem v2_at4 : V4 m ρ c main_v2 = gates m c := (W4_of m ρ c main_v2 (by decide)).trans (v2_at3 m ρ c)

theorem v2_at5 : V5 m ρ c main_v2 = gates m c := (W5_of m ρ c main_v2 (by decide)).trans (v2_at4 m ρ c)

theorem v2_at6 : V6 m ρ c main_v2 = gates m c := (W6_of m ρ c main_v2 (by decide)).trans (v2_at5 m ρ c)

theorem v3_at4 : V4 m ρ c main_v3 = kr m c := by
  refine (W4_arr m ρ c 2).trans ((final3 (V3 m ρ) c).trans ?_)
  rw [show V3 m ρ c main_arg0 = m ((c : Thread nD τ).loc main_arg0) from W3_args m ρ c _ (by decide), show V3 m ρ c main_arg4 = m ((c : Thread nD τ).loc main_arg4) from W3_args m ρ c _ (by decide)]
  rfl

theorem v3_at5 : V5 m ρ c main_v3 = kr m c := (W5_of m ρ c main_v3 (by decide)).trans (v3_at4 m ρ c)

theorem v3_at6 : V6 m ρ c main_v3 = kr m c := (W6_of m ρ c main_v3 (by decide)).trans (v3_at5 m ρ c)

theorem v4_at5 : V5 m ρ c main_v4 = kvn m c := by
  refine (W5_arr m ρ c 2).trans ((final4 (V4 m ρ) c).trans ?_)
  rw [v1_at4 m ρ c, show V4 m ρ c main_arg5 = m ((c : Thread nD τ).loc main_arg5) from W4_args m ρ c _ (by decide)]
  rfl

theorem v5_at6 : V6 m ρ c main_v5 = kv m c := by
  refine (W6_arr m ρ c 2).trans ((final5 (V5 m ρ) c).trans ?_)
  rw [v4_at5 m ρ c, show V5 m ρ c main_arg6 = m ((c : Thread nD τ).loc main_arg6) from W5_args m ρ c _ (by decide)]
  rfl

set_option backward.isDefEq.respectTransparency.types false in
/-- The calls run, leave the results at their closed forms and the arguments as they were. -/
theorem run : θ_run defs (onTc (τ := τ) (main (F := Ideal))) ⟨m, fun _ => 0, ρ⟩ (fun r => ∀ c : Dev nD,
      r.2.mem ((c.tc : Thread nD τ).loc main_v0) = hp m c
      ∧ r.2.mem ((c.tc : Thread nD τ).loc main_v1) = lat m c
      ∧ r.2.mem ((c.tc : Thread nD τ).loc main_v2) = gates m c
      ∧ r.2.mem ((c.tc : Thread nD τ).loc main_v3) = kr m c
      ∧ r.2.mem ((c.tc : Thread nD τ).loc main_v5) = kv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v0 (by decide))).trans (v0_at6 m ρ c),
       (h c _ (mem_uc main_v1 (by decide))).trans (v1_at6 m ρ c),
       (h c _ (mem_uc main_v2 (by decide))).trans (v2_at6 m ρ c),
       (h c _ (mem_uc main_v3 (by decide))).trans (v3_at6 m ρ c),
       (h c _ (mem_uc main_v5 (by decide))).trans (v5_at6 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.ProjectIdeal.Project

end
-- ==== Proof.Project.Ref.lean ====
module

public import proofs.«01_k».proof.Proof.Gen.ProjectReferenceIdeal.Read
public import proofs.«01_k».proof.Proof.Project.Spec

set_option maxRecDepth 16384

/-! # What the reference of the projections computes, entry by entry -/

@[expose] public section
noncomputable section

open Idealize.ShloMosaic Idealize.ShloMosaic.TcCoe Idealize.SL.Sem

namespace Cert.ProjectReferenceIdeal.Project
open Cert.ProjectReferenceIdeal Cert.ProjectReferenceIdeal.Gen Cert.ProjectReferenceIdeal.Read _root_.Conv _root_.Products _root_.Project

/-- The number zero. -/
theorem zero_f32 : (FloatOps.ofBits .f32 0x00000000#32 : Ideal .f32) = (0 : EReal) := by pointwise

variable (u : Arr 8320 2048) (w1 : Arr 2048 8192) (w2 : Arr 2048 2048) (w3 : Arr 2048 4096) (w4 : Arr 2048 128) (g : Arr 1 512) (w6 : Arr 512 4096)

theorem v6_eq : val_main_v6 (F := Ideal) u w2 = mulNN u w2 := by
  funext i
  rw [val_main_v6_apply]
  refine Finset.sum_congr rfl fun k _ => ?_
  exact congrArg₂ (fun u v : EReal => u * v) (congrArg u (ext2 rfl rfl)) (congrArg w2 (ext2 rfl rfl))

theorem v24_eq : val_main_v24 (F := Ideal) u w2 = mulNN u w2 := v6_eq u w2

theorem v23_eq : val_main_v23 (F := Ideal) u w1 = mulNN u w1 := by
  funext i
  rw [val_main_v23_apply]
  show val_main_v22 (F := Ideal) u w1 i = _
  rw [val_main_v22_apply]
  refine Finset.sum_congr rfl fun k _ => ?_
  exact congrArg₂ (fun u v : EReal => u * v) (congrArg u (ext2 rfl rfl)) (congrArg w1 (ext2 rfl rfl))

theorem v26_eq : val_main_v26 (F := Ideal) u w3 = mulNN u w3 := by
  funext i
  rw [val_main_v26_apply]
  show val_main_v25 (F := Ideal) u w3 i = _
  rw [val_main_v25_apply]
  refine Finset.sum_congr rfl fun k _ => ?_
  exact congrArg₂ (fun u v : EReal => u * v) (congrArg u (ext2 rfl rfl)) (congrArg w3 (ext2 rfl rfl))

theorem v27_eq : val_main_v27 (F := Ideal) u w4 = mulNN u w4 := by
  funext i
  rw [val_main_v27_apply]
  refine Finset.sum_congr rfl fun k _ => ?_
  exact congrArg₂ (fun u v : EReal => u * v) (congrArg u (ext2 rfl rfl)) (congrArg w4 (ext2 rfl rfl))

theorem v8_at (n : Fin 8320) (k : Fin 512) : val_main_v8 (F := Ideal) u w2 (ix2 n k) = mulNN u w2 (ix2 n (kvCol k)) := by
  rw [val_main_v8_apply, v6_eq]
  exact congrArg _ (ext2 rfl (Nat.add_comm _ _))

theorem v20_eq : val_main_v20 (F := Ideal) u w2 g = normKv (mulNN u w2) g := by
  funext j
  obtain ⟨n, k, rfl⟩ : ∃ (n : Fin 8320) (k : Fin 512), j = ix2 n k := ⟨j 0, j 1, ext2 rfl rfl⟩
  rw [val_main_v20_apply, val_main_v18_apply, val_main_v19_apply, val_main_v17_apply, val_main_v16_apply, val_main_v15_apply,
    val_main_v14_apply, val_main_v13_apply, val_main_v12_apply, val_main_v11_apply, val_main_v10_apply, val_main_cst_apply, val_main_cst_0_apply,
    val_main_cst_1_apply, zero_f32, zero_add, v8_at]
  unfold normKv rms
  refine congrArg₂ (fun u v : EReal => u * v) (congrArg (fun v : EReal => mulNN u w2 (ix2 n (kvCol k)) * v) (congrArg Ideal.rsqrt
    (congrArg (fun u : EReal => Ideal.div u _ + _) (Finset.sum_congr rfl fun l _ => ?_)))) (congrArg g (ext2 rfl rfl))
  rw [val_main_v9_apply]
  rw [show idx_main_v10 (idx_main_v11 (idx_main_v17 (ix2 n k))) l = ix2 n l from ext2 rfl rfl, v8_at]
  rfl

theorem v28_eq : val_main_v28 (F := Ideal) u w2 g w6 = mulNN (normKv (mulNN u w2) g) w6 := by
  funext i
  rw [val_main_v28_apply]
  show val_main_v21 (F := Ideal) u w2 g w6 i = _
  rw [val_main_v21_apply]
  refine Finset.sum_congr rfl fun k _ => ?_
  rw [v20_eq]
  exact congrArg₂ (fun u v : EReal => u * v) (congrArg _ (ext2 rfl rfl)) (congrArg w6 (ext2 rfl rfl))

end Cert.ProjectReferenceIdeal.Project

end
-- ==== Proof.Project.Agree.lean ====
module

public import proofs.«01_k».proof.Proof.Project.Run
public import proofs.«01_k».proof.Proof.Project.Ref
public import proofs.«01_k».proof.Defs
public import Idealize.ShloMosaic.Adequacy

set_option maxRecDepth 16384

/-! # The six projection calls and the reference leave equal results -/

@[expose] public section
noncomputable section

open Idealize.ShloMosaic Idealize.ShloMosaic.TcCoe Idealize.SL.Sem

namespace Cert.Proof

theorem algebraic_project : Cert.algebraic_ProjectIdeal_ProjectReferenceIdeal := by
  intro m ρ m' ρ' _ hargs
  refine ⟨fun c => ProjectIdeal.Project.hp m c, fun c => ProjectIdeal.Project.lat m c, fun c => ProjectIdeal.Project.gates m c,
    fun c => ProjectIdeal.Project.kr m c, fun c => ProjectIdeal.Project.kv m c, ProjectIdeal.Project.run m ρ, ?_⟩
  refine (θ_run Cert.ProjectReferenceIdeal.defs _ _).mono (fun r h c => ?_) (ProjectReferenceIdeal.Value.run (F := Ideal) m' ρ')
  obtain ⟨a0, a1, a2, a3, a4, a5, a6⟩ := hargs c
  obtain ⟨r0, r1, r2, r3, r4, hr⟩ := h c
  refine ⟨r0.trans ?_, r1.trans ?_, r2.trans ?_, r3.trans ?_, r4.trans ?_, hr⟩
  · rw [ProjectReferenceIdeal.Read.val_main_v23_eq, a0, a1]
    exact ProjectReferenceIdeal.Project.v23_eq _ _
  · rw [ProjectReferenceIdeal.Read.val_main_v24_eq, a0, a2]
    exact ProjectReferenceIdeal.Project.v24_eq _ _
  · rw [ProjectReferenceIdeal.Read.val_main_v26_eq, a0, a3]
    exact ProjectReferenceIdeal.Project.v26_eq _ _
  · rw [ProjectReferenceIdeal.Read.val_main_v27_eq, a0, a4]
    exact ProjectReferenceIdeal.Project.v27_eq _ _
  · rw [ProjectReferenceIdeal.Read.val_main_v28_eq, a0, a2, a5, a6]
    exact ProjectReferenceIdeal.Project.v28_eq _ _ _ _

end Cert.Proof

end
-- ==== Proof.Conv.Ref.lean ====
module

public import proofs.«01_k».proof.Proof.Gen.ReferenceIdeal.Read
public import proofs.«01_k».proof.Proof.Conv.Spec
public import Idealize.ShloMosaic.Lib.KernelVsHost

set_option maxRecDepth 16384

/-! # What the reference computes, entry by entry -/

@[expose] public section
noncomputable section

open Idealize.ShloMosaic Idealize.ShloMosaic.TcCoe Idealize.SL.Sem

namespace Cert.ReferenceIdeal.Conv
open Cert.ReferenceIdeal Cert.ReferenceIdeal.Gen Cert.ReferenceIdeal.Read _root_.Conv

/-! ## Indices, padded arrays, joined arrays -/

theorem ext2 {a b : ℕ} {i j : (⟨2, ![a, b]⟩ : Shape).Idx} (h0 : (i 0).val = (j 0).val) (h1 : (i 1).val = (j 1).val) : i = j :=
  funext fun k => match k with
    | ⟨0, _⟩ => Fin.ext h0
    | ⟨1, _⟩ => Fin.ext h1

/-- Rows added before and behind, read at a row. -/
theorem pad_rows {a a' b : ℕ} (l h : ℕ) (x : Arr a b) (v : S_.Idx → EReal)
    (hp : (⟨2, ![a, b]⟩ : Shape).Pads (![l, 0] : Fin 2 → Nat) ![h, 0] ![0, 0] ⟨2, ![a', b]⟩) (hu : 0 < S_.numel) (p : Fin a') (k : Fin b) :
    pad ⟨2, ![a', b]⟩ (![l, 0] : Fin 2 → Nat) ![h, 0] ![0, 0] x v hp hu (ix2 p k)
      = if hin : l ≤ p.val ∧ p.val - l < a then x (ix2 ⟨p.val - l, hin.2⟩ k) else v (Shape.Idx.first hu) := by
  by_cases hin : l ≤ p.val ∧ p.val - l < a
  · rw [dif_pos hin]
    refine pad_apply_of_inside _ _ _ x v hp hu _ _ fun q => ?_
    match q with
    | ⟨0, _⟩ => show p.val = l + (p.val - l) * (0 + 1); omega
    | ⟨1, _⟩ => show k.val = 0 + k.val * (0 + 1); omega
  · rw [dif_neg hin]
    refine pad_apply_of_not_inside _ _ _ x v hp hu _ 0 fun hq => hin ?_
    have h1 : l ≤ p.val := hq.1
    have h2 : (p.val - l) / (0 + 1) < a := hq.2.2
    rw [Nat.zero_add, Nat.div_one] at h2
    exact ⟨h1, h2⟩

theorem first_zero {v : S_.Idx → EReal} (h : ∀ i, v i = 0) (hu : 0 < S_.numel) : v (Shape.Idx.first hu) = 0 := h _

theorem zero_f32 : FloatOps.ofBits (F := Ideal) .f32 0x00000000#32 = (0 : EReal) := Ideal.ofBits_zero_f32
theorem one_f32 : FloatOps.ofBits (F := Ideal) .f32 0x3F800000#32 = (1 : EReal) := by
  show Ideal.ofBits .f32 0x3F800000#32 = 1
  simp [Ideal.ofBits, Ideal.ieee]
  rw [← EReal.coe_mul]
  norm_num

theorem select_of {α : Type} {c : BitVec 1} {p : Prop} [Decidable p] (h : c = 1#1 ↔ p) (a b : α) :
    Scalar.select c a b = if p then a else b := by
  unfold Scalar.select
  by_cases hp : p
  · rw [if_pos hp, if_pos (show c = 1 from h.2 hp)]
  · rw [if_neg hp, if_neg (fun hc : c = 1 => hp (h.1 hc))]

theorem valid_row : ∀ n : Fin 8320, IntOp.cmpi CmpIPredicate.sge (BitVec.ofNat 32 n.val) 112#32 = 1#1 ↔ 112 ≤ n.val := by decide +kernel

variable (x0 : Arr 8320 2048) (x1 : Arr 2048 11264) (x2 : Arr 3 5632) (x3 : Arr 1 5632) (x4 : Arr 5632 2048) (x5 : Arr 8320 2048)

/-- The gate and the up half. -/
abbrev G : Arr 8320 11264 := mulNN x0 x1
/-- The gradient of the activation. -/
abbrev A : Arr 8320 5632 := mulNT x5 x4

/-! ## The forward lines -/

theorem v4_eq : val_main_v4 (F := Ideal) x0 x1 = G x0 x1 := by
  funext i
  rw [val_main_v4_apply]
  refine Finset.sum_congr rfl fun k _ => ?_
  exact congr (congrArg _ (congrArg x0 (ext2 rfl rfl))) (congrArg x1 (ext2 rfl rfl))

theorem v40_eq : val_main_v40 (F := Ideal) x4 x5 = A x4 x5 := by
  funext i
  rw [val_main_v40_apply]
  refine Finset.sum_congr rfl fun k _ => ?_
  exact congr (congrArg _ (congrArg x5 (ext2 rfl rfl))) (congrArg x4 (ext2 rfl rfl))

theorem v10_at (n : Fin 8320) (k : Fin 5632) : val_main_v10 (F := Ideal) x0 x1 (ix2 n k) = G x0 x1 (ix2 n (upCol k)) := by
  rw [val_main_v10_apply, v4_eq]
  exact congrArg _ (ext2 rfl (Nat.add_comm 5632 k.val))

theorem mask_at (n : Fin 8320) (k : Fin 5632) : val_main_v11_1 (F := Ideal) (ix2 n k) = 1#1 ↔ 112 ≤ n.val := by
  rw [val_main_v11_1_apply, val_main_v8_apply, val_main_v7_apply, val_main_v5_apply, val_main_v6_apply, val_main_c_apply]
  exact valid_row n

theorem v11_at (n : Fin 8320) (k : Fin 5632) :
    val_main_v11_0 (F := Ideal) x0 x1 (ix2 n k) = if 112 ≤ n.val then G x0 x1 (ix2 n (gateCol k)) else 0 := by
  rw [val_main_v11_0_apply, select_of (mask_at n k), val_main_v9_apply, v4_eq, val_main_call0_v2_apply, val_main_call0_v0_apply, val_main_cst_apply, zero_f32]
  exact congrArg (if 112 ≤ n.val then · else (0 : EReal)) (congrArg _ (ext2 rfl rfl))

theorem v13_at (p : Fin 8322) (k : Fin 5632) : val_main_v13 (F := Ideal) x0 x1 (ix2 p k) = gpad (G x0 x1) p.val k := by
  have hp := p.isLt
  unfold val_main_v13
  by_cases h : p.val < 2
  · rw [concatenate_pair_apply_left (s₁ := S2x5632) (s₂ := S8320x5632) 0 _ _ _ (ix2 p k) rfl (ix2 (⟨p.val, h⟩ : Fin 2) k) (fun b => match b with
      | ⟨0, _⟩ => rfl
      | ⟨1, _⟩ => rfl), val_main_v12_apply, val_main_cst_0_apply, zero_f32]
    unfold gpad
    rw [dif_neg (show ¬ (114 ≤ p.val ∧ p.val < 8322) from fun h3 => by omega)]
  · rw [concatenate_pair_apply_right (s₁ := S2x5632) (s₂ := S8320x5632) 0 _ _ _ (ix2 p k) rfl rfl (ix2 (⟨p.val - 2, by omega⟩ : Fin 8320) k) (fun b hb => match b with
      | ⟨0, _⟩ => absurd rfl hb
      | ⟨1, _⟩ => rfl) (by show p.val - 2 + 2 = p.val; omega), v11_at]
    unfold gpad
    by_cases h2 : 114 ≤ p.val
    · rw [dif_pos ⟨h2, hp⟩, if_pos (by show 112 ≤ p.val - 2; omega)]
    · rw [dif_neg (fun h3 => h2 h3.1), if_neg (by show ¬ 112 ≤ p.val - 2; omega)]

theorem v17_at (n : Fin 8320) (k : Fin 5632) : val_main_v17 (F := Ideal) x0 x1 (ix2 n k) = gpad (G x0 x1) n.val k := by
  rw [val_main_v17_apply, show idx_main_v17 (ix2 n k) = ix2 (⟨n.val, by omega⟩ : Fin 8322) k from ext2 rfl rfl, v13_at]
theorem v23_at (n : Fin 8320) (k : Fin 5632) : val_main_v23 (F := Ideal) x0 x1 (ix2 n k) = gpad (G x0 x1) (n.val + 1) k := by
  rw [val_main_v23_apply, show idx_main_v23 (ix2 n k) = ix2 (⟨n.val + 1, by omega⟩ : Fin 8322) k from ext2 (Nat.add_comm 1 n.val) rfl, v13_at]
theorem v30_at (n : Fin 8320) (k : Fin 5632) : val_main_v30 (F := Ideal) x0 x1 (ix2 n k) = gpad (G x0 x1) (n.val + 2) k := by
  rw [val_main_v30_apply, show idx_main_v30 (ix2 n k) = ix2 (⟨n.val + 2, by omega⟩ : Fin 8322) k from ext2 (Nat.add_comm 2 n.val) rfl, v13_at]

theorem v18_at (i : S1x5632.Idx) : val_main_v18 (F := Ideal) x2 i = x2 (ix2 0 (i 1)) := by
  rw [val_main_v18_apply, val_main_v16_apply, val_main_v15_apply]
  exact congrArg x2 (ext2 rfl (Nat.mod_eq_of_lt (i 1).isLt))
theorem v24_at (i : S1x5632.Idx) : val_main_v24 (F := Ideal) x2 i = x2 (ix2 1 (i 1)) := by
  rw [val_main_v24_apply, val_main_v22_apply, val_main_v21_apply]
  exact congrArg x2 (ext2 rfl (Nat.mod_eq_of_lt (i 1).isLt))
theorem v31_at (i : S1x5632.Idx) : val_main_v31 (F := Ideal) x2 i = x2 (ix2 2 (i 1)) := by
  rw [val_main_v31_apply, val_main_v29_apply, val_main_v28_apply]
  exact congrArg x2 (ext2 rfl (Nat.mod_eq_of_lt (i 1).isLt))

theorem v36_at (n : Fin 8320) (k : Fin 5632) : val_main_v36 (F := Ideal) x0 x1 x2 x3 (ix2 n k) = conv (G x0 x1) x2 x3 n.val k := by
  rw [val_main_v36_apply, val_main_v34_apply, val_main_v27_apply, val_main_v20_apply, val_main_v26_apply, val_main_v33_apply, val_main_v35_apply,
    val_main_v19_apply, val_main_v25_apply, val_main_v32_apply, v18_at, v24_at, v31_at, v17_at, v23_at, v30_at]
  rw [show idx_main_v35 (ix2 n k) = ix2 0 k from ext2 rfl rfl]
  rfl

theorem sig_at (n : Fin 8320) (k : Fin 5632) : val_main_v37_2 (F := Ideal) x0 x1 x2 x3 (ix2 n k) = Conv.sig (conv (G x0 x1) x2 x3 n.val k) := by
  rw [val_main_v37_2_apply, val_main_call1_v3_apply, val_main_call1_v4_apply, val_main_call1_v2_apply, val_main_call1_cst_apply, val_main_call1_cst_0_apply,
    val_main_call1_v1_apply, val_main_call1_v0_apply, v36_at, one_f32]
  unfold Conv.sig
  rw [zero_sub]
  rfl

theorem v37_0_at (n : Fin 8320) (k : Fin 5632) : val_main_v37_0 (F := Ideal) x0 x1 x2 x3 (ix2 n k)
    = conv (G x0 x1) x2 x3 n.val k * Conv.sig (conv (G x0 x1) x2 x3 n.val k) := by
  rw [val_main_v37_0_apply, v36_at, sig_at]; rfl

theorem v37_1_at (n : Fin 8320) (k : Fin 5632) : val_main_v37_1 (F := Ideal) x0 x1 x2 x3 (ix2 n k)
    = Conv.sig (conv (G x0 x1) x2 x3 n.val k) * (1 - Conv.sig (conv (G x0 x1) x2 x3 n.val k)) := by
  rw [val_main_v37_1_apply, val_main_call1_v7_apply, sig_at, val_main_call1_v6_apply, val_main_call1_cst_1_apply, one_f32]; rfl

theorem v81_eq : val_main_v81 (F := Ideal) x0 x1 x2 x3 = act (G x0 x1) x2 x3 := by
  funext i
  obtain ⟨n, k, rfl⟩ : ∃ (n : Fin 8320) (k : Fin 5632), i = ix2 n k := ⟨i 0, i 1, ext2 rfl rfl⟩
  rw [val_main_v81_apply, val_main_v38_apply, v37_0_at, v10_at]
  rfl

/-! ## The gradient -/

/-- The gradient of the convolution's result, in the order of the derivative's operations. -/
def E : Arr 8320 5632 := fun j =>
  A x4 x5 j * G x0 x1 (ix2 (j 0) (upCol (j 1))) * Conv.sig (conv (G x0 x1) x2 x3 (j 0).val (j 1))
    + conv (G x0 x1) x2 x3 (j 0).val (j 1) * (A x4 x5 j * G x0 x1 (ix2 (j 0) (upCol (j 1))))
      * (Conv.sig (conv (G x0 x1) x2 x3 (j 0).val (j 1)) * (1 - Conv.sig (conv (G x0 x1) x2 x3 (j 0).val (j 1))))

theorem v43_eq : val_main_v43 (F := Ideal) x0 x1 x2 x3 x4 x5 = E x0 x1 x2 x3 x4 x5 := by
  funext i
  obtain ⟨n, k, rfl⟩ : ∃ (n : Fin 8320) (k : Fin 5632), i = ix2 n k := ⟨i 0, i 1, ext2 rfl rfl⟩
  rw [val_main_v43_apply, val_main_call2_v1_apply, val_main_call2_v2_apply, val_main_call2_v0_apply, val_main_v42_apply, v40_eq, v10_at, sig_at, v36_at, v37_1_at]
  rfl

theorem v45_eq : val_main_v45 (F := Ideal) x0 x1 x2 x3 x4 x5 = dbias (E x0 x1 x2 x3 x4 x5) := by
  funext i
  rw [val_main_v45_apply, val_main_v44_apply, val_main_cst_2_apply, zero_f32, zero_add, v43_eq]
  refine Finset.sum_congr rfl fun n _ => congrArg _ (ext2 rfl ?_)
  have h0 : (i 0).val < 1 := (i 0).isLt
  show (i 0).val * 5632 + (i 1).val = (i 1).val
  omega

variable (p : Fin 8322) (n : Fin 8320) (k : Fin 5632)

theorem v47_at : val_main_v47 (F := Ideal) x0 x1 x2 x3 x4 x5 (ix2 n k) = x2 (ix2 2 k) * E x0 x1 x2 x3 x4 x5 (ix2 n k) := by
  rw [val_main_v47_apply, val_main_v46_apply, v31_at, v43_eq]; rfl
theorem v56_at : val_main_v56 (F := Ideal) x0 x1 x2 x3 x4 x5 (ix2 n k) = x2 (ix2 1 k) * E x0 x1 x2 x3 x4 x5 (ix2 n k) := by
  rw [val_main_v56_apply, val_main_v55_apply, v24_at, v43_eq]; rfl
theorem v67_at : val_main_v67 (F := Ideal) x0 x1 x2 x3 x4 x5 (ix2 n k) = x2 (ix2 0 k) * E x0 x1 x2 x3 x4 x5 (ix2 n k) := by
  rw [val_main_v67_apply, val_main_v66_apply, v18_at, v43_eq]; rfl

/-- A tap's product, read as zero behind the last row. -/
theorem tap_dpad (E : Arr 8320 5632) (w : EReal) (v : S_.Idx → EReal) (hv : ∀ i, v i = 0) (q : ℕ) (x : Arr 8320 5632)
    (hx : ∀ n : Fin 8320, x (ix2 n k) = w * E (ix2 n k)) (l h : ℕ)
    (hp : (⟨2, ![8320, 5632]⟩ : Shape).Pads (![l, 0] : Fin 2 → Nat) ![h, 0] ![0, 0] ⟨2, ![8322, 5632]⟩) (hu : 0 < S_.numel)
    (hq : p.val = l + q) :
    pad ⟨2, ![8322, 5632]⟩ (![l, 0] : Fin 2 → Nat) ![h, 0] ![0, 0] x v hp hu (ix2 p k) = w * dpad E q k := by
  rw [pad_rows, first_zero hv]
  unfold dpad
  have hi : p.val - l = q := by omega
  by_cases h2 : q < 8320
  · rw [dif_pos ⟨by omega, by omega⟩, dif_pos h2, hx]
    exact congrArg (w * ·) (congrArg E (ext2 hi rfl))
  · rw [dif_neg (fun h3 => h2 (hi ▸ h3.2)), dif_neg h2, mul_zero]

theorem v78_at : val_main_v78 (F := Ideal) x0 x1 x2 x3 x4 x5 (ix2 n k)
    = x2 (ix2 2 k) * dpad (E x0 x1 x2 x3 x4 x5) n.val k + x2 (ix2 1 k) * dpad (E x0 x1 x2 x3 x4 x5) (n.val + 1) k
      + x2 (ix2 0 k) * dpad (E x0 x1 x2 x3 x4 x5) (n.val + 2) k := by
  rw [val_main_v78_apply, show idx_main_v78 (ix2 n k) = ix2 (⟨2 + n.val, by omega⟩ : Fin 8322) k from ext2 rfl rfl, val_main_v73_apply, val_main_v62_apply]
  unfold val_main_v52 val_main_v61 val_main_v72
  rw [tap_dpad _ k (E x0 x1 x2 x3 x4 x5) _ (val_main_cst_5 (F := Ideal)) (fun _ => zero_f32) n.val _ (fun n => v47_at x0 x1 x2 x3 x4 x5 n k) 2 0 _ _ rfl,
    tap_dpad _ k (E x0 x1 x2 x3 x4 x5) _ (val_main_cst_9 (F := Ideal)) (fun _ => zero_f32) (n.val + 1) _ (fun n => v56_at x0 x1 x2 x3 x4 x5 n k) 1 1 _ _
      (by show 2 + n.val = 1 + (n.val + 1); omega),
    tap_dpad _ k (E x0 x1 x2 x3 x4 x5) _ (val_main_cst_13 (F := Ideal)) (fun _ => zero_f32) (n.val + 2) _ (fun n => v67_at x0 x1 x2 x3 x4 x5 n k) 0 2 _ _
      (by show 2 + n.val = 0 + (n.val + 2); omega)]
  rfl

theorem v82_eq : val_main_v82 (F := Ideal) x0 x1 x2 x3 x4 x5
    = beside (dgate (E x0 x1 x2 x3 x4 x5) x2) (dup (A x4 x5) (G x0 x1) x2 x3) := by
  funext i
  obtain ⟨n, q, rfl⟩ : ∃ (n : Fin 8320) (q : Fin 11264), i = ix2 n q := ⟨i 0, i 1, ext2 rfl rfl⟩
  have hq := q.isLt
  rw [val_main_v82_apply]
  unfold val_main_v80
  by_cases h : q.val < 5632
  · refine ((concatenate_pair_apply_left (s₁ := S8320x5632) (s₂ := S8320x5632) 1 _ _ _ (ix2 n q) rfl (ix2 n (⟨q.val, h⟩ : Fin 5632)) (fun b => match b with
      | ⟨0, _⟩ => rfl
      | ⟨1, _⟩ => rfl)).trans ?_).trans (dif_pos h).symm
    rw [val_main_v79_apply, select_of (mask_at n _), v78_at, val_main_call3_v0_apply, val_main_call3_cst_apply, zero_f32]
    rfl
  · refine ((concatenate_pair_apply_right (s₁ := S8320x5632) (s₂ := S8320x5632) 1 _ _ _ (ix2 n q) rfl rfl (ix2 n (⟨q.val - 5632, by omega⟩ : Fin 5632)) (fun b hb => match b with
      | ⟨0, _⟩ => rfl
      | ⟨1, _⟩ => absurd rfl hb) (by show q.val - 5632 + 5632 = q.val; omega)).trans ?_).trans (dif_neg h).symm
    rw [val_main_v41_apply, v37_0_at, v40_eq]
    exact mul_comm _ _

/-! ## The gradient of the taps -/

theorem v53_at : val_main_v53 (F := Ideal) x0 x1 x2 x3 x4 x5 (ix2 (0 : Fin 1) k)
    = ∑ n : Fin 8320, E x0 x1 x2 x3 x4 x5 (ix2 n k) * gpad (G x0 x1) (n.val + 2) k := by
  rw [val_main_v53_apply, val_main_v51_apply, val_main_cst_4_apply, zero_f32, zero_add, Fin.sum_univ_one, val_main_v50_apply, val_main_v49_apply,
    val_main_cst_3_apply, zero_f32, zero_add]
  refine Finset.sum_congr rfl fun n _ => ?_
  rw [show idx_main_v49 (idx_main_v50 (idx_main_v51 (idx_main_v53 (ix2 (0 : Fin 1) k)) 0)) n = ix2 n k from
    ext2 rfl (by show 0 * 5632 + k.val = k.val; omega), val_main_v48_apply, v43_eq, v30_at]
  rfl
theorem v63_at : val_main_v63 (F := Ideal) x0 x1 x2 x3 x4 x5 (ix2 (0 : Fin 1) k)
    = ∑ n : Fin 8320, E x0 x1 x2 x3 x4 x5 (ix2 n k) * gpad (G x0 x1) (n.val + 1) k := by
  rw [val_main_v63_apply, val_main_v60_apply, val_main_cst_8_apply, zero_f32, zero_add, Fin.sum_univ_one, val_main_v59_apply, val_main_v58_apply,
    val_main_cst_7_apply, zero_f32, zero_add]
  refine Finset.sum_congr rfl fun n _ => ?_
  rw [show idx_main_v58 (idx_main_v59 (idx_main_v60 (idx_main_v63 (ix2 (0 : Fin 1) k)) 0)) n = ix2 n k from
    ext2 rfl (by show 0 * 5632 + k.val = k.val; omega), val_main_v57_apply, v43_eq, v23_at]
  rfl
theorem v74_at : val_main_v74 (F := Ideal) x0 x1 x2 x3 x4 x5 (ix2 (0 : Fin 1) k)
    = ∑ n : Fin 8320, E x0 x1 x2 x3 x4 x5 (ix2 n k) * gpad (G x0 x1) (n.val + 0) k := by
  rw [val_main_v74_apply, val_main_v71_apply, val_main_cst_12_apply, zero_f32, zero_add, Fin.sum_univ_one, val_main_v70_apply, val_main_v69_apply,
    val_main_cst_11_apply, zero_f32, zero_add]
  refine Finset.sum_congr rfl fun n _ => ?_
  rw [show idx_main_v69 (idx_main_v70 (idx_main_v71 (idx_main_v74 (ix2 (0 : Fin 1) k)) 0)) n = ix2 n k from
    ext2 rfl (by show 0 * 5632 + k.val = k.val; omega), val_main_v68_apply, v43_eq, v17_at]
  rfl

/-- One row put at row `l` of three. -/
theorem pad_one (l h : ℕ) (x : Arr 1 5632) (v : S_.Idx → EReal) (hv : ∀ i, v i = 0)
    (hp : (⟨2, ![1, 5632]⟩ : Shape).Pads (![l, 0] : Fin 2 → Nat) ![h, 0] ![0, 0] ⟨2, ![3, 5632]⟩) (hu : 0 < S_.numel) (r : Fin 3) :
    pad ⟨2, ![3, 5632]⟩ (![l, 0] : Fin 2 → Nat) ![h, 0] ![0, 0] x v hp hu (ix2 r k) = if r.val = l then x (ix2 0 k) else 0 := by
  rw [pad_rows, first_zero hv]
  by_cases h2 : r.val = l
  · rw [dif_pos ⟨by omega, by omega⟩, if_pos h2]
    exact congrArg x (ext2 (by show r.val - l = 0; omega) rfl)
  · rw [dif_neg (by omega), if_neg h2]

theorem v76_at (r : Fin 3) : val_main_v76 (F := Ideal) x0 x1 x2 x3 x4 x5 (ix2 r k)
    = ∑ n : Fin 8320, E x0 x1 x2 x3 x4 x5 (ix2 n k) * gpad (G x0 x1) (n.val + r.val) k := by
  rw [val_main_v76_apply, val_main_v65_apply]
  unfold val_main_v54 val_main_v64 val_main_v75
  rw [pad_one k 2 0 _ (val_main_cst_6 (F := Ideal)) (fun _ => zero_f32), pad_one k 1 1 _ (val_main_cst_10 (F := Ideal)) (fun _ => zero_f32),
    pad_one k 0 2 _ (val_main_cst_14 (F := Ideal)) (fun _ => zero_f32), v53_at, v63_at, v74_at]
  show ((_ : EReal) + _) + _ = _
  match r with
  | ⟨0, _⟩ => rw [if_neg (show ¬ (0 : ℕ) = 2 by decide), if_neg (show ¬ (0 : ℕ) = 1 by decide), if_pos rfl, add_zero, zero_add]
  | ⟨1, _⟩ => rw [if_neg (show ¬ (1 : ℕ) = 2 by decide), if_neg (show ¬ (1 : ℕ) = 0 by decide), if_pos rfl, add_zero, zero_add]
  | ⟨2, _⟩ => rw [if_neg (show ¬ (2 : ℕ) = 1 by decide), if_neg (show ¬ (2 : ℕ) = 0 by decide), if_pos rfl, add_zero, add_zero]

theorem v83_eq : val_main_v83 (F := Ideal) x0 x1 x2 x3 x4 x5 = dtaps (E x0 x1 x2 x3 x4 x5) (G x0 x1) := by
  funext i
  obtain ⟨r, k, rfl⟩ : ∃ (r : Fin 8) (k : Fin 5632), i = ix2 r k := ⟨i 0, i 1, ext2 rfl rfl⟩
  have hz : ∀ i, val_main_call4_v0 (F := Ideal) i = (0 : EReal) := fun i => by
    rw [val_main_call4_v0_apply, val_main_c_15_apply]
    show ((((0#32 : BitVec 32).toInt : ℤ) : ℝ) : EReal) = 0
    simp
  unfold val_main_v83
  rw [pad_rows, first_zero hz]
  unfold dtaps
  by_cases h : r.val < 3
  · rw [dif_pos ⟨Nat.zero_le _, h⟩, v76_at]
    exact (if_pos h).symm
  · rw [dif_neg (fun h2 => h h2.2)]
    exact (if_neg h).symm

end Cert.ReferenceIdeal.Conv

end
-- ==== Proof.Conv.Pre.lean ====
module

public import proofs.«01_k».proof.Pre_finite
public import Idealize.ShloMosaic.Lib.ReduceAll
public import Idealize.ShloMosaic.PureOps.Ideal.Laws
public import Idealize.ShloMosaic.Lib.Pipeline.ValueKit

set_option maxRecDepth 16384

/-! # The precondition, read element by element

`finite` compares the magnitude of every element of every argument with infinity; over the extended reals it says that no
element is one of the two infinities. -/

@[expose] public section
noncomputable section

open Idealize.ShloMosaic

namespace Cert.Pre_finite.Conv
open Cert.Pre_finite

/-- The side conditions of the precondition's operations. -/
instance facts : Cert.Pre_finite.Facts where
  bitsLt_bf16_f32 := by decide
  bcast_S_S8320x2048 := by decide
  reducesTo_S8320x2048_S_d0_1 := by decide
  h_S_ := by decide
  bcast_S_S2048x11264 := by decide
  reducesTo_S2048x11264_S_d0_1 := by decide
  bcast_S_S3x5632 := by decide
  reducesTo_S3x5632_S_d0_1 := by decide
  bcast_S_S1x5632 := by decide
  reducesTo_S1x5632_S_d0_1 := by decide
  bcast_S_S5632x2048 := by decide
  reducesTo_S5632x2048_S_d0_1 := by decide

/-- No element is an infinity. -/
def Real' {s : Shape} (x : s.Idx → EReal) : Prop := ∀ i, x i ≠ ⊤ ∧ x i ≠ ⊥

theorem inf_eq : FloatOps.ofBits (F := Ideal) .f32 0x7F800000#32 = (⊤ : EReal) := by
  show Ideal.ofBits .f32 0x7F800000#32 = ⊤
  simp [Ideal.ofBits, Ideal.ieee]

theorem real_of_all {s : Shape} (x : FVec Ideal s .f32) (hb : S_.BroadcastsInDim s (![] : Fin 0 → Fin s.rank))
    {axes : List (Fin s.rank)} (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) :
    Real' x := by
  intro i
  haveI : Subsingleton S_.Idx := ⟨fun a b => funext fun k => k.elim0⟩
  have h := Host.reduce_andi_all _ _ hr hu j e i
  have h2 : Ideal.cmp .olt (max (x i) (-(x i))) (FloatOps.ofBits (F := Ideal) .f32 0x7F800000#32) = 1#1 := h
  rw [inf_eq] at h2
  have h3 : max (x i) (-(x i)) < ⊤ := by
    by_contra hn
    have : Ideal.cmp .olt (max (x i) (-(x i))) ⊤ = BitVec.ofBool (decide (max (x i) (-(x i)) < (⊤ : EReal))) := rfl
    rw [this, decide_eq_false hn] at h2
    exact absurd h2 (by decide)
  rw [max_lt_iff] at h3
  refine ⟨h3.1.ne, fun hb => ?_⟩
  rw [hb] at h3
  exact absurd h3.2 (by simp)

theorem both {x y : IVec S_ 1} {j : S_.Idx} (h : andi x y j = 1#1) : x j = 1#1 ∧ y j = 1#1 := IntOp.andi_eq_one.1 h

theorem real_args (x0 : FVec Ideal S8320x2048 .bf16) (x1 : FVec Ideal S2048x11264 .bf16) (x2 : FVec Ideal S3x5632 .f32)
    (x3 : FVec Ideal S1x5632 .f32) (x4 : FVec Ideal S5632x2048 .bf16) (x5 : FVec Ideal S8320x2048 .bf16)
    (h : Cert.Pre_finite.fn (F := Ideal) x0 x1 x2 x3 x4 x5 = fun _ => 1#1) :
    Real' x0 ∧ Real' x1 ∧ Real' x2 ∧ Real' x3 ∧ Real' x4 ∧ Real' x5 := by
  have h' := congrFun h (fun k => k.elim0)
  unfold Cert.Pre_finite.fn Cert.Pre_finite.fn_part1 at h'
  obtain ⟨h', h5⟩ := both h'
  obtain ⟨h', h4⟩ := both h'
  obtain ⟨h', h3⟩ := both h'
  obtain ⟨h', h2⟩ := both h'
  obtain ⟨h', h1⟩ := both h'
  have h0 := (both h').2
  exact ⟨real_of_all _ _ _ _ _ h0, real_of_all _ _ _ _ _ h1, real_of_all _ _ _ _ _ h2, real_of_all _ _ _ _ _ h3,
    real_of_all _ _ _ _ _ h4, real_of_all _ _ _ _ _ h5⟩

end Cert.Pre_finite.Conv

end
-- ==== Proof.Conv.Tile.lean ====
module

public import proofs.«01_k».proof.Proof.Gen.KernelIdeal.Skeleton
public import proofs.«01_k».proof.Proof.Conv.Spec

set_option maxRecDepth 16384

@[expose] public section
noncomputable section

open Idealize.ShloMosaic Idealize.ShloMosaic.TcCoe Idealize.SL.Sem

namespace Cert.KernelIdeal.Conv
open Cert.KernelIdeal Cert.KernelIdeal.Gen _root_.Conv

/-! ## Integer words -/

theorem select_of {α : Type} {c : BitVec 1} {p : Prop} [Decidable p] (h : c = 1#1 ↔ p) (a b : α) :
    Scalar.select c a b = if p then a else b := by
  unfold Scalar.select
  by_cases hp : p
  · rw [if_pos hp, if_pos (show c = 1 from h.2 hp)]
  · rw [if_neg hp, if_neg (fun hc : c = 1 => hp (h.1 hc))]

theorem row_valid : ∀ (i : Fin 13) (r : Fin 640),
    IntOp.cmpi CmpIPredicate.sge (IntOp.addi (Scalar.muli (BitVec.ofNat 32 i.val) 640#32) (BitVec.ofNat 32 r.val)) 112#32 = 1#1
      ↔ 112 ≤ 640 * i.val + r.val := by decide +kernel

theorem halo_valid : ∀ (i : Fin 13) (r : Fin 16),
    IntOp.cmpi CmpIPredicate.sge
      (IntOp.addi (Scalar.subi (Scalar.muli (BitVec.ofNat 32 i.val) 640#32) 16#32) (BitVec.ofNat 32 r.val)) 112#32 = 1#1
      ↔ 1 ≤ i.val := by decide +kernel

theorem row_is0 : ∀ (r : Fin 640),
    IntOp.cmpi CmpIPredicate.eq (BitVec.ofNat 32 r.val) 0#32 = 1#1 ↔ r.val = 0 := by decide +kernel

theorem row_is1 : ∀ (r : Fin 640),
    IntOp.cmpi CmpIPredicate.eq (BitVec.ofNat 32 r.val) 1#32 = 1#1 ↔ r.val = 1 := by decide +kernel

theorem row_is638 : ∀ (r : Fin 640),
    IntOp.cmpi CmpIPredicate.eq (BitVec.ofNat 32 r.val) 638#32 = 1#1 ↔ r.val = 638 := by decide +kernel

theorem row_is639 : ∀ (r : Fin 640),
    IntOp.cmpi CmpIPredicate.eq (BitVec.ofNat 32 r.val) 639#32 = 1#1 ↔ r.val = 639 := by decide +kernel

theorem halo_is : ∀ (n : Fin 16) (r : Fin 16),
    IntOp.cmpi CmpIPredicate.eq (BitVec.ofNat 32 r.val) (BitVec.ofNat 32 n.val) = 1#1 ↔ r = n := by decide +kernel

/-- A sum that keeps one row is that row. -/
theorem sum_pick (n : Fin 16) (f : Fin 16 → EReal) :
    (∑ x : Fin 16, Scalar.select (IntOp.cmpi CmpIPredicate.eq (BitVec.ofNat 32 x.val) (BitVec.ofNat 32 n.val)) (f x) 0) = f n := by
  rw [Finset.sum_congr rfl fun x _ => select_of (halo_is n x) (f x) 0]
  simp

/-! ## The taps of a tile -/

theorem tap1 (G : Arr 8320 11264) (c : Fin 5632) (i : Fin 13) (l : Fin 512) (v : FVec Ideal S640x512 .f32) (h15 : EReal)
    (hv : ∀ r : Fin 640, v (ix2 r l) = gpad G (640 * i.val + r.val + 2) c) (hh : h15 = gpad G (640 * i.val + 1) c) (r : Fin 640)
    (hlt : (r.val + 640 - 1) % 640 < 640) :
    Scalar.select (IntOp.cmpi CmpIPredicate.eq (BitVec.ofNat 32 r.val) 0#32) h15 (v (ix2 ⟨(r.val + 640 - 1) % 640, hlt⟩ l))
      = gpad G (640 * i.val + r.val + 1) c := by
  rw [select_of (row_is0 r)]
  split
  · rename_i h; rw [hh, h]
  · rw [hv]; congr 1; dsimp only; omega

theorem tap2 (G : Arr 8320 11264) (c : Fin 5632) (i : Fin 13) (l : Fin 512) (v : FVec Ideal S640x512 .f32) (h15 h14 : EReal)
    (hv : ∀ r : Fin 640, v (ix2 r l) = gpad G (640 * i.val + r.val + 2) c) (hh : h15 = gpad G (640 * i.val + 1) c)
    (hh' : h14 = gpad G (640 * i.val) c) (r : Fin 640) (hlt : (r.val + 640 - 2) % 640 < 640) :
    Scalar.select (IntOp.cmpi CmpIPredicate.eq (BitVec.ofNat 32 r.val) 0#32) h14
      (Scalar.select (IntOp.cmpi CmpIPredicate.eq (BitVec.ofNat 32 r.val) 1#32) h15 (v (ix2 ⟨(r.val + 640 - 2) % 640, hlt⟩ l)))
      = gpad G (640 * i.val + r.val) c := by
  rw [select_of (row_is0 r), select_of (row_is1 r)]
  split
  · rename_i h; rw [hh', h]; rfl
  · split
    · rename_i h; rw [hh, h]
    · rw [hv]; congr 1; dsimp only; omega

/-- The block of the gate and its halo, read off the whole array. -/
structure Blocks (G : Arr 8320 11264) (i : Fin 13) (j : Fin 11) (x : Vec Ideal S640x512 .bf16) (h : Vec Ideal S16x512 .bf16) : Prop where
  gate : ∀ (r : Fin 640) (l : Fin 512), x (ix2 r l) = G (ix2 ⟨640 * i.val + r.val, by omega⟩ ⟨512 * j.val + l.val, by omega⟩)
  halo : ∀ (hi : 1 ≤ i.val) (s : Fin 16) (l : Fin 512),
    h (ix2 s l) = G (ix2 ⟨640 * i.val - 16 + s.val, by omega⟩ ⟨512 * j.val + l.val, by omega⟩)

/-- Column `l` of tile `j`. -/
def tcol (j : Fin 11) (l : Fin 512) : Fin 5632 := ⟨512 * j.val + l.val, by omega⟩

theorem gate_masked (G : Arr 8320 11264) (i : Fin 13) (j : Fin 11) (x h) (B : Blocks G i j x h) (r : Fin 640) (l : Fin 512) :
    Scalar.select
      (IntOp.cmpi CmpIPredicate.sge (IntOp.addi (Scalar.muli (BitVec.ofNat 32 i.val) 640#32) (BitVec.ofNat 32 r.val)) 112#32)
      (x (ix2 r l)) (0 : EReal) = gpad G (640 * i.val + r.val + 2) (tcol j l) := by
  rw [select_of (row_valid i r)]
  unfold gpad
  split
  · rw [dif_pos ⟨by omega, by omega⟩, B.gate]; rfl
  · rw [dif_neg (by omega)]

theorem halo_masked (G : Arr 8320 11264) (i : Fin 13) (j : Fin 11) (x h) (B : Blocks G i j x h) (r : Fin 16) (l : Fin 512) :
    Scalar.select
      (IntOp.cmpi CmpIPredicate.sge
        (IntOp.addi (Scalar.subi (Scalar.muli (BitVec.ofNat 32 i.val) 640#32) 16#32) (BitVec.ofNat 32 r.val)) 112#32)
      (h (ix2 r l)) (0 : EReal) = gpad G (640 * i.val + r.val - 14) (tcol j l) := by
  rw [select_of (halo_valid i r)]
  unfold gpad
  split
  · rw [dif_pos ⟨by omega, by omega⟩, B.halo (by omega)]
    refine congrArg G (congrArg₂ ix2 (Fin.ext ?_) rfl)
    dsimp only; omega
  · rw [dif_neg (by omega)]

/-! ## The forward tile -/

theorem conv1 (G : Arr 8320 11264) (i : grid1.Coords) (j : Fin 11) (x h) (B : Blocks G (i 0) j x h)
    (w0 w1 w2 b : Vec Ideal S1x512 .f32) (cw : Arr 3 5632) (cb : Arr 1 5632) (l : Fin 512)
    (h0 : w0 (ix2 0 l) = cw (ix2 0 (tcol j l))) (h1 : w1 (ix2 0 l) = cw (ix2 1 (tcol j l)))
    (h2 : w2 (ix2 0 l) = cw (ix2 2 (tcol j l))) (hb : b (ix2 0 l) = cb (ix2 0 (tcol j l))) (r : Fin 640) :
    k1_pay6 (F := Ideal) (k1_pay2 i x) (iota .tc S640x1 32 [0] iota_S640x1_d0_w32) (k1_pay4 i h) (k1_pay5 i h) w0 w1 w2 b (ix2 r l)
      = conv G cw cb (640 * (i 0).val + r.val) (tcol j l) := by
  have hv : ∀ r : Fin 640, k1_pay2 (F := Ideal) i x (ix2 r l) = gpad G (640 * (i 0).val + r.val + 2) (tcol j l) := fun r => by
    pointwise [k1_pay2]; exact gate_masked G (i 0) j x h B r l
  have hs : ∀ s : Fin 16, k1_pay3 (F := Ideal) i h (ix2 s l) = gpad G (640 * (i 0).val + s.val - 14) (tcol j l) := fun s => by
    pointwise [k1_pay3]; exact halo_masked G (i 0) j x h B s l
  have h15 : k1_pay4 (F := Ideal) i h (ix2 0 l) = gpad G (640 * (i 0).val + 1) (tcol j l) := by
    pointwise [k1_pay4]; exact (sum_pick 15 _).trans (hs 15)
  have h14 : (∑ s : Fin 16, k1_pay5 (F := Ideal) i h (ix2 s l)) = gpad G (640 * (i 0).val) (tcol j l) := by
    pointwise [k1_pay5]; exact (sum_pick 14 _).trans (hs 14)
  pointwise [k1_pay6]
  rw [tap1 G (tcol j l) (i 0) l _ _ hv h15 r, tap2 G (tcol j l) (i 0) l _ _ _ hv h15 h14 r, hv, h0, h1, h2, hb]
  rfl

/-- The stored activation of a tile. -/
theorem act1 (G : Arr 8320 11264) (i : grid1.Coords) (j : Fin 11) (x h) (B : Blocks G (i 0) j x h)
    (w0 w1 w2 b : Vec Ideal S1x512 .f32) (u : Vec Ideal S640x512 .bf16) (cw : Arr 3 5632) (cb : Arr 1 5632) (r : Fin 640) (l : Fin 512)
    (h0 : w0 (ix2 0 l) = cw (ix2 0 (tcol j l))) (h1 : w1 (ix2 0 l) = cw (ix2 1 (tcol j l)))
    (h2 : w2 (ix2 0 l) = cw (ix2 2 (tcol j l))) (hb : b (ix2 0 l) = cb (ix2 0 (tcol j l)))
    (J0 : Fin 8320) (J1 : Fin 5632) (e0 : J0.val = 640 * (i 0).val + r.val) (e1 : J1.val = 512 * j.val + l.val)
    (hu : u (ix2 r l) = G (ix2 J0 (upCol J1))) :
    k1_pay1 (F := Ideal)
      (k1_pay6 (k1_pay2 i x) (iota .tc S640x1 32 [0] iota_S640x1_d0_w32) (k1_pay4 i h) (k1_pay5 i h) w0 w1 w2 b)
      (k1_pay7 (k1_pay2 i x) (iota .tc S640x1 32 [0] iota_S640x1_d0_w32) (k1_pay4 i h) (k1_pay5 i h) w0 w1 w2 b) u (ix2 r l)
      = act G cw cb (ix2 J0 J1) := by
  have hj : J1 = tcol j l := Fin.ext e1
  pointwise [k1_pay1, k1_pay7, act]
  rw [conv1 G i j x h B w0 w1 w2 b cw cb l h0 h1 h2 hb r, hu, e0, ← hj]
  rfl

end Cert.KernelIdeal.Conv
-- ==== Proof.Conv.RegionsFwd.lean ====
module

public import proofs.«01_k».proof.Proof.Gen.KernelIdeal.Frame
public import proofs.«01_k».proof.Proof.Conv.Tile

set_option maxRecDepth 16384

@[expose] public section
noncomputable section

open Idealize.ShloMosaic Idealize.ShloMosaic.TcCoe Idealize.SL.Sem
open Idealize.ShloMosaic.Pipeline (Dat)

namespace Cert.KernelIdeal.Conv
open Cert.KernelIdeal Cert.KernelIdeal.Gen _root_.Conv

variable (V : (c : Dev nD) → (b : Ref sig .tc) → Buf (Elt Ideal) ((c : Thread nD τ).loc b)) (c : Dev nD)

theorem idx0 : ∀ t : Fin cfg0.N, win0_0.index t = ![t.val / 11, 0] ∧ win0_1.index t = ![0, t.val % 11]
    ∧ win0_2.index t = ![t.val / 11, t.val % 11] :=
  (by decide +kernel : ∀ t : Fin grid0.N, _)

theorem final0 : (dat0 V c).arrAt 2 cfg0.N = mulNN (a := 8320) (b := 2048) (c := 11264) (V c main_arg0) (V c main_arg1) := by
  refine (dat0 V c).arrAt_eq_of_covers 2 _ (by decide +kernel) fun t _ y => ?_
  blk_simp
  rw [after0_2]; frame_out
  pointwise [k0_pay1, mulNN]
  blk_point [iblk0, idx0 t]

theorem idx2 : ∀ t : Fin cfg2.N, win2_0.index t = ![t.val / 11, 0] ∧ win2_1.index t = ![t.val % 11, 0]
    ∧ win2_2.index t = ![t.val / 11, t.val % 11] :=
  (by decide +kernel : ∀ t : Fin grid2.N, _)

theorem final2 : (dat2 V c).arrAt 2 cfg2.N = mulNT (a := 8320) (b := 2048) (c := 5632) (V c main_arg5) (V c main_arg4) := by
  refine (dat2 V c).arrAt_eq_of_covers 2 _ (by decide +kernel) fun t _ y => ?_
  blk_simp
  rw [after2_2]; frame_out
  pointwise [k2_pay1, mulNT]
  blk_point [iblk2, idx2 t]

theorem idx1 : ∀ t : Fin cfg1.N, win1_0.index t = ![t.val / 11, t.val % 11] ∧ win1_1.index t = ![t.val / 11 * 40 - 1, t.val % 11]
    ∧ win1_2.index t = ![t.val / 11, t.val % 11 + 11] ∧ win1_3.index t = ![0, t.val % 11] ∧ win1_4.index t = ![0, t.val % 11]
    ∧ win1_5.index t = ![t.val / 11, t.val % 11] ∧ (grid1.coords t 0).val = t.val / 11 ∧ t.val / 11 < 13 :=
  (by decide +kernel : ∀ t : Fin grid1.N, _)

theorem blocks1 (t : Fin cfg1.N) : Blocks (V c main_v0) (grid1.coords t 0) ⟨t.val % 11, Nat.mod_lt _ (by decide)⟩ (iblk1 V c 0 t) (iblk1 V c 1 t) := by
  have hi := (idx1 t).2.2.2.2.2.2.1
  constructor
  · intro r l
    blk_point [iblk1, idx1 t]
  · intro h1 s l
    blk_point [iblk1, idx1 t]

theorem final1 : (dat1 V c).arrAt 5 cfg1.N = act (V c main_v0) (V c main_arg2) (V c main_arg3) := by
  refine (dat1 V c).arrAt_eq_of_covers 5 _ (by decide +kernel) fun t _ y => ?_
  idx_vars y
  blk_simp
  rw [after1_5]; unfold_out out1_5; frame_out
  have hi : (grid1.coords t 0).val = t.val / 11 := (idx1 t).2.2.2.2.2.2.1
  refine (act1 (V c main_v0) (grid1.coords t) _ _ _ (blocks1 V c t) _ _ _ _ (iblk1 V c 2 t) (V c main_arg2) (V c main_arg3) y0 y1
    ?_ ?_ ?_ ?_ (((View.whole main_v1).slice (win1_5.rect t)).emb (ix2 y0 y1) 0)
    (((View.whole main_v1).slice (win1_5.rect t)).emb (ix2 y0 y1) 1) ?_ ?_ ?_).trans (congrArg _ (eq_ix2 _).symm)
  · unfold tcol; pointwise; blk_point [iblk1, idx1 t]
  · unfold tcol; pointwise; blk_point [iblk1, idx1 t]
  · unfold tcol; pointwise; blk_point [iblk1, idx1 t]
  · unfold tcol; pointwise; blk_point [iblk1, idx1 t]
  · blk_simp [idx1 t]; omega
  · blk_simp [idx1 t]; dsimp only; omega
  · unfold upCol; blk_point [iblk1, idx1 t]

end Cert.KernelIdeal.Conv
-- ==== Proof.Conv.Tile3.lean ====
module

public import Idealize.ShloMosaic.Lib.WritesUnit
public import proofs.«01_k».proof.Proof.Conv.Tile

set_option maxRecDepth 16384

@[expose] public section
noncomputable section

open Idealize.ShloMosaic Idealize.ShloMosaic.TcCoe Idealize.SL.Sem

namespace Cert.KernelIdeal.Conv
open Cert.KernelIdeal Cert.KernelIdeal.Gen _root_.Conv

/-! ## The backward tile: taps, convolution, gradients -/

section
variable (G : Arr 8320 11264) (i : grid3.Coords) (j : Fin 11) (x : Vec Ideal S640x512 .bf16) (h : Vec Ideal S16x512 .bf16)
  (B : Blocks G (i 1) j x h)
include B

theorem gate3 (r : Fin 640) (l : Fin 512) : k3_pay5 (F := Ideal) i x (ix2 r l) = gpad G (640 * (i 1).val + r.val + 2) (tcol j l) := by
  pointwise [k3_pay5]; exact gate_masked G (i 1) j x h B r l

theorem halo3 (s : Fin 16) (l : Fin 512) : k3_pay6 (F := Ideal) i h (ix2 s l) = gpad G (640 * (i 1).val + s.val - 14) (tcol j l) := by
  pointwise [k3_pay6]; exact halo_masked G (i 1) j x h B s l

theorem last3 (l : Fin 512) : k3_pay7 (F := Ideal) i h (ix2 0 l) = gpad G (640 * (i 1).val + 1) (tcol j l) := by
  pointwise [k3_pay7]; exact (sum_pick 15 _).trans (halo3 G i j x h B 15 l)

theorem gateone3 (r : Fin 640) (l : Fin 512) :
    k3_pay9 (F := Ideal) (k3_pay5 i x) (iota .tc S640x1 32 [0] iota_S640x1_d0_w32) (k3_pay7 i h) (ix2 r l)
      = gpad G (640 * (i 1).val + r.val + 1) (tcol j l) := by
  pointwise [k3_pay9]
  exact tap1 G (tcol j l) (i 1) l _ _ (fun r => gate3 G i j x h B r l) (last3 G i j x h B l) r _

theorem gatetwo3 (r : Fin 640) (l : Fin 512) :
    k3_pay10 (F := Ideal) (k3_pay5 i x) (iota .tc S16x1 32 [0] iota_S16x1_d0_w32) (k3_pay6 i h)
      (iota .tc S640x1 32 [0] iota_S640x1_d0_w32) (k3_pay7 i h) k3_pay8 (ix2 r l)
      = gpad G (640 * (i 1).val + r.val) (tcol j l) := by
  have h14 : (∑ s : Fin 16, Scalar.select (IntOp.cmpi CmpIPredicate.eq (BitVec.ofNat 32 s.val) 14#32) (k3_pay6 (F := Ideal) i h (ix2 s l)) 0)
      = gpad G (640 * (i 1).val) (tcol j l) := (sum_pick 14 _).trans (halo3 G i j x h B 14 l)
  pointwise [k3_pay10, k3_pay8]
  exact tap2 G (tcol j l) (i 1) l _ _ _ (fun r => gate3 G i j x h B r l) (last3 G i j x h B l) h14 r _

variable (w0 w1 w2 b : Vec Ideal S1x512 .f32) (cw : Arr 3 5632) (cb : Arr 1 5632) (l : Fin 512)
    (h0 : w0 (ix2 0 l) = cw (ix2 0 (tcol j l))) (h1 : w1 (ix2 0 l) = cw (ix2 1 (tcol j l)))
    (h2 : w2 (ix2 0 l) = cw (ix2 2 (tcol j l))) (hb : b (ix2 0 l) = cb (ix2 0 (tcol j l)))
include h0 h1 h2 hb

theorem conv3 (r : Fin 640) :
    k3_pay11 (F := Ideal) (k3_pay5 i x) (iota .tc S16x1 32 [0] iota_S16x1_d0_w32) (k3_pay6 i h)
      (iota .tc S640x1 32 [0] iota_S640x1_d0_w32) (k3_pay7 i h) k3_pay8 w0 w1 w2 b (ix2 r l)
      = conv G cw cb (640 * (i 1).val + r.val) (tcol j l) := by
  pointwise [k3_pay11]
  rw [gatetwo3 G i j x h B, gateone3 G i j x h B, gate3 G i j x h B, h0, h1, h2, hb]
  rfl

end

/-- The stored gradient of the convolution's result, over any tile of it. -/
theorem pay15_at (v83 : FVec Ideal S640x512 .f32) (a : Vec Ideal S640x512 .f32) (u : Vec Ideal S640x512 .bf16) (r : Fin 640) (l : Fin 512) :
    k3_pay15 (F := Ideal) v83 (FloatOps.ofBits .f32 0#32) a u (ix2 r l)
      = a (ix2 r l) * u (ix2 r l) * (Conv.sig (v83 (ix2 r l)) * (1 + v83 (ix2 r l) * (1 - Conv.sig (v83 (ix2 r l))))) := by
  pointwise [k3_pay15, k3_pay13, k3_pay12, Conv.sig]

theorem pay14_at (v83 : FVec Ideal S640x512 .f32) (a : Vec Ideal S640x512 .f32) (r : Fin 640) (l : Fin 512) :
    k3_pay14 (F := Ideal) v83 (FloatOps.ofBits .f32 0#32) a (ix2 r l)
      = a (ix2 r l) * (v83 (ix2 r l) * Conv.sig (v83 (ix2 r l))) := by
  pointwise [k3_pay14, k3_pay13, k3_pay12, Conv.sig]

/-- The accumulating stores: what the row held, plus the tile's share. -/
theorem pay16_at (v83 : FVec Ideal S640x512 .f32) (a : Vec Ideal S640x512 .f32) (u : Vec Ideal S640x512 .bf16) (p : Vec Ideal S1x512 .f32) (l : Fin 512) :
    k3_pay16 (F := Ideal) v83 (FloatOps.ofBits .f32 0#32) a u p (ix2 0 l)
      = p (ix2 0 l) + ∑ r : Fin 640, k3_pay15 (F := Ideal) v83 (FloatOps.ofBits .f32 0#32) a u (ix2 r l) := by
  pointwise [k3_pay16]

theorem pay17_at (g v83 : FVec Ideal S640x512 .f32) (a : Vec Ideal S640x512 .f32) (u : Vec Ideal S640x512 .bf16) (p : Vec Ideal S1x512 .f32) (l : Fin 512) :
    k3_pay17 (F := Ideal) g v83 (FloatOps.ofBits .f32 0#32) a u p (ix2 0 l)
      = p (ix2 0 l) + ∑ r : Fin 640, k3_pay15 (F := Ideal) v83 (FloatOps.ofBits .f32 0#32) a u (ix2 r l) * g (ix2 r l) := by
  pointwise [k3_pay17]

theorem pay1_at (g d : FVec Ideal S640x512 .f32) (p : Vec Ideal S1x512 .f32) (l : Fin 512) :
    k3_pay1 (F := Ideal) g d p (ix2 0 l) = p (ix2 0 l) + ∑ r : Fin 640, d (ix2 r l) * g (ix2 r l) := by
  pointwise [k3_pay1]

theorem pay2_at (g d : FVec Ideal S640x512 .f32) (p : Vec Ideal S1x512 .f32) (l : Fin 512) :
    k3_pay2 (F := Ideal) g d p (ix2 0 l) = p (ix2 0 l) + ∑ r : Fin 640, d (ix2 r l) * g (ix2 r l) := by
  pointwise [k3_pay2]

theorem pay3_at (j : S1x512.Idx) : k3_pay3 (F := Ideal) j = 0 := by pointwise [k3_pay3]

theorem pay4_at (j : S8x512.Idx) : k3_pay4 (F := Ideal) j = 0 := by pointwise [k3_pay4]

/-! ## Three rows stored one by one -/

section Rows
variable {sig : RefSig} {κ : Kind} {sp : Space} (v : View sig κ sp S8x512 .f32) (f : v.ty.Contents (Elt Ideal))
  (p2 p1 p0 : Vec Ideal S1x512 .f32)
  (L : List (View.Piece (Elt Ideal) S8x512 .f32)) (k : Fin 8) (l : Fin 512)

theorem read_rows :
    v.read (Elt Ideal) (v.writes (Elt Ideal) f
      ((⟨Rect.unit ![2, 0] ![1, 512] inb_S8x512_S1x512_2_0, p2⟩ : View.Piece (Elt Ideal) S8x512 .f32)
        :: (⟨Rect.unit ![1, 0] ![1, 512] inb_S8x512_S1x512_1_0, p1⟩ : View.Piece (Elt Ideal) S8x512 .f32)
        :: (⟨Rect.unit ![0, 0] ![1, 512] inb_S8x512_S1x512_0_0, p0⟩ : View.Piece (Elt Ideal) S8x512 .f32) :: L)) (ix2 k l)
      = if k.val = 0 then p0 (ix2 0 l) else if k.val = 1 then p1 (ix2 0 l) else if k.val = 2 then p2 (ix2 0 l)
        else v.read (Elt Ideal) (v.writes (Elt Ideal) f L) (ix2 k l) := by
  by_cases h2 : k.val = 2
  · rw [if_neg (by omega), if_neg (by omega), if_pos h2]
    exact View.read_writes_cons_rows_of_mem (o := 2) v f _ p2 _ (ix2 k l) (ix2 0 l) rfl (by simpa using h2) rfl
  · refine (View.read_writes_cons_rows_of_not_mem (o := 2) (W := 1) v f inb_S8x512_S1x512_2_0 p2 _ (ix2 k l) rfl rfl
      (show k.val < 2 ∨ 2 + 1 ≤ k.val by omega)).trans ?_
    by_cases h1 : k.val = 1
    · rw [if_neg (by omega), if_pos h1]
      exact View.read_writes_cons_rows_of_mem (o := 1) v f _ p1 _ (ix2 k l) (ix2 0 l) rfl (by simpa using h1) rfl
    · refine (View.read_writes_cons_rows_of_not_mem (o := 1) (W := 1) v f inb_S8x512_S1x512_1_0 p1 _ (ix2 k l) rfl rfl
        (show k.val < 1 ∨ 1 + 1 ≤ k.val by omega)).trans ?_
      by_cases h0 : k.val = 0
      · rw [if_pos h0]
        exact View.read_writes_cons_rows_of_mem (o := 0) v f _ p0 _ (ix2 k l) (ix2 0 l) rfl (by simpa using h0) rfl
      · rw [if_neg h0, if_neg h1, if_neg h2]
        exact View.read_writes_cons_rows_of_not_mem (o := 0) (W := 1) v f inb_S8x512_S1x512_0_0 p0 _ (ix2 k l) rfl rfl
          (show k.val < 0 ∨ 0 + 1 ≤ k.val by omega)

end Rows

end Cert.KernelIdeal.Conv
-- ==== Proof.Conv.Tile4.lean ====
module

public import proofs.«01_k».proof.Proof.Conv.Tile

set_option maxRecDepth 16384

@[expose] public section
noncomputable section

open Idealize.ShloMosaic Idealize.ShloMosaic.TcCoe Idealize.SL.Sem

namespace Cert.KernelIdeal.Conv
open Cert.KernelIdeal Cert.KernelIdeal.Gen _root_.Conv

/-! ## The gradient of the gate over a tile -/

theorem not_last : ∀ i : Fin 13, IntOp.cmpi CmpIPredicate.slt (BitVec.ofNat 32 i.val) 12#32 = 1#1 ↔ i.val < 12 := by decide +kernel

theorem next_is : ∀ (n : Fin 8) (r : Fin 8),
    IntOp.cmpi CmpIPredicate.eq (BitVec.ofNat 32 r.val) (BitVec.ofNat 32 n.val) = 1#1 ↔ r = n := by decide +kernel

theorem sum_pick8 (n : Fin 8) (f : Fin 8 → EReal) :
    (∑ x : Fin 8, Scalar.select (IntOp.cmpi CmpIPredicate.eq (BitVec.ofNat 32 x.val) (BitVec.ofNat 32 n.val)) (f x) 0) = f n := by
  rw [Finset.sum_congr rfl fun x _ => select_of (next_is n x) (f x) 0]
  simp

section
variable (E : Arr 8320 5632) (i : grid4.Coords) (j : Fin 11) (x : Vec Ideal S640x512 .f32) (h : Vec Ideal S8x512 .f32)
    (hx : ∀ (r : Fin 640) (l : Fin 512), x (ix2 r l) = dpad E (640 * (i 0).val + r.val) (tcol j l))
    (hh : ∀ (hi : (i 0).val < 12) (s : Fin 8) (l : Fin 512), h (ix2 s l) = dpad E (640 * ((i 0).val + 1) + s.val) (tcol j l))

include hh
theorem next4 (s : Fin 8) (l : Fin 512) : k4_pay3 (F := Ideal) i h (ix2 s l) = dpad E (640 * ((i 0).val + 1) + s.val) (tcol j l) := by
  pointwise [k4_pay3]
  rw [show Scalar.cmpi CmpIPredicate.slt (BitVec.ofNat 32 (i 0).val) 12#32 = IntOp.cmpi CmpIPredicate.slt (BitVec.ofNat 32 (i 0).val) 12#32 from rfl,
    select_of (not_last (i 0))]
  split
  · rename_i hi; exact hh hi s l
  · have hi : (i 0).val < 13 := (i 0).isLt
    unfold dpad; rw [dif_neg (by omega)]

theorem next4_0 (l : Fin 512) : k4_pay4 (F := Ideal) i h (ix2 0 l) = dpad E (640 * ((i 0).val + 1)) (tcol j l) := by
  pointwise [k4_pay4]; exact (sum_pick8 0 _).trans (next4 E i j h hh 0 l)

theorem next4_1 (l : Fin 512) : k4_pay9 (F := Ideal) i h (ix2 0 l) = dpad E (640 * ((i 0).val + 1) + 1) (tcol j l) := by
  pointwise [k4_pay9]; exact (sum_pick8 1 _).trans (next4 E i j h hh 1 l)

include hx
theorem one4 (r : Fin 640) (l : Fin 512) : k4_pay5 (F := Ideal) i x h (ix2 r l) = dpad E (640 * (i 0).val + r.val + 1) (tcol j l) := by
  pointwise [k4_pay5, k4_pay2]
  rw [select_of (row_is639 r)]
  split
  · rename_i hr; rw [next4_0 E i j h hh]; congr 1; omega
  · rw [hx]; congr 1; dsimp only; omega

variable (w0 w1 w2 : Vec Ideal S1x512 .f32) (cw : Arr 3 5632) (l : Fin 512)
    (h0 : w0 (ix2 0 l) = cw (ix2 0 (tcol j l))) (h1 : w1 (ix2 0 l) = cw (ix2 1 (tcol j l)))
    (h2 : w2 (ix2 0 l) = cw (ix2 2 (tcol j l)))
include h0 h1 h2

theorem dgate4 (r : Fin 640) (J : Fin 8320) (hJ : J.val = 640 * (i 0).val + r.val) :
    k4_pay1 (F := Ideal) (BitVec.ofNat 32 (i 0).val) (k4_pay2 x) (k4_pay4 i h) (iota .tc S640x1 32 [0] iota_S640x1_d0_w32) (k4_pay5 i x h)
      k4_pay6 (k4_pay7 x) k4_pay8 (k4_pay9 i h) w2 w1 w0 (ix2 r l)
      = dgate E cw (ix2 J (tcol j l)) := by
  pointwise [k4_pay1, k4_pay2, k4_pay6, k4_pay7, k4_pay8]
  have hv : IntOp.cmpi CmpIPredicate.sge (IntOp.addi (Scalar.muli (BitVec.ofNat 32 (i 0).val) 640#32) (BitVec.ofNat 32 r.val)) 112#32 = 1#1
      ↔ 112 ≤ J.val := by rw [hJ]; exact row_valid (i 0) r
  have h2' : Scalar.select (IntOp.cmpi CmpIPredicate.eq (BitVec.ofNat 32 r.val) 638#32) (k4_pay4 (F := Ideal) i h (ix2 0 l))
      (Scalar.select (IntOp.cmpi CmpIPredicate.eq (BitVec.ofNat 32 r.val) 639#32) (k4_pay9 (F := Ideal) i h (ix2 0 l))
        (x (ix2 ⟨(r.val + 640 - 638) % 640, Nat.mod_lt _ (by decide)⟩ l))) = dpad E (J.val + 2) (tcol j l) := by
    rw [select_of (row_is638 r), select_of (row_is639 r)]
    split
    · rename_i hr; rw [next4_0 E i j h hh]; congr 1; omega
    · split
      · rename_i hr; rw [next4_1 E i j h hh]; congr 1; omega
      · rw [hx]; congr 1; dsimp only; omega
  rw [select_of hv, h2', one4 E i j x h hx hh, hx, h0, h1, h2, ← hJ]
  rfl

end

end Cert.KernelIdeal.Conv
-- ==== Proof.Conv.RegionsBwd.lean ====
module

public import proofs.«01_k».proof.Proof.Gen.KernelIdeal.Frame
public import proofs.«01_k».proof.Proof.Conv.Tile3
public import proofs.«01_k».proof.Proof.Conv.Tile4
public import Idealize.ShloMosaic.Lib.Pipeline.ReadBack

set_option maxRecDepth 16384

@[expose] public section
noncomputable section

open Idealize.ShloMosaic Idealize.ShloMosaic.TcCoe Idealize.SL.Sem
open Idealize.ShloMosaic.Pipeline (Dat)

namespace Cert.KernelIdeal.Conv
open Cert.KernelIdeal Cert.KernelIdeal.Gen _root_.Conv

variable (V : (c : Dev nD) → (b : Ref sig .tc) → Buf (Elt Ideal) ((c : Thread nD τ).loc b)) (c : Dev nD)

theorem idx3 : ∀ t : Fin cfg3.N, win3_0.index t = ![t.val % 13, t.val / 13] ∧ win3_1.index t = ![t.val % 13, t.val / 13]
    ∧ win3_2.index t = ![t.val % 13 * 40 - 1, t.val / 13] ∧ win3_3.index t = ![t.val % 13, t.val / 13 + 11]
    ∧ win3_4.index t = ![0, t.val / 13] ∧ win3_5.index t = ![0, t.val / 13]
    ∧ win3_6.index t = ![t.val % 13, t.val / 13] ∧ win3_7.index t = ![t.val % 13, t.val / 13 + 11]
    ∧ win3_8.index t = ![0, t.val / 13] ∧ win3_9.index t = ![0, t.val / 13]
    ∧ (grid3.coords t 1).val = t.val % 13 ∧ t.val / 13 < 11 :=
  (by decide +kernel : ∀ t : Fin grid3.N, _)

theorem blocks3 (t : Fin cfg3.N) : Blocks (V c main_v0) (grid3.coords t 1) ⟨t.val / 13, (idx3 t).2.2.2.2.2.2.2.2.2.2.2⟩ (iblk3 V c 1 t) (iblk3 V c 2 t) := by
  have hi := (idx3 t).2.2.2.2.2.2.2.2.2.2.1
  constructor
  · intro r l
    blk_point [iblk3, idx3 t]
  · intro h1 s l
    blk_point [iblk3, idx3 t]

/-- The convolution's result on the tile, as the call computes it. -/
abbrev cv3 (t : Fin cfg3.N) : FVec Ideal S640x512 .f32 :=
  k3_pay11 (k3_pay5 (grid3.coords t) (iblk3 V c 1 t)) (iota .tc S16x1 32 [0] iota_S16x1_d0_w32) (k3_pay6 (grid3.coords t) (iblk3 V c 2 t))
    (iota .tc S640x1 32 [0] iota_S640x1_d0_w32) (k3_pay7 (grid3.coords t) (iblk3 V c 2 t)) k3_pay8
    (View.ld (iblk3 V c 4 t) (Rect.unit ![0, 0] ![1, 512] inb_S3x512_S1x512_0_0))
    (View.ld (iblk3 V c 4 t) (Rect.unit ![1, 0] ![1, 512] inb_S3x512_S1x512_1_0))
    (View.ld (iblk3 V c 4 t) (Rect.unit ![2, 0] ![1, 512] inb_S3x512_S1x512_2_0)) (iblk3 V c 5 t)

/-- The row and the column of the whole arrays that entry `(r, l)` of the tile at a point stands for. -/
def row3 (t : Fin cfg3.N) (r : Fin 640) : Fin 8320 := ⟨640 * (t.val % 13) + r.val, by omega⟩
def col3 (t : Fin cfg3.N) (l : Fin 512) : Fin 5632 := tcol ⟨t.val / 13, (idx3 t).2.2.2.2.2.2.2.2.2.2.2⟩ l

theorem cv3_eq (t : Fin cfg3.N) (r : Fin 640) (l : Fin 512) :
    cv3 V c t (ix2 r l) = conv (V c main_v0) (V c main_arg2) (V c main_arg3) (row3 t r).val (col3 t l) := by
  have hi := (idx3 t).2.2.2.2.2.2.2.2.2.2.1
  refine (conv3 (V c main_v0) (grid3.coords t) _ _ _ (blocks3 V c t) _ _ _ _ (V c main_arg2) (V c main_arg3) l ?_ ?_ ?_ ?_ r).trans ?_
  · unfold tcol; pointwise; blk_point [iblk3, idx3 t]
  · unfold tcol; pointwise; blk_point [iblk3, idx3 t]
  · unfold tcol; pointwise; blk_point [iblk3, idx3 t]
  · unfold tcol; pointwise; blk_point [iblk3, idx3 t]
  · simp only [hi]; rfl

/-- The gradient of the convolution's result. -/
abbrev D3 : Arr 8320 5632 := dconv (V c main_v2) (V c main_v0) (V c main_arg2) (V c main_arg3)

theorem da3 (t : Fin cfg3.N) (r : Fin 640) (l : Fin 512) : iblk3 V c 0 t (ix2 r l) = V c main_v2 (ix2 (row3 t r) (col3 t l)) := by
  unfold row3 col3 tcol; blk_point [iblk3, idx3 t]

theorem up3 (t : Fin cfg3.N) (r : Fin 640) (l : Fin 512) : iblk3 V c 3 t (ix2 r l) = V c main_v0 (ix2 (row3 t r) (upCol (col3 t l))) := by
  unfold row3 col3 tcol upCol; blk_point [iblk3, idx3 t]

theorem dconv3 (t : Fin cfg3.N) (r : Fin 640) (l : Fin 512) :
    k3_pay15 (F := Ideal) (cv3 V c t) (FloatOps.ofBits .f32 0#32) (iblk3 V c 0 t) (iblk3 V c 3 t) (ix2 r l) = D3 V c (ix2 (row3 t r) (col3 t l)) := by
  rw [pay15_at, cv3_eq, da3, up3]; rfl

theorem dup3 (t : Fin cfg3.N) (r : Fin 640) (l : Fin 512) :
    k3_pay14 (F := Ideal) (cv3 V c t) (FloatOps.ofBits .f32 0#32) (iblk3 V c 0 t) (ix2 r l)
      = dup (V c main_v2) (V c main_v0) (V c main_arg2) (V c main_arg3) (ix2 (row3 t r) (col3 t l)) := by
  rw [pay14_at, cv3_eq, da3]; rfl

theorem out6 (t : Fin cfg3.N) (r : Fin 640) (l : Fin 512) :
    (outsAt3 V c t.val t.isLt).1 (ix2 r l) = D3 V c (ix2 (row3 t r) (col3 t l)) := by
  by_cases h : t.val % 13 = 0
  · rw [outsAt3_A V c t h]; frame_out; exact dconv3 V c t r l
  · rw [outsAt3_B V c t h]; frame_out; exact dconv3 V c t r l

theorem out7 (t : Fin cfg3.N) (r : Fin 640) (l : Fin 512) :
    (outsAt3 V c t.val t.isLt).2.1 (ix2 r l)
      = dup (V c main_v2) (V c main_v0) (V c main_arg2) (V c main_arg3) (ix2 (row3 t r) (col3 t l)) := by
  by_cases h : t.val % 13 = 0
  · rw [outsAt3_A V c t h]; frame_out; exact dup3 V c t r l
  · rw [outsAt3_B V c t h]; frame_out; exact dup3 V c t r l

/-- The share of a point in the bias gradient. -/
def term8 (t : Fin cfg3.N) : S1x512.Idx → EReal := fun j => ∑ r : Fin 640, D3 V c (ix2 (row3 t r) (col3 t (j 1)))

theorem out8 (t : Fin cfg3.N) (hr : t.val % 13 = 12) (j : S1x512.Idx) :
    (outsAt3 V c t.val t.isLt).2.2.1 j
      = 0 + ∑ s : Fin 13, term8 V c ⟨13 * (t.val / 13) + s.val, Pipeline.run_point_lt_of_flush t hr s⟩ j := by
  refine Pipeline.eq_sum_fin_of_reset_step_apply_of_flush (fun n h => (outsAt3 V c n h).2.2.1) 13 (fun _ => 0) (term8 V c)
    (fun t h j => ?_) (fun t h j => ?_) t hr j
  · idx_vars j
    obtain rfl : j0 = 0 := Subsingleton.elim _ _
    rw [outsAt3_A V c t h]; frame_out
    refine (pay16_at _ _ _ _ j1).trans ?_
    rw [pay3_at]
    exact congrArg _ (Finset.sum_congr rfl fun r _ => dconv3 V c t r j1)
  · idx_vars j
    obtain rfl : j0 = 0 := Subsingleton.elim _ _
    rw [outsAt3_B V c t h]; frame_out
    refine (pay16_at _ _ _ _ j1).trans ?_
    exact congrArg _ (Finset.sum_congr rfl fun r _ => dconv3 V c t r j1)

/-- The share of a point in the gradients of the taps. -/
def term9 (t : Fin cfg3.N) : S8x512.Idx → EReal := fun j =>
  if (j 0).val < 3 then ∑ r : Fin 640, D3 V c (ix2 (row3 t r) (col3 t (j 1))) * gpad (V c main_v0) ((row3 t r).val + (j 0).val) (col3 t (j 1))
  else 0

theorem tap0 (t : Fin cfg3.N) (r : Fin 640) (l : Fin 512) :
    k3_pay10 (F := Ideal) (k3_pay5 (grid3.coords t) (iblk3 V c 1 t)) (iota .tc S16x1 32 [0] iota_S16x1_d0_w32) (k3_pay6 (grid3.coords t) (iblk3 V c 2 t))
      (iota .tc S640x1 32 [0] iota_S640x1_d0_w32) (k3_pay7 (grid3.coords t) (iblk3 V c 2 t)) k3_pay8 (ix2 r l)
      = gpad (V c main_v0) (row3 t r).val (col3 t l) := by
  have hi := (idx3 t).2.2.2.2.2.2.2.2.2.2.1
  refine (gatetwo3 (V c main_v0) (grid3.coords t) _ _ _ (blocks3 V c t) r l).trans ?_
  simp only [hi]; rfl

theorem tap1' (t : Fin cfg3.N) (r : Fin 640) (l : Fin 512) :
    k3_pay9 (F := Ideal) (k3_pay5 (grid3.coords t) (iblk3 V c 1 t)) (iota .tc S640x1 32 [0] iota_S640x1_d0_w32) (k3_pay7 (grid3.coords t) (iblk3 V c 2 t)) (ix2 r l)
      = gpad (V c main_v0) ((row3 t r).val + 1) (col3 t l) := by
  have hi := (idx3 t).2.2.2.2.2.2.2.2.2.2.1
  refine (gateone3 (V c main_v0) (grid3.coords t) _ _ _ (blocks3 V c t) r l).trans ?_
  simp only [hi]; rfl

theorem tap2' (t : Fin cfg3.N) (r : Fin 640) (l : Fin 512) :
    k3_pay5 (F := Ideal) (grid3.coords t) (iblk3 V c 1 t) (ix2 r l) = gpad (V c main_v0) ((row3 t r).val + 2) (col3 t l) := by
  have hi := (idx3 t).2.2.2.2.2.2.2.2.2.2.1
  refine (gate3 (V c main_v0) (grid3.coords t) _ _ _ (blocks3 V c t) r l).trans ?_
  simp only [hi]; rfl

/-- A row of the sum of products, at the values of the two factors. -/
theorem share (t : Fin cfg3.N) (g : FVec Ideal S640x512 .f32) (k : ℕ) (l : Fin 512)
    (hg : ∀ r, g (ix2 r l) = gpad (V c main_v0) ((row3 t r).val + k) (col3 t l)) :
    ∑ r : Fin 640, k3_pay15 (F := Ideal) (cv3 V c t) (FloatOps.ofBits .f32 0#32) (iblk3 V c 0 t) (iblk3 V c 3 t) (ix2 r l) * g (ix2 r l)
      = ∑ r : Fin 640, D3 V c (ix2 (row3 t r) (col3 t l)) * gpad (V c main_v0) ((row3 t r).val + k) (col3 t l) :=
  Finset.sum_congr rfl fun r _ => congrArg₂ _ (dconv3 V c t r l) (hg r)

theorem term9_of (t : Fin cfg3.N) (k : Fin 8) (l : Fin 512) (h : k.val < 3) :
    term9 V c t (ix2 k l) = ∑ r : Fin 640, D3 V c (ix2 (row3 t r) (col3 t l)) * gpad (V c main_v0) ((row3 t r).val + k.val) (col3 t l) :=
  if_pos h

theorem term9_of_not (t : Fin cfg3.N) (k : Fin 8) (l : Fin 512) (h : ¬ k.val < 3) : term9 V c t (ix2 k l) = 0 := if_neg h

theorem stepB9 (t : Fin cfg3.N) (h : ¬ t.val % 13 = 0) (k : Fin 8) (l : Fin 512) :
    (outsAt3 V c t.val t.isLt).2.2.2 (ix2 k l)
      = (outsAt3 V c (t.val - 1) (Nat.lt_of_le_of_lt (Nat.sub_le _ _) t.isLt)).2.2.2 (ix2 k l) + term9 V c t (ix2 k l) := by
  rw [outsAt3_B V c t h]; frame_out
  refine (read_rows _ _ _ _ _ _ k l).trans ?_
  by_cases h0 : k.val = 0
  · obtain rfl : k = 0 := Fin.ext h0
    refine (if_pos rfl).trans ((pay17_at _ _ _ _ _ l).trans ?_)
    refine congrArg₂ _ ?_ ((share V c t _ 0 l (tap0 V c t · l)).trans (term9_of V c t 0 l (by decide)).symm)
    pointwise
  by_cases h1 : k.val = 1
  · obtain rfl : k = 1 := Fin.ext h1
    refine (if_neg h0).trans ((if_pos rfl).trans ((pay1_at _ _ _ l).trans ?_))
    refine congrArg₂ _ ?_ ((share V c t _ 1 l (tap1' V c t · l)).trans (term9_of V c t 1 l (by decide)).symm)
    pointwise
  by_cases h2 : k.val = 2
  · obtain rfl : k = 2 := Fin.ext h2
    refine (if_neg h0).trans ((if_neg h1).trans ((if_pos rfl).trans ((pay2_at _ _ _ l).trans ?_)))
    refine congrArg₂ _ ?_ ((share V c t _ 2 l (tap2' V c t · l)).trans (term9_of V c t 2 l (by decide)).symm)
    pointwise
  refine (if_neg h0).trans ((if_neg h1).trans ((if_neg h2).trans ?_))
  rw [term9_of_not V c t k l (by omega), add_zero]
  exact congrFun (Memref.IsWhole.read_unread _ _) _

theorem stepA9 (t : Fin cfg3.N) (h : t.val % 13 = 0) (k : Fin 8) (l : Fin 512) :
    (outsAt3 V c t.val t.isLt).2.2.2 (ix2 k l) = 0 + term9 V c t (ix2 k l) := by
  rw [outsAt3_A V c t h]; frame_out
  refine (congrFun (View.read_writes_junk_eq_canon VO3_9 _).symm _).trans ?_
  refine (read_rows _ _ _ _ _ _ k l).trans ?_
  by_cases h0 : k.val = 0
  · obtain rfl : k = 0 := Fin.ext h0
    refine (if_pos rfl).trans ((pay17_at _ _ _ _ _ l).trans ?_)
    refine congrArg₂ _ ?_ ((share V c t _ 0 l (tap0 V c t · l)).trans (term9_of V c t 0 l (by decide)).symm)
    rw [View.readCov_fill _ _ _ _ _ (by decide)]
    exact pay4_at _
  by_cases h1 : k.val = 1
  · obtain rfl : k = 1 := Fin.ext h1
    refine (if_neg h0).trans ((if_pos rfl).trans ((pay1_at _ _ _ l).trans ?_))
    refine congrArg₂ _ ?_ ((share V c t _ 1 l (tap1' V c t · l)).trans (term9_of V c t 1 l (by decide)).symm)
    rw [View.readCov_skip _ _ _ _ _ (by decide), View.readCov_fill _ _ _ _ _ (by decide)]
    exact pay4_at _
  by_cases h2 : k.val = 2
  · obtain rfl : k = 2 := Fin.ext h2
    refine (if_neg h0).trans ((if_neg h1).trans ((if_pos rfl).trans ((pay2_at _ _ _ l).trans ?_)))
    refine congrArg₂ _ ?_ ((share V c t _ 2 l (tap2' V c t · l)).trans (term9_of V c t 2 l (by decide)).symm)
    rw [View.readCov_skip _ _ _ _ _ (by decide), View.readCov_skip _ _ _ _ _ (by decide), View.readCov_fill _ _ _ _ _ (by decide)]
    exact pay4_at _
  refine (if_neg h0).trans ((if_neg h1).trans ((if_neg h2).trans ?_))
  rw [term9_of_not V c t k l (by omega), add_zero]
  refine (congrFun (View.read_writes_junk_eq_canon VO3_9 _) _).trans ?_
  rw [View.canon_cons_unit_lit _ _ _ (by decide)]
  exact pay4_at _

theorem out9 (t : Fin cfg3.N) (hr : t.val % 13 = 12) (j : S8x512.Idx) :
    (outsAt3 V c t.val t.isLt).2.2.2 j
      = 0 + ∑ s : Fin 13, term9 V c ⟨13 * (t.val / 13) + s.val, Pipeline.run_point_lt_of_flush t hr s⟩ j := by
  refine Pipeline.eq_sum_fin_of_reset_step_apply_of_flush (fun n h => (outsAt3 V c n h).2.2.2) 13 (fun _ => 0) (term9 V c)
    (fun t h j => ?_) (fun t h j => ?_) t hr j
  · idx_vars j; exact stepA9 V c t h j0 j1
  · idx_vars j; exact stepB9 V c t h j0 j1

/-! ## The arrays the call leaves -/

theorem final6 : (dat3 V c).arrAt 6 cfg3.N = D3 V c := by
  refine (dat3 V c).arrAt_eq_of_covers 6 _ (by decide +kernel) fun t _ y => ?_
  idx_vars y
  blk_simp
  rw [after3_6]
  refine (out6 V c t y0 y1).trans (congrArg _ (Eq.trans (congrArg₂ ix2 (Fin.ext ?_) (Fin.ext ?_)) (eq_ix2 _).symm))
  · unfold row3; blk_simp [idx3 t]; dsimp only; omega
  · unfold col3 tcol; blk_simp [idx3 t]; dsimp only; omega

/-- The sum over the whole length, run by run of the grid. -/
theorem sum_runs (t : Fin cfg3.N) (hr : t.val % 13 = 12) (f : Fin 8320 → EReal) :
    ∑ s : Fin 13, ∑ r : Fin 640, f (row3 ⟨13 * (t.val / 13) + s.val, Pipeline.run_point_lt_of_flush t hr s⟩ r) = ∑ n : Fin 8320, f n := by
  rw [Fin.sum_univ_tiles 13 640 rfl f]
  refine Finset.sum_congr rfl fun s _ => Finset.sum_congr rfl fun r _ => congrArg f (Fin.ext ?_)
  show 640 * ((13 * (t.val / 13) + s.val) % 13) + r.val = s.val * 640 + r.val
  omega

theorem col_run (t : Fin cfg3.N) (hr : t.val % 13 = 12) (s : Fin 13) (l : Fin 512) :
    col3 ⟨13 * (t.val / 13) + s.val, Pipeline.run_point_lt_of_flush t hr s⟩ l = col3 t l := by
  unfold col3 tcol
  refine Fin.ext ?_
  dsimp only
  omega

theorem final8 : (dat3 V c).arrAt 8 cfg3.N = dbias (D3 V c) := by
  refine (dat3 V c).arrAt_eq_of_covers 8 _ (by decide +kernel) fun t hf y => ?_
  idx_vars y
  blk_simp
  rw [after3_8]
  have hr := (flush3_8 t).mp hf
  refine (out8 V c t hr _).trans ?_
  rw [zero_add]
  have hc : ((win3_8.blk t).view.emb (ix2 y0 y1) 1 : Fin 5632) = col3 t y1 := by
    refine Fin.ext ?_
    unfold col3 tcol; blk_simp [idx3 t]; dsimp only; omega
  refine Eq.trans ?_ (congrArg (fun k : Fin 5632 => ∑ n : Fin 8320, D3 V c (ix2 n k)) hc.symm)
  refine Eq.trans (Finset.sum_congr rfl fun s _ => Finset.sum_congr rfl fun r _ => ?_) (sum_runs t hr fun n => D3 V c (ix2 n (col3 t y1)))
  exact congrArg (fun k => D3 V c (ix2 _ k)) (col_run t hr s y1)

theorem final9 : (dat3 V c).arrAt 9 cfg3.N = dtaps (D3 V c) (V c main_v0) := by
  refine (dat3 V c).arrAt_eq_of_covers 9 _ (by decide +kernel) fun t hf y => ?_
  idx_vars y
  blk_simp
  rw [after3_9]
  have hr := (flush3_9 t).mp hf
  refine (out9 V c t hr _).trans ?_
  rw [zero_add]
  have hc : ((win3_9.blk t).view.emb (ix2 y0 y1) 1 : Fin 5632) = col3 t y1 := by
    refine Fin.ext ?_
    unfold col3 tcol; blk_simp [idx3 t]; dsimp only; omega
  have hk : ((win3_9.blk t).view.emb (ix2 y0 y1) 0 : Fin 8) = y0 := by
    refine Fin.ext ?_
    blk_simp [idx3 t]
  refine Eq.trans ?_ (congrArg₂ (fun (i : Fin 8) (k : Fin 5632) => dtaps (D3 V c) (V c main_v0) (ix2 i k)) hk.symm hc.symm |>.trans (congrArg _ (eq_ix2 _).symm))
  by_cases h : y0.val < 3
  · refine Eq.trans ?_ (if_pos (c := (ix2 y0 (col3 t y1) 0).val < 3) h).symm
    refine Eq.trans (Finset.sum_congr rfl fun s _ => (term9_of V c _ y0 y1 h).trans (Finset.sum_congr rfl fun r _ => ?_))
      (sum_runs t hr fun n => D3 V c (ix2 n (col3 t y1)) * gpad (V c main_v0) (n.val + y0.val) (col3 t y1))
    exact congrArg (fun k => D3 V c (ix2 _ k) * gpad (V c main_v0) _ k) (col_run t hr s y1)
  · refine Eq.trans ?_ (if_neg (c := (ix2 y0 (col3 t y1) 0).val < 3) h).symm
    exact Finset.sum_eq_zero fun s _ => term9_of_not V c _ y0 y1 h

/-- The array the second output starts from. -/
def half7 : Arr 8320 11264 := fun j =>
  if 5632 ≤ (j 1).val then beside (D3 V c) (dup (V c main_v2) (V c main_v0) (V c main_arg2) (V c main_arg3)) j else V c main_v3_1 j

theorem beside_right (E U : Arr 8320 5632) (n : Fin 8320) (k : Fin 5632) : beside E U (ix2 n (upCol k)) = U (ix2 n k) := by
  have hk : ¬ (upCol k).val < 5632 := by show ¬ k.val + 5632 < 5632; omega
  refine (dif_neg hk).trans (congrArg U (congrArg (ix2 n) (Fin.ext ?_)))
  show k.val + 5632 - 5632 = k.val
  omega

theorem beside_left (E U : Arr 8320 5632) (n : Fin 8320) (k : Fin 5632) : beside E U (ix2 n (gateCol k)) = E (ix2 n k) :=
  dif_pos (show (gateCol k).val < 5632 from k.isLt)

theorem final7 : (dat3 V c).arrAt 7 cfg3.N = half7 V c := by
  refine (dat3 V c).arrAt_eq_of_coversWhere 7 (beside (D3 V c) (dup (V c main_v2) (V c main_v0) (V c main_arg2) (V c main_arg3)))
    (P := fun j : S8320x11264.Idx => 5632 ≤ (j 1).val)
    (fun β => 11 ≤ β 1) (by decide +kernel) (fun t _ y => ?_)
    (fun j => by blk_simp [Pipeline.Window.cell_apply]; omega)
  idx_vars y
  blk_simp
  rw [after3_7]
  refine (out7 V c t y0 y1).trans ((beside_right (D3 V c) _ _ _).symm.trans
    (congrArg _ (Eq.trans (congrArg₂ ix2 (Fin.ext ?_) (Fin.ext ?_)) (eq_ix2 _).symm)))
  · unfold row3; blk_simp [idx3 t]; dsimp only; omega
  · unfold col3 tcol upCol; blk_simp [idx3 t]; dsimp only; omega

/-! ## The second backward call -/

theorem idx4 : ∀ t : Fin cfg4.N, win4_0.index t = ![t.val / 11, t.val % 11]
    ∧ win4_1.index t = ![min ((t.val / 11 + 1) * 80) 1039, t.val % 11] ∧ win4_2.index t = ![0, t.val % 11]
    ∧ win4_3.index t = ![t.val / 11, t.val % 11] ∧ (grid4.coords t 0).val = t.val / 11 ∧ t.val / 11 < 13 :=
  (by decide +kernel : ∀ t : Fin grid4.N, _)

theorem dpad_in (E : Arr 8320 5632) (n : ℕ) (k : Fin 5632) (J : Fin 8320) (K : Fin 5632) (h : n = J.val) (hk : k = K) :
    dpad E n k = E (ix2 J K) := by
  subst h hk; exact dif_pos J.isLt

theorem tile4_x (t : Fin cfg4.N) (r : Fin 640) (l : Fin 512) :
    iblk4 V c 0 t (ix2 r l)
      = dpad (V c main_v3_0) (640 * (grid4.coords t 0).val + r.val) (tcol ⟨t.val % 11, Nat.mod_lt _ (by decide)⟩ l) := by
  have hi := (idx4 t).2.2.2.2.1
  have hlt := (idx4 t).2.2.2.2.2
  refine Eq.trans ?_ (dpad_in _ _ _ ⟨640 * (t.val / 11) + r.val, by omega⟩ ⟨512 * (t.val % 11) + l.val, by omega⟩ (by rw [hi]) rfl).symm
  blk_point [iblk4, idx4 t]

theorem tile4_h (t : Fin cfg4.N) (h : (grid4.coords t 0).val < 12) (s : Fin 8) (l : Fin 512) :
    iblk4 V c 1 t (ix2 s l)
      = dpad (V c main_v3_0) (640 * ((grid4.coords t 0).val + 1) + s.val) (tcol ⟨t.val % 11, Nat.mod_lt _ (by decide)⟩ l) := by
  have hi := (idx4 t).2.2.2.2.1
  have hlt := (idx4 t).2.2.2.2.2
  have h' : t.val / 11 < 12 := by omega
  have hm : min ((t.val / 11 + 1) * 80) 1039 = (t.val / 11 + 1) * 80 := by omega
  have hx : win4_1.index t = ![(t.val / 11 + 1) * 80, t.val % 11] := by rw [(idx4 t).2.1, hm]
  refine Eq.trans ?_ (dpad_in _ _ _ ⟨640 * (t.val / 11 + 1) + s.val, by omega⟩ ⟨512 * (t.val % 11) + l.val, by omega⟩ (by rw [hi]) rfl).symm
  blk_point [iblk4, hx]

/-- What the second backward call leaves: the left half computed, the rest kept. -/
def half4 : Arr 8320 11264 := fun j =>
  if (j 1).val < 5632 then beside (dgate (V c main_v3_0) (V c main_arg2)) (dgate (V c main_v3_0) (V c main_arg2)) j else V c main_v4 j

theorem final4 : (dat4 V c).arrAt 3 cfg4.N = half4 V c := by
  refine (dat4 V c).arrAt_eq_of_coversWhere 3 (beside (dgate (V c main_v3_0) (V c main_arg2)) (dgate (V c main_v3_0) (V c main_arg2)))
    (P := fun j : S8320x11264.Idx => (j 1).val < 5632)
    (fun β => β 1 < 11) (by decide +kernel) (fun t _ y => ?_)
    (fun j => by blk_simp [Pipeline.Window.cell_apply]; omega)
  idx_vars y
  blk_simp
  rw [after4_3]; unfold outsAt4 out4_A_3; frame_out
  have hi := (idx4 t).2.2.2.2.1
  have hlt := (idx4 t).2.2.2.2.2
  refine (dgate4 (V c main_v3_0) (grid4.coords t) ⟨t.val % 11, Nat.mod_lt _ (by decide)⟩ _ _ (tile4_x V c t) (tile4_h V c t) _ _ _
    (V c main_arg2) y1 ?_ ?_ ?_ y0 ⟨640 * (t.val / 11) + y0.val, by omega⟩ (by rw [hi])).trans ((beside_left _ (dgate (V c main_v3_0) (V c main_arg2)) _ _).symm.trans
    (congrArg _ (Eq.trans (congrArg₂ ix2 (Fin.ext ?_) (Fin.ext ?_)) (eq_ix2 _).symm)))
  · unfold tcol; pointwise; blk_point [iblk4, idx4 t]
  · unfold tcol; pointwise; blk_point [iblk4, idx4 t]
  · unfold tcol; pointwise; blk_point [iblk4, idx4 t]
  · blk_simp [idx4 t]; dsimp only; omega
  · unfold tcol gateCol; blk_simp [idx4 t]; dsimp only; omega

end Cert.KernelIdeal.Conv
-- ==== Proof.Conv.Run.lean ====
module

public import proofs.«01_k».proof.Proof.Conv.RegionsFwd
public import proofs.«01_k».proof.Proof.Conv.RegionsBwd

set_option maxRecDepth 16384

/-! # What the five calls leave, from the arguments

The contents of the arrays between the calls, read off one boundary after another, and the run that ends in them. -/

@[expose] public section
noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen _root_.Conv

local notation "𝕄" => MT nD τ sig Unit (Elt Ideal) ℕ (UR sig nD τ) ℕ

variable (m : (ℓ : Loc nD τ sig) → Buf (Elt Ideal) ℓ) (ρ : Dev nD → PrngReg) (c : Dev nD)

/-- The gate and the up half, side by side. -/
def G : Arr 8320 11264 := mulNN (m ((c : Thread nD τ).loc main_arg0)) (m ((c : Thread nD τ).loc main_arg1))
/-- The taps. -/
def cw : Arr 3 5632 := m ((c : Thread nD τ).loc main_arg2)
/-- The bias. -/
def cb : Arr 1 5632 := m ((c : Thread nD τ).loc main_arg3)
/-- The gradient of the activation. -/
def A : Arr 8320 5632 := mulNT (m ((c : Thread nD τ).loc main_arg5)) (m ((c : Thread nD τ).loc main_arg4))
/-- The gradient of the convolution's result. -/
def E : Arr 8320 5632 := dconv (A m c) (G m c) (cw m c) (cb m c)

theorem arg_of {b : Ref sig .tc} {W : Valuation τ sig (Elt Ideal)} (h : ∀ a ∈ argRefs, W (Proc.devRef .tc a) = m ((c : Thread nD τ).loc a))
    (hb : b ∈ argRefs) : W (Proc.devRef .tc b) = m ((c : Thread nD τ).loc b) := h b hb

theorem v0_1 : V1 m ρ c main_v0 = G m c := (W1_arr m ρ c 2).trans (final0 (V0 m ρ) c)
theorem v0_2 : V2 m ρ c main_v0 = G m c := (W2_of m ρ c main_v0 (by decide)).trans (v0_1 m ρ c)
theorem v0_3 : V3 m ρ c main_v0 = G m c := (W3_of m ρ c main_v0 (by decide)).trans (v0_2 m ρ c)

theorem v1_2 : V2 m ρ c main_v1 = act (G m c) (cw m c) (cb m c) := by
  refine (W2_arr m ρ c 5).trans ((final1 (V1 m ρ) c).trans ?_)
  rw [v0_1, show V1 m ρ c main_arg2 = cw m c from W1_args m ρ c _ (by decide), show V1 m ρ c main_arg3 = cb m c from W1_args m ρ c _ (by decide)]
theorem v1_6 : V6 m ρ c main_v1 = act (G m c) (cw m c) (cb m c) :=
  (W6_of m ρ c main_v1 (by decide)).trans ((W5_of m ρ c main_v1 (by decide)).trans ((W4_of m ρ c main_v1 (by decide)).trans
    ((W3_of m ρ c main_v1 (by decide)).trans (v1_2 m ρ c))))

theorem v2_3 : V3 m ρ c main_v2 = A m c := by
  refine (W3_arr m ρ c 2).trans ((final2 (V2 m ρ) c).trans ?_)
  rw [show V2 m ρ c main_arg5 = m ((c : Thread nD τ).loc main_arg5) from W2_args m ρ c _ (by decide),
    show V2 m ρ c main_arg4 = m ((c : Thread nD τ).loc main_arg4) from W2_args m ρ c _ (by decide)]
  rfl

theorem D3_eq : D3 (V3 m ρ) c = E m c := by
  unfold D3
  rw [v2_3, v0_3, show V3 m ρ c main_arg2 = cw m c from W3_args m ρ c _ (by decide), show V3 m ρ c main_arg3 = cb m c from W3_args m ρ c _ (by decide)]
  rfl

theorem e_4 : V4 m ρ c main_v3_0 = E m c := (W4_arr m ρ c 6).trans ((final6 (V3 m ρ) c).trans (D3_eq m ρ c))
theorem e_5 : V5 m ρ c main_v3_0 = E m c := (W5_of m ρ c main_v3_0 (by decide)).trans (e_4 m ρ c)

theorem db_4 : V4 m ρ c main_v3_2 = dbias (E m c) :=
  (W4_arr m ρ c 8).trans ((final8 (V3 m ρ) c).trans (by rw [D3_eq]))
theorem db_6 : V6 m ρ c main_v3_2 = dbias (E m c) :=
  (W6_of m ρ c main_v3_2 (by decide)).trans ((W5_of m ρ c main_v3_2 (by decide)).trans (db_4 m ρ c))

theorem dt_4 : V4 m ρ c main_v3_3 = dtaps (E m c) (G m c) :=
  (W4_arr m ρ c 9).trans ((final9 (V3 m ρ) c).trans (by rw [D3_eq, v0_3]))
theorem dt_6 : V6 m ρ c main_v3_3 = dtaps (E m c) (G m c) :=
  (W6_of m ρ c main_v3_3 (by decide)).trans ((W5_of m ρ c main_v3_3 (by decide)).trans (dt_4 m ρ c))

/-- The copy made for the last call holds the array the fourth call left. -/
theorem copy_5 : V5 m ρ c main_v4 = V4 m ρ c main_v3_1 := by
  show StableHlo.after hostOps4 (W4 m ρ c) (Proc.devRef .tc main_v4) = _
  simp only [hostOps4, StableHlo.after, List.foldl]
  rfl

theorem v4_6 : V6 m ρ c main_v4 = beside (dgate (E m c) (cw m c)) (dup (A m c) (G m c) (cw m c) (cb m c)) := by
  refine (W6_arr m ρ c 3).trans ((final4 (V5 m ρ) c).trans ?_)
  funext j
  unfold half4
  by_cases h : (j 1).val < 5632
  · rw [if_pos h, e_5, show V5 m ρ c main_arg2 = cw m c from W5_args m ρ c _ (by decide)]
    simp only [beside, dif_pos h]
  · rw [if_neg h, copy_5, show V4 m ρ c main_v3_1 = half7 (V3 m ρ) c from (W4_arr m ρ c 7).trans (final7 (V3 m ρ) c)]
    unfold half7
    rw [if_pos (not_lt.1 h), v2_3, v0_3, show V3 m ρ c main_arg2 = cw m c from W3_args m ρ c _ (by decide),
      show V3 m ρ c main_arg3 = cb m c from W3_args m ρ c _ (by decide)]
    simp only [beside, dif_neg h]

set_option backward.isDefEq.respectTransparency.types false in
/-- The five calls run, leave the four results at their closed forms and the arguments as they were. -/
theorem run : θ_run defs (onTc (τ := τ) (main (F := Ideal))) ⟨m, fun _ => 0, ρ⟩ (fun r => ∀ c : Dev nD,
      r.2.mem ((c.tc : Thread nD τ).loc main_v1) = act (G m c) (cw m c) (cb m c)
      ∧ r.2.mem ((c.tc : Thread nD τ).loc main_v4) = beside (dgate (E m c) (cw m c)) (dup (A m c) (G m c) (cw m c) (cb m c))
      ∧ r.2.mem ((c.tc : Thread nD τ).loc main_v3_3) = dtaps (E m c) (G m c)
      ∧ r.2.mem ((c.tc : Thread nD τ).loc main_v3_2) = dbias (E m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v1 (by decide))).trans (v1_6 m ρ c),
       (h c _ (mem_uc main_v4 (by decide))).trans (v4_6 m ρ c),
       (h c _ (mem_uc main_v3_3 (by decide))).trans (dt_6 m ρ c),
       (h c _ (mem_uc main_v3_2 (by decide))).trans (db_6 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Conv

end
-- ==== Proof.Conv.Agree.lean ====
module

public import proofs.«01_k».proof.Proof.Conv.Ref
public import proofs.«01_k».proof.Proof.Conv.Pre
public import proofs.«01_k».proof.Proof.Conv.Run

set_option maxRecDepth 16384

/-! # The two orders of the gradient of `silu` agree on real numbers

The kernel multiplies out `s * (1 + x * (1 - s))`, the derivative adds two products. The two are equal when the factors are
real numbers, and they are when the arguments are finite. -/

@[expose] public section
noncomputable section

open Idealize.ShloMosaic

namespace Conv

/-- The value is a real number. -/
def IsR (x : EReal) : Prop := ∃ r : ℝ, x = r

theorem IsR.of {x : EReal} (h : x ≠ ⊤ ∧ x ≠ ⊥) : IsR x := ⟨x.toReal, (EReal.coe_toReal h.1 h.2).symm⟩
theorem IsR.add {x y : EReal} : IsR x → IsR y → IsR (x + y) := fun ⟨a, ha⟩ ⟨b, hb⟩ => ⟨a + b, by rw [ha, hb, EReal.coe_add]⟩
theorem IsR.mul {x y : EReal} : IsR x → IsR y → IsR (x * y) := fun ⟨a, ha⟩ ⟨b, hb⟩ => ⟨a * b, by rw [ha, hb, EReal.coe_mul]⟩
theorem IsR.zero : IsR 0 := ⟨0, rfl⟩
theorem IsR.sum {n : ℕ} (f : Fin n → EReal) (h : ∀ k, IsR (f k)) : IsR (∑ k, f k) :=
  Finset.sum_induction f IsR (fun _ _ => IsR.add) IsR.zero fun k _ => h k

theorem IsR.sig {x : EReal} : IsR x → IsR (sig x) := by
  rintro ⟨r, rfl⟩
  refine ⟨(1 + Real.exp (-r))⁻¹, ?_⟩
  have hp : (1 + Real.exp (-r) : ℝ) ≠ 0 := (add_pos one_pos (Real.exp_pos _)).ne'
  have he : (1 : EReal) + Ideal.exp (0 - (r : EReal)) = ((1 + Real.exp (-r) : ℝ) : EReal) := by
    rw [zero_sub, ← EReal.coe_neg, EReal.coe_add]; rfl
  unfold Conv.sig
  rw [he]
  unfold Ideal.div
  rw [if_neg (fun h => hp (EReal.coe_eq_zero.1 h)), one_mul, EReal.coe_inv]

variable {G : Arr 8320 11264} {cw : Arr 3 5632} {cb : Arr 1 5632} (hG : ∀ i, IsR (G i)) (hw : ∀ i, IsR (cw i)) (hb : ∀ i, IsR (cb i))

include hG in
theorem IsR.gpad (p : ℕ) (c : Fin 5632) : IsR (gpad G p c) := by
  unfold Conv.gpad
  split
  · exact hG _
  · exact IsR.zero

include hG hw hb in
theorem IsR.conv (n : ℕ) (c : Fin 5632) : IsR (conv G cw cb n c) :=
  ((((hw _).mul (IsR.gpad hG _ _)).add ((hw _).mul (IsR.gpad hG _ _))).add ((hw _).mul (IsR.gpad hG _ _))).add (hb _)

/-- The gradient of `silu`, multiplied out and factored. -/
theorem silu_grad {t x s : EReal} : IsR t → IsR x → IsR s → t * s + x * t * (s * (1 - s)) = t * (s * (1 + x * (1 - s))) := by
  rintro ⟨t, rfl⟩ ⟨x, rfl⟩ ⟨s, rfl⟩
  have h1 : (1 : EReal) = ((1 : ℝ) : EReal) := rfl
  rw [h1]
  simp only [← EReal.coe_sub, ← EReal.coe_mul, ← EReal.coe_add]
  congr 1
  ring

end Conv

namespace Cert.Conv
open _root_.Conv

theorem e_eq (x0 : Arr 8320 2048) (x1 : Arr 2048 11264) (x2 : Arr 3 5632) (x3 : Arr 1 5632) (x4 : Arr 5632 2048) (x5 : Arr 8320 2048)
    (h0 : Pre_finite.Conv.Real' x0) (h1 : Pre_finite.Conv.Real' x1) (h2 : Pre_finite.Conv.Real' x2) (h3 : Pre_finite.Conv.Real' x3)
    (h4 : Pre_finite.Conv.Real' x4) (h5 : Pre_finite.Conv.Real' x5) :
    ReferenceIdeal.Conv.E x0 x1 x2 x3 x4 x5 = dconv (mulNT x5 x4) (mulNN x0 x1) x2 x3 := by
  have hG : ∀ i, IsR (mulNN x0 x1 i) := fun i => IsR.sum _ fun k => (IsR.of (h0 _)).mul (IsR.of (h1 _))
  have hA : ∀ i, IsR (mulNT x5 x4 i) := fun i => IsR.sum _ fun k => (IsR.of (h5 _)).mul (IsR.of (h4 _))
  funext j
  have hc := IsR.conv hG (fun i => IsR.of (h2 i)) (fun i => IsR.of (h3 i)) (j 0).val (j 1)
  exact silu_grad ((hA j).mul (hG _)) hc hc.sig

end Cert.Conv

end
-- ==== Proof.Sums.Delta.lean ====
module

public import proofs.«01_k».proof.Proof.Gen.DeltaIdeal.Value
public import proofs.«01_k».proof.Proof.Gen.DeltaReferenceIdeal.Run
public import proofs.«01_k».proof.Proof.Gen.DeltaReferenceIdeal.Read
public import Idealize.ShloMosaic.Lib.Pipeline.ValueKit
public import proofs.«01_k».proof.Defs
public import Idealize.ShloMosaic.Adequacy

set_option maxRecDepth 16384

/-! # The row sums of the attention gradient -/

@[expose] public section
noncomputable section

open Idealize.ShloMosaic Idealize.ShloMosaic.TcCoe Idealize.SL.Sem

namespace Sums

/-- Column `l` of the head that column `k` belongs to. -/
def headCol (k : Fin 2048) (l : Fin 128) : Fin 2048 := ⟨k.val / 128 * 128 + l.val, by omega⟩

/-- In every column of a head, the sum over the head's columns of the products of `O` and `G`. -/
def rowSums {n : Nat} (O G : (⟨2, ![n, 2048]⟩ : Shape).Idx → EReal) : (⟨2, ![n, 2048]⟩ : Shape).Idx → EReal := fun j =>
  ∑ l : Fin 128, G (ix2 (j 0) (headCol (j 1) l)) * O (ix2 (j 0) (headCol (j 1) l))

theorem ext2 {a b : ℕ} {i j : (⟨2, ![a, b]⟩ : Shape).Idx} (h0 : (i 0).val = (j 0).val) (h1 : (i 1).val = (j 1).val) : i = j :=
  funext fun k => match k with
    | ⟨0, _⟩ => Fin.ext h0
    | ⟨1, _⟩ => Fin.ext h1

end Sums

namespace Cert.DeltaIdeal.Sums
open Cert.DeltaIdeal Cert.DeltaIdeal.Gen _root_.Sums

/-! ## One head -/

section
variable (v w : Vec Ideal S128x128 .bf16)

theorem pay_at (r k : Fin 128) : k0_pay4 (F := Ideal) v w (ix2 r k) = ∑ l : Fin 128, (v (ix2 r l) * w (ix2 r l) : EReal) := by
  pointwise [k0_pay4]
theorem pay_1 : k0_pay5 (F := Ideal) v w = k0_pay4 v w := rfl
theorem pay_2 : k0_pay6 (F := Ideal) v w = k0_pay4 v w := rfl
theorem pay_3 : k0_pay8 (F := Ideal) (k0_pay7 v) w = k0_pay4 v w := rfl
theorem pay_4 : k0_pay9 (F := Ideal) v w = k0_pay4 v w := rfl
theorem pay_5 : k0_pay10 (F := Ideal) v w = k0_pay4 v w := rfl
theorem pay_6 : k0_pay12 (F := Ideal) (k0_pay11 v w) = k0_pay4 v w := rfl
theorem pay_7 : k0_pay13 (F := Ideal) v w = k0_pay4 v w := rfl
theorem pay_8 : k0_pay14 (F := Ideal) v w = k0_pay4 v w := rfl
theorem pay_9 : k0_pay15 (F := Ideal) v w = k0_pay4 v w := rfl
theorem pay_10 : k0_pay16 (F := Ideal) v w = k0_pay4 v w := rfl
theorem pay_11 : k0_pay17 (F := Ideal) v w = k0_pay4 v w := rfl
theorem pay_12 : k0_pay18 (F := Ideal) v w = k0_pay4 v w := rfl
theorem pay_13 : k0_pay1 (F := Ideal) (k0_pay19 v) w = k0_pay4 v w := rfl
theorem pay_14 : k0_pay2 (F := Ideal) v w = k0_pay4 v w := rfl
theorem pay_15 : k0_pay3 (F := Ideal) v w = k0_pay4 v w := rfl
end

variable (X0 X1 : Vec Ideal S128x2048 .bf16)

/-- A head's piece of the block is the head's row sums. -/
theorem piece (j : Nat) (hj : j < 16) (r : Rect S128x2048) (e : Shape.Idx ⟨2, ![128, 128]⟩ → S128x2048.Idx)
    (he : ∀ (a b : Fin 128), e (ix2 a b) = ix2 a ⟨128 * j + b.val, by omega⟩) (x : S128x128.Idx) :
    k0_pay4 (F := Ideal) (fun y => X1 (e y)) (fun y => X0 (e y)) x = rowSums X0 X1 (e x) := by
  obtain ⟨a, b, rfl⟩ : ∃ a b : Fin 128, x = ix2 a b := ⟨x 0, x 1, ext2 rfl rfl⟩
  rw [pay_at]
  unfold rowSums
  refine Finset.sum_congr rfl fun l _ => ?_
  have h : (ix2 a (headCol ⟨128 * j + b.val, by omega⟩ l) : S128x2048.Idx) = ix2 a ⟨128 * j + l.val, by omega⟩ := by
    refine ext2 rfl ?_
    show (128 * j + b.val) / 128 * 128 + l.val = 128 * j + l.val
    omega
  simp only [he]
  exact (congrArg₂ (fun u v : EReal => u * v) (congrArg X1 h) (congrArg X0 h)).symm

theorem out_at (y : S128x2048.Idx) : out0_2 (F := Ideal) X0 X1 y = rowSums X0 X1 y := by
  unfold out0_2
  refine View.canon_apply_of_pieces (Val := Elt Ideal) (e := .f32) (rowSums X0 X1) _ ?_ y (cover0_2 _ _ _ _ _ _ _ _ _ _ _ _ _ _ _ _ y)
  intro pc hpc
  rcases List.mem_cons.mp hpc with rfl | hpc
  · intro x; exact piece X0 X1 15 (by decide) r0_15 r0_15.idx (fun a b => ext2 (by show 0 + 1 * a.val = a.val; omega) (by show 1920 + 1 * b.val = 128 * 15 + b.val; omega)) x
  rcases List.mem_cons.mp hpc with rfl | hpc
  · intro x; exact piece X0 X1 14 (by decide) r0_14 r0_14.idx (fun a b => ext2 (by show 0 + 1 * a.val = a.val; omega) (by show 1792 + 1 * b.val = 128 * 14 + b.val; omega)) x
  rcases List.mem_cons.mp hpc with rfl | hpc
  · intro x; exact piece X0 X1 13 (by decide) r0_13 r0_13.idx (fun a b => ext2 (by show 0 + 1 * a.val = a.val; omega) (by show 1664 + 1 * b.val = 128 * 13 + b.val; omega)) x
  rcases List.mem_cons.mp hpc with rfl | hpc
  · intro x; exact piece X0 X1 12 (by decide) r0_12 r0_12.idx (fun a b => ext2 (by show 0 + 1 * a.val = a.val; omega) (by show 1536 + 1 * b.val = 128 * 12 + b.val; omega)) x
  rcases List.mem_cons.mp hpc with rfl | hpc
  · intro x; exact piece X0 X1 11 (by decide) r0_11 r0_11.idx (fun a b => ext2 (by show 0 + 1 * a.val = a.val; omega) (by show 1408 + 1 * b.val = 128 * 11 + b.val; omega)) x
  rcases List.mem_cons.mp hpc with rfl | hpc
  · intro x; exact piece X0 X1 10 (by decide) r0_10 r0_10.idx (fun a b => ext2 (by show 0 + 1 * a.val = a.val; omega) (by show 1280 + 1 * b.val = 128 * 10 + b.val; omega)) x
  rcases List.mem_cons.mp hpc with rfl | hpc
  · intro x; exact piece X0 X1 9 (by decide) r0_9 r0_9.idx (fun a b => ext2 (by show 0 + 1 * a.val = a.val; omega) (by show 1152 + 1 * b.val = 128 * 9 + b.val; omega)) x
  rcases List.mem_cons.mp hpc with rfl | hpc
  · intro x; exact piece X0 X1 8 (by decide) r0_8 r0_8.idx (fun a b => ext2 (by show 0 + 1 * a.val = a.val; omega) (by show 1024 + 1 * b.val = 128 * 8 + b.val; omega)) x
  rcases List.mem_cons.mp hpc with rfl | hpc
  · intro x; exact piece X0 X1 7 (by decide) r0_7 r0_7.idx (fun a b => ext2 (by show 0 + 1 * a.val = a.val; omega) (by show 896 + 1 * b.val = 128 * 7 + b.val; omega)) x
  rcases List.mem_cons.mp hpc with rfl | hpc
  · intro x; exact piece X0 X1 6 (by decide) r0_6 r0_6.idx (fun a b => ext2 (by show 0 + 1 * a.val = a.val; omega) (by show 768 + 1 * b.val = 128 * 6 + b.val; omega)) x
  rcases List.mem_cons.mp hpc with rfl | hpc
  · intro x; exact piece X0 X1 5 (by decide) r0_5 r0_5.idx (fun a b => ext2 (by show 0 + 1 * a.val = a.val; omega) (by show 640 + 1 * b.val = 128 * 5 + b.val; omega)) x
  rcases List.mem_cons.mp hpc with rfl | hpc
  · intro x; exact piece X0 X1 4 (by decide) r0_4 r0_4.idx (fun a b => ext2 (by show 0 + 1 * a.val = a.val; omega) (by show 512 + 1 * b.val = 128 * 4 + b.val; omega)) x
  rcases List.mem_cons.mp hpc with rfl | hpc
  · intro x; exact piece X0 X1 3 (by decide) r0_3 r0_3.idx (fun a b => ext2 (by show 0 + 1 * a.val = a.val; omega) (by show 384 + 1 * b.val = 128 * 3 + b.val; omega)) x
  rcases List.mem_cons.mp hpc with rfl | hpc
  · intro x; exact piece X0 X1 2 (by decide) r0_2 r0_2.idx (fun a b => ext2 (by show 0 + 1 * a.val = a.val; omega) (by show 256 + 1 * b.val = 128 * 2 + b.val; omega)) x
  rcases List.mem_cons.mp hpc with rfl | hpc
  · intro x; exact piece X0 X1 1 (by decide) r0_1 r0_1.idx (fun a b => ext2 (by show 0 + 1 * a.val = a.val; omega) (by show 128 + 1 * b.val = 128 * 1 + b.val; omega)) x
  rcases List.mem_cons.mp hpc with rfl | hpc
  · intro x; exact piece X0 X1 0 (by decide) r0_0 r0_0.idx (fun a b => ext2 (by show 0 + 1 * a.val = a.val; omega) (by show 0 + 1 * b.val = 128 * 0 + b.val; omega)) x
  nomatch hpc

/-! ## The array -/

theorem idx : ∀ t : Fin cfg0.N, win0_0.index t = ![t.val, 0] ∧ win0_1.index t = ![t.val, 0] ∧ win0_2.index t = ![t.val, 0] :=
  (by decide +kernel : ∀ t : Fin grid0.N, _)

variable (m : (ℓ : Loc nD τ sig) → Buf (Elt Ideal) ℓ) (c : Dev nD)

theorem final : (dats m 0 c).arrAt 2 cfg0.N = rowSums (n := 8320) (m ((c : Thread nD τ).loc main_arg0)) (m ((c : Thread nD τ).loc main_arg1)) := by
  refine (dats m 0 c).arrAt_eq_of_covers 2 _ (by decide +kernel) fun t _ y => ?_
  idx_vars y
  blk_simp
  rw [after0_2]
  refine (out_at _ _ _).trans ?_
  unfold rowSums
  refine Finset.sum_congr rfl fun l _ => congrArg₂ (fun u v : EReal => u * v) ?_ ?_ <;> blk_point [iblk, V, idx t, headCol]

end Cert.DeltaIdeal.Sums

namespace Cert.DeltaReferenceIdeal.Sums
open Cert.DeltaReferenceIdeal Cert.DeltaReferenceIdeal.Gen Cert.DeltaReferenceIdeal.Read _root_.Sums

variable (O G : (⟨S8320x2048, .bf16⟩ : BufTy).Contents (Elt Ideal))

theorem value : val_main_v8 (F := Ideal) O G = rowSums (n := 8320) O G := by
  funext j
  rw [val_main_v8_apply, val_main_v7_apply, val_main_v6_apply, val_main_v5_apply, val_main_cst_apply,
    show (FloatOps.ofBits .f32 0x00000000#32 : Ideal .f32) = (0 : EReal) by pointwise, zero_add]
  unfold rowSums
  refine Finset.sum_congr rfl fun l _ => ?_
  rw [val_main_v4_apply, val_main_v3_apply, val_main_v1_apply, val_main_v2_apply, val_main_v0_apply]
  have h0 : (j 0).val < 8320 := (j 0).isLt
  have h1 : (j 1).val < 2048 := (j 1).isLt
  have hl := l.isLt
  refine congrArg₂ (fun u v : EReal => u * v) (congrArg G (ext2 ?_ ?_)) (congrArg O (ext2 ?_ ?_))
  all_goals first
    | (show ((((j 0).val * 2048 + (j 1).val) / 2048 * 16 + ((j 0).val * 2048 + (j 1).val) / 128 % 16) * 128 + l.val) / 2048 = (j 0).val; omega)
    | (show ((((j 0).val * 2048 + (j 1).val) / 2048 * 16 + ((j 0).val * 2048 + (j 1).val) / 128 % 16) * 128 + l.val) % 2048 = (j 1).val / 128 * 128 + l.val; omega)

end Cert.DeltaReferenceIdeal.Sums

namespace Cert.Proof

theorem algebraic_delta : Cert.algebraic_DeltaIdeal_DeltaReferenceIdeal := by
  intro m ρ m' ρ' _ hargs
  refine ⟨fun c => Sums.rowSums (n := 8320) (m ((c.tc : Thread DeltaIdeal.nD DeltaIdeal.τ).loc DeltaIdeal.main_arg0)) (m ((c.tc : Thread DeltaIdeal.nD DeltaIdeal.τ).loc DeltaIdeal.main_arg1)), ?_, ?_⟩
  · refine (θ_run Cert.DeltaIdeal.defs _ _).mono (fun r h c => ?_) (DeltaIdeal.Value.run_blocks (F := Ideal) m ρ)
    exact ⟨(h c).1.trans (DeltaIdeal.Sums.final m c), (h c).2⟩
  · refine (θ_run Cert.DeltaReferenceIdeal.defs _ _).mono (fun r h c => ?_) (DeltaReferenceIdeal.Value.run (F := Ideal) m' ρ')
    obtain ⟨a0, a1⟩ := hargs c
    refine ⟨(h c).1.trans ?_, (h c).2⟩
    rw [DeltaReferenceIdeal.Read.val_main_v8_eq, a0, a1]
    exact DeltaReferenceIdeal.Sums.value _ _

end Cert.Proof

end
-- ==== Proof.Sums.PairSum.lean ====
module

public import proofs.«01_k».proof.Proof.Gen.PairSumIdeal.Value
public import proofs.«01_k».proof.Proof.Gen.PairSumReferenceIdeal.Run
public import proofs.«01_k».proof.Proof.Gen.PairSumReferenceIdeal.Read
public import proofs.«01_k».proof.Defs
public import Idealize.ShloMosaic.Adequacy

/-! # The sum over the two cores of a chip -/

@[expose] public section
noncomputable section

open Idealize.ShloMosaic Idealize.ShloMosaic.TcCoe Idealize.SL.Sem

namespace Cert.Proof

theorem algebraic_pair_sum : Cert.algebraic_PairSumIdeal_PairSumReferenceIdeal := by
  intro m ρ m' ρ' _ hargs
  refine ⟨fun c => PairSumIdeal.Value.G2 (F := Ideal) (m ((c.tc : Thread PairSumIdeal.nD PairSumIdeal.τ).loc PairSumIdeal.main_arg0)) (m ((c.tc : Thread PairSumIdeal.nD PairSumIdeal.τ).loc PairSumIdeal.main_arg1)), ?_, ?_⟩
  · exact PairSumIdeal.Value.run (F := Ideal) m ρ
  · refine (θ_run Cert.PairSumReferenceIdeal.defs _ _).mono (fun r h c => ?_) (PairSumReferenceIdeal.Value.run (F := Ideal) m' ρ')
    obtain ⟨a0, a1⟩ := hargs c
    refine ⟨(h c).1.trans ?_, (h c).2⟩
    rw [PairSumReferenceIdeal.Read.val_main_v3_eq, a0, a1]
    rfl

end Cert.Proof

end
-- ==== Proof.Sums.ChipSum.lean ====
module

public import proofs.«01_k».proof.Proof.Gen.ChipSumIdeal.Value
public import proofs.«01_k».proof.Proof.Gen.ChipSumReferenceIdeal.Run
public import proofs.«01_k».proof.Proof.Gen.ChipSumReferenceIdeal.Read
public import Idealize.ShloMosaic.Lib.Pipeline.ValueKit
public import proofs.«01_k».proof.Defs
public import Idealize.ShloMosaic.Adequacy

set_option maxRecDepth 16384

/-! # The sum over the four chips -/

@[expose] public section
noncomputable section

open Idealize.ShloMosaic Idealize.ShloMosaic.TcCoe Idealize.SL.Sem

namespace Sums

/-- The sum of the four parts, entry by entry. -/
def four (X : (⟨3, ![4, 704, 2048]⟩ : Shape).Idx → EReal) : (⟨2, ![704, 2048]⟩ : Shape).Idx → EReal := fun j =>
  ∑ k : Fin 4, X (ix3 k (j 0) (j 1))

end Sums

namespace Cert.ChipSumIdeal.Sums
open Cert.ChipSumIdeal Cert.ChipSumIdeal.Gen _root_.Sums

theorem idx : ∀ t : Fin cfg0.N, win0_0.index t = ![0, t.val, 0] ∧ win0_1.index t = ![t.val, 0] :=
  (by decide +kernel : ∀ t : Fin grid0.N, _)

variable (m : (ℓ : Loc nD τ sig) → Buf (Elt Ideal) ℓ) (c : Dev nD)

theorem final : (dats m 0 c).arrAt 1 cfg0.N = four (m ((c : Thread nD τ).loc main_arg0)) := by
  refine (dats m 0 c).arrAt_eq_of_covers 1 _ (by decide +kernel) fun t _ y => ?_
  idx_vars y
  blk_simp
  rw [after0_1]
  unfold four
  rw [Fin.sum_univ_four]
  frame_out
  pointwise [k0_pay1]
  refine congrArg₂ (fun u v : EReal => u + v) (congrArg₂ (fun u v : EReal => u + v) (congrArg₂ (fun u v : EReal => u + v) ?_ ?_) ?_) ?_ <;> blk_point [iblk, V, idx t]

end Cert.ChipSumIdeal.Sums

namespace Cert.Proof

theorem algebraic_chip_sum : Cert.algebraic_ChipSumIdeal_ChipSumReferenceIdeal := by
  intro m ρ m' ρ' _ hargs
  refine ⟨fun c => Sums.four (m ((c.tc : Thread ChipSumIdeal.nD ChipSumIdeal.τ).loc ChipSumIdeal.main_arg0)), ?_, ?_⟩
  · refine (θ_run Cert.ChipSumIdeal.defs _ _).mono (fun r h c => ?_) (ChipSumIdeal.Value.run_blocks (F := Ideal) m ρ)
    exact ⟨(h c).1.trans (ChipSumIdeal.Sums.final m c), (h c).2⟩
  · refine (θ_run Cert.ChipSumReferenceIdeal.defs _ _).mono (fun r h c => ?_) (ChipSumReferenceIdeal.Value.run (F := Ideal) m' ρ')
    refine ⟨(h c).1.trans ?_, (h c).2⟩
    rw [ChipSumReferenceIdeal.Read.val_main_v1_eq, hargs c]
    funext j
    rw [ChipSumReferenceIdeal.Read.val_main_v1_apply, ChipSumReferenceIdeal.Read.val_main_cst_apply,
      show (FloatOps.ofBits .f32 0x00000000#32 : Ideal .f32) = (0 : EReal) by pointwise, zero_add]
    refine Finset.sum_congr rfl fun k _ => ?_
    rw [ChipSumReferenceIdeal.Read.val_main_v0_apply]
    exact congrArg (m ((c.tc : Thread ChipSumIdeal.nD ChipSumIdeal.τ).loc ChipSumIdeal.main_arg0))
      (funext fun a => match a with | ⟨0, _⟩ => rfl | ⟨1, _⟩ => rfl | ⟨2, _⟩ => rfl)

end Cert.Proof

end
-- ==== Proof.Sums.Embed.lean ====
module

public import proofs.«01_k».proof.Proof.Gen.EmbedIdeal.Value
public import proofs.«01_k».proof.Proof.Gen.EmbedReferenceIdeal.Run
public import proofs.«01_k».proof.Proof.Gen.EmbedReferenceIdeal.Read
public import proofs.«01_k».proof.Proof.Project.Spec
public import proofs.«01_k».proof.Proof.Products.Spec
public import proofs.«01_k».proof.Defs
public import Idealize.ShloMosaic.Adequacy

set_option maxRecDepth 16384

/-! # The embedding and its norm -/

@[expose] public section
noncomputable section

open Idealize.ShloMosaic Idealize.ShloMosaic.TcCoe Idealize.SL.Sem

namespace Embed
open Conv Products Project

/-- The padding rows, the meta rows and the rows of the sequence under one another. -/
def stack (X : Arr 8192 2048) (M : Arr 16 2048) : Arr 8320 2048 := fun j =>
  if h0 : (j 0).val < 112 then 0
  else if h1 : (j 0).val < 128 then M (ix2 ⟨(j 0).val - 112, by omega⟩ (j 1))
  else X (ix2 ⟨(j 0).val - 128, by have h : (j 0).val < 8320 := (j 0).isLt; omega⟩ (j 1))

theorem stack_at (X : Arr 8192 2048) (M : Arr 16 2048) (n : Fin 8320) (k : Fin 2048) :
    stack X M (ix2 n k) = if h0 : n.val < 112 then 0
      else if h1 : n.val < 128 then M (ix2 (⟨n.val - 112, by omega⟩ : Fin 16) k)
      else X (ix2 (⟨n.val - 128, by have := n.isLt; omega⟩ : Fin 8192) k) := rfl

/-- The norm of every row. -/
def normed (H : Arr 8320 2048) (g : Arr 1 2048) : Arr 8320 2048 := fun j =>
  rms (Ideal.ofBits FTy.f32 0x45000000#32) (fun k => H (ix2 (j 0) k)) (g (ix2 0 (j 1))) (j 1)

end Embed

namespace Cert.EmbedIdeal.Embed
open Cert.EmbedIdeal Cert.EmbedIdeal.Gen _root_.Conv _root_.Products _root_.Project _root_.Embed

theorem idx : ∀ t : Fin cfg0.N, win0_0.index t = ![t.val - 1, 0] ∧ win0_1.index t = ![0, 0] ∧ win0_2.index t = ![0, 0]
    ∧ win0_3.index t = ![t.val, 0] ∧ win0_4.index t = ![t.val, 0] ∧ t.val < 65 :=
  (by decide +kernel : ∀ t : Fin grid0.N, _)

variable (m : (ℓ : Loc nD τ sig) → Buf (Elt Ideal) ℓ) (c : Dev nD)

/-- The rows stacked, of the arguments as launched. -/
abbrev H : Arr 8320 2048 := stack (m ((c : Thread nD τ).loc main_arg0)) (m ((c : Thread nD τ).loc main_arg1))

/-- The norm the body takes of a block of rows. -/
theorem pay2_at (x : Vec Ideal S128x2048 .f32) (g : Vec Ideal S1x2048 .f32) (r : Fin 128) (k : Fin 2048) :
    k0_pay2 (F := Ideal) x g (ix2 r k) = rms (Ideal.ofBits FTy.f32 0x45000000#32) (fun l => x (ix2 r l)) (g (ix2 0 k)) k := by
  unfold rms
  pointwise [k0_pay2]

theorem pay1_at (y : S128x2048.Idx) : k0_pay1 (F := Ideal) y = (0 : EReal) := by
  idx_vars y
  pointwise [k0_pay1]

/-- The meta rows over the zero rows of the first block. -/
theorem first_at (M : Vec Ideal S16x2048 .f32) (r : Fin 128) (k : Fin 2048) :
    View.canon (Val := Elt Ideal) (e := .f32) [⟨Rect.unit ![112, 0] ![16, 2048] inb_S128x2048_S16x2048_112_0, M⟩,
      ⟨Rect.unit ![0, 0] ![128, 2048] inb_S128x2048_S128x2048_0_0, k0_pay1 (F := Ideal)⟩] (ix2 r k)
      = if h : r.val < 112 then 0 else M (ix2 (⟨r.val - 112, by have := r.isLt; omega⟩ : Fin 16) k) := by
  have hr := r.isLt
  by_cases h : r.val < 112
  · rw [dif_pos h, View.canon_cons_of_not_mem, View.canon_cons_unit_lit _ _ _ (by decide)]
    · exact pay1_at _
    · intro hm
      obtain ⟨x, hx⟩ := LoadRect.exists_idx_of_mem _ hm
      have h0 : ((Rect.unit (s := S128x2048) ![112, 0] ![16, 2048] inb_S128x2048_S16x2048_112_0).emb x 0).val = r.val := congrArg (fun y : S128x2048.Idx => (y 0).val) hx
      rw [ValueKit.rect_emb_unit_val] at h0
      have h1 : 112 + (x 0).val = r.val := h0
      omega
  · rw [dif_neg h]
    rw [show (ix2 r k : S128x2048.Idx) = (Rect.unit (s := S128x2048) ![112, 0] ![16, 2048] inb_S128x2048_S16x2048_112_0).emb (ix2 (⟨r.val - 112, by omega⟩ : Fin 16) k) from
      ext2 (by rw [ValueKit.rect_emb_unit_val]; show r.val = 112 + (r.val - 112); omega) (by rw [ValueKit.rect_emb_unit_val]; show k.val = 0 + k.val; omega)]
    exact View.canon_cons_emb _ _ _ _

theorem out3 (t : Fin cfg0.N) (r : Fin 128) (k : Fin 2048) (n : Fin 8320) (hn : n.val = 128 * t.val + r.val) :
    (outsAt0 m c t.val t.isLt).1 (ix2 r k) = H m c (ix2 n k) := by
  have ht := (idx t).2.2.2.2.2
  have hr := r.isLt
  unfold H
  rw [stack_at]
  by_cases h : t.val % 65 = 0
  · have h1 : ¬1 ≤ t.val := by omega
    rw [outsAt0_A m c t h h1]; frame_out
    refine (first_at _ r k).trans ?_
    by_cases h2 : r.val < 112
    · rw [dif_pos h2, dif_pos (show n.val < 112 by omega)]
    · rw [dif_neg h2, dif_neg (show ¬n.val < 112 by omega), dif_pos (show n.val < 128 by omega)]
      have e : (⟨r.val - 112, by omega⟩ : Fin 16) = ⟨n.val - 112, by omega⟩ := Fin.ext (by show r.val - 112 = n.val - 112; omega)
      rw [e]
      blk_point [iblk, V, idx t]
  · rw [outsAt0_B m c t h (by omega)]; frame_out
    rw [dif_neg (show ¬n.val < 112 by omega), dif_neg (show ¬n.val < 128 by omega)]
    blk_point [iblk, V, idx t]

theorem out4 (t : Fin cfg0.N) (r : Fin 128) (k : Fin 2048) :
    (outsAt0 m c t.val t.isLt).2 (ix2 r k) = rms (Ideal.ofBits FTy.f32 0x45000000#32) (fun l => (outsAt0 m c t.val t.isLt).1 (ix2 r l)) (m ((c : Thread nD τ).loc main_arg2) (ix2 0 k)) k := by
  have ht := (idx t).2.2.2.2.2
  have hg : iblk m c 2 t (ix2 0 k) = m ((c : Thread nD τ).loc main_arg2) (ix2 0 k) := by blk_point [iblk, V, idx t]
  by_cases h : t.val % 65 = 0
  · have h1 : ¬1 ≤ t.val := by omega
    rw [outsAt0_A m c t h h1]; frame_out
    refine (pay2_at _ _ r k).trans ?_
    rw [hg, View.readCov_eq_canon']
    refine congrArg (fun x : Fin 2048 → EReal => rms (Ideal.ofBits FTy.f32 0x45000000#32) x _ k) (funext fun l => congrArg _ ?_)
    exact ext2 (by show 0 + _ = _; simp) (by show 0 + _ = _; simp)
  · rw [outsAt0_B m c t h (by omega)]; frame_out
    refine (pay2_at _ _ r k).trans ?_
    rw [hg]

theorem final3 : (dats m 0 c).arrAt 3 cfg0.N = H m c := by
  refine (dats m 0 c).arrAt_eq_of_covers 3 _ (by decide +kernel) fun t _ y => ?_
  idx_vars y
  blk_simp
  rw [after0_3]
  have hr : ((((View.whole main_v0_0).slice (win0_3.rect t)).emb (ix2 y0 y1)) 0).val = 128 * t.val + y0.val := by
    blk_simp [idx t]; omega
  have hk : (((View.whole main_v0_0).slice (win0_3.rect t)).emb (ix2 y0 y1)) 1 = (y1 : Fin 2048) := by
    apply Fin.ext; blk_simp [idx t]
  refine (out3 m c t y0 y1 _ hr).trans (congrArg (H m c) ?_)
  exact ext2 rfl (congrArg Fin.val hk).symm

theorem final4 : (dats m 0 c).arrAt 4 cfg0.N = normed (H m c) (m ((c : Thread nD τ).loc main_arg2)) := by
  refine (dats m 0 c).arrAt_eq_of_covers 4 _ (by decide +kernel) fun t _ y => ?_
  idx_vars y
  blk_simp
  rw [after0_4]
  have hr : ((((View.whole main_v0_1).slice (win0_4.rect t)).emb (ix2 y0 y1)) 0).val = 128 * t.val + y0.val := by
    blk_simp [idx t]; omega
  have hk : (((View.whole main_v0_1).slice (win0_4.rect t)).emb (ix2 y0 y1)) 1 = (y1 : Fin 2048) := by
    apply Fin.ext; blk_simp [idx t]
  refine (out4 m c t y0 y1).trans ?_
  unfold normed
  rw [hk]
  exact congrArg (fun x : Fin 2048 → EReal => rms (Ideal.ofBits FTy.f32 0x45000000#32) x _ y1) (funext fun l => out3 m c t y0 l _ hr)

end Cert.EmbedIdeal.Embed

namespace Cert.EmbedReferenceIdeal.Embed
open Cert.EmbedReferenceIdeal Cert.EmbedReferenceIdeal.Gen Cert.EmbedReferenceIdeal.Read _root_.Conv _root_.Products _root_.Project _root_.Embed

/-- The number zero. -/
theorem zero_f32 : (FloatOps.ofBits .f32 0x00000000#32 : Ideal .f32) = (0 : EReal) := by pointwise

variable (x : Arr 8192 2048) (p : Arr 16 2048) (g : Arr 1 2048)

theorem v1_eq : val_main_v1 (F := Ideal) x p = stack x p := by
  funext j
  obtain ⟨n, k, rfl⟩ : ∃ (n : Fin 8320) (k : Fin 2048), j = ix2 n k := ⟨j 0, j 1, ext2 rfl rfl⟩
  have hn := n.isLt
  rw [stack_at]
  unfold val_main_v1
  by_cases h0 : n.val < 112
  · rw [dif_pos h0]
    rw [concatenate_apply_piece 0 _ _ (ix2 n k) 0 (by simp) S112x2048 _ rfl rfl 0 rfl (ix2 (⟨n.val, h0⟩ : Fin 112) k)
      (fun b hb => match b with
        | ⟨0, _⟩ => absurd rfl hb
        | ⟨1, _⟩ => rfl) (Nat.zero_add _), val_main_v0_apply, val_main_cst_apply, zero_f32]
  · rw [dif_neg h0]
    by_cases h1 : n.val < 128
    · rw [dif_pos h1]
      exact concatenate_apply_piece 0 _ _ (ix2 n k) 1 (by simp) S16x2048 p rfl rfl 112 rfl (ix2 (⟨n.val - 112, by omega⟩ : Fin 16) k)
        (fun b hb => match b with
          | ⟨0, _⟩ => absurd rfl hb
          | ⟨1, _⟩ => rfl) (by show 112 + (n.val - 112) = n.val; omega)
    · rw [dif_neg h1]
      exact concatenate_apply_piece 0 _ _ (ix2 n k) 2 (by simp) S8192x2048 x rfl rfl 128 rfl (ix2 (⟨n.val - 128, by omega⟩ : Fin 8192) k)
        (fun b hb => match b with
          | ⟨0, _⟩ => absurd rfl hb
          | ⟨1, _⟩ => rfl) (by show 128 + (n.val - 128) = n.val; omega)

theorem v14_eq : val_main_v14 (F := Ideal) x p g = normed (stack x p) g := by
  funext j
  obtain ⟨n, k, rfl⟩ : ∃ (n : Fin 8320) (k : Fin 2048), j = ix2 n k := ⟨j 0, j 1, ext2 rfl rfl⟩
  rw [val_main_v14_apply, val_main_v13_apply, val_main_v11_apply, val_main_v12_apply, val_main_v10_apply, val_main_v9_apply, val_main_v8_apply,
    val_main_v7_apply, val_main_v6_apply, val_main_v5_apply, val_main_v4_apply, val_main_v3_apply, val_main_cst_0_apply, val_main_cst_1_apply,
    val_main_cst_2_apply, zero_f32, zero_add, v1_eq]
  unfold normed rms
  refine congrArg₂ (fun u v : EReal => u * v) (congrArg (fun u : EReal => stack x p (ix2 n k) * u) (congrArg Ideal.rsqrt
    (congrArg (fun u : EReal => Ideal.div u _ + _) (Finset.sum_congr rfl fun l _ => ?_)))) (congrArg g (ext2 rfl rfl))
  rw [val_main_v2_apply, v1_eq]
  rw [show idx_main_v3 (idx_main_v4 (idx_main_v10 (ix2 n k))) l = ix2 n l from ext2 rfl rfl]
  rfl

end Cert.EmbedReferenceIdeal.Embed

namespace Cert.Proof

theorem algebraic_embed : Cert.algebraic_EmbedIdeal_EmbedReferenceIdeal := by
  intro m ρ m' ρ' _ hargs
  refine ⟨fun c => _root_.Embed.stack (m ((c.tc : Thread EmbedIdeal.nD EmbedIdeal.τ).loc EmbedIdeal.main_arg0)) (m ((c.tc : Thread EmbedIdeal.nD EmbedIdeal.τ).loc EmbedIdeal.main_arg1)),
    fun c => _root_.Embed.normed (_root_.Embed.stack (m ((c.tc : Thread EmbedIdeal.nD EmbedIdeal.τ).loc EmbedIdeal.main_arg0)) (m ((c.tc : Thread EmbedIdeal.nD EmbedIdeal.τ).loc EmbedIdeal.main_arg1))) (m ((c.tc : Thread EmbedIdeal.nD EmbedIdeal.τ).loc EmbedIdeal.main_arg2)), ?_, ?_⟩
  · refine (θ_run Cert.EmbedIdeal.defs _ _).mono (fun r h c => ?_) (EmbedIdeal.Value.run_blocks (F := Ideal) m ρ)
    exact ⟨(h c).1.trans (EmbedIdeal.Embed.final3 m c), (h c).2.1.trans (EmbedIdeal.Embed.final4 m c), (h c).2.2⟩
  · refine (θ_run Cert.EmbedReferenceIdeal.defs _ _).mono (fun r h c => ?_) (EmbedReferenceIdeal.Value.run (F := Ideal) m' ρ')
    obtain ⟨a0, a1, a2⟩ := hargs c
    refine ⟨(h c).1.trans ?_, (h c).2.1.trans ?_, (h c).2.2⟩
    · rw [EmbedReferenceIdeal.Read.val_main_v1_eq, a0, a1]
      exact EmbedReferenceIdeal.Embed.v1_eq _ _
    · rw [EmbedReferenceIdeal.Read.val_main_v14_eq, a0, a1, a2]
      exact EmbedReferenceIdeal.Embed.v14_eq _ _ _

end Cert.Proof

end
-- ==== Proof.Sums.Rope.lean ====
module

public import proofs.«01_k».proof.Proof.Gen.RopeIdeal.Value
public import proofs.«01_k».proof.Proof.Gen.RopeReferenceIdeal.Run
public import proofs.«01_k».proof.Proof.Gen.RopeReferenceIdeal.Read
public import proofs.«01_k».proof.Proof.Project.Spec
public import proofs.«01_k».proof.Proof.Products.Spec
public import proofs.«01_k».proof.Defs
public import Idealize.ShloMosaic.Adequacy

set_option maxRecDepth 16384

/-! # The rotary embedding of the queries and the keys -/

@[expose] public section
noncomputable section

open Idealize.ShloMosaic Idealize.ShloMosaic.TcCoe Idealize.SL.Sem

namespace Rope
open Conv Products

/-- The half turn of a row of 128: the first 32 columns from the next 32 with the sign changed, the others from 32 columns before. -/
def half (x : Fin 128 → EReal) (l : Fin 128) : EReal :=
  if l.val < 32 then 0 - x ⟨(l.val + 32) % 128, Nat.mod_lt _ (by decide)⟩ else x ⟨(l.val + 96) % 128, Nat.mod_lt _ (by decide)⟩

/-- A row of 128 turned by the angles whose cosines and sines are `c` and `s`. -/
def turn (x c s : Fin 128 → EReal) (l : Fin 128) : EReal := x l * c l + half x l * s l

/-- The number that scales the queries. -/
abbrev scale : EReal := Ideal.ofBits FTy.f32 0x3D93CD3A#32

/-- A column's place within its run of 128. -/
def lane {w : ℕ} (k : Fin w) : Fin 128 := ⟨k.val % 128, Nat.mod_lt _ (by decide)⟩
/-- Column `l` of the second half of the head that column `k` belongs to. -/
def second (k : Fin 4096) (l : Fin 128) : Fin 4096 := ⟨256 * (k.val / 256) + 128 + l.val, by omega⟩
/-- Where column `k` of the values lies: in the second halves of the heads of 256. -/
def valueCol (k : Fin 2048) : Fin 4096 := ⟨256 * (k.val / 128) + 128 + k.val % 128, by omega⟩

variable {n : ℕ}

/-- The queries: the first half of a head scaled, the second half turned and scaled. -/
def queries (X : Arr n 4096) (C S : Arr n 128) : Arr n 4096 := fun j =>
  if (j 1).val % 256 < 128 then X (ix2 (j 0) (j 1)) * scale
  else turn (fun l => X (ix2 (j 0) (second (j 1) l))) (fun l => C (ix2 (j 0) l)) (fun l => S (ix2 (j 0) l)) (lane (w := 4096) (j 1)) * scale

/-- The keys: the first half of a head as it is, the second half the one rotary key of the row, turned. -/
def keys (X : Arr n 4096) (K C S : Arr n 128) : Arr n 4096 := fun j =>
  if (j 1).val % 256 < 128 then X (ix2 (j 0) (j 1))
  else turn (fun l => K (ix2 (j 0) l)) (fun l => C (ix2 (j 0) l)) (fun l => S (ix2 (j 0) l)) (lane (w := 4096) (j 1))

/-- The values: the second halves of the heads. -/
def values (X : Arr n 4096) : Arr n 2048 := fun j => X (ix2 (j 0) (valueCol (j 1)))

theorem queries_at (X : Arr n 4096) (C S : Arr n 128) (r : Fin n) (k : Fin 4096) :
    queries X C S (ix2 r k) = if k.val % 256 < 128 then X (ix2 r k) * scale
      else turn (fun l => X (ix2 r (second k l))) (fun l => C (ix2 r l)) (fun l => S (ix2 r l)) (lane k) * scale := rfl
theorem keys_at (X : Arr n 4096) (K C S : Arr n 128) (r : Fin n) (k : Fin 4096) :
    keys X K C S (ix2 r k) = if k.val % 256 < 128 then X (ix2 r k)
      else turn (fun l => K (ix2 r l)) (fun l => C (ix2 r l)) (fun l => S (ix2 r l)) (lane k) := rfl
theorem values_at (X : Arr n 4096) (r : Fin n) (k : Fin 2048) : values X (ix2 r k) = X (ix2 r (valueCol k)) := rfl

/-- The 32 angles of a row, twice over, and zeros in the other 64 columns. -/
def table (T : Arr n 32) : Arr n 128 := fun j =>
  if (j 1).val < 64 then T (ix2 (j 0) ⟨(j 1).val % 32, Nat.mod_lt _ (by decide)⟩) else 0
theorem table_at (T : Arr n 32) (r : Fin n) (k : Fin 128) :
    table T (ix2 r k) = if k.val < 64 then T (ix2 r ⟨k.val % 32, Nat.mod_lt _ (by decide)⟩) else 0 := rfl

theorem queries_rows {n' : ℕ} {X : Arr n 4096} {C S : Arr n 128} {X' : Arr n' 4096} {C' S' : Arr n' 128} {r : Fin n} {r' : Fin n'}
    (hX : ∀ k, X (ix2 r k) = X' (ix2 r' k)) (hC : ∀ k, C (ix2 r k) = C' (ix2 r' k)) (hS : ∀ k, S (ix2 r k) = S' (ix2 r' k)) (k : Fin 4096) :
    queries X C S (ix2 r k) = queries X' C' S' (ix2 r' k) := by
  rw [queries_at, queries_at]; simp only [hX, hC, hS]
theorem keys_rows {n' : ℕ} {X : Arr n 4096} {K C S : Arr n 128} {X' : Arr n' 4096} {K' C' S' : Arr n' 128} {r : Fin n} {r' : Fin n'}
    (hX : ∀ k, X (ix2 r k) = X' (ix2 r' k)) (hK : ∀ k, K (ix2 r k) = K' (ix2 r' k)) (hC : ∀ k, C (ix2 r k) = C' (ix2 r' k))
    (hS : ∀ k, S (ix2 r k) = S' (ix2 r' k)) (k : Fin 4096) :
    keys X K C S (ix2 r k) = keys X' K' C' S' (ix2 r' k) := by
  rw [keys_at, keys_at]; simp only [hX, hK, hC, hS]

end Rope

namespace Cert.RopeIdeal.Rope
open Cert.RopeIdeal Cert.RopeIdeal.Gen _root_.Conv _root_.Products _root_.Rope

/-! ## One head -/

theorem pay5_at (v : Vec Ideal S128x128 .bf16) (r l : Fin 128) :
    k0_pay5 (F := Ideal) v (ix2 r l) = v (ix2 r l) * scale := by
  pointwise [k0_pay5]

theorem half_of (x : Fin 128 → EReal) (l : Fin 128) :
    Scalar.select (IntOp.cmpi CmpIPredicate.slt (BitVec.ofNat 32 l.val) 32#32) (0 - x ⟨(l.val + 128 - 96) % 128, Nat.mod_lt _ (by decide)⟩)
      (x ⟨(l.val + 128 - 32) % 128, Nat.mod_lt _ (by decide)⟩) = half x l := by
  have h : ∀ l : Fin 128, IntOp.cmpi CmpIPredicate.slt (BitVec.ofNat 32 l.val) 32#32 = if l.val < 32 then 1#1 else 0#1 := by decide +kernel
  rw [h l]
  unfold half
  by_cases h2 : l.val < 32
  · rw [if_pos h2, if_pos h2]; rfl
  · rw [if_neg h2, if_neg h2]; rfl

theorem pay9_at (c s : Vec Ideal S128x128 .f32) (v : Vec Ideal S128x128 .bf16) (r l : Fin 128) :
    k0_pay9 (F := Ideal) c s v (ix2 r l) = turn (fun k => v (ix2 r k)) (fun k => c (ix2 r k)) (fun k => s (ix2 r k)) l * scale := by
  unfold turn
  rw [← half_of]
  pointwise [k0_pay9]

theorem pay4_at (c s v : Vec Ideal S128x128 .f32) (r l : Fin 128) :
    k0_pay4 (F := Ideal) c s v (ix2 r l) = turn (fun k => v (ix2 r k)) (fun k => c (ix2 r k)) (fun k => s (ix2 r k)) l := by
  unfold turn
  rw [← half_of]
  pointwise [k0_pay4, k0_pay2, k0_pay3]

theorem ld_whole (x : Vec Ideal S128x128 .f32) : View.ld (Val := Elt Ideal) (e' := .f32) x r0_0 = x :=
  View.ld_unit_zero (funext fun a => match a with | ⟨0, _⟩ => rfl | ⟨1, _⟩ => rfl) _ x

variable (X0 X1 : Vec Ideal S128x4096 .bf16) (X2 X3 X4 : Vec Ideal S128x128 .f32)

/-- The first head's payload, printed in two parts. -/
theorem first_eq (c s : Vec Ideal S128x128 .f32) (v : Vec Ideal S128x128 .bf16) :
    k0_pay7 (F := Ideal) (k0_pay6 c s v) (Scalar.ofBits .f32 0x3D93CD3A#32) = k0_pay9 (k0_pay2 c) (k0_pay3 s) v := rfl
theorem pay2_eq (x : Vec Ideal S128x128 .f32) : k0_pay2 (F := Ideal) x = x := by
  funext y
  idx_vars y
  pointwise [k0_pay2]
theorem pay3_eq (x : Vec Ideal S128x128 .f32) : k0_pay3 (F := Ideal) x = x := pay2_eq x

theorem cos_eq : k0_pay40 (F := Ideal) X0 X1 X2 X3 X4 = X3 := by
  unfold k0_pay40
  rw [ld_whole, pay2_eq]
theorem sin_eq : k0_pay41 (F := Ideal) X0 X1 X2 X3 X4 = X4 := by
  unfold k0_pay41
  rw [ld_whole, pay3_eq]

/-- The first half of a head of the queries. -/
theorem plain_q (o : ℕ) (ho : o % 256 = 0) (hb : o + 128 ≤ 4096) (e : Shape.Idx ⟨2, ![128, 128]⟩ → S128x4096.Idx)
    (he : ∀ (a b : Fin 128), e (ix2 a b) = ix2 a ⟨o + b.val, by omega⟩) (x : S128x128.Idx) :
    k0_pay5 (F := Ideal) (fun y => X0 (e y)) x = queries X0 X3 X4 (e x) := by
  obtain ⟨a, b, rfl⟩ : ∃ a b : Fin 128, x = ix2 a b := ⟨x 0, x 1, ext2 rfl rfl⟩
  rw [pay5_at, he, queries_at, if_pos (by show (o + b.val) % 256 < 128; omega)]

theorem second_of (o : ℕ) (ho : o % 256 = 128) (hb : o + 128 ≤ 4096) (b l : Fin 128) :
    second ⟨o + b.val, by omega⟩ l = ⟨o + l.val, by omega⟩ := Fin.ext (by show 256 * ((o + b.val) / 256) + 128 + l.val = o + l.val; omega)
theorem lane_of (o : ℕ) (ho : o % 128 = 0) (w : ℕ) (hb : o + 128 ≤ w) (b : Fin 128) :
    lane (⟨o + b.val, by omega⟩ : Fin w) = b := Fin.ext (by show (o + b.val) % 128 = b.val; omega)

/-- The second half of a head of the queries. -/
theorem turned_q (o : ℕ) (ho : o % 256 = 128) (hb : o + 128 ≤ 4096) (e : Shape.Idx ⟨2, ![128, 128]⟩ → S128x4096.Idx)
    (he : ∀ (a b : Fin 128), e (ix2 a b) = ix2 a ⟨o + b.val, by omega⟩) (x : S128x128.Idx) :
    k0_pay9 (F := Ideal) X3 X4 (fun y => X0 (e y)) x = queries X0 X3 X4 (e x) := by
  obtain ⟨a, b, rfl⟩ : ∃ a b : Fin 128, x = ix2 a b := ⟨x 0, x 1, ext2 rfl rfl⟩
  rw [pay9_at, he, queries_at, if_neg (by show ¬(o + b.val) % 256 < 128; omega), lane_of o (by omega) _ hb]
  simp only [he, second_of o ho hb]

/-- The first half of a head of the keys. -/
theorem plain_k (o : ℕ) (ho : o % 256 = 0) (hb : o + 128 ≤ 4096) (e : Shape.Idx ⟨2, ![128, 128]⟩ → S128x4096.Idx)
    (he : ∀ (a b : Fin 128), e (ix2 a b) = ix2 a ⟨o + b.val, by omega⟩) (x : S128x128.Idx) :
    X1 (e x) = keys X1 X2 X3 X4 (e x) := by
  obtain ⟨a, b, rfl⟩ : ∃ a b : Fin 128, x = ix2 a b := ⟨x 0, x 1, ext2 rfl rfl⟩
  rw [he, keys_at, if_pos (by show (o + b.val) % 256 < 128; omega)]

/-- The second half of a head of the keys. -/
theorem turned_k (o : ℕ) (ho : o % 256 = 128) (hb : o + 128 ≤ 4096) (e : Shape.Idx ⟨2, ![128, 128]⟩ → S128x4096.Idx)
    (he : ∀ (a b : Fin 128), e (ix2 a b) = ix2 a ⟨o + b.val, by omega⟩) (x : S128x128.Idx) :
    k0_pay4 (F := Ideal) X3 X4 X2 x = keys X1 X2 X3 X4 (e x) := by
  obtain ⟨a, b, rfl⟩ : ∃ a b : Fin 128, x = ix2 a b := ⟨x 0, x 1, ext2 rfl rfl⟩
  rw [pay4_at, he, keys_at, if_neg (by show ¬(o + b.val) % 256 < 128; omega), lane_of o (by omega) _ hb]

/-- A head of the values. -/
theorem piece_v (i : ℕ) (hi : i < 16) (e : Shape.Idx ⟨2, ![128, 128]⟩ → S128x2048.Idx) (f : Shape.Idx ⟨2, ![128, 128]⟩ → S128x4096.Idx)
    (he : ∀ (a b : Fin 128), e (ix2 a b) = ix2 a ⟨128 * i + b.val, by omega⟩)
    (hf : ∀ (a b : Fin 128), f (ix2 a b) = ix2 a ⟨256 * i + 128 + b.val, by omega⟩) (x : S128x128.Idx) :
    X1 (f x) = values X1 (e x) := by
  obtain ⟨a, b, rfl⟩ : ∃ a b : Fin 128, x = ix2 a b := ⟨x 0, x 1, ext2 rfl rfl⟩
  rw [he, hf, values_at]
  exact congrArg X1 (ext2 rfl (by show 256 * i + 128 + b.val = 256 * ((128 * i + b.val) / 128) + 128 + (128 * i + b.val) % 128; omega))

/-! ## The blocks the body leaves -/

theorem out5 (y : S128x4096.Idx) : out0_5 (F := Ideal) X0 X1 X2 X3 X4 y = queries X0 X3 X4 y := by
  unfold out0_5
  simp only [first_eq, pay2_eq, pay3_eq, cos_eq, sin_eq, ld_whole]
  refine View.canon_apply_of_pieces (Val := Elt Ideal) (e := .bf16) (queries X0 X3 X4) _ ?_ y (cover0_5 _ _ _ _ _ _ _ _ _ _ _ _ _ _ _ _ _ _ _ _ _ _ _ _ _ _ _ _ _ _ _ _ y)
  intro pc hpc
  rcases List.mem_cons.mp hpc with rfl | hpc
  · intro x; exact turned_q X0 X3 X4 3968 (by decide) (by decide) r0_47.idx (fun a b => ext2 (by show 0 + 1 * a.val = a.val; omega) (by show 3968 + 1 * b.val = 3968 + b.val; omega)) x
  rcases List.mem_cons.mp hpc with rfl | hpc
  · intro x; exact plain_q X0 X3 X4 3840 (by decide) (by decide) r0_46.idx (fun a b => ext2 (by show 0 + 1 * a.val = a.val; omega) (by show 3840 + 1 * b.val = 3840 + b.val; omega)) x
  rcases List.mem_cons.mp hpc with rfl | hpc
  · intro x; exact turned_q X0 X3 X4 3712 (by decide) (by decide) r0_44.idx (fun a b => ext2 (by show 0 + 1 * a.val = a.val; omega) (by show 3712 + 1 * b.val = 3712 + b.val; omega)) x
  rcases List.mem_cons.mp hpc with rfl | hpc
  · intro x; exact plain_q X0 X3 X4 3584 (by decide) (by decide) r0_43.idx (fun a b => ext2 (by show 0 + 1 * a.val = a.val; omega) (by show 3584 + 1 * b.val = 3584 + b.val; omega)) x
  rcases List.mem_cons.mp hpc with rfl | hpc
  · intro x; exact turned_q X0 X3 X4 3456 (by decide) (by decide) r0_41.idx (fun a b => ext2 (by show 0 + 1 * a.val = a.val; omega) (by show 3456 + 1 * b.val = 3456 + b.val; omega)) x
  rcases List.mem_cons.mp hpc with rfl | hpc
  · intro x; exact plain_q X0 X3 X4 3328 (by decide) (by decide) r0_40.idx (fun a b => ext2 (by show 0 + 1 * a.val = a.val; omega) (by show 3328 + 1 * b.val = 3328 + b.val; omega)) x
  rcases List.mem_cons.mp hpc with rfl | hpc
  · intro x; exact turned_q X0 X3 X4 3200 (by decide) (by decide) r0_38.idx (fun a b => ext2 (by show 0 + 1 * a.val = a.val; omega) (by show 3200 + 1 * b.val = 3200 + b.val; omega)) x
  rcases List.mem_cons.mp hpc with rfl | hpc
  · intro x; exact plain_q X0 X3 X4 3072 (by decide) (by decide) r0_37.idx (fun a b => ext2 (by show 0 + 1 * a.val = a.val; omega) (by show 3072 + 1 * b.val = 3072 + b.val; omega)) x
  rcases List.mem_cons.mp hpc with rfl | hpc
  · intro x; exact turned_q X0 X3 X4 2944 (by decide) (by decide) r0_35.idx (fun a b => ext2 (by show 0 + 1 * a.val = a.val; omega) (by show 2944 + 1 * b.val = 2944 + b.val; omega)) x
  rcases List.mem_cons.mp hpc with rfl | hpc
  · intro x; exact plain_q X0 X3 X4 2816 (by decide) (by decide) r0_34.idx (fun a b => ext2 (by show 0 + 1 * a.val = a.val; omega) (by show 2816 + 1 * b.val = 2816 + b.val; omega)) x
  rcases List.mem_cons.mp hpc with rfl | hpc
  · intro x; exact turned_q X0 X3 X4 2688 (by decide) (by decide) r0_32.idx (fun a b => ext2 (by show 0 + 1 * a.val = a.val; omega) (by show 2688 + 1 * b.val = 2688 + b.val; omega)) x
  rcases List.mem_cons.mp hpc with rfl | hpc
  · intro x; exact plain_q X0 X3 X4 2560 (by decide) (by decide) r0_31.idx (fun a b => ext2 (by show 0 + 1 * a.val = a.val; omega) (by show 2560 + 1 * b.val = 2560 + b.val; omega)) x
  rcases List.mem_cons.mp hpc with rfl | hpc
  · intro x; exact turned_q X0 X3 X4 2432 (by decide) (by decide) r0_29.idx (fun a b => ext2 (by show 0 + 1 * a.val = a.val; omega) (by show 2432 + 1 * b.val = 2432 + b.val; omega)) x
  rcases List.mem_cons.mp hpc with rfl | hpc
  · intro x; exact plain_q X0 X3 X4 2304 (by decide) (by decide) r0_28.idx (fun a b => ext2 (by show 0 + 1 * a.val = a.val; omega) (by show 2304 + 1 * b.val = 2304 + b.val; omega)) x
  rcases List.mem_cons.mp hpc with rfl | hpc
  · intro x; exact turned_q X0 X3 X4 2176 (by decide) (by decide) r0_26.idx (fun a b => ext2 (by show 0 + 1 * a.val = a.val; omega) (by show 2176 + 1 * b.val = 2176 + b.val; omega)) x
  rcases List.mem_cons.mp hpc with rfl | hpc
  · intro x; exact plain_q X0 X3 X4 2048 (by decide) (by decide) r0_25.idx (fun a b => ext2 (by show 0 + 1 * a.val = a.val; omega) (by show 2048 + 1 * b.val = 2048 + b.val; omega)) x
  rcases List.mem_cons.mp hpc with rfl | hpc
  · intro x; exact turned_q X0 X3 X4 1920 (by decide) (by decide) r0_23.idx (fun a b => ext2 (by show 0 + 1 * a.val = a.val; omega) (by show 1920 + 1 * b.val = 1920 + b.val; omega)) x
  rcases List.mem_cons.mp hpc with rfl | hpc
  · intro x; exact plain_q X0 X3 X4 1792 (by decide) (by decide) r0_22.idx (fun a b => ext2 (by show 0 + 1 * a.val = a.val; omega) (by show 1792 + 1 * b.val = 1792 + b.val; omega)) x
  rcases List.mem_cons.mp hpc with rfl | hpc
  · intro x; exact turned_q X0 X3 X4 1664 (by decide) (by decide) r0_20.idx (fun a b => ext2 (by show 0 + 1 * a.val = a.val; omega) (by show 1664 + 1 * b.val = 1664 + b.val; omega)) x
  rcases List.mem_cons.mp hpc with rfl | hpc
  · intro x; exact plain_q X0 X3 X4 1536 (by decide) (by decide) r0_19.idx (fun a b => ext2 (by show 0 + 1 * a.val = a.val; omega) (by show 1536 + 1 * b.val = 1536 + b.val; omega)) x
  rcases List.mem_cons.mp hpc with rfl | hpc
  · intro x; exact turned_q X0 X3 X4 1408 (by decide) (by decide) r0_17.idx (fun a b => ext2 (by show 0 + 1 * a.val = a.val; omega) (by show 1408 + 1 * b.val = 1408 + b.val; omega)) x
  rcases List.mem_cons.mp hpc with rfl | hpc
  · intro x; exact plain_q X0 X3 X4 1280 (by decide) (by decide) r0_16.idx (fun a b => ext2 (by show 0 + 1 * a.val = a.val; omega) (by show 1280 + 1 * b.val = 1280 + b.val; omega)) x
  rcases List.mem_cons.mp hpc with rfl | hpc
  · intro x; exact turned_q X0 X3 X4 1152 (by decide) (by decide) r0_14.idx (fun a b => ext2 (by show 0 + 1 * a.val = a.val; omega) (by show 1152 + 1 * b.val = 1152 + b.val; omega)) x
  rcases List.mem_cons.mp hpc with rfl | hpc
  · intro x; exact plain_q X0 X3 X4 1024 (by decide) (by decide) r0_13.idx (fun a b => ext2 (by show 0 + 1 * a.val = a.val; omega) (by show 1024 + 1 * b.val = 1024 + b.val; omega)) x
  rcases List.mem_cons.mp hpc with rfl | hpc
  · intro x; exact turned_q X0 X3 X4 896 (by decide) (by decide) r0_11.idx (fun a b => ext2 (by show 0 + 1 * a.val = a.val; omega) (by show 896 + 1 * b.val = 896 + b.val; omega)) x
  rcases List.mem_cons.mp hpc with rfl | hpc
  · intro x; exact plain_q X0 X3 X4 768 (by decide) (by decide) r0_10.idx (fun a b => ext2 (by show 0 + 1 * a.val = a.val; omega) (by show 768 + 1 * b.val = 768 + b.val; omega)) x
  rcases List.mem_cons.mp hpc with rfl | hpc
  · intro x; exact turned_q X0 X3 X4 640 (by decide) (by decide) r0_8.idx (fun a b => ext2 (by show 0 + 1 * a.val = a.val; omega) (by show 640 + 1 * b.val = 640 + b.val; omega)) x
  rcases List.mem_cons.mp hpc with rfl | hpc
  · intro x; exact plain_q X0 X3 X4 512 (by decide) (by decide) r0_7.idx (fun a b => ext2 (by show 0 + 1 * a.val = a.val; omega) (by show 512 + 1 * b.val = 512 + b.val; omega)) x
  rcases List.mem_cons.mp hpc with rfl | hpc
  · intro x; exact turned_q X0 X3 X4 384 (by decide) (by decide) r0_5.idx (fun a b => ext2 (by show 0 + 1 * a.val = a.val; omega) (by show 384 + 1 * b.val = 384 + b.val; omega)) x
  rcases List.mem_cons.mp hpc with rfl | hpc
  · intro x; exact plain_q X0 X3 X4 256 (by decide) (by decide) r0_4.idx (fun a b => ext2 (by show 0 + 1 * a.val = a.val; omega) (by show 256 + 1 * b.val = 256 + b.val; omega)) x
  rcases List.mem_cons.mp hpc with rfl | hpc
  · intro x; exact turned_q X0 X3 X4 128 (by decide) (by decide) r0_2.idx (fun a b => ext2 (by show 0 + 1 * a.val = a.val; omega) (by show 128 + 1 * b.val = 128 + b.val; omega)) x
  rcases List.mem_cons.mp hpc with rfl | hpc
  · intro x; exact plain_q X0 X3 X4 0 (by decide) (by decide) r0_1.idx (fun a b => ext2 (by show 0 + 1 * a.val = a.val; omega) (by show 0 + 1 * b.val = 0 + b.val; omega)) x
  nomatch hpc

theorem out6 (y : S128x4096.Idx) : out0_6 (F := Ideal) X0 X1 X2 X3 X4 y = keys X1 X2 X3 X4 y := by
  unfold out0_6 k0_pay42
  simp only [ld_whole]
  refine View.canon_apply_of_pieces (Val := Elt Ideal) (e := .bf16) (keys X1 X2 X3 X4) _ ?_ y (cover0_6 _ _ _ _ _ _ _ _ _ _ _ _ _ _ _ _ _ _ _ _ _ _ _ _ _ _ _ _ _ _ _ _ y)
  intro pc hpc
  rcases List.mem_cons.mp hpc with rfl | hpc
  · intro x; exact turned_k X1 X2 X3 X4 3968 (by decide) (by decide) r0_47.idx (fun a b => ext2 (by show 0 + 1 * a.val = a.val; omega) (by show 3968 + 1 * b.val = 3968 + b.val; omega)) x
  rcases List.mem_cons.mp hpc with rfl | hpc
  · intro x; exact plain_k X1 X2 X3 X4 3840 (by decide) (by decide) r0_46.idx (fun a b => ext2 (by show 0 + 1 * a.val = a.val; omega) (by show 3840 + 1 * b.val = 3840 + b.val; omega)) x
  rcases List.mem_cons.mp hpc with rfl | hpc
  · intro x; exact turned_k X1 X2 X3 X4 3712 (by decide) (by decide) r0_44.idx (fun a b => ext2 (by show 0 + 1 * a.val = a.val; omega) (by show 3712 + 1 * b.val = 3712 + b.val; omega)) x
  rcases List.mem_cons.mp hpc with rfl | hpc
  · intro x; exact plain_k X1 X2 X3 X4 3584 (by decide) (by decide) r0_43.idx (fun a b => ext2 (by show 0 + 1 * a.val = a.val; omega) (by show 3584 + 1 * b.val = 3584 + b.val; omega)) x
  rcases List.mem_cons.mp hpc with rfl | hpc
  · intro x; exact turned_k X1 X2 X3 X4 3456 (by decide) (by decide) r0_41.idx (fun a b => ext2 (by show 0 + 1 * a.val = a.val; omega) (by show 3456 + 1 * b.val = 3456 + b.val; omega)) x
  rcases List.mem_cons.mp hpc with rfl | hpc
  · intro x; exact plain_k X1 X2 X3 X4 3328 (by decide) (by decide) r0_40.idx (fun a b => ext2 (by show 0 + 1 * a.val = a.val; omega) (by show 3328 + 1 * b.val = 3328 + b.val; omega)) x
  rcases List.mem_cons.mp hpc with rfl | hpc
  · intro x; exact turned_k X1 X2 X3 X4 3200 (by decide) (by decide) r0_38.idx (fun a b => ext2 (by show 0 + 1 * a.val = a.val; omega) (by show 3200 + 1 * b.val = 3200 + b.val; omega)) x
  rcases List.mem_cons.mp hpc with rfl | hpc
  · intro x; exact plain_k X1 X2 X3 X4 3072 (by decide) (by decide) r0_37.idx (fun a b => ext2 (by show 0 + 1 * a.val = a.val; omega) (by show 3072 + 1 * b.val = 3072 + b.val; omega)) x
  rcases List.mem_cons.mp hpc with rfl | hpc
  · intro x; exact turned_k X1 X2 X3 X4 2944 (by decide) (by decide) r0_35.idx (fun a b => ext2 (by show 0 + 1 * a.val = a.val; omega) (by show 2944 + 1 * b.val = 2944 + b.val; omega)) x
  rcases List.mem_cons.mp hpc with rfl | hpc
  · intro x; exact plain_k X1 X2 X3 X4 2816 (by decide) (by decide) r0_34.idx (fun a b => ext2 (by show 0 + 1 * a.val = a.val; omega) (by show 2816 + 1 * b.val = 2816 + b.val; omega)) x
  rcases List.mem_cons.mp hpc with rfl | hpc
  · intro x; exact turned_k X1 X2 X3 X4 2688 (by decide) (by decide) r0_32.idx (fun a b => ext2 (by show 0 + 1 * a.val = a.val; omega) (by show 2688 + 1 * b.val = 2688 + b.val; omega)) x
  rcases List.mem_cons.mp hpc with rfl | hpc
  · intro x; exact plain_k X1 X2 X3 X4 2560 (by decide) (by decide) r0_31.idx (fun a b => ext2 (by show 0 + 1 * a.val = a.val; omega) (by show 2560 + 1 * b.val = 2560 + b.val; omega)) x
  rcases List.mem_cons.mp hpc with rfl | hpc
  · intro x; exact turned_k X1 X2 X3 X4 2432 (by decide) (by decide) r0_29.idx (fun a b => ext2 (by show 0 + 1 * a.val = a.val; omega) (by show 2432 + 1 * b.val = 2432 + b.val; omega)) x
  rcases List.mem_cons.mp hpc with rfl | hpc
  · intro x; exact plain_k X1 X2 X3 X4 2304 (by decide) (by decide) r0_28.idx (fun a b => ext2 (by show 0 + 1 * a.val = a.val; omega) (by show 2304 + 1 * b.val = 2304 + b.val; omega)) x
  rcases List.mem_cons.mp hpc with rfl | hpc
  · intro x; exact turned_k X1 X2 X3 X4 2176 (by decide) (by decide) r0_26.idx (fun a b => ext2 (by show 0 + 1 * a.val = a.val; omega) (by show 2176 + 1 * b.val = 2176 + b.val; omega)) x
  rcases List.mem_cons.mp hpc with rfl | hpc
  · intro x; exact plain_k X1 X2 X3 X4 2048 (by decide) (by decide) r0_25.idx (fun a b => ext2 (by show 0 + 1 * a.val = a.val; omega) (by show 2048 + 1 * b.val = 2048 + b.val; omega)) x
  rcases List.mem_cons.mp hpc with rfl | hpc
  · intro x; exact turned_k X1 X2 X3 X4 1920 (by decide) (by decide) r0_23.idx (fun a b => ext2 (by show 0 + 1 * a.val = a.val; omega) (by show 1920 + 1 * b.val = 1920 + b.val; omega)) x
  rcases List.mem_cons.mp hpc with rfl | hpc
  · intro x; exact plain_k X1 X2 X3 X4 1792 (by decide) (by decide) r0_22.idx (fun a b => ext2 (by show 0 + 1 * a.val = a.val; omega) (by show 1792 + 1 * b.val = 1792 + b.val; omega)) x
  rcases List.mem_cons.mp hpc with rfl | hpc
  · intro x; exact turned_k X1 X2 X3 X4 1664 (by decide) (by decide) r0_20.idx (fun a b => ext2 (by show 0 + 1 * a.val = a.val; omega) (by show 1664 + 1 * b.val = 1664 + b.val; omega)) x
  rcases List.mem_cons.mp hpc with rfl | hpc
  · intro x; exact plain_k X1 X2 X3 X4 1536 (by decide) (by decide) r0_19.idx (fun a b => ext2 (by show 0 + 1 * a.val = a.val; omega) (by show 1536 + 1 * b.val = 1536 + b.val; omega)) x
  rcases List.mem_cons.mp hpc with rfl | hpc
  · intro x; exact turned_k X1 X2 X3 X4 1408 (by decide) (by decide) r0_17.idx (fun a b => ext2 (by show 0 + 1 * a.val = a.val; omega) (by show 1408 + 1 * b.val = 1408 + b.val; omega)) x
  rcases List.mem_cons.mp hpc with rfl | hpc
  · intro x; exact plain_k X1 X2 X3 X4 1280 (by decide) (by decide) r0_16.idx (fun a b => ext2 (by show 0 + 1 * a.val = a.val; omega) (by show 1280 + 1 * b.val = 1280 + b.val; omega)) x
  rcases List.mem_cons.mp hpc with rfl | hpc
  · intro x; exact turned_k X1 X2 X3 X4 1152 (by decide) (by decide) r0_14.idx (fun a b => ext2 (by show 0 + 1 * a.val = a.val; omega) (by show 1152 + 1 * b.val = 1152 + b.val; omega)) x
  rcases List.mem_cons.mp hpc with rfl | hpc
  · intro x; exact plain_k X1 X2 X3 X4 1024 (by decide) (by decide) r0_13.idx (fun a b => ext2 (by show 0 + 1 * a.val = a.val; omega) (by show 1024 + 1 * b.val = 1024 + b.val; omega)) x
  rcases List.mem_cons.mp hpc with rfl | hpc
  · intro x; exact turned_k X1 X2 X3 X4 896 (by decide) (by decide) r0_11.idx (fun a b => ext2 (by show 0 + 1 * a.val = a.val; omega) (by show 896 + 1 * b.val = 896 + b.val; omega)) x
  rcases List.mem_cons.mp hpc with rfl | hpc
  · intro x; exact plain_k X1 X2 X3 X4 768 (by decide) (by decide) r0_10.idx (fun a b => ext2 (by show 0 + 1 * a.val = a.val; omega) (by show 768 + 1 * b.val = 768 + b.val; omega)) x
  rcases List.mem_cons.mp hpc with rfl | hpc
  · intro x; exact turned_k X1 X2 X3 X4 640 (by decide) (by decide) r0_8.idx (fun a b => ext2 (by show 0 + 1 * a.val = a.val; omega) (by show 640 + 1 * b.val = 640 + b.val; omega)) x
  rcases List.mem_cons.mp hpc with rfl | hpc
  · intro x; exact plain_k X1 X2 X3 X4 512 (by decide) (by decide) r0_7.idx (fun a b => ext2 (by show 0 + 1 * a.val = a.val; omega) (by show 512 + 1 * b.val = 512 + b.val; omega)) x
  rcases List.mem_cons.mp hpc with rfl | hpc
  · intro x; exact turned_k X1 X2 X3 X4 384 (by decide) (by decide) r0_5.idx (fun a b => ext2 (by show 0 + 1 * a.val = a.val; omega) (by show 384 + 1 * b.val = 384 + b.val; omega)) x
  rcases List.mem_cons.mp hpc with rfl | hpc
  · intro x; exact plain_k X1 X2 X3 X4 256 (by decide) (by decide) r0_4.idx (fun a b => ext2 (by show 0 + 1 * a.val = a.val; omega) (by show 256 + 1 * b.val = 256 + b.val; omega)) x
  rcases List.mem_cons.mp hpc with rfl | hpc
  · intro x; exact turned_k X1 X2 X3 X4 128 (by decide) (by decide) r0_2.idx (fun a b => ext2 (by show 0 + 1 * a.val = a.val; omega) (by show 128 + 1 * b.val = 128 + b.val; omega)) x
  rcases List.mem_cons.mp hpc with rfl | hpc
  · intro x; exact plain_k X1 X2 X3 X4 0 (by decide) (by decide) r0_1.idx (fun a b => ext2 (by show 0 + 1 * a.val = a.val; omega) (by show 0 + 1 * b.val = 0 + b.val; omega)) x
  nomatch hpc

theorem out7 (y : S128x2048.Idx) : out0_7 (F := Ideal) X0 X1 X2 X3 X4 y = values X1 y := by
  unfold out0_7
  refine View.canon_apply_of_pieces (Val := Elt Ideal) (e := .bf16) (values X1) _ ?_ y (cover0_7 _ _ _ _ _ _ _ _ _ _ _ _ _ _ _ _ y)
  intro pc hpc
  rcases List.mem_cons.mp hpc with rfl | hpc
  · intro x; exact piece_v X1 15 (by decide) r0_48.idx r0_47.idx (fun a b => ext2 (by show 0 + 1 * a.val = a.val; omega) (by show 1920 + 1 * b.val = 1920 + b.val; omega)) (fun a b => ext2 (by show 0 + 1 * a.val = a.val; omega) (by show 3968 + 1 * b.val = 3968 + b.val; omega)) x
  rcases List.mem_cons.mp hpc with rfl | hpc
  · intro x; exact piece_v X1 14 (by decide) r0_45.idx r0_44.idx (fun a b => ext2 (by show 0 + 1 * a.val = a.val; omega) (by show 1792 + 1 * b.val = 1792 + b.val; omega)) (fun a b => ext2 (by show 0 + 1 * a.val = a.val; omega) (by show 3712 + 1 * b.val = 3712 + b.val; omega)) x
  rcases List.mem_cons.mp hpc with rfl | hpc
  · intro x; exact piece_v X1 13 (by decide) r0_42.idx r0_41.idx (fun a b => ext2 (by show 0 + 1 * a.val = a.val; omega) (by show 1664 + 1 * b.val = 1664 + b.val; omega)) (fun a b => ext2 (by show 0 + 1 * a.val = a.val; omega) (by show 3456 + 1 * b.val = 3456 + b.val; omega)) x
  rcases List.mem_cons.mp hpc with rfl | hpc
  · intro x; exact piece_v X1 12 (by decide) r0_39.idx r0_38.idx (fun a b => ext2 (by show 0 + 1 * a.val = a.val; omega) (by show 1536 + 1 * b.val = 1536 + b.val; omega)) (fun a b => ext2 (by show 0 + 1 * a.val = a.val; omega) (by show 3200 + 1 * b.val = 3200 + b.val; omega)) x
  rcases List.mem_cons.mp hpc with rfl | hpc
  · intro x; exact piece_v X1 11 (by decide) r0_36.idx r0_35.idx (fun a b => ext2 (by show 0 + 1 * a.val = a.val; omega) (by show 1408 + 1 * b.val = 1408 + b.val; omega)) (fun a b => ext2 (by show 0 + 1 * a.val = a.val; omega) (by show 2944 + 1 * b.val = 2944 + b.val; omega)) x
  rcases List.mem_cons.mp hpc with rfl | hpc
  · intro x; exact piece_v X1 10 (by decide) r0_33.idx r0_32.idx (fun a b => ext2 (by show 0 + 1 * a.val = a.val; omega) (by show 1280 + 1 * b.val = 1280 + b.val; omega)) (fun a b => ext2 (by show 0 + 1 * a.val = a.val; omega) (by show 2688 + 1 * b.val = 2688 + b.val; omega)) x
  rcases List.mem_cons.mp hpc with rfl | hpc
  · intro x; exact piece_v X1 9 (by decide) r0_30.idx r0_29.idx (fun a b => ext2 (by show 0 + 1 * a.val = a.val; omega) (by show 1152 + 1 * b.val = 1152 + b.val; omega)) (fun a b => ext2 (by show 0 + 1 * a.val = a.val; omega) (by show 2432 + 1 * b.val = 2432 + b.val; omega)) x
  rcases List.mem_cons.mp hpc with rfl | hpc
  · intro x; exact piece_v X1 8 (by decide) r0_27.idx r0_26.idx (fun a b => ext2 (by show 0 + 1 * a.val = a.val; omega) (by show 1024 + 1 * b.val = 1024 + b.val; omega)) (fun a b => ext2 (by show 0 + 1 * a.val = a.val; omega) (by show 2176 + 1 * b.val = 2176 + b.val; omega)) x
  rcases List.mem_cons.mp hpc with rfl | hpc
  · intro x; exact piece_v X1 7 (by decide) r0_24.idx r0_23.idx (fun a b => ext2 (by show 0 + 1 * a.val = a.val; omega) (by show 896 + 1 * b.val = 896 + b.val; omega)) (fun a b => ext2 (by show 0 + 1 * a.val = a.val; omega) (by show 1920 + 1 * b.val = 1920 + b.val; omega)) x
  rcases List.mem_cons.mp hpc with rfl | hpc
  · intro x; exact piece_v X1 6 (by decide) r0_21.idx r0_20.idx (fun a b => ext2 (by show 0 + 1 * a.val = a.val; omega) (by show 768 + 1 * b.val = 768 + b.val; omega)) (fun a b => ext2 (by show 0 + 1 * a.val = a.val; omega) (by show 1664 + 1 * b.val = 1664 + b.val; omega)) x
  rcases List.mem_cons.mp hpc with rfl | hpc
  · intro x; exact piece_v X1 5 (by decide) r0_18.idx r0_17.idx (fun a b => ext2 (by show 0 + 1 * a.val = a.val; omega) (by show 640 + 1 * b.val = 640 + b.val; omega)) (fun a b => ext2 (by show 0 + 1 * a.val = a.val; omega) (by show 1408 + 1 * b.val = 1408 + b.val; omega)) x
  rcases List.mem_cons.mp hpc with rfl | hpc
  · intro x; exact piece_v X1 4 (by decide) r0_15.idx r0_14.idx (fun a b => ext2 (by show 0 + 1 * a.val = a.val; omega) (by show 512 + 1 * b.val = 512 + b.val; omega)) (fun a b => ext2 (by show 0 + 1 * a.val = a.val; omega) (by show 1152 + 1 * b.val = 1152 + b.val; omega)) x
  rcases List.mem_cons.mp hpc with rfl | hpc
  · intro x; exact piece_v X1 3 (by decide) r0_12.idx r0_11.idx (fun a b => ext2 (by show 0 + 1 * a.val = a.val; omega) (by show 384 + 1 * b.val = 384 + b.val; omega)) (fun a b => ext2 (by show 0 + 1 * a.val = a.val; omega) (by show 896 + 1 * b.val = 896 + b.val; omega)) x
  rcases List.mem_cons.mp hpc with rfl | hpc
  · intro x; exact piece_v X1 2 (by decide) r0_9.idx r0_8.idx (fun a b => ext2 (by show 0 + 1 * a.val = a.val; omega) (by show 256 + 1 * b.val = 256 + b.val; omega)) (fun a b => ext2 (by show 0 + 1 * a.val = a.val; omega) (by show 640 + 1 * b.val = 640 + b.val; omega)) x
  rcases List.mem_cons.mp hpc with rfl | hpc
  · intro x; exact piece_v X1 1 (by decide) r0_6.idx r0_5.idx (fun a b => ext2 (by show 0 + 1 * a.val = a.val; omega) (by show 128 + 1 * b.val = 128 + b.val; omega)) (fun a b => ext2 (by show 0 + 1 * a.val = a.val; omega) (by show 384 + 1 * b.val = 384 + b.val; omega)) x
  rcases List.mem_cons.mp hpc with rfl | hpc
  · intro x; exact piece_v X1 0 (by decide) r0_3.idx r0_2.idx (fun a b => ext2 (by show 0 + 1 * a.val = a.val; omega) (by show 0 + 1 * b.val = 0 + b.val; omega)) (fun a b => ext2 (by show 0 + 1 * a.val = a.val; omega) (by show 128 + 1 * b.val = 128 + b.val; omega)) x
  nomatch hpc

/-! ## The arrays the call leaves -/

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 65 :=
  (by decide +kernel : ∀ t : Fin grid0.N, _)

/-- The table as the host operations lay it out. -/
def laid (T : Arr 8320 32) : Arr 8320 128 :=
  concatenate (α := EReal) S8320x128 1 [⟨S8320x32, T⟩, ⟨S8320x32, T⟩,
    ⟨S8320x64, broadcastInDim S8320x64 ![] bcast_S_S8320x64 (constant (F := Ideal) S_ .f32 0x00000000#32)⟩]
    concatenates_S8320x32_S8320x32_S8320x64_S8320x128_d1

theorem laid_eq (T : Arr 8320 32) : laid T = table T := by
  funext j
  obtain ⟨n, k, rfl⟩ : ∃ (n : Fin 8320) (k : Fin 128), j = ix2 n k := ⟨j 0, j 1, ext2 rfl rfl⟩
  have hk := k.isLt
  rw [table_at]
  unfold laid
  by_cases h0 : k.val < 32
  · rw [if_pos (by omega)]
    refine (concatenate_apply_piece 1 _ _ (ix2 n k) 0 (by simp) S8320x32 T rfl rfl 0 rfl (ix2 n (⟨k.val, h0⟩ : Fin 32))
      (fun b hb => match b with
        | ⟨0, _⟩ => rfl
        | ⟨1, _⟩ => absurd rfl hb) (Nat.zero_add _)).trans (congrArg T (ext2 rfl ?_))
    show k.val = k.val % 32; omega
  · by_cases h1 : k.val < 64
    · rw [if_pos h1]
      refine (concatenate_apply_piece 1 _ _ (ix2 n k) 1 (by simp) S8320x32 T rfl rfl 32 rfl (ix2 n (⟨k.val - 32, by omega⟩ : Fin 32))
        (fun b hb => match b with
          | ⟨0, _⟩ => rfl
          | ⟨1, _⟩ => absurd rfl hb) (by show 32 + (k.val - 32) = k.val; omega)).trans (congrArg T (ext2 rfl ?_))
      show k.val - 32 = k.val % 32; omega
    · rw [if_neg h1]
      refine (concatenate_apply_piece 1 _ _ (ix2 n k) 2 (by simp) S8320x64 _ rfl rfl 64 rfl (ix2 n (⟨k.val - 64, by omega⟩ : Fin 64))
        (fun b hb => match b with
          | ⟨0, _⟩ => rfl
          | ⟨1, _⟩ => absurd rfl hb) (by show 64 + (k.val - 64) = k.val; omega)).trans ?_
      exact (broadcastInDim_apply _ bcast_S_S8320x64 _ _ (fun a => a.elim0) (fun a => a.elim0)).trans Ideal.ofBits_zero_f32

section Arrays
variable (m : (ℓ : Loc nD τ sig) → Buf (Elt Ideal) ℓ) (c : Dev nD)

theorem cosines : V m c main_v1 = table (m ((c : Thread nD τ).loc main_arg3)) := by
  refine Eq.trans ?_ (laid_eq _)
  show StableHlo.after hostOps0 (fun b => m (c, b)) main_v1 = _
  after_results <;> rfl
theorem sines : V m c main_v2 = table (m ((c : Thread nD τ).loc main_arg4)) := by
  refine Eq.trans ?_ (laid_eq _)
  show StableHlo.after hostOps0 (fun b => m (c, b)) main_v2 = _
  after_results <;> rfl

section Blocks
variable (t : Fin cfg0.N) (r : Fin 128) (n : Fin 8320) (hn : n.val = 128 * t.val + r.val)
include hn
theorem blk0 (k : Fin 4096) : iblk m c 0 t (ix2 r k) = m ((c : Thread nD τ).loc main_arg0) (ix2 n k) := by
  rw [← V_main_arg0 m c]; blk_point [iblk, idx t]
theorem blk1 (k : Fin 4096) : iblk m c 1 t (ix2 r k) = m ((c : Thread nD τ).loc main_arg1) (ix2 n k) := by
  rw [← V_main_arg1 m c]; blk_point [iblk, idx t]
theorem blk2 (k : Fin 128) : iblk m c 2 t (ix2 r k) = m ((c : Thread nD τ).loc main_arg2) (ix2 n k) := by
  rw [← V_main_arg2 m c]; blk_point [iblk, idx t]
theorem blk3 (k : Fin 128) : iblk m c 3 t (ix2 r k) = table (m ((c : Thread nD τ).loc main_arg3)) (ix2 n k) := by
  rw [← cosines]; blk_point [iblk, idx t]
theorem blk4 (k : Fin 128) : iblk m c 4 t (ix2 r k) = table (m ((c : Thread nD τ).loc main_arg4)) (ix2 n k) := by
  rw [← sines]; blk_point [iblk, idx t]
end Blocks

theorem final5 : (dats m 0 c).arrAt 5 cfg0.N = queries (m ((c : Thread nD τ).loc main_arg0)) (table (m ((c : Thread nD τ).loc main_arg3))) (table (m ((c : Thread nD τ).loc main_arg4))) := by
  refine (dats m 0 c).arrAt_eq_of_covers 5 _ (by decide +kernel) fun t _ y => ?_
  idx_vars y
  blk_simp
  rw [after0_5, out5]
  have hr : ((((View.whole main_v3_0).slice (win0_5.rect t)).emb (ix2 y0 y1)) 0).val = 128 * t.val + y0.val := by
    blk_simp [idx t]; omega
  have hk : (((View.whole main_v3_0).slice (win0_5.rect t)).emb (ix2 y0 y1)) 1 = (y1 : Fin 4096) := by
    apply Fin.ext; blk_simp [idx t]
  exact (queries_rows (blk0 m c t y0 _ hr) (blk3 m c t y0 _ hr) (blk4 m c t y0 _ hr) y1).trans (congrArg (queries (m ((c : Thread nD τ).loc main_arg0)) (table (m ((c : Thread nD τ).loc main_arg3))) (table (m ((c : Thread nD τ).loc main_arg4)))) (ext2 rfl (congrArg Fin.val hk).symm))

theorem final6 : (dats m 0 c).arrAt 6 cfg0.N = keys (m ((c : Thread nD τ).loc main_arg1)) (m ((c : Thread nD τ).loc main_arg2)) (table (m ((c : Thread nD τ).loc main_arg3))) (table (m ((c : Thread nD τ).loc main_arg4))) := by
  refine (dats m 0 c).arrAt_eq_of_covers 6 _ (by decide +kernel) fun t _ y => ?_
  idx_vars y
  blk_simp
  rw [after0_6, out6]
  have hr : ((((View.whole main_v3_1).slice (win0_6.rect t)).emb (ix2 y0 y1)) 0).val = 128 * t.val + y0.val := by
    blk_simp [idx t]; omega
  have hk : (((View.whole main_v3_1).slice (win0_6.rect t)).emb (ix2 y0 y1)) 1 = (y1 : Fin 4096) := by
    apply Fin.ext; blk_simp [idx t]
  exact (keys_rows (blk1 m c t y0 _ hr) (blk2 m c t y0 _ hr) (blk3 m c t y0 _ hr) (blk4 m c t y0 _ hr) y1).trans (congrArg (keys (m ((c : Thread nD τ).loc main_arg1)) (m ((c : Thread nD τ).loc main_arg2)) (table (m ((c : Thread nD τ).loc main_arg3))) (table (m ((c : Thread nD τ).loc main_arg4)))) (ext2 rfl (congrArg Fin.val hk).symm))

theorem final7 : (dats m 0 c).arrAt 7 cfg0.N = values (m ((c : Thread nD τ).loc main_arg1)) := by
  refine (dats m 0 c).arrAt_eq_of_covers 7 _ (by decide +kernel) fun t _ y => ?_
  idx_vars y
  blk_simp
  rw [after0_7, out7]
  have hr : ((((View.whole main_v3_2).slice (win0_7.rect t)).emb (ix2 y0 y1)) 0).val = 128 * t.val + y0.val := by
    blk_simp [idx t]; omega
  have hk : (((View.whole main_v3_2).slice (win0_7.rect t)).emb (ix2 y0 y1)) 1 = (y1 : Fin 2048) := by
    apply Fin.ext; blk_simp [idx t]
  exact (blk1 m c t y0 _ hr (valueCol y1)).trans ((values_at _ _ y1).symm.trans (congrArg (values (m ((c : Thread nD τ).loc main_arg1))) (ext2 rfl (congrArg Fin.val hk).symm)))

end Arrays

end Cert.RopeIdeal.Rope

namespace Cert.RopeReferenceIdeal.Rope
open Cert.RopeReferenceIdeal Cert.RopeReferenceIdeal.Gen Cert.RopeReferenceIdeal.Read _root_.Conv _root_.Products _root_.Rope

theorem ext3 {a b c : ℕ} {i j : (⟨3, ![a, b, c]⟩ : Shape).Idx} (h0 : (i 0).val = (j 0).val) (h1 : (i 1).val = (j 1).val) (h2 : (i 2).val = (j 2).val) : i = j :=
  funext fun k => match k with
    | ⟨0, _⟩ => Fin.ext h0
    | ⟨1, _⟩ => Fin.ext h1
    | ⟨2, _⟩ => Fin.ext h2

/-- A row turned, at a column that has an angle. -/
theorem turn_low (x : Fin 128 → EReal) (C S : Arr 8320 32) (n : Fin 8320) (l : Fin 64) :
    turn x (fun k => table C (ix2 n k)) (fun k => table S (ix2 n k)) ⟨l.val, by omega⟩
      = x ⟨l.val, by omega⟩ * C (ix2 n ⟨l.val % 32, Nat.mod_lt _ (by decide)⟩)
        + (if l.val < 32 then -x ⟨l.val + 32, by omega⟩ else x ⟨l.val - 32, by omega⟩) * S (ix2 n ⟨l.val % 32, Nat.mod_lt _ (by decide)⟩) := by
  have hl := l.isLt
  unfold turn half
  beta_reduce
  rw [table_at, table_at, if_pos (show (⟨l.val, by omega⟩ : Fin 128).val < 64 from hl), if_pos (show (⟨l.val, by omega⟩ : Fin 128).val < 64 from hl)]
  refine congrArg (fun u : EReal => x ⟨l.val, by omega⟩ * C (ix2 n ⟨l.val % 32, Nat.mod_lt _ (by decide)⟩) + u * S (ix2 n ⟨l.val % 32, Nat.mod_lt _ (by decide)⟩)) ?_
  by_cases h : l.val < 32
  · rw [if_pos h, if_pos (show (⟨l.val, by omega⟩ : Fin 128).val < 32 from h), sub_eq_add_neg, zero_add]
    exact congrArg (fun k => -x k) (Fin.ext (by show (l.val + 32) % 128 = l.val + 32; omega))
  · rw [if_neg h, if_neg (show ¬(⟨l.val, by omega⟩ : Fin 128).val < 32 from h)]
    exact congrArg x (Fin.ext (by show (l.val + 96) % 128 = l.val - 32; omega))

/-- A row turned is zero at a column that has no angle. -/
theorem turn_high (x : Fin 128 → EReal) (C S : Arr 8320 32) (n : Fin 8320) (l : Fin 128) (h : ¬l.val < 64) :
    turn x (fun k => table C (ix2 n k)) (fun k => table S (ix2 n k)) l = 0 := by
  unfold turn
  beta_reduce
  rw [table_at, table_at, if_neg h, if_neg h, mul_zero, mul_zero, add_zero]

theorem zero_f32 : (FloatOps.ofBits .f32 0x00000000#32 : Ideal .f32) = (0 : EReal) := by pointwise

variable (x0 x1 : Arr 8320 4096) (x2 : Arr 8320 128) (x3 x4 : Arr 8320 32) (n : Fin 8320) (h : Fin 16)

theorem v3_at (l : Fin 256) : val_main_v3 (F := Ideal) x0 (ix3 n h l) = x0 (ix2 n ⟨256 * h.val + l.val, by omega⟩) := by
  rw [val_main_v3_apply, val_main_v2_apply]
  exact congrArg x0 (ext2 (by show ((n.val * 16 + h.val) * 256 + l.val) / 4096 = n.val; omega) (by show ((n.val * 16 + h.val) * 256 + l.val) % 4096 = 256 * h.val + l.val; omega))
theorem v5_at (l : Fin 256) : val_main_v5 (F := Ideal) x1 (ix3 n h l) = x1 (ix2 n ⟨256 * h.val + l.val, by omega⟩) := v3_at x1 n h l

theorem v0_at (l : Fin 64) : val_main_v0 (F := Ideal) x3 (ix2 n l) = x3 (ix2 n ⟨l.val % 32, Nat.mod_lt _ (by decide)⟩) := by
  have hl := l.isLt
  unfold val_main_v0
  by_cases h0 : l.val < 32
  · refine (concatenate_apply_piece 1 _ _ (ix2 n l) 0 (by simp) S8320x32 x3 rfl rfl 0 rfl (ix2 n (⟨l.val, h0⟩ : Fin 32)) (fun b hb => match b with
      | ⟨0, _⟩ => rfl
      | ⟨1, _⟩ => absurd rfl hb) (Nat.zero_add _)).trans (congrArg x3 (ext2 rfl ?_))
    show l.val = l.val % 32; omega
  · refine (concatenate_apply_piece 1 _ _ (ix2 n l) 1 (by simp) S8320x32 x3 rfl rfl 32 rfl (ix2 n (⟨l.val - 32, by omega⟩ : Fin 32)) (fun b hb => match b with
      | ⟨0, _⟩ => rfl
      | ⟨1, _⟩ => absurd rfl hb) (by show 32 + (l.val - 32) = l.val; omega)).trans (congrArg x3 (ext2 rfl ?_))
    show l.val - 32 = l.val % 32; omega
theorem v1_at (l : Fin 64) : val_main_v1 (F := Ideal) x4 (ix2 n l) = x4 (ix2 n ⟨l.val % 32, Nat.mod_lt _ (by decide)⟩) := v0_at x4 n l

/-! ## The queries -/

/-- The second half of a head. -/
abbrev tail (X : Arr 8320 4096) (l : Fin 128) : EReal := X (ix2 n ⟨256 * h.val + 128 + l.val, by omega⟩)

theorem v6_at (l : Fin 64) : val_main_v6 (F := Ideal) x0 (ix3 n h l) = tail n h x0 ⟨l.val, by omega⟩ := by
  rw [val_main_v6_apply, show idx_main_v6 (ix3 n h l) = ix3 n h (⟨128 + l.val, by omega⟩ : Fin 256) from ext3 rfl rfl rfl, v3_at]
  exact congrArg x0 (ext2 rfl (by show 256 * h.val + (128 + l.val) = 256 * h.val + 128 + l.val; omega))

theorem v12_at (l : Fin 64) : val_main_v12 (F := Ideal) x0 (ix3 n h l)
    = if l.val < 32 then -tail n h x0 ⟨l.val + 32, by omega⟩ else tail n h x0 ⟨l.val - 32, by omega⟩ := by
  have hl := l.isLt
  unfold val_main_v12
  by_cases h0 : l.val < 32
  · rw [if_pos h0]
    refine (concatenate_apply_piece 2 _ _ (ix3 n h l) 0 (by simp) S8320x16x32 _ rfl rfl 0 rfl (ix3 n h (⟨l.val, h0⟩ : Fin 32)) (fun b hb => match b with
      | ⟨0, _⟩ => rfl
      | ⟨1, _⟩ => rfl
      | ⟨2, _⟩ => absurd rfl hb) (Nat.zero_add _)).trans ?_
    rw [val_main_v11_apply, val_main_v10_apply, show idx_main_v10 (ix3 n h (⟨l.val, h0⟩ : Fin 32)) = ix3 n h (⟨l.val + 32, by omega⟩ : Fin 64) from ext3 rfl rfl (Nat.add_comm _ _), v6_at]
    rfl
  · rw [if_neg h0]
    refine (concatenate_apply_piece 2 _ _ (ix3 n h l) 1 (by simp) S8320x16x32 _ rfl rfl 32 rfl (ix3 n h (⟨l.val - 32, by omega⟩ : Fin 32)) (fun b hb => match b with
      | ⟨0, _⟩ => rfl
      | ⟨1, _⟩ => rfl
      | ⟨2, _⟩ => absurd rfl hb) (by show 32 + (l.val - 32) = l.val; omega)).trans ?_
    rw [val_main_v9_apply, show idx_main_v9 (ix3 n h (⟨l.val - 32, by omega⟩ : Fin 32)) = ix3 n h (⟨l.val - 32, by omega⟩ : Fin 64) from ext3 rfl rfl rfl, v6_at]

theorem v17_at (l : Fin 64) : val_main_v17 (F := Ideal) x0 x3 x4 (ix3 n h l)
    = turn (tail n h x0) (fun k => table x3 (ix2 n k)) (fun k => table x4 (ix2 n k)) ⟨l.val, by omega⟩ := by
  rw [turn_low, val_main_v17_apply, val_main_v14_apply, val_main_v16_apply, val_main_v13_apply, val_main_v15_apply, val_main_v7_apply, val_main_v8_apply,
    show idx_main_v7 (idx_main_v13 (ix3 n h l)) = ix2 n l from ext2 rfl rfl, show idx_main_v8 (idx_main_v15 (ix3 n h l)) = ix2 n l from ext2 rfl rfl,
    v0_at, v1_at, v6_at, v12_at]
  rfl

theorem v28_at (l : Fin 256) : val_main_v28 (F := Ideal) x0 x3 x4 (ix3 n h l)
    = if l.val < 128 then x0 (ix2 n ⟨256 * h.val + l.val, by omega⟩)
      else turn (tail n h x0) (fun k => table x3 (ix2 n k)) (fun k => table x4 (ix2 n k)) ⟨l.val % 128, Nat.mod_lt _ (by decide)⟩ := by
  have hl := l.isLt
  unfold val_main_v28
  by_cases h0 : l.val < 128
  · rw [if_pos h0]
    refine (concatenate_apply_piece 2 _ _ (ix3 n h l) 0 (by simp) S8320x16x128 _ rfl rfl 0 rfl (ix3 n h (⟨l.val, h0⟩ : Fin 128)) (fun b hb => match b with
      | ⟨0, _⟩ => rfl
      | ⟨1, _⟩ => rfl
      | ⟨2, _⟩ => absurd rfl hb) (Nat.zero_add _)).trans ?_
    rw [val_main_v27_apply, show idx_main_v27 (ix3 n h (⟨l.val, h0⟩ : Fin 128)) = ix3 n h l from ext3 rfl rfl rfl, v3_at]
  · rw [if_neg h0]
    by_cases h1 : l.val < 192
    · refine (concatenate_apply_piece 2 _ _ (ix3 n h l) 1 (by simp) S8320x16x64 _ rfl rfl 128 rfl (ix3 n h (⟨l.val - 128, by omega⟩ : Fin 64)) (fun b hb => match b with
      | ⟨0, _⟩ => rfl
      | ⟨1, _⟩ => rfl
      | ⟨2, _⟩ => absurd rfl hb) (by show 128 + (l.val - 128) = l.val; omega)).trans ?_
      rw [v17_at]
      exact congrArg _ (Fin.ext (by show l.val - 128 = l.val % 128; omega))
    · refine (concatenate_apply_piece 2 _ _ (ix3 n h l) 2 (by simp) S8320x16x64 _ rfl rfl 192 rfl (ix3 n h (⟨l.val - 192, by omega⟩ : Fin 64)) (fun b hb => match b with
      | ⟨0, _⟩ => rfl
      | ⟨1, _⟩ => rfl
      | ⟨2, _⟩ => absurd rfl hb) (by show 192 + (l.val - 192) = l.val; omega)).trans ?_
      rw [turn_high _ _ _ _ _ (by show ¬l.val % 128 < 64; omega), val_main_v26_apply, val_main_cst_apply, zero_f32]

theorem v37_eq : val_main_v37 (F := Ideal) x0 x3 x4 = queries x0 (table x3) (table x4) := by
  funext j
  obtain ⟨n, k, rfl⟩ : ∃ (n : Fin 8320) (k : Fin 4096), j = ix2 n k := ⟨j 0, j 1, ext2 rfl rfl⟩
  have hk := k.isLt
  rw [val_main_v37_apply, val_main_v36_apply,
    show idx_main_v36 (ix2 n k) = ix3 n (⟨k.val / 256, by omega⟩ : Fin 16) (⟨k.val % 256, by omega⟩ : Fin 256) from
      ext3 (by show (n.val * 4096 + k.val) / 4096 = n.val; omega) (by show (n.val * 4096 + k.val) / 256 % 16 = k.val / 256; omega)
        (by show (n.val * 4096 + k.val) % 256 = k.val % 256; omega),
    val_main_v30_apply, val_main_v29_apply, val_main_cst_0_apply, v28_at, queries_at]
  by_cases h0 : k.val % 256 < 128
  · rw [if_pos h0, if_pos (show (⟨k.val % 256, by omega⟩ : Fin 256).val < 128 from h0)]
    exact congrArg (fun u : Fin 4096 => x0 (ix2 n u) * scale) (Fin.ext (by show 256 * (k.val / 256) + k.val % 256 = k.val; omega))
  · rw [if_neg h0, if_neg (show ¬(⟨k.val % 256, by omega⟩ : Fin 256).val < 128 from h0)]
    exact congrArg (fun u : Fin 128 => turn _ _ _ u * scale) (Fin.ext (by show k.val % 256 % 128 = k.val % 128; omega))

/-! ## The keys and the values -/

theorem v18_at (l : Fin 64) : val_main_v18 (F := Ideal) x2 (ix2 n l) = x2 (ix2 n ⟨l.val, by omega⟩) := by
  rw [val_main_v18_apply]
  exact congrArg x2 (ext2 rfl rfl)

theorem v22_at (l : Fin 64) : val_main_v22 (F := Ideal) x2 (ix2 n l)
    = if l.val < 32 then -x2 (ix2 n ⟨l.val + 32, by omega⟩) else x2 (ix2 n ⟨l.val - 32, by omega⟩) := by
  have hl := l.isLt
  unfold val_main_v22
  by_cases h0 : l.val < 32
  · rw [if_pos h0]
    refine (concatenate_apply_piece 1 _ _ (ix2 n l) 0 (by simp) S8320x32 _ rfl rfl 0 rfl (ix2 n (⟨l.val, h0⟩ : Fin 32)) (fun b hb => match b with
      | ⟨0, _⟩ => rfl
      | ⟨1, _⟩ => absurd rfl hb) (Nat.zero_add _)).trans ?_
    rw [val_main_v21_apply, val_main_v20_apply, show idx_main_v20 (ix2 n (⟨l.val, h0⟩ : Fin 32)) = ix2 n (⟨l.val + 32, by omega⟩ : Fin 64) from ext2 rfl (Nat.add_comm _ _), v18_at]
    rfl
  · rw [if_neg h0]
    refine (concatenate_apply_piece 1 _ _ (ix2 n l) 1 (by simp) S8320x32 _ rfl rfl 32 rfl (ix2 n (⟨l.val - 32, by omega⟩ : Fin 32)) (fun b hb => match b with
      | ⟨0, _⟩ => rfl
      | ⟨1, _⟩ => absurd rfl hb) (by show 32 + (l.val - 32) = l.val; omega)).trans ?_
    rw [val_main_v19_apply, show idx_main_v19 (ix2 n (⟨l.val - 32, by omega⟩ : Fin 32)) = ix2 n (⟨l.val - 32, by omega⟩ : Fin 64) from ext2 rfl rfl, v18_at]

theorem v25_at (l : Fin 64) : val_main_v25 (F := Ideal) x2 x3 x4 (ix2 n l)
    = turn (fun k => x2 (ix2 n k)) (fun k => table x3 (ix2 n k)) (fun k => table x4 (ix2 n k)) ⟨l.val, by omega⟩ := by
  rw [turn_low, val_main_v25_apply, val_main_v23_apply, val_main_v24_apply, v0_at, v1_at, v18_at, v22_at]
  rfl

theorem v34_at (l : Fin 256) : val_main_v34 (F := Ideal) x1 x2 x3 x4 (ix3 n h l)
    = if l.val < 128 then x1 (ix2 n ⟨256 * h.val + l.val, by omega⟩)
      else turn (fun k => x2 (ix2 n k)) (fun k => table x3 (ix2 n k)) (fun k => table x4 (ix2 n k)) ⟨l.val % 128, Nat.mod_lt _ (by decide)⟩ := by
  have hl := l.isLt
  unfold val_main_v34
  by_cases h0 : l.val < 128
  · rw [if_pos h0]
    refine (concatenate_apply_piece 2 _ _ (ix3 n h l) 0 (by simp) S8320x16x128 _ rfl rfl 0 rfl (ix3 n h (⟨l.val, h0⟩ : Fin 128)) (fun b hb => match b with
      | ⟨0, _⟩ => rfl
      | ⟨1, _⟩ => rfl
      | ⟨2, _⟩ => absurd rfl hb) (Nat.zero_add _)).trans ?_
    rw [val_main_v31_apply, show idx_main_v31 (ix3 n h (⟨l.val, h0⟩ : Fin 128)) = ix3 n h l from ext3 rfl rfl rfl, v5_at]
  · rw [if_neg h0]
    by_cases h1 : l.val < 192
    · refine (concatenate_apply_piece 2 _ _ (ix3 n h l) 1 (by simp) S8320x16x64 _ rfl rfl 128 rfl (ix3 n h (⟨l.val - 128, by omega⟩ : Fin 64)) (fun b hb => match b with
      | ⟨0, _⟩ => rfl
      | ⟨1, _⟩ => rfl
      | ⟨2, _⟩ => absurd rfl hb) (by show 128 + (l.val - 128) = l.val; omega)).trans ?_
      rw [val_main_v33_apply, val_main_v32_apply,
        show idx_main_v32 (idx_main_v33 (ix3 n h (⟨l.val - 128, by omega⟩ : Fin 64))) = ix2 n (⟨l.val - 128, by omega⟩ : Fin 64) from ext2 rfl rfl, v25_at]
      exact congrArg _ (Fin.ext (by show l.val - 128 = l.val % 128; omega))
    · refine (concatenate_apply_piece 2 _ _ (ix3 n h l) 2 (by simp) S8320x16x64 _ rfl rfl 192 rfl (ix3 n h (⟨l.val - 192, by omega⟩ : Fin 64)) (fun b hb => match b with
      | ⟨0, _⟩ => rfl
      | ⟨1, _⟩ => rfl
      | ⟨2, _⟩ => absurd rfl hb) (by show 192 + (l.val - 192) = l.val; omega)).trans ?_
      rw [turn_high _ _ _ _ _ (by show ¬l.val % 128 < 64; omega), val_main_v26_apply, val_main_cst_apply, zero_f32]

theorem v39_eq : val_main_v39 (F := Ideal) x1 x2 x3 x4 = keys x1 x2 (table x3) (table x4) := by
  funext j
  obtain ⟨n, k, rfl⟩ : ∃ (n : Fin 8320) (k : Fin 4096), j = ix2 n k := ⟨j 0, j 1, ext2 rfl rfl⟩
  have hk := k.isLt
  rw [val_main_v39_apply, val_main_v38_apply,
    show idx_main_v38 (ix2 n k) = ix3 n (⟨k.val / 256, by omega⟩ : Fin 16) (⟨k.val % 256, by omega⟩ : Fin 256) from
      ext3 (by show (n.val * 4096 + k.val) / 4096 = n.val; omega) (by show (n.val * 4096 + k.val) / 256 % 16 = k.val / 256; omega)
        (by show (n.val * 4096 + k.val) % 256 = k.val % 256; omega),
    v34_at, keys_at]
  by_cases h0 : k.val % 256 < 128
  · rw [if_pos h0, if_pos (show (⟨k.val % 256, by omega⟩ : Fin 256).val < 128 from h0)]
    exact congrArg (fun u : Fin 4096 => x1 (ix2 n u)) (Fin.ext (by show 256 * (k.val / 256) + k.val % 256 = k.val; omega))
  · rw [if_neg h0, if_neg (show ¬(⟨k.val % 256, by omega⟩ : Fin 256).val < 128 from h0)]
    exact congrArg (fun u : Fin 128 => turn _ _ _ u) (Fin.ext (by show k.val % 256 % 128 = k.val % 128; omega))

theorem v41_eq : val_main_v41 (F := Ideal) x1 = values x1 := by
  funext j
  obtain ⟨n, k, rfl⟩ : ∃ (n : Fin 8320) (k : Fin 2048), j = ix2 n k := ⟨j 0, j 1, ext2 rfl rfl⟩
  have hk := k.isLt
  rw [val_main_v41_apply, val_main_v40_apply, val_main_v35_apply,
    show idx_main_v35 (idx_main_v40 (ix2 n k)) = ix3 n (⟨k.val / 128, by omega⟩ : Fin 16) (⟨128 + k.val % 128, by omega⟩ : Fin 256) from
      ext3 (by show (n.val * 2048 + k.val) / 2048 = n.val; omega) (by show (n.val * 2048 + k.val) / 128 % 16 = k.val / 128; omega)
        (by show 128 + (n.val * 2048 + k.val) % 128 = 128 + k.val % 128; omega),
    v5_at, values_at]
  exact congrArg x1 (ext2 rfl (by show 256 * (k.val / 128) + (128 + k.val % 128) = 256 * (k.val / 128) + 128 + k.val % 128; omega))

end Cert.RopeReferenceIdeal.Rope

namespace Cert.Proof

theorem algebraic_rope : Cert.algebraic_RopeIdeal_RopeReferenceIdeal := by
  intro m ρ m' ρ' _ hargs
  refine ⟨fun c => _root_.Rope.queries (m ((c.tc : Thread RopeIdeal.nD RopeIdeal.τ).loc RopeIdeal.main_arg0)) (_root_.Rope.table (m ((c.tc : Thread RopeIdeal.nD RopeIdeal.τ).loc RopeIdeal.main_arg3))) (_root_.Rope.table (m ((c.tc : Thread RopeIdeal.nD RopeIdeal.τ).loc RopeIdeal.main_arg4))),
    fun c => _root_.Rope.keys (m ((c.tc : Thread RopeIdeal.nD RopeIdeal.τ).loc RopeIdeal.main_arg1)) (m ((c.tc : Thread RopeIdeal.nD RopeIdeal.τ).loc RopeIdeal.main_arg2)) (_root_.Rope.table (m ((c.tc : Thread RopeIdeal.nD RopeIdeal.τ).loc RopeIdeal.main_arg3))) (_root_.Rope.table (m ((c.tc : Thread RopeIdeal.nD RopeIdeal.τ).loc RopeIdeal.main_arg4))),
    fun c => _root_.Rope.values (m ((c.tc : Thread RopeIdeal.nD RopeIdeal.τ).loc RopeIdeal.main_arg1)), ?_, ?_⟩
  · refine (θ_run Cert.RopeIdeal.defs _ _).mono (fun r h c => ?_) (RopeIdeal.Value.run_blocks (F := Ideal) m ρ)
    exact ⟨(h c).1.trans (RopeIdeal.Rope.final5 m c), (h c).2.1.trans (RopeIdeal.Rope.final6 m c), (h c).2.2.1.trans (RopeIdeal.Rope.final7 m c), (h c).2.2.2⟩
  · refine (θ_run Cert.RopeReferenceIdeal.defs _ _).mono (fun r h c => ?_) (RopeReferenceIdeal.Value.run (F := Ideal) m' ρ')
    obtain ⟨a0, a1, a2, a3, a4⟩ := hargs c
    refine ⟨(h c).1.trans ?_, (h c).2.1.trans ?_, (h c).2.2.1.trans ?_, (h c).2.2.2⟩
    · rw [RopeReferenceIdeal.Read.val_main_v37_eq, a0, a3, a4]
      exact RopeReferenceIdeal.Rope.v37_eq _ _ _
    · rw [RopeReferenceIdeal.Read.val_main_v39_eq, a1, a2, a3, a4]
      exact RopeReferenceIdeal.Rope.v39_eq _ _ _ _
    · rw [RopeReferenceIdeal.Read.val_main_v41_eq, a1]
      exact RopeReferenceIdeal.Rope.v41_eq _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DwFfnIn
public import proofs.«01_k».proof.Proof.Gen.DwFfnIn.Skeleton
public import proofs.«01_k».proof.Proof.Gen.DwFfnIn.Launch
public import proofs.«01_k».proof.Proof.Gen.DwFfnIn.Points
public import proofs.«01_k».proof.Proof.Gen.DwFfnIn.Frame
public import proofs.«01_k».proof.Proof.Gen.DwFfnInIdeal
public import proofs.«01_k».proof.Proof.Gen.DwFfnInIdeal.Skeleton
public import proofs.«01_k».proof.Proof.Gen.DwFfnInIdeal.Launch
public import proofs.«01_k».proof.Proof.Gen.DwFfnInIdeal.Points
public import proofs.«01_k».proof.Proof.Gen.DwFfnInIdeal.Frame
public import proofs.«01_k».proof.Proof.Gen.DwFfnInReferenceIdeal
public import proofs.«01_k».proof.Proof.Gen.DwFfnOut
public import proofs.«01_k».proof.Proof.Gen.DwFfnOut.Skeleton
public import proofs.«01_k».proof.Proof.Gen.DwFfnOut.Launch
public import proofs.«01_k».proof.Proof.Gen.DwFfnOut.Points
public import proofs.«01_k».proof.Proof.Gen.DwFfnOut.Frame
public import proofs.«01_k».proof.Proof.Gen.DwFfnOutIdeal
public import proofs.«01_k».proof.Proof.Gen.DwFfnOutIdeal.Skeleton
public import proofs.«01_k».proof.Proof.Gen.DwFfnOutIdeal.Launch
public import proofs.«01_k».proof.Proof.Gen.DwFfnOutIdeal.Points
public import proofs.«01_k».proof.Proof.Gen.DwFfnOutIdeal.Frame
public import proofs.«01_k».proof.Proof.Gen.DwFfnOutReferenceIdeal
public import proofs.«01_k».proof.Proof.Gen.DU2
public import proofs.«01_k».proof.Proof.Gen.DU2.Skeleton
public import proofs.«01_k».proof.Proof.Gen.DU2.Launch
public import proofs.«01_k».proof.Proof.Gen.DU2.Points
public import proofs.«01_k».proof.Proof.Gen.DU2.Frame
public import proofs.«01_k».proof.Proof.Gen.DU2Ideal
public import proofs.«01_k».proof.Proof.Gen.DU2Ideal.Skeleton
public import proofs.«01_k».proof.Proof.Gen.DU2Ideal.Launch
public import proofs.«01_k».proof.Proof.Gen.DU2Ideal.Points
public import proofs.«01_k».proof.Proof.Gen.DU2Ideal.Frame
public import proofs.«01_k».proof.Proof.Gen.DU2ReferenceIdeal
public import proofs.«01_k».proof.Proof.Gen.FfnOut
public import proofs.«01_k».proof.Proof.Gen.FfnOut.Skeleton
public import proofs.«01_k».proof.Proof.Gen.FfnOut.Launch
public import proofs.«01_k».proof.Proof.Gen.FfnOut.Points
public import proofs.«01_k».proof.Proof.Gen.FfnOut.Frame
public import proofs.«01_k».proof.Proof.Gen.FfnOutIdeal
public import proofs.«01_k».proof.Proof.Gen.FfnOutIdeal.Skeleton
public import proofs.«01_k».proof.Proof.Gen.FfnOutIdeal.Launch
public import proofs.«01_k».proof.Proof.Gen.FfnOutIdeal.Points
public import proofs.«01_k».proof.Proof.Gen.FfnOutIdeal.Frame
public import proofs.«01_k».proof.Proof.Gen.FfnOutReferenceIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutReferenceIdeal
public import proofs.«01_k».proof.Proof.Gen.DwBranch
public import proofs.«01_k».proof.Proof.Gen.DwBranch.Skeleton
public import proofs.«01_k».proof.Proof.Gen.DwBranch.Launch
public import proofs.«01_k».proof.Proof.Gen.DwBranch.Points
public import proofs.«01_k».proof.Proof.Gen.DwBranch.Frame
public import proofs.«01_k».proof.Proof.Gen.DwBranchIdeal
public import proofs.«01_k».proof.Proof.Gen.DwBranchIdeal.Skeleton
public import proofs.«01_k».proof.Proof.Gen.DwBranchIdeal.Launch
public import proofs.«01_k».proof.Proof.Gen.DwBranchIdeal.Points
public import proofs.«01_k».proof.Proof.Gen.DwBranchIdeal.Frame
public import proofs.«01_k».proof.Proof.Gen.DwBranchReferenceIdeal
public import proofs.«01_k».proof.Proof.Gen.DwQUp
public import proofs.«01_k».proof.Proof.Gen.DwQUp.Skeleton
public import proofs.«01_k».proof.Proof.Gen.DwQUp.Launch
public import proofs.«01_k».proof.Proof.Gen.DwQUp.Points
public import proofs.«01_k».proof.Proof.Gen.DwQUp.Frame
public import proofs.«01_k».proof.Proof.Gen.DwQUpIdeal
public import proofs.«01_k».proof.Proof.Gen.DwQUpIdeal.Skeleton
public import proofs.«01_k».proof.Proof.Gen.DwQUpIdeal.Launch
public import proofs.«01_k».proof.Proof.Gen.DwQUpIdeal.Points
public import proofs.«01_k».proof.Proof.Gen.DwQUpIdeal.Frame
public import proofs.«01_k».proof.Proof.Gen.DwQUpReferenceIdeal
public import proofs.«01_k».proof.Proof.Gen.DwKvUp
public import proofs.«01_k».proof.Proof.Gen.DwKvUp.Skeleton
public import proofs.«01_k».proof.Proof.Gen.DwKvUp.Launch
public import proofs.«01_k».proof.Proof.Gen.DwKvUp.Points
public import proofs.«01_k».proof.Proof.Gen.DwKvUp.Frame
public import proofs.«01_k».proof.Proof.Gen.DwKvUpIdeal
public import proofs.«01_k».proof.Proof.Gen.DwKvUpIdeal.Skeleton
public import proofs.«01_k».proof.Proof.Gen.DwKvUpIdeal.Launch
public import proofs.«01_k».proof.Proof.Gen.DwKvUpIdeal.Points
public import proofs.«01_k».proof.Proof.Gen.DwKvUpIdeal.Frame
public import proofs.«01_k».proof.Proof.Gen.DwKvUpReferenceIdeal
public import proofs.«01_k».proof.Proof.Gen.DwInHgrn
public import proofs.«01_k».proof.Proof.Gen.DwInHgrn.Skeleton
public import proofs.«01_k».proof.Proof.Gen.DwInHgrn.Launch
public import proofs.«01_k».proof.Proof.Gen.DwInHgrn.Points
public import proofs.«01_k».proof.Proof.Gen.DwInHgrn.Frame
public import proofs.«01_k».proof.Proof.Gen.DwInHgrnIdeal
public import proofs.«01_k».proof.Proof.Gen.DwInHgrnIdeal.Skeleton
public import proofs.«01_k».proof.Proof.Gen.DwInHgrnIdeal.Launch
public import proofs.«01_k».proof.Proof.Gen.DwInHgrnIdeal.Points
public import proofs.«01_k».proof.Proof.Gen.DwInHgrnIdeal.Frame
public import proofs.«01_k».proof.Proof.Gen.DwInHgrnReferenceIdeal
public import proofs.«01_k».proof.Proof.Gen.DwInGates
public import proofs.«01_k».proof.Proof.Gen.DwInGates.Skeleton
public import proofs.«01_k».proof.Proof.Gen.DwInGates.Launch
public import proofs.«01_k».proof.Proof.Gen.DwInGates.Points
public import proofs.«01_k».proof.Proof.Gen.DwInGates.Frame
public import proofs.«01_k».proof.Proof.Gen.DwInGatesIdeal
public import proofs.«01_k».proof.Proof.Gen.DwInGatesIdeal.Skeleton
public import proofs.«01_k».proof.Proof.Gen.DwInGatesIdeal.Launch
public import proofs.«01_k».proof.Proof.Gen.DwInGatesIdeal.Points
public import proofs.«01_k».proof.Proof.Gen.DwInGatesIdeal.Frame
public import proofs.«01_k».proof.Proof.Gen.DwInGatesReferenceIdeal
public import proofs.«01_k».proof.Proof.Gen.DwInKrope
public import proofs.«01_k».proof.Proof.Gen.DwInKrope.Skeleton
public import proofs.«01_k».proof.Proof.Gen.DwInKrope.Launch
public import proofs.«01_k».proof.Proof.Gen.DwInKrope.Points
public import proofs.«01_k».proof.Proof.Gen.DwInKrope.Frame
public import proofs.«01_k».proof.Proof.Gen.DwInKropeIdeal
public import proofs.«01_k».proof.Proof.Gen.DwInKropeIdeal.Skeleton
public import proofs.«01_k».proof.Proof.Gen.DwInKropeIdeal.Launch
public import proofs.«01_k».proof.Proof.Gen.DwInKropeIdeal.Points
public import proofs.«01_k».proof.Proof.Gen.DwInKropeIdeal.Frame
public import proofs.«01_k».proof.Proof.Gen.DwInKropeReferenceIdeal
public import proofs.«01_k».proof.Proof.Gen.DQn
public import proofs.«01_k».proof.Proof.Gen.DQn.Skeleton
public import proofs.«01_k».proof.Proof.Gen.DQn.Launch
public import proofs.«01_k».proof.Proof.Gen.DQn.Points
public import proofs.«01_k».proof.Proof.Gen.DQn.Frame
public import proofs.«01_k».proof.Proof.Gen.DQnIdeal
public import proofs.«01_k».proof.Proof.Gen.DQnIdeal.Skeleton
public import proofs.«01_k».proof.Proof.Gen.DQnIdeal.Launch
public import proofs.«01_k».proof.Proof.Gen.DQnIdeal.Points
public import proofs.«01_k».proof.Proof.Gen.DQnIdeal.Frame
public import proofs.«01_k».proof.Proof.Gen.DQnReferenceIdeal
public import proofs.«01_k».proof.Proof.Gen.DKvn
public import proofs.«01_k».proof.Proof.Gen.DKvn.Skeleton
public import proofs.«01_k».proof.Proof.Gen.DKvn.Launch
public import proofs.«01_k».proof.Proof.Gen.DKvn.Points
public import proofs.«01_k».proof.Proof.Gen.DKvn.Frame
public import proofs.«01_k».proof.Proof.Gen.DKvnIdeal
public import proofs.«01_k».proof.Proof.Gen.DKvnIdeal.Skeleton
public import proofs.«01_k».proof.Proof.Gen.DKvnIdeal.Launch
public import proofs.«01_k».proof.Proof.Gen.DKvnIdeal.Points
public import proofs.«01_k».proof.Proof.Gen.DKvnIdeal.Frame
public import proofs.«01_k».proof.Proof.Gen.DKvnReferenceIdeal
public import proofs.«01_k».proof.Proof.Gen.DU1Lat
public import proofs.«01_k».proof.Proof.Gen.DU1Lat.Skeleton
public import proofs.«01_k».proof.Proof.Gen.DU1Lat.Launch
public import proofs.«01_k».proof.Proof.Gen.DU1Lat.Points
public import proofs.«01_k».proof.Proof.Gen.DU1Lat.Frame
public import proofs.«01_k».proof.Proof.Gen.DU1LatIdeal
public import proofs.«01_k».proof.Proof.Gen.DU1LatIdeal.Skeleton
public import proofs.«01_k».proof.Proof.Gen.DU1LatIdeal.Launch
public import proofs.«01_k».proof.Proof.Gen.DU1LatIdeal.Points
public import proofs.«01_k».proof.Proof.Gen.DU1LatIdeal.Frame
public import proofs.«01_k».proof.Proof.Gen.DU1LatReferenceIdeal
public import proofs.«01_k».proof.Proof.Gen.DU1Hgrn
public import proofs.«01_k».proof.Proof.Gen.DU1Hgrn.Skeleton
public import proofs.«01_k».proof.Proof.Gen.DU1Hgrn.Launch
public import proofs.«01_k».proof.Proof.Gen.DU1Hgrn.Points
public import proofs.«01_k».proof.Proof.Gen.DU1Hgrn.Frame
public import proofs.«01_k».proof.Proof.Gen.DU1HgrnIdeal
public import proofs.«01_k».proof.Proof.Gen.DU1HgrnIdeal.Skeleton
public import proofs.«01_k».proof.Proof.Gen.DU1HgrnIdeal.Launch
public import proofs.«01_k».proof.Proof.Gen.DU1HgrnIdeal.Points
public import proofs.«01_k».proof.Proof.Gen.DU1HgrnIdeal.Frame
public import proofs.«01_k».proof.Proof.Gen.DU1HgrnReferenceIdeal
public import proofs.«01_k».proof.Proof.Gen.DU1Gates
public import proofs.«01_k».proof.Proof.Gen.DU1Gates.Skeleton
public import proofs.«01_k».proof.Proof.Gen.DU1Gates.Launch
public import proofs.«01_k».proof.Proof.Gen.DU1Gates.Points
public import proofs.«01_k».proof.Proof.Gen.DU1Gates.Frame
public import proofs.«01_k».proof.Proof.Gen.DU1GatesIdeal
public import proofs.«01_k».proof.Proof.Gen.DU1GatesIdeal.Skeleton
public import proofs.«01_k».proof.Proof.Gen.DU1GatesIdeal.Launch
public import proofs.«01_k».proof.Proof.Gen.DU1GatesIdeal.Points
public import proofs.«01_k».proof.Proof.Gen.DU1GatesIdeal.Frame
public import proofs.«01_k».proof.Proof.Gen.DU1GatesReferenceIdeal
public import proofs.«01_k».proof.Proof.Gen.DU1Krope
public import proofs.«01_k».proof.Proof.Gen.DU1Krope.Skeleton
public import proofs.«01_k».proof.Proof.Gen.DU1Krope.Launch
public import proofs.«01_k».proof.Proof.Gen.DU1Krope.Points
public import proofs.«01_k».proof.Proof.Gen.DU1Krope.Frame
public import proofs.«01_k».proof.Proof.Gen.DU1KropeIdeal
public import proofs.«01_k».proof.Proof.Gen.DU1KropeIdeal.Skeleton
public import proofs.«01_k».proof.Proof.Gen.DU1KropeIdeal.Launch
public import proofs.«01_k».proof.Proof.Gen.DU1KropeIdeal.Points
public import proofs.«01_k».proof.Proof.Gen.DU1KropeIdeal.Frame
public import proofs.«01_k».proof.Proof.Gen.DU1KropeReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectReferenceIdeal
public import proofs.«01_k».proof.Proof.Gen.QUp
public import proofs.«01_k».proof.Proof.Gen.QUp.Skeleton
public import proofs.«01_k».proof.Proof.Gen.QUp.Launch
public import proofs.«01_k».proof.Proof.Gen.QUp.Points
public import proofs.«01_k».proof.Proof.Gen.QUp.Frame
public import proofs.«01_k».proof.Proof.Gen.QUpIdeal
public import proofs.«01_k».proof.Proof.Gen.QUpIdeal.Skeleton
public import proofs.«01_k».proof.Proof.Gen.QUpIdeal.Launch
public import proofs.«01_k».proof.Proof.Gen.QUpIdeal.Points
public import proofs.«01_k».proof.Proof.Gen.QUpIdeal.Frame
public import proofs.«01_k».proof.Proof.Gen.QUpReferenceIdeal
public import proofs.«01_k».proof.Proof.Gen.NormQ
public import proofs.«01_k».proof.Proof.Gen.NormQ.Skeleton
public import proofs.«01_k».proof.Proof.Gen.NormQ.Launch
public import proofs.«01_k».proof.Proof.Gen.NormQ.Points
public import proofs.«01_k».proof.Proof.Gen.NormQ.Frame
public import proofs.«01_k».proof.Proof.Gen.NormQIdeal
public import proofs.«01_k».proof.Proof.Gen.NormQIdeal.Skeleton
public import proofs.«01_k».proof.Proof.Gen.NormQIdeal.Launch
public import proofs.«01_k».proof.Proof.Gen.NormQIdeal.Points
public import proofs.«01_k».proof.Proof.Gen.NormQIdeal.Frame
public import proofs.«01_k».proof.Proof.Gen.NormQReferenceIdeal
public import proofs.«01_k».proof.Proof.Gen.Attn
public import proofs.«01_k».proof.Proof.Gen.Attn.Skeleton
public import proofs.«01_k».proof.Proof.Gen.Attn.Launch
public import proofs.«01_k».proof.Proof.Gen.Attn.Flash
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Flash
public import proofs.«01_k».proof.Proof.Gen.AttnReferenceIdeal
public import proofs.«01_k».proof.Proof.Gen.Pre_finite
public import proofs.«01_k».proof.Proof.Gen.Pre_attn_schedule
public import proofs.«01_k».proof.Proof.Gen.Pre_attn_finite
public import proofs.«01_k».proof.Proof.Gen.AttnReferenceIdeal.Run
public import proofs.«01_k».proof.Proof.Gen.AttnReferenceIdeal.Read
public import proofs.«01_k».proof.Proof.Attn.Agree
public import proofs.«01_k».proof.Proof.Merge.Agree
public import proofs.«01_k».proof.Proof.NormQ.NormQ
public import proofs.«01_k».proof.Proof.Products.DKvn
public import proofs.«01_k».proof.Proof.Products.DQn
public import proofs.«01_k».proof.Proof.Products.DU1Gates
public import proofs.«01_k».proof.Proof.Products.DU1Hgrn
public import proofs.«01_k».proof.Proof.Products.DU1Krope
public import proofs.«01_k».proof.Proof.Products.DU1Lat
public import proofs.«01_k».proof.Proof.Products.DU2
public import proofs.«01_k».proof.Proof.Products.DwBranch
public import proofs.«01_k».proof.Proof.Products.DwFfnIn
public import proofs.«01_k».proof.Proof.Products.DwFfnOut
public import proofs.«01_k».proof.Proof.Products.DwInGates
public import proofs.«01_k».proof.Proof.Products.DwInHgrn
public import proofs.«01_k».proof.Proof.Products.DwInKrope
public import proofs.«01_k».proof.Proof.Products.DwKvUp
public import proofs.«01_k».proof.Proof.Products.DwOut
public import proofs.«01_k».proof.Proof.Products.DwQUp
public import proofs.«01_k».proof.Proof.Products.FfnOut
public import proofs.«01_k».proof.Proof.Products.QUp
public import proofs.«01_k».proof.Proof.Project.Agree
public import proofs.«01_k».proof.Proof.Conv.Agree
public import proofs.«01_k».proof.Proof.Gen.Delta
public import proofs.«01_k».proof.Proof.Gen.Delta.Skeleton
public import proofs.«01_k».proof.Proof.Gen.Delta.Launch
public import proofs.«01_k».proof.Proof.Gen.Delta.Points
public import proofs.«01_k».proof.Proof.Gen.Delta.Frame
public import proofs.«01_k».proof.Proof.Gen.DeltaIdeal
public import proofs.«01_k».proof.Proof.Gen.DeltaIdeal.Skeleton
public import proofs.«01_k».proof.Proof.Gen.DeltaIdeal.Launch
public import proofs.«01_k».proof.Proof.Gen.DeltaIdeal.Points
public import proofs.«01_k».proof.Proof.Gen.DeltaIdeal.Frame
public import proofs.«01_k».proof.Proof.Gen.DeltaReferenceIdeal
public import proofs.«01_k».proof.Proof.Gen.PairSum
public import proofs.«01_k».proof.Proof.Gen.PairSum.Skeleton
public import proofs.«01_k».proof.Proof.Gen.PairSum.Launch
public import proofs.«01_k».proof.Proof.Gen.PairSum.Points
public import proofs.«01_k».proof.Proof.Gen.PairSum.Frame
public import proofs.«01_k».proof.Proof.Gen.PairSumIdeal
public import proofs.«01_k».proof.Proof.Gen.PairSumIdeal.Skeleton
public import proofs.«01_k».proof.Proof.Gen.PairSumIdeal.Launch
public import proofs.«01_k».proof.Proof.Gen.PairSumIdeal.Points
public import proofs.«01_k».proof.Proof.Gen.PairSumIdeal.Frame
public import proofs.«01_k».proof.Proof.Gen.PairSumReferenceIdeal
public import proofs.«01_k».proof.Proof.Gen.ChipSum
public import proofs.«01_k».proof.Proof.Gen.ChipSum.Skeleton
public import proofs.«01_k».proof.Proof.Gen.ChipSum.Launch
public import proofs.«01_k».proof.Proof.Gen.ChipSum.Points
public import proofs.«01_k».proof.Proof.Gen.ChipSum.Frame
public import proofs.«01_k».proof.Proof.Gen.ChipSumIdeal
public import proofs.«01_k».proof.Proof.Gen.ChipSumIdeal.Skeleton
public import proofs.«01_k».proof.Proof.Gen.ChipSumIdeal.Launch
public import proofs.«01_k».proof.Proof.Gen.ChipSumIdeal.Points
public import proofs.«01_k».proof.Proof.Gen.ChipSumIdeal.Frame
public import proofs.«01_k».proof.Proof.Gen.ChipSumReferenceIdeal
public import proofs.«01_k».proof.Proof.Sums.Delta
public import proofs.«01_k».proof.Proof.Sums.PairSum
public import proofs.«01_k».proof.Proof.Sums.ChipSum
public import proofs.«01_k».proof.Proof.Gen.Embed
public import proofs.«01_k».proof.Proof.Gen.Embed.Skeleton
public import proofs.«01_k».proof.Proof.Gen.Embed.Launch
public import proofs.«01_k».proof.Proof.Gen.Embed.Points
public import proofs.«01_k».proof.Proof.Gen.Embed.Frame
public import proofs.«01_k».proof.Proof.Gen.EmbedIdeal
public import proofs.«01_k».proof.Proof.Gen.EmbedIdeal.Skeleton
public import proofs.«01_k».proof.Proof.Gen.EmbedIdeal.Launch
public import proofs.«01_k».proof.Proof.Gen.EmbedIdeal.Points
public import proofs.«01_k».proof.Proof.Gen.EmbedIdeal.Frame
public import proofs.«01_k».proof.Proof.Gen.EmbedReferenceIdeal
public import proofs.«01_k».proof.Proof.Sums.Embed
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeReferenceIdeal
public import proofs.«01_k».proof.Proof.Sums.Rope
public import Idealize.ShloMosaic.Adequacy
public import Idealize.ShloMosaic.Init

@[expose] public section

noncomputable section

namespace Cert.Proof

open Idealize.ShloMosaic Idealize.ShloMosaic.TcCoe Idealize.SL.Sem

theorem algebraic : Cert.algebraic_KernelIdeal_ReferenceIdeal_pre_finite := by
  intro m ρ m' ρ' hpre hargs
  refine ⟨fun c => _root_.Conv.act (KernelIdeal.Conv.G m c) (KernelIdeal.Conv.cw m c) (KernelIdeal.Conv.cb m c),
    fun c => _root_.Conv.beside (_root_.Conv.dgate (KernelIdeal.Conv.E m c) (KernelIdeal.Conv.cw m c))
      (_root_.Conv.dup (KernelIdeal.Conv.A m c) (KernelIdeal.Conv.G m c) (KernelIdeal.Conv.cw m c) (KernelIdeal.Conv.cb m c)),
    fun c => _root_.Conv.dtaps (KernelIdeal.Conv.E m c) (KernelIdeal.Conv.G m c),
    fun c => _root_.Conv.dbias (KernelIdeal.Conv.E m c), KernelIdeal.Conv.run m ρ, ?_⟩
  refine (θ_run Cert.ReferenceIdeal.defs _ _).mono (fun r h c => ?_) (ReferenceIdeal.Value.run (F := Ideal) m' ρ')
  obtain ⟨a0, a1, a2, a3, a4, a5⟩ := hargs c
  obtain ⟨h0, h1, h2, h3, h4, h5⟩ := Pre_finite.Conv.real_args _ _ _ _ _ _ (hpre c)
  have hE := Conv.e_eq _ _ _ _ _ _ h0 h1 h2 h3 h4 h5
  obtain ⟨r0, r1, r2, r3, hr⟩ := h c
  refine ⟨r0.trans ?_, r1.trans ?_, r2.trans ?_, r3.trans ?_, hr⟩
  · rw [ReferenceIdeal.Read.val_main_v81_eq, a0, a1, a2, a3]
    exact ReferenceIdeal.Conv.v81_eq _ _ _ _
  · rw [ReferenceIdeal.Read.val_main_v82_eq, a0, a1, a2, a3, a4, a5]
    refine (ReferenceIdeal.Conv.v82_eq _ _ _ _ _ _).trans ?_
    rw [hE]; rfl
  · rw [ReferenceIdeal.Read.val_main_v83_eq, a0, a1, a2, a3, a4, a5]
    refine (ReferenceIdeal.Conv.v83_eq _ _ _ _ _ _).trans ?_
    rw [hE]; rfl
  · rw [ReferenceIdeal.Read.val_main_v45_eq, a0, a1, a2, a3, a4, a5]
    refine (ReferenceIdeal.Conv.v45_eq _ _ _ _ _ _).trans ?_
    rw [hE]; rfl

theorem claim : Cert.Claim := ⟨Cert.Kernel.Gen.facts, Cert.KernelIdeal.Gen.facts, Cert.ReferenceIdeal.Gen.facts, Cert.DwFfnIn.Gen.facts, Cert.DwFfnInIdeal.Gen.facts, Cert.DwFfnInReferenceIdeal.Gen.facts, Cert.DwFfnOut.Gen.facts, Cert.DwFfnOutIdeal.Gen.facts, Cert.DwFfnOutReferenceIdeal.Gen.facts, Cert.DU2.Gen.facts, Cert.DU2Ideal.Gen.facts, Cert.DU2ReferenceIdeal.Gen.facts, Cert.FfnOut.Gen.facts, Cert.FfnOutIdeal.Gen.facts, Cert.FfnOutReferenceIdeal.Gen.facts, Cert.DwOut.Gen.facts, Cert.DwOutIdeal.Gen.facts, Cert.DwOutReferenceIdeal.Gen.facts, Cert.DwBranch.Gen.facts, Cert.DwBranchIdeal.Gen.facts, Cert.DwBranchReferenceIdeal.Gen.facts, Cert.DwQUp.Gen.facts, Cert.DwQUpIdeal.Gen.facts, Cert.DwQUpReferenceIdeal.Gen.facts, Cert.DwKvUp.Gen.facts, Cert.DwKvUpIdeal.Gen.facts, Cert.DwKvUpReferenceIdeal.Gen.facts, Cert.DwInHgrn.Gen.facts, Cert.DwInHgrnIdeal.Gen.facts, Cert.DwInHgrnReferenceIdeal.Gen.facts, Cert.DwInGates.Gen.facts, Cert.DwInGatesIdeal.Gen.facts, Cert.DwInGatesReferenceIdeal.Gen.facts, Cert.DwInKrope.Gen.facts, Cert.DwInKropeIdeal.Gen.facts, Cert.DwInKropeReferenceIdeal.Gen.facts, Cert.DQn.Gen.facts, Cert.DQnIdeal.Gen.facts, Cert.DQnReferenceIdeal.Gen.facts, Cert.DKvn.Gen.facts, Cert.DKvnIdeal.Gen.facts, Cert.DKvnReferenceIdeal.Gen.facts, Cert.DU1Lat.Gen.facts, Cert.DU1LatIdeal.Gen.facts, Cert.DU1LatReferenceIdeal.Gen.facts, Cert.DU1Hgrn.Gen.facts, Cert.DU1HgrnIdeal.Gen.facts, Cert.DU1HgrnReferenceIdeal.Gen.facts, Cert.DU1Gates.Gen.facts, Cert.DU1GatesIdeal.Gen.facts, Cert.DU1GatesReferenceIdeal.Gen.facts, Cert.DU1Krope.Gen.facts, Cert.DU1KropeIdeal.Gen.facts, Cert.DU1KropeReferenceIdeal.Gen.facts, Cert.Merge.Gen.facts, Cert.MergeIdeal.Gen.facts, Cert.MergeReferenceIdeal.Gen.facts, Cert.Project.Gen.facts, Cert.ProjectIdeal.Gen.facts, Cert.ProjectReferenceIdeal.Gen.facts, Cert.QUp.Gen.facts, Cert.QUpIdeal.Gen.facts, Cert.QUpReferenceIdeal.Gen.facts, Cert.NormQ.Gen.facts, Cert.NormQIdeal.Gen.facts, Cert.NormQReferenceIdeal.Gen.facts, Cert.Attn.Gen.facts, Cert.AttnIdeal.Gen.facts, Cert.AttnReferenceIdeal.Gen.facts, Cert.Delta.Gen.facts, Cert.DeltaIdeal.Gen.facts, Cert.DeltaReferenceIdeal.Gen.facts, Cert.PairSum.Gen.facts, Cert.PairSumIdeal.Gen.facts, Cert.PairSumReferenceIdeal.Gen.facts, Cert.ChipSum.Gen.facts, Cert.ChipSumIdeal.Gen.facts, Cert.ChipSumReferenceIdeal.Gen.facts, Cert.Embed.Gen.facts, Cert.EmbedIdeal.Gen.facts, Cert.EmbedReferenceIdeal.Gen.facts, Cert.Rope.Gen.facts, Cert.RopeIdeal.Gen.facts, Cert.RopeReferenceIdeal.Gen.facts, Cert.Pre_finite.Conv.facts, Cert.Pre_attn_schedule.Gen.facts, Cert.Pre_attn_finite.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ),
  fun m ρ _ => (θ_run Cert.ReferenceIdeal.defs _ _).mono (fun r h => ⟨fun c => (h c).2.2.2.2,
    Idealize.ShloMosaic.sem_eq_zero_of_no_sems (by decide) r.2⟩) (Cert.ReferenceIdeal.Value.run (F := Ideal) m ρ),
  fun m ρ _ => Cert.DwFfnIn.Gen.frame m ρ,
  fun m ρ _ => Cert.DwFfnInIdeal.Gen.frame m ρ,
  fun m ρ _ => (θ_run Cert.DwFfnInReferenceIdeal.defs _ _).mono (fun r h => ⟨fun c => (h c).2,
    Idealize.ShloMosaic.sem_eq_zero_of_no_sems (by decide) r.2⟩) (Cert.DwFfnInReferenceIdeal.Value.run (F := Ideal) m ρ),
  fun m ρ _ => Cert.DwFfnOut.Gen.frame m ρ,
  fun m ρ _ => Cert.DwFfnOutIdeal.Gen.frame m ρ,
  fun m ρ _ => (θ_run Cert.DwFfnOutReferenceIdeal.defs _ _).mono (fun r h => ⟨fun c => (h c).2,
    Idealize.ShloMosaic.sem_eq_zero_of_no_sems (by decide) r.2⟩) (Cert.DwFfnOutReferenceIdeal.Value.run (F := Ideal) m ρ),
  fun m ρ _ => Cert.DU2.Gen.frame m ρ,
  fun m ρ _ => Cert.DU2Ideal.Gen.frame m ρ,
  fun m ρ _ => (θ_run Cert.DU2ReferenceIdeal.defs _ _).mono (fun r h => ⟨fun c => (h c).2,
    Idealize.ShloMosaic.sem_eq_zero_of_no_sems (by decide) r.2⟩) (Cert.DU2ReferenceIdeal.Value.run (F := Ideal) m ρ),
  fun m ρ _ => Cert.FfnOut.Gen.frame m ρ,
  fun m ρ _ => Cert.FfnOutIdeal.Gen.frame m ρ,
  fun m ρ _ => (θ_run Cert.FfnOutReferenceIdeal.defs _ _).mono (fun r h => ⟨fun c => (h c).2,
    Idealize.ShloMosaic.sem_eq_zero_of_no_sems (by decide) r.2⟩) (Cert.FfnOutReferenceIdeal.Value.run (F := Ideal) m ρ),
  fun m ρ _ => Cert.DwOut.Gen.frame m ρ,
  fun m ρ _ => Cert.DwOutIdeal.Gen.frame m ρ,
  fun m ρ _ => (θ_run Cert.DwOutReferenceIdeal.defs _ _).mono (fun r h => ⟨fun c => (h c).2,
    Idealize.ShloMosaic.sem_eq_zero_of_no_sems (by decide) r.2⟩) (Cert.DwOutReferenceIdeal.Value.run (F := Ideal) m ρ),
  fun m ρ _ => Cert.DwBranch.Gen.frame m ρ,
  fun m ρ _ => Cert.DwBranchIdeal.Gen.frame m ρ,
  fun m ρ _ => (θ_run Cert.DwBranchReferenceIdeal.defs _ _).mono (fun r h => ⟨fun c => (h c).2,
    Idealize.ShloMosaic.sem_eq_zero_of_no_sems (by decide) r.2⟩) (Cert.DwBranchReferenceIdeal.Value.run (F := Ideal) m ρ),
  fun m ρ _ => Cert.DwQUp.Gen.frame m ρ,
  fun m ρ _ => Cert.DwQUpIdeal.Gen.frame m ρ,
  fun m ρ _ => (θ_run Cert.DwQUpReferenceIdeal.defs _ _).mono (fun r h => ⟨fun c => (h c).2,
    Idealize.ShloMosaic.sem_eq_zero_of_no_sems (by decide) r.2⟩) (Cert.DwQUpReferenceIdeal.Value.run (F := Ideal) m ρ),
  fun m ρ _ => Cert.DwKvUp.Gen.frame m ρ,
  fun m ρ _ => Cert.DwKvUpIdeal.Gen.frame m ρ,
  fun m ρ _ => (θ_run Cert.DwKvUpReferenceIdeal.defs _ _).mono (fun r h => ⟨fun c => (h c).2,
    Idealize.ShloMosaic.sem_eq_zero_of_no_sems (by decide) r.2⟩) (Cert.DwKvUpReferenceIdeal.Value.run (F := Ideal) m ρ),
  fun m ρ _ => Cert.DwInHgrn.Gen.frame m ρ,
  fun m ρ _ => Cert.DwInHgrnIdeal.Gen.frame m ρ,
  fun m ρ _ => (θ_run Cert.DwInHgrnReferenceIdeal.defs _ _).mono (fun r h => ⟨fun c => (h c).2,
    Idealize.ShloMosaic.sem_eq_zero_of_no_sems (by decide) r.2⟩) (Cert.DwInHgrnReferenceIdeal.Value.run (F := Ideal) m ρ),
  fun m ρ _ => Cert.DwInGates.Gen.frame m ρ,
  fun m ρ _ => Cert.DwInGatesIdeal.Gen.frame m ρ,
  fun m ρ _ => (θ_run Cert.DwInGatesReferenceIdeal.defs _ _).mono (fun r h => ⟨fun c => (h c).2,
    Idealize.ShloMosaic.sem_eq_zero_of_no_sems (by decide) r.2⟩) (Cert.DwInGatesReferenceIdeal.Value.run (F := Ideal) m ρ),
  fun m ρ _ => Cert.DwInKrope.Gen.frame m ρ,
  fun m ρ _ => Cert.DwInKropeIdeal.Gen.frame m ρ,
  fun m ρ _ => (θ_run Cert.DwInKropeReferenceIdeal.defs _ _).mono (fun r h => ⟨fun c => (h c).2,
    Idealize.ShloMosaic.sem_eq_zero_of_no_sems (by decide) r.2⟩) (Cert.DwInKropeReferenceIdeal.Value.run (F := Ideal) m ρ),
  fun m ρ _ => Cert.DQn.Gen.frame m ρ,
  fun m ρ _ => Cert.DQnIdeal.Gen.frame m ρ,
  fun m ρ _ => (θ_run Cert.DQnReferenceIdeal.defs _ _).mono (fun r h => ⟨fun c => (h c).2,
    Idealize.ShloMosaic.sem_eq_zero_of_no_sems (by decide) r.2⟩) (Cert.DQnReferenceIdeal.Value.run (F := Ideal) m ρ),
  fun m ρ _ => Cert.DKvn.Gen.frame m ρ,
  fun m ρ _ => Cert.DKvnIdeal.Gen.frame m ρ,
  fun m ρ _ => (θ_run Cert.DKvnReferenceIdeal.defs _ _).mono (fun r h => ⟨fun c => (h c).2,
    Idealize.ShloMosaic.sem_eq_zero_of_no_sems (by decide) r.2⟩) (Cert.DKvnReferenceIdeal.Value.run (F := Ideal) m ρ),
  fun m ρ _ => Cert.DU1Lat.Gen.frame m ρ,
  fun m ρ _ => Cert.DU1LatIdeal.Gen.frame m ρ,
  fun m ρ _ => (θ_run Cert.DU1LatReferenceIdeal.defs _ _).mono (fun r h => ⟨fun c => (h c).2,
    Idealize.ShloMosaic.sem_eq_zero_of_no_sems (by decide) r.2⟩) (Cert.DU1LatReferenceIdeal.Value.run (F := Ideal) m ρ),
  fun m ρ _ => Cert.DU1Hgrn.Gen.frame m ρ,
  fun m ρ _ => Cert.DU1HgrnIdeal.Gen.frame m ρ,
  fun m ρ _ => (θ_run Cert.DU1HgrnReferenceIdeal.defs _ _).mono (fun r h => ⟨fun c => (h c).2,
    Idealize.ShloMosaic.sem_eq_zero_of_no_sems (by decide) r.2⟩) (Cert.DU1HgrnReferenceIdeal.Value.run (F := Ideal) m ρ),
  fun m ρ _ => Cert.DU1Gates.Gen.frame m ρ,
  fun m ρ _ => Cert.DU1GatesIdeal.Gen.frame m ρ,
  fun m ρ _ => (θ_run Cert.DU1GatesReferenceIdeal.defs _ _).mono (fun r h => ⟨fun c => (h c).2,
    Idealize.ShloMosaic.sem_eq_zero_of_no_sems (by decide) r.2⟩) (Cert.DU1GatesReferenceIdeal.Value.run (F := Ideal) m ρ),
  fun m ρ _ => Cert.DU1Krope.Gen.frame m ρ,
  fun m ρ _ => Cert.DU1KropeIdeal.Gen.frame m ρ,
  fun m ρ _ => (θ_run Cert.DU1KropeReferenceIdeal.defs _ _).mono (fun r h => ⟨fun c => (h c).2,
    Idealize.ShloMosaic.sem_eq_zero_of_no_sems (by decide) r.2⟩) (Cert.DU1KropeReferenceIdeal.Value.run (F := Ideal) m ρ),
  fun m ρ _ => Cert.Merge.Gen.frame m ρ,
  fun m ρ _ => Cert.MergeIdeal.Gen.frame m ρ,
  fun m ρ _ => (θ_run Cert.MergeReferenceIdeal.defs _ _).mono (fun r h => ⟨fun c => (h c).2.2.2.2,
    Idealize.ShloMosaic.sem_eq_zero_of_no_sems (by decide) r.2⟩) (Cert.MergeReferenceIdeal.Value.run (F := Ideal) m ρ),
  fun m ρ _ => Cert.Project.Gen.frame m ρ,
  fun m ρ _ => Cert.ProjectIdeal.Gen.frame m ρ,
  fun m ρ _ => (θ_run Cert.ProjectReferenceIdeal.defs _ _).mono (fun r h => ⟨fun c => (h c).2.2.2.2.2,
    Idealize.ShloMosaic.sem_eq_zero_of_no_sems (by decide) r.2⟩) (Cert.ProjectReferenceIdeal.Value.run (F := Ideal) m ρ),
  fun m ρ _ => Cert.QUp.Gen.frame m ρ,
  fun m ρ _ => Cert.QUpIdeal.Gen.frame m ρ,
  fun m ρ _ => (θ_run Cert.QUpReferenceIdeal.defs _ _).mono (fun r h => ⟨fun c => (h c).2,
    Idealize.ShloMosaic.sem_eq_zero_of_no_sems (by decide) r.2⟩) (Cert.QUpReferenceIdeal.Value.run (F := Ideal) m ρ),
  fun m ρ _ => Cert.NormQ.Gen.frame m ρ,
  fun m ρ _ => Cert.NormQIdeal.Gen.frame m ρ,
  fun m ρ _ => (θ_run Cert.NormQReferenceIdeal.defs _ _).mono (fun r h => ⟨fun c => (h c).2,
    Idealize.ShloMosaic.sem_eq_zero_of_no_sems (by decide) r.2⟩) (Cert.NormQReferenceIdeal.Value.run (F := Ideal) m ρ),
  frame_attn,
  frame_attn_ideal,
  frame_attn_finite,
  fun m ρ _ => (θ_run Cert.AttnReferenceIdeal.defs _ _).mono (fun r h => ⟨fun c => (h c).2.2,
    Idealize.ShloMosaic.sem_eq_zero_of_no_sems (by decide) r.2⟩) (Cert.AttnReferenceIdeal.Value.run (F := Ideal) m ρ),
  fun m ρ _ => (θ_run Cert.AttnReferenceIdeal.defs _ _).mono (fun r h => ⟨fun c => (h c).2.2,
    Idealize.ShloMosaic.sem_eq_zero_of_no_sems (by decide) r.2⟩) (Cert.AttnReferenceIdeal.Value.run (F := Ideal) m ρ),
  fun m ρ _ => Cert.Delta.Gen.frame m ρ,
  fun m ρ _ => Cert.DeltaIdeal.Gen.frame m ρ,
  fun m ρ _ => (θ_run Cert.DeltaReferenceIdeal.defs _ _).mono (fun r h => ⟨fun c => (h c).2,
    Idealize.ShloMosaic.sem_eq_zero_of_no_sems (by decide) r.2⟩) (Cert.DeltaReferenceIdeal.Value.run (F := Ideal) m ρ),
  fun m ρ _ => Cert.PairSum.Gen.frame m ρ,
  fun m ρ _ => Cert.PairSumIdeal.Gen.frame m ρ,
  fun m ρ _ => (θ_run Cert.PairSumReferenceIdeal.defs _ _).mono (fun r h => ⟨fun c => (h c).2,
    Idealize.ShloMosaic.sem_eq_zero_of_no_sems (by decide) r.2⟩) (Cert.PairSumReferenceIdeal.Value.run (F := Ideal) m ρ),
  fun m ρ _ => Cert.ChipSum.Gen.frame m ρ,
  fun m ρ _ => Cert.ChipSumIdeal.Gen.frame m ρ,
  fun m ρ _ => (θ_run Cert.ChipSumReferenceIdeal.defs _ _).mono (fun r h => ⟨fun c => (h c).2,
    Idealize.ShloMosaic.sem_eq_zero_of_no_sems (by decide) r.2⟩) (Cert.ChipSumReferenceIdeal.Value.run (F := Ideal) m ρ),
  fun m ρ _ => Cert.Embed.Gen.frame m ρ,
  fun m ρ _ => Cert.EmbedIdeal.Gen.frame m ρ,
  fun m ρ _ => (θ_run Cert.EmbedReferenceIdeal.defs _ _).mono (fun r h => ⟨fun c => (h c).2.2,
    Idealize.ShloMosaic.sem_eq_zero_of_no_sems (by decide) r.2⟩) (Cert.EmbedReferenceIdeal.Value.run (F := Ideal) m ρ),
  fun m ρ _ => Cert.Rope.Gen.frame m ρ,
  fun m ρ _ => Cert.RopeIdeal.Gen.frame m ρ,
  fun m ρ _ => (θ_run Cert.RopeReferenceIdeal.defs _ _).mono (fun r h => ⟨fun c => (h c).2.2.2,
    Idealize.ShloMosaic.sem_eq_zero_of_no_sems (by decide) r.2⟩) (Cert.RopeReferenceIdeal.Value.run (F := Ideal) m ρ),
  trivial,
  algebraic,
  trivial,
  algebraic_dw_ffn_in,
  trivial,
  algebraic_dw_ffn_out,
  trivial,
  algebraic_d_u2,
  trivial,
  algebraic_ffn_out,
  trivial,
  algebraic_dw_out,
  trivial,
  algebraic_dw_branch_mla,
  trivial,
  algebraic_dw_q_up,
  trivial,
  algebraic_dw_kv_up,
  trivial,
  algebraic_dw_in_hgrn,
  trivial,
  algebraic_dw_in_gates,
  trivial,
  algebraic_dw_in_krope,
  trivial,
  algebraic_d_qn,
  trivial,
  algebraic_d_kvn,
  trivial,
  algebraic_d_u1_lat,
  trivial,
  algebraic_d_u1_hgrn,
  trivial,
  algebraic_d_u1_gates,
  trivial,
  algebraic_d_u1_krope,
  trivial,
  algebraic_merge,
  trivial,
  algebraic_project,
  trivial,
  algebraic_q_up,
  trivial,
  algebraic_norm_q,
  preserves_attn,
  algebraic_attn,
  trivial,
  algebraic_delta,
  trivial,
  algebraic_pair_sum,
  trivial,
  algebraic_chip_sum,
  trivial,
  algebraic_embed,
  trivial,
  algebraic_rope⟩

end Cert.Proof

end
